-- ==== Defs.lean ====
def Pre_Kernel [hPre_in_pack_Kernel : Cert.Pre_in_pack_Kernel.Facts] (m : (ℓ : Loc Cert.Kernel.nD Cert.Kernel.τ Cert.Kernel.sig) → Buf (Elt Bits) ℓ) : Prop :=
  ∀ c : Dev Cert.Kernel.nD,
    (Cert.Pre_in_pack_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_pack_Kernel : Cert.Pre_in_pack_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_in_pack_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_pack_ReferenceIdeal [hPre_in_pack_ReferenceIdeal : Cert.Pre_in_pack_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_pack_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Combine [hPre_in_pack_Kernel : Cert.Pre_in_pack_Kernel.Facts] (m : (ℓ : Loc Cert.Combine.nD Cert.Combine.τ Cert.Combine.sig) → Buf (Elt Bits) ℓ) : Prop :=
  ∀ c : Dev Cert.Combine.nD,
    (Cert.Pre_in_pack_Kernel.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_in_pack_Kernel : Cert.Pre_in_pack_Kernel.Facts] (m : (ℓ : Loc Cert.CombineIdeal.nD Cert.CombineIdeal.τ Cert.CombineIdeal.sig) → Buf (Elt Ideal) ℓ) : Prop :=
  ∀ c : Dev Cert.CombineIdeal.nD,
    (Cert.Pre_in_pack_Kernel.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_Routes (m : (ℓ : Loc Cert.Routes.nD Cert.Routes.τ Cert.Routes.sig) → Buf (Elt Bits) ℓ) : Prop :=
  True

def Pre_RoutesIdeal (m : (ℓ : Loc Cert.RoutesIdeal.nD Cert.RoutesIdeal.τ Cert.RoutesIdeal.sig) → Buf (Elt Ideal) ℓ) : Prop :=
  True

def Pre_EveryoneIdeal (m : (ℓ : Loc Cert.EveryoneIdeal.nD Cert.EveryoneIdeal.τ Cert.EveryoneIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ProductIdeal (m : (ℓ : Loc Cert.ProductIdeal.nD Cert.ProductIdeal.τ Cert.ProductIdeal.sig) → Buf (Elt Ideal) ℓ) : Prop :=
  True

def Pre_Gather [hPre_in_rows : Cert.Pre_in_rows.Facts] (m : (ℓ : Loc Cert.Gather.nD Cert.Gather.τ Cert.Gather.sig) → Buf (Elt Bits) ℓ) : Prop :=
  ∀ c : Dev Cert.Gather.nD,
    (Cert.Pre_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_rows : Cert.Pre_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_PickedIdeal (m : (ℓ : Loc Cert.PickedIdeal.nD Cert.PickedIdeal.τ Cert.PickedIdeal.sig) → Buf (Elt Ideal) ℓ) : Prop :=
  True

def Pre_PickedIdeal_in_rows [hPre_in_rows : Cert.Pre_in_rows.Facts] (m : (ℓ : Loc Cert.PickedIdeal.nD Cert.PickedIdeal.τ Cert.PickedIdeal.sig) → Buf (Elt Ideal) ℓ) : Prop :=
  ∀ c : Dev Cert.PickedIdeal.nD,
    (Cert.Pre_in_rows.fn (F := Ideal) (m ((c.tc : Thread Cert.PickedIdeal.nD Cert.PickedIdeal.τ).loc Cert.PickedIdeal.main_arg0)) (m ((c.tc : Thread Cert.PickedIdeal.nD Cert.PickedIdeal.τ).loc Cert.PickedIdeal.main_arg1))) = (fun _ => 1#1)

def Pre_Scatter [hPre_in_packed : Cert.Pre_in_packed.Facts] (m : (ℓ : Loc Cert.Scatter.nD Cert.Scatter.τ Cert.Scatter.sig) → Buf (Elt Bits) ℓ) : Prop :=
  ∀ c : Dev Cert.Scatter.nD,
    (Cert.Pre_in_packed.fn (F := Bits) (m ((c.tc : Thread Cert.Scatter.nD Cert.Scatter.τ).loc Cert.Scatter.main_arg0)) (m ((c.tc : Thread Cert.Scatter.nD Cert.Scatter.τ).loc Cert.Scatter.main_arg1))) = (fun _ => 1#1)

def Pre_ScatterIdeal [hPre_in_packed : Cert.Pre_in_packed.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_in_packed.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1))) = (fun _ => 1#1)

def Pre_PlacedIdeal (m : (ℓ : Loc Cert.PlacedIdeal.nD Cert.PlacedIdeal.τ Cert.PlacedIdeal.sig) → Buf (Elt Ideal) ℓ) : Prop :=
  True

def Pre_PlacedIdeal_in_packed [hPre_in_packed : Cert.Pre_in_packed.Facts] (m : (ℓ : Loc Cert.PlacedIdeal.nD Cert.PlacedIdeal.τ Cert.PlacedIdeal.sig) → Buf (Elt Ideal) ℓ) : Prop :=
  ∀ c : Dev Cert.PlacedIdeal.nD,
    (Cert.Pre_in_packed.fn (F := Ideal) (m ((c.tc : Thread Cert.PlacedIdeal.nD Cert.PlacedIdeal.τ).loc Cert.PlacedIdeal.main_arg0)) (m ((c.tc : Thread Cert.PlacedIdeal.nD Cert.PlacedIdeal.τ).loc Cert.PlacedIdeal.main_arg1))) = (fun _ => 1#1)

def quiescent_Kernel [hKernel : Cert.Kernel.Facts] [hPre_in_pack_Kernel : Cert.Pre_in_pack_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_pack_Kernel : Cert.Pre_in_pack_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_pack_ReferenceIdeal [hReferenceIdeal : Cert.ReferenceIdeal.Facts] [hPre_in_pack_ReferenceIdeal : Cert.Pre_in_pack_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_pack_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Combine [hCombine : Cert.Combine.Facts] [hPre_in_pack_Kernel : Cert.Pre_in_pack_Kernel.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_in_pack_Kernel : Cert.Pre_in_pack_Kernel.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_Routes [hRoutes : Cert.Routes.Facts] : Prop :=
  ∀ (m : (ℓ : Loc Cert.Routes.nD Cert.Routes.τ Cert.Routes.sig) → Buf (Elt Bits) ℓ) (g : Dev Cert.Routes.nD → PrngReg), Pre_Routes m →
    θ_run (Cert.Routes.defs (F := Bits)) (onTc (τ := Cert.Routes.τ) (Cert.Routes.main (F := Bits))) ⟨m, fun _ => 0, g⟩ (fun r => (∀ c : Dev Cert.Routes.nD,
      r.2.mem ((c.tc : Thread Cert.Routes.nD Cert.Routes.τ).loc Cert.Routes.main_arg0) = m ((c.tc : Thread Cert.Routes.nD Cert.Routes.τ).loc Cert.Routes.main_arg0))
      ∧ r.2.sem = fun _ => 0)

def quiescent_RoutesIdeal [hRoutesIdeal : Cert.RoutesIdeal.Facts] : Prop :=
  ∀ (m : (ℓ : Loc Cert.RoutesIdeal.nD Cert.RoutesIdeal.τ Cert.RoutesIdeal.sig) → Buf (Elt Ideal) ℓ) (g : Dev Cert.RoutesIdeal.nD → PrngReg), Pre_RoutesIdeal m →
    θ_run (Cert.RoutesIdeal.defs (F := Ideal)) (onTc (τ := Cert.RoutesIdeal.τ) (Cert.RoutesIdeal.main (F := Ideal))) ⟨m, fun _ => 0, g⟩ (fun r => (∀ c : Dev Cert.RoutesIdeal.nD,
      r.2.mem ((c.tc : Thread Cert.RoutesIdeal.nD Cert.RoutesIdeal.τ).loc Cert.RoutesIdeal.main_arg0) = m ((c.tc : Thread Cert.RoutesIdeal.nD Cert.RoutesIdeal.τ).loc Cert.RoutesIdeal.main_arg0))
      ∧ r.2.sem = fun _ => 0)

def quiescent_EveryoneIdeal [hEveryoneIdeal : Cert.EveryoneIdeal.Facts] : Prop :=
  ∀ (m : (ℓ : Loc Cert.EveryoneIdeal.nD Cert.EveryoneIdeal.τ Cert.EveryoneIdeal.sig) → Buf (Elt Ideal) ℓ) (g : Dev Cert.EveryoneIdeal.nD → PrngReg), Pre_EveryoneIdeal m →
    θ_run (Cert.EveryoneIdeal.defs (F := Ideal)) (onTc (τ := Cert.EveryoneIdeal.τ) (Cert.EveryoneIdeal.main (F := Ideal))) ⟨m, fun _ => 0, g⟩ (fun r => (∀ c : Dev Cert.EveryoneIdeal.nD,
      r.2.mem ((c.tc : Thread Cert.EveryoneIdeal.nD Cert.EveryoneIdeal.τ).loc Cert.EveryoneIdeal.main_arg0) = m ((c.tc : Thread Cert.EveryoneIdeal.nD Cert.EveryoneIdeal.τ).loc Cert.EveryoneIdeal.main_arg0))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1))
      ∧ r.2.sem = fun _ => 0)

def quiescent_Gather [hGather : Cert.Gather.Facts] [hPre_in_rows : Cert.Pre_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_rows : Cert.Pre_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_PickedIdeal [hPickedIdeal : Cert.PickedIdeal.Facts] : Prop :=
  ∀ (m : (ℓ : Loc Cert.PickedIdeal.nD Cert.PickedIdeal.τ Cert.PickedIdeal.sig) → Buf (Elt Ideal) ℓ) (g : Dev Cert.PickedIdeal.nD → PrngReg), Pre_PickedIdeal m →
    θ_run (Cert.PickedIdeal.defs (F := Ideal)) (onTc (τ := Cert.PickedIdeal.τ) (Cert.PickedIdeal.main (F := Ideal))) ⟨m, fun _ => 0, g⟩ (fun r => (∀ c : Dev Cert.PickedIdeal.nD,
      r.2.mem ((c.tc : Thread Cert.PickedIdeal.nD Cert.PickedIdeal.τ).loc Cert.PickedIdeal.main_arg0) = m ((c.tc : Thread Cert.PickedIdeal.nD Cert.PickedIdeal.τ).loc Cert.PickedIdeal.main_arg0)
      ∧ r.2.mem ((c.tc : Thread Cert.PickedIdeal.nD Cert.PickedIdeal.τ).loc Cert.PickedIdeal.main_arg1) = m ((c.tc : Thread Cert.PickedIdeal.nD Cert.PickedIdeal.τ).loc Cert.PickedIdeal.main_arg1))
      ∧ r.2.sem = fun _ => 0)

def quiescent_PickedIdeal_pre_in_rows [hPickedIdeal : Cert.PickedIdeal.Facts] [hPre_in_rows : Cert.Pre_in_rows.Facts] : Prop :=
  ∀ (m : (ℓ : Loc Cert.PickedIdeal.nD Cert.PickedIdeal.τ Cert.PickedIdeal.sig) → Buf (Elt Ideal) ℓ) (g : Dev Cert.PickedIdeal.nD → PrngReg), Pre_PickedIdeal_in_rows m →
    θ_run (Cert.PickedIdeal.defs (F := Ideal)) (onTc (τ := Cert.PickedIdeal.τ) (Cert.PickedIdeal.main (F := Ideal))) ⟨m, fun _ => 0, g⟩ (fun r => (∀ c : Dev Cert.PickedIdeal.nD,
      r.2.mem ((c.tc : Thread Cert.PickedIdeal.nD Cert.PickedIdeal.τ).loc Cert.PickedIdeal.main_arg0) = m ((c.tc : Thread Cert.PickedIdeal.nD Cert.PickedIdeal.τ).loc Cert.PickedIdeal.main_arg0)
      ∧ r.2.mem ((c.tc : Thread Cert.PickedIdeal.nD Cert.PickedIdeal.τ).loc Cert.PickedIdeal.main_arg1) = m ((c.tc : Thread Cert.PickedIdeal.nD Cert.PickedIdeal.τ).loc Cert.PickedIdeal.main_arg1))
      ∧ r.2.sem = fun _ => 0)

def quiescent_Scatter [hScatter : Cert.Scatter.Facts] [hPre_in_packed : Cert.Pre_in_packed.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ScatterIdeal [hScatterIdeal : Cert.ScatterIdeal.Facts] [hPre_in_packed : Cert.Pre_in_packed.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0)

def quiescent_PlacedIdeal [hPlacedIdeal : Cert.PlacedIdeal.Facts] : Prop :=
  ∀ (m : (ℓ : Loc Cert.PlacedIdeal.nD Cert.PlacedIdeal.τ Cert.PlacedIdeal.sig) → Buf (Elt Ideal) ℓ) (g : Dev Cert.PlacedIdeal.nD → PrngReg), Pre_PlacedIdeal m →
    θ_run (Cert.PlacedIdeal.defs (F := Ideal)) (onTc (τ := Cert.PlacedIdeal.τ) (Cert.PlacedIdeal.main (F := Ideal))) ⟨m, fun _ => 0, g⟩ (fun r => (∀ c : Dev Cert.PlacedIdeal.nD,
      r.2.mem ((c.tc : Thread Cert.PlacedIdeal.nD Cert.PlacedIdeal.τ).loc Cert.PlacedIdeal.main_arg0) = m ((c.tc : Thread Cert.PlacedIdeal.nD Cert.PlacedIdeal.τ).loc Cert.PlacedIdeal.main_arg0)
      ∧ r.2.mem ((c.tc : Thread Cert.PlacedIdeal.nD Cert.PlacedIdeal.τ).loc Cert.PlacedIdeal.main_arg1) = m ((c.tc : Thread Cert.PlacedIdeal.nD Cert.PlacedIdeal.τ).loc Cert.PlacedIdeal.main_arg1))
      ∧ r.2.sem = fun _ => 0)

def quiescent_PlacedIdeal_pre_in_packed [hPlacedIdeal : Cert.PlacedIdeal.Facts] [hPre_in_packed : Cert.Pre_in_packed.Facts] : Prop :=
  ∀ (m : (ℓ : Loc Cert.PlacedIdeal.nD Cert.PlacedIdeal.τ Cert.PlacedIdeal.sig) → Buf (Elt Ideal) ℓ) (g : Dev Cert.PlacedIdeal.nD → PrngReg), Pre_PlacedIdeal_in_packed m →
    θ_run (Cert.PlacedIdeal.defs (F := Ideal)) (onTc (τ := Cert.PlacedIdeal.τ) (Cert.PlacedIdeal.main (F := Ideal))) ⟨m, fun _ => 0, g⟩ (fun r => (∀ c : Dev Cert.PlacedIdeal.nD,
      r.2.mem ((c.tc : Thread Cert.PlacedIdeal.nD Cert.PlacedIdeal.τ).loc Cert.PlacedIdeal.main_arg0) = m ((c.tc : Thread Cert.PlacedIdeal.nD Cert.PlacedIdeal.τ).loc Cert.PlacedIdeal.main_arg0)
      ∧ r.2.mem ((c.tc : Thread Cert.PlacedIdeal.nD Cert.PlacedIdeal.τ).loc Cert.PlacedIdeal.main_arg1) = m ((c.tc : Thread Cert.PlacedIdeal.nD Cert.PlacedIdeal.τ).loc Cert.PlacedIdeal.main_arg1))
      ∧ r.2.sem = fun _ => 0)

def preserves_Kernel_KernelIdeal : Prop :=
  True

def algebraic_KernelIdeal_ReferenceIdeal_on_landed [hKernelIdeal : Cert.KernelIdeal.Facts] [hReferenceIdeal : Cert.ReferenceIdeal.Facts] [hPre_in_pack_Kernel : Cert.Pre_in_pack_Kernel.Facts] [hOn_landed : Cert.On_landed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1, 8]⟩ ⟨2, ![8, 8]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1, 8]⟩ ⟨2, ![8, 8]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2432, 8, 128]⟩ ⟨3, ![19456, 8, 128]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 384, 8, 128]⟩ : Shape).Idx, (Layout.block ⟨4, ![8, 384, 8, 128]⟩ ⟨4, ![64, 384, 8, 128]⟩ 0 8 c ((Cert.On_landed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)))) : (⟨4, ![8, 384, 8, 128]⟩ : Shape).Idx → _) i = 1#1 → r.2.mem ((c.tc : Thread Cert.KernelIdeal.nD Cert.KernelIdeal.τ).loc Cert.KernelIdeal.main_v6) i = (Layout.block ⟨4, ![8, 384, 8, 128]⟩ ⟨4, ![64, 384, 8, 128]⟩ 0 8 c v0 : (⟨4, ![8, 384, 8, 128]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨4, ![64, 384, 8, 128]⟩ : Shape).Idx, (Cert.On_landed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))) i = 1#1 → r.2.mem (((0 : Dev Cert.ReferenceIdeal.nD).tc : Thread Cert.ReferenceIdeal.nD Cert.ReferenceIdeal.τ).loc Cert.ReferenceIdeal.main_v25) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def preserves_Combine_CombineIdeal : Prop :=
  True

def algebraic_CombineIdeal_ReferenceIdeal_on_landed [hCombineIdeal : Cert.CombineIdeal.Facts] [hReferenceIdeal : Cert.ReferenceIdeal.Facts] [hPre_in_pack_Kernel : Cert.Pre_in_pack_Kernel.Facts] [hOn_landed : Cert.On_landed.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_CombineIdeal m →
    (∀ c : Dev Cert.CombineIdeal.nD,
      m ((c.tc : Thread Cert.CombineIdeal.nD Cert.CombineIdeal.τ).loc Cert.CombineIdeal.main_arg0) = Layout.block ⟨2, ![1, 8]⟩ ⟨2, ![8, 8]⟩ 0 8 c (m' (((0 : Dev Cert.ReferenceIdeal.nD).tc : Thread Cert.ReferenceIdeal.nD Cert.ReferenceIdeal.τ).loc Cert.ReferenceIdeal.main_arg0))
      ∧ m ((c.tc : Thread Cert.CombineIdeal.nD Cert.CombineIdeal.τ).loc Cert.CombineIdeal.main_arg1) = Layout.block ⟨2, ![1, 8]⟩ ⟨2, ![8, 8]⟩ 0 8 c (m' (((0 : Dev Cert.ReferenceIdeal.nD).tc : Thread Cert.ReferenceIdeal.nD Cert.ReferenceIdeal.τ).loc Cert.ReferenceIdeal.main_arg1))
      ∧ m ((c.tc : Thread Cert.CombineIdeal.nD Cert.CombineIdeal.τ).loc Cert.CombineIdeal.main_arg2) = Layout.block ⟨3, ![2432, 8, 128]⟩ ⟨3, ![19456, 8, 128]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v25)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          (∀ i : (⟨4, ![8, 384, 8, 128]⟩ : Shape).Idx, (Layout.block ⟨4, ![8, 384, 8, 128]⟩ ⟨4, ![64, 384, 8, 128]⟩ 0 8 c ((Cert.On_landed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)))) : (⟨4, ![8, 384, 8, 128]⟩ : Shape).Idx → _) i = 1#1 → r.2.mem ((c.tc : Thread Cert.CombineIdeal.nD Cert.CombineIdeal.τ).loc Cert.CombineIdeal.main_v6) i = (Layout.block ⟨4, ![8, 384, 8, 128]⟩ ⟨4, ![64, 384, 8, 128]⟩ 0 8 c v0 : (⟨4, ![8, 384, 8, 128]⟩ : Shape).Idx → _) i)
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨4, ![64, 384, 8, 128]⟩ : Shape).Idx, (Cert.On_landed.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2))) i = 1#1 → r.2.mem (((0 : Dev Cert.ReferenceIdeal.nD).tc : Thread Cert.ReferenceIdeal.nD Cert.ReferenceIdeal.τ).loc Cert.ReferenceIdeal.main_v25) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def preserves_Routes_RoutesIdeal : Prop :=
  True

def algebraic_RoutesIdeal_EveryoneIdeal [hRoutesIdeal : Cert.RoutesIdeal.Facts] [hEveryoneIdeal : Cert.EveryoneIdeal.Facts] : Prop :=
  ∀ (m : (ℓ : Loc Cert.RoutesIdeal.nD Cert.RoutesIdeal.τ Cert.RoutesIdeal.sig) → Buf (Elt Ideal) ℓ) (g : Dev Cert.RoutesIdeal.nD → PrngReg)
    (m' : (ℓ : Loc Cert.EveryoneIdeal.nD Cert.EveryoneIdeal.τ Cert.EveryoneIdeal.sig) → Buf (Elt Ideal) ℓ) (g' : Dev Cert.EveryoneIdeal.nD → PrngReg), Pre_RoutesIdeal m →
    (∀ c : Dev Cert.RoutesIdeal.nD,
      m ((c.tc : Thread Cert.RoutesIdeal.nD Cert.RoutesIdeal.τ).loc Cert.RoutesIdeal.main_arg0) = Layout.block ⟨3, ![2, 8, 128]⟩ ⟨3, ![16, 8, 128]⟩ 0 8 c (m' (((0 : Dev Cert.EveryoneIdeal.nD).tc : Thread Cert.EveryoneIdeal.nD Cert.EveryoneIdeal.τ).loc Cert.EveryoneIdeal.main_arg0))) →
    ∃ (v0 : Buf (Elt Ideal) (((0 : Dev Cert.EveryoneIdeal.nD).tc : Thread Cert.EveryoneIdeal.nD Cert.EveryoneIdeal.τ).loc Cert.EveryoneIdeal.main_v0)),
      θ_run (Cert.RoutesIdeal.defs (F := Ideal)) (onTc (τ := Cert.RoutesIdeal.τ) (Cert.RoutesIdeal.main (F := Ideal))) ⟨m, fun _ => 0, g⟩ (fun r => ∀ c : Dev Cert.RoutesIdeal.nD,
          r.2.mem ((c.tc : Thread Cert.RoutesIdeal.nD Cert.RoutesIdeal.τ).loc Cert.RoutesIdeal.main_v3) = v0
          ∧ r.2.mem ((c.tc : Thread Cert.RoutesIdeal.nD Cert.RoutesIdeal.τ).loc Cert.RoutesIdeal.main_arg0) = m ((c.tc : Thread Cert.RoutesIdeal.nD Cert.RoutesIdeal.τ).loc Cert.RoutesIdeal.main_arg0))
      ∧ θ_run (Cert.EveryoneIdeal.defs (F := Ideal)) (onTc (τ := Cert.EveryoneIdeal.τ) (Cert.EveryoneIdeal.main (F := Ideal))) ⟨m', fun _ => 0, g'⟩ (fun r =>
          r.2.mem (((0 : Dev Cert.EveryoneIdeal.nD).tc : Thread Cert.EveryoneIdeal.nD Cert.EveryoneIdeal.τ).loc Cert.EveryoneIdeal.main_v0) = v0
          ∧ r.2.mem (((0 : Dev Cert.EveryoneIdeal.nD).tc : Thread Cert.EveryoneIdeal.nD Cert.EveryoneIdeal.τ).loc Cert.EveryoneIdeal.main_arg0) = m' (((0 : Dev Cert.EveryoneIdeal.nD).tc : Thread Cert.EveryoneIdeal.nD Cert.EveryoneIdeal.τ).loc Cert.EveryoneIdeal.main_arg0))

def preserves_Experts_ExpertsIdeal : Prop :=
  True

def algebraic_ExpertsIdeal_ProductIdeal [hExpertsIdeal : Cert.ExpertsIdeal.Facts] [hProductIdeal : Cert.ProductIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ProductIdeal.nD Cert.ProductIdeal.τ Cert.ProductIdeal.sig) → Buf (Elt Ideal) ℓ) (g' : Dev Cert.ProductIdeal.nD → PrngReg), Pre_ExpertsIdeal m →
    (∀ c : Dev Cert.ExpertsIdeal.nD,
      m' ((c.tc : Thread Cert.ProductIdeal.nD Cert.ProductIdeal.τ).loc Cert.ProductIdeal.main_arg0) = m ((c.tc : Thread Cert.ExpertsIdeal.nD Cert.ExpertsIdeal.τ).loc Cert.ExpertsIdeal.main_arg0)
      ∧ m' ((c.tc : Thread Cert.ProductIdeal.nD Cert.ProductIdeal.τ).loc Cert.ProductIdeal.main_arg1) = m ((c.tc : Thread Cert.ExpertsIdeal.nD Cert.ExpertsIdeal.τ).loc Cert.ExpertsIdeal.main_arg1)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1))
      ∧ θ_run (Cert.ProductIdeal.defs (F := Ideal)) (onTc (τ := Cert.ProductIdeal.τ) (Cert.ProductIdeal.main (F := Ideal))) ⟨m', fun _ => 0, g'⟩ (fun r => ∀ c : Dev Cert.ProductIdeal.nD,
          r.2.mem ((c.tc : Thread Cert.ProductIdeal.nD Cert.ProductIdeal.τ).loc Cert.ProductIdeal.main_v2) = v0 c
          ∧ r.2.mem ((c.tc : Thread Cert.ProductIdeal.nD Cert.ProductIdeal.τ).loc Cert.ProductIdeal.main_arg0) = m' ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m' ((c.tc : Thread Cert.ProductIdeal.nD Cert.ProductIdeal.τ).loc Cert.ProductIdeal.main_arg1))

def preserves_Gather_GatherIdeal : Prop :=
  True

def algebraic_GatherIdeal_PickedIdeal [hGatherIdeal : Cert.GatherIdeal.Facts] [hPickedIdeal : Cert.PickedIdeal.Facts] [hPre_in_rows : Cert.Pre_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.PickedIdeal.nD Cert.PickedIdeal.τ Cert.PickedIdeal.sig) → Buf (Elt Ideal) ℓ) (g' : Dev Cert.PickedIdeal.nD → PrngReg), Pre_GatherIdeal m →
    (∀ c : Dev Cert.GatherIdeal.nD,
      m' ((c.tc : Thread Cert.PickedIdeal.nD Cert.PickedIdeal.τ).loc Cert.PickedIdeal.main_arg0) = m ((c.tc : Thread Cert.GatherIdeal.nD Cert.GatherIdeal.τ).loc Cert.GatherIdeal.main_arg0)
      ∧ m' ((c.tc : Thread Cert.PickedIdeal.nD Cert.PickedIdeal.τ).loc Cert.PickedIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.PickedIdeal.defs (F := Ideal)) (onTc (τ := Cert.PickedIdeal.τ) (Cert.PickedIdeal.main (F := Ideal))) ⟨m', fun _ => 0, g'⟩ (fun r => ∀ c : Dev Cert.PickedIdeal.nD,
          r.2.mem ((c.tc : Thread Cert.PickedIdeal.nD Cert.PickedIdeal.τ).loc Cert.PickedIdeal.main_v6) = v0 c
          ∧ r.2.mem ((c.tc : Thread Cert.PickedIdeal.nD Cert.PickedIdeal.τ).loc Cert.PickedIdeal.main_arg0) = m' ((c.tc : Thread Cert.PickedIdeal.nD Cert.PickedIdeal.τ).loc Cert.PickedIdeal.main_arg0)
          ∧ r.2.mem ((c.tc : Thread Cert.PickedIdeal.nD Cert.PickedIdeal.τ).loc Cert.PickedIdeal.main_arg1) = m' ((c.tc : Thread Cert.PickedIdeal.nD Cert.PickedIdeal.τ).loc Cert.PickedIdeal.main_arg1))

def preserves_Scatter_ScatterIdeal : Prop :=
  True

def algebraic_ScatterIdeal_PlacedIdeal_on_written [hScatterIdeal : Cert.ScatterIdeal.Facts] [hPlacedIdeal : Cert.PlacedIdeal.Facts] [hPre_in_packed : Cert.Pre_in_packed.Facts] [hOn_written : Cert.On_written.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.PlacedIdeal.nD Cert.PlacedIdeal.τ Cert.PlacedIdeal.sig) → Buf (Elt Ideal) ℓ) (g' : Dev Cert.PlacedIdeal.nD → PrngReg), Pre_ScatterIdeal m →
    (∀ c : Dev Cert.ScatterIdeal.nD,
      m' ((c.tc : Thread Cert.PlacedIdeal.nD Cert.PlacedIdeal.τ).loc Cert.PlacedIdeal.main_arg0) = m ((c.tc : Thread Cert.ScatterIdeal.nD Cert.ScatterIdeal.τ).loc Cert.ScatterIdeal.main_arg0)
      ∧ m' ((c.tc : Thread Cert.PlacedIdeal.nD Cert.PlacedIdeal.τ).loc Cert.PlacedIdeal.main_arg1) = m ((c.tc : Thread Cert.ScatterIdeal.nD Cert.ScatterIdeal.τ).loc Cert.ScatterIdeal.main_arg1)) →
    ∃ (v0 : (c : Dev Cert.ScatterIdeal.nD) → Buf (Elt Ideal) ((c.tc : Thread Cert.ScatterIdeal.nD Cert.ScatterIdeal.τ).loc Cert.ScatterIdeal.main_v0)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          (∀ i : (⟨3, ![2432, 8, 128]⟩ : Shape).Idx, (Cert.On_written.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1))) i = 1#1 → r.2.mem ((c.tc : Thread Cert.ScatterIdeal.nD Cert.ScatterIdeal.τ).loc Cert.ScatterIdeal.main_v0) i = v0 c i)
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ θ_run (Cert.PlacedIdeal.defs (F := Ideal)) (onTc (τ := Cert.PlacedIdeal.τ) (Cert.PlacedIdeal.main (F := Ideal))) ⟨m', fun _ => 0, g'⟩ (fun r => ∀ c : Dev Cert.PlacedIdeal.nD,
          (∀ i : (⟨3, ![2432, 8, 128]⟩ : Shape).Idx, (Cert.On_written.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1))) i = 1#1 → r.2.mem ((c.tc : Thread Cert.PlacedIdeal.nD Cert.PlacedIdeal.τ).loc Cert.PlacedIdeal.main_v20) i = v0 c i)
          ∧ r.2.mem ((c.tc : Thread Cert.PlacedIdeal.nD Cert.PlacedIdeal.τ).loc Cert.PlacedIdeal.main_arg0) = m' ((c.tc : Thread Cert.PlacedIdeal.nD Cert.PlacedIdeal.τ).loc Cert.PlacedIdeal.main_arg0)
          ∧ r.2.mem ((c.tc : Thread Cert.PlacedIdeal.nD Cert.PlacedIdeal.τ).loc Cert.PlacedIdeal.main_arg1) = m' ((c.tc : Thread Cert.PlacedIdeal.nD Cert.PlacedIdeal.τ).loc Cert.PlacedIdeal.main_arg1))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hRoutes : Cert.Routes.Facts) (hRoutesIdeal : Cert.RoutesIdeal.Facts) (hEveryoneIdeal : Cert.EveryoneIdeal.Facts) (hExperts : Cert.Experts.Facts) (hExpertsIdeal : Cert.ExpertsIdeal.Facts) (hProductIdeal : Cert.ProductIdeal.Facts) (hGather : Cert.Gather.Facts) (hGatherIdeal : Cert.GatherIdeal.Facts) (hPickedIdeal : Cert.PickedIdeal.Facts) (hScatter : Cert.Scatter.Facts) (hScatterIdeal : Cert.ScatterIdeal.Facts) (hPlacedIdeal : Cert.PlacedIdeal.Facts) (hPre_in_pack_Kernel : Cert.Pre_in_pack_Kernel.Facts) (hPre_in_pack_ReferenceIdeal : Cert.Pre_in_pack_ReferenceIdeal.Facts) (hPre_in_rows : Cert.Pre_in_rows.Facts) (hPre_in_packed : Cert.Pre_in_packed.Facts) (hOn_landed : Cert.On_landed.Facts) (hOn_written : Cert.On_written.Facts),
    quiescent_Kernel (hKernel := hKernel) (hPre_in_pack_Kernel := hPre_in_pack_Kernel)
    ∧ quiescent_KernelIdeal (hKernelIdeal := hKernelIdeal) (hPre_in_pack_Kernel := hPre_in_pack_Kernel)
    ∧ quiescent_ReferenceIdeal (hReferenceIdeal := hReferenceIdeal)
    ∧ quiescent_ReferenceIdeal_pre_in_pack_ReferenceIdeal (hReferenceIdeal := hReferenceIdeal) (hPre_in_pack_ReferenceIdeal := hPre_in_pack_ReferenceIdeal)
    ∧ quiescent_Combine (hCombine := hCombine) (hPre_in_pack_Kernel := hPre_in_pack_Kernel)
    ∧ quiescent_CombineIdeal (hCombineIdeal := hCombineIdeal) (hPre_in_pack_Kernel := hPre_in_pack_Kernel)
    ∧ quiescent_Routes (hRoutes := hRoutes)
    ∧ quiescent_RoutesIdeal (hRoutesIdeal := hRoutesIdeal)
    ∧ quiescent_EveryoneIdeal (hEveryoneIdeal := hEveryoneIdeal)
    ∧ quiescent_Experts (hExperts := hExperts)
    ∧ quiescent_ExpertsIdeal (hExpertsIdeal := hExpertsIdeal)
    ∧ quiescent_ProductIdeal (hProductIdeal := hProductIdeal)
    ∧ quiescent_Gather (hGather := hGather) (hPre_in_rows := hPre_in_rows)
    ∧ quiescent_GatherIdeal (hGatherIdeal := hGatherIdeal) (hPre_in_rows := hPre_in_rows)
    ∧ quiescent_PickedIdeal (hPickedIdeal := hPickedIdeal)
    ∧ quiescent_PickedIdeal_pre_in_rows (hPickedIdeal := hPickedIdeal) (hPre_in_rows := hPre_in_rows)
    ∧ quiescent_Scatter (hScatter := hScatter) (hPre_in_packed := hPre_in_packed)
    ∧ quiescent_ScatterIdeal (hScatterIdeal := hScatterIdeal) (hPre_in_packed := hPre_in_packed)
    ∧ quiescent_PlacedIdeal (hPlacedIdeal := hPlacedIdeal)
    ∧ quiescent_PlacedIdeal_pre_in_packed (hPlacedIdeal := hPlacedIdeal) (hPre_in_packed := hPre_in_packed)
    ∧ preserves_Kernel_KernelIdeal
    ∧ algebraic_KernelIdeal_ReferenceIdeal_on_landed (hKernelIdeal := hKernelIdeal) (hReferenceIdeal := hReferenceIdeal) (hPre_in_pack_Kernel := hPre_in_pack_Kernel) (hOn_landed := hOn_landed)
    ∧ preserves_Combine_CombineIdeal
    ∧ algebraic_CombineIdeal_ReferenceIdeal_on_landed (hCombineIdeal := hCombineIdeal) (hReferenceIdeal := hReferenceIdeal) (hPre_in_pack_Kernel := hPre_in_pack_Kernel) (hOn_landed := hOn_landed)
    ∧ preserves_Routes_RoutesIdeal
    ∧ algebraic_RoutesIdeal_EveryoneIdeal (hRoutesIdeal := hRoutesIdeal) (hEveryoneIdeal := hEveryoneIdeal)
    ∧ preserves_Experts_ExpertsIdeal
    ∧ algebraic_ExpertsIdeal_ProductIdeal (hExpertsIdeal := hExpertsIdeal) (hProductIdeal := hProductIdeal)
    ∧ preserves_Gather_GatherIdeal
    ∧ algebraic_GatherIdeal_PickedIdeal (hGatherIdeal := hGatherIdeal) (hPickedIdeal := hPickedIdeal) (hPre_in_rows := hPre_in_rows)
    ∧ preserves_Scatter_ScatterIdeal
    ∧ algebraic_ScatterIdeal_PlacedIdeal_on_written (hScatterIdeal := hScatterIdeal) (hPlacedIdeal := hPlacedIdeal) (hPre_in_packed := hPre_in_packed) (hOn_written := hOn_written)
-- ==== On_landed.lean ====
abbrev S8x8 : Shape := ⟨2, ![8, 8]⟩
abbrev S19456x8x128 : Shape := ⟨3, ![19456, 8, 128]⟩
abbrev S384 : Shape := ⟨1, ![384]⟩
abbrev S1x1x384 : Shape := ⟨3, ![1, 1, 384]⟩
abbrev S_ : Shape := ⟨0, ![]⟩
abbrev S8x8x1 : Shape := ⟨3, ![8, 8, 1]⟩
abbrev S8x8x384 : Shape := ⟨3, ![8, 8, 384]⟩
abbrev S64x384 : Shape := ⟨2, ![64, 384]⟩
abbrev S64x384x1x1 : Shape := ⟨4, ![64, 384, 1, 1]⟩
abbrev S64x384x8x128 : Shape := ⟨4, ![64, 384, 8, 128]⟩

class Facts : Prop where
  bcast_S384_S1x1x384_2 : S384.BroadcastsInDim S1x1x384 (![2] : Fin 1 → Fin S1x1x384.rank)
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  transposes_S8x8_S8x8_1_0 : S8x8.Transposes [1, 0] S8x8
  bcast_S1x1x384_S8x8x384_0_1_2 : S1x1x384.BroadcastsInDim S8x8x384 (![0, 1, 2] : Fin 3 → Fin S8x8x384.rank)
  bcast_S8x8x1_S8x8x384_0_1_2 : S8x8x1.BroadcastsInDim S8x8x384 (![0, 1, 2] : Fin 3 → Fin S8x8x384.rank)
  shapeCasts_S8x8x384_S64x384 : S8x8x384.ShapeCasts S64x384
  bcast_S64x384_S64x384x1x1_0_1 : S64x384.BroadcastsInDim S64x384x1x1 (![0, 1] : Fin 2 → Fin S64x384x1x1.rank)
  bcast_S64x384x1x1_S64x384x8x128_0_1_2_3 : S64x384x1x1.BroadcastsInDim S64x384x8x128 (![0, 1, 2, 3] : Fin 4 → Fin S64x384x8x128.rank)

variable [Facts]

def fn {F : FTy → Type} [FloatOps F] (main_arg0 : IVec S8x8 32) (main_arg1 : IVec S8x8 32) (main_arg2 : FVec F S19456x8x128 .f32) : IVec S64x384x8x128 1 :=
  let main_v0 : IVec S384 32 := iotaInDim S384 32 0
  let main_v1 : IVec S1x1x384 32 := broadcastInDim S1x1x384 ![2] bcast_S384_S1x1x384_2 main_v0
  let main_v2 : IVec S8x8 32 := iotaInDim S8x8 32 0
  let main_v3 : IVec S8x8 32 := iotaInDim S8x8 32 1
  let main_c : IVec S_ 32 := constantI S_ 32 0#32
  let main_v4 : IVec S8x8 32 := broadcastInDim S8x8 ![] bcast_S_S8x8 main_c
  let main_v5 : IVec S8x8 32 := addi main_v2 main_v4
  let main_v6 : IVec S8x8 1 := cmpi .eq main_v5 main_v3
  let main_v7 : IVec S8x8x1 1 := broadcastInDim S8x8x1 ![0, 1] bcast_S8x8_S8x8x1_0_1 main_v6
  let main_v8 : IVec S8x8 32 := (transpose S8x8 [1, 0] · transposes_S8x8_S8x8_1_0) main_arg1
  let main_v9 : IVec S8x8x1 32 := broadcastInDim S8x8x1 ![0, 1] bcast_S8x8_S8x8x1_0_1 main_v8
  let main_v10 : IVec S8x8x384 32 := broadcastInDim S8x8x384 ![0, 1, 2] bcast_S1x1x384_S8x8x384_0_1_2 main_v1
  let main_v11 : IVec S8x8x384 32 := broadcastInDim S8x8x384 ![0, 1, 2] bcast_S8x8x1_S8x8x384_0_1_2 main_v9
  let main_v12 : IVec S8x8x384 1 := cmpi .slt main_v10 main_v11
  let main_v13 : IVec S8x8x384 1 := broadcastInDim S8x8x384 ![0, 1, 2] bcast_S8x8x1_S8x8x384_0_1_2 main_v7
  let main_v14 : IVec S8x8x384 1 := ori main_v13 main_v12
  let main_v15 : IVec S64x384 1 := shapeCast S64x384 main_v14 shapeCasts_S8x8x384_S64x384
  let main_v16 : IVec S64x384x1x1 1 := broadcastInDim S64x384x1x1 ![0, 1] bcast_S64x384_S64x384x1x1_0_1 main_v15
  let main_v17 : IVec S64x384x8x128 1 := broadcastInDim S64x384x8x128 ![0, 1, 2, 3] bcast_S64x384x1x1_S64x384x8x128_0_1_2_3 main_v16
  main_v17
-- ==== On_written.lean ====
abbrev S2048x8x128 : Shape := ⟨3, ![2048, 8, 128]⟩
abbrev S2048 : Shape := ⟨1, ![2048]⟩
abbrev S1x2048 : Shape := ⟨2, ![1, 2048]⟩
abbrev S2432 : Shape := ⟨1, ![2432]⟩
abbrev S2432x1 : Shape := ⟨2, ![2432, 1]⟩
abbrev S2432x2048 : Shape := ⟨2, ![2432, 2048]⟩
abbrev S_ : Shape := ⟨0, ![]⟩
abbrev S2432x1x1 : Shape := ⟨3, ![2432, 1, 1]⟩
abbrev S2432x8x128 : Shape := ⟨3, ![2432, 8, 128]⟩

class Facts : Prop where
  bcast_S2048_S1x2048_1 : S2048.BroadcastsInDim S1x2048 (![1] : Fin 1 → Fin S1x2048.rank)
  bcast_S2432_S2432x1_0 : S2432.BroadcastsInDim S2432x1 (![0] : Fin 1 → Fin S2432x1.rank)
  bcast_S1x2048_S2432x2048_0_1 : S1x2048.BroadcastsInDim S2432x2048 (![0, 1] : Fin 2 → Fin S2432x2048.rank)
  bcast_S2432x1_S2432x2048_0_1 : S2432x1.BroadcastsInDim S2432x2048 (![0, 1] : Fin 2 → Fin S2432x2048.rank)
  bcast_S_S2432x2048 : S_.BroadcastsInDim S2432x2048 (![] : Fin 0 → Fin S2432x2048.rank)
  reducesTo_S2432x2048_S2432_d1 : S2432x2048.ReducesTo [1] S2432
  h_S_ : 0 < S_.numel
  bcast_S_S2432 : S_.BroadcastsInDim S2432 (![] : Fin 0 → Fin S2432.rank)
  bcast_S2432_S2432x1x1_0 : S2432.BroadcastsInDim S2432x1x1 (![0] : Fin 1 → Fin S2432x1x1.rank)
  bcast_S2432x1x1_S2432x8x128_0_1_2 : S2432x1x1.BroadcastsInDim S2432x8x128 (![0, 1, 2] : Fin 3 → Fin S2432x8x128.rank)

variable [Facts]

def fn_where {F : FTy → Type} [FloatOps F] (arg0 : IVec S2432x2048 1) (arg1 : IVec S1x2048 32) (arg2 : IVec S_ 32) : IVec S2432x2048 32 :=
  let v0 : IVec S_ 32 := id arg2
  let v1 : IVec S2432x2048 32 := broadcastInDim S2432x2048 ![0, 1] bcast_S1x2048_S2432x2048_0_1 arg1
  let v2 : IVec S2432x2048 32 := broadcastInDim S2432x2048 ![] bcast_S_S2432x2048 v0
  let v3 : IVec S2432x2048 32 := select arg0 v1 v2
  v3

def fn {F : FTy → Type} [FloatOps F] (main_arg0 : FVec F S2048x8x128 .f32) (main_arg1 : IVec S2048 32) : IVec S2432x8x128 1 :=
  let main_v0 : IVec S1x2048 32 := broadcastInDim S1x2048 ![1] bcast_S2048_S1x2048_1 main_arg1
  let main_v1 : IVec S2432 32 := iotaInDim S2432 32 0
  let main_v2 : IVec S2432x1 32 := broadcastInDim S2432x1 ![0] bcast_S2432_S2432x1_0 main_v1
  let main_v3 : IVec S2432x2048 32 := broadcastInDim S2432x2048 ![0, 1] bcast_S1x2048_S2432x2048_0_1 main_v0
  let main_v4 : IVec S2432x2048 32 := broadcastInDim S2432x2048 ![0, 1] bcast_S2432x1_S2432x2048_0_1 main_v2
  let main_v5 : IVec S2432x2048 1 := cmpi .eq main_v3 main_v4
  let main_v6 : IVec S2048 32 := iotaInDim S2048 32 0
  let main_v7 : IVec S1x2048 32 := broadcastInDim S1x2048 ![1] bcast_S2048_S1x2048_1 main_v6
  let main_c : IVec S_ 32 := constantI S_ 32 4294967295#32
  let main_v8 : IVec S2432x2048 32 := fn_where (F := F) main_v5 main_v7 main_c
  let main_c_0 : IVec S_ 32 := constantI S_ 32 2147483648#32
  let main_v9 : IVec S2432 32 := (fun x v => Host.reduce IntOp.maxsi x v reducesTo_S2432x2048_S2432_d1 h_S_) main_v8 main_c_0
  let main_c_1 : IVec S_ 32 := constantI S_ 32 0#32
  let main_v10 : IVec S2432 32 := broadcastInDim S2432 ![] bcast_S_S2432 main_c_1
  let main_v11 : IVec S2432 1 := cmpi .sge main_v9 main_v10
  let main_v12 : IVec S2432x1x1 1 := broadcastInDim S2432x1x1 ![0] bcast_S2432_S2432x1x1_0 main_v11
  let main_v13 : IVec S2432x8x128 1 := broadcastInDim S2432x8x128 ![0, 1, 2] bcast_S2432x1x1_S2432x8x128_0_1_2 main_v12
  main_v13
-- ==== Pre_in_pack_Kernel.lean ====
abbrev S1x8 : Shape := ⟨2, ![1, 8]⟩
abbrev S2432x8x128 : Shape := ⟨3, ![2432, 8, 128]⟩
abbrev S_ : Shape := ⟨0, ![]⟩

class Facts : Prop where
  bcast_S_S1x8 : S_.BroadcastsInDim S1x8 (![] : Fin 0 → Fin S1x8.rank)

variable [Facts]

def fn {F : FTy → Type} [FloatOps F] (main_arg0 : IVec S1x8 32) (main_arg1 : IVec S1x8 32) (main_arg2 : FVec F S2432x8x128 .f32) : IVec S1x8 1 :=
  let main_c : IVec S_ 32 := constantI S_ 32 0#32
  let main_v0 : IVec S1x8 32 := broadcastInDim S1x8 ![] bcast_S_S1x8 main_c
  let main_v1 : IVec S1x8 1 := cmpi .sge main_arg0 main_v0
  let main_c_0 : IVec S_ 32 := constantI S_ 32 2048#32
  let main_v2 : IVec S1x8 32 := broadcastInDim S1x8 ![] bcast_S_S1x8 main_c_0
  let main_v3 : IVec S1x8 1 := cmpi .sle main_arg0 main_v2
  let main_v4 : IVec S1x8 1 := andi main_v1 main_v3
  main_v4
-- ==== Pre_in_pack_ReferenceIdeal.lean ====
abbrev S8x8 : Shape := ⟨2, ![8, 8]⟩
abbrev S19456x8x128 : Shape := ⟨3, ![19456, 8, 128]⟩
abbrev S_ : Shape := ⟨0, ![]⟩

class Facts : Prop where
  bcast_S_S8x8 : S_.BroadcastsInDim S8x8 (![] : Fin 0 → Fin S8x8.rank)

variable [Facts]

def fn {F : FTy → Type} [FloatOps F] (main_arg0 : IVec S8x8 32) (main_arg1 : IVec S8x8 32) (main_arg2 : FVec F S19456x8x128 .f32) : IVec S8x8 1 :=
  let main_c : IVec S_ 32 := constantI S_ 32 0#32
  let main_v0 : IVec S8x8 32 := broadcastInDim S8x8 ![] bcast_S_S8x8 main_c
  let main_v1 : IVec S8x8 1 := cmpi .sge main_arg0 main_v0
  let main_c_0 : IVec S_ 32 := constantI S_ 32 2048#32
  let main_v2 : IVec S8x8 32 := broadcastInDim S8x8 ![] bcast_S_S8x8 main_c_0
  let main_v3 : IVec S8x8 1 := cmpi .sle main_arg0 main_v2
  let main_v4 : IVec S8x8 1 := andi main_v1 main_v3
  main_v4
-- ==== Pre_in_packed.lean ====
abbrev S2048x8x128 : Shape := ⟨3, ![2048, 8, 128]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S2048x8x128 .f32) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 2432#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Pre_in_rows.lean ====
abbrev S3072x8x128 : Shape := ⟨3, ![3072, 8, 128]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S3072x8x128 .f32) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 3072#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Kernel.lean ====
abbrev S1x8 : Shape := ⟨2, ![1, 8]⟩
abbrev S2432x8x128 : Shape := ⟨3, ![2432, 8, 128]⟩
abbrev S8 : Shape := ⟨1, ![8]⟩
abbrev S8x1 : Shape := ⟨2, ![8, 1]⟩
abbrev S1x1 : Shape := ⟨2, ![1, 1]⟩
abbrev S8x384x8x128 : Shape := ⟨4, ![8, 384, 8, 128]⟩
abbrev S8x3 : Shape := ⟨2, ![8, 3]⟩
abbrev S_ : Shape := ⟨0, ![]⟩
abbrev S1 : Shape := ⟨1, ![1]⟩
abbrev S384x8x128 : Shape := ⟨3, ![384, 8, 128]⟩
abbrev S1x384x8x128 : Shape := ⟨4, ![1, 384, 8, 128]⟩
abbrev S1x128x8x128 : Shape := ⟨4, ![1, 128, 8, 128]⟩
abbrev S128x8x128 : Shape := ⟨3, ![128, 8, 128]⟩

abbrev nBuf : Space → Nat
  | .hbm => 9
  | .vmem => 3
  | .smem => 3
  | _ => 0

abbrev bufTy : (tb : Table) → Fin (tcTables nBuf tb) → BufTy
  | .hbm, ⟨0, _⟩ => ⟨S1x8, .i32⟩
  | .hbm, ⟨1, _⟩ => ⟨S1x8, .i32⟩
  | .hbm, ⟨2, _⟩ => ⟨S2432x8x128, .f32⟩
  | .hbm, ⟨3, _⟩ => ⟨S8, .i32⟩
  | .hbm, ⟨4, _⟩ => ⟨S8x1, .i32⟩
  | .hbm, ⟨5, _⟩ => ⟨S8x1, .i32⟩
  | .hbm, ⟨6, _⟩ => ⟨S8, .i32⟩
  | .hbm, ⟨7, _⟩ => ⟨S8, .i32⟩
  | .hbm, ⟨8, _⟩ => ⟨S8x384x8x128, .f32⟩
  | .local _ .vmem, ⟨0, _⟩ => ⟨S1x1, .i32⟩
  | .local _ .vmem, ⟨1, _⟩ => ⟨S2432x8x128, .f32⟩
  | .local _ .vmem, ⟨2, _⟩ => ⟨S8x384x8x128, .f32⟩
  | .local _ .smem, ⟨0, _⟩ => ⟨S8, .i32⟩
  | .local _ .smem, ⟨1, _⟩ => ⟨S8, .i32⟩
  | .local _ .smem, ⟨2, _⟩ => ⟨S8, .i32⟩
  | _, _ => ⟨S1x8, .i32⟩

abbrev bufScoped : (cs : CoreSpace) → Fin (nBuf (.core cs)) → Bool
  | .vmem, ⟨1, _⟩ => true
  | .vmem, ⟨2, _⟩ => true
  | .smem, ⟨0, _⟩ => true
  | .smem, ⟨1, _⟩ => true
  | .smem, ⟨2, _⟩ => true
  | _, _ => false

abbrev semScoped : Fin 2 → Bool
  | ⟨0, _⟩ => false
  | ⟨1, _⟩ => false
  | _ => false

abbrev dmaSemScoped : Fin 56 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 2 56 bufScoped semScoped dmaSemScoped tileCredit tileCredit_eq_zero tileCredit_pos).withBarriers [(1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v3_stage : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev aa0_recv : DmaSem sig := 0
abbrev aa0_send : DmaSem sig := 1
abbrev aa0_copy : DmaSem sig := 2
abbrev cc0_sem0_0 : DmaSem sig := 3
abbrev cc0_sem1_0 : DmaSem sig := 4
abbrev cc0_sem2_0 : DmaSem sig := 5
abbrev cc0_sem3_0 : DmaSem sig := 6
abbrev cc0_sem4_0 : DmaSem sig := 7
abbrev aa0_barrier : Sem sig := 0
abbrev barrier1 : Sem sig := 1

abbrev nD : Nat := 8
abbrev τ : Topo := Topo.v7x

variable {F : FTy → Type} [FloatOps F]

abbrev aa0_mem : Fin 1 × Fin 8 → Dev nD := fun q => (![![0, 1, 2, 3, 4, 5, 6, 7]] : Fin 1 → Fin 8 → Dev nD) q.1 q.2
abbrev aa0_pos : Dev nD → Fin 1 × Fin 8 := fun c => ((![0, 0, 0, 0, 0, 0, 0, 0] : Fin 8 → Fin 1) c, (![0, 1, 2, 3, 4, 5, 6, 7] : Fin 8 → Fin 8) c)

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_315 : BitVec 32 := 0#32
  let c0_i32_313 : BitVec 32 := 0#32
  let c1_i32_314 : BitVec 32 := 1#32
  let v492 : BitVec 32 := Scalar.muli c0_i32_313 c1_i32_314
  let v493 : BitVec 32 := Scalar.addi c0_i32_315 v492
  v493.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_315 : BitVec 32 := 0#32
  let c1_i32_313 : BitVec 32 := 1#32
  let c1_i32_314 : BitVec 32 := 1#32
  let v492 : BitVec 32 := Scalar.muli c1_i32_313 c1_i32_314
  let v493 : BitVec 32 := Scalar.addi c0_i32_315 v492
  v493.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_315 : BitVec 32 := 0#32
  let c2_i32_313 : BitVec 32 := 2#32
  let c1_i32_314 : BitVec 32 := 1#32
  let v492 : BitVec 32 := Scalar.muli c2_i32_313 c1_i32_314
  let v493 : BitVec 32 := Scalar.addi c0_i32_315 v492
  v493.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_315 : BitVec 32 := 0#32
  let c3_i32_313 : BitVec 32 := 3#32
  let c1_i32_314 : BitVec 32 := 1#32
  let v492 : BitVec 32 := Scalar.muli c3_i32_313 c1_i32_314
  let v493 : BitVec 32 := Scalar.addi c0_i32_315 v492
  v493.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_315 : BitVec 32 := 0#32
  let c4_i32_313 : BitVec 32 := 4#32
  let c1_i32_314 : BitVec 32 := 1#32
  let v492 : BitVec 32 := Scalar.muli c4_i32_313 c1_i32_314
  let v493 : BitVec 32 := Scalar.addi c0_i32_315 v492
  v493.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_315 : BitVec 32 := 0#32
  let c5_i32_313 : BitVec 32 := 5#32
  let c1_i32_314 : BitVec 32 := 1#32
  let v492 : BitVec 32 := Scalar.muli c5_i32_313 c1_i32_314
  let v493 : BitVec 32 := Scalar.addi c0_i32_315 v492
  v493.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_315 : BitVec 32 := 0#32
  let c6_i32_313 : BitVec 32 := 6#32
  let c1_i32_314 : BitVec 32 := 1#32
  let v492 : BitVec 32 := Scalar.muli c6_i32_313 c1_i32_314
  let v493 : BitVec 32 := Scalar.addi c0_i32_315 v492
  v493.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_315 : BitVec 32 := 0#32
  let c7_i32_313 : BitVec 32 := 7#32
  let c1_i32_314 : BitVec 32 := 1#32
  let v492 : BitVec 32 := Scalar.muli c7_i32_313 c1_i32_314
  let v493 : BitVec 32 := Scalar.addi c0_i32_315 v492
  v493.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v29 : BitVec 1 := Scalar.cmpi .eq v2 c0_i32_10
  let v30 : BitVec 32 := Scalar.extui v29
  let c0_i32_11 : BitVec 32 := 0#32
  let v31 : BitVec 1 := Scalar.cmpi .ne v30 c0_i32_11
  v31

def k0_off1 (v28 : BitVec 32) : Fin 3 → Nat :=
  let v492 : Index := Scalar.indexCast v28
  let c0_312 : Index := 0#32
  let c0_313 : Index := 0#32
  ![v492.toNat, 0, 0]

def k0_chk1 (d0 : Dev nD) (v28 : BitVec 32) : Prop :=
  (∀ (k0_h9 : k0_cond9 d0 = 1#1), ∀ a, (k0_off1 v28) a + S384x8x128.size a ≤ S2432x8x128.size a)
theorem k0_off1_inb : ∀ (d0 : Dev nD) (v28 : BitVec 32) (k0_hw1 : k0_chk1 d0 v28), ∀ (k0_h9 : k0_cond9 d0 = 1#1), ∀ a, (k0_off1 v28) a + S384x8x128.size a ≤ S2432x8x128.size a := fun d0 v28 k0_hw1 k0_h9 => k0_hw1 k0_h9

def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off4 (v28 : BitVec 32) : Fin 3 → Nat :=
  let c0_i32_312 : BitVec 32 := 0#32
  let v492 : BitVec 32 := Scalar.addi v28 c0_i32_312
  let c0_i32_322 : BitVec 32 := 0#32
  let c0_i32_323 : BitVec 32 := 0#32
  ![v492.toNat, 0, 0]
def k0_cond10 (d0 : Dev nD) (v33 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v32 : BitVec 1 := Scalar.cmpi .ne v2 c0_i32_12
  let c0_i32_14 : BitVec 32 := 0#32
  let v34 : BitVec 1 := Scalar.cmpi .sgt v33 c0_i32_14
  let v35 : BitVec 1 := Scalar.andi v32 v34
  let v36 : BitVec 32 := Scalar.extui v35
  let c0_i32_15 : BitVec 32 := 0#32
  let v37 : BitVec 1 := Scalar.cmpi .ne v36 c0_i32_15
  v37

def k0_chk2 (d0 : Dev nD) (v28 : BitVec 32) (v33 : BitVec 32) : Prop :=
  (∀ (k0_h10 : k0_cond10 d0 v33 = 1#1), ∀ a, (k0_off4 v28) a + S128x8x128.size a ≤ S2432x8x128.size a)
theorem k0_off4_inb : ∀ (d0 : Dev nD) (v28 : BitVec 32) (v33 : BitVec 32) (k0_hw2 : k0_chk2 d0 v28 v33), ∀ (k0_h10 : k0_cond10 d0 v33 = 1#1), ∀ a, (k0_off4 v28) a + S128x8x128.size a ≤ S2432x8x128.size a := fun d0 v28 v33 k0_hw2 k0_h10 => k0_hw2 k0_h10

def k0_dev9 : Nat :=
  let c0_i32_318 : BitVec 32 := 0#32
  let c0_i32_316 : BitVec 32 := 0#32
  let c1_i32_317 : BitVec 32 := 1#32
  let v493 : BitVec 32 := Scalar.muli c0_i32_316 c1_i32_317
  let v494 : BitVec 32 := Scalar.addi c0_i32_318 v493
  v494.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off7 (v28 : BitVec 32) : Fin 3 → Nat :=
  let c128_i32_312 : BitVec 32 := 128#32
  let v492 : BitVec 32 := Scalar.addi v28 c128_i32_312
  let c0_i32_322 : BitVec 32 := 0#32
  let c0_i32_323 : BitVec 32 := 0#32
  ![v492.toNat, 0, 0]
def k0_cond11 (d0 : Dev nD) (v39 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_16 : BitVec 32 := 0#32
  let v38 : BitVec 1 := Scalar.cmpi .ne v2 c0_i32_16
  let c128_i32 : BitVec 32 := 128#32
  let v40 : BitVec 1 := Scalar.cmpi .sgt v39 c128_i32
  let v41 : BitVec 1 := Scalar.andi v38 v40
  let v42 : BitVec 32 := Scalar.extui v41
  let c0_i32_18 : BitVec 32 := 0#32
  let v43 : BitVec 1 := Scalar.cmpi .ne v42 c0_i32_18
  v43

def k0_chk3 (d0 : Dev nD) (v28 : BitVec 32) (v39 : BitVec 32) : Prop :=
  (∀ (k0_h11 : k0_cond11 d0 v39 = 1#1), ∀ a, (k0_off7 v28) a + S128x8x128.size a ≤ S2432x8x128.size a)
theorem k0_off7_inb : ∀ (d0 : Dev nD) (v28 : BitVec 32) (v39 : BitVec 32) (k0_hw3 : k0_chk3 d0 v28 v39), ∀ (k0_h11 : k0_cond11 d0 v39 = 1#1), ∀ a, (k0_off7 v28) a + S128x8x128.size a ≤ S2432x8x128.size a := fun d0 v28 v39 k0_hw3 k0_h11 => k0_hw3 k0_h11

def k0_dev10 : Nat :=
  let c0_i32_318 : BitVec 32 := 0#32
  let c0_i32_316 : BitVec 32 := 0#32
  let c1_i32_317 : BitVec 32 := 1#32
  let v493 : BitVec 32 := Scalar.muli c0_i32_316 c1_i32_317
  let v494 : BitVec 32 := Scalar.addi c0_i32_318 v493
  v494.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off10 (v28 : BitVec 32) : Fin 3 → Nat :=
  let c256_i32_312 : BitVec 32 := 256#32
  let v492 : BitVec 32 := Scalar.addi v28 c256_i32_312
  let c0_i32_322 : BitVec 32 := 0#32
  let c0_i32_323 : BitVec 32 := 0#32
  ![v492.toNat, 0, 0]
def k0_cond12 (d0 : Dev nD) (v45 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v44 : BitVec 1 := Scalar.cmpi .ne v2 c0_i32_19
  let c256_i32 : BitVec 32 := 256#32
  let v46 : BitVec 1 := Scalar.cmpi .sgt v45 c256_i32
  let v47 : BitVec 1 := Scalar.andi v44 v46
  let v48 : BitVec 32 := Scalar.extui v47
  let c0_i32_21 : BitVec 32 := 0#32
  let v49 : BitVec 1 := Scalar.cmpi .ne v48 c0_i32_21
  v49

def k0_chk4 (d0 : Dev nD) (v28 : BitVec 32) (v45 : BitVec 32) : Prop :=
  (∀ (k0_h12 : k0_cond12 d0 v45 = 1#1), ∀ a, (k0_off10 v28) a + S128x8x128.size a ≤ S2432x8x128.size a)
theorem k0_off10_inb : ∀ (d0 : Dev nD) (v28 : BitVec 32) (v45 : BitVec 32) (k0_hw4 : k0_chk4 d0 v28 v45), ∀ (k0_h12 : k0_cond12 d0 v45 = 1#1), ∀ a, (k0_off10 v28) a + S128x8x128.size a ≤ S2432x8x128.size a := fun d0 v28 v45 k0_hw4 k0_h12 => k0_hw4 k0_h12

def k0_dev11 : Nat :=
  let c0_i32_318 : BitVec 32 := 0#32
  let c0_i32_316 : BitVec 32 := 0#32
  let c1_i32_317 : BitVec 32 := 1#32
  let v493 : BitVec 32 := Scalar.muli c0_i32_316 c1_i32_317
  let v494 : BitVec 32 := Scalar.addi c0_i32_318 v493
  v494.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v51 : BitVec 1 := Scalar.cmpi .eq v2 c1_i32_22
  let v52 : BitVec 32 := Scalar.extui v51
  let c0_i32_23 : BitVec 32 := 0#32
  let v53 : BitVec 1 := Scalar.cmpi .ne v52 c0_i32_23
  v53

def k0_off11 (v50 : BitVec 32) : Fin 3 → Nat :=
  let v492 : Index := Scalar.indexCast v50
  let c0_312 : Index := 0#32
  let c0_313 : Index := 0#32
  ![v492.toNat, 0, 0]

def k0_chk5 (d0 : Dev nD) (v50 : BitVec 32) : Prop :=
  (∀ (k0_h13 : k0_cond13 d0 = 1#1), ∀ a, (k0_off11 v50) a + S384x8x128.size a ≤ S2432x8x128.size a)
theorem k0_off11_inb : ∀ (d0 : Dev nD) (v50 : BitVec 32) (k0_hw5 : k0_chk5 d0 v50), ∀ (k0_h13 : k0_cond13 d0 = 1#1), ∀ a, (k0_off11 v50) a + S384x8x128.size a ≤ S2432x8x128.size a := fun d0 v50 k0_hw5 k0_h13 => k0_hw5 k0_h13

def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off13 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off14 (v50 : BitVec 32) : Fin 3 → Nat :=
  let c0_i32_312 : BitVec 32 := 0#32
  let v492 : BitVec 32 := Scalar.addi v50 c0_i32_312
  let c0_i32_322 : BitVec 32 := 0#32
  let c0_i32_323 : BitVec 32 := 0#32
  ![v492.toNat, 0, 0]
def k0_cond14 (d0 : Dev nD) (v55 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v54 : BitVec 1 := Scalar.cmpi .ne v2 c1_i32_24
  let c0_i32_26 : BitVec 32 := 0#32
  let v56 : BitVec 1 := Scalar.cmpi .sgt v55 c0_i32_26
  let v57 : BitVec 1 := Scalar.andi v54 v56
  let v58 : BitVec 32 := Scalar.extui v57
  let c0_i32_27 : BitVec 32 := 0#32
  let v59 : BitVec 1 := Scalar.cmpi .ne v58 c0_i32_27
  v59

def k0_chk6 (d0 : Dev nD) (v50 : BitVec 32) (v55 : BitVec 32) : Prop :=
  (∀ (k0_h14 : k0_cond14 d0 v55 = 1#1), ∀ a, (k0_off14 v50) a + S128x8x128.size a ≤ S2432x8x128.size a)
theorem k0_off14_inb : ∀ (d0 : Dev nD) (v50 : BitVec 32) (v55 : BitVec 32) (k0_hw6 : k0_chk6 d0 v50 v55), ∀ (k0_h14 : k0_cond14 d0 v55 = 1#1), ∀ a, (k0_off14 v50) a + S128x8x128.size a ≤ S2432x8x128.size a := fun d0 v50 v55 k0_hw6 k0_h14 => k0_hw6 k0_h14

def k0_dev12 : Nat :=
  let c0_i32_318 : BitVec 32 := 0#32
  let c1_i32_316 : BitVec 32 := 1#32
  let c1_i32_317 : BitVec 32 := 1#32
  let v493 : BitVec 32 := Scalar.muli c1_i32_316 c1_i32_317
  let v494 : BitVec 32 := Scalar.addi c0_i32_318 v493
  v494.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off17 (v50 : BitVec 32) : Fin 3 → Nat :=
  let c128_i32_312 : BitVec 32 := 128#32
  let v492 : BitVec 32 := Scalar.addi v50 c128_i32_312
  let c0_i32_322 : BitVec 32 := 0#32
  let c0_i32_323 : BitVec 32 := 0#32
  ![v492.toNat, 0, 0]
def k0_cond15 (d0 : Dev nD) (v61 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v60 : BitVec 1 := Scalar.cmpi .ne v2 c1_i32_28
  let c128_i32_30 : BitVec 32 := 128#32
  let v62 : BitVec 1 := Scalar.cmpi .sgt v61 c128_i32_30
  let v63 : BitVec 1 := Scalar.andi v60 v62
  let v64 : BitVec 32 := Scalar.extui v63
  let c0_i32_31 : BitVec 32 := 0#32
  let v65 : BitVec 1 := Scalar.cmpi .ne v64 c0_i32_31
  v65

def k0_chk7 (d0 : Dev nD) (v50 : BitVec 32) (v61 : BitVec 32) : Prop :=
  (∀ (k0_h15 : k0_cond15 d0 v61 = 1#1), ∀ a, (k0_off17 v50) a + S128x8x128.size a ≤ S2432x8x128.size a)
theorem k0_off17_inb : ∀ (d0 : Dev nD) (v50 : BitVec 32) (v61 : BitVec 32) (k0_hw7 : k0_chk7 d0 v50 v61), ∀ (k0_h15 : k0_cond15 d0 v61 = 1#1), ∀ a, (k0_off17 v50) a + S128x8x128.size a ≤ S2432x8x128.size a := fun d0 v50 v61 k0_hw7 k0_h15 => k0_hw7 k0_h15

def k0_dev13 : Nat :=
  let c0_i32_318 : BitVec 32 := 0#32
  let c1_i32_316 : BitVec 32 := 1#32
  let c1_i32_317 : BitVec 32 := 1#32
  let v493 : BitVec 32 := Scalar.muli c1_i32_316 c1_i32_317
  let v494 : BitVec 32 := Scalar.addi c0_i32_318 v493
  v494.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off20 (v50 : BitVec 32) : Fin 3 → Nat :=
  let c256_i32_312 : BitVec 32 := 256#32
  let v492 : BitVec 32 := Scalar.addi v50 c256_i32_312
  let c0_i32_322 : BitVec 32 := 0#32
  let c0_i32_323 : BitVec 32 := 0#32
  ![v492.toNat, 0, 0]
def k0_cond16 (d0 : Dev nD) (v67 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v66 : BitVec 1 := Scalar.cmpi .ne v2 c1_i32_32
  let c256_i32_34 : BitVec 32 := 256#32
  let v68 : BitVec 1 := Scalar.cmpi .sgt v67 c256_i32_34
  let v69 : BitVec 1 := Scalar.andi v66 v68
  let v70 : BitVec 32 := Scalar.extui v69
  let c0_i32_35 : BitVec 32 := 0#32
  let v71 : BitVec 1 := Scalar.cmpi .ne v70 c0_i32_35
  v71

def k0_chk8 (d0 : Dev nD) (v50 : BitVec 32) (v67 : BitVec 32) : Prop :=
  (∀ (k0_h16 : k0_cond16 d0 v67 = 1#1), ∀ a, (k0_off20 v50) a + S128x8x128.size a ≤ S2432x8x128.size a)
theorem k0_off20_inb : ∀ (d0 : Dev nD) (v50 : BitVec 32) (v67 : BitVec 32) (k0_hw8 : k0_chk8 d0 v50 v67), ∀ (k0_h16 : k0_cond16 d0 v67 = 1#1), ∀ a, (k0_off20 v50) a + S128x8x128.size a ≤ S2432x8x128.size a := fun d0 v50 v67 k0_hw8 k0_h16 => k0_hw8 k0_h16

def k0_dev14 : Nat :=
  let c0_i32_318 : BitVec 32 := 0#32
  let c1_i32_316 : BitVec 32 := 1#32
  let c1_i32_317 : BitVec 32 := 1#32
  let v493 : BitVec 32 := Scalar.muli c1_i32_316 c1_i32_317
  let v494 : BitVec 32 := Scalar.addi c0_i32_318 v493
  v494.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_36 : BitVec 32 := 2#32
  let v73 : BitVec 1 := Scalar.cmpi .eq v2 c2_i32_36
  let v74 : BitVec 32 := Scalar.extui v73
  let c0_i32_37 : BitVec 32 := 0#32
  let v75 : BitVec 1 := Scalar.cmpi .ne v74 c0_i32_37
  v75

def k0_off21 (v72 : BitVec 32) : Fin 3 → Nat :=
  let v492 : Index := Scalar.indexCast v72
  let c0_312 : Index := 0#32
  let c0_313 : Index := 0#32
  ![v492.toNat, 0, 0]

def k0_chk9 (d0 : Dev nD) (v72 : BitVec 32) : Prop :=
  (∀ (k0_h17 : k0_cond17 d0 = 1#1), ∀ a, (k0_off21 v72) a + S384x8x128.size a ≤ S2432x8x128.size a)
theorem k0_off21_inb : ∀ (d0 : Dev nD) (v72 : BitVec 32) (k0_hw9 : k0_chk9 d0 v72), ∀ (k0_h17 : k0_cond17 d0 = 1#1), ∀ a, (k0_off21 v72) a + S384x8x128.size a ≤ S2432x8x128.size a := fun d0 v72 k0_hw9 k0_h17 => k0_hw9 k0_h17

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off24 (v72 : BitVec 32) : Fin 3 → Nat :=
  let c0_i32_312 : BitVec 32 := 0#32
  let v492 : BitVec 32 := Scalar.addi v72 c0_i32_312
  let c0_i32_322 : BitVec 32 := 0#32
  let c0_i32_323 : BitVec 32 := 0#32
  ![v492.toNat, 0, 0]
def k0_cond18 (d0 : Dev nD) (v77 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v76 : BitVec 1 := Scalar.cmpi .ne v2 c2_i32_38
  let c0_i32_40 : BitVec 32 := 0#32
  let v78 : BitVec 1 := Scalar.cmpi .sgt v77 c0_i32_40
  let v79 : BitVec 1 := Scalar.andi v76 v78
  let v80 : BitVec 32 := Scalar.extui v79
  let c0_i32_41 : BitVec 32 := 0#32
  let v81 : BitVec 1 := Scalar.cmpi .ne v80 c0_i32_41
  v81

def k0_chk10 (d0 : Dev nD) (v72 : BitVec 32) (v77 : BitVec 32) : Prop :=
  (∀ (k0_h18 : k0_cond18 d0 v77 = 1#1), ∀ a, (k0_off24 v72) a + S128x8x128.size a ≤ S2432x8x128.size a)
theorem k0_off24_inb : ∀ (d0 : Dev nD) (v72 : BitVec 32) (v77 : BitVec 32) (k0_hw10 : k0_chk10 d0 v72 v77), ∀ (k0_h18 : k0_cond18 d0 v77 = 1#1), ∀ a, (k0_off24 v72) a + S128x8x128.size a ≤ S2432x8x128.size a := fun d0 v72 v77 k0_hw10 k0_h18 => k0_hw10 k0_h18

def k0_dev15 : Nat :=
  let c0_i32_318 : BitVec 32 := 0#32
  let c2_i32_316 : BitVec 32 := 2#32
  let c1_i32_317 : BitVec 32 := 1#32
  let v493 : BitVec 32 := Scalar.muli c2_i32_316 c1_i32_317
  let v494 : BitVec 32 := Scalar.addi c0_i32_318 v493
  v494.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off26 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off27 (v72 : BitVec 32) : Fin 3 → Nat :=
  let c128_i32_312 : BitVec 32 := 128#32
  let v492 : BitVec 32 := Scalar.addi v72 c128_i32_312
  let c0_i32_322 : BitVec 32 := 0#32
  let c0_i32_323 : BitVec 32 := 0#32
  ![v492.toNat, 0, 0]
def k0_cond19 (d0 : Dev nD) (v83 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v82 : BitVec 1 := Scalar.cmpi .ne v2 c2_i32_42
  let c128_i32_44 : BitVec 32 := 128#32
  let v84 : BitVec 1 := Scalar.cmpi .sgt v83 c128_i32_44
  let v85 : BitVec 1 := Scalar.andi v82 v84
  let v86 : BitVec 32 := Scalar.extui v85
  let c0_i32_45 : BitVec 32 := 0#32
  let v87 : BitVec 1 := Scalar.cmpi .ne v86 c0_i32_45
  v87

def k0_chk11 (d0 : Dev nD) (v72 : BitVec 32) (v83 : BitVec 32) : Prop :=
  (∀ (k0_h19 : k0_cond19 d0 v83 = 1#1), ∀ a, (k0_off27 v72) a + S128x8x128.size a ≤ S2432x8x128.size a)
theorem k0_off27_inb : ∀ (d0 : Dev nD) (v72 : BitVec 32) (v83 : BitVec 32) (k0_hw11 : k0_chk11 d0 v72 v83), ∀ (k0_h19 : k0_cond19 d0 v83 = 1#1), ∀ a, (k0_off27 v72) a + S128x8x128.size a ≤ S2432x8x128.size a := fun d0 v72 v83 k0_hw11 k0_h19 => k0_hw11 k0_h19

def k0_dev16 : Nat :=
  let c0_i32_318 : BitVec 32 := 0#32
  let c2_i32_316 : BitVec 32 := 2#32
  let c1_i32_317 : BitVec 32 := 1#32
  let v493 : BitVec 32 := Scalar.muli c2_i32_316 c1_i32_317
  let v494 : BitVec 32 := Scalar.addi c0_i32_318 v493
  v494.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off29 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off30 (v72 : BitVec 32) : Fin 3 → Nat :=
  let c256_i32_312 : BitVec 32 := 256#32
  let v492 : BitVec 32 := Scalar.addi v72 c256_i32_312
  let c0_i32_322 : BitVec 32 := 0#32
  let c0_i32_323 : BitVec 32 := 0#32
  ![v492.toNat, 0, 0]
def k0_cond20 (d0 : Dev nD) (v89 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v88 : BitVec 1 := Scalar.cmpi .ne v2 c2_i32_46
  let c256_i32_48 : BitVec 32 := 256#32
  let v90 : BitVec 1 := Scalar.cmpi .sgt v89 c256_i32_48
  let v91 : BitVec 1 := Scalar.andi v88 v90
  let v92 : BitVec 32 := Scalar.extui v91
  let c0_i32_49 : BitVec 32 := 0#32
  let v93 : BitVec 1 := Scalar.cmpi .ne v92 c0_i32_49
  v93

def k0_chk12 (d0 : Dev nD) (v72 : BitVec 32) (v89 : BitVec 32) : Prop :=
  (∀ (k0_h20 : k0_cond20 d0 v89 = 1#1), ∀ a, (k0_off30 v72) a + S128x8x128.size a ≤ S2432x8x128.size a)
theorem k0_off30_inb : ∀ (d0 : Dev nD) (v72 : BitVec 32) (v89 : BitVec 32) (k0_hw12 : k0_chk12 d0 v72 v89), ∀ (k0_h20 : k0_cond20 d0 v89 = 1#1), ∀ a, (k0_off30 v72) a + S128x8x128.size a ≤ S2432x8x128.size a := fun d0 v72 v89 k0_hw12 k0_h20 => k0_hw12 k0_h20

def k0_dev17 : Nat :=
  let c0_i32_318 : BitVec 32 := 0#32
  let c2_i32_316 : BitVec 32 := 2#32
  let c1_i32_317 : BitVec 32 := 1#32
  let v493 : BitVec 32 := Scalar.muli c2_i32_316 c1_i32_317
  let v494 : BitVec 32 := Scalar.addi c0_i32_318 v493
  v494.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v95 : BitVec 1 := Scalar.cmpi .eq v2 c3_i32_50
  let v96 : BitVec 32 := Scalar.extui v95
  let c0_i32_51 : BitVec 32 := 0#32
  let v97 : BitVec 1 := Scalar.cmpi .ne v96 c0_i32_51
  v97

def k0_off31 (v94 : BitVec 32) : Fin 3 → Nat :=
  let v492 : Index := Scalar.indexCast v94
  let c0_312 : Index := 0#32
  let c0_313 : Index := 0#32
  ![v492.toNat, 0, 0]

def k0_chk13 (d0 : Dev nD) (v94 : BitVec 32) : Prop :=
  (∀ (k0_h21 : k0_cond21 d0 = 1#1), ∀ a, (k0_off31 v94) a + S384x8x128.size a ≤ S2432x8x128.size a)
theorem k0_off31_inb : ∀ (d0 : Dev nD) (v94 : BitVec 32) (k0_hw13 : k0_chk13 d0 v94), ∀ (k0_h21 : k0_cond21 d0 = 1#1), ∀ a, (k0_off31 v94) a + S384x8x128.size a ≤ S2432x8x128.size a := fun d0 v94 k0_hw13 k0_h21 => k0_hw13 k0_h21

def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off33 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off34 (v94 : BitVec 32) : Fin 3 → Nat :=
  let c0_i32_312 : BitVec 32 := 0#32
  let v492 : BitVec 32 := Scalar.addi v94 c0_i32_312
  let c0_i32_322 : BitVec 32 := 0#32
  let c0_i32_323 : BitVec 32 := 0#32
  ![v492.toNat, 0, 0]
def k0_cond22 (d0 : Dev nD) (v99 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v98 : BitVec 1 := Scalar.cmpi .ne v2 c3_i32_52
  let c0_i32_54 : BitVec 32 := 0#32
  let v100 : BitVec 1 := Scalar.cmpi .sgt v99 c0_i32_54
  let v101 : BitVec 1 := Scalar.andi v98 v100
  let v102 : BitVec 32 := Scalar.extui v101
  let c0_i32_55 : BitVec 32 := 0#32
  let v103 : BitVec 1 := Scalar.cmpi .ne v102 c0_i32_55
  v103

def k0_chk14 (d0 : Dev nD) (v94 : BitVec 32) (v99 : BitVec 32) : Prop :=
  (∀ (k0_h22 : k0_cond22 d0 v99 = 1#1), ∀ a, (k0_off34 v94) a + S128x8x128.size a ≤ S2432x8x128.size a)
theorem k0_off34_inb : ∀ (d0 : Dev nD) (v94 : BitVec 32) (v99 : BitVec 32) (k0_hw14 : k0_chk14 d0 v94 v99), ∀ (k0_h22 : k0_cond22 d0 v99 = 1#1), ∀ a, (k0_off34 v94) a + S128x8x128.size a ≤ S2432x8x128.size a := fun d0 v94 v99 k0_hw14 k0_h22 => k0_hw14 k0_h22

def k0_dev18 : Nat :=
  let c0_i32_318 : BitVec 32 := 0#32
  let c3_i32_316 : BitVec 32 := 3#32
  let c1_i32_317 : BitVec 32 := 1#32
  let v493 : BitVec 32 := Scalar.muli c3_i32_316 c1_i32_317
  let v494 : BitVec 32 := Scalar.addi c0_i32_318 v493
  v494.toNat
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off36 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off37 (v94 : BitVec 32) : Fin 3 → Nat :=
  let c128_i32_312 : BitVec 32 := 128#32
  let v492 : BitVec 32 := Scalar.addi v94 c128_i32_312
  let c0_i32_322 : BitVec 32 := 0#32
  let c0_i32_323 : BitVec 32 := 0#32
  ![v492.toNat, 0, 0]
def k0_cond23 (d0 : Dev nD) (v105 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v104 : BitVec 1 := Scalar.cmpi .ne v2 c3_i32_56
  let c128_i32_58 : BitVec 32 := 128#32
  let v106 : BitVec 1 := Scalar.cmpi .sgt v105 c128_i32_58
  let v107 : BitVec 1 := Scalar.andi v104 v106
  let v108 : BitVec 32 := Scalar.extui v107
  let c0_i32_59 : BitVec 32 := 0#32
  let v109 : BitVec 1 := Scalar.cmpi .ne v108 c0_i32_59
  v109

def k0_chk15 (d0 : Dev nD) (v94 : BitVec 32) (v105 : BitVec 32) : Prop :=
  (∀ (k0_h23 : k0_cond23 d0 v105 = 1#1), ∀ a, (k0_off37 v94) a + S128x8x128.size a ≤ S2432x8x128.size a)
theorem k0_off37_inb : ∀ (d0 : Dev nD) (v94 : BitVec 32) (v105 : BitVec 32) (k0_hw15 : k0_chk15 d0 v94 v105), ∀ (k0_h23 : k0_cond23 d0 v105 = 1#1), ∀ a, (k0_off37 v94) a + S128x8x128.size a ≤ S2432x8x128.size a := fun d0 v94 v105 k0_hw15 k0_h23 => k0_hw15 k0_h23

def k0_dev19 : Nat :=
  let c0_i32_318 : BitVec 32 := 0#32
  let c3_i32_316 : BitVec 32 := 3#32
  let c1_i32_317 : BitVec 32 := 1#32
  let v493 : BitVec 32 := Scalar.muli c3_i32_316 c1_i32_317
  let v494 : BitVec 32 := Scalar.addi c0_i32_318 v493
  v494.toNat
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off39 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off40 (v94 : BitVec 32) : Fin 3 → Nat :=
  let c256_i32_312 : BitVec 32 := 256#32
  let v492 : BitVec 32 := Scalar.addi v94 c256_i32_312
  let c0_i32_322 : BitVec 32 := 0#32
  let c0_i32_323 : BitVec 32 := 0#32
  ![v492.toNat, 0, 0]
def k0_cond24 (d0 : Dev nD) (v111 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v110 : BitVec 1 := Scalar.cmpi .ne v2 c3_i32_60
  let c256_i32_62 : BitVec 32 := 256#32
  let v112 : BitVec 1 := Scalar.cmpi .sgt v111 c256_i32_62
  let v113 : BitVec 1 := Scalar.andi v110 v112
  let v114 : BitVec 32 := Scalar.extui v113
  let c0_i32_63 : BitVec 32 := 0#32
  let v115 : BitVec 1 := Scalar.cmpi .ne v114 c0_i32_63
  v115

def k0_chk16 (d0 : Dev nD) (v94 : BitVec 32) (v111 : BitVec 32) : Prop :=
  (∀ (k0_h24 : k0_cond24 d0 v111 = 1#1), ∀ a, (k0_off40 v94) a + S128x8x128.size a ≤ S2432x8x128.size a)
theorem k0_off40_inb : ∀ (d0 : Dev nD) (v94 : BitVec 32) (v111 : BitVec 32) (k0_hw16 : k0_chk16 d0 v94 v111), ∀ (k0_h24 : k0_cond24 d0 v111 = 1#1), ∀ a, (k0_off40 v94) a + S128x8x128.size a ≤ S2432x8x128.size a := fun d0 v94 v111 k0_hw16 k0_h24 => k0_hw16 k0_h24

def k0_dev20 : Nat :=
  let c0_i32_318 : BitVec 32 := 0#32
  let c3_i32_316 : BitVec 32 := 3#32
  let c1_i32_317 : BitVec 32 := 1#32
  let v493 : BitVec 32 := Scalar.muli c3_i32_316 c1_i32_317
  let v494 : BitVec 32 := Scalar.addi c0_i32_318 v493
  v494.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v117 : BitVec 1 := Scalar.cmpi .eq v2 c4_i32_64
  let v118 : BitVec 32 := Scalar.extui v117
  let c0_i32_65 : BitVec 32 := 0#32
  let v119 : BitVec 1 := Scalar.cmpi .ne v118 c0_i32_65
  v119

def k0_off41 (v116 : BitVec 32) : Fin 3 → Nat :=
  let v492 : Index := Scalar.indexCast v116
  let c0_312 : Index := 0#32
  let c0_313 : Index := 0#32
  ![v492.toNat, 0, 0]

def k0_chk17 (d0 : Dev nD) (v116 : BitVec 32) : Prop :=
  (∀ (k0_h25 : k0_cond25 d0 = 1#1), ∀ a, (k0_off41 v116) a + S384x8x128.size a ≤ S2432x8x128.size a)
theorem k0_off41_inb : ∀ (d0 : Dev nD) (v116 : BitVec 32) (k0_hw17 : k0_chk17 d0 v116), ∀ (k0_h25 : k0_cond25 d0 = 1#1), ∀ a, (k0_off41 v116) a + S384x8x128.size a ≤ S2432x8x128.size a := fun d0 v116 k0_hw17 k0_h25 => k0_hw17 k0_h25

def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off43 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off44 (v116 : BitVec 32) : Fin 3 → Nat :=
  let c0_i32_312 : BitVec 32 := 0#32
  let v492 : BitVec 32 := Scalar.addi v116 c0_i32_312
  let c0_i32_322 : BitVec 32 := 0#32
  let c0_i32_323 : BitVec 32 := 0#32
  ![v492.toNat, 0, 0]
def k0_cond26 (d0 : Dev nD) (v121 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v120 : BitVec 1 := Scalar.cmpi .ne v2 c4_i32_66
  let c0_i32_68 : BitVec 32 := 0#32
  let v122 : BitVec 1 := Scalar.cmpi .sgt v121 c0_i32_68
  let v123 : BitVec 1 := Scalar.andi v120 v122
  let v124 : BitVec 32 := Scalar.extui v123
  let c0_i32_69 : BitVec 32 := 0#32
  let v125 : BitVec 1 := Scalar.cmpi .ne v124 c0_i32_69
  v125

def k0_chk18 (d0 : Dev nD) (v116 : BitVec 32) (v121 : BitVec 32) : Prop :=
  (∀ (k0_h26 : k0_cond26 d0 v121 = 1#1), ∀ a, (k0_off44 v116) a + S128x8x128.size a ≤ S2432x8x128.size a)
theorem k0_off44_inb : ∀ (d0 : Dev nD) (v116 : BitVec 32) (v121 : BitVec 32) (k0_hw18 : k0_chk18 d0 v116 v121), ∀ (k0_h26 : k0_cond26 d0 v121 = 1#1), ∀ a, (k0_off44 v116) a + S128x8x128.size a ≤ S2432x8x128.size a := fun d0 v116 v121 k0_hw18 k0_h26 => k0_hw18 k0_h26

def k0_dev21 : Nat :=
  let c0_i32_318 : BitVec 32 := 0#32
  let c4_i32_316 : BitVec 32 := 4#32
  let c1_i32_317 : BitVec 32 := 1#32
  let v493 : BitVec 32 := Scalar.muli c4_i32_316 c1_i32_317
  let v494 : BitVec 32 := Scalar.addi c0_i32_318 v493
  v494.toNat
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off46 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off47 (v116 : BitVec 32) : Fin 3 → Nat :=
  let c128_i32_312 : BitVec 32 := 128#32
  let v492 : BitVec 32 := Scalar.addi v116 c128_i32_312
  let c0_i32_322 : BitVec 32 := 0#32
  let c0_i32_323 : BitVec 32 := 0#32
  ![v492.toNat, 0, 0]
def k0_cond27 (d0 : Dev nD) (v127 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v126 : BitVec 1 := Scalar.cmpi .ne v2 c4_i32_70
  let c128_i32_72 : BitVec 32 := 128#32
  let v128 : BitVec 1 := Scalar.cmpi .sgt v127 c128_i32_72
  let v129 : BitVec 1 := Scalar.andi v126 v128
  let v130 : BitVec 32 := Scalar.extui v129
  let c0_i32_73 : BitVec 32 := 0#32
  let v131 : BitVec 1 := Scalar.cmpi .ne v130 c0_i32_73
  v131

def k0_chk19 (d0 : Dev nD) (v116 : BitVec 32) (v127 : BitVec 32) : Prop :=
  (∀ (k0_h27 : k0_cond27 d0 v127 = 1#1), ∀ a, (k0_off47 v116) a + S128x8x128.size a ≤ S2432x8x128.size a)
theorem k0_off47_inb : ∀ (d0 : Dev nD) (v116 : BitVec 32) (v127 : BitVec 32) (k0_hw19 : k0_chk19 d0 v116 v127), ∀ (k0_h27 : k0_cond27 d0 v127 = 1#1), ∀ a, (k0_off47 v116) a + S128x8x128.size a ≤ S2432x8x128.size a := fun d0 v116 v127 k0_hw19 k0_h27 => k0_hw19 k0_h27

def k0_dev22 : Nat :=
  let c0_i32_318 : BitVec 32 := 0#32
  let c4_i32_316 : BitVec 32 := 4#32
  let c1_i32_317 : BitVec 32 := 1#32
  let v493 : BitVec 32 := Scalar.muli c4_i32_316 c1_i32_317
  let v494 : BitVec 32 := Scalar.addi c0_i32_318 v493
  v494.toNat
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off49 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off50 (v116 : BitVec 32) : Fin 3 → Nat :=
  let c256_i32_312 : BitVec 32 := 256#32
  let v492 : BitVec 32 := Scalar.addi v116 c256_i32_312
  let c0_i32_322 : BitVec 32 := 0#32
  let c0_i32_323 : BitVec 32 := 0#32
  ![v492.toNat, 0, 0]
def k0_cond28 (d0 : Dev nD) (v133 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v132 : BitVec 1 := Scalar.cmpi .ne v2 c4_i32_74
  let c256_i32_76 : BitVec 32 := 256#32
  let v134 : BitVec 1 := Scalar.cmpi .sgt v133 c256_i32_76
  let v135 : BitVec 1 := Scalar.andi v132 v134
  let v136 : BitVec 32 := Scalar.extui v135
  let c0_i32_77 : BitVec 32 := 0#32
  let v137 : BitVec 1 := Scalar.cmpi .ne v136 c0_i32_77
  v137

def k0_chk20 (d0 : Dev nD) (v116 : BitVec 32) (v133 : BitVec 32) : Prop :=
  (∀ (k0_h28 : k0_cond28 d0 v133 = 1#1), ∀ a, (k0_off50 v116) a + S128x8x128.size a ≤ S2432x8x128.size a)
theorem k0_off50_inb : ∀ (d0 : Dev nD) (v116 : BitVec 32) (v133 : BitVec 32) (k0_hw20 : k0_chk20 d0 v116 v133), ∀ (k0_h28 : k0_cond28 d0 v133 = 1#1), ∀ a, (k0_off50 v116) a + S128x8x128.size a ≤ S2432x8x128.size a := fun d0 v116 v133 k0_hw20 k0_h28 => k0_hw20 k0_h28

def k0_dev23 : Nat :=
  let c0_i32_318 : BitVec 32 := 0#32
  let c4_i32_316 : BitVec 32 := 4#32
  let c1_i32_317 : BitVec 32 := 1#32
  let v493 : BitVec 32 := Scalar.muli c4_i32_316 c1_i32_317
  let v494 : BitVec 32 := Scalar.addi c0_i32_318 v493
  v494.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_78 : BitVec 32 := 5#32
  let v139 : BitVec 1 := Scalar.cmpi .eq v2 c5_i32_78
  let v140 : BitVec 32 := Scalar.extui v139
  let c0_i32_79 : BitVec 32 := 0#32
  let v141 : BitVec 1 := Scalar.cmpi .ne v140 c0_i32_79
  v141

def k0_off51 (v138 : BitVec 32) : Fin 3 → Nat :=
  let v492 : Index := Scalar.indexCast v138
  let c0_312 : Index := 0#32
  let c0_313 : Index := 0#32
  ![v492.toNat, 0, 0]

def k0_chk21 (d0 : Dev nD) (v138 : BitVec 32) : Prop :=
  (∀ (k0_h29 : k0_cond29 d0 = 1#1), ∀ a, (k0_off51 v138) a + S384x8x128.size a ≤ S2432x8x128.size a)
theorem k0_off51_inb : ∀ (d0 : Dev nD) (v138 : BitVec 32) (k0_hw21 : k0_chk21 d0 v138), ∀ (k0_h29 : k0_cond29 d0 = 1#1), ∀ a, (k0_off51 v138) a + S384x8x128.size a ≤ S2432x8x128.size a := fun d0 v138 k0_hw21 k0_h29 => k0_hw21 k0_h29

def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off53 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off54 (v138 : BitVec 32) : Fin 3 → Nat :=
  let c0_i32_312 : BitVec 32 := 0#32
  let v492 : BitVec 32 := Scalar.addi v138 c0_i32_312
  let c0_i32_322 : BitVec 32 := 0#32
  let c0_i32_323 : BitVec 32 := 0#32
  ![v492.toNat, 0, 0]
def k0_cond30 (d0 : Dev nD) (v143 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_80 : BitVec 32 := 5#32
  let v142 : BitVec 1 := Scalar.cmpi .ne v2 c5_i32_80
  let c0_i32_82 : BitVec 32 := 0#32
  let v144 : BitVec 1 := Scalar.cmpi .sgt v143 c0_i32_82
  let v145 : BitVec 1 := Scalar.andi v142 v144
  let v146 : BitVec 32 := Scalar.extui v145
  let c0_i32_83 : BitVec 32 := 0#32
  let v147 : BitVec 1 := Scalar.cmpi .ne v146 c0_i32_83
  v147

def k0_chk22 (d0 : Dev nD) (v138 : BitVec 32) (v143 : BitVec 32) : Prop :=
  (∀ (k0_h30 : k0_cond30 d0 v143 = 1#1), ∀ a, (k0_off54 v138) a + S128x8x128.size a ≤ S2432x8x128.size a)
theorem k0_off54_inb : ∀ (d0 : Dev nD) (v138 : BitVec 32) (v143 : BitVec 32) (k0_hw22 : k0_chk22 d0 v138 v143), ∀ (k0_h30 : k0_cond30 d0 v143 = 1#1), ∀ a, (k0_off54 v138) a + S128x8x128.size a ≤ S2432x8x128.size a := fun d0 v138 v143 k0_hw22 k0_h30 => k0_hw22 k0_h30

def k0_dev24 : Nat :=
  let c0_i32_318 : BitVec 32 := 0#32
  let c5_i32_316 : BitVec 32 := 5#32
  let c1_i32_317 : BitVec 32 := 1#32
  let v493 : BitVec 32 := Scalar.muli c5_i32_316 c1_i32_317
  let v494 : BitVec 32 := Scalar.addi c0_i32_318 v493
  v494.toNat
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off56 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off57 (v138 : BitVec 32) : Fin 3 → Nat :=
  let c128_i32_312 : BitVec 32 := 128#32
  let v492 : BitVec 32 := Scalar.addi v138 c128_i32_312
  let c0_i32_322 : BitVec 32 := 0#32
  let c0_i32_323 : BitVec 32 := 0#32
  ![v492.toNat, 0, 0]
def k0_cond31 (d0 : Dev nD) (v149 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_84 : BitVec 32 := 5#32
  let v148 : BitVec 1 := Scalar.cmpi .ne v2 c5_i32_84
  let c128_i32_86 : BitVec 32 := 128#32
  let v150 : BitVec 1 := Scalar.cmpi .sgt v149 c128_i32_86
  let v151 : BitVec 1 := Scalar.andi v148 v150
  let v152 : BitVec 32 := Scalar.extui v151
  let c0_i32_87 : BitVec 32 := 0#32
  let v153 : BitVec 1 := Scalar.cmpi .ne v152 c0_i32_87
  v153

def k0_chk23 (d0 : Dev nD) (v138 : BitVec 32) (v149 : BitVec 32) : Prop :=
  (∀ (k0_h31 : k0_cond31 d0 v149 = 1#1), ∀ a, (k0_off57 v138) a + S128x8x128.size a ≤ S2432x8x128.size a)
theorem k0_off57_inb : ∀ (d0 : Dev nD) (v138 : BitVec 32) (v149 : BitVec 32) (k0_hw23 : k0_chk23 d0 v138 v149), ∀ (k0_h31 : k0_cond31 d0 v149 = 1#1), ∀ a, (k0_off57 v138) a + S128x8x128.size a ≤ S2432x8x128.size a := fun d0 v138 v149 k0_hw23 k0_h31 => k0_hw23 k0_h31

def k0_dev25 : Nat :=
  let c0_i32_318 : BitVec 32 := 0#32
  let c5_i32_316 : BitVec 32 := 5#32
  let c1_i32_317 : BitVec 32 := 1#32
  let v493 : BitVec 32 := Scalar.muli c5_i32_316 c1_i32_317
  let v494 : BitVec 32 := Scalar.addi c0_i32_318 v493
  v494.toNat
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off59 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off60 (v138 : BitVec 32) : Fin 3 → Nat :=
  let c256_i32_312 : BitVec 32 := 256#32
  let v492 : BitVec 32 := Scalar.addi v138 c256_i32_312
  let c0_i32_322 : BitVec 32 := 0#32
  let c0_i32_323 : BitVec 32 := 0#32
  ![v492.toNat, 0, 0]
def k0_cond32 (d0 : Dev nD) (v155 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_88 : BitVec 32 := 5#32
  let v154 : BitVec 1 := Scalar.cmpi .ne v2 c5_i32_88
  let c256_i32_90 : BitVec 32 := 256#32
  let v156 : BitVec 1 := Scalar.cmpi .sgt v155 c256_i32_90
  let v157 : BitVec 1 := Scalar.andi v154 v156
  let v158 : BitVec 32 := Scalar.extui v157
  let c0_i32_91 : BitVec 32 := 0#32
  let v159 : BitVec 1 := Scalar.cmpi .ne v158 c0_i32_91
  v159

def k0_chk24 (d0 : Dev nD) (v138 : BitVec 32) (v155 : BitVec 32) : Prop :=
  (∀ (k0_h32 : k0_cond32 d0 v155 = 1#1), ∀ a, (k0_off60 v138) a + S128x8x128.size a ≤ S2432x8x128.size a)
theorem k0_off60_inb : ∀ (d0 : Dev nD) (v138 : BitVec 32) (v155 : BitVec 32) (k0_hw24 : k0_chk24 d0 v138 v155), ∀ (k0_h32 : k0_cond32 d0 v155 = 1#1), ∀ a, (k0_off60 v138) a + S128x8x128.size a ≤ S2432x8x128.size a := fun d0 v138 v155 k0_hw24 k0_h32 => k0_hw24 k0_h32

def k0_dev26 : Nat :=
  let c0_i32_318 : BitVec 32 := 0#32
  let c5_i32_316 : BitVec 32 := 5#32
  let c1_i32_317 : BitVec 32 := 1#32
  let v493 : BitVec 32 := Scalar.muli c5_i32_316 c1_i32_317
  let v494 : BitVec 32 := Scalar.addi c0_i32_318 v493
  v494.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_92 : BitVec 32 := 6#32
  let v161 : BitVec 1 := Scalar.cmpi .eq v2 c6_i32_92
  let v162 : BitVec 32 := Scalar.extui v161
  let c0_i32_93 : BitVec 32 := 0#32
  let v163 : BitVec 1 := Scalar.cmpi .ne v162 c0_i32_93
  v163

def k0_off61 (v160 : BitVec 32) : Fin 3 → Nat :=
  let v492 : Index := Scalar.indexCast v160
  let c0_312 : Index := 0#32
  let c0_313 : Index := 0#32
  ![v492.toNat, 0, 0]

def k0_chk25 (d0 : Dev nD) (v160 : BitVec 32) : Prop :=
  (∀ (k0_h33 : k0_cond33 d0 = 1#1), ∀ a, (k0_off61 v160) a + S384x8x128.size a ≤ S2432x8x128.size a)
theorem k0_off61_inb : ∀ (d0 : Dev nD) (v160 : BitVec 32) (k0_hw25 : k0_chk25 d0 v160), ∀ (k0_h33 : k0_cond33 d0 = 1#1), ∀ a, (k0_off61 v160) a + S384x8x128.size a ≤ S2432x8x128.size a := fun d0 v160 k0_hw25 k0_h33 => k0_hw25 k0_h33

def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off63 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off64 (v160 : BitVec 32) : Fin 3 → Nat :=
  let c0_i32_312 : BitVec 32 := 0#32
  let v492 : BitVec 32 := Scalar.addi v160 c0_i32_312
  let c0_i32_322 : BitVec 32 := 0#32
  let c0_i32_323 : BitVec 32 := 0#32
  ![v492.toNat, 0, 0]
def k0_cond34 (d0 : Dev nD) (v165 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_94 : BitVec 32 := 6#32
  let v164 : BitVec 1 := Scalar.cmpi .ne v2 c6_i32_94
  let c0_i32_96 : BitVec 32 := 0#32
  let v166 : BitVec 1 := Scalar.cmpi .sgt v165 c0_i32_96
  let v167 : BitVec 1 := Scalar.andi v164 v166
  let v168 : BitVec 32 := Scalar.extui v167
  let c0_i32_97 : BitVec 32 := 0#32
  let v169 : BitVec 1 := Scalar.cmpi .ne v168 c0_i32_97
  v169

def k0_chk26 (d0 : Dev nD) (v160 : BitVec 32) (v165 : BitVec 32) : Prop :=
  (∀ (k0_h34 : k0_cond34 d0 v165 = 1#1), ∀ a, (k0_off64 v160) a + S128x8x128.size a ≤ S2432x8x128.size a)
theorem k0_off64_inb : ∀ (d0 : Dev nD) (v160 : BitVec 32) (v165 : BitVec 32) (k0_hw26 : k0_chk26 d0 v160 v165), ∀ (k0_h34 : k0_cond34 d0 v165 = 1#1), ∀ a, (k0_off64 v160) a + S128x8x128.size a ≤ S2432x8x128.size a := fun d0 v160 v165 k0_hw26 k0_h34 => k0_hw26 k0_h34

def k0_dev27 : Nat :=
  let c0_i32_318 : BitVec 32 := 0#32
  let c6_i32_316 : BitVec 32 := 6#32
  let c1_i32_317 : BitVec 32 := 1#32
  let v493 : BitVec 32 := Scalar.muli c6_i32_316 c1_i32_317
  let v494 : BitVec 32 := Scalar.addi c0_i32_318 v493
  v494.toNat
def k0_off65 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off66 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off67 (v160 : BitVec 32) : Fin 3 → Nat :=
  let c128_i32_312 : BitVec 32 := 128#32
  let v492 : BitVec 32 := Scalar.addi v160 c128_i32_312
  let c0_i32_322 : BitVec 32 := 0#32
  let c0_i32_323 : BitVec 32 := 0#32
  ![v492.toNat, 0, 0]
def k0_cond35 (d0 : Dev nD) (v171 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_98 : BitVec 32 := 6#32
  let v170 : BitVec 1 := Scalar.cmpi .ne v2 c6_i32_98
  let c128_i32_100 : BitVec 32 := 128#32
  let v172 : BitVec 1 := Scalar.cmpi .sgt v171 c128_i32_100
  let v173 : BitVec 1 := Scalar.andi v170 v172
  let v174 : BitVec 32 := Scalar.extui v173
  let c0_i32_101 : BitVec 32 := 0#32
  let v175 : BitVec 1 := Scalar.cmpi .ne v174 c0_i32_101
  v175

def k0_chk27 (d0 : Dev nD) (v160 : BitVec 32) (v171 : BitVec 32) : Prop :=
  (∀ (k0_h35 : k0_cond35 d0 v171 = 1#1), ∀ a, (k0_off67 v160) a + S128x8x128.size a ≤ S2432x8x128.size a)
theorem k0_off67_inb : ∀ (d0 : Dev nD) (v160 : BitVec 32) (v171 : BitVec 32) (k0_hw27 : k0_chk27 d0 v160 v171), ∀ (k0_h35 : k0_cond35 d0 v171 = 1#1), ∀ a, (k0_off67 v160) a + S128x8x128.size a ≤ S2432x8x128.size a := fun d0 v160 v171 k0_hw27 k0_h35 => k0_hw27 k0_h35

def k0_dev28 : Nat :=
  let c0_i32_318 : BitVec 32 := 0#32
  let c6_i32_316 : BitVec 32 := 6#32
  let c1_i32_317 : BitVec 32 := 1#32
  let v493 : BitVec 32 := Scalar.muli c6_i32_316 c1_i32_317
  let v494 : BitVec 32 := Scalar.addi c0_i32_318 v493
  v494.toNat
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off69 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off70 (v160 : BitVec 32) : Fin 3 → Nat :=
  let c256_i32_312 : BitVec 32 := 256#32
  let v492 : BitVec 32 := Scalar.addi v160 c256_i32_312
  let c0_i32_322 : BitVec 32 := 0#32
  let c0_i32_323 : BitVec 32 := 0#32
  ![v492.toNat, 0, 0]
def k0_cond36 (d0 : Dev nD) (v177 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_102 : BitVec 32 := 6#32
  let v176 : BitVec 1 := Scalar.cmpi .ne v2 c6_i32_102
  let c256_i32_104 : BitVec 32 := 256#32
  let v178 : BitVec 1 := Scalar.cmpi .sgt v177 c256_i32_104
  let v179 : BitVec 1 := Scalar.andi v176 v178
  let v180 : BitVec 32 := Scalar.extui v179
  let c0_i32_105 : BitVec 32 := 0#32
  let v181 : BitVec 1 := Scalar.cmpi .ne v180 c0_i32_105
  v181

def k0_chk28 (d0 : Dev nD) (v160 : BitVec 32) (v177 : BitVec 32) : Prop :=
  (∀ (k0_h36 : k0_cond36 d0 v177 = 1#1), ∀ a, (k0_off70 v160) a + S128x8x128.size a ≤ S2432x8x128.size a)
theorem k0_off70_inb : ∀ (d0 : Dev nD) (v160 : BitVec 32) (v177 : BitVec 32) (k0_hw28 : k0_chk28 d0 v160 v177), ∀ (k0_h36 : k0_cond36 d0 v177 = 1#1), ∀ a, (k0_off70 v160) a + S128x8x128.size a ≤ S2432x8x128.size a := fun d0 v160 v177 k0_hw28 k0_h36 => k0_hw28 k0_h36

def k0_dev29 : Nat :=
  let c0_i32_318 : BitVec 32 := 0#32
  let c6_i32_316 : BitVec 32 := 6#32
  let c1_i32_317 : BitVec 32 := 1#32
  let v493 : BitVec 32 := Scalar.muli c6_i32_316 c1_i32_317
  let v494 : BitVec 32 := Scalar.addi c0_i32_318 v493
  v494.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_106 : BitVec 32 := 7#32
  let v183 : BitVec 1 := Scalar.cmpi .eq v2 c7_i32_106
  let v184 : BitVec 32 := Scalar.extui v183
  let c0_i32_107 : BitVec 32 := 0#32
  let v185 : BitVec 1 := Scalar.cmpi .ne v184 c0_i32_107
  v185

def k0_off71 (v182 : BitVec 32) : Fin 3 → Nat :=
  let v492 : Index := Scalar.indexCast v182
  let c0_312 : Index := 0#32
  let c0_313 : Index := 0#32
  ![v492.toNat, 0, 0]

def k0_chk29 (d0 : Dev nD) (v182 : BitVec 32) : Prop :=
  (∀ (k0_h37 : k0_cond37 d0 = 1#1), ∀ a, (k0_off71 v182) a + S384x8x128.size a ≤ S2432x8x128.size a)
theorem k0_off71_inb : ∀ (d0 : Dev nD) (v182 : BitVec 32) (k0_hw29 : k0_chk29 d0 v182), ∀ (k0_h37 : k0_cond37 d0 = 1#1), ∀ a, (k0_off71 v182) a + S384x8x128.size a ≤ S2432x8x128.size a := fun d0 v182 k0_hw29 k0_h37 => k0_hw29 k0_h37

def k0_off72 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off73 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off74 (v182 : BitVec 32) : Fin 3 → Nat :=
  let c0_i32_312 : BitVec 32 := 0#32
  let v492 : BitVec 32 := Scalar.addi v182 c0_i32_312
  let c0_i32_322 : BitVec 32 := 0#32
  let c0_i32_323 : BitVec 32 := 0#32
  ![v492.toNat, 0, 0]
def k0_cond38 (d0 : Dev nD) (v187 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_108 : BitVec 32 := 7#32
  let v186 : BitVec 1 := Scalar.cmpi .ne v2 c7_i32_108
  let c0_i32_110 : BitVec 32 := 0#32
  let v188 : BitVec 1 := Scalar.cmpi .sgt v187 c0_i32_110
  let v189 : BitVec 1 := Scalar.andi v186 v188
  let v190 : BitVec 32 := Scalar.extui v189
  let c0_i32_111 : BitVec 32 := 0#32
  let v191 : BitVec 1 := Scalar.cmpi .ne v190 c0_i32_111
  v191

def k0_chk30 (d0 : Dev nD) (v182 : BitVec 32) (v187 : BitVec 32) : Prop :=
  (∀ (k0_h38 : k0_cond38 d0 v187 = 1#1), ∀ a, (k0_off74 v182) a + S128x8x128.size a ≤ S2432x8x128.size a)
theorem k0_off74_inb : ∀ (d0 : Dev nD) (v182 : BitVec 32) (v187 : BitVec 32) (k0_hw30 : k0_chk30 d0 v182 v187), ∀ (k0_h38 : k0_cond38 d0 v187 = 1#1), ∀ a, (k0_off74 v182) a + S128x8x128.size a ≤ S2432x8x128.size a := fun d0 v182 v187 k0_hw30 k0_h38 => k0_hw30 k0_h38

def k0_dev30 : Nat :=
  let c0_i32_318 : BitVec 32 := 0#32
  let c7_i32_316 : BitVec 32 := 7#32
  let c1_i32_317 : BitVec 32 := 1#32
  let v493 : BitVec 32 := Scalar.muli c7_i32_316 c1_i32_317
  let v494 : BitVec 32 := Scalar.addi c0_i32_318 v493
  v494.toNat
def k0_off75 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off76 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off77 (v182 : BitVec 32) : Fin 3 → Nat :=
  let c128_i32_312 : BitVec 32 := 128#32
  let v492 : BitVec 32 := Scalar.addi v182 c128_i32_312
  let c0_i32_322 : BitVec 32 := 0#32
  let c0_i32_323 : BitVec 32 := 0#32
  ![v492.toNat, 0, 0]
def k0_cond39 (d0 : Dev nD) (v193 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_112 : BitVec 32 := 7#32
  let v192 : BitVec 1 := Scalar.cmpi .ne v2 c7_i32_112
  let c128_i32_114 : BitVec 32 := 128#32
  let v194 : BitVec 1 := Scalar.cmpi .sgt v193 c128_i32_114
  let v195 : BitVec 1 := Scalar.andi v192 v194
  let v196 : BitVec 32 := Scalar.extui v195
  let c0_i32_115 : BitVec 32 := 0#32
  let v197 : BitVec 1 := Scalar.cmpi .ne v196 c0_i32_115
  v197

def k0_chk31 (d0 : Dev nD) (v182 : BitVec 32) (v193 : BitVec 32) : Prop :=
  (∀ (k0_h39 : k0_cond39 d0 v193 = 1#1), ∀ a, (k0_off77 v182) a + S128x8x128.size a ≤ S2432x8x128.size a)
theorem k0_off77_inb : ∀ (d0 : Dev nD) (v182 : BitVec 32) (v193 : BitVec 32) (k0_hw31 : k0_chk31 d0 v182 v193), ∀ (k0_h39 : k0_cond39 d0 v193 = 1#1), ∀ a, (k0_off77 v182) a + S128x8x128.size a ≤ S2432x8x128.size a := fun d0 v182 v193 k0_hw31 k0_h39 => k0_hw31 k0_h39

def k0_dev31 : Nat :=
  let c0_i32_318 : BitVec 32 := 0#32
  let c7_i32_316 : BitVec 32 := 7#32
  let c1_i32_317 : BitVec 32 := 1#32
  let v493 : BitVec 32 := Scalar.muli c7_i32_316 c1_i32_317
  let v494 : BitVec 32 := Scalar.addi c0_i32_318 v493
  v494.toNat
def k0_off78 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off79 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off80 (v182 : BitVec 32) : Fin 3 → Nat :=
  let c256_i32_312 : BitVec 32 := 256#32
  let v492 : BitVec 32 := Scalar.addi v182 c256_i32_312
  let c0_i32_322 : BitVec 32 := 0#32
  let c0_i32_323 : BitVec 32 := 0#32
  ![v492.toNat, 0, 0]
def k0_cond40 (d0 : Dev nD) (v199 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_116 : BitVec 32 := 7#32
  let v198 : BitVec 1 := Scalar.cmpi .ne v2 c7_i32_116
  let c256_i32_118 : BitVec 32 := 256#32
  let v200 : BitVec 1 := Scalar.cmpi .sgt v199 c256_i32_118
  let v201 : BitVec 1 := Scalar.andi v198 v200
  let v202 : BitVec 32 := Scalar.extui v201
  let c0_i32_119 : BitVec 32 := 0#32
  let v203 : BitVec 1 := Scalar.cmpi .ne v202 c0_i32_119
  v203

def k0_chk32 (d0 : Dev nD) (v182 : BitVec 32) (v199 : BitVec 32) : Prop :=
  (∀ (k0_h40 : k0_cond40 d0 v199 = 1#1), ∀ a, (k0_off80 v182) a + S128x8x128.size a ≤ S2432x8x128.size a)
theorem k0_off80_inb : ∀ (d0 : Dev nD) (v182 : BitVec 32) (v199 : BitVec 32) (k0_hw32 : k0_chk32 d0 v182 v199), ∀ (k0_h40 : k0_cond40 d0 v199 = 1#1), ∀ a, (k0_off80 v182) a + S128x8x128.size a ≤ S2432x8x128.size a := fun d0 v182 v199 k0_hw32 k0_h40 => k0_hw32 k0_h40

def k0_dev32 : Nat :=
  let c0_i32_318 : BitVec 32 := 0#32
  let c7_i32_316 : BitVec 32 := 7#32
  let c1_i32_317 : BitVec 32 := 1#32
  let v493 : BitVec 32 := Scalar.muli c7_i32_316 c1_i32_317
  let v494 : BitVec 32 := Scalar.addi c0_i32_318 v493
  v494.toNat
abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2432x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x384x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x8 : Shape := ⟨2, ![8, 8]⟩
abbrev S19456x8x128 : Shape := ⟨3, ![19456, 8, 128]⟩
abbrev S8x2432x8x128 : Shape := ⟨4, ![8, 2432, 8, 128]⟩
abbrev S8x8x1 : Shape := ⟨3, ![8, 8, 1]⟩
abbrev S384 : Shape := ⟨1, ![384]⟩
abbrev S1x1x384 : Shape := ⟨3, ![1, 1, 384]⟩
abbrev S8x8x384 : Shape := ⟨3, ![8, 8, 384]⟩
abbrev S8 : Shape := ⟨1, ![8]⟩
abbrev S1x8x1 : Shape := ⟨3, ![1, 8, 1]⟩
abbrev S_ : Shape := ⟨0, ![]⟩
abbrev S8x8x384x1 : Shape := ⟨4, ![8, 8, 384, 1]⟩
abbrev S8x8x384x2 : Shape := ⟨4, ![8, 8, 384, 2]⟩
abbrev S8x8x384x8x128 : Shape := ⟨5, ![8, 8, 384, 8, 128]⟩
abbrev S64x384x8x128 : Shape := ⟨4, ![64, 384, 8, 128]⟩

abbrev nBuf : Space → Nat
  | .hbm => 33
  | .vmem => 0
  | .smem => 0
  | _ => 0

abbrev bufTy : (tb : Table) → Fin (tcTables nBuf tb) → BufTy
  | .hbm, ⟨0, _⟩ => ⟨S8x8, .i32⟩
  | .hbm, ⟨1, _⟩ => ⟨S8x8, .i32⟩
  | .hbm, ⟨2, _⟩ => ⟨S19456x8x128, .f32⟩
  | .hbm, ⟨3, _⟩ => ⟨S8x2432x8x128, .f32⟩
  | .hbm, ⟨4, _⟩ => ⟨S8x8, .i32⟩
  | .hbm, ⟨5, _⟩ => ⟨S8x8x1, .i32⟩
  | .hbm, ⟨6, _⟩ => ⟨S384, .i32⟩
  | .hbm, ⟨7, _⟩ => ⟨S1x1x384, .i32⟩
  | .hbm, ⟨8, _⟩ => ⟨S8x8x384, .i32⟩
  | .hbm, ⟨9, _⟩ => ⟨S8x8x384, .i32⟩
  | .hbm, ⟨10, _⟩ => ⟨S8x8x384, .i32⟩
  | .hbm, ⟨11, _⟩ => ⟨S8, .i32⟩
  | .hbm, ⟨12, _⟩ => ⟨S1x8x1, .i32⟩
  | .hbm, ⟨13, _⟩ => ⟨S8x8x384, .i32⟩
  | .hbm, ⟨14, _⟩ => ⟨S_, .i32⟩
  | .hbm, ⟨15, _⟩ => ⟨S8x8x384, .i32⟩
  | .hbm, ⟨16, _⟩ => ⟨S8x8x384, .i1⟩
  | .hbm, ⟨17, _⟩ => ⟨S_, .i32⟩
  | .hbm, ⟨18, _⟩ => ⟨S8x8x384, .i32⟩
  | .hbm, ⟨19, _⟩ => ⟨S8x8x384, .i32⟩
  | .hbm, ⟨20, _⟩ => ⟨S8x8x384, .i32⟩
  | .hbm, ⟨21, _⟩ => ⟨S_, .i32⟩
  | .hbm, ⟨22, _⟩ => ⟨S8x8x384, .i32⟩
  | .hbm, ⟨23, _⟩ => ⟨S8x8x384, .i1⟩
  | .hbm, ⟨24, _⟩ => ⟨S_, .i32⟩
  | .hbm, ⟨25, _⟩ => ⟨S8x8x384, .i32⟩
  | .hbm, ⟨26, _⟩ => ⟨S8x8x384, .i32⟩
  | .hbm, ⟨27, _⟩ => ⟨S8x8x384, .i32⟩
  | .hbm, ⟨28, _⟩ => ⟨S8x8x384x1, .i32⟩
  | .hbm, ⟨29, _⟩ => ⟨S8x8x384x1, .i32⟩
  | .hbm, ⟨30, _⟩ => ⟨S8x8x384x2, .i32⟩
  | .hbm, ⟨31, _⟩ => ⟨S8x8x384x8x128, .f32⟩
  | .hbm, ⟨32, _⟩ => ⟨S64x384x8x128, .f32⟩
  | _, _ => ⟨S8x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Combine.lean ====
abbrev S1x8 : Shape := ⟨2, ![1, 8]⟩
abbrev S2432x8x128 : Shape := ⟨3, ![2432, 8, 128]⟩
abbrev S8 : Shape := ⟨1, ![8]⟩
abbrev S8x1 : Shape := ⟨2, ![8, 1]⟩
abbrev S1x1 : Shape := ⟨2, ![1, 1]⟩
abbrev S8x384x8x128 : Shape := ⟨4, ![8, 384, 8, 128]⟩
abbrev S8x3 : Shape := ⟨2, ![8, 3]⟩
abbrev S_ : Shape := ⟨0, ![]⟩
abbrev S1 : Shape := ⟨1, ![1]⟩
abbrev S384x8x128 : Shape := ⟨3, ![384, 8, 128]⟩
abbrev S1x384x8x128 : Shape := ⟨4, ![1, 384, 8, 128]⟩
abbrev S1x128x8x128 : Shape := ⟨4, ![1, 128, 8, 128]⟩
abbrev S128x8x128 : Shape := ⟨3, ![128, 8, 128]⟩

abbrev nBuf : Space → Nat
  | .hbm => 9
  | .vmem => 3
  | .smem => 3
  | _ => 0

abbrev bufTy : (tb : Table) → Fin (tcTables nBuf tb) → BufTy
  | .hbm, ⟨0, _⟩ => ⟨S1x8, .i32⟩
  | .hbm, ⟨1, _⟩ => ⟨S1x8, .i32⟩
  | .hbm, ⟨2, _⟩ => ⟨S2432x8x128, .f32⟩
  | .hbm, ⟨3, _⟩ => ⟨S8, .i32⟩
  | .hbm, ⟨4, _⟩ => ⟨S8x1, .i32⟩
  | .hbm, ⟨5, _⟩ => ⟨S8x1, .i32⟩
  | .hbm, ⟨6, _⟩ => ⟨S8, .i32⟩
  | .hbm, ⟨7, _⟩ => ⟨S8, .i32⟩
  | .hbm, ⟨8, _⟩ => ⟨S8x384x8x128, .f32⟩
  | .local _ .vmem, ⟨0, _⟩ => ⟨S1x1, .i32⟩
  | .local _ .vmem, ⟨1, _⟩ => ⟨S2432x8x128, .f32⟩
  | .local _ .vmem, ⟨2, _⟩ => ⟨S8x384x8x128, .f32⟩
  | .local _ .smem, ⟨0, _⟩ => ⟨S8, .i32⟩
  | .local _ .smem, ⟨1, _⟩ => ⟨S8, .i32⟩
  | .local _ .smem, ⟨2, _⟩ => ⟨S8, .i32⟩
  | _, _ => ⟨S1x8, .i32⟩

abbrev bufScoped : (cs : CoreSpace) → Fin (nBuf (.core cs)) → Bool
  | .vmem, ⟨1, _⟩ => true
  | .vmem, ⟨2, _⟩ => true
  | .smem, ⟨0, _⟩ => true
  | .smem, ⟨1, _⟩ => true
  | .smem, ⟨2, _⟩ => true
  | _, _ => false

abbrev semScoped : Fin 2 → Bool
  | ⟨0, _⟩ => false
  | ⟨1, _⟩ => false
  | _ => false

abbrev dmaSemScoped : Fin 56 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 2 56 bufScoped semScoped dmaSemScoped tileCredit tileCredit_eq_zero tileCredit_pos).withBarriers [(2, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v3_stage : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev aa0_recv : DmaSem sig := 0
abbrev aa0_send : DmaSem sig := 1
abbrev aa0_copy : DmaSem sig := 2
abbrev cc0_sem0_0 : DmaSem sig := 3
abbrev cc0_sem1_0 : DmaSem sig := 4
abbrev cc0_sem2_0 : DmaSem sig := 5
abbrev cc0_sem3_0 : DmaSem sig := 6
abbrev cc0_sem4_0 : DmaSem sig := 7
abbrev aa0_barrier : Sem sig := 0
abbrev barrier2 : Sem sig := 1

abbrev nD : Nat := 8
abbrev τ : Topo := Topo.v7x

variable {F : FTy → Type} [FloatOps F]

abbrev aa0_mem : Fin 1 × Fin 8 → Dev nD := fun q => (![![0, 1, 2, 3, 4, 5, 6, 7]] : Fin 1 → Fin 8 → Dev nD) q.1 q.2
abbrev aa0_pos : Dev nD → Fin 1 × Fin 8 := fun c => ((![0, 0, 0, 0, 0, 0, 0, 0] : Fin 8 → Fin 1) c, (![0, 1, 2, 3, 4, 5, 6, 7] : Fin 8 → Fin 8) c)

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_315 : BitVec 32 := 0#32
  let c0_i32_313 : BitVec 32 := 0#32
  let c1_i32_314 : BitVec 32 := 1#32
  let v492 : BitVec 32 := Scalar.muli c0_i32_313 c1_i32_314
  let v493 : BitVec 32 := Scalar.addi c0_i32_315 v492
  v493.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_315 : BitVec 32 := 0#32
  let c1_i32_313 : BitVec 32 := 1#32
  let c1_i32_314 : BitVec 32 := 1#32
  let v492 : BitVec 32 := Scalar.muli c1_i32_313 c1_i32_314
  let v493 : BitVec 32 := Scalar.addi c0_i32_315 v492
  v493.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_315 : BitVec 32 := 0#32
  let c2_i32_313 : BitVec 32 := 2#32
  let c1_i32_314 : BitVec 32 := 1#32
  let v492 : BitVec 32 := Scalar.muli c2_i32_313 c1_i32_314
  let v493 : BitVec 32 := Scalar.addi c0_i32_315 v492
  v493.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_315 : BitVec 32 := 0#32
  let c3_i32_313 : BitVec 32 := 3#32
  let c1_i32_314 : BitVec 32 := 1#32
  let v492 : BitVec 32 := Scalar.muli c3_i32_313 c1_i32_314
  let v493 : BitVec 32 := Scalar.addi c0_i32_315 v492
  v493.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_315 : BitVec 32 := 0#32
  let c4_i32_313 : BitVec 32 := 4#32
  let c1_i32_314 : BitVec 32 := 1#32
  let v492 : BitVec 32 := Scalar.muli c4_i32_313 c1_i32_314
  let v493 : BitVec 32 := Scalar.addi c0_i32_315 v492
  v493.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_315 : BitVec 32 := 0#32
  let c5_i32_313 : BitVec 32 := 5#32
  let c1_i32_314 : BitVec 32 := 1#32
  let v492 : BitVec 32 := Scalar.muli c5_i32_313 c1_i32_314
  let v493 : BitVec 32 := Scalar.addi c0_i32_315 v492
  v493.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_315 : BitVec 32 := 0#32
  let c6_i32_313 : BitVec 32 := 6#32
  let c1_i32_314 : BitVec 32 := 1#32
  let v492 : BitVec 32 := Scalar.muli c6_i32_313 c1_i32_314
  let v493 : BitVec 32 := Scalar.addi c0_i32_315 v492
  v493.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_315 : BitVec 32 := 0#32
  let c7_i32_313 : BitVec 32 := 7#32
  let c1_i32_314 : BitVec 32 := 1#32
  let v492 : BitVec 32 := Scalar.muli c7_i32_313 c1_i32_314
  let v493 : BitVec 32 := Scalar.addi c0_i32_315 v492
  v493.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v29 : BitVec 1 := Scalar.cmpi .eq v2 c0_i32_10
  let v30 : BitVec 32 := Scalar.extui v29
  let c0_i32_11 : BitVec 32 := 0#32
  let v31 : BitVec 1 := Scalar.cmpi .ne v30 c0_i32_11
  v31

def k0_off1 (v28 : BitVec 32) : Fin 3 → Nat :=
  let v492 : Index := Scalar.indexCast v28
  let c0_312 : Index := 0#32
  let c0_313 : Index := 0#32
  ![v492.toNat, 0, 0]

def k0_chk1 (d0 : Dev nD) (v28 : BitVec 32) : Prop :=
  (∀ (k0_h9 : k0_cond9 d0 = 1#1), ∀ a, (k0_off1 v28) a + S384x8x128.size a ≤ S2432x8x128.size a)
theorem k0_off1_inb : ∀ (d0 : Dev nD) (v28 : BitVec 32) (k0_hw1 : k0_chk1 d0 v28), ∀ (k0_h9 : k0_cond9 d0 = 1#1), ∀ a, (k0_off1 v28) a + S384x8x128.size a ≤ S2432x8x128.size a := fun d0 v28 k0_hw1 k0_h9 => k0_hw1 k0_h9

def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off4 (v28 : BitVec 32) : Fin 3 → Nat :=
  let c0_i32_312 : BitVec 32 := 0#32
  let v492 : BitVec 32 := Scalar.addi v28 c0_i32_312
  let c0_i32_322 : BitVec 32 := 0#32
  let c0_i32_323 : BitVec 32 := 0#32
  ![v492.toNat, 0, 0]
def k0_cond10 (d0 : Dev nD) (v33 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v32 : BitVec 1 := Scalar.cmpi .ne v2 c0_i32_12
  let c0_i32_14 : BitVec 32 := 0#32
  let v34 : BitVec 1 := Scalar.cmpi .sgt v33 c0_i32_14
  let v35 : BitVec 1 := Scalar.andi v32 v34
  let v36 : BitVec 32 := Scalar.extui v35
  let c0_i32_15 : BitVec 32 := 0#32
  let v37 : BitVec 1 := Scalar.cmpi .ne v36 c0_i32_15
  v37

def k0_chk2 (d0 : Dev nD) (v28 : BitVec 32) (v33 : BitVec 32) : Prop :=
  (∀ (k0_h10 : k0_cond10 d0 v33 = 1#1), ∀ a, (k0_off4 v28) a + S128x8x128.size a ≤ S2432x8x128.size a)
theorem k0_off4_inb : ∀ (d0 : Dev nD) (v28 : BitVec 32) (v33 : BitVec 32) (k0_hw2 : k0_chk2 d0 v28 v33), ∀ (k0_h10 : k0_cond10 d0 v33 = 1#1), ∀ a, (k0_off4 v28) a + S128x8x128.size a ≤ S2432x8x128.size a := fun d0 v28 v33 k0_hw2 k0_h10 => k0_hw2 k0_h10

def k0_dev9 : Nat :=
  let c0_i32_318 : BitVec 32 := 0#32
  let c0_i32_316 : BitVec 32 := 0#32
  let c1_i32_317 : BitVec 32 := 1#32
  let v493 : BitVec 32 := Scalar.muli c0_i32_316 c1_i32_317
  let v494 : BitVec 32 := Scalar.addi c0_i32_318 v493
  v494.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off7 (v28 : BitVec 32) : Fin 3 → Nat :=
  let c128_i32_312 : BitVec 32 := 128#32
  let v492 : BitVec 32 := Scalar.addi v28 c128_i32_312
  let c0_i32_322 : BitVec 32 := 0#32
  let c0_i32_323 : BitVec 32 := 0#32
  ![v492.toNat, 0, 0]
def k0_cond11 (d0 : Dev nD) (v39 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_16 : BitVec 32 := 0#32
  let v38 : BitVec 1 := Scalar.cmpi .ne v2 c0_i32_16
  let c128_i32 : BitVec 32 := 128#32
  let v40 : BitVec 1 := Scalar.cmpi .sgt v39 c128_i32
  let v41 : BitVec 1 := Scalar.andi v38 v40
  let v42 : BitVec 32 := Scalar.extui v41
  let c0_i32_18 : BitVec 32 := 0#32
  let v43 : BitVec 1 := Scalar.cmpi .ne v42 c0_i32_18
  v43

def k0_chk3 (d0 : Dev nD) (v28 : BitVec 32) (v39 : BitVec 32) : Prop :=
  (∀ (k0_h11 : k0_cond11 d0 v39 = 1#1), ∀ a, (k0_off7 v28) a + S128x8x128.size a ≤ S2432x8x128.size a)
theorem k0_off7_inb : ∀ (d0 : Dev nD) (v28 : BitVec 32) (v39 : BitVec 32) (k0_hw3 : k0_chk3 d0 v28 v39), ∀ (k0_h11 : k0_cond11 d0 v39 = 1#1), ∀ a, (k0_off7 v28) a + S128x8x128.size a ≤ S2432x8x128.size a := fun d0 v28 v39 k0_hw3 k0_h11 => k0_hw3 k0_h11

def k0_dev10 : Nat :=
  let c0_i32_318 : BitVec 32 := 0#32
  let c0_i32_316 : BitVec 32 := 0#32
  let c1_i32_317 : BitVec 32 := 1#32
  let v493 : BitVec 32 := Scalar.muli c0_i32_316 c1_i32_317
  let v494 : BitVec 32 := Scalar.addi c0_i32_318 v493
  v494.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off10 (v28 : BitVec 32) : Fin 3 → Nat :=
  let c256_i32_312 : BitVec 32 := 256#32
  let v492 : BitVec 32 := Scalar.addi v28 c256_i32_312
  let c0_i32_322 : BitVec 32 := 0#32
  let c0_i32_323 : BitVec 32 := 0#32
  ![v492.toNat, 0, 0]
def k0_cond12 (d0 : Dev nD) (v45 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v44 : BitVec 1 := Scalar.cmpi .ne v2 c0_i32_19
  let c256_i32 : BitVec 32 := 256#32
  let v46 : BitVec 1 := Scalar.cmpi .sgt v45 c256_i32
  let v47 : BitVec 1 := Scalar.andi v44 v46
  let v48 : BitVec 32 := Scalar.extui v47
  let c0_i32_21 : BitVec 32 := 0#32
  let v49 : BitVec 1 := Scalar.cmpi .ne v48 c0_i32_21
  v49

def k0_chk4 (d0 : Dev nD) (v28 : BitVec 32) (v45 : BitVec 32) : Prop :=
  (∀ (k0_h12 : k0_cond12 d0 v45 = 1#1), ∀ a, (k0_off10 v28) a + S128x8x128.size a ≤ S2432x8x128.size a)
theorem k0_off10_inb : ∀ (d0 : Dev nD) (v28 : BitVec 32) (v45 : BitVec 32) (k0_hw4 : k0_chk4 d0 v28 v45), ∀ (k0_h12 : k0_cond12 d0 v45 = 1#1), ∀ a, (k0_off10 v28) a + S128x8x128.size a ≤ S2432x8x128.size a := fun d0 v28 v45 k0_hw4 k0_h12 => k0_hw4 k0_h12

def k0_dev11 : Nat :=
  let c0_i32_318 : BitVec 32 := 0#32
  let c0_i32_316 : BitVec 32 := 0#32
  let c1_i32_317 : BitVec 32 := 1#32
  let v493 : BitVec 32 := Scalar.muli c0_i32_316 c1_i32_317
  let v494 : BitVec 32 := Scalar.addi c0_i32_318 v493
  v494.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v51 : BitVec 1 := Scalar.cmpi .eq v2 c1_i32_22
  let v52 : BitVec 32 := Scalar.extui v51
  let c0_i32_23 : BitVec 32 := 0#32
  let v53 : BitVec 1 := Scalar.cmpi .ne v52 c0_i32_23
  v53

def k0_off11 (v50 : BitVec 32) : Fin 3 → Nat :=
  let v492 : Index := Scalar.indexCast v50
  let c0_312 : Index := 0#32
  let c0_313 : Index := 0#32
  ![v492.toNat, 0, 0]

def k0_chk5 (d0 : Dev nD) (v50 : BitVec 32) : Prop :=
  (∀ (k0_h13 : k0_cond13 d0 = 1#1), ∀ a, (k0_off11 v50) a + S384x8x128.size a ≤ S2432x8x128.size a)
theorem k0_off11_inb : ∀ (d0 : Dev nD) (v50 : BitVec 32) (k0_hw5 : k0_chk5 d0 v50), ∀ (k0_h13 : k0_cond13 d0 = 1#1), ∀ a, (k0_off11 v50) a + S384x8x128.size a ≤ S2432x8x128.size a := fun d0 v50 k0_hw5 k0_h13 => k0_hw5 k0_h13

def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off13 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off14 (v50 : BitVec 32) : Fin 3 → Nat :=
  let c0_i32_312 : BitVec 32 := 0#32
  let v492 : BitVec 32 := Scalar.addi v50 c0_i32_312
  let c0_i32_322 : BitVec 32 := 0#32
  let c0_i32_323 : BitVec 32 := 0#32
  ![v492.toNat, 0, 0]
def k0_cond14 (d0 : Dev nD) (v55 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v54 : BitVec 1 := Scalar.cmpi .ne v2 c1_i32_24
  let c0_i32_26 : BitVec 32 := 0#32
  let v56 : BitVec 1 := Scalar.cmpi .sgt v55 c0_i32_26
  let v57 : BitVec 1 := Scalar.andi v54 v56
  let v58 : BitVec 32 := Scalar.extui v57
  let c0_i32_27 : BitVec 32 := 0#32
  let v59 : BitVec 1 := Scalar.cmpi .ne v58 c0_i32_27
  v59

def k0_chk6 (d0 : Dev nD) (v50 : BitVec 32) (v55 : BitVec 32) : Prop :=
  (∀ (k0_h14 : k0_cond14 d0 v55 = 1#1), ∀ a, (k0_off14 v50) a + S128x8x128.size a ≤ S2432x8x128.size a)
theorem k0_off14_inb : ∀ (d0 : Dev nD) (v50 : BitVec 32) (v55 : BitVec 32) (k0_hw6 : k0_chk6 d0 v50 v55), ∀ (k0_h14 : k0_cond14 d0 v55 = 1#1), ∀ a, (k0_off14 v50) a + S128x8x128.size a ≤ S2432x8x128.size a := fun d0 v50 v55 k0_hw6 k0_h14 => k0_hw6 k0_h14

def k0_dev12 : Nat :=
  let c0_i32_318 : BitVec 32 := 0#32
  let c1_i32_316 : BitVec 32 := 1#32
  let c1_i32_317 : BitVec 32 := 1#32
  let v493 : BitVec 32 := Scalar.muli c1_i32_316 c1_i32_317
  let v494 : BitVec 32 := Scalar.addi c0_i32_318 v493
  v494.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off17 (v50 : BitVec 32) : Fin 3 → Nat :=
  let c128_i32_312 : BitVec 32 := 128#32
  let v492 : BitVec 32 := Scalar.addi v50 c128_i32_312
  let c0_i32_322 : BitVec 32 := 0#32
  let c0_i32_323 : BitVec 32 := 0#32
  ![v492.toNat, 0, 0]
def k0_cond15 (d0 : Dev nD) (v61 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v60 : BitVec 1 := Scalar.cmpi .ne v2 c1_i32_28
  let c128_i32_30 : BitVec 32 := 128#32
  let v62 : BitVec 1 := Scalar.cmpi .sgt v61 c128_i32_30
  let v63 : BitVec 1 := Scalar.andi v60 v62
  let v64 : BitVec 32 := Scalar.extui v63
  let c0_i32_31 : BitVec 32 := 0#32
  let v65 : BitVec 1 := Scalar.cmpi .ne v64 c0_i32_31
  v65

def k0_chk7 (d0 : Dev nD) (v50 : BitVec 32) (v61 : BitVec 32) : Prop :=
  (∀ (k0_h15 : k0_cond15 d0 v61 = 1#1), ∀ a, (k0_off17 v50) a + S128x8x128.size a ≤ S2432x8x128.size a)
theorem k0_off17_inb : ∀ (d0 : Dev nD) (v50 : BitVec 32) (v61 : BitVec 32) (k0_hw7 : k0_chk7 d0 v50 v61), ∀ (k0_h15 : k0_cond15 d0 v61 = 1#1), ∀ a, (k0_off17 v50) a + S128x8x128.size a ≤ S2432x8x128.size a := fun d0 v50 v61 k0_hw7 k0_h15 => k0_hw7 k0_h15

def k0_dev13 : Nat :=
  let c0_i32_318 : BitVec 32 := 0#32
  let c1_i32_316 : BitVec 32 := 1#32
  let c1_i32_317 : BitVec 32 := 1#32
  let v493 : BitVec 32 := Scalar.muli c1_i32_316 c1_i32_317
  let v494 : BitVec 32 := Scalar.addi c0_i32_318 v493
  v494.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off20 (v50 : BitVec 32) : Fin 3 → Nat :=
  let c256_i32_312 : BitVec 32 := 256#32
  let v492 : BitVec 32 := Scalar.addi v50 c256_i32_312
  let c0_i32_322 : BitVec 32 := 0#32
  let c0_i32_323 : BitVec 32 := 0#32
  ![v492.toNat, 0, 0]
def k0_cond16 (d0 : Dev nD) (v67 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v66 : BitVec 1 := Scalar.cmpi .ne v2 c1_i32_32
  let c256_i32_34 : BitVec 32 := 256#32
  let v68 : BitVec 1 := Scalar.cmpi .sgt v67 c256_i32_34
  let v69 : BitVec 1 := Scalar.andi v66 v68
  let v70 : BitVec 32 := Scalar.extui v69
  let c0_i32_35 : BitVec 32 := 0#32
  let v71 : BitVec 1 := Scalar.cmpi .ne v70 c0_i32_35
  v71

def k0_chk8 (d0 : Dev nD) (v50 : BitVec 32) (v67 : BitVec 32) : Prop :=
  (∀ (k0_h16 : k0_cond16 d0 v67 = 1#1), ∀ a, (k0_off20 v50) a + S128x8x128.size a ≤ S2432x8x128.size a)
theorem k0_off20_inb : ∀ (d0 : Dev nD) (v50 : BitVec 32) (v67 : BitVec 32) (k0_hw8 : k0_chk8 d0 v50 v67), ∀ (k0_h16 : k0_cond16 d0 v67 = 1#1), ∀ a, (k0_off20 v50) a + S128x8x128.size a ≤ S2432x8x128.size a := fun d0 v50 v67 k0_hw8 k0_h16 => k0_hw8 k0_h16

def k0_dev14 : Nat :=
  let c0_i32_318 : BitVec 32 := 0#32
  let c1_i32_316 : BitVec 32 := 1#32
  let c1_i32_317 : BitVec 32 := 1#32
  let v493 : BitVec 32 := Scalar.muli c1_i32_316 c1_i32_317
  let v494 : BitVec 32 := Scalar.addi c0_i32_318 v493
  v494.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_36 : BitVec 32 := 2#32
  let v73 : BitVec 1 := Scalar.cmpi .eq v2 c2_i32_36
  let v74 : BitVec 32 := Scalar.extui v73
  let c0_i32_37 : BitVec 32 := 0#32
  let v75 : BitVec 1 := Scalar.cmpi .ne v74 c0_i32_37
  v75

def k0_off21 (v72 : BitVec 32) : Fin 3 → Nat :=
  let v492 : Index := Scalar.indexCast v72
  let c0_312 : Index := 0#32
  let c0_313 : Index := 0#32
  ![v492.toNat, 0, 0]

def k0_chk9 (d0 : Dev nD) (v72 : BitVec 32) : Prop :=
  (∀ (k0_h17 : k0_cond17 d0 = 1#1), ∀ a, (k0_off21 v72) a + S384x8x128.size a ≤ S2432x8x128.size a)
theorem k0_off21_inb : ∀ (d0 : Dev nD) (v72 : BitVec 32) (k0_hw9 : k0_chk9 d0 v72), ∀ (k0_h17 : k0_cond17 d0 = 1#1), ∀ a, (k0_off21 v72) a + S384x8x128.size a ≤ S2432x8x128.size a := fun d0 v72 k0_hw9 k0_h17 => k0_hw9 k0_h17

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off24 (v72 : BitVec 32) : Fin 3 → Nat :=
  let c0_i32_312 : BitVec 32 := 0#32
  let v492 : BitVec 32 := Scalar.addi v72 c0_i32_312
  let c0_i32_322 : BitVec 32 := 0#32
  let c0_i32_323 : BitVec 32 := 0#32
  ![v492.toNat, 0, 0]
def k0_cond18 (d0 : Dev nD) (v77 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v76 : BitVec 1 := Scalar.cmpi .ne v2 c2_i32_38
  let c0_i32_40 : BitVec 32 := 0#32
  let v78 : BitVec 1 := Scalar.cmpi .sgt v77 c0_i32_40
  let v79 : BitVec 1 := Scalar.andi v76 v78
  let v80 : BitVec 32 := Scalar.extui v79
  let c0_i32_41 : BitVec 32 := 0#32
  let v81 : BitVec 1 := Scalar.cmpi .ne v80 c0_i32_41
  v81

def k0_chk10 (d0 : Dev nD) (v72 : BitVec 32) (v77 : BitVec 32) : Prop :=
  (∀ (k0_h18 : k0_cond18 d0 v77 = 1#1), ∀ a, (k0_off24 v72) a + S128x8x128.size a ≤ S2432x8x128.size a)
theorem k0_off24_inb : ∀ (d0 : Dev nD) (v72 : BitVec 32) (v77 : BitVec 32) (k0_hw10 : k0_chk10 d0 v72 v77), ∀ (k0_h18 : k0_cond18 d0 v77 = 1#1), ∀ a, (k0_off24 v72) a + S128x8x128.size a ≤ S2432x8x128.size a := fun d0 v72 v77 k0_hw10 k0_h18 => k0_hw10 k0_h18

def k0_dev15 : Nat :=
  let c0_i32_318 : BitVec 32 := 0#32
  let c2_i32_316 : BitVec 32 := 2#32
  let c1_i32_317 : BitVec 32 := 1#32
  let v493 : BitVec 32 := Scalar.muli c2_i32_316 c1_i32_317
  let v494 : BitVec 32 := Scalar.addi c0_i32_318 v493
  v494.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off26 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off27 (v72 : BitVec 32) : Fin 3 → Nat :=
  let c128_i32_312 : BitVec 32 := 128#32
  let v492 : BitVec 32 := Scalar.addi v72 c128_i32_312
  let c0_i32_322 : BitVec 32 := 0#32
  let c0_i32_323 : BitVec 32 := 0#32
  ![v492.toNat, 0, 0]
def k0_cond19 (d0 : Dev nD) (v83 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v82 : BitVec 1 := Scalar.cmpi .ne v2 c2_i32_42
  let c128_i32_44 : BitVec 32 := 128#32
  let v84 : BitVec 1 := Scalar.cmpi .sgt v83 c128_i32_44
  let v85 : BitVec 1 := Scalar.andi v82 v84
  let v86 : BitVec 32 := Scalar.extui v85
  let c0_i32_45 : BitVec 32 := 0#32
  let v87 : BitVec 1 := Scalar.cmpi .ne v86 c0_i32_45
  v87

def k0_chk11 (d0 : Dev nD) (v72 : BitVec 32) (v83 : BitVec 32) : Prop :=
  (∀ (k0_h19 : k0_cond19 d0 v83 = 1#1), ∀ a, (k0_off27 v72) a + S128x8x128.size a ≤ S2432x8x128.size a)
theorem k0_off27_inb : ∀ (d0 : Dev nD) (v72 : BitVec 32) (v83 : BitVec 32) (k0_hw11 : k0_chk11 d0 v72 v83), ∀ (k0_h19 : k0_cond19 d0 v83 = 1#1), ∀ a, (k0_off27 v72) a + S128x8x128.size a ≤ S2432x8x128.size a := fun d0 v72 v83 k0_hw11 k0_h19 => k0_hw11 k0_h19

def k0_dev16 : Nat :=
  let c0_i32_318 : BitVec 32 := 0#32
  let c2_i32_316 : BitVec 32 := 2#32
  let c1_i32_317 : BitVec 32 := 1#32
  let v493 : BitVec 32 := Scalar.muli c2_i32_316 c1_i32_317
  let v494 : BitVec 32 := Scalar.addi c0_i32_318 v493
  v494.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off29 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off30 (v72 : BitVec 32) : Fin 3 → Nat :=
  let c256_i32_312 : BitVec 32 := 256#32
  let v492 : BitVec 32 := Scalar.addi v72 c256_i32_312
  let c0_i32_322 : BitVec 32 := 0#32
  let c0_i32_323 : BitVec 32 := 0#32
  ![v492.toNat, 0, 0]
def k0_cond20 (d0 : Dev nD) (v89 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v88 : BitVec 1 := Scalar.cmpi .ne v2 c2_i32_46
  let c256_i32_48 : BitVec 32 := 256#32
  let v90 : BitVec 1 := Scalar.cmpi .sgt v89 c256_i32_48
  let v91 : BitVec 1 := Scalar.andi v88 v90
  let v92 : BitVec 32 := Scalar.extui v91
  let c0_i32_49 : BitVec 32 := 0#32
  let v93 : BitVec 1 := Scalar.cmpi .ne v92 c0_i32_49
  v93

def k0_chk12 (d0 : Dev nD) (v72 : BitVec 32) (v89 : BitVec 32) : Prop :=
  (∀ (k0_h20 : k0_cond20 d0 v89 = 1#1), ∀ a, (k0_off30 v72) a + S128x8x128.size a ≤ S2432x8x128.size a)
theorem k0_off30_inb : ∀ (d0 : Dev nD) (v72 : BitVec 32) (v89 : BitVec 32) (k0_hw12 : k0_chk12 d0 v72 v89), ∀ (k0_h20 : k0_cond20 d0 v89 = 1#1), ∀ a, (k0_off30 v72) a + S128x8x128.size a ≤ S2432x8x128.size a := fun d0 v72 v89 k0_hw12 k0_h20 => k0_hw12 k0_h20

def k0_dev17 : Nat :=
  let c0_i32_318 : BitVec 32 := 0#32
  let c2_i32_316 : BitVec 32 := 2#32
  let c1_i32_317 : BitVec 32 := 1#32
  let v493 : BitVec 32 := Scalar.muli c2_i32_316 c1_i32_317
  let v494 : BitVec 32 := Scalar.addi c0_i32_318 v493
  v494.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v95 : BitVec 1 := Scalar.cmpi .eq v2 c3_i32_50
  let v96 : BitVec 32 := Scalar.extui v95
  let c0_i32_51 : BitVec 32 := 0#32
  let v97 : BitVec 1 := Scalar.cmpi .ne v96 c0_i32_51
  v97

def k0_off31 (v94 : BitVec 32) : Fin 3 → Nat :=
  let v492 : Index := Scalar.indexCast v94
  let c0_312 : Index := 0#32
  let c0_313 : Index := 0#32
  ![v492.toNat, 0, 0]

def k0_chk13 (d0 : Dev nD) (v94 : BitVec 32) : Prop :=
  (∀ (k0_h21 : k0_cond21 d0 = 1#1), ∀ a, (k0_off31 v94) a + S384x8x128.size a ≤ S2432x8x128.size a)
theorem k0_off31_inb : ∀ (d0 : Dev nD) (v94 : BitVec 32) (k0_hw13 : k0_chk13 d0 v94), ∀ (k0_h21 : k0_cond21 d0 = 1#1), ∀ a, (k0_off31 v94) a + S384x8x128.size a ≤ S2432x8x128.size a := fun d0 v94 k0_hw13 k0_h21 => k0_hw13 k0_h21

def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off33 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off34 (v94 : BitVec 32) : Fin 3 → Nat :=
  let c0_i32_312 : BitVec 32 := 0#32
  let v492 : BitVec 32 := Scalar.addi v94 c0_i32_312
  let c0_i32_322 : BitVec 32 := 0#32
  let c0_i32_323 : BitVec 32 := 0#32
  ![v492.toNat, 0, 0]
def k0_cond22 (d0 : Dev nD) (v99 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v98 : BitVec 1 := Scalar.cmpi .ne v2 c3_i32_52
  let c0_i32_54 : BitVec 32 := 0#32
  let v100 : BitVec 1 := Scalar.cmpi .sgt v99 c0_i32_54
  let v101 : BitVec 1 := Scalar.andi v98 v100
  let v102 : BitVec 32 := Scalar.extui v101
  let c0_i32_55 : BitVec 32 := 0#32
  let v103 : BitVec 1 := Scalar.cmpi .ne v102 c0_i32_55
  v103

def k0_chk14 (d0 : Dev nD) (v94 : BitVec 32) (v99 : BitVec 32) : Prop :=
  (∀ (k0_h22 : k0_cond22 d0 v99 = 1#1), ∀ a, (k0_off34 v94) a + S128x8x128.size a ≤ S2432x8x128.size a)
theorem k0_off34_inb : ∀ (d0 : Dev nD) (v94 : BitVec 32) (v99 : BitVec 32) (k0_hw14 : k0_chk14 d0 v94 v99), ∀ (k0_h22 : k0_cond22 d0 v99 = 1#1), ∀ a, (k0_off34 v94) a + S128x8x128.size a ≤ S2432x8x128.size a := fun d0 v94 v99 k0_hw14 k0_h22 => k0_hw14 k0_h22

def k0_dev18 : Nat :=
  let c0_i32_318 : BitVec 32 := 0#32
  let c3_i32_316 : BitVec 32 := 3#32
  let c1_i32_317 : BitVec 32 := 1#32
  let v493 : BitVec 32 := Scalar.muli c3_i32_316 c1_i32_317
  let v494 : BitVec 32 := Scalar.addi c0_i32_318 v493
  v494.toNat
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off36 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off37 (v94 : BitVec 32) : Fin 3 → Nat :=
  let c128_i32_312 : BitVec 32 := 128#32
  let v492 : BitVec 32 := Scalar.addi v94 c128_i32_312
  let c0_i32_322 : BitVec 32 := 0#32
  let c0_i32_323 : BitVec 32 := 0#32
  ![v492.toNat, 0, 0]
def k0_cond23 (d0 : Dev nD) (v105 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v104 : BitVec 1 := Scalar.cmpi .ne v2 c3_i32_56
  let c128_i32_58 : BitVec 32 := 128#32
  let v106 : BitVec 1 := Scalar.cmpi .sgt v105 c128_i32_58
  let v107 : BitVec 1 := Scalar.andi v104 v106
  let v108 : BitVec 32 := Scalar.extui v107
  let c0_i32_59 : BitVec 32 := 0#32
  let v109 : BitVec 1 := Scalar.cmpi .ne v108 c0_i32_59
  v109

def k0_chk15 (d0 : Dev nD) (v94 : BitVec 32) (v105 : BitVec 32) : Prop :=
  (∀ (k0_h23 : k0_cond23 d0 v105 = 1#1), ∀ a, (k0_off37 v94) a + S128x8x128.size a ≤ S2432x8x128.size a)
theorem k0_off37_inb : ∀ (d0 : Dev nD) (v94 : BitVec 32) (v105 : BitVec 32) (k0_hw15 : k0_chk15 d0 v94 v105), ∀ (k0_h23 : k0_cond23 d0 v105 = 1#1), ∀ a, (k0_off37 v94) a + S128x8x128.size a ≤ S2432x8x128.size a := fun d0 v94 v105 k0_hw15 k0_h23 => k0_hw15 k0_h23

def k0_dev19 : Nat :=
  let c0_i32_318 : BitVec 32 := 0#32
  let c3_i32_316 : BitVec 32 := 3#32
  let c1_i32_317 : BitVec 32 := 1#32
  let v493 : BitVec 32 := Scalar.muli c3_i32_316 c1_i32_317
  let v494 : BitVec 32 := Scalar.addi c0_i32_318 v493
  v494.toNat
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off39 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off40 (v94 : BitVec 32) : Fin 3 → Nat :=
  let c256_i32_312 : BitVec 32 := 256#32
  let v492 : BitVec 32 := Scalar.addi v94 c256_i32_312
  let c0_i32_322 : BitVec 32 := 0#32
  let c0_i32_323 : BitVec 32 := 0#32
  ![v492.toNat, 0, 0]
def k0_cond24 (d0 : Dev nD) (v111 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v110 : BitVec 1 := Scalar.cmpi .ne v2 c3_i32_60
  let c256_i32_62 : BitVec 32 := 256#32
  let v112 : BitVec 1 := Scalar.cmpi .sgt v111 c256_i32_62
  let v113 : BitVec 1 := Scalar.andi v110 v112
  let v114 : BitVec 32 := Scalar.extui v113
  let c0_i32_63 : BitVec 32 := 0#32
  let v115 : BitVec 1 := Scalar.cmpi .ne v114 c0_i32_63
  v115

def k0_chk16 (d0 : Dev nD) (v94 : BitVec 32) (v111 : BitVec 32) : Prop :=
  (∀ (k0_h24 : k0_cond24 d0 v111 = 1#1), ∀ a, (k0_off40 v94) a + S128x8x128.size a ≤ S2432x8x128.size a)
theorem k0_off40_inb : ∀ (d0 : Dev nD) (v94 : BitVec 32) (v111 : BitVec 32) (k0_hw16 : k0_chk16 d0 v94 v111), ∀ (k0_h24 : k0_cond24 d0 v111 = 1#1), ∀ a, (k0_off40 v94) a + S128x8x128.size a ≤ S2432x8x128.size a := fun d0 v94 v111 k0_hw16 k0_h24 => k0_hw16 k0_h24

def k0_dev20 : Nat :=
  let c0_i32_318 : BitVec 32 := 0#32
  let c3_i32_316 : BitVec 32 := 3#32
  let c1_i32_317 : BitVec 32 := 1#32
  let v493 : BitVec 32 := Scalar.muli c3_i32_316 c1_i32_317
  let v494 : BitVec 32 := Scalar.addi c0_i32_318 v493
  v494.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v117 : BitVec 1 := Scalar.cmpi .eq v2 c4_i32_64
  let v118 : BitVec 32 := Scalar.extui v117
  let c0_i32_65 : BitVec 32 := 0#32
  let v119 : BitVec 1 := Scalar.cmpi .ne v118 c0_i32_65
  v119

def k0_off41 (v116 : BitVec 32) : Fin 3 → Nat :=
  let v492 : Index := Scalar.indexCast v116
  let c0_312 : Index := 0#32
  let c0_313 : Index := 0#32
  ![v492.toNat, 0, 0]

def k0_chk17 (d0 : Dev nD) (v116 : BitVec 32) : Prop :=
  (∀ (k0_h25 : k0_cond25 d0 = 1#1), ∀ a, (k0_off41 v116) a + S384x8x128.size a ≤ S2432x8x128.size a)
theorem k0_off41_inb : ∀ (d0 : Dev nD) (v116 : BitVec 32) (k0_hw17 : k0_chk17 d0 v116), ∀ (k0_h25 : k0_cond25 d0 = 1#1), ∀ a, (k0_off41 v116) a + S384x8x128.size a ≤ S2432x8x128.size a := fun d0 v116 k0_hw17 k0_h25 => k0_hw17 k0_h25

def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off43 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off44 (v116 : BitVec 32) : Fin 3 → Nat :=
  let c0_i32_312 : BitVec 32 := 0#32
  let v492 : BitVec 32 := Scalar.addi v116 c0_i32_312
  let c0_i32_322 : BitVec 32 := 0#32
  let c0_i32_323 : BitVec 32 := 0#32
  ![v492.toNat, 0, 0]
def k0_cond26 (d0 : Dev nD) (v121 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v120 : BitVec 1 := Scalar.cmpi .ne v2 c4_i32_66
  let c0_i32_68 : BitVec 32 := 0#32
  let v122 : BitVec 1 := Scalar.cmpi .sgt v121 c0_i32_68
  let v123 : BitVec 1 := Scalar.andi v120 v122
  let v124 : BitVec 32 := Scalar.extui v123
  let c0_i32_69 : BitVec 32 := 0#32
  let v125 : BitVec 1 := Scalar.cmpi .ne v124 c0_i32_69
  v125

def k0_chk18 (d0 : Dev nD) (v116 : BitVec 32) (v121 : BitVec 32) : Prop :=
  (∀ (k0_h26 : k0_cond26 d0 v121 = 1#1), ∀ a, (k0_off44 v116) a + S128x8x128.size a ≤ S2432x8x128.size a)
theorem k0_off44_inb : ∀ (d0 : Dev nD) (v116 : BitVec 32) (v121 : BitVec 32) (k0_hw18 : k0_chk18 d0 v116 v121), ∀ (k0_h26 : k0_cond26 d0 v121 = 1#1), ∀ a, (k0_off44 v116) a + S128x8x128.size a ≤ S2432x8x128.size a := fun d0 v116 v121 k0_hw18 k0_h26 => k0_hw18 k0_h26

def k0_dev21 : Nat :=
  let c0_i32_318 : BitVec 32 := 0#32
  let c4_i32_316 : BitVec 32 := 4#32
  let c1_i32_317 : BitVec 32 := 1#32
  let v493 : BitVec 32 := Scalar.muli c4_i32_316 c1_i32_317
  let v494 : BitVec 32 := Scalar.addi c0_i32_318 v493
  v494.toNat
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off46 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off47 (v116 : BitVec 32) : Fin 3 → Nat :=
  let c128_i32_312 : BitVec 32 := 128#32
  let v492 : BitVec 32 := Scalar.addi v116 c128_i32_312
  let c0_i32_322 : BitVec 32 := 0#32
  let c0_i32_323 : BitVec 32 := 0#32
  ![v492.toNat, 0, 0]
def k0_cond27 (d0 : Dev nD) (v127 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v126 : BitVec 1 := Scalar.cmpi .ne v2 c4_i32_70
  let c128_i32_72 : BitVec 32 := 128#32
  let v128 : BitVec 1 := Scalar.cmpi .sgt v127 c128_i32_72
  let v129 : BitVec 1 := Scalar.andi v126 v128
  let v130 : BitVec 32 := Scalar.extui v129
  let c0_i32_73 : BitVec 32 := 0#32
  let v131 : BitVec 1 := Scalar.cmpi .ne v130 c0_i32_73
  v131

def k0_chk19 (d0 : Dev nD) (v116 : BitVec 32) (v127 : BitVec 32) : Prop :=
  (∀ (k0_h27 : k0_cond27 d0 v127 = 1#1), ∀ a, (k0_off47 v116) a + S128x8x128.size a ≤ S2432x8x128.size a)
theorem k0_off47_inb : ∀ (d0 : Dev nD) (v116 : BitVec 32) (v127 : BitVec 32) (k0_hw19 : k0_chk19 d0 v116 v127), ∀ (k0_h27 : k0_cond27 d0 v127 = 1#1), ∀ a, (k0_off47 v116) a + S128x8x128.size a ≤ S2432x8x128.size a := fun d0 v116 v127 k0_hw19 k0_h27 => k0_hw19 k0_h27

def k0_dev22 : Nat :=
  let c0_i32_318 : BitVec 32 := 0#32
  let c4_i32_316 : BitVec 32 := 4#32
  let c1_i32_317 : BitVec 32 := 1#32
  let v493 : BitVec 32 := Scalar.muli c4_i32_316 c1_i32_317
  let v494 : BitVec 32 := Scalar.addi c0_i32_318 v493
  v494.toNat
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off49 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off50 (v116 : BitVec 32) : Fin 3 → Nat :=
  let c256_i32_312 : BitVec 32 := 256#32
  let v492 : BitVec 32 := Scalar.addi v116 c256_i32_312
  let c0_i32_322 : BitVec 32 := 0#32
  let c0_i32_323 : BitVec 32 := 0#32
  ![v492.toNat, 0, 0]
def k0_cond28 (d0 : Dev nD) (v133 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v132 : BitVec 1 := Scalar.cmpi .ne v2 c4_i32_74
  let c256_i32_76 : BitVec 32 := 256#32
  let v134 : BitVec 1 := Scalar.cmpi .sgt v133 c256_i32_76
  let v135 : BitVec 1 := Scalar.andi v132 v134
  let v136 : BitVec 32 := Scalar.extui v135
  let c0_i32_77 : BitVec 32 := 0#32
  let v137 : BitVec 1 := Scalar.cmpi .ne v136 c0_i32_77
  v137

def k0_chk20 (d0 : Dev nD) (v116 : BitVec 32) (v133 : BitVec 32) : Prop :=
  (∀ (k0_h28 : k0_cond28 d0 v133 = 1#1), ∀ a, (k0_off50 v116) a + S128x8x128.size a ≤ S2432x8x128.size a)
theorem k0_off50_inb : ∀ (d0 : Dev nD) (v116 : BitVec 32) (v133 : BitVec 32) (k0_hw20 : k0_chk20 d0 v116 v133), ∀ (k0_h28 : k0_cond28 d0 v133 = 1#1), ∀ a, (k0_off50 v116) a + S128x8x128.size a ≤ S2432x8x128.size a := fun d0 v116 v133 k0_hw20 k0_h28 => k0_hw20 k0_h28

def k0_dev23 : Nat :=
  let c0_i32_318 : BitVec 32 := 0#32
  let c4_i32_316 : BitVec 32 := 4#32
  let c1_i32_317 : BitVec 32 := 1#32
  let v493 : BitVec 32 := Scalar.muli c4_i32_316 c1_i32_317
  let v494 : BitVec 32 := Scalar.addi c0_i32_318 v493
  v494.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_78 : BitVec 32 := 5#32
  let v139 : BitVec 1 := Scalar.cmpi .eq v2 c5_i32_78
  let v140 : BitVec 32 := Scalar.extui v139
  let c0_i32_79 : BitVec 32 := 0#32
  let v141 : BitVec 1 := Scalar.cmpi .ne v140 c0_i32_79
  v141

def k0_off51 (v138 : BitVec 32) : Fin 3 → Nat :=
  let v492 : Index := Scalar.indexCast v138
  let c0_312 : Index := 0#32
  let c0_313 : Index := 0#32
  ![v492.toNat, 0, 0]

def k0_chk21 (d0 : Dev nD) (v138 : BitVec 32) : Prop :=
  (∀ (k0_h29 : k0_cond29 d0 = 1#1), ∀ a, (k0_off51 v138) a + S384x8x128.size a ≤ S2432x8x128.size a)
theorem k0_off51_inb : ∀ (d0 : Dev nD) (v138 : BitVec 32) (k0_hw21 : k0_chk21 d0 v138), ∀ (k0_h29 : k0_cond29 d0 = 1#1), ∀ a, (k0_off51 v138) a + S384x8x128.size a ≤ S2432x8x128.size a := fun d0 v138 k0_hw21 k0_h29 => k0_hw21 k0_h29

def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off53 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off54 (v138 : BitVec 32) : Fin 3 → Nat :=
  let c0_i32_312 : BitVec 32 := 0#32
  let v492 : BitVec 32 := Scalar.addi v138 c0_i32_312
  let c0_i32_322 : BitVec 32 := 0#32
  let c0_i32_323 : BitVec 32 := 0#32
  ![v492.toNat, 0, 0]
def k0_cond30 (d0 : Dev nD) (v143 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_80 : BitVec 32 := 5#32
  let v142 : BitVec 1 := Scalar.cmpi .ne v2 c5_i32_80
  let c0_i32_82 : BitVec 32 := 0#32
  let v144 : BitVec 1 := Scalar.cmpi .sgt v143 c0_i32_82
  let v145 : BitVec 1 := Scalar.andi v142 v144
  let v146 : BitVec 32 := Scalar.extui v145
  let c0_i32_83 : BitVec 32 := 0#32
  let v147 : BitVec 1 := Scalar.cmpi .ne v146 c0_i32_83
  v147

def k0_chk22 (d0 : Dev nD) (v138 : BitVec 32) (v143 : BitVec 32) : Prop :=
  (∀ (k0_h30 : k0_cond30 d0 v143 = 1#1), ∀ a, (k0_off54 v138) a + S128x8x128.size a ≤ S2432x8x128.size a)
theorem k0_off54_inb : ∀ (d0 : Dev nD) (v138 : BitVec 32) (v143 : BitVec 32) (k0_hw22 : k0_chk22 d0 v138 v143), ∀ (k0_h30 : k0_cond30 d0 v143 = 1#1), ∀ a, (k0_off54 v138) a + S128x8x128.size a ≤ S2432x8x128.size a := fun d0 v138 v143 k0_hw22 k0_h30 => k0_hw22 k0_h30

def k0_dev24 : Nat :=
  let c0_i32_318 : BitVec 32 := 0#32
  let c5_i32_316 : BitVec 32 := 5#32
  let c1_i32_317 : BitVec 32 := 1#32
  let v493 : BitVec 32 := Scalar.muli c5_i32_316 c1_i32_317
  let v494 : BitVec 32 := Scalar.addi c0_i32_318 v493
  v494.toNat
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off56 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off57 (v138 : BitVec 32) : Fin 3 → Nat :=
  let c128_i32_312 : BitVec 32 := 128#32
  let v492 : BitVec 32 := Scalar.addi v138 c128_i32_312
  let c0_i32_322 : BitVec 32 := 0#32
  let c0_i32_323 : BitVec 32 := 0#32
  ![v492.toNat, 0, 0]
def k0_cond31 (d0 : Dev nD) (v149 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_84 : BitVec 32 := 5#32
  let v148 : BitVec 1 := Scalar.cmpi .ne v2 c5_i32_84
  let c128_i32_86 : BitVec 32 := 128#32
  let v150 : BitVec 1 := Scalar.cmpi .sgt v149 c128_i32_86
  let v151 : BitVec 1 := Scalar.andi v148 v150
  let v152 : BitVec 32 := Scalar.extui v151
  let c0_i32_87 : BitVec 32 := 0#32
  let v153 : BitVec 1 := Scalar.cmpi .ne v152 c0_i32_87
  v153

def k0_chk23 (d0 : Dev nD) (v138 : BitVec 32) (v149 : BitVec 32) : Prop :=
  (∀ (k0_h31 : k0_cond31 d0 v149 = 1#1), ∀ a, (k0_off57 v138) a + S128x8x128.size a ≤ S2432x8x128.size a)
theorem k0_off57_inb : ∀ (d0 : Dev nD) (v138 : BitVec 32) (v149 : BitVec 32) (k0_hw23 : k0_chk23 d0 v138 v149), ∀ (k0_h31 : k0_cond31 d0 v149 = 1#1), ∀ a, (k0_off57 v138) a + S128x8x128.size a ≤ S2432x8x128.size a := fun d0 v138 v149 k0_hw23 k0_h31 => k0_hw23 k0_h31

def k0_dev25 : Nat :=
  let c0_i32_318 : BitVec 32 := 0#32
  let c5_i32_316 : BitVec 32 := 5#32
  let c1_i32_317 : BitVec 32 := 1#32
  let v493 : BitVec 32 := Scalar.muli c5_i32_316 c1_i32_317
  let v494 : BitVec 32 := Scalar.addi c0_i32_318 v493
  v494.toNat
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off59 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off60 (v138 : BitVec 32) : Fin 3 → Nat :=
  let c256_i32_312 : BitVec 32 := 256#32
  let v492 : BitVec 32 := Scalar.addi v138 c256_i32_312
  let c0_i32_322 : BitVec 32 := 0#32
  let c0_i32_323 : BitVec 32 := 0#32
  ![v492.toNat, 0, 0]
def k0_cond32 (d0 : Dev nD) (v155 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_88 : BitVec 32 := 5#32
  let v154 : BitVec 1 := Scalar.cmpi .ne v2 c5_i32_88
  let c256_i32_90 : BitVec 32 := 256#32
  let v156 : BitVec 1 := Scalar.cmpi .sgt v155 c256_i32_90
  let v157 : BitVec 1 := Scalar.andi v154 v156
  let v158 : BitVec 32 := Scalar.extui v157
  let c0_i32_91 : BitVec 32 := 0#32
  let v159 : BitVec 1 := Scalar.cmpi .ne v158 c0_i32_91
  v159

def k0_chk24 (d0 : Dev nD) (v138 : BitVec 32) (v155 : BitVec 32) : Prop :=
  (∀ (k0_h32 : k0_cond32 d0 v155 = 1#1), ∀ a, (k0_off60 v138) a + S128x8x128.size a ≤ S2432x8x128.size a)
theorem k0_off60_inb : ∀ (d0 : Dev nD) (v138 : BitVec 32) (v155 : BitVec 32) (k0_hw24 : k0_chk24 d0 v138 v155), ∀ (k0_h32 : k0_cond32 d0 v155 = 1#1), ∀ a, (k0_off60 v138) a + S128x8x128.size a ≤ S2432x8x128.size a := fun d0 v138 v155 k0_hw24 k0_h32 => k0_hw24 k0_h32

def k0_dev26 : Nat :=
  let c0_i32_318 : BitVec 32 := 0#32
  let c5_i32_316 : BitVec 32 := 5#32
  let c1_i32_317 : BitVec 32 := 1#32
  let v493 : BitVec 32 := Scalar.muli c5_i32_316 c1_i32_317
  let v494 : BitVec 32 := Scalar.addi c0_i32_318 v493
  v494.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_92 : BitVec 32 := 6#32
  let v161 : BitVec 1 := Scalar.cmpi .eq v2 c6_i32_92
  let v162 : BitVec 32 := Scalar.extui v161
  let c0_i32_93 : BitVec 32 := 0#32
  let v163 : BitVec 1 := Scalar.cmpi .ne v162 c0_i32_93
  v163

def k0_off61 (v160 : BitVec 32) : Fin 3 → Nat :=
  let v492 : Index := Scalar.indexCast v160
  let c0_312 : Index := 0#32
  let c0_313 : Index := 0#32
  ![v492.toNat, 0, 0]

def k0_chk25 (d0 : Dev nD) (v160 : BitVec 32) : Prop :=
  (∀ (k0_h33 : k0_cond33 d0 = 1#1), ∀ a, (k0_off61 v160) a + S384x8x128.size a ≤ S2432x8x128.size a)
theorem k0_off61_inb : ∀ (d0 : Dev nD) (v160 : BitVec 32) (k0_hw25 : k0_chk25 d0 v160), ∀ (k0_h33 : k0_cond33 d0 = 1#1), ∀ a, (k0_off61 v160) a + S384x8x128.size a ≤ S2432x8x128.size a := fun d0 v160 k0_hw25 k0_h33 => k0_hw25 k0_h33

def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off63 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off64 (v160 : BitVec 32) : Fin 3 → Nat :=
  let c0_i32_312 : BitVec 32 := 0#32
  let v492 : BitVec 32 := Scalar.addi v160 c0_i32_312
  let c0_i32_322 : BitVec 32 := 0#32
  let c0_i32_323 : BitVec 32 := 0#32
  ![v492.toNat, 0, 0]
def k0_cond34 (d0 : Dev nD) (v165 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_94 : BitVec 32 := 6#32
  let v164 : BitVec 1 := Scalar.cmpi .ne v2 c6_i32_94
  let c0_i32_96 : BitVec 32 := 0#32
  let v166 : BitVec 1 := Scalar.cmpi .sgt v165 c0_i32_96
  let v167 : BitVec 1 := Scalar.andi v164 v166
  let v168 : BitVec 32 := Scalar.extui v167
  let c0_i32_97 : BitVec 32 := 0#32
  let v169 : BitVec 1 := Scalar.cmpi .ne v168 c0_i32_97
  v169

def k0_chk26 (d0 : Dev nD) (v160 : BitVec 32) (v165 : BitVec 32) : Prop :=
  (∀ (k0_h34 : k0_cond34 d0 v165 = 1#1), ∀ a, (k0_off64 v160) a + S128x8x128.size a ≤ S2432x8x128.size a)
theorem k0_off64_inb : ∀ (d0 : Dev nD) (v160 : BitVec 32) (v165 : BitVec 32) (k0_hw26 : k0_chk26 d0 v160 v165), ∀ (k0_h34 : k0_cond34 d0 v165 = 1#1), ∀ a, (k0_off64 v160) a + S128x8x128.size a ≤ S2432x8x128.size a := fun d0 v160 v165 k0_hw26 k0_h34 => k0_hw26 k0_h34

def k0_dev27 : Nat :=
  let c0_i32_318 : BitVec 32 := 0#32
  let c6_i32_316 : BitVec 32 := 6#32
  let c1_i32_317 : BitVec 32 := 1#32
  let v493 : BitVec 32 := Scalar.muli c6_i32_316 c1_i32_317
  let v494 : BitVec 32 := Scalar.addi c0_i32_318 v493
  v494.toNat
def k0_off65 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off66 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off67 (v160 : BitVec 32) : Fin 3 → Nat :=
  let c128_i32_312 : BitVec 32 := 128#32
  let v492 : BitVec 32 := Scalar.addi v160 c128_i32_312
  let c0_i32_322 : BitVec 32 := 0#32
  let c0_i32_323 : BitVec 32 := 0#32
  ![v492.toNat, 0, 0]
def k0_cond35 (d0 : Dev nD) (v171 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_98 : BitVec 32 := 6#32
  let v170 : BitVec 1 := Scalar.cmpi .ne v2 c6_i32_98
  let c128_i32_100 : BitVec 32 := 128#32
  let v172 : BitVec 1 := Scalar.cmpi .sgt v171 c128_i32_100
  let v173 : BitVec 1 := Scalar.andi v170 v172
  let v174 : BitVec 32 := Scalar.extui v173
  let c0_i32_101 : BitVec 32 := 0#32
  let v175 : BitVec 1 := Scalar.cmpi .ne v174 c0_i32_101
  v175

def k0_chk27 (d0 : Dev nD) (v160 : BitVec 32) (v171 : BitVec 32) : Prop :=
  (∀ (k0_h35 : k0_cond35 d0 v171 = 1#1), ∀ a, (k0_off67 v160) a + S128x8x128.size a ≤ S2432x8x128.size a)
theorem k0_off67_inb : ∀ (d0 : Dev nD) (v160 : BitVec 32) (v171 : BitVec 32) (k0_hw27 : k0_chk27 d0 v160 v171), ∀ (k0_h35 : k0_cond35 d0 v171 = 1#1), ∀ a, (k0_off67 v160) a + S128x8x128.size a ≤ S2432x8x128.size a := fun d0 v160 v171 k0_hw27 k0_h35 => k0_hw27 k0_h35

def k0_dev28 : Nat :=
  let c0_i32_318 : BitVec 32 := 0#32
  let c6_i32_316 : BitVec 32 := 6#32
  let c1_i32_317 : BitVec 32 := 1#32
  let v493 : BitVec 32 := Scalar.muli c6_i32_316 c1_i32_317
  let v494 : BitVec 32 := Scalar.addi c0_i32_318 v493
  v494.toNat
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off69 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off70 (v160 : BitVec 32) : Fin 3 → Nat :=
  let c256_i32_312 : BitVec 32 := 256#32
  let v492 : BitVec 32 := Scalar.addi v160 c256_i32_312
  let c0_i32_322 : BitVec 32 := 0#32
  let c0_i32_323 : BitVec 32 := 0#32
  ![v492.toNat, 0, 0]
def k0_cond36 (d0 : Dev nD) (v177 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_102 : BitVec 32 := 6#32
  let v176 : BitVec 1 := Scalar.cmpi .ne v2 c6_i32_102
  let c256_i32_104 : BitVec 32 := 256#32
  let v178 : BitVec 1 := Scalar.cmpi .sgt v177 c256_i32_104
  let v179 : BitVec 1 := Scalar.andi v176 v178
  let v180 : BitVec 32 := Scalar.extui v179
  let c0_i32_105 : BitVec 32 := 0#32
  let v181 : BitVec 1 := Scalar.cmpi .ne v180 c0_i32_105
  v181

def k0_chk28 (d0 : Dev nD) (v160 : BitVec 32) (v177 : BitVec 32) : Prop :=
  (∀ (k0_h36 : k0_cond36 d0 v177 = 1#1), ∀ a, (k0_off70 v160) a + S128x8x128.size a ≤ S2432x8x128.size a)
theorem k0_off70_inb : ∀ (d0 : Dev nD) (v160 : BitVec 32) (v177 : BitVec 32) (k0_hw28 : k0_chk28 d0 v160 v177), ∀ (k0_h36 : k0_cond36 d0 v177 = 1#1), ∀ a, (k0_off70 v160) a + S128x8x128.size a ≤ S2432x8x128.size a := fun d0 v160 v177 k0_hw28 k0_h36 => k0_hw28 k0_h36

def k0_dev29 : Nat :=
  let c0_i32_318 : BitVec 32 := 0#32
  let c6_i32_316 : BitVec 32 := 6#32
  let c1_i32_317 : BitVec 32 := 1#32
  let v493 : BitVec 32 := Scalar.muli c6_i32_316 c1_i32_317
  let v494 : BitVec 32 := Scalar.addi c0_i32_318 v493
  v494.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_106 : BitVec 32 := 7#32
  let v183 : BitVec 1 := Scalar.cmpi .eq v2 c7_i32_106
  let v184 : BitVec 32 := Scalar.extui v183
  let c0_i32_107 : BitVec 32 := 0#32
  let v185 : BitVec 1 := Scalar.cmpi .ne v184 c0_i32_107
  v185

def k0_off71 (v182 : BitVec 32) : Fin 3 → Nat :=
  let v492 : Index := Scalar.indexCast v182
  let c0_312 : Index := 0#32
  let c0_313 : Index := 0#32
  ![v492.toNat, 0, 0]

def k0_chk29 (d0 : Dev nD) (v182 : BitVec 32) : Prop :=
  (∀ (k0_h37 : k0_cond37 d0 = 1#1), ∀ a, (k0_off71 v182) a + S384x8x128.size a ≤ S2432x8x128.size a)
theorem k0_off71_inb : ∀ (d0 : Dev nD) (v182 : BitVec 32) (k0_hw29 : k0_chk29 d0 v182), ∀ (k0_h37 : k0_cond37 d0 = 1#1), ∀ a, (k0_off71 v182) a + S384x8x128.size a ≤ S2432x8x128.size a := fun d0 v182 k0_hw29 k0_h37 => k0_hw29 k0_h37

def k0_off72 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_313 : BitVec 32 := 0#32
  ![v2.toNat, 0]
def k0_off73 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_319 : BitVec 32 := 0#32
  let c0_i32_320 : BitVec 32 := 0#32
  let c0_i32_321 : BitVec 32 := 0#32
  ![v2.toNat, 0, 0, 0]
def k0_off74 (v182 : BitVec 32) : Fin 3 → Nat :=
  let c0_i32_312 : BitVec 32 := 0#32
  let v492 : BitVec 32 := Scalar.addi v182 c0_i32_312
  let c0_i32_322 : BitVec 32 := 0#32
  let c0_i32_323 : BitVec 32 := 0#32
  ![v492.toNat, 0, 0]
def k0_cond38 (d0 : Dev nD) (v187 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_108 : BitVec 32 := 7#32
  let v186 : BitVec 1 := Scalar.cmpi .ne v2 c7_i32_108
  let c0_i32_110 : BitVec 32 := 0#32
  let v188 : BitVec 1 := Scalar.cmpi .sgt v187 c0_i32_110
  let v189 : BitVec 1 := Scalar.andi v186 v188
  let v190 : BitVec 32 := Scalar.extui v189
  let c0_i32_111 : BitVec 32 := 0#32
  let v191 : BitVec 1 := Scalar.cmpi .ne v190 c0_i32_111
  v191

def k0_chk30 (d0 : Dev nD) (v182 : BitVec 32) (v187 : BitVec 32) : Prop :=
  (∀ (k0_h38 : k0_cond38 d0 v187 = 1#1), ∀ a, (k0_off74 v182) a + S128x8x128.size a ≤ S2432x8x128.size a)
theorem k0_off74_inb : ∀ (d0 : Dev nD) (v182 : BitVec 32) (v187 : BitVec 32) (k0_hw30 : k0_chk30 d0 v182 v187), ∀ (k0_h38 : k0_cond38 d0 v187 = 1#1), ∀ a, (k0_off74 v182) a + S128x8x128.size a ≤ S2432x8x128.size a := fun d0 v182 v187 k0_hw30 k0_h38 => k0_hw30 k0_h38

def k0_dev30 : Nat :=
  let c0_i32_318 : BitVec 32 := 0#32
  let c7_i32_316 : BitVec 32 := 7#32
  let c1_i32_317 : BitVec 32 := 1#32
  let v493 : BitVec 32 := Scalar.muli c7_i32_316 c1_i32_317
  let v494 : BitVec 32 := Scalar.addi c0_i32_318 v493
  v494.toNat
def k0_off75 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_313 : BitVec 32 := 1#32
  ![v2.toNat, 1]
def k0_off76 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let c0_i32_320 : BitVec 32 := 0#32
  let c0_i32_321 : BitVec 32 := 0#32
  ![v2.toNat, 128, 0, 0]
def k0_off77 (v182 : BitVec 32) : Fin 3 → Nat :=
  let c128_i32_312 : BitVec 32 := 128#32
  let v492 : BitVec 32 := Scalar.addi v182 c128_i32_312
  let c0_i32_322 : BitVec 32 := 0#32
  let c0_i32_323 : BitVec 32 := 0#32
  ![v492.toNat, 0, 0]
def k0_cond39 (d0 : Dev nD) (v193 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_112 : BitVec 32 := 7#32
  let v192 : BitVec 1 := Scalar.cmpi .ne v2 c7_i32_112
  let c128_i32_114 : BitVec 32 := 128#32
  let v194 : BitVec 1 := Scalar.cmpi .sgt v193 c128_i32_114
  let v195 : BitVec 1 := Scalar.andi v192 v194
  let v196 : BitVec 32 := Scalar.extui v195
  let c0_i32_115 : BitVec 32 := 0#32
  let v197 : BitVec 1 := Scalar.cmpi .ne v196 c0_i32_115
  v197

def k0_chk31 (d0 : Dev nD) (v182 : BitVec 32) (v193 : BitVec 32) : Prop :=
  (∀ (k0_h39 : k0_cond39 d0 v193 = 1#1), ∀ a, (k0_off77 v182) a + S128x8x128.size a ≤ S2432x8x128.size a)
theorem k0_off77_inb : ∀ (d0 : Dev nD) (v182 : BitVec 32) (v193 : BitVec 32) (k0_hw31 : k0_chk31 d0 v182 v193), ∀ (k0_h39 : k0_cond39 d0 v193 = 1#1), ∀ a, (k0_off77 v182) a + S128x8x128.size a ≤ S2432x8x128.size a := fun d0 v182 v193 k0_hw31 k0_h39 => k0_hw31 k0_h39

def k0_dev31 : Nat :=
  let c0_i32_318 : BitVec 32 := 0#32
  let c7_i32_316 : BitVec 32 := 7#32
  let c1_i32_317 : BitVec 32 := 1#32
  let v493 : BitVec 32 := Scalar.muli c7_i32_316 c1_i32_317
  let v494 : BitVec 32 := Scalar.addi c0_i32_318 v493
  v494.toNat
def k0_off78 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  ![v2.toNat, 2]
def k0_off79 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_319 : BitVec 32 := 256#32
  let c0_i32_320 : BitVec 32 := 0#32
  let c0_i32_321 : BitVec 32 := 0#32
  ![v2.toNat, 256, 0, 0]
def k0_off80 (v182 : BitVec 32) : Fin 3 → Nat :=
  let c256_i32_312 : BitVec 32 := 256#32
  let v492 : BitVec 32 := Scalar.addi v182 c256_i32_312
  let c0_i32_322 : BitVec 32 := 0#32
  let c0_i32_323 : BitVec 32 := 0#32
  ![v492.toNat, 0, 0]
def k0_cond40 (d0 : Dev nD) (v199 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_116 : BitVec 32 := 7#32
  let v198 : BitVec 1 := Scalar.cmpi .ne v2 c7_i32_116
  let c256_i32_118 : BitVec 32 := 256#32
  let v200 : BitVec 1 := Scalar.cmpi .sgt v199 c256_i32_118
  let v201 : BitVec 1 := Scalar.andi v198 v200
  let v202 : BitVec 32 := Scalar.extui v201
  let c0_i32_119 : BitVec 32 := 0#32
  let v203 : BitVec 1 := Scalar.cmpi .ne v202 c0_i32_119
  v203

def k0_chk32 (d0 : Dev nD) (v182 : BitVec 32) (v199 : BitVec 32) : Prop :=
  (∀ (k0_h40 : k0_cond40 d0 v199 = 1#1), ∀ a, (k0_off80 v182) a + S128x8x128.size a ≤ S2432x8x128.size a)
theorem k0_off80_inb : ∀ (d0 : Dev nD) (v182 : BitVec 32) (v199 : BitVec 32) (k0_hw32 : k0_chk32 d0 v182 v199), ∀ (k0_h40 : k0_cond40 d0 v199 = 1#1), ∀ a, (k0_off80 v182) a + S128x8x128.size a ≤ S2432x8x128.size a := fun d0 v182 v199 k0_hw32 k0_h40 => k0_hw32 k0_h40

def k0_dev32 : Nat :=
  let c0_i32_318 : BitVec 32 := 0#32
  let c7_i32_316 : BitVec 32 := 7#32
  let c1_i32_317 : BitVec 32 := 1#32
  let v493 : BitVec 32 := Scalar.muli c7_i32_316 c1_i32_317
  let v494 : BitVec 32 := Scalar.addi c0_i32_318 v493
  v494.toNat
abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2432x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x384x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Routes.lean ====
abbrev S2x8x128 : Shape := ⟨3, ![2, 8, 128]⟩
abbrev S_ : Shape := ⟨0, ![]⟩
abbrev S8 : Shape := ⟨1, ![8]⟩
abbrev S8x2x8x128 : Shape := ⟨4, ![8, 2, 8, 128]⟩
abbrev S8x1 : Shape := ⟨2, ![8, 1]⟩
abbrev S1 : Shape := ⟨1, ![1]⟩
abbrev S1x2x8x128 : Shape := ⟨4, ![1, 2, 8, 128]⟩
abbrev S1x1 : Shape := ⟨2, ![1, 1]⟩

abbrev nBuf : Space → Nat
  | .hbm => 6
  | .vmem => 2
  | .smem => 3
  | _ => 0

abbrev bufTy : (tb : Table) → Fin (tcTables nBuf tb) → BufTy
  | .hbm, ⟨0, _⟩ => ⟨S2x8x128, .i32⟩
  | .hbm, ⟨1, _⟩ => ⟨S_, .i32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8x2x8x128, .i32⟩
  | .local _ .vmem, ⟨0, _⟩ => ⟨S2x8x128, .i32⟩
  | .local _ .vmem, ⟨1, _⟩ => ⟨S8x2x8x128, .i32⟩
  | .local _ .smem, ⟨0, _⟩ => ⟨S8, .i32⟩
  | .local _ .smem, ⟨1, _⟩ => ⟨S8, .i32⟩
  | .local _ .smem, ⟨2, _⟩ => ⟨S8, .i32⟩
  | _, _ => ⟨S2x8x128, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_v1 : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev cc0_stg3_0 : Ref sig .tc := ⟨.vmem, 0, rfl⟩
abbrev cc0_stg4_0 : Ref sig .tc := ⟨.vmem, 1, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_125 : BitVec 32 := 0#32
  let c0_i32_123 : BitVec 32 := 0#32
  let c1_i32_124 : BitVec 32 := 1#32
  let v204 : BitVec 32 := Scalar.muli c0_i32_123 c1_i32_124
  let v205 : BitVec 32 := Scalar.addi c0_i32_125 v204
  v205.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_125 : BitVec 32 := 0#32
  let c1_i32_123 : BitVec 32 := 1#32
  let c1_i32_124 : BitVec 32 := 1#32
  let v204 : BitVec 32 := Scalar.muli c1_i32_123 c1_i32_124
  let v205 : BitVec 32 := Scalar.addi c0_i32_125 v204
  v205.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_125 : BitVec 32 := 0#32
  let c2_i32_123 : BitVec 32 := 2#32
  let c1_i32_124 : BitVec 32 := 1#32
  let v204 : BitVec 32 := Scalar.muli c2_i32_123 c1_i32_124
  let v205 : BitVec 32 := Scalar.addi c0_i32_125 v204
  v205.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_125 : BitVec 32 := 0#32
  let c3_i32_123 : BitVec 32 := 3#32
  let c1_i32_124 : BitVec 32 := 1#32
  let v204 : BitVec 32 := Scalar.muli c3_i32_123 c1_i32_124
  let v205 : BitVec 32 := Scalar.addi c0_i32_125 v204
  v205.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_125 : BitVec 32 := 0#32
  let c4_i32_123 : BitVec 32 := 4#32
  let c1_i32_124 : BitVec 32 := 1#32
  let v204 : BitVec 32 := Scalar.muli c4_i32_123 c1_i32_124
  let v205 : BitVec 32 := Scalar.addi c0_i32_125 v204
  v205.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_125 : BitVec 32 := 0#32
  let c5_i32_123 : BitVec 32 := 5#32
  let c1_i32_124 : BitVec 32 := 1#32
  let v204 : BitVec 32 := Scalar.muli c5_i32_123 c1_i32_124
  let v205 : BitVec 32 := Scalar.addi c0_i32_125 v204
  v205.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_125 : BitVec 32 := 0#32
  let c6_i32_123 : BitVec 32 := 6#32
  let c1_i32_124 : BitVec 32 := 1#32
  let v204 : BitVec 32 := Scalar.muli c6_i32_123 c1_i32_124
  let v205 : BitVec 32 := Scalar.addi c0_i32_125 v204
  v205.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_125 : BitVec 32 := 0#32
  let c7_i32_123 : BitVec 32 := 7#32
  let c1_i32_124 : BitVec 32 := 1#32
  let v204 : BitVec 32 := Scalar.muli c7_i32_123 c1_i32_124
  let v205 : BitVec 32 := Scalar.addi c0_i32_125 v204
  v205.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v29 : BitVec 1 := Scalar.cmpi .eq v2 c0_i32_10
  let v30 : BitVec 32 := Scalar.extui v29
  let c0_i32_11 : BitVec 32 := 0#32
  let v31 : BitVec 1 := Scalar.cmpi .ne v30 c0_i32_11
  v31

def k0_off1 (v28 : BitVec 32) : Fin 3 → Nat :=
  let v204 : Index := Scalar.indexCast v28
  let c0_122 : Index := 0#32
  let c0_123 : Index := 0#32
  ![v204.toNat, 0, 0]

def k0_chk1 (d0 : Dev nD) (v28 : BitVec 32) : Prop :=
  (∀ (k0_h9 : k0_cond9 d0 = 1#1), ∀ a, (k0_off1 v28) a + S2x8x128.size a ≤ S2x8x128.size a)
theorem k0_off1_inb : ∀ (d0 : Dev nD) (v28 : BitVec 32) (k0_hw1 : k0_chk1 d0 v28), ∀ (k0_h9 : k0_cond9 d0 = 1#1), ∀ a, (k0_off1 v28) a + S2x8x128.size a ≤ S2x8x128.size a := fun d0 v28 k0_hw1 k0_h9 => k0_hw1 k0_h9

def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  ![v2.toNat, 0]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_129 : BitVec 32 := 0#32
  let c0_i32_130 : BitVec 32 := 0#32
  let c0_i32_131 : BitVec 32 := 0#32
  ![v2.toNat, 0, 0, 0]
def k0_off4 (v28 : BitVec 32) : Fin 3 → Nat :=
  let c0_i32_122 : BitVec 32 := 0#32
  let v204 : BitVec 32 := Scalar.addi v28 c0_i32_122
  let c0_i32_132 : BitVec 32 := 0#32
  let c0_i32_133 : BitVec 32 := 0#32
  ![v204.toNat, 0, 0]
def k0_cond10 (d0 : Dev nD) (v33 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v32 : BitVec 1 := Scalar.cmpi .ne v2 c0_i32_12
  let c0_i32_14 : BitVec 32 := 0#32
  let v34 : BitVec 1 := Scalar.cmpi .sgt v33 c0_i32_14
  let v35 : BitVec 1 := Scalar.andi v32 v34
  let v36 : BitVec 32 := Scalar.extui v35
  let c0_i32_15 : BitVec 32 := 0#32
  let v37 : BitVec 1 := Scalar.cmpi .ne v36 c0_i32_15
  v37

def k0_chk2 (d0 : Dev nD) (v28 : BitVec 32) (v33 : BitVec 32) : Prop :=
  (∀ (k0_h10 : k0_cond10 d0 v33 = 1#1), ∀ a, (k0_off4 v28) a + S2x8x128.size a ≤ S2x8x128.size a)
theorem k0_off4_inb : ∀ (d0 : Dev nD) (v28 : BitVec 32) (v33 : BitVec 32) (k0_hw2 : k0_chk2 d0 v28 v33), ∀ (k0_h10 : k0_cond10 d0 v33 = 1#1), ∀ a, (k0_off4 v28) a + S2x8x128.size a ≤ S2x8x128.size a := fun d0 v28 v33 k0_hw2 k0_h10 => k0_hw2 k0_h10

def k0_dev9 : Nat :=
  let c0_i32_128 : BitVec 32 := 0#32
  let c0_i32_126 : BitVec 32 := 0#32
  let c1_i32_127 : BitVec 32 := 1#32
  let v205 : BitVec 32 := Scalar.muli c0_i32_126 c1_i32_127
  let v206 : BitVec 32 := Scalar.addi c0_i32_128 v205
  v206.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v39 : BitVec 1 := Scalar.cmpi .eq v2 c1_i32_16
  let v40 : BitVec 32 := Scalar.extui v39
  let c0_i32_17 : BitVec 32 := 0#32
  let v41 : BitVec 1 := Scalar.cmpi .ne v40 c0_i32_17
  v41

def k0_off5 (v38 : BitVec 32) : Fin 3 → Nat :=
  let v204 : Index := Scalar.indexCast v38
  let c0_122 : Index := 0#32
  let c0_123 : Index := 0#32
  ![v204.toNat, 0, 0]

def k0_chk3 (d0 : Dev nD) (v38 : BitVec 32) : Prop :=
  (∀ (k0_h11 : k0_cond11 d0 = 1#1), ∀ a, (k0_off5 v38) a + S2x8x128.size a ≤ S2x8x128.size a)
theorem k0_off5_inb : ∀ (d0 : Dev nD) (v38 : BitVec 32) (k0_hw3 : k0_chk3 d0 v38), ∀ (k0_h11 : k0_cond11 d0 = 1#1), ∀ a, (k0_off5 v38) a + S2x8x128.size a ≤ S2x8x128.size a := fun d0 v38 k0_hw3 k0_h11 => k0_hw3 k0_h11

def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  ![v2.toNat, 0]
def k0_off7 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_129 : BitVec 32 := 0#32
  let c0_i32_130 : BitVec 32 := 0#32
  let c0_i32_131 : BitVec 32 := 0#32
  ![v2.toNat, 0, 0, 0]
def k0_off8 (v38 : BitVec 32) : Fin 3 → Nat :=
  let c0_i32_122 : BitVec 32 := 0#32
  let v204 : BitVec 32 := Scalar.addi v38 c0_i32_122
  let c0_i32_132 : BitVec 32 := 0#32
  let c0_i32_133 : BitVec 32 := 0#32
  ![v204.toNat, 0, 0]
def k0_cond12 (d0 : Dev nD) (v43 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v42 : BitVec 1 := Scalar.cmpi .ne v2 c1_i32_18
  let c0_i32_20 : BitVec 32 := 0#32
  let v44 : BitVec 1 := Scalar.cmpi .sgt v43 c0_i32_20
  let v45 : BitVec 1 := Scalar.andi v42 v44
  let v46 : BitVec 32 := Scalar.extui v45
  let c0_i32_21 : BitVec 32 := 0#32
  let v47 : BitVec 1 := Scalar.cmpi .ne v46 c0_i32_21
  v47

def k0_chk4 (d0 : Dev nD) (v38 : BitVec 32) (v43 : BitVec 32) : Prop :=
  (∀ (k0_h12 : k0_cond12 d0 v43 = 1#1), ∀ a, (k0_off8 v38) a + S2x8x128.size a ≤ S2x8x128.size a)
theorem k0_off8_inb : ∀ (d0 : Dev nD) (v38 : BitVec 32) (v43 : BitVec 32) (k0_hw4 : k0_chk4 d0 v38 v43), ∀ (k0_h12 : k0_cond12 d0 v43 = 1#1), ∀ a, (k0_off8 v38) a + S2x8x128.size a ≤ S2x8x128.size a := fun d0 v38 v43 k0_hw4 k0_h12 => k0_hw4 k0_h12

def k0_dev10 : Nat :=
  let c0_i32_128 : BitVec 32 := 0#32
  let c1_i32_126 : BitVec 32 := 1#32
  let c1_i32_127 : BitVec 32 := 1#32
  let v205 : BitVec 32 := Scalar.muli c1_i32_126 c1_i32_127
  let v206 : BitVec 32 := Scalar.addi c0_i32_128 v205
  v206.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_22 : BitVec 32 := 2#32
  let v49 : BitVec 1 := Scalar.cmpi .eq v2 c2_i32_22
  let v50 : BitVec 32 := Scalar.extui v49
  let c0_i32_23 : BitVec 32 := 0#32
  let v51 : BitVec 1 := Scalar.cmpi .ne v50 c0_i32_23
  v51

def k0_off9 (v48 : BitVec 32) : Fin 3 → Nat :=
  let v204 : Index := Scalar.indexCast v48
  let c0_122 : Index := 0#32
  let c0_123 : Index := 0#32
  ![v204.toNat, 0, 0]

def k0_chk5 (d0 : Dev nD) (v48 : BitVec 32) : Prop :=
  (∀ (k0_h13 : k0_cond13 d0 = 1#1), ∀ a, (k0_off9 v48) a + S2x8x128.size a ≤ S2x8x128.size a)
theorem k0_off9_inb : ∀ (d0 : Dev nD) (v48 : BitVec 32) (k0_hw5 : k0_chk5 d0 v48), ∀ (k0_h13 : k0_cond13 d0 = 1#1), ∀ a, (k0_off9 v48) a + S2x8x128.size a ≤ S2x8x128.size a := fun d0 v48 k0_hw5 k0_h13 => k0_hw5 k0_h13

def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  ![v2.toNat, 0]
def k0_off11 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_129 : BitVec 32 := 0#32
  let c0_i32_130 : BitVec 32 := 0#32
  let c0_i32_131 : BitVec 32 := 0#32
  ![v2.toNat, 0, 0, 0]
def k0_off12 (v48 : BitVec 32) : Fin 3 → Nat :=
  let c0_i32_122 : BitVec 32 := 0#32
  let v204 : BitVec 32 := Scalar.addi v48 c0_i32_122
  let c0_i32_132 : BitVec 32 := 0#32
  let c0_i32_133 : BitVec 32 := 0#32
  ![v204.toNat, 0, 0]
def k0_cond14 (d0 : Dev nD) (v53 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_24 : BitVec 32 := 2#32
  let v52 : BitVec 1 := Scalar.cmpi .ne v2 c2_i32_24
  let c0_i32_26 : BitVec 32 := 0#32
  let v54 : BitVec 1 := Scalar.cmpi .sgt v53 c0_i32_26
  let v55 : BitVec 1 := Scalar.andi v52 v54
  let v56 : BitVec 32 := Scalar.extui v55
  let c0_i32_27 : BitVec 32 := 0#32
  let v57 : BitVec 1 := Scalar.cmpi .ne v56 c0_i32_27
  v57

def k0_chk6 (d0 : Dev nD) (v48 : BitVec 32) (v53 : BitVec 32) : Prop :=
  (∀ (k0_h14 : k0_cond14 d0 v53 = 1#1), ∀ a, (k0_off12 v48) a + S2x8x128.size a ≤ S2x8x128.size a)
theorem k0_off12_inb : ∀ (d0 : Dev nD) (v48 : BitVec 32) (v53 : BitVec 32) (k0_hw6 : k0_chk6 d0 v48 v53), ∀ (k0_h14 : k0_cond14 d0 v53 = 1#1), ∀ a, (k0_off12 v48) a + S2x8x128.size a ≤ S2x8x128.size a := fun d0 v48 v53 k0_hw6 k0_h14 => k0_hw6 k0_h14

def k0_dev11 : Nat :=
  let c0_i32_128 : BitVec 32 := 0#32
  let c2_i32_126 : BitVec 32 := 2#32
  let c1_i32_127 : BitVec 32 := 1#32
  let v205 : BitVec 32 := Scalar.muli c2_i32_126 c1_i32_127
  let v206 : BitVec 32 := Scalar.addi c0_i32_128 v205
  v206.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_28 : BitVec 32 := 3#32
  let v59 : BitVec 1 := Scalar.cmpi .eq v2 c3_i32_28
  let v60 : BitVec 32 := Scalar.extui v59
  let c0_i32_29 : BitVec 32 := 0#32
  let v61 : BitVec 1 := Scalar.cmpi .ne v60 c0_i32_29
  v61

def k0_off13 (v58 : BitVec 32) : Fin 3 → Nat :=
  let v204 : Index := Scalar.indexCast v58
  let c0_122 : Index := 0#32
  let c0_123 : Index := 0#32
  ![v204.toNat, 0, 0]

def k0_chk7 (d0 : Dev nD) (v58 : BitVec 32) : Prop :=
  (∀ (k0_h15 : k0_cond15 d0 = 1#1), ∀ a, (k0_off13 v58) a + S2x8x128.size a ≤ S2x8x128.size a)
theorem k0_off13_inb : ∀ (d0 : Dev nD) (v58 : BitVec 32) (k0_hw7 : k0_chk7 d0 v58), ∀ (k0_h15 : k0_cond15 d0 = 1#1), ∀ a, (k0_off13 v58) a + S2x8x128.size a ≤ S2x8x128.size a := fun d0 v58 k0_hw7 k0_h15 => k0_hw7 k0_h15

def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  ![v2.toNat, 0]
def k0_off15 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_129 : BitVec 32 := 0#32
  let c0_i32_130 : BitVec 32 := 0#32
  let c0_i32_131 : BitVec 32 := 0#32
  ![v2.toNat, 0, 0, 0]
def k0_off16 (v58 : BitVec 32) : Fin 3 → Nat :=
  let c0_i32_122 : BitVec 32 := 0#32
  let v204 : BitVec 32 := Scalar.addi v58 c0_i32_122
  let c0_i32_132 : BitVec 32 := 0#32
  let c0_i32_133 : BitVec 32 := 0#32
  ![v204.toNat, 0, 0]
def k0_cond16 (d0 : Dev nD) (v63 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_30 : BitVec 32 := 3#32
  let v62 : BitVec 1 := Scalar.cmpi .ne v2 c3_i32_30
  let c0_i32_32 : BitVec 32 := 0#32
  let v64 : BitVec 1 := Scalar.cmpi .sgt v63 c0_i32_32
  let v65 : BitVec 1 := Scalar.andi v62 v64
  let v66 : BitVec 32 := Scalar.extui v65
  let c0_i32_33 : BitVec 32 := 0#32
  let v67 : BitVec 1 := Scalar.cmpi .ne v66 c0_i32_33
  v67

def k0_chk8 (d0 : Dev nD) (v58 : BitVec 32) (v63 : BitVec 32) : Prop :=
  (∀ (k0_h16 : k0_cond16 d0 v63 = 1#1), ∀ a, (k0_off16 v58) a + S2x8x128.size a ≤ S2x8x128.size a)
theorem k0_off16_inb : ∀ (d0 : Dev nD) (v58 : BitVec 32) (v63 : BitVec 32) (k0_hw8 : k0_chk8 d0 v58 v63), ∀ (k0_h16 : k0_cond16 d0 v63 = 1#1), ∀ a, (k0_off16 v58) a + S2x8x128.size a ≤ S2x8x128.size a := fun d0 v58 v63 k0_hw8 k0_h16 => k0_hw8 k0_h16

def k0_dev12 : Nat :=
  let c0_i32_128 : BitVec 32 := 0#32
  let c3_i32_126 : BitVec 32 := 3#32
  let c1_i32_127 : BitVec 32 := 1#32
  let v205 : BitVec 32 := Scalar.muli c3_i32_126 c1_i32_127
  let v206 : BitVec 32 := Scalar.addi c0_i32_128 v205
  v206.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_34 : BitVec 32 := 4#32
  let v69 : BitVec 1 := Scalar.cmpi .eq v2 c4_i32_34
  let v70 : BitVec 32 := Scalar.extui v69
  let c0_i32_35 : BitVec 32 := 0#32
  let v71 : BitVec 1 := Scalar.cmpi .ne v70 c0_i32_35
  v71

def k0_off17 (v68 : BitVec 32) : Fin 3 → Nat :=
  let v204 : Index := Scalar.indexCast v68
  let c0_122 : Index := 0#32
  let c0_123 : Index := 0#32
  ![v204.toNat, 0, 0]

def k0_chk9 (d0 : Dev nD) (v68 : BitVec 32) : Prop :=
  (∀ (k0_h17 : k0_cond17 d0 = 1#1), ∀ a, (k0_off17 v68) a + S2x8x128.size a ≤ S2x8x128.size a)
theorem k0_off17_inb : ∀ (d0 : Dev nD) (v68 : BitVec 32) (k0_hw9 : k0_chk9 d0 v68), ∀ (k0_h17 : k0_cond17 d0 = 1#1), ∀ a, (k0_off17 v68) a + S2x8x128.size a ≤ S2x8x128.size a := fun d0 v68 k0_hw9 k0_h17 => k0_hw9 k0_h17

def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  ![v2.toNat, 0]
def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_129 : BitVec 32 := 0#32
  let c0_i32_130 : BitVec 32 := 0#32
  let c0_i32_131 : BitVec 32 := 0#32
  ![v2.toNat, 0, 0, 0]
def k0_off20 (v68 : BitVec 32) : Fin 3 → Nat :=
  let c0_i32_122 : BitVec 32 := 0#32
  let v204 : BitVec 32 := Scalar.addi v68 c0_i32_122
  let c0_i32_132 : BitVec 32 := 0#32
  let c0_i32_133 : BitVec 32 := 0#32
  ![v204.toNat, 0, 0]
def k0_cond18 (d0 : Dev nD) (v73 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_36 : BitVec 32 := 4#32
  let v72 : BitVec 1 := Scalar.cmpi .ne v2 c4_i32_36
  let c0_i32_38 : BitVec 32 := 0#32
  let v74 : BitVec 1 := Scalar.cmpi .sgt v73 c0_i32_38
  let v75 : BitVec 1 := Scalar.andi v72 v74
  let v76 : BitVec 32 := Scalar.extui v75
  let c0_i32_39 : BitVec 32 := 0#32
  let v77 : BitVec 1 := Scalar.cmpi .ne v76 c0_i32_39
  v77

def k0_chk10 (d0 : Dev nD) (v68 : BitVec 32) (v73 : BitVec 32) : Prop :=
  (∀ (k0_h18 : k0_cond18 d0 v73 = 1#1), ∀ a, (k0_off20 v68) a + S2x8x128.size a ≤ S2x8x128.size a)
theorem k0_off20_inb : ∀ (d0 : Dev nD) (v68 : BitVec 32) (v73 : BitVec 32) (k0_hw10 : k0_chk10 d0 v68 v73), ∀ (k0_h18 : k0_cond18 d0 v73 = 1#1), ∀ a, (k0_off20 v68) a + S2x8x128.size a ≤ S2x8x128.size a := fun d0 v68 v73 k0_hw10 k0_h18 => k0_hw10 k0_h18

def k0_dev13 : Nat :=
  let c0_i32_128 : BitVec 32 := 0#32
  let c4_i32_126 : BitVec 32 := 4#32
  let c1_i32_127 : BitVec 32 := 1#32
  let v205 : BitVec 32 := Scalar.muli c4_i32_126 c1_i32_127
  let v206 : BitVec 32 := Scalar.addi c0_i32_128 v205
  v206.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_40 : BitVec 32 := 5#32
  let v79 : BitVec 1 := Scalar.cmpi .eq v2 c5_i32_40
  let v80 : BitVec 32 := Scalar.extui v79
  let c0_i32_41 : BitVec 32 := 0#32
  let v81 : BitVec 1 := Scalar.cmpi .ne v80 c0_i32_41
  v81

def k0_off21 (v78 : BitVec 32) : Fin 3 → Nat :=
  let v204 : Index := Scalar.indexCast v78
  let c0_122 : Index := 0#32
  let c0_123 : Index := 0#32
  ![v204.toNat, 0, 0]

def k0_chk11 (d0 : Dev nD) (v78 : BitVec 32) : Prop :=
  (∀ (k0_h19 : k0_cond19 d0 = 1#1), ∀ a, (k0_off21 v78) a + S2x8x128.size a ≤ S2x8x128.size a)
theorem k0_off21_inb : ∀ (d0 : Dev nD) (v78 : BitVec 32) (k0_hw11 : k0_chk11 d0 v78), ∀ (k0_h19 : k0_cond19 d0 = 1#1), ∀ a, (k0_off21 v78) a + S2x8x128.size a ≤ S2x8x128.size a := fun d0 v78 k0_hw11 k0_h19 => k0_hw11 k0_h19

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  ![v2.toNat, 0]
def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_129 : BitVec 32 := 0#32
  let c0_i32_130 : BitVec 32 := 0#32
  let c0_i32_131 : BitVec 32 := 0#32
  ![v2.toNat, 0, 0, 0]
def k0_off24 (v78 : BitVec 32) : Fin 3 → Nat :=
  let c0_i32_122 : BitVec 32 := 0#32
  let v204 : BitVec 32 := Scalar.addi v78 c0_i32_122
  let c0_i32_132 : BitVec 32 := 0#32
  let c0_i32_133 : BitVec 32 := 0#32
  ![v204.toNat, 0, 0]
def k0_cond20 (d0 : Dev nD) (v83 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_42 : BitVec 32 := 5#32
  let v82 : BitVec 1 := Scalar.cmpi .ne v2 c5_i32_42
  let c0_i32_44 : BitVec 32 := 0#32
  let v84 : BitVec 1 := Scalar.cmpi .sgt v83 c0_i32_44
  let v85 : BitVec 1 := Scalar.andi v82 v84
  let v86 : BitVec 32 := Scalar.extui v85
  let c0_i32_45 : BitVec 32 := 0#32
  let v87 : BitVec 1 := Scalar.cmpi .ne v86 c0_i32_45
  v87

def k0_chk12 (d0 : Dev nD) (v78 : BitVec 32) (v83 : BitVec 32) : Prop :=
  (∀ (k0_h20 : k0_cond20 d0 v83 = 1#1), ∀ a, (k0_off24 v78) a + S2x8x128.size a ≤ S2x8x128.size a)
theorem k0_off24_inb : ∀ (d0 : Dev nD) (v78 : BitVec 32) (v83 : BitVec 32) (k0_hw12 : k0_chk12 d0 v78 v83), ∀ (k0_h20 : k0_cond20 d0 v83 = 1#1), ∀ a, (k0_off24 v78) a + S2x8x128.size a ≤ S2x8x128.size a := fun d0 v78 v83 k0_hw12 k0_h20 => k0_hw12 k0_h20

def k0_dev14 : Nat :=
  let c0_i32_128 : BitVec 32 := 0#32
  let c5_i32_126 : BitVec 32 := 5#32
  let c1_i32_127 : BitVec 32 := 1#32
  let v205 : BitVec 32 := Scalar.muli c5_i32_126 c1_i32_127
  let v206 : BitVec 32 := Scalar.addi c0_i32_128 v205
  v206.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_46 : BitVec 32 := 6#32
  let v89 : BitVec 1 := Scalar.cmpi .eq v2 c6_i32_46
  let v90 : BitVec 32 := Scalar.extui v89
  let c0_i32_47 : BitVec 32 := 0#32
  let v91 : BitVec 1 := Scalar.cmpi .ne v90 c0_i32_47
  v91

def k0_off25 (v88 : BitVec 32) : Fin 3 → Nat :=
  let v204 : Index := Scalar.indexCast v88
  let c0_122 : Index := 0#32
  let c0_123 : Index := 0#32
  ![v204.toNat, 0, 0]

def k0_chk13 (d0 : Dev nD) (v88 : BitVec 32) : Prop :=
  (∀ (k0_h21 : k0_cond21 d0 = 1#1), ∀ a, (k0_off25 v88) a + S2x8x128.size a ≤ S2x8x128.size a)
theorem k0_off25_inb : ∀ (d0 : Dev nD) (v88 : BitVec 32) (k0_hw13 : k0_chk13 d0 v88), ∀ (k0_h21 : k0_cond21 d0 = 1#1), ∀ a, (k0_off25 v88) a + S2x8x128.size a ≤ S2x8x128.size a := fun d0 v88 k0_hw13 k0_h21 => k0_hw13 k0_h21

def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  ![v2.toNat, 0]
def k0_off27 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_129 : BitVec 32 := 0#32
  let c0_i32_130 : BitVec 32 := 0#32
  let c0_i32_131 : BitVec 32 := 0#32
  ![v2.toNat, 0, 0, 0]
def k0_off28 (v88 : BitVec 32) : Fin 3 → Nat :=
  let c0_i32_122 : BitVec 32 := 0#32
  let v204 : BitVec 32 := Scalar.addi v88 c0_i32_122
  let c0_i32_132 : BitVec 32 := 0#32
  let c0_i32_133 : BitVec 32 := 0#32
  ![v204.toNat, 0, 0]
def k0_cond22 (d0 : Dev nD) (v93 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_48 : BitVec 32 := 6#32
  let v92 : BitVec 1 := Scalar.cmpi .ne v2 c6_i32_48
  let c0_i32_50 : BitVec 32 := 0#32
  let v94 : BitVec 1 := Scalar.cmpi .sgt v93 c0_i32_50
  let v95 : BitVec 1 := Scalar.andi v92 v94
  let v96 : BitVec 32 := Scalar.extui v95
  let c0_i32_51 : BitVec 32 := 0#32
  let v97 : BitVec 1 := Scalar.cmpi .ne v96 c0_i32_51
  v97

def k0_chk14 (d0 : Dev nD) (v88 : BitVec 32) (v93 : BitVec 32) : Prop :=
  (∀ (k0_h22 : k0_cond22 d0 v93 = 1#1), ∀ a, (k0_off28 v88) a + S2x8x128.size a ≤ S2x8x128.size a)
theorem k0_off28_inb : ∀ (d0 : Dev nD) (v88 : BitVec 32) (v93 : BitVec 32) (k0_hw14 : k0_chk14 d0 v88 v93), ∀ (k0_h22 : k0_cond22 d0 v93 = 1#1), ∀ a, (k0_off28 v88) a + S2x8x128.size a ≤ S2x8x128.size a := fun d0 v88 v93 k0_hw14 k0_h22 => k0_hw14 k0_h22

def k0_dev15 : Nat :=
  let c0_i32_128 : BitVec 32 := 0#32
  let c6_i32_126 : BitVec 32 := 6#32
  let c1_i32_127 : BitVec 32 := 1#32
  let v205 : BitVec 32 := Scalar.muli c6_i32_126 c1_i32_127
  let v206 : BitVec 32 := Scalar.addi c0_i32_128 v205
  v206.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_52 : BitVec 32 := 7#32
  let v99 : BitVec 1 := Scalar.cmpi .eq v2 c7_i32_52
  let v100 : BitVec 32 := Scalar.extui v99
  let c0_i32_53 : BitVec 32 := 0#32
  let v101 : BitVec 1 := Scalar.cmpi .ne v100 c0_i32_53
  v101

def k0_off29 (v98 : BitVec 32) : Fin 3 → Nat :=
  let v204 : Index := Scalar.indexCast v98
  let c0_122 : Index := 0#32
  let c0_123 : Index := 0#32
  ![v204.toNat, 0, 0]

def k0_chk15 (d0 : Dev nD) (v98 : BitVec 32) : Prop :=
  (∀ (k0_h23 : k0_cond23 d0 = 1#1), ∀ a, (k0_off29 v98) a + S2x8x128.size a ≤ S2x8x128.size a)
theorem k0_off29_inb : ∀ (d0 : Dev nD) (v98 : BitVec 32) (k0_hw15 : k0_chk15 d0 v98), ∀ (k0_h23 : k0_cond23 d0 = 1#1), ∀ a, (k0_off29 v98) a + S2x8x128.size a ≤ S2x8x128.size a := fun d0 v98 k0_hw15 k0_h23 => k0_hw15 k0_h23

def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_123 : BitVec 32 := 0#32
  ![v2.toNat, 0]
def k0_off31 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_129 : BitVec 32 := 0#32
  let c0_i32_130 : BitVec 32 := 0#32
  let c0_i32_131 : BitVec 32 := 0#32
  ![v2.toNat, 0, 0, 0]
def k0_off32 (v98 : BitVec 32) : Fin 3 → Nat :=
  let c0_i32_122 : BitVec 32 := 0#32
  let v204 : BitVec 32 := Scalar.addi v98 c0_i32_122
  let c0_i32_132 : BitVec 32 := 0#32
  let c0_i32_133 : BitVec 32 := 0#32
  ![v204.toNat, 0, 0]
def k0_cond24 (d0 : Dev nD) (v103 : BitVec 32) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_54 : BitVec 32 := 7#32
  let v102 : BitVec 1 := Scalar.cmpi .ne v2 c7_i32_54
  let c0_i32_56 : BitVec 32 := 0#32
  let v104 : BitVec 1 := Scalar.cmpi .sgt v103 c0_i32_56
  let v105 : BitVec 1 := Scalar.andi v102 v104
  let v106 : BitVec 32 := Scalar.extui v105
  let c0_i32_57 : BitVec 32 := 0#32
  let v107 : BitVec 1 := Scalar.cmpi .ne v106 c0_i32_57
  v107

def k0_chk16 (d0 : Dev nD) (v98 : BitVec 32) (v103 : BitVec 32) : Prop :=
  (∀ (k0_h24 : k0_cond24 d0 v103 = 1#1), ∀ a, (k0_off32 v98) a + S2x8x128.size a ≤ S2x8x128.size a)
theorem k0_off32_inb : ∀ (d0 : Dev nD) (v98 : BitVec 32) (v103 : BitVec 32) (k0_hw16 : k0_chk16 d0 v98 v103), ∀ (k0_h24 : k0_cond24 d0 v103 = 1#1), ∀ a, (k0_off32 v98) a + S2x8x128.size a ≤ S2x8x128.size a := fun d0 v98 v103 k0_hw16 k0_h24 => k0_hw16 k0_h24

def k0_dev16 : Nat :=
  let c0_i32_128 : BitVec 32 := 0#32
  let c7_i32_126 : BitVec 32 := 7#32
  let c1_i32_127 : BitVec 32 := 1#32
  let v205 : BitVec 32 := Scalar.muli c7_i32_126 c1_i32_127
  let v206 : BitVec 32 := Scalar.addi c0_i32_128 v205
  v206.toNat
abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== EveryoneIdeal.lean ====
abbrev S16x8x128 : Shape := ⟨3, ![16, 8, 128]⟩
abbrev S8x2x8x128 : Shape := ⟨4, ![8, 2, 8, 128]⟩

abbrev nBuf : Space → Nat
  | .hbm => 2
  | .vmem => 0
  | .smem => 0
  | _ => 0

abbrev bufTy : (tb : Table) → Fin (tcTables nBuf tb) → BufTy
  | .hbm, ⟨0, _⟩ => ⟨S16x8x128, .i32⟩
  | .hbm, ⟨1, _⟩ => ⟨S8x2x8x128, .i32⟩
  | _, _ => ⟨S16x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Experts.lean ====
abbrev S2048x1024 : Shape := ⟨2, ![2048, 1024]⟩
abbrev S8x1024x1024 : Shape := ⟨3, ![8, 1024, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S8x1024x1024, .f32⟩
  | .hbm, ⟨2, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S256x1024, .f32⟩
  | .local _ .vmem, ⟨5, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProductIdeal.lean ====
abbrev S2048x1024 : Shape := ⟨2, ![2048, 1024]⟩
abbrev S8x1024x1024 : Shape := ⟨3, ![8, 1024, 1024]⟩
abbrev S8x256x1024 : Shape := ⟨3, ![8, 256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024x1024, .f32⟩
  | .hbm, ⟨2, _⟩ => ⟨S8x256x1024, .f32⟩
  | .hbm, ⟨3, _⟩ => ⟨S8x256x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gather.lean ====
abbrev S3072x8x128 : Shape := ⟨3, ![3072, 8, 128]⟩
abbrev S2048 : Shape := ⟨1, ![2048]⟩
abbrev S2048x8x128 : Shape := ⟨3, ![2048, 8, 128]⟩
abbrev S1 : Shape := ⟨1, ![1]⟩
abbrev S1x8x128 : Shape := ⟨3, ![1, 8, 128]⟩
abbrev S8x128 : Shape := ⟨2, ![8, 128]⟩

abbrev nBuf : Space → Nat
  | .hbm => 3
  | .vmem => 2
  | .smem => 1
  | _ => 0

abbrev bufTy : (tb : Table) → Fin (tcTables nBuf tb) → BufTy
  | .hbm, ⟨0, _⟩ => ⟨S3072x8x128, .f32⟩
  | .hbm, ⟨1, _⟩ => ⟨S2048, .i32⟩
  | .hbm, ⟨2, _⟩ => ⟨S2048x8x128, .f32⟩
  | .local _ .vmem, ⟨0, _⟩ => ⟨S3072x8x128, .f32⟩
  | .local _ .vmem, ⟨1, _⟩ => ⟨S2048x8x128, .f32⟩
  | .local _ .smem, ⟨0, _⟩ => ⟨S2048, .i32⟩
  | _, _ => ⟨S3072x8x128, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v0 : BitVec 32 := Scalar.addi c0_i32 c2048_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg3 : BitVec 32 := Scf.iv c0_i32 c1_i32 k0_t1
  let v1 : Index := Scalar.indexCast arg3
  ![v1.toNat]
def k0_off2 (v2 : BitVec 32) : Fin 3 → Nat :=
  let v3 : Index := Scalar.indexCast v2
  let c0 : Index := 0#32
  let c0_1 : Index := 0#32
  ![v3.toNat, 0, 0]

def k0_chk1 (v2 : BitVec 32) : Prop :=
  (∀ a, (k0_off2 v2) a + S1x8x128.size a ≤ S3072x8x128.size a)
theorem k0_off2_inb : ∀ (v2 : BitVec 32) (k0_hw1 : k0_chk1 v2), ∀ a, (k0_off2 v2) a + S1x8x128.size a ≤ S3072x8x128.size a := fun v2 k0_hw1 => k0_hw1

def k0_off3 (k0_t1 : Fin k0_t1_loop.trips) : Fin 3 → Nat :=
  let c0_i32 : BitVec 32 := 0#32
  let c1_i32 : BitVec 32 := 1#32
  let arg3 : BitVec 32 := Scf.iv c0_i32 c1_i32 k0_t1
  let v6 : Index := Scalar.indexCast arg3
  let c0_2 : Index := 0#32
  let c0_3 : Index := 0#32
  ![v6.toNat, 0, 0]
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== PickedIdeal.lean ====
abbrev S3072x8x128 : Shape := ⟨3, ![3072, 8, 128]⟩
abbrev S2048 : Shape := ⟨1, ![2048]⟩
abbrev S_ : Shape := ⟨0, ![]⟩
abbrev S2048x1 : Shape := ⟨2, ![2048, 1]⟩
abbrev S2048x8x128 : Shape := ⟨3, ![2048, 8, 128]⟩

abbrev nBuf : Space → Nat
  | .hbm => 11
  | .vmem => 0
  | .smem => 0
  | _ => 0

abbrev bufTy : (tb : Table) → Fin (tcTables nBuf tb) → BufTy
  | .hbm, ⟨0, _⟩ => ⟨S3072x8x128, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x8x128, .f32⟩
  | _, _ => ⟨S3072x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Scatter.lean ====
abbrev S2048x8x128 : Shape := ⟨3, ![2048, 8, 128]⟩
abbrev S2048 : Shape := ⟨1, ![2048]⟩
abbrev S2432x8x128 : Shape := ⟨3, ![2432, 8, 128]⟩
abbrev S1x8x128 : Shape := ⟨3, ![1, 8, 128]⟩
abbrev S8x128 : Shape := ⟨2, ![8, 128]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S2048x8x128, .f32⟩
  | .hbm, ⟨1, _⟩ => ⟨S2048, .i32⟩
  | .hbm, ⟨2, _⟩ => ⟨S2432x8x128, .f32⟩
  | .local _ .vmem, ⟨0, _⟩ => ⟨S2048x8x128, .f32⟩
  | .local _ .vmem, ⟨1, _⟩ => ⟨S2432x8x128, .f32⟩
  | .local _ .smem, ⟨0, _⟩ => ⟨S2048, .i32⟩
  | _, _ => ⟨S2048x8x128, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2048_i32 : BitVec 32 := 2048#32
  let v0 : BitVec 32 := Scalar.addi c0_i32 c2048_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v1 : Index := Scalar.indexCast arg3
  let c0 : Index := 0#32
  let c0_1 : Index := 0#32
  ![v1.toNat, 0, 0]
def k0_off2 (k0_t1 : Fin k0_t1_loop.trips) : Fin 1 → Nat :=
  let c0_i32 : BitVec 32 := 0#32
  let c1_i32 : BitVec 32 := 1#32
  let arg3 : BitVec 32 := Scf.iv c0_i32 c1_i32 k0_t1
  let v4 : Index := Scalar.indexCast arg3
  ![v4.toNat]
def k0_off3 (v5 : BitVec 32) : Fin 3 → Nat :=
  let v6 : Index := Scalar.indexCast v5
  let c0_2 : Index := 0#32
  let c0_3 : Index := 0#32
  ![v6.toNat, 0, 0]

def k0_chk1 (v5 : BitVec 32) : Prop :=
  (∀ a, (k0_off3 v5) a + S1x8x128.size a ≤ S2432x8x128.size a)
theorem k0_off3_inb : ∀ (v5 : BitVec 32) (k0_hw1 : k0_chk1 v5), ∀ a, (k0_off3 v5) a + S1x8x128.size a ≤ S2432x8x128.size a := fun v5 k0_hw1 => k0_hw1

abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2432x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== PlacedIdeal.lean ====
abbrev S2048x8x128 : Shape := ⟨3, ![2048, 8, 128]⟩
abbrev S2048 : Shape := ⟨1, ![2048]⟩
abbrev S1x2048 : Shape := ⟨2, ![1, 2048]⟩
abbrev S2432 : Shape := ⟨1, ![2432]⟩
abbrev S2432x1 : Shape := ⟨2, ![2432, 1]⟩
abbrev S2432x2048 : Shape := ⟨2, ![2432, 2048]⟩
abbrev S_ : Shape := ⟨0, ![]⟩
abbrev S2432x1x1 : Shape := ⟨3, ![2432, 1, 1]⟩
abbrev S2432x8x128 : Shape := ⟨3, ![2432, 8, 128]⟩

abbrev nBuf : Space → Nat
  | .hbm => 35
  | .vmem => 0
  | .smem => 0
  | _ => 0

abbrev bufTy : (tb : Table) → Fin (tcTables nBuf tb) → BufTy
  | .hbm, ⟨0, _⟩ => ⟨S2048x8x128, .f32⟩
  | .hbm, ⟨1, _⟩ => ⟨S2048, .i32⟩
  | .hbm, ⟨2, _⟩ => ⟨S1x2048, .i32⟩
  | .hbm, ⟨3, _⟩ => ⟨S2432, .i32⟩
  | .hbm, ⟨4, _⟩ => ⟨S2432x1, .i32⟩
  | .hbm, ⟨5, _⟩ => ⟨S2432x2048, .i32⟩
  | .hbm, ⟨6, _⟩ => ⟨S2432x2048, .i32⟩
  | .hbm, ⟨7, _⟩ => ⟨S2432x2048, .i1⟩
  | .hbm, ⟨8, _⟩ => ⟨S2048, .i32⟩
  | .hbm, ⟨9, _⟩ => ⟨S1x2048, .i32⟩
  | .hbm, ⟨10, _⟩ => ⟨S_, .i32⟩
  | .hbm, ⟨11, _⟩ => ⟨S_, .i32⟩
  | .hbm, ⟨12, _⟩ => ⟨S2432x2048, .i32⟩
  | .hbm, ⟨13, _⟩ => ⟨S2432x2048, .i32⟩
  | .hbm, ⟨14, _⟩ => ⟨S2432x2048, .i32⟩
  | .hbm, ⟨15, _⟩ => ⟨S_, .i32⟩
  | .hbm, ⟨16, _⟩ => ⟨S2432, .i32⟩
  | .hbm, ⟨17, _⟩ => ⟨S_, .i32⟩
  | .hbm, ⟨18, _⟩ => ⟨S2432, .i32⟩
  | .hbm, ⟨19, _⟩ => ⟨S2432, .i1⟩
  | .hbm, ⟨20, _⟩ => ⟨S2432x1x1, .i1⟩
  | .hbm, ⟨21, _⟩ => ⟨S_, .i32⟩
  | .hbm, ⟨22, _⟩ => ⟨S2432, .i32⟩
  | .hbm, ⟨23, _⟩ => ⟨S2432, .i1⟩
  | .hbm, ⟨24, _⟩ => ⟨S_, .i32⟩
  | .hbm, ⟨25, _⟩ => ⟨S2432, .i32⟩
  | .hbm, ⟨26, _⟩ => ⟨S2432, .i32⟩
  | .hbm, ⟨27, _⟩ => ⟨S2432, .i32⟩
  | .hbm, ⟨28, _⟩ => ⟨S2432x1, .i32⟩
  | .hbm, ⟨29, _⟩ => ⟨S2432x8x128, .f32⟩
  | .hbm, ⟨30, _⟩ => ⟨S_, .f32⟩
  | .hbm, ⟨31, _⟩ => ⟨S_, .f32⟩
  | .hbm, ⟨32, _⟩ => ⟨S2432x8x128, .i1⟩
  | .hbm, ⟨33, _⟩ => ⟨S2432x8x128, .f32⟩
  | .hbm, ⟨34, _⟩ => ⟨S2432x8x128, .f32⟩
  | _, _ => ⟨S2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Families.lean ====
/-
  What the exchanges between the devices share: families of resources of which one item is handled after the other, and the cells of an
  exchange, put up at launch and opened on entering its kernel.
-/
module

public import Idealize.ShloMosaic.Lib.Pipeline.Kit
public import Idealize.ShloMosaic.Lib.Rounds
public import Idealize.ShloMosaic.Lib.Rounds.Family
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Families -/

/-- A sum in which the terms before the `n`-th are struck out gives up its `n`-th. -/
theorem sum_step {ι A : Type} [Fintype ι] [DecidableEq ι] [AddCommMonoid A] (rk : ι → ℕ) (hrk : ∀ i j, rk i = rk j → i = j)
    (f : ι → A) (i : ι) (n : ℕ) (hi : rk i = n) :
    (∑ j, if rk j < n then 0 else f j) = (∑ j, if rk j < n + 1 then 0 else f j) + f i := by
  rw [← Finset.add_sum_erase Finset.univ _ (Finset.mem_univ i),
    ← Finset.add_sum_erase Finset.univ (fun j => if rk j < n + 1 then 0 else f j) (Finset.mem_univ i)]
  rw [if_neg (by omega), if_pos (by omega), zero_add, add_comm]
  congr 1
  refine Finset.sum_congr rfl fun j hj => ?_
  have hne : rk j ≠ n := fun h => Finset.ne_of_mem_erase hj (hrk _ _ (h.trans hi.symm))
  by_cases h : rk j < n
  · rw [if_pos h, if_pos (by omega)]
  · rw [if_neg h, if_neg (by omega)]

section Logic

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A statement that stands only if `P` does. -/
def whenP (P : Prop) [Decidable P] (X : sProp 𝕄) : sProp 𝕄 := if P then X else iprop(emp)

theorem whenP_pos {P : Prop} [Decidable P] (h : P) (X : sProp 𝕄) : whenP P X = X := if_pos h
theorem whenP_neg {P : Prop} [Decidable P] (h : ¬P) (X : sProp 𝕄) : whenP P X = iprop(emp) := if_neg h

instance whenP_storable (P : Prop) [Decidable P] (X : sProp 𝕄) [BI.Storable (upEmb : UEmb _ 𝕄) X] : BI.Storable (upEmb : UEmb _ 𝕄) (whenP P X) := by
  unfold whenP; split <;> infer_instance

/-- Of a family in which the items before the `n`-th have become `B`, the `n`-th is still `A`, and may become `B`. -/
theorem bigSep_step {ι : Type} [Fintype ι] [DecidableEq ι] (rk : ι → ℕ) (hrk : ∀ i j, rk i = rk j → i = j)
    (A B : ι → sProp 𝕄) (i : ι) (n : ℕ) (hi : rk i = n) :
    bigSep Finset.univ (fun j => if rk j < n then B j else A j)
      ⊢ iprop(A i ∗ (B i -∗ bigSep Finset.univ (fun j => if rk j < n + 1 then B j else A j))) := by
  rw [bigSep_erase (Finset.mem_univ i), bigSep_erase (Φ := fun j => if rk j < n + 1 then B j else A j) (Finset.mem_univ i)]
  rw [if_neg (by omega), if_pos (by omega)]
  have e : bigSep (Finset.univ.erase i) (fun j => if rk j < n then B j else A j)
      = bigSep (Finset.univ.erase i) (fun j => if rk j < n + 1 then B j else A j) := by
    refine bigSep_congr fun j hj => ?_
    have hne : rk j ≠ n := fun h => Finset.ne_of_mem_erase hj (hrk _ _ (h.trans hi.symm))
    by_cases h : rk j < n
    · rw [if_pos h, if_pos (by omega)]
    · rw [if_neg h, if_neg (by omega)]
  rw [e]
  exact sep_mono .rfl (wand_intro sep_comm.1)

/-- Two families, as one of pairs, -/
theorem pair_up {ι : Type} [Fintype ι] {Φ Ψ : ι → sProp 𝕄} :
    iprop(bigSep Finset.univ Φ ∗ bigSep Finset.univ Ψ) ⊢ bigSep Finset.univ (fun c => iprop(Φ c ∗ Ψ c)) :=
  Entails.of_eq (bigSep_sep _ _ _).symm
/-- and back. -/
theorem pair_off {ι : Type} [Fintype ι] {Φ Ψ : ι → sProp 𝕄} :
    bigSep Finset.univ (fun c => iprop(Φ c ∗ Ψ c)) ⊢ iprop(bigSep Finset.univ Φ ∗ bigSep Finset.univ Ψ) :=
  Entails.of_eq (bigSep_sep _ _ _)

/-- A family over every device's departures and arrivals, as two. -/
theorem chunk_sums {ι K : Type} [Fintype ι] [Fintype K] [DecidableEq ι] [DecidableEq K] (Φ : ι × (K ⊕ K) → sProp 𝕄) :
    bigSep Finset.univ Φ ⊢ iprop(bigSep Finset.univ (fun x : ι × K => Φ (x.1, .inl x.2)) ∗ bigSep Finset.univ (fun x : ι × K => Φ (x.1, .inr x.2))) := by
  rw [bigSep_univ_equiv (Equiv.prodSumDistrib ι K K).symm Φ, bigSep_univ_sum]
  exact BI.Entails.refl _

/-- A resource, all of it with device 0. -/
def parked {n : ℕ} [NeZero n] (X : sProp 𝕄) (c : Fin n) : sProp 𝕄 := if c = 0 then X else iprop(emp)
theorem parked_eq {n : ℕ} [NeZero n] (X : sProp 𝕄) : bigSep Finset.univ (parked (n := n) X) = X := by
  rw [bigSep_univ_at _ (0 : Fin n), bigSep_congr (s := Finset.univ.erase (0 : Fin n)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-! ## The cells of an exchange -/

variable {T : Type} [DecidableEq T] [Preorder Lvl]
variable (E : Emb (URounds (GSem nD τ sig) T) (MT nD τ sig Ix Val Name U Lvl)) (Rd : Schedule (GSem nD τ sig) T (MT nD τ sig Ix Val Name U Lvl))

/-- The cells of a family, still closed and with their counters at zero, are opened if what stands (`C`) has every one of them under the
    protocol. -/
theorem open_cells {K : Type} [Fintype K] [DecidableEq K] {C : sProp 𝕄} [BI.Persistent C] (gs : K → GSem nD τ sig) (κs : K → Name)
    (hC : ∀ k, C ⊢ cellInv E Rd (κs k) (gs k)) :
    iprop(C ∗ (bigSep Finset.univ fun k : K => openTok E (gs k)) ∗ bigSep Finset.univ fun k : K => semVal (gs k) 0)
      ⊢ (|={Set.univ}=> bigSep Finset.univ fun k : K => iprop(atPos E (gs k) 0 ∅ 0 ∗ reached E (gs k) 0) : sProp 𝕄) := by
  have h := cells_open E Rd (Finset.univ : Finset K) gs κs (Es := Set.univ) fun _ _ => Set.mem_univ _
  have e := bigSep_with_persistent (R := C) (S := (Finset.univ : Finset K)) (Φ := fun k => openTok E (gs k))
    (Ψ := fun k => iprop(cellInv E Rd (κs k) (gs k) ∗ openTok E (gs k))) fun k _ => sep_mono (hC k) .rfl
  iintro ⟨Hc, Ho, Hv⟩
  iapply h
  isplitl [Hc Ho]
  · iapply e
    isplitl [Hc] <;> iassumption
  iexact Hv

variable {ι K : Type} [Fintype ι] [Fintype K] [DecidableEq ι] [DecidableEq K]

/-- At launch an exchange is put up, of the barriers `bar` and of each device's departure and arrival cells `cell`: from the barriers'
    counters at zero, every cell comes under the protocol, and a device gets its place at its barrier, its duties (`duty`), and the right
    to open each of its other cells. -/
theorem set_up_cells [Infinite Name] [E.LandsIn (upEmb : UEmb _ 𝕄)] [∀ g r d, BI.Storable (upEmb : UEmb _ 𝕄) (Rd.payload g r d)]
    (bar : ι ↪ GSem nD τ sig) (cell : ι × (K ⊕ K) ↪ GSem nD τ sig)
    (hd : Disjoint (Finset.univ.map bar) (Finset.univ.map cell)) (hu : ∀ g ∈ Finset.univ.map cell, ¬Rd.unitless g)
    (toks : Finset (GSem nD τ sig × ℕ × T)) (duty : ι → sProp 𝕄)
    (htok : bigSep toks (fun t => (dutyTok E t.1 t.2.1 t.2.2 : sProp 𝕄)) = bigSep Finset.univ duty) {Es : Set Name} :
    iprop((bigSep Finset.univ fun c : ι => semVal (bar c) 0) ∗ BI.own (E (launchOf (Finset.univ.map bar) (Finset.univ.map cell) toks)))
      ⊢ (|={Es}=> ∃ κ : GSem nD τ sig → Name,
          ((bigSep Finset.univ fun p : ι => iprop(cellInv E Rd (κ (bar p)) (bar p) ∗ reached E (bar p) 0))
            ∗ (bigSep Finset.univ fun x : ι × K => cellInv E Rd (κ (cell (x.1, .inl x.2))) (cell (x.1, .inl x.2)))
            ∗ (bigSep Finset.univ fun x : ι × K => cellInv E Rd (κ (cell (x.1, .inr x.2))) (cell (x.1, .inr x.2))))
          ∗ bigSep Finset.univ fun c : ι => iprop(atPos E (bar c) 0 ∅ 0 ∗ duty c
            ∗ (bigSep Finset.univ fun j : K => openTok E (cell (c, .inl j))) ∗ (bigSep Finset.univ fun j : K => openTok E (cell (c, .inr j)))) : sProp 𝕄) := by
  have hbar (Φ : GSem nD τ sig → sProp 𝕄) : bigSep (Finset.univ.map bar) Φ = bigSep Finset.univ fun c => Φ (bar c) := bigSep_map (s := Finset.univ) bar (Φ := Φ)
  have hopen : bigSep (Finset.univ.map cell) (fun g => (openTok E g : sProp 𝕄))
      ⊢ bigSep Finset.univ (fun c : ι => iprop((bigSep Finset.univ fun j : K => openTok E (cell (c, .inl j)))
          ∗ (bigSep Finset.univ fun j : K => openTok E (cell (c, .inr j))))) :=
    Entails.of_eq (by
      rw [bigSep_map, bigSep_univ_prod]
      exact bigSep_congr fun c _ => bigSep_univ_sum _)
  have hinv (κ : GSem nD τ sig → Name) : bigSep (Finset.univ.map bar ∪ Finset.univ.map cell) (fun g => (cellInv E Rd (κ g) g : sProp 𝕄))
      ⊢ iprop(bigSep Finset.univ (fun p : ι => cellInv E Rd (κ (bar p)) (bar p))
        ∗ bigSep Finset.univ (fun x : ι × (K ⊕ K) => cellInv E Rd (κ (cell x)) (cell x))) :=
    Entails.of_eq (by rw [bigSep_union hd, bigSep_map, bigSep_map]; rfl)
  iintro ⟨Hv, Hu⟩
  imod (Rounds.fund_launch E Rd hd hu toks) $$ [Hv Hu] with ⟨%κ, -, Hinv, Hr, Hat, Hopen, Htok⟩
  · isplitl [Hv]
    · iapply (Entails.of_eq (hbar fun g => semVal g 0).symm) $$ Hv
    · iexact Hu
  imodintro
  iexists κ
  isplitl [Hinv Hr]
  · ihave H := (hinv κ) $$ Hinv; icases H with ⟨HB, HC⟩
    ihave H := (chunk_sums fun x : ι × (K ⊕ K) => (cellInv E Rd (κ (cell x)) (cell x) : sProp 𝕄)) $$ HC
    icases H with ⟨HS, HV⟩
    isplitl [HB Hr]
    · iapply pair_up
      isplitl [HB]; · iexact HB
      iapply (Entails.of_eq (hbar fun g => reached E g 0)); iexact Hr
    isplitl [HS]; · iexact HS
    iexact HV
  iapply pair_up; isplitl [Hat]; · iapply (Entails.of_eq (hbar fun g => atPos E g 0 ∅ 0)) $$ Hat
  iapply pair_up; isplitl [Htok]; · iapply (Entails.of_eq htok) $$ Htok
  iapply hopen $$ Hopen

end Logic

end Cert.Exchange
end
-- ==== Proof.Cells.lean ====
/-
  The token exchange's protocol: which semaphore counts what, which device pays it, and what the payment hands over.

  A device's rows for the eight devices travel as CHUNKS of 128 rows, three to a device: chunk `(d, k)` of a device goes to device `d`,
  and is sent when `d` is another device and the count of rows for `d` is above `128 k`. Its arrival is counted by cell `rcv (c, k)` of
  device `d`, its departure by cell `snd (d, k)` of the sender `c`. Before any chunk the devices meet at a barrier: each tells every other
  one that it has entered, and with that hands over the places of its own result that the other one will write.

  Written of abstract contents `Data` (every device's offsets, counts and packed rows), so that nothing here depends on a program's
  memory.
-/
module

public import proofs.«01_k».proof.Proof.Gen.KernelIdeal.Skeleton
public import proofs.«01_k».proof.Proof.Gen.KernelIdeal.Launch
public import proofs.«01_k».proof.Proof.Families
public import Idealize.ShloMosaic.Lib.Pipeline.Kit
public import Idealize.ShloMosaic.Lib.Rounds
public import Idealize.ShloMosaic.Lib.Rounds.Family
public import Idealize.ShloMosaic.Lib.ShareLeaves
public import Idealize.ShloMosaic.Lib.AllToAll.Once
public import Idealize.ShloMosaic.Lib.ValueIdxCore
public import Idealize.ShloMosaic.Lib.Tactic
public import Idealize.ShloMosaic.Harness.Basic

@[expose] public section

noncomputable section

namespace Cert.KernelIdeal.Exchange

export Cert.Exchange (whenP whenP_pos whenP_neg sum_step bigSep_step pair_up pair_off parked parked_eq open_cells set_up_cells)

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra -/

/-- One component for the staging copies, one for the exchange of the counts, one for the exchange of the rows. -/
abbrev UU : Type := UR sig nD τ × (AllToAll.Once.UC nD τ sig × Rounds.URounds (GSem nD τ sig) (Dev nD))

local notation "𝕄" => MT nD τ sig ℕ (Elt F) ℕ UU ℕ

/-- The staging copies' component, -/
abbrev EP : Emb (UR sig nD τ) (MT nD τ sig ℕ (Elt F) ℕ UU ℕ) := embL
/-- the counts', -/
def EC : Emb (AllToAll.Once.UC nD τ sig) (MT nD τ sig ℕ (Elt F) ℕ UU ℕ) := (Emb.inl : Emb _ (_ × _)).trans embR
/-- and the rows'. -/
def ER : Emb (Rounds.URounds (GSem nD τ sig) (Dev nD)) (MT nD τ sig ℕ (Elt F) ℕ UU ℕ) := (Emb.inr : Emb _ (_ × _)).trans embR

instance EC_landsIn : (EC (F := F)).LandsIn (upEmb : UEmb _ 𝕄) := by unfold EC; infer_instance
instance ER_landsIn : (ER (F := F)).LandsIn (upEmb : UEmb _ 𝕄) := by unfold ER; infer_instance

/-! ## Chunks and cells -/

/-- A chunk: the device at the other end, and which of its three runs of 128 rows. -/
abbrev Chunk : Type := Dev nD × Fin 3

/-- The chunks in the order in which the kernel handles them. -/
def rank (j : Chunk) : ℕ := 3 * j.1.val + j.2.val

theorem rank_lt (j : Chunk) : rank j < 24 := by
  have h1 : j.1.val < 8 := j.1.isLt
  have h2 := j.2.isLt
  unfold rank; omega

theorem rank_inj {i j : Chunk} (h : rank i = rank j) : i = j := by
  have h2 := i.2.isLt; have h3 := j.2.isLt
  unfold rank at h
  exact Prod.ext (Fin.ext (by omega)) (Fin.ext (by omega))

/-- The barrier semaphore of the exchange. -/
abbrev barS : Sem sig := sig.barrier 1 rfl
/-- The semaphore that counts chunk `j`'s departure, -/
def sndS (j : Chunk) : DmaSem sig := ⟨8 + rank j, by have := rank_lt j; show 8 + rank j < 56; omega⟩
/-- and the one that counts the arrival of the chunk that device `j.1` sends here. -/
def rcvS (j : Chunk) : DmaSem sig := ⟨32 + rank j, by have := rank_lt j; show 32 + rank j < 56; omega⟩

abbrev barCell (c : Dev nD) : GSem nD τ sig := ((c : Thread nD τ), .reg barS)
abbrev sndCell (c : Dev nD) (j : Chunk) : GSem nD τ sig := ((c : Thread nD τ), .dma (sndS j))
abbrev rcvCell (c : Dev nD) (j : Chunk) : GSem nD τ sig := ((c : Thread nD τ), .dma (rcvS j))

/-- What a semaphore is to the exchange. -/
inductive Kind where
  | bar | snd (j : Chunk) | rcv (j : Chunk) | other

/-- Chunk number `n`. -/
def chunkAt (n : ℕ) : Chunk := (⟨n / 3 % 8, Nat.mod_lt _ (by decide)⟩, ⟨n % 3, Nat.mod_lt _ (by decide)⟩)

theorem chunkAt_rank (j : Chunk) : chunkAt (rank j) = j := by
  have h1 : j.1.val < 8 := j.1.isLt
  have h2 := j.2.isLt
  unfold chunkAt rank
  exact Prod.ext (Fin.ext (by dsimp only; omega)) (Fin.ext (by dsimp only; omega))

def kindOf : SemLoc sig → Kind
  | .reg s => if s = barS then .bar else .other
  | .dma s => if s.val < 8 then .other else if s.val < 32 then .snd (chunkAt (s.val - 8)) else .rcv (chunkAt (s.val - 32))

theorem kindOf_bar : kindOf (.reg barS) = .bar := by
  show (if barS = barS then Kind.bar else Kind.other) = Kind.bar
  exact if_pos rfl
theorem kindOf_snd (j : Chunk) : kindOf (.dma (sndS j)) = .snd j := by
  have h := rank_lt j
  have e : (sndS j).val = 8 + rank j := rfl
  unfold kindOf
  dsimp only
  rw [e, if_neg (by omega), if_pos (by omega), Nat.add_sub_cancel_left, chunkAt_rank]
theorem kindOf_rcv (j : Chunk) : kindOf (.dma (rcvS j)) = .rcv j := by
  have h := rank_lt j
  have e : (rcvS j).val = 32 + rank j := rfl
  unfold kindOf
  dsimp only
  rw [e, if_neg (by omega), if_neg (by omega), Nat.add_sub_cancel_left, chunkAt_rank]

/-! ## The devices' contents -/

/-- What every device brings to the exchange: the row its rows for device `d` start at, how many there are, and the packed rows. -/
structure Data (F : FTy → Type) [FloatOps F] where
  off : Dev nD → Dev nD → BitVec 32
  cnt : Dev nD → Dev nD → BitVec 32
  x : Dev nD → S2432x8x128.Idx → Elt F .f32

/-- Every run of rows starts within the pack. -/
def Data.Ok (D : Data F) : Prop := ∀ c d, (D.off c d).toNat ≤ 2048

/-- Run `k` of a device's rows is among the counted ones: the count, read signed, is above `128 k`. -/
def live (v : BitVec 32) (k : Fin 3) : Prop := Scalar.cmpi .sgt v (BitVec.ofNat 32 (128 * k.val)) = 1#1
instance (v : BitVec 32) (k : Fin 3) : Decidable (live v k) := by unfold live; infer_instance

variable (D : Data F)

/-- Device `c` sends chunk `j`. -/
def sends (c : Dev nD) (j : Chunk) : Prop := c ≠ j.1 ∧ live (D.cnt c j.1) j.2
instance (c : Dev nD) (j : Chunk) : Decidable (sends D c j) := by unfold sends; infer_instance
/-- Device `c` receives the chunk `j.2` that device `j.1` sends it. -/
abbrev gets (c : Dev nD) (j : Chunk) : Prop := sends D j.1 (c, j.2)

/-- The first row of chunk `j` in device `c`'s pack. -/
def row (c : Dev nD) (j : Chunk) : ℕ := (D.off c j.1).toNat + 128 * j.2.val

/-- The packed element at row `r`. -/
def srcIx (r : ℕ) (a : Fin 8) (b : Fin 128) : S2432x8x128.Idx := ix3 (⟨r % 2432, Nat.mod_lt _ (by decide)⟩ : Fin 2432) a b

/-- What device `c`'s result holds where rows arrive: at `(s, r)`, row `r` of those that device `s` packed for `c`. -/
def result (c : Dev nD) : S8x384x8x128.Idx → Elt F .f32 :=
  fun i => D.x (i 0) (srcIx ((D.off (i 0) c).toNat + (i 1).val) (i 2) (i 3))

/-- The 128 rows of the pack from `r`. -/
def srcSet (r : ℕ) : Finset S2432x8x128.Idx := Finset.univ.filter fun i => r ≤ (i 0).val ∧ (i 0).val < r + 128
/-- Chunk `j` of the result. -/
def outSet (j : Chunk) : Finset S8x384x8x128.Idx :=
  Finset.univ.filter fun i => (i 0).val = j.1.val ∧ 128 * j.2.val ≤ (i 1).val ∧ (i 1).val < 128 * j.2.val + 128
/-- Device `d`'s block of the result. -/
def ownSet (d : Dev nD) : Finset S8x384x8x128.Idx := Finset.univ.filter fun i => (i 0).val = d.val

/-! ## The buffers the kernel works on -/

abbrev aOff : Memref sig .tc .smem S8 .i32 := Memref.whole cc0_stg0_0
abbrev aSnt : Memref sig .tc .smem S8 .i32 := Memref.whole cc0_stg1_0
abbrev aGot : Memref sig .tc .smem S8 .i32 := Memref.whole cc0_stg2_0
abbrev aSrc : Memref sig .tc .vmem S2432x8x128 .f32 := Memref.whole cc0_stg3_0
abbrev aOut : Memref sig .tc .vmem S8x384x8x128 .f32 := Memref.whole cc0_stg4_0

/-- Device `c`'s result, over the places `I`. -/
abbrev outPts (c : Dev nD) (I : Finset S8x384x8x128.Idx) (f : S8x384x8x128.Idx → Elt F .f32) : sProp 𝕄 :=
  ((c : Thread nD τ).loc cc0_stg4_0) ↦[I]{fullShare} f
/-- Device `c`'s packed rows over the places `I`, at share `q`. -/
abbrev srcPts (c : Dev nD) (q : PosShare TreeShare) (I : Finset S2432x8x128.Idx) (f : S2432x8x128.Idx → Elt F .f32) : sProp 𝕄 :=
  ((c : Thread nD τ).loc cc0_stg3_0) ↦[I]{q} f

/-- The shares of the packed rows: one for each chunk, and more. -/
def leafOf (n : Fin 32) : PosShare TreeShare := ShareLeaves.leaf 5 fullShare n
def chunkLeaf (j : Chunk) : Fin 32 := ⟨rank j, by have := rank_lt j; omega⟩

/-- The bytes a chunk's transfer counts. -/
def N : ℕ := ((aOut.slice (Rect.unit (s := S8x384x8x128) ![0, 0, 0, 0] S1x128x8x128.size inb_S8x384x8x128_S1x128x8x128_0_0_0_0) (fun _ => rfl)).squeeze
  S128x8x128 squeezes_S1x128x8x128_S128x8x128).view.dmaCredit
theorem N_pos : 0 < N := View.dmaCredit_pos _ (by decide)

/-! ## What a payment hands over -/

/-- With its entry, device `p` hands device `c` each place of its result that `c` will write, and that its arrival cell is new. -/
def barPay (c p : Dev nD) : sProp 𝕄 :=
  bigSep Finset.univ fun k : Fin 3 => whenP (sends D c (p, k)) iprop((∃ f, outPts p (outSet (c, k)) f) ∗ reached ER (rcvCell p (c, k)) 0)
/-- A departure hands the sender its rows back. -/
def sndPay (c : Dev nD) (j : Chunk) : sProp 𝕄 := srcPts c (leafOf (chunkLeaf j)) (srcSet (row D c j)) (D.x c)
/-- An arrival hands the receiver the chunk, written. -/
def rcvPay (c : Dev nD) (j : Chunk) : sProp 𝕄 := outPts c (outSet j) (result D c)

/-- Each cell is used once: the barrier by the seven other devices, a chunk's two cells by the chunk if it is sent. -/
def sched : Rounds.Schedule (GSem nD τ sig) (Dev nD) 𝕄 where
  duties g r := if r = 0 then match kindOf g.2 with
    | .bar => Finset.univ.erase g.1.1
    | .snd j => if sends D g.1.1 j then {g.1.1} else ∅
    | .rcv j => if gets D g.1.1 j then {j.1} else ∅
    | .other => ∅ else ∅
  unitless _ := False
  amount g _ _ := match kindOf g.2 with | .bar => 1 | _ => N
  payload g _ p := match kindOf g.2 with
    | .bar => barPay D g.1.1 p
    | .snd j => sndPay D g.1.1 j
    | .rcv j => rcvPay D g.1.1 j
    | .other => iprop(emp)
  amount_pos g _ _ _ := by
    cases kindOf g.2 <;> first | exact Nat.one_pos | exact N_pos

instance sched_payload_storable (g : GSem nD τ sig) (r : ℕ) (p : Dev nD) :
    BI.Storable (upEmb : UEmb _ 𝕄) ((sched (F := F) D).payload g r p) := by
  show BI.Storable upEmb (match kindOf g.2 with
    | .bar => barPay D g.1.1 p
    | .snd j => sndPay D g.1.1 j
    | .rcv j => rcvPay D g.1.1 j
    | .other => iprop(emp))
  unfold barPay sndPay rcvPay
  split <;> infer_instance

section Sched

variable (c : Dev nD) (j : Chunk)

theorem duties_bar : (sched D).duties (barCell c) 0 = Finset.univ.erase c := by dsimp only [sched]; rw [if_pos rfl, kindOf_bar]
theorem duties_snd : (sched D).duties (sndCell c j) 0 = if sends D c j then {c} else ∅ := by dsimp only [sched]; rw [if_pos rfl, kindOf_snd]
theorem duties_rcv : (sched D).duties (rcvCell c j) 0 = if gets D c j then {j.1} else ∅ := by dsimp only [sched]; rw [if_pos rfl, kindOf_rcv]
theorem duties_later (g : GSem nD τ sig) (r : ℕ) (h : 1 ≤ r) : (sched D).duties g r = ∅ := by dsimp only [sched]; rw [if_neg (by omega)]

theorem amount_bar (p : Dev nD) : (sched D).amount (barCell c) 0 p = 1 := by dsimp only [sched]; rw [kindOf_bar]
theorem amount_snd (p : Dev nD) : (sched D).amount (sndCell c j) 0 p = N := by dsimp only [sched]; rw [kindOf_snd]
theorem amount_rcv (p : Dev nD) : (sched D).amount (rcvCell c j) 0 p = N := by dsimp only [sched]; rw [kindOf_rcv]

theorem payload_bar (p : Dev nD) : (sched D).payload (barCell c) 0 p = barPay D c p := by dsimp only [sched]; rw [kindOf_bar]
theorem payload_snd (p : Dev nD) : (sched D).payload (sndCell c j) 0 p = sndPay D c j := by dsimp only [sched]; rw [kindOf_snd]
theorem payload_rcv (p : Dev nD) : (sched D).payload (rcvCell c j) 0 p = rcvPay D c j := by dsimp only [sched]; rw [kindOf_rcv]

theorem expect_bar : (sched D).expect (barCell c) 0 = 7 := by
  unfold Schedule.expect Schedule.amountOf
  rw [duties_bar, Finset.sum_congr rfl fun p _ => amount_bar D c p, Finset.sum_const, Finset.card_erase_of_mem (Finset.mem_univ c), Finset.card_univ]
  rfl
theorem expect_snd (h : sends D c j) : (sched D).expect (sndCell c j) 0 = N := by
  unfold Schedule.expect Schedule.amountOf; rw [duties_snd, if_pos h, Finset.sum_singleton, amount_snd]
theorem expect_rcv (h : gets D c j) : (sched D).expect (rcvCell c j) 0 = N := by
  unfold Schedule.expect Schedule.amountOf; rw [duties_rcv, if_pos h, Finset.sum_singleton, amount_rcv]

end Sched

/-! ## Indices and levels: a cell's level is the index it is waited for at -/

/-- The index at which the barrier is waited for, -/
abbrev ιB : ℕ := 5
/-- and the one at which a chunk is. -/
abbrev ιC : ℕ := 6

def L (g : GSem nD τ sig) : Finset ℕ := if g.1.2 = .tc then Finset.range 7 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 7 := if_pos rfl

/-- What device `c` still owes the barriers once it has told the devices before the `n`-th. -/
def barDue (c : Dev nD) (n : ℕ) : CellTallies nD τ sig ℕ :=
  ∑ p : Dev nD, if p.val < n then 0 else if c ≠ p then tallyAt (barCell p) ιB 1 else 0
/-- What it still owes the arrival cells once the chunks before the `n`-th are on their way. -/
def rowDue (c : Dev nD) (n : ℕ) : CellTallies nD τ sig ℕ :=
  ∑ j : Chunk, if rank j < n then 0 else if sends D c j then tallyAt (rcvCell j.1 (c, j.2)) ιC N else 0

/-- What the devices owe each other when they enter the exchange. -/
def due (c : Dev nD) : CellTallies nD τ sig ℕ := barDue c 0 + rowDue D c 0

theorem barDue_step (c p : Dev nD) : barDue c p.val = barDue c (p.val + 1) + if c ≠ p then tallyAt (barCell p) ιB 1 else 0 :=
  sum_step (fun p : Dev nD => p.val) (fun _ _ h => Fin.ext h) (fun p => if c ≠ p then tallyAt (barCell p) ιB 1 else 0) p p.val rfl
theorem rowDue_step (c : Dev nD) (j : Chunk) :
    rowDue D c (rank j) = rowDue D c (rank j + 1) + if sends D c j then tallyAt (rcvCell j.1 (c, j.2)) ιC N else 0 :=
  sum_step rank (fun _ _ h => rank_inj h) (fun j => if sends D c j then tallyAt (rcvCell j.1 (c, j.2)) ιC N else 0) j (rank j) rfl

theorem barDue_done (c : Dev nD) : barDue c 8 = 0 := Finset.sum_eq_zero fun p _ => if_pos p.isLt
theorem rowDue_done (c : Dev nD) : rowDue D c 24 = 0 := Finset.sum_eq_zero fun j _ => if_pos (rank_lt j)

end Cert.KernelIdeal.Exchange
end
-- ==== Proof.Blocks.lean ====
/-
  The blocks that the kernel's accesses and transfers name: which places they are, and what a block holds once it is written.
-/
module

public import proofs.«01_k».proof.Proof.Cells
public import proofs.«01_k».proof.Proof.Gen.KernelIdeal.Skeleton

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-- 128 of the packed rows, -/
abbrev srcAt (o : Fin 3 → ℕ) (hb : ∀ a, o a + S128x8x128.size a ≤ S2432x8x128.size a) : Memref sig .tc .vmem S128x8x128 .f32 :=
  aSrc.slice (Rect.unit (s := S2432x8x128) o S128x8x128.size hb) (fun _ => rfl)
/-- and the place of a chunk in the result. -/
abbrev outAt (o : Fin 4 → ℕ) (hb : ∀ a, o a + S1x128x8x128.size a ≤ S8x384x8x128.size a) : Memref sig .tc .vmem S128x8x128 .f32 :=
  (aOut.slice (Rect.unit (s := S8x384x8x128) o S1x128x8x128.size hb) (fun _ => rfl)).squeeze S128x8x128 squeezes_S1x128x8x128_S128x8x128

/-! ## The places of a block -/

theorem srcBlk_set (r : ℕ) (hb : ∀ a, (![r, 0, 0] : Fin 3 → ℕ) a + S128x8x128.size a ≤ S2432x8x128.size a) :
    (srcAt ![r, 0, 0] hb).view.set = srcSet r := by
  show ((View.whole cc0_stg3_0).slice (Rect.unit (s := S2432x8x128) ![r, 0, 0] S128x8x128.size hb)).set = srcSet r
  rw [View.set_slice_whole]
  ext i
  rw [Rect.mem_set_unit, srcSet, Finset.mem_filter]
  have h1 : (i 1).val < 8 := (i 1).isLt
  have h2 : (i 2).val < 128 := (i 2).isLt
  constructor
  · intro h; exact ⟨Finset.mem_univ _, h 0⟩
  · rintro ⟨-, h⟩ a
    match a with
    | 0 => exact h
    | 1 => exact ⟨Nat.zero_le _, by show (i 1).val < 0 + 8; omega⟩
    | 2 => exact ⟨Nat.zero_le _, by show (i 2).val < 0 + 128; omega⟩

theorem outBlk_set (d r : ℕ) (hb : ∀ a, (![d, r, 0, 0] : Fin 4 → ℕ) a + S1x128x8x128.size a ≤ S8x384x8x128.size a) (j : Chunk) (hd : d = j.1.val)
    (hr : r = 128 * j.2.val) :
    (outAt ![d, r, 0, 0] hb).view.set = outSet j := by
  show (((View.whole cc0_stg4_0).slice (Rect.unit (s := S8x384x8x128) ![d, r, 0, 0] S1x128x8x128.size hb)).reshape S128x8x128 squeezes_S1x128x8x128_S128x8x128.numel_eq).set = (outSet j : Finset S8x384x8x128.Idx)
  rw [View.set_reshape, View.set_slice_whole]
  ext i
  rw [Rect.mem_set_unit, outSet, Finset.mem_filter]
  have h2 : (i 2).val < 8 := (i 2).isLt
  have h3 : (i 3).val < 128 := (i 3).isLt
  constructor
  · intro h
    have h0 : d ≤ (i 0).val ∧ (i 0).val < d + 1 := h 0
    have h1 : r ≤ (i 1).val ∧ (i 1).val < r + 128 := h 1
    exact ⟨Finset.mem_univ _, by omega, by omega, by omega⟩
  · rintro ⟨-, h0, h1, h1'⟩ a
    match a with
    | 0 => show d ≤ (i 0).val ∧ (i 0).val < d + 1; omega
    | 1 => show r ≤ (i 1).val ∧ (i 1).val < r + 128; omega
    | 2 => exact ⟨Nat.zero_le _, by show (i 2).val < 0 + 8; omega⟩
    | 3 => exact ⟨Nat.zero_le _, by show (i 3).val < 0 + 128; omega⟩

theorem ownBlk_set (d : ℕ) (hb : ∀ a, (![d, 0, 0, 0] : Fin 4 → ℕ) a + S1x384x8x128.size a ≤ S8x384x8x128.size a) (p : Dev nD) (hd : d = p.val) :
    (aOut.access (Rect.unit (s := S8x384x8x128) ![d, 0, 0, 0] S1x384x8x128.size hb)).set = ownSet p := by
  show ((View.whole cc0_stg4_0).slice (Rect.unit (s := S8x384x8x128) ![d, 0, 0, 0] S1x384x8x128.size hb)).set = ownSet p
  rw [View.set_slice_whole]
  ext i
  rw [Rect.mem_set_unit, ownSet, Finset.mem_filter]
  have h1 : (i 1).val < 384 := (i 1).isLt
  have h2 : (i 2).val < 8 := (i 2).isLt
  have h3 : (i 3).val < 128 := (i 3).isLt
  constructor
  · intro h
    have h0 : d ≤ (i 0).val ∧ (i 0).val < d + 1 := h 0
    exact ⟨Finset.mem_univ _, by omega⟩
  · rintro ⟨-, h0⟩ a
    match a with
    | 0 => show d ≤ (i 0).val ∧ (i 0).val < d + 1; omega
    | 1 => exact ⟨Nat.zero_le _, by show (i 1).val < 0 + 384; omega⟩
    | 2 => exact ⟨Nat.zero_le _, by show (i 2).val < 0 + 8; omega⟩
    | 3 => exact ⟨Nat.zero_le _, by show (i 3).val < 0 + 128; omega⟩

/-! ## What a block holds -/

/-- A chunk that has landed: the place in the receiver's result holds the row that the sender packed for it. -/
theorem chunk_landed (D : Data F) (c p : Dev nD) (k : Fin 3) (d e r : ℕ) (hd : d = c.val) (he : e = 128 * k.val) (hr : r = (D.off c p).toNat + 128 * k.val)
    (hb : ∀ a, (![d, e, 0, 0] : Fin 4 → ℕ) a + S1x128x8x128.size a ≤ S8x384x8x128.size a)
    (hb' : ∀ a, (![r, 0, 0] : Fin 3 → ℕ) a + S128x8x128.size a ≤ S2432x8x128.size a) (fd : S8x384x8x128.Idx → Elt F .f32) (i : S8x384x8x128.Idx)
    (hi : i ∈ outSet (c, k)) :
    (outAt ![d, e, 0, 0] hb).view.write (Elt F) fd
      ((srcAt ![r, 0, 0] hb').view.read (Elt F) (D.x c)) Finset.univ i = result D p i := by
  rw [← outBlk_set d e hb (c, k) hd he] at hi
  obtain ⟨x, -, rfl⟩ := Finset.mem_map.mp hi
  rw [View.write_emb_of_mem _ _ (Finset.mem_univ x)]
  have hx : ((outAt ![d, e, 0, 0] hb).view.emb x : S8x384x8x128.Idx)
      = (Rect.unit (s := S8x384x8x128) ![d, e, 0, 0] S1x128x8x128.size hb).emb (Fin.cons ⟨0, Nat.one_pos⟩ x) :=
    congrArg (Rect.unit (s := S8x384x8x128) ![d, e, 0, 0] S1x128x8x128.size hb).emb (Shape.reshapeEquiv_cons_one squeezes_S1x128x8x128_S128x8x128.numel_eq x)
  have h0 : ((outAt ![d, e, 0, 0] hb).view.emb x : S8x384x8x128.Idx) 0 = c := by
    rw [hx]; exact Fin.ext (by show d + 1 * 0 = c.val; omega)
  have h1 : (((outAt ![d, e, 0, 0] hb).view.emb x : S8x384x8x128.Idx) 1).val = e + (x 0).val := by
    rw [hx]; show e + 1 * (x 0).val = _; omega
  have h2 : ((outAt ![d, e, 0, 0] hb).view.emb x : S8x384x8x128.Idx) 2 = x 1 := by
    rw [hx]; exact Fin.ext (by show 0 + 1 * (x 1).val = (x 1).val; omega)
  have h3 : ((outAt ![d, e, 0, 0] hb).view.emb x : S8x384x8x128.Idx) 3 = x 2 := by
    rw [hx]; exact Fin.ext (by show 0 + 1 * (x 2).val = (x 2).val; omega)
  have hlt : r + (x 0).val < 2432 := by
    have := hb' 0
    have h : r + 128 ≤ 2432 := this
    have hx0 : (x 0).val < 128 := (x 0).isLt
    omega
  generalize ((outAt ![d, e, 0, 0] hb).view.emb x : S8x384x8x128.Idx) = y at h0 h1 h2 h3 ⊢
  unfold result
  rw [h0, h1, h2, h3]
  show D.x c ((Rect.unit (s := S2432x8x128) ![r, 0, 0] S128x8x128.size hb').emb x) = _
  refine congrArg (D.x c) ?_
  refine funext fun a => ?_
  match a with
  | 0 => exact Fin.ext (by show r + 1 * (x 0).val = ((D.off c p).toNat + (e + (x 0).val)) % 2432; rw [Nat.mod_eq_of_lt (by omega)]; omega)
  | 1 => exact Fin.ext (by show 0 + 1 * (x 1).val = (x 1).val; omega)
  | 2 => exact Fin.ext (by show 0 + 1 * (x 2).val = (x 2).val; omega)

theorem pay_apply (v : S384x8x128.Idx → Elt F .f32) (x : S1x384x8x128.Idx) : k0_pay1 (F := F) v x = v (fun a => x a.succ) := by
  have hx0 : (x 0).val < 1 := (x 0).isLt
  have key : ∀ y : S384x8x128.Idx, (y = fun a : Fin 3 => x a.succ) → Shape.reshapeEquiv shapeCasts_S384x8x128_S1x384x8x128 x = y := by
    intro y hy
    have hx : Shape.reshapeEquiv shapeCasts_S384x8x128_S1x384x8x128.symm y = x := by
      refine (Shape.reshapeEquiv_cons_one (n := 3) (d := S384x8x128.size) shapeCasts_S384x8x128_S1x384x8x128.symm y).trans (funext fun a => ?_)
      match a with
      | 0 => exact Fin.ext (by show 0 = (x 0).val; omega)
      | 1 => exact congrFun hy 0
      | 2 => exact congrFun hy 1
      | 3 => exact congrFun hy 2
    rw [← hx, Shape.reshapeEquiv_reshapeEquiv, Shape.reshapeEquiv_self]
  unfold k0_pay1
  dsimp only [shapeCast]
  rw [Shape.reshapeEquiv_self, key _ rfl]

/-- The own block, copied. -/
theorem own_copied (D : Data F) (c : Dev nD) (d r : ℕ) (hd : d = c.val) (hr : r = (D.off c c).toNat)
    (hb : ∀ a, (![d, 0, 0, 0] : Fin 4 → ℕ) a + S1x384x8x128.size a ≤ S8x384x8x128.size a)
    (hb' : ∀ a, (![r, 0, 0] : Fin 3 → ℕ) a + S384x8x128.size a ≤ S2432x8x128.size a) (fd : S8x384x8x128.Idx → Elt F .f32) (i : S8x384x8x128.Idx)
    (hi : i ∈ ownSet c) :
    (aOut.access (Rect.unit (s := S8x384x8x128) ![d, 0, 0, 0] S1x384x8x128.size hb)).write (Elt F) fd
      (k0_pay1 ((aSrc.access (Rect.unit (s := S2432x8x128) ![r, 0, 0] S384x8x128.size hb')).read (Elt F) (D.x c))) Finset.univ i = result D c i := by
  rw [← ownBlk_set d hb c hd] at hi
  obtain ⟨x, -, rfl⟩ := Finset.mem_map.mp hi
  rw [View.write_emb_of_mem _ _ (Finset.mem_univ x), pay_apply]
  have hx0 : (x 0).val < 1 := (x 0).isLt
  have hx1 : (x 1).val < 384 := (x 1).isLt
  have hlt : r + (x 1).val < 2432 := by
    have := hb' 0
    have h : r + 384 ≤ 2432 := this
    omega
  have h0 : ((aOut.access (Rect.unit (s := S8x384x8x128) ![d, 0, 0, 0] S1x384x8x128.size hb)).emb x : S8x384x8x128.Idx) 0 = c :=
    Fin.ext (by show d + 1 * (x 0).val = c.val; omega)
  have h1 : (((aOut.access (Rect.unit (s := S8x384x8x128) ![d, 0, 0, 0] S1x384x8x128.size hb)).emb x : S8x384x8x128.Idx) 1).val = (x 1).val := by
    show 0 + 1 * (x 1).val = _; omega
  have h2 : ((aOut.access (Rect.unit (s := S8x384x8x128) ![d, 0, 0, 0] S1x384x8x128.size hb)).emb x : S8x384x8x128.Idx) 2 = x 2 :=
    Fin.ext (by show 0 + 1 * (x 2).val = (x 2).val; omega)
  have h3 : ((aOut.access (Rect.unit (s := S8x384x8x128) ![d, 0, 0, 0] S1x384x8x128.size hb)).emb x : S8x384x8x128.Idx) 3 = x 3 :=
    Fin.ext (by show 0 + 1 * (x 3).val = (x 3).val; omega)
  generalize ((aOut.access (Rect.unit (s := S8x384x8x128) ![d, 0, 0, 0] S1x384x8x128.size hb)).emb x : S8x384x8x128.Idx) = y at h0 h1 h2 h3 ⊢
  unfold result
  rw [h0, h1, h2, h3]
  show D.x c ((Rect.unit (s := S2432x8x128) ![r, 0, 0] S384x8x128.size hb').emb _) = _
  refine congrArg (D.x c) ?_
  refine funext fun a => ?_
  match a with
  | 0 => exact Fin.ext (by show r + 1 * (x 1).val = ((D.off c c).toNat + (x 1).val) % 2432; rw [Nat.mod_eq_of_lt (by omega)]; omega)
  | 1 => exact Fin.ext (by show 0 + 1 * (x 2).val = (x 2).val; omega)
  | 2 => exact Fin.ext (by show 0 + 1 * (x 3).val = (x 3).val; omega)

end Cert.KernelIdeal.Exchange
end
-- ==== Proof.Steps.lean ====
/-
  One rule for each kind of statement of the exchange's kernel: from a state of the protocol to the next.

  A state names how many of the kernel's steps of a kind are done; a rule turns a proof about the state after a statement into one about
  the state before it. The kernel tests, for every device and chunk, whether it has anything to do; the rules cover both outcomes, so that
  the kernel's text is walked through once.
-/
module

public import proofs.«01_k».proof.Proof.Blocks

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

abbrev 𝒱₀ : Variants := Variants.none

/-- That device `c` runs `p` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (D : Data F) (κ : GSem nD τ sig → ℕ)

/-! ## What every step may use -/

/-- The levels, and every cell's invariant, at the names `κ`; that every barrier cell is new. -/
def ctx : sProp 𝕄 :=
  iprop(levAts L lv
    ∗ (bigSep Finset.univ fun p : Dev nD => iprop(cellInv ER (sched D) (κ (barCell p)) (barCell p) ∗ reached ER (barCell p) 0))
    ∗ (bigSep Finset.univ fun x : Dev nD × Chunk => cellInv ER (sched D) (κ (sndCell x.1 x.2)) (sndCell x.1 x.2))
    ∗ (bigSep Finset.univ fun x : Dev nD × Chunk => cellInv ER (sched D) (κ (rcvCell x.1 x.2)) (rcvCell x.1 x.2)))

instance ctx_persistent : BI.Persistent (ctx D κ) := by unfold ctx; infer_instance

theorem ctx_lev : ctx D κ ⊢ levAts L lv := by unfold ctx; iintro ⟨H, -⟩; iexact H
theorem ctx_bar (p : Dev nD) : ctx D κ ⊢ iprop(cellInv ER (sched D) (κ (barCell p)) (barCell p) ∗ reached ER (barCell p) 0) := by
  have h : (bigSep Finset.univ fun p : Dev nD => iprop(cellInv ER (sched D) (κ (barCell p)) (barCell p) ∗ reached ER (barCell p) 0))
      ⊢ iprop(cellInv ER (sched D) (κ (barCell p)) (barCell p) ∗ reached ER (barCell p) 0) := bigSep_elim (Finset.mem_univ p)
  unfold ctx; iintro ⟨-, H, -⟩; iapply h; iexact H
theorem ctx_snd (c : Dev nD) (j : Chunk) : ctx D κ ⊢ cellInv ER (sched D) (κ (sndCell c j)) (sndCell c j) := by
  have h : (bigSep Finset.univ fun x : Dev nD × Chunk => cellInv ER (sched D) (κ (sndCell x.1 x.2)) (sndCell x.1 x.2))
      ⊢ cellInv ER (sched D) (κ (sndCell c j)) (sndCell c j) :=
    bigSep_elim (Φ := fun x : Dev nD × Chunk => cellInv ER (sched D) (κ (sndCell x.1 x.2)) (sndCell x.1 x.2)) (Finset.mem_univ (c, j))
  unfold ctx; iintro ⟨-, -, H, -⟩; iapply h; iexact H
theorem ctx_rcv (c : Dev nD) (j : Chunk) : ctx D κ ⊢ cellInv ER (sched D) (κ (rcvCell c j)) (rcvCell c j) := by
  have h : (bigSep Finset.univ fun x : Dev nD × Chunk => cellInv ER (sched D) (κ (rcvCell x.1 x.2)) (rcvCell x.1 x.2))
      ⊢ cellInv ER (sched D) (κ (rcvCell c j)) (rcvCell c j) :=
    bigSep_elim (Φ := fun x : Dev nD × Chunk => cellInv ER (sched D) (κ (rcvCell x.1 x.2)) (rcvCell x.1 x.2)) (Finset.mem_univ (c, j))
  unfold ctx; iintro ⟨-, -, -, H⟩; iapply h; iexact H

/-- The three tables a device reads: where its rows for each device start, how many each gets, and how many it gets from each. -/
def tables (c : Dev nD) : sProp 𝕄 :=
  iprop((((c : Thread nD τ).loc cc0_stg0_0) ↦{fullShare} (fun i : S8.Idx => D.off c (i 0)))
    ∗ (((c : Thread nD τ).loc cc0_stg1_0) ↦{fullShare} (fun i : S8.Idx => D.cnt c (i 0)))
    ∗ (((c : Thread nD τ).loc cc0_stg2_0) ↦{fullShare} (fun i : S8.Idx => D.cnt (i 0) c)))

/-! ## The states -/

/-- A device that has told the devices before the `n`-th that it has entered. -/
def Enter (c : Dev nD) (n : ℕ) (R : sProp 𝕄) : sProp 𝕄 :=
  iprop(tables D c ∗ ctx D κ ∗ (∃ W, owes (c : Thread nD τ) (barDue c n + rowDue D c 0) W)
    ∗ (bigSep Finset.univ fun p : Dev nD => if p.val < n then iprop(emp) else whenP (c ≠ p) iprop(dutyTok ER (barCell p) 0 c ∗ barPay D p c)) ∗ R)

/-- What chunk `j` needs to be sent, but for its place at the other device. -/
def ready (c : Dev nD) (j : Chunk) : sProp 𝕄 :=
  iprop(atPos ER (sndCell c j) 0 ∅ 0 ∗ whenP (sends D c j) iprop(dutyTok ER (sndCell c j) 0 c ∗ dutyTok ER (rcvCell j.1 (c, j.2)) 0 c
    ∗ reached ER (sndCell c j) 0 ∗ srcPts c (leafOf (chunkLeaf j)) (srcSet (row D c j)) (D.x c)))
/-- A chunk to be sent, -/
def todo (c : Dev nD) (j : Chunk) : sProp 𝕄 :=
  iprop(ready D c j ∗ whenP (sends D c j) iprop((∃ f, outPts j.1 (outSet (c, j.2)) f) ∗ reached ER (rcvCell j.1 (c, j.2)) 0))
/-- on its way, -/
def sent (c : Dev nD) (j : Chunk) : sProp 𝕄 :=
  iprop(atPos ER (sndCell c j) 0 ∅ 0 ∗ whenP (sends D c j) (cred (tallyAt (sndCell c j) ιC N)))
/-- and gone. -/
def gone (c : Dev nD) (j : Chunk) : sProp 𝕄 :=
  if sends D c j then iprop(atPos ER (sndCell c j) 1 ∅ 0 ∗ sndPay D c j) else atPos ER (sndCell c j) 0 ∅ 0

/-- A chunk to come, -/
def coming (c : Dev nD) (j : Chunk) : sProp 𝕄 :=
  iprop(atPos ER (rcvCell c j) 0 ∅ 0 ∗ whenP (gets D c j) (cred (tallyAt (rcvCell c j) ιC N)))
/-- and come. -/
def come (c : Dev nD) (j : Chunk) : sProp 𝕄 :=
  if gets D c j then iprop(atPos ER (rcvCell c j) 1 ∅ 0 ∗ rcvPay D c j) else atPos ER (rcvCell c j) 0 ∅ 0

/-- A device's own block, once the devices before the `n`-th are dealt with. -/
def ownBlk (c : Dev nD) (n : ℕ) : sProp 𝕄 :=
  iprop(srcPts c (leafOf 31) Finset.univ (D.x c) ∗ if c.val < n then outPts c (ownSet c) (result D c) else iprop(∃ f, outPts c (ownSet c) f))

/-- A device that has dealt with its own block among the first `n`, and put the first `m` chunks on their way. -/
def Send (c : Dev nD) (n m : ℕ) (R : sProp 𝕄) : sProp 𝕄 :=
  iprop(tables D c ∗ ctx D κ ∗ ownBlk D c n ∗ (∃ W, owes (c : Thread nD τ) (rowDue D c m) W)
    ∗ (bigSep Finset.univ fun j : Chunk => if rank j < m then sent D c j else todo D c j) ∗ R)

/-- A device that has received what comes of the first `n` chunks. -/
def Recv (c : Dev nD) (n : ℕ) (R : sProp 𝕄) : sProp 𝕄 :=
  iprop(tables D c ∗ ctx D κ ∗ (∃ W, owes (c : Thread nD τ) (0 : CellTallies nD τ sig ℕ) W)
    ∗ (bigSep Finset.univ fun j : Chunk => if rank j < n then come D c j else coming D c j) ∗ R)

/-- A device that has seen off what it sends of the first `n` chunks. -/
def Leave (c : Dev nD) (n : ℕ) (R : sProp 𝕄) : sProp 𝕄 :=
  iprop(tables D c ∗ ctx D κ ∗ (∃ W, owes (c : Thread nD τ) (0 : CellTallies nD τ sig ℕ) W)
    ∗ (bigSep Finset.univ fun j : Chunk => if rank j < n then gone D c j else sent D c j) ∗ R)

/-! ## Statements that touch no protocol -/

section Plain

variable {c : Dev nD} {α β : Type}

theorem pure_step {X : sProp 𝕄} {a : α} {Q : α → sProp 𝕄} (h : X ⊢ Q a) : X ⊢ run c (pure a) Q := by
  unfold run; rw [wp_pure]; exact h.trans (BI.fupd_intro (PROP := sProp 𝕄))

theorem bind_step {X : sProp 𝕄} {p : Prog (TpuEff nD τ sig (Elt F) Λ₀ .tc) α} {k : α → Prog (TpuEff nD τ sig (Elt F) Λ₀ .tc) β} {Q : β → sProp 𝕄}
    (h : X ⊢ run c p fun a => run c (k a) Q) : X ⊢ run c (p >>= k) Q := by
  unfold run at h ⊢; rw [wp_bind]; exact h

theorem device_step {X : sProp 𝕄} {K : Dev nD → Prog (TpuEff nD τ sig (Elt F) Λ₀ .tc) β} {Q : β → sProp 𝕄} (h : X ⊢ run c (K c) Q) :
    X ⊢ run c (Prog.lift .deviceId >>= K) Q := by
  show X ⊢ run c (.op .deviceId K) Q
  unfold run; rw [wp_deviceId]; exact h

theorem assume_step {X : sProp 𝕄} {P : Prop} {d : Decidable P} {K : PLift P → Prog (TpuEff nD τ sig (Elt F) Λ₀ .tc) β} {Q : β → sProp 𝕄} (hP : P)
    (h : X ⊢ run c (K ⟨hP⟩) Q) : X ⊢ run c (Prog.lift (.assume P d) >>= K) Q :=
  h.trans (wp_assume 𝒱₀ (c : Thread nD τ) none Set.univ hP)

/-- The element a one-word rectangle of a table names. -/
theorem word_at {A : Type} (p : Dev nD) (hb : ∀ a, (![p.val] : Fin 1 → ℕ) a + S1.size a ≤ S8.size a) (g : Dev nD → A)
    (x : (Rect.unit (s := S8) ![p.val] S1.size hb).shape.Idx) : g ((Rect.unit (s := S8) ![p.val] S1.size hb).emb x 0) = g p := by
  refine congrArg g (Fin.ext ?_)
  have h0 : (x 0).val < 1 := (x 0).isLt
  show p.val + 1 * (x 0).val = p.val
  omega

/-- A word read from a table held whole. -/
theorem word_load {m : Memref sig .tc .smem S8 .i32} {r : Rect S8} {h1 : r.shape.numel = 1} {hp : EltTy.packing .i32 = 1}
    {K : BitVec 32 → Prog (TpuEff nD τ sig (Elt F) Λ₀ .tc) β} {Q : β → sProp 𝕄} {f : Buf (Elt F) (m.view.loc (c : Thread nD τ))} {v : BitVec 32}
    (hv : (m.access r).read (Elt F) f (Shape.Idx.first (h1.symm ▸ Nat.one_pos)) = v) :
    (m.view.loc (c : Thread nD τ) ↦{fullShare} f)
      ⊢ iprop(((m.view.loc (c : Thread nD τ) ↦{fullShare} f) -∗ run c (K v) Q) -∗ run c (smemLoad m r h1 hp >>= K) Q) := by
  subst hv
  exact wp_smemLoadElt 𝒱₀ (c : Thread nD τ) none Set.univ (m := m) (r := r) (hw := View.loads_smem_one hp h1) (Finset.subset_univ _)

/-- A word read from the table of first rows, -/
theorem word_off {P X : sProp 𝕄} {d : ℕ} {hb : ∀ a, (![d] : Fin 1 → ℕ) a + S1.size a ≤ S8.size a} {h1 : (Rect.unit (s := S8) ![d] S1.size hb).shape.numel = 1}
    {hp : EltTy.packing .i32 = 1} {K : BitVec 32 → Prog (TpuEff nD τ sig (Elt F) Λ₀ .tc) β} {Q : β → sProp 𝕄} (p : Dev nD) (hd : d = p.val) (hP : P = iprop(tables D c ∗ X))
    (h : P ⊢ run c (K (D.off c p)) Q) :
    P ⊢ run c (smemLoad aOff (Rect.unit (s := S8) ![d] S1.size hb) h1 hp >>= K) Q := by
  subst hd hP
  have e : (aOff.access (Rect.unit (s := S8) ![p.val] S1.size hb)).read (Elt F) (fun i : S8.Idx => D.off c (i 0)) (Shape.Idx.first (h1.symm ▸ Nat.one_pos)) = D.off c p :=
    word_at p hb (fun q => D.off c q) _
  have hw : (((c : Thread nD τ).loc cc0_stg0_0) ↦{fullShare} (fun i : S8.Idx => D.off c (i 0)))
      ⊢ iprop(((((c : Thread nD τ).loc cc0_stg0_0) ↦{fullShare} (fun i : S8.Idx => D.off c (i 0))) -∗ run c (K (D.off c p)) Q)
        -∗ run c (smemLoad aOff (Rect.unit (s := S8) ![p.val] S1.size hb) h1 hp >>= K) Q) := by
    exact word_load (m := aOff) (r := Rect.unit (s := S8) ![p.val] S1.size hb) (f := (fun i : S8.Idx => D.off c (i 0))) e
  unfold tables
  iintro ⟨⟨H0, H1, H2⟩, HX⟩
  iapply hw $$ H0
  iintro H0
  iapply h
  unfold tables
  isplitl [H0 H1 H2]
  · isplitl [H0]; · iexact H0
    isplitl [H1] <;> iassumption
  iexact HX

/-- from the table of counts, -/
theorem word_cnt {P X : sProp 𝕄} {d : ℕ} {hb : ∀ a, (![d] : Fin 1 → ℕ) a + S1.size a ≤ S8.size a} {h1 : (Rect.unit (s := S8) ![d] S1.size hb).shape.numel = 1}
    {hp : EltTy.packing .i32 = 1} {K : BitVec 32 → Prog (TpuEff nD τ sig (Elt F) Λ₀ .tc) β} {Q : β → sProp 𝕄} (p : Dev nD) (hd : d = p.val) (hP : P = iprop(tables D c ∗ X))
    (h : P ⊢ run c (K (D.cnt c p)) Q) :
    P ⊢ run c (smemLoad aSnt (Rect.unit (s := S8) ![d] S1.size hb) h1 hp >>= K) Q := by
  subst hd hP
  have e : (aSnt.access (Rect.unit (s := S8) ![p.val] S1.size hb)).read (Elt F) (fun i : S8.Idx => D.cnt c (i 0)) (Shape.Idx.first (h1.symm ▸ Nat.one_pos)) = D.cnt c p :=
    word_at p hb (fun q => D.cnt c q) _
  have hw : (((c : Thread nD τ).loc cc0_stg1_0) ↦{fullShare} (fun i : S8.Idx => D.cnt c (i 0)))
      ⊢ iprop(((((c : Thread nD τ).loc cc0_stg1_0) ↦{fullShare} (fun i : S8.Idx => D.cnt c (i 0))) -∗ run c (K (D.cnt c p)) Q)
        -∗ run c (smemLoad aSnt (Rect.unit (s := S8) ![p.val] S1.size hb) h1 hp >>= K) Q) := by
    exact word_load (m := aSnt) (r := Rect.unit (s := S8) ![p.val] S1.size hb) (f := (fun i : S8.Idx => D.cnt c (i 0))) e
  unfold tables
  iintro ⟨⟨H0, H1, H2⟩, HX⟩
  iapply hw $$ H1
  iintro H1
  iapply h
  unfold tables
  isplitl [H0 H1 H2]
  · isplitl [H0]; · iexact H0
    isplitl [H1] <;> iassumption
  iexact HX

/-- and from the table of the counts that the others have for this device. -/
theorem word_got {P X : sProp 𝕄} {d : ℕ} {hb : ∀ a, (![d] : Fin 1 → ℕ) a + S1.size a ≤ S8.size a} {h1 : (Rect.unit (s := S8) ![d] S1.size hb).shape.numel = 1}
    {hp : EltTy.packing .i32 = 1} {K : BitVec 32 → Prog (TpuEff nD τ sig (Elt F) Λ₀ .tc) β} {Q : β → sProp 𝕄} (p : Dev nD) (hd : d = p.val) (hP : P = iprop(tables D c ∗ X))
    (h : P ⊢ run c (K (D.cnt p c)) Q) :
    P ⊢ run c (smemLoad aGot (Rect.unit (s := S8) ![d] S1.size hb) h1 hp >>= K) Q := by
  subst hd hP
  have e : (aGot.access (Rect.unit (s := S8) ![p.val] S1.size hb)).read (Elt F) (fun i : S8.Idx => D.cnt (i 0) c) (Shape.Idx.first (h1.symm ▸ Nat.one_pos)) = D.cnt p c :=
    word_at p hb (fun q => D.cnt q c) _
  have hw : (((c : Thread nD τ).loc cc0_stg2_0) ↦{fullShare} (fun i : S8.Idx => D.cnt (i 0) c))
      ⊢ iprop(((((c : Thread nD τ).loc cc0_stg2_0) ↦{fullShare} (fun i : S8.Idx => D.cnt (i 0) c)) -∗ run c (K (D.cnt p c)) Q)
        -∗ run c (smemLoad aGot (Rect.unit (s := S8) ![p.val] S1.size hb) h1 hp >>= K) Q) := by
    exact word_load (m := aGot) (r := Rect.unit (s := S8) ![p.val] S1.size hb) (f := (fun i : S8.Idx => D.cnt (i 0) c)) e
  unfold tables
  iintro ⟨⟨H0, H1, H2⟩, HX⟩
  iapply hw $$ H2
  iintro H2
  iapply h
  unfold tables
  isplitl [H0 H1 H2]
  · isplitl [H0]; · iexact H0
    isplitl [H1] <;> iassumption
  iexact HX

end Plain

/-! ## The kernel's tests -/

/-- A device's own number, as the kernel computes it. -/
abbrev me (c : Dev nD) : BitVec 32 := Scalar.remsi (Scalar.divsi (Dev.word c) 1#32) 8#32

theorem cond_other : ∀ c p : Dev nD, Scalar.cmpi .ne (Scalar.extui (Scalar.cmpi .ne (me c) (BitVec.ofNat 32 p.val)) : BitVec 32) 0#32 = 1#1 ↔ c ≠ p := by
  decide +kernel
theorem cond_own : ∀ c p : Dev nD, Scalar.cmpi .ne (Scalar.extui (Scalar.cmpi .eq (me c) (BitVec.ofNat 32 p.val)) : BitVec 32) 0#32 = 1#1 ↔ c = p := by
  decide +kernel
theorem cond_ne : ∀ c p : Dev nD, Scalar.cmpi .ne (me c) (BitVec.ofNat 32 p.val) = 1#1 ↔ c ≠ p := by decide +kernel
theorem cond_and : ∀ a b : BitVec 1, Scalar.cmpi .ne (Scalar.extui (Scalar.andi a b) : BitVec 32) 0#32 = 1#1 ↔ a = 1#1 ∧ b = 1#1 := by decide +kernel

/-- A chunk is sent, -/
theorem cond_send (c : Dev nD) (j : Chunk) {a b : BitVec 1} (ha : a = Scalar.cmpi .ne (me c) (BitVec.ofNat 32 j.1.val))
    (hb : b = Scalar.cmpi .sgt (D.cnt c j.1) (BitVec.ofNat 32 (128 * j.2.val))) :
    Scalar.cmpi .ne (Scalar.extui (Scalar.andi a b) : BitVec 32) 0#32 = 1#1 ↔ sends D c j := by
  subst ha hb
  rw [cond_and, cond_ne]
  exact Iff.rfl
/-- or received. -/
theorem cond_recv (c : Dev nD) (j : Chunk) {a b : BitVec 1} (ha : a = Scalar.cmpi .ne (me c) (BitVec.ofNat 32 j.1.val))
    (hb : b = Scalar.cmpi .sgt (D.cnt j.1 c) (BitVec.ofNat 32 (128 * j.2.val))) :
    Scalar.cmpi .ne (Scalar.extui (Scalar.andi a b) : BitVec 32) 0#32 = 1#1 ↔ gets D c j := by
  subst ha hb
  rw [cond_and, cond_ne]
  exact and_congr ne_comm Iff.rfl

/-! ## Entering -/

section Enter

variable {c : Dev nD} {β : Type}

theorem mayWait_bar (O : CellTallies nD τ sig ℕ) (hO : ∀ g i, 0 < O g i → i = ιC ∧ g.1.2 = .tc) :
    (levAts L lv : sProp 𝕄) ⊢ MayWait (c : Thread nD τ) (.reg barS) ιB O :=
  MayOwe.of_cut (L := L) (lev := lv) 5
    (fun p hp => by rw [Finset.mem_singleton.mp hp, L_tc]; decide)
    (fun g i hg => by unfold L; rw [if_pos (hO g i hg).2, (hO g i hg).1]; decide)
    (fun p hp => by rw [Finset.mem_singleton.mp hp]; exact le_rfl)
    (fun g i hg => by rw [(hO g i hg).1]; show 5 < 6; decide)

theorem rowDue_pos (n : ℕ) (g : GSem nD τ sig) (i : ℕ) (h : 0 < rowDue D c n g i) : i = ιC ∧ g.1.2 = .tc := by
  by_contra hne
  refine absurd h (Nat.not_lt.mpr (Nat.le_zero.mpr ?_))
  unfold rowDue
  rw [Finset.sum_apply, Finsupp.finset_sum_apply]
  refine Finset.sum_eq_zero fun j _ => ?_
  split
  · rfl
  split
  · rw [tallyAt_apply, if_neg]
    rintro ⟨rfl, rfl⟩
    exact hne ⟨rfl, rfl⟩
  · rfl

/-- Telling device `p`, if it is another one, that this one has entered. -/
theorem signal_step {R : sProp 𝕄} {K : Prog (TpuEff nD τ sig (Elt F) Λ₀ .tc) β} {Q : β → sProp 𝕄} {cond : BitVec 1}
    {dst : cond = 1#1 → Dev nD} {sem : Sem sig} (p : Dev nD) (n m : ℕ) (hn : p.val = n) (hm : m = n + 1) (hc : cond = 1#1 ↔ c ≠ p)
    (hd : ∀ h, dst h = p) (hs : sem = barS) (h : Enter D κ c m R ⊢ run c K Q) :
    Enter D κ c n R ⊢ run c (if h : cond = 1#1 then (semSignalWord (p := .tc) (dst h) sem 1#32 >>= fun _ => K) else K) Q := by
  subst hs hm hn
  have hstep := bigSep_step (fun p : Dev nD => p.val) (fun _ _ h => Fin.ext h) (fun p => whenP (c ≠ p) iprop(dutyTok ER (barCell p) 0 c ∗ barPay D p c))
    (fun _ => iprop(emp)) p p.val rfl
  have hdue := barDue_step c p
  by_cases hcp : c ≠ p
  · rw [dif_pos (hc.mpr hcp), hd]
    rw [if_pos hcp] at hdue
    rw [whenP_pos hcp] at hstep
    show _ ⊢ run c (.op (.semSignal (p : Thread nD τ) barS 1) fun _ => K) Q
    unfold Enter
    iintro ⟨Ht, #Hc, ⟨%W, HO⟩, Hs, HR⟩
    ihave Hs := hstep $$ Hs
    icases Hs with ⟨⟨Hd, Hp⟩, Hs⟩
    ihave Hb := (ctx_bar D κ p) $$ Hc
    icases Hb with ⟨#HI, #Hr⟩
    iapply (Rounds.wp_signal 𝒱₀ ER (sched D) (c : Thread nD τ) none (dst := (p : Thread nD τ)) (sem := barS) (r := 0) (d := c) (κ := κ (barCell p))
      (by rw [duties_bar]; exact Finset.mem_erase.mpr ⟨hcp, Finset.mem_univ _⟩) (amount_bar D p c) ιB (O₀ := barDue c p.val + rowDue D c 0)
      (barDue c (p.val + 1) + rowDue D c 0) (by rw [hdue, add_right_comm]) (W := W)) $$ [HO Hd Hp]
    · isplitr; · iexact HI
      isplitl [HO]; · iexact HO
      isplitl [Hd]; · iexact Hd
      isplitl [Hp]; · rw [payload_bar]; iexact Hp
      iexact Hr
    iintro HO
    iapply h
    unfold Enter
    isplitl [Ht]; · iexact Ht
    isplitr; · iexact Hc
    isplitl [HO]; · iexists W; iexact HO
    isplitl [Hs]
    · iapply Hs; iempintro
    iexact HR
  · rw [dif_neg (fun hh => hcp (hc.mp hh))]
    rw [if_neg hcp, add_zero] at hdue
    rw [whenP_neg hcp] at hstep
    refine BIBase.Entails.trans ?_ h
    unfold Enter
    iintro ⟨Ht, #Hc, HO, Hs, HR⟩
    ihave Hs := hstep $$ Hs
    icases Hs with ⟨-, Hs⟩
    isplitl [Ht]; · iexact Ht
    isplitr; · iexact Hc
    isplitl [HO]; · rw [hdue]; iexact HO
    isplitl [Hs]
    · iapply Hs; iempintro
    iexact HR

/-- The places that the others hand over are those that the chunks need. -/
theorem todo_of_ready :
    iprop((bigSep Finset.univ fun j : Chunk => ready D c j) ∗ bigSep (Finset.univ.erase c) fun p : Dev nD => barPay D c p)
      ⊢ bigSep Finset.univ fun j : Chunk => if rank j < 0 then sent D c j else todo D c j := by
  have e : (bigSep (Finset.univ.erase c) fun p : Dev nD => barPay D c p)
      ⊢ bigSep Finset.univ fun j : Chunk => whenP (sends D c j) iprop((∃ f, outPts j.1 (outSet (c, j.2)) f) ∗ reached ER (rcvCell j.1 (c, j.2)) 0) := by
    rw [bigSep_univ_prod, bigSep_erase (s := Finset.univ) (Finset.mem_univ c)]
    have e0 : (bigSep Finset.univ fun k : Fin 3 => whenP (sends D c (c, k)) iprop((∃ f, outPts c (outSet (c, k)) f) ∗ reached ER (rcvCell c (c, k)) 0)) = (iprop(emp) : sProp 𝕄) := by
      rw [bigSep_congr fun k _ => whenP_neg (fun h => h.1 rfl) _]
      exact bigSep_emp_const _
    show _ ⊢ iprop((bigSep Finset.univ fun k : Fin 3 => whenP (sends D c (c, k)) iprop((∃ f, outPts c (outSet (c, k)) f) ∗ reached ER (rcvCell c (c, k)) 0)) ∗ _)
    rw [e0]
    exact (emp_sep (PROP := sProp 𝕄)).2
  unfold todo
  refine (sep_mono .rfl e).trans ?_
  rw [← bigSep_sep']
  refine bigSep_mono fun j _ => ?_
  rw [if_neg (Nat.not_lt_zero _)]
  exact BI.Entails.refl _

theorem rest_bar : bigSep ((sched D).duties (barCell c) 0 \ ∅) (fun p => (sched D).payload (barCell c) 0 p) = bigSep (Finset.univ.erase c) fun p => barPay D c p := by
  rw [Finset.sdiff_empty, duties_bar, bigSep_congr fun p _ => payload_bar D c p]

/-- Waiting for the other seven. -/
theorem barrier_step {R : sProp 𝕄} {K : Prog (TpuEff nD τ sig (Elt F) Λ₀ .tc) β} {Q : β → sProp 𝕄}
    (h : Send D κ c 0 0 iprop(atPos ER (barCell c) 1 ∅ 0 ∗ R) ⊢ run c K Q) :
    Enter D κ c 8 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ R)
      ⊢ run c (semWaitWord (p := .tc) (SemArray.scalar barS : Sems sig S_).sem 7#32 >>= fun _ => K) Q := by
  show _ ⊢ run c (.op (.semWait barS 7) fun _ => K) Q
  unfold Enter
  iintro ⟨Ht, #Hc, ⟨%W, HO⟩, -, Hat, Hcr, Hrd, Hsrc, Hown, HR⟩
  ihave Hb := (ctx_bar D κ c) $$ Hc
  icases Hb with ⟨#HI, -⟩
  ihave Hlev := (ctx_lev D κ) $$ Hc
  iapply (Rounds.wp_wait_rest_token 𝒱₀ ER (sched D) (c : Thread nD τ) none (κ := κ (barCell c))
      (wpE_semWait_eq 𝒱₀ (c : Thread nD τ) none Set.univ) (Set.mem_univ _) ιB (O := rowDue D c 0) (W := W) (R := 0) (m := 0) (T := ∅)
      ((Nat.zero_add 7).trans (expect_bar D c).symm)) $$ [Hcr HO Hat Hlev]
  · isplitr; · iexact HI
    isplitl [Hcr]; · iexact Hcr
    isplitl [HO]; · rw [barDue_done, zero_add]; iexact HO
    isplitl [Hlev]; · iapply (mayWait_bar (c := c) (rowDue D c 0) (rowDue_pos D 0)); iexact Hlev
    iexact Hat
  iintro ⟨HO, Hat, -, Hpay⟩
  ihave Hpay := (Entails.of_eq (rest_bar D (c := c))) $$ Hpay
  iapply h
  unfold Send
  isplitl [Ht]; · iexact Ht
  isplitr; · iexact Hc
  isplitl [Hsrc Hown]
  · unfold ownBlk
    isplitl [Hsrc]; · iexact Hsrc
    rw [if_neg (Nat.not_lt_zero _)]; iexact Hown
  isplitl [HO]; · iexists _; iexact HO
  isplitl [Hrd Hpay]
  · iapply (todo_of_ready D (c := c))
    isplitl [Hrd]; · iexact Hrd
    iexact Hpay
  isplitl [Hat]; · iexact Hat
  iexact HR

end Enter

/-! ## Sending -/

section Send

variable {c : Dev nD} {β : Type}

theorem own_inb (hok : D.Ok) (p : Dev nD) : ∀ a, (![(D.off c p).toNat, 0, 0] : Fin 3 → ℕ) a + S384x8x128.size a ≤ S2432x8x128.size a := by
  intro a
  have h := hok c p
  match a with
  | 0 => show (D.off c p).toNat + 384 ≤ 2432; omega
  | 1 => exact le_rfl
  | 2 => exact le_rfl

theorem row_inb (hok : D.Ok) (j : Chunk) : ∀ a, (![row D c j, 0, 0] : Fin 3 → ℕ) a + S128x8x128.size a ≤ S2432x8x128.size a := by
  intro a
  have h := hok c j.1
  have h2 := j.2.isLt
  match a with
  | 0 => show (D.off c j.1).toNat + 128 * j.2.val + 128 ≤ 2432; omega
  | 1 => exact le_rfl
  | 2 => exact le_rfl

theorem row_eq (hok : D.Ok) (j : Chunk) : (Scalar.addi (D.off c j.1) (BitVec.ofNat 32 (128 * j.2.val))).toNat = row D c j := by
  have h := hok c j.1
  have h2 := j.2.isLt
  show (D.off c j.1 + BitVec.ofNat 32 (128 * j.2.val)).toNat = _
  rw [BitVec.toNat_add, BitVec.toNat_ofNat, Nat.mod_eq_of_lt (a := 128 * j.2.val) (by omega), Nat.mod_eq_of_lt (by omega)]
  rfl

/-- The row a chunk starts at, as the kernel computes it, -/
theorem src_off (hok : D.Ok) (j : Chunk) {o : Fin 3 → ℕ}
    (ho : o = ![(Scalar.addi (D.off c j.1) (BitVec.ofNat 32 (128 * j.2.val))).toNat, 0, 0]) : o = ![row D c j, 0, 0] := by
  rw [ho, row_eq D hok j]

/-- is within the pack. -/
theorem src_inb (hok : D.Ok) (j : Chunk) {o : Fin 3 → ℕ}
    (ho : o = ![(Scalar.addi (D.off c j.1) (BitVec.ofNat 32 (128 * j.2.val))).toNat, 0, 0]) : ∀ a, o a + S128x8x128.size a ≤ S2432x8x128.size a := by
  rw [src_off D hok j ho]; exact row_inb D hok j

theorem scratch_inb (j : Chunk) : ∀ a, (![j.1.val, j.2.val] : Fin 2 → ℕ) a + S1x1.size a ≤ S8x3.size a := by
  intro a
  have h1 : j.1.val < 8 := j.1.isLt
  have h2 := j.2.isLt
  match a with
  | 0 => show j.1.val + 1 ≤ 8; omega
  | 1 => show j.2.val + 1 ≤ 3; omega

/-- The semaphores as the kernel names them. -/
theorem snd_sem (j : Chunk) {o : Fin 2 → ℕ} (ho : o = ![j.1.val, j.2.val]) {hb : ∀ a, o a + S1x1.size a ≤ S8x3.size a} :
    ((cc0_scratch0.slice (Rect.unit (s := S8x3) o S1x1.size hb)).squeeze S_ squeezes_S1x1_S_).sem = sndS j := by
  subst ho
  revert j
  have h : ∀ j : Chunk, ((cc0_scratch0.slice (Rect.unit (s := S8x3) ![j.1.val, j.2.val] S1x1.size (scratch_inb j))).squeeze S_ squeezes_S1x1_S_).sem = sndS j := by
    decide +kernel
  exact fun j _ => h j
theorem rcv_sem (j : Chunk) {o : Fin 2 → ℕ} (ho : o = ![j.1.val, j.2.val]) {hb : ∀ a, o a + S1x1.size a ≤ S8x3.size a} :
    ((cc0_scratch1.slice (Rect.unit (s := S8x3) o S1x1.size hb)).squeeze S_ squeezes_S1x1_S_).sem = rcvS j := by
  subst ho
  revert j
  have h : ∀ j : Chunk, ((cc0_scratch1.slice (Rect.unit (s := S8x3) ![j.1.val, j.2.val] S1x1.size (scratch_inb j))).squeeze S_ squeezes_S1x1_S_).sem = rcvS j := by
    decide +kernel
  exact fun j _ => h j

/-- Copying the own block, when device `p` is this one. -/
theorem own_step {R : sProp 𝕄} {K : Prog (TpuEff nD τ sig (Elt F) Λ₀ .tc) β} {Q : β → sProp 𝕄} {cond : BitVec 1}
    (p : Dev nD) (n m q : ℕ) (hn : p.val = n) (hm : m = n + 1) (hc : cond = 1#1 ↔ c = p)
    {o : Fin 3 → ℕ} (ho : o = ![(D.off c p).toNat, 0, 0]) {hb : cond = 1#1 → ∀ a, o a + S384x8x128.size a ≤ S2432x8x128.size a}
    {o' : Fin 4 → ℕ} (ho' : o' = ![n, 0, 0, 0]) {hb' : ∀ a, o' a + S1x384x8x128.size a ≤ S8x384x8x128.size a}
    {hl : ∀ h : cond = 1#1, aSrc.view.LoadsAt (Rect.unit (s := S2432x8x128) o S384x8x128.size (hb h)).toLoadRect}
    {hl' : aOut.view.LoadsAt (Rect.unit (s := S8x384x8x128) o' S1x384x8x128.size hb').toLoadRect}
    {hs : (aOut.access (Rect.unit (s := S8x384x8x128) o' S1x384x8x128.size hb')).Stores Finset.univ} {hx}
    {pay : Vec F S384x8x128 .f32 → FVec F S1x384x8x128 .f32} (hpay : pay = k0_pay1)
    (h : Send D κ c m q R ⊢ run c K Q) :
    Send D κ c n q R ⊢ run c (if h : cond = 1#1 then
        (Prog.lift (.load aSrc (Rect.unit (s := S2432x8x128) o S384x8x128.size (hb h)).toLoadRect (hl h)) >>= fun v : Vec F S384x8x128 .f32 =>
          Prog.lift (.load aOut (Rect.unit (s := S8x384x8x128) o' S1x384x8x128.size hb').toLoadRect hl') >>= fun _ : Vec F S1x384x8x128 .f32 =>
            Prog.lift (.store aOut (Rect.unit (s := S8x384x8x128) o' S1x384x8x128.size hb') (pay v) Finset.univ hs hx) >>= fun _ => K)
      else K) Q := by
  subst ho ho' hpay hm hn
  by_cases hcp : c = p
  · subst hcp
    have hcc := hc.mpr rfl
    rw [dif_pos hcc]
    have hset := ownBlk_set c.val hb' c rfl
    have hw : ∀ f : S8x384x8x128.Idx → Elt F .f32, ∀ w : S384x8x128.Idx → Elt F .f32,
        w = (aSrc.access (Rect.unit (s := S2432x8x128) ![(D.off c c).toNat, 0, 0] S384x8x128.size (hb hcc))).read (Elt F) (D.x c) →
        outPts c (ownSet c) ((aOut.access (Rect.unit (s := S8x384x8x128) ![c.val, 0, 0, 0] S1x384x8x128.size hb')).write (Elt F) f (k0_pay1 w) Finset.univ)
          = outPts c (ownSet c) (result D c) := by
      rintro f w rfl
      exact pointsTo_congr fun i hi => own_copied D c c.val _ rfl rfl hb' (hb hcc) f i hi
    unfold Send ownBlk
    rw [if_neg (lt_irrefl _)]
    iintro ⟨Ht, #Hc, ⟨Hsrc, %f, Hown⟩, HO, Hs, HR⟩
    iapply (wp_load_rect 𝒱₀ (c : Thread nD τ) none Set.univ (m := aSrc) (r := Rect.unit (s := S2432x8x128) ![(D.off c c).toNat, 0, 0] S384x8x128.size (hb hcc)) (S := Finset.univ) (f := D.x c) (Finset.subset_univ _)) $$ [Hsrc]
    · iexact Hsrc
    iintro Hsrc
    iapply (wp_load_rect 𝒱₀ (c : Thread nD τ) none Set.univ (m := aOut) (r := Rect.unit (s := S8x384x8x128) ![c.val, 0, 0, 0] S1x384x8x128.size hb') (S := ownSet c) (f := f) (subset_of_eq hset)) $$ [Hown]
    · iexact Hown
    iintro Hown
    iapply (wp_store 𝒱₀ (c : Thread nD τ) none Set.univ (m := aOut) (r := Rect.unit (s := S8x384x8x128) ![c.val, 0, 0, 0] S1x384x8x128.size hb') (S := ownSet c) (f := f) (subset_of_eq hset)) $$ [Hown]
    · iexact Hown
    iintro Hown
    ihave Hown := (Entails.of_eq (hw f _ rfl)) $$ Hown
    iapply h
    unfold Send ownBlk
    rw [if_pos (Nat.lt_succ_self _)]
    isplitl [Ht]; · iexact Ht
    isplitr; · iexact Hc
    isplitl [Hsrc Hown]
    · isplitl [Hsrc]; · iexact Hsrc
      iexact Hown
    isplitl [HO]; · iexact HO
    isplitl [Hs]; · iexact Hs
    iexact HR
  · rw [dif_neg (fun hh => hcp (hc.mp hh))]
    have e : ownBlk D c p.val = ownBlk D c (p.val + 1) := by
      have hne : c.val ≠ p.val := fun e => hcp (Fin.ext e)
      unfold ownBlk
      by_cases hl : c.val < p.val
      · rw [if_pos hl, if_pos (by omega)]
      · rw [if_neg hl, if_neg (by omega)]
    refine BIBase.Entails.trans (Entails.of_eq ?_) h
    unfold Send
    rw [e]

theorem todo_pos {j : Chunk} (hs : sends D c j) : todo D c j = iprop((atPos ER (sndCell c j) 0 ∅ 0 ∗ dutyTok ER (sndCell c j) 0 c ∗ dutyTok ER (rcvCell j.1 (c, j.2)) 0 c
    ∗ reached ER (sndCell c j) 0 ∗ srcPts c (leafOf (chunkLeaf j)) (srcSet (row D c j)) (D.x c))
    ∗ (∃ f, outPts j.1 (outSet (c, j.2)) f) ∗ reached ER (rcvCell j.1 (c, j.2)) 0) := by
  unfold todo ready; rw [whenP_pos hs, whenP_pos hs]
theorem todo_neg {j : Chunk} (hs : ¬sends D c j) : todo D c j = iprop((atPos ER (sndCell c j) 0 ∅ 0 ∗ emp) ∗ emp) := by
  unfold todo ready; rw [whenP_neg hs, whenP_neg hs]
theorem sent_pos {j : Chunk} (hs : sends D c j) : sent D c j = iprop(atPos ER (sndCell c j) 0 ∅ 0 ∗ cred (tallyAt (sndCell c j) ιC N)) := by
  unfold sent; rw [whenP_pos hs]
theorem sent_neg {j : Chunk} (hs : ¬sends D c j) : sent D c j = iprop(atPos ER (sndCell c j) 0 ∅ 0 ∗ emp) := by
  unfold sent; rw [whenP_neg hs]

/-- Putting chunk `j` on its way, if it is sent. -/
theorem send_step {R : sProp 𝕄} {K : Prog (TpuEff nD τ sig (Elt F) Λ₀ .tc) β} {Q : β → sProp 𝕄} {cond : BitVec 1}
    (j : Chunk) (n m q : ℕ) (hn : rank j = n) (hm : m = n + 1) (hc : cond = 1#1 ↔ sends D c j)
    {dst : Dev nD} (hdst : dst = j.1) {sS sR : DmaSem sig} (hsS : sS = sndS j) (hsR : sR = rcvS (c, j.2))
    {o3 : Fin 4 → ℕ} (ho3 : o3 = ![c.val, 128 * j.2.val, 0, 0]) {hb3 : ∀ a, o3 a + S1x128x8x128.size a ≤ S8x384x8x128.size a}
    {o4 : Fin 3 → ℕ} (ho4 : o4 = ![row D c j, 0, 0]) {hb4 : cond = 1#1 → ∀ a, o4 a + S128x8x128.size a ≤ S2432x8x128.size a}
    {hw : ∀ h : cond = 1#1, (srcAt o4 (hb4 h)).view.WordExact}
    {hw' : (outAt o3 hb3).view.WordExact} {hsc : (outAt o3 hb3).view.ref.isScScratch = false}
    {hty : DmaTarget.Typed (nD := nD) (τ := τ) .vmem (.dma sR) (.remote (Dev.tc dst) (outAt o3 hb3) (.dma sS) hsc)}
    (h : Send D κ c q m R ⊢ run c K Q) :
    Send D κ c q n R ⊢ run c (if h : cond = 1#1 then
        (Prog.lift (.enqueueDma (srcAt o4 (hb4 h))
          (.remote (Dev.tc dst) (outAt o3 hb3) (.dma sS) hsc) (.dma sR) (hw h) hw' hty) >>= fun _ => K)
      else K) Q := by
  subst ho3 ho4 hdst hsS hsR hm hn
  have hstep := bigSep_step rank (fun _ _ h => rank_inj h) (fun j => todo D c j) (fun j => sent D c j) j (rank j) rfl
  have hdue := rowDue_step D c j
  by_cases hs : sends D c j
  · have hcc := hc.mpr hs
    rw [dif_pos hcc]
    rw [if_pos hs] at hdue
    have e1 := srcBlk_set (row D c j) (hb4 hcc)
    have e2 := outBlk_set c.val (128 * j.2.val) hb3 (c, j.2) rfl rfl
    rw [todo_pos D hs, sent_pos D hs] at hstep
    have hsrc : (srcPts c (leafOf (chunkLeaf j)) (srcAt ![row D c j, 0, 0] (hb4 hcc)).view.set (D.x c) : sProp 𝕄)
        = srcPts c (leafOf (chunkLeaf j)) (srcSet (row D c j)) (D.x c) := congrArg (fun I => srcPts c (leafOf (chunkLeaf j)) I (D.x c)) e1
    have hout : ∀ f, (outPts j.1 (outAt ![c.val, 128 * j.2.val, 0, 0] hb3).view.set f : sProp 𝕄) = outPts j.1 (outSet (c, j.2)) f :=
      fun f => congrArg (fun I => outPts j.1 I f) e2
    have hland : ∀ f, (outPts j.1 (outSet (c, j.2)) ((outAt ![c.val, 128 * j.2.val, 0, 0] hb3).view.write (Elt F) f
        ((srcAt ![row D c j, 0, 0] (hb4 hcc)).view.read (Elt F) (D.x c)) Finset.univ) : sProp 𝕄) = outPts j.1 (outSet (c, j.2)) (result D j.1) :=
      fun f => pointsTo_congr fun i hi => chunk_landed D c j.1 j.2 _ _ _ rfl rfl rfl hb3 (hb4 hcc) f i hi
    unfold Send
    iintro ⟨Ht, #Hc, Hown, ⟨%W, HO⟩, Hs, HR⟩
    ihave Hs := hstep $$ Hs
    icases Hs with ⟨⟨⟨Hat, Hd, Hd', Hr, Hsrc⟩, ⟨%f, Hout⟩, Hr'⟩, Hs⟩
    ihave HI := (ctx_snd D κ c j) $$ Hc
    ihave HI' := (ctx_rcv D κ j.1 (c, j.2)) $$ Hc
    ihave Hsrc := (Entails.of_eq hsrc.symm) $$ Hsrc
    ihave Hout := (Entails.of_eq (hout f).symm) $$ Hout
    iapply (Rounds.wp_send_pointsTo 𝒱₀ ER (sched D) (c : Thread nD τ) none (c' := (j.1 : Thread nD τ)) (src := srcAt ![row D c j, 0, 0] (hb4 hcc))
      (dst := outAt ![c.val, 128 * j.2.val, 0, 0] hb3) (sS := .dma (sndS j)) (sem := .dma (rcvS (c, j.2))) (q := leafOf (chunkLeaf j)) (fs := D.x c)
      (κ₁ := κ (sndCell c j)) (κ₂ := κ (rcvCell j.1 (c, j.2))) (r₁ := 0) (r₂ := 0) (d₁ := c) (d₂ := c) (fd := f)
      (by rw [duties_snd, if_pos hs]; exact Finset.mem_singleton_self _) (by rw [duties_rcv, if_pos hs]; exact Finset.mem_singleton_self _)
      ιC ιC N rfl (amount_snd D c j c) (amount_rcv D j.1 (c, j.2) c) (O₀ := rowDue D c (rank j)) (rowDue D c (rank j + 1)) hdue (W := W)
      (by rw [payload_snd]; exact Entails.of_eq hsrc)
      (by rw [payload_rcv]; exact Entails.of_eq ((hout _).trans (hland f)))) $$ [HI HI' Hsrc Hout HO Hd Hr Hd' Hr']
    · isplitl [HI]; · iexact HI
      isplitl [HI']; · iexact HI'
      isplitl [Hsrc]; · iexact Hsrc
      isplitl [Hout]; · iexact Hout
      isplitl [HO]; · iexact HO
      isplitl [Hd]; · iexact Hd
      isplitl [Hr]; · iexact Hr
      isplitl [Hd']; · iexact Hd'
      iexact Hr'
    iintro ⟨Hcr, HO⟩
    iapply h
    unfold Send
    isplitl [Ht]; · iexact Ht
    isplitr; · iexact Hc
    isplitl [Hown]; · iexact Hown
    isplitl [HO]; · iexists W; iexact HO
    isplitl [Hs Hat Hcr]
    · iapply Hs; isplitl [Hat]
      · iexact Hat
      iexact Hcr
    iexact HR
  · rw [dif_neg (fun hh => hs (hc.mp hh))]
    rw [if_neg hs, add_zero] at hdue
    refine BIBase.Entails.trans ?_ h
    rw [todo_neg D hs, sent_neg D hs] at hstep
    unfold Send
    iintro ⟨Ht, #Hc, Hown, HO, Hs, HR⟩
    ihave Hs := hstep $$ Hs
    icases Hs with ⟨⟨⟨Hat, -⟩, -⟩, Hs⟩
    isplitl [Ht]; · iexact Ht
    isplitr; · iexact Hc
    isplitl [Hown]; · iexact Hown
    isplitl [HO]; · rw [hdue]; iexact HO
    isplitl [Hs Hat]
    · iapply Hs; isplitl [Hat]
      · iexact Hat
      iempintro
    iexact HR

end Send

/-! ## Receiving, and seeing off -/

section Wait

variable {c : Dev nD} {β : Type}

theorem coming_pos {j : Chunk} (hs : gets D c j) : coming D c j = iprop(atPos ER (rcvCell c j) 0 ∅ 0 ∗ cred (tallyAt (rcvCell c j) ιC N)) := by
  unfold coming; rw [whenP_pos hs]
theorem coming_neg {j : Chunk} (hs : ¬gets D c j) : coming D c j = iprop(atPos ER (rcvCell c j) 0 ∅ 0 ∗ emp) := by
  unfold coming; rw [whenP_neg hs]
theorem come_pos {j : Chunk} (hs : gets D c j) : come D c j = iprop(atPos ER (rcvCell c j) 1 ∅ 0 ∗ rcvPay D c j) := if_pos hs
theorem come_neg {j : Chunk} (hs : ¬gets D c j) : come D c j = atPos ER (rcvCell c j) 0 ∅ 0 := if_neg hs
theorem rest_rcv {j : Chunk} (hs : gets D c j) :
    bigSep ((sched D).duties (rcvCell c j) 0 \ ∅) (fun p => (sched D).payload (rcvCell c j) 0 p) = rcvPay D c j := by
  rw [Finset.sdiff_empty, duties_rcv, if_pos hs, bigSep_singleton, payload_rcv]

/-- Waiting for the chunk that device `j.1` sends, if it does. -/
theorem recv_step {R : sProp 𝕄} {K : Prog (TpuEff nD τ sig (Elt F) Λ₀ .tc) β} {Q : β → sProp 𝕄} {cond : BitVec 1}
    (j : Chunk) (n m : ℕ) (hn : rank j = n) (hm : m = n + 1) (hc : cond = 1#1 ↔ gets D c j) {sem : DmaSem sig} (hsem : sem = rcvS j)
    {src dst : Memref sig .tc .vmem S128x8x128 .f32} {hw : src.view.WordExact} {hw' : dst.view.WordExact} (hN : dst.view.dmaCredit = N)
    (h : Recv D κ c m R ⊢ run c K Q) :
    Recv D κ c n R ⊢ run c (if cond = 1#1 then (Prog.lift (.waitDma2 sem src dst hw hw') >>= fun _ => K) else K) Q := by
  subst hsem hm hn
  have hstep := bigSep_step rank (fun _ _ h => rank_inj h) (fun j => coming D c j) (fun j => come D c j) j (rank j) rfl
  by_cases hs : gets D c j
  · rw [if_pos (hc.mpr hs)]
    rw [coming_pos D hs, come_pos D hs] at hstep
    unfold Recv
    iintro ⟨Ht, #Hc, ⟨%W, HO⟩, Hs, HR⟩
    ihave Hs := hstep $$ Hs
    icases Hs with ⟨⟨Hat, Hcr⟩, Hs⟩
    ihave HI := (ctx_rcv D κ c j) $$ Hc
    iapply (Rounds.wp_wait_rest_token 𝒱₀ ER (sched D) (c : Thread nD τ) none (κ := κ (rcvCell c j))
      (wpE_waitDma2_eq 𝒱₀ (c : Thread nD τ) none Set.univ) (Set.mem_univ _) ιC (O := 0) (W := W) (R := 0) (m := 0) (T := ∅)
      ((Nat.zero_add _).trans (hN.trans (expect_rcv D c j hs).symm))) $$ [HI Hcr HO Hat]
    · isplitl [HI]; · iexact HI
      isplitl [Hcr]; · rw [hN]; iexact Hcr
      isplitl [HO]; · iexact HO
      isplitr; · rw [MayWait_zero]; iempintro
      iexact Hat
    iintro ⟨HO, Hat, -, Hpay⟩
    ihave Hpay := (Entails.of_eq (rest_rcv D hs)) $$ Hpay
    iapply h
    unfold Recv
    isplitl [Ht]; · iexact Ht
    isplitr; · iexact Hc
    isplitl [HO]; · iexists _; iexact HO
    isplitl [Hs Hat Hpay]
    · iapply Hs; isplitl [Hat]
      · iexact Hat
      iexact Hpay
    iexact HR
  · rw [if_neg (fun hh => hs (hc.mp hh))]
    rw [coming_neg D hs, come_neg D hs] at hstep
    refine BIBase.Entails.trans ?_ h
    unfold Recv
    iintro ⟨Ht, #Hc, HO, Hs, HR⟩
    ihave Hs := hstep $$ Hs
    icases Hs with ⟨⟨Hat, -⟩, Hs⟩
    isplitl [Ht]; · iexact Ht
    isplitr; · iexact Hc
    isplitl [HO]; · iexact HO
    isplitl [Hs Hat]
    · iapply Hs; iexact Hat
    iexact HR

theorem gone_pos {j : Chunk} (hs : sends D c j) : gone D c j = iprop(atPos ER (sndCell c j) 1 ∅ 0 ∗ sndPay D c j) := if_pos hs
theorem gone_neg {j : Chunk} (hs : ¬sends D c j) : gone D c j = atPos ER (sndCell c j) 0 ∅ 0 := if_neg hs
theorem rest_snd {j : Chunk} (hs : sends D c j) :
    bigSep ((sched D).duties (sndCell c j) 0 \ ∅) (fun p => (sched D).payload (sndCell c j) 0 p) = sndPay D c j := by
  rw [Finset.sdiff_empty, duties_snd, if_pos hs, bigSep_singleton, payload_snd]

/-- Waiting for chunk `j`'s departure, if it is sent. -/
theorem leave_step {R : sProp 𝕄} {K : Prog (TpuEff nD τ sig (Elt F) Λ₀ .tc) β} {Q : β → sProp 𝕄} {cond : BitVec 1}
    (j : Chunk) (n m : ℕ) (hn : rank j = n) (hm : m = n + 1) (hc : cond = 1#1 ↔ sends D c j) {sem : DmaSem sig} (hsem : sem = sndS j)
    {src dst : Memref sig .tc .vmem S128x8x128 .f32} {hw : src.view.WordExact} {hw' : dst.view.WordExact} (hN : dst.view.dmaCredit = N)
    (h : Leave D κ c m R ⊢ run c K Q) :
    Leave D κ c n R ⊢ run c (if cond = 1#1 then (Prog.lift (.waitDma2 sem src dst hw hw') >>= fun _ => K) else K) Q := by
  subst hsem hm hn
  have hstep := bigSep_step rank (fun _ _ h => rank_inj h) (fun j => sent D c j) (fun j => gone D c j) j (rank j) rfl
  by_cases hs : sends D c j
  · rw [if_pos (hc.mpr hs)]
    rw [sent_pos D hs, gone_pos D hs] at hstep
    unfold Leave
    iintro ⟨Ht, #Hc, ⟨%W, HO⟩, Hs, HR⟩
    ihave Hs := hstep $$ Hs
    icases Hs with ⟨⟨Hat, Hcr⟩, Hs⟩
    ihave HI := (ctx_snd D κ c j) $$ Hc
    iapply (Rounds.wp_wait_rest_token 𝒱₀ ER (sched D) (c : Thread nD τ) none (κ := κ (sndCell c j))
      (wpE_waitDma2_eq 𝒱₀ (c : Thread nD τ) none Set.univ) (Set.mem_univ _) ιC (O := 0) (W := W) (R := 0) (m := 0) (T := ∅)
      ((Nat.zero_add _).trans (hN.trans (expect_snd D c j hs).symm))) $$ [HI Hcr HO Hat]
    · isplitl [HI]; · iexact HI
      isplitl [Hcr]; · rw [hN]; iexact Hcr
      isplitl [HO]; · iexact HO
      isplitr; · rw [MayWait_zero]; iempintro
      iexact Hat
    iintro ⟨HO, Hat, -, Hpay⟩
    ihave Hpay := (Entails.of_eq (rest_snd D hs)) $$ Hpay
    iapply h
    unfold Leave
    isplitl [Ht]; · iexact Ht
    isplitr; · iexact Hc
    isplitl [HO]; · iexists _; iexact HO
    isplitl [Hs Hat Hpay]
    · iapply Hs; isplitl [Hat]
      · iexact Hat
      iexact Hpay
    iexact HR
  · rw [if_neg (fun hh => hs (hc.mp hh))]
    rw [sent_neg D hs, gone_neg D hs] at hstep
    refine BIBase.Entails.trans ?_ h
    unfold Leave
    iintro ⟨Ht, #Hc, HO, Hs, HR⟩
    ihave Hs := hstep $$ Hs
    icases Hs with ⟨⟨Hat, -⟩, Hs⟩
    isplitl [Ht]; · iexact Ht
    isplitr; · iexact Hc
    isplitl [HO]; · iexact HO
    isplitl [Hs Hat]
    · iapply Hs; iexact Hat
    iexact HR

/-- All is sent: what remains is to receive, -/
theorem recv_start {R : sProp 𝕄} :
    Send D κ c 8 24 iprop((bigSep Finset.univ fun j : Chunk => coming D c j) ∗ R)
      ⊢ Recv D κ c 0 iprop(ownBlk D c 8 ∗ (bigSep Finset.univ fun j : Chunk => sent D c j) ∗ R) := by
  have e : (bigSep Finset.univ fun j : Chunk => if rank j < 24 then sent D c j else todo D c j) = bigSep Finset.univ fun j : Chunk => sent D c j :=
    bigSep_congr fun j _ => if_pos (rank_lt j)
  have e' : (bigSep Finset.univ fun j : Chunk => if rank j < 0 then come D c j else coming D c j) = bigSep Finset.univ fun j : Chunk => coming D c j :=
    bigSep_congr fun j _ => if_neg (Nat.not_lt_zero _)
  unfold Send Recv
  rw [e, e', rowDue_done]
  iintro ⟨Ht, #Hc, Hown, HO, Hs, Hcm, HR⟩
  isplitl [Ht]; · iexact Ht
  isplitr; · iexact Hc
  isplitl [HO]; · iexact HO
  isplitl [Hcm]; · iexact Hcm
  isplitl [Hown]; · iexact Hown
  isplitl [Hs]; · iexact Hs
  iexact HR

/-- and then to see off what was sent. -/
theorem leave_start {R : sProp 𝕄} :
    Recv D κ c 24 iprop((bigSep Finset.univ fun j : Chunk => sent D c j) ∗ R)
      ⊢ Leave D κ c 0 iprop((bigSep Finset.univ fun j : Chunk => come D c j) ∗ R) := by
  have e : (bigSep Finset.univ fun j : Chunk => if rank j < 24 then come D c j else coming D c j) = bigSep Finset.univ fun j : Chunk => come D c j :=
    bigSep_congr fun j _ => if_pos (rank_lt j)
  have e' : (bigSep Finset.univ fun j : Chunk => if rank j < 0 then gone D c j else sent D c j) = bigSep Finset.univ fun j : Chunk => sent D c j :=
    bigSep_congr fun j _ => if_neg (Nat.not_lt_zero _)
  unfold Recv Leave
  rw [e, e']
  iintro ⟨Ht, #Hc, HO, Hs, Hst, HR⟩
  isplitl [Ht]; · iexact Ht
  isplitr; · iexact Hc
  isplitl [HO]; · iexact HO
  isplitl [Hst]; · iexact Hst
  isplitl [Hs]; · iexact Hs
  iexact HR

end Wait

end Cert.KernelIdeal.Exchange
end
-- ==== Proof.Body.lean ====
/-
  The kernel's own text, walked through: one lemma for each of the parts it is cut into, each naming the protocol's state before and
  after, and the words the part hands to the next.
-/
module

public import proofs.«01_k».proof.Proof.Steps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34 k0_cond35 k0_cond36 k0_cond37 k0_cond38 k0_cond39 k0_cond40 Scalar.cmpi

variable (D : Data F) (κ : GSem nD τ sig → ℕ) {c : Dev nD} {β : Type}

/-- Part 1: the device enters, and waits until the others have. -/
theorem part1_step {R : sProp 𝕄} {Q : β → sProp 𝕄} {K : (Σ' (_ : Dev nD) (_ : BitVec 32), Elt F .i32) → Prog (TpuEff nD τ sig (Elt F) Λ₀ .tc) β}
    (h : Send D κ c 0 0 iprop(atPos ER (barCell c) 1 ∅ 0 ∗ R) ⊢ run c (K ⟨c, me c, D.off c 0⟩) Q) (h0 h1 h2 h3 h4) :
    Enter D κ c 0 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ R) ⊢ run c (k0_part1 (F := F) aOff h0 aSnt h1 aGot h2 aSrc h3 aOut h4 cc0_scratch0 cc0_scratch1 >>= K) Q := by
  refine bind_step ?_
  rw [k0_part1_eq_skeleton]; unfold k0_part1_skel
  refine device_step ?_
  refine signal_step D κ 0 0 1 rfl rfl (by unfold k0_cond1; exact cond_other c 0) (fun _ => Fin.ext k0_dev1_eq) rfl ?_
  refine signal_step D κ 1 1 2 rfl rfl (by unfold k0_cond2; exact cond_other c 1) (fun _ => Fin.ext k0_dev2_eq) rfl ?_
  refine signal_step D κ 2 2 3 rfl rfl (by unfold k0_cond3; exact cond_other c 2) (fun _ => Fin.ext k0_dev3_eq) rfl ?_
  refine signal_step D κ 3 3 4 rfl rfl (by unfold k0_cond4; exact cond_other c 3) (fun _ => Fin.ext k0_dev4_eq) rfl ?_
  refine signal_step D κ 4 4 5 rfl rfl (by unfold k0_cond5; exact cond_other c 4) (fun _ => Fin.ext k0_dev5_eq) rfl ?_
  refine signal_step D κ 5 5 6 rfl rfl (by unfold k0_cond6; exact cond_other c 5) (fun _ => Fin.ext k0_dev6_eq) rfl ?_
  refine signal_step D κ 6 6 7 rfl rfl (by unfold k0_cond7; exact cond_other c 6) (fun _ => Fin.ext k0_dev7_eq) rfl ?_
  refine signal_step D κ 7 7 8 rfl rfl (by unfold k0_cond8; exact cond_other c 7) (fun _ => Fin.ext k0_dev8_eq) rfl ?_
  refine barrier_step D κ ?_
  refine word_off D 0 rfl rfl ?_
  exact pure_step h

theorem part2_step (hok : D.Ok) {R : sProp 𝕄} {Q : β → sProp 𝕄} {K : (Σ' (v50 : Elt F .i32) (v55 : Elt F .i32) (k0_hw6 : k0_chk6 c v50 v55), BitVec 1) → Prog (TpuEff nD τ sig (Elt F) Λ₀ .tc) β}
    (h : ∀ hw, Send D κ c 2 3 R ⊢ run c (K ⟨D.off c 1, D.cnt c 1, hw, (Scalar.andi (Scalar.cmpi .ne (me c) 1#32) (Scalar.cmpi .sgt (D.cnt c 1) 0#32))⟩) Q) (h0 h1 h2 h3 h4) :
    Send D κ c 0 0 R ⊢ run c (k0_part2 (F := F) aOff h0 aSnt h1 aGot h2 aSrc h3 aOut h4 cc0_scratch0 cc0_scratch1 c (me c) (D.off c 0) >>= K) Q := by
  refine bind_step ?_
  rw [k0_part2_eq_skeleton]; unfold k0_part2_skel
  refine assume_step (by intro _; exact own_inb D hok 0) ?_
  refine own_step D κ 0 0 1 0 rfl rfl (by unfold k0_cond9; exact cond_own c 0) rfl rfl rfl ?_
  refine word_cnt D 0 rfl rfl ?_
  refine assume_step (by intro _; exact src_inb D hok (0, 0) rfl) ?_
  refine send_step D κ (0, 0) 0 1 1 rfl rfl (by unfold k0_cond10; exact cond_send D c (0, 0) rfl rfl) (Fin.ext k0_dev9_eq)
    (snd_sem (0, 0) rfl) (rcv_sem (c, 0) (k0_off2_eq c)) (k0_off3_eq c) (src_off D hok (0, 0) rfl) ?_
  refine word_cnt D 0 rfl rfl ?_
  refine assume_step (by intro _; exact src_inb D hok (0, 1) rfl) ?_
  refine send_step D κ (0, 1) 1 2 1 rfl rfl (by unfold k0_cond11; exact cond_send D c (0, 1) rfl rfl) (Fin.ext k0_dev10_eq)
    (snd_sem (0, 1) rfl) (rcv_sem (c, 1) (k0_off5_eq c)) (k0_off6_eq c) (src_off D hok (0, 1) rfl) ?_
  refine word_cnt D 0 rfl rfl ?_
  refine assume_step (by intro _; exact src_inb D hok (0, 2) rfl) ?_
  refine send_step D κ (0, 2) 2 3 1 rfl rfl (by unfold k0_cond12; exact cond_send D c (0, 2) rfl rfl) (Fin.ext k0_dev11_eq)
    (snd_sem (0, 2) rfl) (rcv_sem (c, 2) (k0_off8_eq c)) (k0_off9_eq c) (src_off D hok (0, 2) rfl) ?_
  refine word_off D 1 rfl rfl ?_
  refine assume_step (by intro _; exact own_inb D hok 1) ?_
  refine own_step D κ 1 1 2 3 rfl rfl (by unfold k0_cond13; exact cond_own c 1) rfl rfl rfl ?_
  refine word_cnt D 1 rfl rfl ?_
  refine assume_step (by intro _; exact src_inb D hok (1, 0) rfl) ?_
  exact pure_step (h _)

theorem part3_step (hok : D.Ok) {R : sProp 𝕄} {Q : β → sProp 𝕄} {K : (Σ' (v72 : Elt F .i32) (v83 : Elt F .i32), k0_chk11 c v72 v83) → Prog (TpuEff nD τ sig (Elt F) Λ₀ .tc) β} (hw0 : k0_chk6 c (D.off c 1) (D.cnt c 1))
    (h : ∀ hw, Send D κ c 3 7 R ⊢ run c (K ⟨D.off c 2, D.cnt c 2, hw⟩) Q) (h0 h1 h2 h3 h4) :
    Send D κ c 2 3 R ⊢ run c (k0_part3 (F := F) aOff h0 aSnt h1 aGot h2 aSrc h3 aOut h4 cc0_scratch0 cc0_scratch1 c (me c) (D.off c 1) (D.cnt c 1) hw0 (Scalar.andi (Scalar.cmpi .ne (me c) 1#32) (Scalar.cmpi .sgt (D.cnt c 1) 0#32)) >>= K) Q := by
  refine bind_step ?_
  rw [k0_part3_eq_skeleton]; unfold k0_part3_skel
  refine send_step D κ (1, 0) 3 4 2 rfl rfl (by unfold k0_cond14; exact cond_send D c (1, 0) rfl rfl) (Fin.ext k0_dev12_eq)
    (snd_sem (1, 0) rfl) (rcv_sem (c, 0) (k0_off12_eq c)) (k0_off13_eq c) (src_off D hok (1, 0) rfl) ?_
  refine word_cnt D 1 rfl rfl ?_
  refine assume_step (by intro _; exact src_inb D hok (1, 1) rfl) ?_
  refine send_step D κ (1, 1) 4 5 2 rfl rfl (by unfold k0_cond15; exact cond_send D c (1, 1) rfl rfl) (Fin.ext k0_dev13_eq)
    (snd_sem (1, 1) rfl) (rcv_sem (c, 1) (k0_off15_eq c)) (k0_off16_eq c) (src_off D hok (1, 1) rfl) ?_
  refine word_cnt D 1 rfl rfl ?_
  refine assume_step (by intro _; exact src_inb D hok (1, 2) rfl) ?_
  refine send_step D κ (1, 2) 5 6 2 rfl rfl (by unfold k0_cond16; exact cond_send D c (1, 2) rfl rfl) (Fin.ext k0_dev14_eq)
    (snd_sem (1, 2) rfl) (rcv_sem (c, 2) (k0_off18_eq c)) (k0_off19_eq c) (src_off D hok (1, 2) rfl) ?_
  refine word_off D 2 rfl rfl ?_
  refine assume_step (by intro _; exact own_inb D hok 2) ?_
  refine own_step D κ 2 2 3 6 rfl rfl (by unfold k0_cond17; exact cond_own c 2) rfl rfl rfl ?_
  refine word_cnt D 2 rfl rfl ?_
  refine assume_step (by intro _; exact src_inb D hok (2, 0) rfl) ?_
  refine send_step D κ (2, 0) 6 7 3 rfl rfl (by unfold k0_cond18; exact cond_send D c (2, 0) rfl rfl) (Fin.ext k0_dev15_eq)
    (snd_sem (2, 0) rfl) (rcv_sem (c, 0) (k0_off22_eq c)) (k0_off23_eq c) (src_off D hok (2, 0) rfl) ?_
  refine word_cnt D 2 rfl rfl ?_
  refine assume_step (by intro _; exact src_inb D hok (2, 1) rfl) ?_
  exact pure_step (h _)

theorem part4_step (hok : D.Ok) {R : sProp 𝕄} {Q : β → sProp 𝕄} {K : (Elt F .i32) → Prog (TpuEff nD τ sig (Elt F) Λ₀ .tc) β} (hw0 : k0_chk11 c (D.off c 2) (D.cnt c 2))
    (h : Send D κ c 4 12 R ⊢ run c (K (D.off c 4)) Q) (h0 h1 h2 h3 h4) :
    Send D κ c 3 7 R ⊢ run c (k0_part4 (F := F) aOff h0 aSnt h1 aGot h2 aSrc h3 aOut h4 cc0_scratch0 cc0_scratch1 c (me c) (D.off c 2) (D.cnt c 2) hw0 >>= K) Q := by
  refine bind_step ?_
  rw [k0_part4_eq_skeleton]; unfold k0_part4_skel
  refine send_step D κ (2, 1) 7 8 3 rfl rfl (by unfold k0_cond19; exact cond_send D c (2, 1) rfl rfl) (Fin.ext k0_dev16_eq)
    (snd_sem (2, 1) rfl) (rcv_sem (c, 1) (k0_off25_eq c)) (k0_off26_eq c) (src_off D hok (2, 1) rfl) ?_
  refine word_cnt D 2 rfl rfl ?_
  refine assume_step (by intro _; exact src_inb D hok (2, 2) rfl) ?_
  refine send_step D κ (2, 2) 8 9 3 rfl rfl (by unfold k0_cond20; exact cond_send D c (2, 2) rfl rfl) (Fin.ext k0_dev17_eq)
    (snd_sem (2, 2) rfl) (rcv_sem (c, 2) (k0_off28_eq c)) (k0_off29_eq c) (src_off D hok (2, 2) rfl) ?_
  refine word_off D 3 rfl rfl ?_
  refine assume_step (by intro _; exact own_inb D hok 3) ?_
  refine own_step D κ 3 3 4 9 rfl rfl (by unfold k0_cond21; exact cond_own c 3) rfl rfl rfl ?_
  refine word_cnt D 3 rfl rfl ?_
  refine assume_step (by intro _; exact src_inb D hok (3, 0) rfl) ?_
  refine send_step D κ (3, 0) 9 10 4 rfl rfl (by unfold k0_cond22; exact cond_send D c (3, 0) rfl rfl) (Fin.ext k0_dev18_eq)
    (snd_sem (3, 0) rfl) (rcv_sem (c, 0) (k0_off32_eq c)) (k0_off33_eq c) (src_off D hok (3, 0) rfl) ?_
  refine word_cnt D 3 rfl rfl ?_
  refine assume_step (by intro _; exact src_inb D hok (3, 1) rfl) ?_
  refine send_step D κ (3, 1) 10 11 4 rfl rfl (by unfold k0_cond23; exact cond_send D c (3, 1) rfl rfl) (Fin.ext k0_dev19_eq)
    (snd_sem (3, 1) rfl) (rcv_sem (c, 1) (k0_off35_eq c)) (k0_off36_eq c) (src_off D hok (3, 1) rfl) ?_
  refine word_cnt D 3 rfl rfl ?_
  refine assume_step (by intro _; exact src_inb D hok (3, 2) rfl) ?_
  refine send_step D κ (3, 2) 11 12 4 rfl rfl (by unfold k0_cond24; exact cond_send D c (3, 2) rfl rfl) (Fin.ext k0_dev20_eq)
    (snd_sem (3, 2) rfl) (rcv_sem (c, 2) (k0_off38_eq c)) (k0_off39_eq c) (src_off D hok (3, 2) rfl) ?_
  refine word_off (h1 := numel1_S1) (hp := rfl) D 4 rfl rfl ?_
  exact pure_step h

theorem part5_step (hok : D.Ok) {R : sProp 𝕄} {Q : β → sProp 𝕄} {K : (Σ' (v138 : Elt F .i32) (v143 : Elt F .i32) (k0_hw22 : k0_chk22 c v138 v143), BitVec 1) → Prog (TpuEff nD τ sig (Elt F) Λ₀ .tc) β}
    (h : ∀ hw, Send D κ c 6 15 R ⊢ run c (K ⟨D.off c 5, D.cnt c 5, hw, (Scalar.andi (Scalar.cmpi .ne (me c) 5#32) (Scalar.cmpi .sgt (D.cnt c 5) 0#32))⟩) Q) (h0 h1 h2 h3 h4) :
    Send D κ c 4 12 R ⊢ run c (k0_part5 (F := F) aOff h0 aSnt h1 aGot h2 aSrc h3 aOut h4 cc0_scratch0 cc0_scratch1 c (me c) (D.off c 4) >>= K) Q := by
  refine bind_step ?_
  rw [k0_part5_eq_skeleton]; unfold k0_part5_skel
  refine assume_step (by intro _; exact own_inb D hok 4) ?_
  refine own_step D κ 4 4 5 12 rfl rfl (by unfold k0_cond25; exact cond_own c 4) rfl rfl rfl ?_
  refine word_cnt D 4 rfl rfl ?_
  refine assume_step (by intro _; exact src_inb D hok (4, 0) rfl) ?_
  refine send_step D κ (4, 0) 12 13 5 rfl rfl (by unfold k0_cond26; exact cond_send D c (4, 0) rfl rfl) (Fin.ext k0_dev21_eq)
    (snd_sem (4, 0) rfl) (rcv_sem (c, 0) (k0_off42_eq c)) (k0_off43_eq c) (src_off D hok (4, 0) rfl) ?_
  refine word_cnt D 4 rfl rfl ?_
  refine assume_step (by intro _; exact src_inb D hok (4, 1) rfl) ?_
  refine send_step D κ (4, 1) 13 14 5 rfl rfl (by unfold k0_cond27; exact cond_send D c (4, 1) rfl rfl) (Fin.ext k0_dev22_eq)
    (snd_sem (4, 1) rfl) (rcv_sem (c, 1) (k0_off45_eq c)) (k0_off46_eq c) (src_off D hok (4, 1) rfl) ?_
  refine word_cnt D 4 rfl rfl ?_
  refine assume_step (by intro _; exact src_inb D hok (4, 2) rfl) ?_
  refine send_step D κ (4, 2) 14 15 5 rfl rfl (by unfold k0_cond28; exact cond_send D c (4, 2) rfl rfl) (Fin.ext k0_dev23_eq)
    (snd_sem (4, 2) rfl) (rcv_sem (c, 2) (k0_off48_eq c)) (k0_off49_eq c) (src_off D hok (4, 2) rfl) ?_
  refine word_off D 5 rfl rfl ?_
  refine assume_step (by intro _; exact own_inb D hok 5) ?_
  refine own_step D κ 5 5 6 15 rfl rfl (by unfold k0_cond29; exact cond_own c 5) rfl rfl rfl ?_
  refine word_cnt D 5 rfl rfl ?_
  refine assume_step (by intro _; exact src_inb D hok (5, 0) rfl) ?_
  exact pure_step (h _)

theorem part6_step (hok : D.Ok) {R : sProp 𝕄} {Q : β → sProp 𝕄} {K : (Σ' (v160 : Elt F .i32) (v171 : Elt F .i32), k0_chk27 c v160 v171) → Prog (TpuEff nD τ sig (Elt F) Λ₀ .tc) β} (hw0 : k0_chk22 c (D.off c 5) (D.cnt c 5))
    (h : ∀ hw, Send D κ c 7 19 R ⊢ run c (K ⟨D.off c 6, D.cnt c 6, hw⟩) Q) (h0 h1 h2 h3 h4) :
    Send D κ c 6 15 R ⊢ run c (k0_part6 (F := F) aOff h0 aSnt h1 aGot h2 aSrc h3 aOut h4 cc0_scratch0 cc0_scratch1 c (me c) (D.off c 5) (D.cnt c 5) hw0 (Scalar.andi (Scalar.cmpi .ne (me c) 5#32) (Scalar.cmpi .sgt (D.cnt c 5) 0#32)) >>= K) Q := by
  refine bind_step ?_
  rw [k0_part6_eq_skeleton]; unfold k0_part6_skel
  refine send_step D κ (5, 0) 15 16 6 rfl rfl (by unfold k0_cond30; exact cond_send D c (5, 0) rfl rfl) (Fin.ext k0_dev24_eq)
    (snd_sem (5, 0) rfl) (rcv_sem (c, 0) (k0_off52_eq c)) (k0_off53_eq c) (src_off D hok (5, 0) rfl) ?_
  refine word_cnt D 5 rfl rfl ?_
  refine assume_step (by intro _; exact src_inb D hok (5, 1) rfl) ?_
  refine send_step D κ (5, 1) 16 17 6 rfl rfl (by unfold k0_cond31; exact cond_send D c (5, 1) rfl rfl) (Fin.ext k0_dev25_eq)
    (snd_sem (5, 1) rfl) (rcv_sem (c, 1) (k0_off55_eq c)) (k0_off56_eq c) (src_off D hok (5, 1) rfl) ?_
  refine word_cnt D 5 rfl rfl ?_
  refine assume_step (by intro _; exact src_inb D hok (5, 2) rfl) ?_
  refine send_step D κ (5, 2) 17 18 6 rfl rfl (by unfold k0_cond32; exact cond_send D c (5, 2) rfl rfl) (Fin.ext k0_dev26_eq)
    (snd_sem (5, 2) rfl) (rcv_sem (c, 2) (k0_off58_eq c)) (k0_off59_eq c) (src_off D hok (5, 2) rfl) ?_
  refine word_off D 6 rfl rfl ?_
  refine assume_step (by intro _; exact own_inb D hok 6) ?_
  refine own_step D κ 6 6 7 18 rfl rfl (by unfold k0_cond33; exact cond_own c 6) rfl rfl rfl ?_
  refine word_cnt D 6 rfl rfl ?_
  refine assume_step (by intro _; exact src_inb D hok (6, 0) rfl) ?_
  refine send_step D κ (6, 0) 18 19 7 rfl rfl (by unfold k0_cond34; exact cond_send D c (6, 0) rfl rfl) (Fin.ext k0_dev27_eq)
    (snd_sem (6, 0) rfl) (rcv_sem (c, 0) (k0_off62_eq c)) (k0_off63_eq c) (src_off D hok (6, 0) rfl) ?_
  refine word_cnt D 6 rfl rfl ?_
  refine assume_step (by intro _; exact src_inb D hok (6, 1) rfl) ?_
  exact pure_step (h _)

theorem part7_step (hok : D.Ok) {R : sProp 𝕄} {Q : β → sProp 𝕄} {K : (BitVec 1) → Prog (TpuEff nD τ sig (Elt F) Λ₀ .tc) β} (hw0 : k0_chk27 c (D.off c 6) (D.cnt c 6))
    (h : Send D κ c 8 24 R ⊢ run c (K (Scalar.cmpi .ne (me c) 0#32)) Q) (h0 h1 h2 h3 h4) :
    Send D κ c 7 19 R ⊢ run c (k0_part7 (F := F) aOff h0 aSnt h1 aGot h2 aSrc h3 aOut h4 cc0_scratch0 cc0_scratch1 c (me c) (D.off c 6) (D.cnt c 6) hw0 >>= K) Q := by
  refine bind_step ?_
  rw [k0_part7_eq_skeleton]; unfold k0_part7_skel
  refine send_step D κ (6, 1) 19 20 7 rfl rfl (by unfold k0_cond35; exact cond_send D c (6, 1) rfl rfl) (Fin.ext k0_dev28_eq)
    (snd_sem (6, 1) rfl) (rcv_sem (c, 1) (k0_off65_eq c)) (k0_off66_eq c) (src_off D hok (6, 1) rfl) ?_
  refine word_cnt D 6 rfl rfl ?_
  refine assume_step (by intro _; exact src_inb D hok (6, 2) rfl) ?_
  refine send_step D κ (6, 2) 20 21 7 rfl rfl (by unfold k0_cond36; exact cond_send D c (6, 2) rfl rfl) (Fin.ext k0_dev29_eq)
    (snd_sem (6, 2) rfl) (rcv_sem (c, 2) (k0_off68_eq c)) (k0_off69_eq c) (src_off D hok (6, 2) rfl) ?_
  refine word_off D 7 rfl rfl ?_
  refine assume_step (by intro _; exact own_inb D hok 7) ?_
  refine own_step D κ 7 7 8 21 rfl rfl (by unfold k0_cond37; exact cond_own c 7) rfl rfl rfl ?_
  refine word_cnt D 7 rfl rfl ?_
  refine assume_step (by intro _; exact src_inb D hok (7, 0) rfl) ?_
  refine send_step D κ (7, 0) 21 22 8 rfl rfl (by unfold k0_cond38; exact cond_send D c (7, 0) rfl rfl) (Fin.ext k0_dev30_eq)
    (snd_sem (7, 0) rfl) (rcv_sem (c, 0) (k0_off72_eq c)) (k0_off73_eq c) (src_off D hok (7, 0) rfl) ?_
  refine word_cnt D 7 rfl rfl ?_
  refine assume_step (by intro _; exact src_inb D hok (7, 1) rfl) ?_
  refine send_step D κ (7, 1) 22 23 8 rfl rfl (by unfold k0_cond39; exact cond_send D c (7, 1) rfl rfl) (Fin.ext k0_dev31_eq)
    (snd_sem (7, 1) rfl) (rcv_sem (c, 1) (k0_off75_eq c)) (k0_off76_eq c) (src_off D hok (7, 1) rfl) ?_
  refine word_cnt D 7 rfl rfl ?_
  refine assume_step (by intro _; exact src_inb D hok (7, 2) rfl) ?_
  refine send_step D κ (7, 2) 23 24 8 rfl rfl (by unfold k0_cond40; exact cond_send D c (7, 2) rfl rfl) (Fin.ext k0_dev32_eq)
    (snd_sem (7, 2) rfl) (rcv_sem (c, 2) (k0_off78_eq c)) (k0_off79_eq c) (src_off D hok (7, 2) rfl) ?_
  exact pure_step h

theorem part8_step {R : sProp 𝕄} {Q : β → sProp 𝕄} {K : (BitVec 1) → Prog (TpuEff nD τ sig (Elt F) Λ₀ .tc) β}
    (h : Recv D κ c 5 R ⊢ run c (K (Scalar.andi (Scalar.cmpi .ne (me c) 1#32) (Scalar.cmpi .sgt (D.cnt 1 c) 256#32))) Q) (h0 h1 h2 h3 h4) :
    Recv D κ c 0 R ⊢ run c (k0_part8 (F := F) aOff h0 aSnt h1 aGot h2 aSrc h3 aOut h4 cc0_scratch0 cc0_scratch1 (me c) (Scalar.cmpi .ne (me c) 0#32) >>= K) Q := by
  refine bind_step ?_
  rw [k0_part8_eq_skeleton]; unfold k0_part8_skel
  refine word_got D 0 rfl rfl ?_
  refine recv_step D κ (0, 0) 0 1 rfl rfl (cond_recv D c (0, 0) rfl rfl) (rcv_sem (0, 0) rfl) rfl ?_
  refine word_got D 0 rfl rfl ?_
  refine recv_step D κ (0, 1) 1 2 rfl rfl (cond_recv D c (0, 1) rfl rfl) (rcv_sem (0, 1) rfl) rfl ?_
  refine word_got D 0 rfl rfl ?_
  refine recv_step D κ (0, 2) 2 3 rfl rfl (cond_recv D c (0, 2) rfl rfl) (rcv_sem (0, 2) rfl) rfl ?_
  refine word_got D 1 rfl rfl ?_
  refine recv_step D κ (1, 0) 3 4 rfl rfl (cond_recv D c (1, 0) rfl rfl) (rcv_sem (1, 0) rfl) rfl ?_
  refine word_got D 1 rfl rfl ?_
  refine recv_step D κ (1, 1) 4 5 rfl rfl (cond_recv D c (1, 1) rfl rfl) (rcv_sem (1, 1) rfl) rfl ?_
  refine word_got D 1 rfl rfl ?_
  exact pure_step h

theorem part9_step {R : sProp 𝕄} {Q : β → sProp 𝕄} {K : (BitVec 32) → Prog (TpuEff nD τ sig (Elt F) Λ₀ .tc) β}
    (h : Recv D κ c 11 R ⊢ run c (K (3#32)) Q) (h0 h1 h2 h3 h4) :
    Recv D κ c 5 R ⊢ run c (k0_part9 (F := F) aOff h0 aSnt h1 aGot h2 aSrc h3 aOut h4 cc0_scratch0 cc0_scratch1 (me c) (Scalar.andi (Scalar.cmpi .ne (me c) 1#32) (Scalar.cmpi .sgt (D.cnt 1 c) 256#32)) >>= K) Q := by
  refine bind_step ?_
  rw [k0_part9_eq_skeleton]; unfold k0_part9_skel
  refine recv_step D κ (1, 2) 5 6 rfl rfl (cond_recv D c (1, 2) rfl rfl) (rcv_sem (1, 2) rfl) rfl ?_
  refine word_got D 2 rfl rfl ?_
  refine recv_step D κ (2, 0) 6 7 rfl rfl (cond_recv D c (2, 0) rfl rfl) (rcv_sem (2, 0) rfl) rfl ?_
  refine word_got D 2 rfl rfl ?_
  refine recv_step D κ (2, 1) 7 8 rfl rfl (cond_recv D c (2, 1) rfl rfl) (rcv_sem (2, 1) rfl) rfl ?_
  refine word_got D 2 rfl rfl ?_
  refine recv_step D κ (2, 2) 8 9 rfl rfl (cond_recv D c (2, 2) rfl rfl) (rcv_sem (2, 2) rfl) rfl ?_
  refine word_got D 3 rfl rfl ?_
  refine recv_step D κ (3, 0) 9 10 rfl rfl (cond_recv D c (3, 0) rfl rfl) (rcv_sem (3, 0) rfl) rfl ?_
  refine word_got D 3 rfl rfl ?_
  refine recv_step D κ (3, 1) 10 11 rfl rfl (cond_recv D c (3, 1) rfl rfl) (rcv_sem (3, 1) rfl) rfl ?_
  exact pure_step h

theorem part10_step {R : sProp 𝕄} {Q : β → sProp 𝕄} {K : (Σ' (_ : BitVec 1), BitVec 1) → Prog (TpuEff nD τ sig (Elt F) Λ₀ .tc) β}
    (h : Recv D κ c 16 R ⊢ run c (K ⟨(Scalar.cmpi .ne (me c) 5#32), (Scalar.cmpi .sgt (D.cnt 5 c) 128#32)⟩) Q) (h0 h1 h2 h3 h4) :
    Recv D κ c 11 R ⊢ run c (k0_part10 (F := F) aOff h0 aSnt h1 aGot h2 aSrc h3 aOut h4 cc0_scratch0 cc0_scratch1 (me c) (3#32) >>= K) Q := by
  refine bind_step ?_
  rw [k0_part10_eq_skeleton]; unfold k0_part10_skel
  refine word_got D 3 rfl rfl ?_
  refine recv_step D κ (3, 2) 11 12 rfl rfl (cond_recv D c (3, 2) rfl rfl) (rcv_sem (3, 2) rfl) rfl ?_
  refine word_got D 4 rfl rfl ?_
  refine recv_step D κ (4, 0) 12 13 rfl rfl (cond_recv D c (4, 0) rfl rfl) (rcv_sem (4, 0) rfl) rfl ?_
  refine word_got D 4 rfl rfl ?_
  refine recv_step D κ (4, 1) 13 14 rfl rfl (cond_recv D c (4, 1) rfl rfl) (rcv_sem (4, 1) rfl) rfl ?_
  refine word_got D 4 rfl rfl ?_
  refine recv_step D κ (4, 2) 14 15 rfl rfl (cond_recv D c (4, 2) rfl rfl) (rcv_sem (4, 2) rfl) rfl ?_
  refine word_got D 5 rfl rfl ?_
  refine recv_step D κ (5, 0) 15 16 rfl rfl (cond_recv D c (5, 0) rfl rfl) (rcv_sem (5, 0) rfl) rfl ?_
  refine word_got D 5 rfl rfl ?_
  exact pure_step h

theorem part11_step {R : sProp 𝕄} {Q : β → sProp 𝕄} {K : (PUnit) → Prog (TpuEff nD τ sig (Elt F) Λ₀ .tc) β}
    (h : Recv D κ c 22 R ⊢ run c (K ⟨⟩) Q) (h0 h1 h2 h3 h4) :
    Recv D κ c 16 R ⊢ run c (k0_part11 (F := F) aOff h0 aSnt h1 aGot h2 aSrc h3 aOut h4 cc0_scratch0 cc0_scratch1 (me c) (Scalar.cmpi .ne (me c) 5#32) (Scalar.cmpi .sgt (D.cnt 5 c) 128#32) >>= K) Q := by
  refine bind_step ?_
  rw [k0_part11_eq_skeleton]; unfold k0_part11_skel
  refine recv_step D κ (5, 1) 16 17 rfl rfl (cond_recv D c (5, 1) rfl rfl) (rcv_sem (5, 1) rfl) rfl ?_
  refine word_got D 5 rfl rfl ?_
  refine recv_step D κ (5, 2) 17 18 rfl rfl (cond_recv D c (5, 2) rfl rfl) (rcv_sem (5, 2) rfl) rfl ?_
  refine word_got D 6 rfl rfl ?_
  refine recv_step D κ (6, 0) 18 19 rfl rfl (cond_recv D c (6, 0) rfl rfl) (rcv_sem (6, 0) rfl) rfl ?_
  refine word_got D 6 rfl rfl ?_
  refine recv_step D κ (6, 1) 19 20 rfl rfl (cond_recv D c (6, 1) rfl rfl) (rcv_sem (6, 1) rfl) rfl ?_
  refine word_got D 6 rfl rfl ?_
  refine recv_step D κ (6, 2) 20 21 rfl rfl (cond_recv D c (6, 2) rfl rfl) (rcv_sem (6, 2) rfl) rfl ?_
  refine word_got D 7 rfl rfl ?_
  refine recv_step D κ (7, 0) 21 22 rfl rfl (cond_recv D c (7, 0) rfl rfl) (rcv_sem (7, 0) rfl) rfl ?_
  exact pure_step h

theorem part12_step {R : sProp 𝕄} {Q : β → sProp 𝕄} {K : (Σ' (_ : BitVec 1) (_ : Elt F .i32), BitVec 32) → Prog (TpuEff nD τ sig (Elt F) Λ₀ .tc) β}
    (h : Leave D κ c 3 iprop((bigSep Finset.univ fun j : Chunk => come D c j) ∗ R) ⊢ run c (K ⟨(Scalar.cmpi .ne (me c) 1#32), D.cnt c 1, 0#32⟩) Q) (h0 h1 h2 h3 h4) :
    Recv D κ c 22 iprop((bigSep Finset.univ fun j : Chunk => sent D c j) ∗ R) ⊢ run c (k0_part12 (F := F) aOff h0 aSnt h1 aGot h2 aSrc h3 aOut h4 cc0_scratch0 cc0_scratch1 (me c) >>= K) Q := by
  refine bind_step ?_
  rw [k0_part12_eq_skeleton]; unfold k0_part12_skel
  refine word_got D 7 rfl rfl ?_
  refine recv_step D κ (7, 1) 22 23 rfl rfl (cond_recv D c (7, 1) rfl rfl) (rcv_sem (7, 1) rfl) rfl ?_
  refine word_got D 7 rfl rfl ?_
  refine recv_step D κ (7, 2) 23 24 rfl rfl (cond_recv D c (7, 2) rfl rfl) (rcv_sem (7, 2) rfl) rfl ?_
  refine (leave_start D κ).trans ?_
  refine word_cnt D 0 rfl rfl ?_
  refine leave_step D κ (0, 0) 0 1 rfl rfl (cond_send D c (0, 0) rfl rfl) (snd_sem (0, 0) rfl) rfl ?_
  refine word_cnt D 0 rfl rfl ?_
  refine leave_step D κ (0, 1) 1 2 rfl rfl (cond_send D c (0, 1) rfl rfl) (snd_sem (0, 1) rfl) rfl ?_
  refine word_cnt D 0 rfl rfl ?_
  refine leave_step D κ (0, 2) 2 3 rfl rfl (cond_send D c (0, 2) rfl rfl) (snd_sem (0, 2) rfl) rfl ?_
  refine word_cnt (h1 := numel1_S1) (hp := rfl) D 1 rfl rfl ?_
  exact pure_step h

theorem part13_step {R : sProp 𝕄} {Q : β → sProp 𝕄} {K : (BitVec 1) → Prog (TpuEff nD τ sig (Elt F) Λ₀ .tc) β}
    (h : Leave D κ c 8 R ⊢ run c (K (Scalar.cmpi .ne (Scalar.extui (Scalar.andi (Scalar.cmpi .ne (me c) 2#32) (Scalar.cmpi .sgt (D.cnt c 2) 256#32)) : BitVec 32) 0#32)) Q) (h0 h1 h2 h3 h4) :
    Leave D κ c 3 R ⊢ run c (k0_part13 (F := F) aOff h0 aSnt h1 aGot h2 aSrc h3 aOut h4 cc0_scratch0 cc0_scratch1 (me c) (Scalar.cmpi .ne (me c) 1#32) (D.cnt c 1) (0#32) >>= K) Q := by
  refine bind_step ?_
  rw [k0_part13_eq_skeleton]; unfold k0_part13_skel
  refine leave_step D κ (1, 0) 3 4 rfl rfl (cond_send D c (1, 0) rfl rfl) (snd_sem (1, 0) rfl) rfl ?_
  refine word_cnt D 1 rfl rfl ?_
  refine leave_step D κ (1, 1) 4 5 rfl rfl (cond_send D c (1, 1) rfl rfl) (snd_sem (1, 1) rfl) rfl ?_
  refine word_cnt D 1 rfl rfl ?_
  refine leave_step D κ (1, 2) 5 6 rfl rfl (cond_send D c (1, 2) rfl rfl) (snd_sem (1, 2) rfl) rfl ?_
  refine word_cnt D 2 rfl rfl ?_
  refine leave_step D κ (2, 0) 6 7 rfl rfl (cond_send D c (2, 0) rfl rfl) (snd_sem (2, 0) rfl) rfl ?_
  refine word_cnt D 2 rfl rfl ?_
  refine leave_step D κ (2, 1) 7 8 rfl rfl (cond_send D c (2, 1) rfl rfl) (snd_sem (2, 1) rfl) rfl ?_
  refine word_cnt (h1 := numel1_S1) (hp := rfl) D 2 rfl rfl ?_
  exact pure_step h

theorem part14_step {R : sProp 𝕄} {Q : β → sProp 𝕄} {K : (Σ' (_ : BitVec 1), Elt F .i32) → Prog (TpuEff nD τ sig (Elt F) Λ₀ .tc) β}
    (h : Leave D κ c 14 R ⊢ run c (K ⟨(Scalar.cmpi .ne (me c) 4#32), D.cnt c 4⟩) Q) (h0 h1 h2 h3 h4) :
    Leave D κ c 8 R ⊢ run c (k0_part14 (F := F) aOff h0 aSnt h1 aGot h2 aSrc h3 aOut h4 cc0_scratch0 cc0_scratch1 (me c) (Scalar.cmpi .ne (Scalar.extui (Scalar.andi (Scalar.cmpi .ne (me c) 2#32) (Scalar.cmpi .sgt (D.cnt c 2) 256#32)) : BitVec 32) 0#32) >>= K) Q := by
  refine bind_step ?_
  rw [k0_part14_eq_skeleton]; unfold k0_part14_skel
  refine leave_step D κ (2, 2) 8 9 rfl rfl (cond_send D c (2, 2) rfl rfl) (snd_sem (2, 2) rfl) rfl ?_
  refine word_cnt D 3 rfl rfl ?_
  refine leave_step D κ (3, 0) 9 10 rfl rfl (cond_send D c (3, 0) rfl rfl) (snd_sem (3, 0) rfl) rfl ?_
  refine word_cnt D 3 rfl rfl ?_
  refine leave_step D κ (3, 1) 10 11 rfl rfl (cond_send D c (3, 1) rfl rfl) (snd_sem (3, 1) rfl) rfl ?_
  refine word_cnt D 3 rfl rfl ?_
  refine leave_step D κ (3, 2) 11 12 rfl rfl (cond_send D c (3, 2) rfl rfl) (snd_sem (3, 2) rfl) rfl ?_
  refine word_cnt D 4 rfl rfl ?_
  refine leave_step D κ (4, 0) 12 13 rfl rfl (cond_send D c (4, 0) rfl rfl) (snd_sem (4, 0) rfl) rfl ?_
  refine word_cnt D 4 rfl rfl ?_
  refine leave_step D κ (4, 1) 13 14 rfl rfl (cond_send D c (4, 1) rfl rfl) (snd_sem (4, 1) rfl) rfl ?_
  refine word_cnt (h1 := numel1_S1) (hp := rfl) D 4 rfl rfl ?_
  exact pure_step h

theorem part15_step {R : sProp 𝕄} {Q : β → sProp 𝕄} {K : (Σ' (_ : BitVec 32), BitVec 32) → Prog (TpuEff nD τ sig (Elt F) Λ₀ .tc) β}
    (h : Leave D κ c 19 R ⊢ run c (K ⟨Scalar.extui (Scalar.andi (Scalar.cmpi .ne (me c) 6#32) (Scalar.cmpi .sgt (D.cnt c 6) 128#32)), 0#32⟩) Q) (h0 h1 h2 h3 h4) :
    Leave D κ c 14 R ⊢ run c (k0_part15 (F := F) aOff h0 aSnt h1 aGot h2 aSrc h3 aOut h4 cc0_scratch0 cc0_scratch1 (me c) (Scalar.cmpi .ne (me c) 4#32) (D.cnt c 4) >>= K) Q := by
  refine bind_step ?_
  rw [k0_part15_eq_skeleton]; unfold k0_part15_skel
  refine leave_step D κ (4, 2) 14 15 rfl rfl (cond_send D c (4, 2) rfl rfl) (snd_sem (4, 2) rfl) rfl ?_
  refine word_cnt D 5 rfl rfl ?_
  refine leave_step D κ (5, 0) 15 16 rfl rfl (cond_send D c (5, 0) rfl rfl) (snd_sem (5, 0) rfl) rfl ?_
  refine word_cnt D 5 rfl rfl ?_
  refine leave_step D κ (5, 1) 16 17 rfl rfl (cond_send D c (5, 1) rfl rfl) (snd_sem (5, 1) rfl) rfl ?_
  refine word_cnt D 5 rfl rfl ?_
  refine leave_step D κ (5, 2) 17 18 rfl rfl (cond_send D c (5, 2) rfl rfl) (snd_sem (5, 2) rfl) rfl ?_
  refine word_cnt D 6 rfl rfl ?_
  refine leave_step D κ (6, 0) 18 19 rfl rfl (cond_send D c (6, 0) rfl rfl) (snd_sem (6, 0) rfl) rfl ?_
  refine word_cnt (h1 := numel1_S1) (hp := rfl) D 6 rfl rfl ?_
  exact pure_step h

theorem send_mono {n q : ℕ} {R R' : sProp 𝕄} (h : R ⊢ R') : Send D κ c n q R ⊢ Send D κ c n q R' := by
  unfold Send
  iintro ⟨H1, H2, H3, H4, H5, HR⟩
  isplitl [H1]; · iexact H1
  isplitl [H2]; · iexact H2
  isplitl [H3]; · iexact H3
  isplitl [H4]; · iexact H4
  isplitl [H5]; · iexact H5
  iapply h; iexact HR

/-- The parts in order: from a device's entry to its last wait but one. -/
theorem part16_step (hok : D.Ok) {R : sProp 𝕄} {Q : β → sProp 𝕄} {K : BitVec 1 → Prog (TpuEff nD τ sig (Elt F) Λ₀ .tc) β}
    (h : Leave D κ c 23 iprop((bigSep Finset.univ fun j : Chunk => come D c j) ∗ ownBlk D c 8 ∗ atPos ER (barCell c) 1 ∅ 0 ∗ R)
      ⊢ run c (K (Scalar.cmpi .ne (Scalar.extui (Scalar.andi (Scalar.cmpi .ne (me c) 7#32) (Scalar.cmpi .sgt (D.cnt c 7) 256#32)) : BitVec 32) 0#32)) Q)
    (h0 h1 h2 h3 h4) :
    Enter D κ c 0 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ (bigSep Finset.univ fun j : Chunk => coming D c j) ∗ R)
      ⊢ run c (k0_part16 (F := F) aOff h0 aSnt h1 aGot h2 aSrc h3 aOut h4 cc0_scratch0 cc0_scratch1 >>= K) Q := by
  refine bind_step ?_
  rw [k0_part16_eq_skeleton]; unfold k0_part16_skel
  refine part1_step D κ ?_ h0 h1 h2 h3 h4
  refine part2_step D κ hok (fun hw => ?_) h0 h1 h2 h3 h4
  refine part3_step D κ hok hw (fun hw => ?_) h0 h1 h2 h3 h4
  refine part4_step D κ hok hw ?_ h0 h1 h2 h3 h4
  refine part5_step D κ hok (fun hw => ?_) h0 h1 h2 h3 h4
  refine part6_step D κ hok hw (fun hw => ?_) h0 h1 h2 h3 h4
  refine part7_step D κ hok hw ?_ h0 h1 h2 h3 h4
  have hsw : iprop(atPos ER (barCell c) 1 ∅ 0 ∗ (bigSep Finset.univ fun j : Chunk => coming D c j) ∗ R)
      ⊢ iprop((bigSep Finset.univ fun j : Chunk => coming D c j) ∗ atPos ER (barCell c) 1 ∅ 0 ∗ R) := by
    iintro ⟨H1, H2, H3⟩
    isplitl [H2]; · iexact H2
    isplitl [H1]; · iexact H1
    iexact H3
  refine (send_mono D κ hsw).trans ?_
  refine (recv_start D κ).trans ?_
  refine part8_step D κ ?_ h0 h1 h2 h3 h4
  refine part9_step D κ ?_ h0 h1 h2 h3 h4
  refine part10_step D κ ?_ h0 h1 h2 h3 h4
  refine part11_step D κ ?_ h0 h1 h2 h3 h4
  have hsw : Recv D κ c 22 iprop(ownBlk D c 8 ∗ (bigSep Finset.univ fun j : Chunk => sent D c j) ∗ atPos ER (barCell c) 1 ∅ 0 ∗ R)
      ⊢ Recv D κ c 22 iprop((bigSep Finset.univ fun j : Chunk => sent D c j) ∗ ownBlk D c 8 ∗ atPos ER (barCell c) 1 ∅ 0 ∗ R) := by
    unfold Recv
    iintro ⟨H1, H2, H3, H4, H5, H6, H7⟩
    isplitl [H1]; · iexact H1
    isplitl [H2]; · iexact H2
    isplitl [H3]; · iexact H3
    isplitl [H4]; · iexact H4
    isplitl [H6]; · iexact H6
    isplitl [H5]; · iexact H5
    iexact H7
  refine hsw.trans ?_
  refine part12_step D κ ?_ h0 h1 h2 h3 h4
  refine part13_step D κ ?_ h0 h1 h2 h3 h4
  refine part14_step D κ ?_ h0 h1 h2 h3 h4
  refine part15_step D κ ?_ h0 h1 h2 h3 h4
  refine leave_step D κ (6, 1) 19 20 rfl rfl (cond_send D c (6, 1) rfl rfl) (snd_sem (6, 1) rfl) rfl ?_
  refine word_cnt D 6 rfl rfl ?_
  refine leave_step D κ (6, 2) 20 21 rfl rfl (cond_send D c (6, 2) rfl rfl) (snd_sem (6, 2) rfl) rfl ?_
  refine word_cnt D 7 rfl rfl ?_
  refine leave_step D κ (7, 0) 21 22 rfl rfl (cond_send D c (7, 0) rfl rfl) (snd_sem (7, 0) rfl) rfl ?_
  refine word_cnt D 7 rfl rfl ?_
  refine leave_step D κ (7, 1) 22 23 rfl rfl (cond_send D c (7, 1) rfl rfl) (snd_sem (7, 1) rfl) rfl ?_
  refine word_cnt D 7 rfl rfl ?_
  exact pure_step h

/-- The kernel's body, from a device's entry to its end. -/
theorem body_step (hok : D.Ok) {R : sProp 𝕄} {Q : PUnit → sProp 𝕄}
    (h : Leave D κ c 24 iprop((bigSep Finset.univ fun j : Chunk => come D c j) ∗ ownBlk D c 8 ∗ atPos ER (barCell c) 1 ∅ 0 ∗ R)
      ⊢ |={Set.univ}=> Q ⟨⟩)
    (h0 h1 h2 h3 h4) :
    Enter D κ c 0 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ (bigSep Finset.univ fun j : Chunk => coming D c j) ∗ R)
      ⊢ run c (cc0_body (F := F) aOff h0 aSnt h1 aGot h2 aSrc h3 aOut h4 cc0_scratch0 cc0_scratch1) Q := by
  rw [cc0_body_eq_skeleton]; unfold cc0_body_skel
  refine part16_step D κ hok ?_ h0 h1 h2 h3 h4
  refine leave_step D κ (7, 2) 23 24 rfl rfl (cond_send D c (7, 2) rfl rfl) (snd_sem (7, 2) rfl) rfl ?_
  unfold run; rw [wp_pure]; exact h

end Cert.KernelIdeal.Exchange
end
-- ==== Proof.Pieces.lean ====
/-
  How the kernel's two large buffers are taken apart for the exchange, and put together after it.

  The packed rows are held in 32 shares, one for each chunk that may be sent and one for the device's own block. The result is held in
  pieces: the device's own block, and the 128 rows of each chunk that may arrive.
-/
module

public import proofs.«01_k».proof.Proof.Body

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (D : Data F) (c : Dev nD)

theorem src_split (q : PosShare TreeShare) (I : Finset S2432x8x128.Idx) (f : S2432x8x128.Idx → Elt F .f32) :
    srcPts c q Finset.univ f = iprop(srcPts c q I f ∗ srcPts c q (Finset.univ \ I) f) := by
  exact (pointsTo_split_subset (ℓ := (c : Thread nD τ).loc cc0_stg3_0) (q := q) (f := f) (Finset.subset_univ I)).1.antisymm
    (pointsTo_split_subset (ℓ := (c : Thread nD τ).loc cc0_stg3_0) (q := q) (f := f) (Finset.subset_univ I)).2

theorem out_split (I : Finset S8x384x8x128.Idx) (f : S8x384x8x128.Idx → Elt F .f32) :
    outPts c Finset.univ f = iprop(outPts c I f ∗ outPts c (Finset.univ \ I) f) := by
  exact (pointsTo_split_subset (ℓ := (c : Thread nD τ).loc cc0_stg4_0) (q := fullShare) (f := f) (Finset.subset_univ I)).1.antisymm
    (pointsTo_split_subset (ℓ := (c : Thread nD τ).loc cc0_stg4_0) (q := fullShare) (f := f) (Finset.subset_univ I)).2

/-! ## The packed rows -/

def chunkEmb : Chunk ↪ Fin 32 := ⟨chunkLeaf, fun i j h => rank_inj (congrArg Fin.val h)⟩

/-- The shares of the packed rows that neither a chunk nor the own block takes. -/
def spare : Finset (Fin 32) := (Finset.univ \ Finset.univ.map chunkEmb).erase 31

theorem src_leaves (f : S2432x8x128.Idx → Elt F .f32) :
    srcPts c fullShare Finset.univ f
      = iprop((bigSep Finset.univ fun j : Chunk => srcPts c (leafOf (chunkLeaf j)) Finset.univ f)
        ∗ srcPts c (leafOf 31) Finset.univ f ∗ bigSep spare fun n => srcPts c (leafOf n) Finset.univ f) := by
  have h31 : (31 : Fin 32) ∈ Finset.univ \ Finset.univ.map chunkEmb := by
    rw [Finset.mem_sdiff]
    refine ⟨Finset.mem_univ _, fun h => ?_⟩
    obtain ⟨j, -, hj⟩ := Finset.mem_map.mp h
    have h1 := rank_lt j
    have h2 : rank j = 31 := congrArg Fin.val hj
    omega
  have e : srcPts c fullShare Finset.univ f = bigSep Finset.univ fun n : Fin 32 => srcPts c (leafOf n) Finset.univ f :=
    ShareLeaves.pointsTo_leaves (ℓ := (c : Thread nD τ).loc cc0_stg3_0) Finset.univ f 5 fullShare
  rw [e, bigSep_sdiff_split (Finset.subset_univ (Finset.univ.map chunkEmb)), bigSep_erase h31, bigSep_map]
  rfl

/-- What is left of chunk `j`'s share of the packed rows while the chunk is away. -/
def srcRest (j : Chunk) : sProp 𝕄 :=
  if sends D c j then srcPts c (leafOf (chunkLeaf j)) (Finset.univ \ srcSet (row D c j)) (D.x c)
    else srcPts c (leafOf (chunkLeaf j)) Finset.univ (D.x c)

theorem src_chunk (j : Chunk) :
    srcPts c (leafOf (chunkLeaf j)) Finset.univ (D.x c) = iprop(whenP (sends D c j) (sndPay D c j) ∗ srcRest D c j) := by
  unfold srcRest sndPay
  by_cases h : sends D c j
  · rw [whenP_pos h, if_pos h]
    exact src_split c _ _ _
  · rw [whenP_neg h, if_neg h]
    exact (equiv_iff.mp emp_sep).symm

/-- The packed rows, taken apart. -/
theorem src_apart :
    srcPts c fullShare Finset.univ (D.x c)
      = iprop((bigSep Finset.univ fun j : Chunk => whenP (sends D c j) (sndPay D c j)) ∗ srcPts c (leafOf 31) Finset.univ (D.x c)
        ∗ (bigSep Finset.univ fun j : Chunk => srcRest D c j) ∗ bigSep spare fun n => srcPts c (leafOf n) Finset.univ (D.x c)) := by
  have e : (bigSep Finset.univ fun j : Chunk => srcPts c (leafOf (chunkLeaf j)) Finset.univ (D.x c))
      = iprop((bigSep Finset.univ fun j : Chunk => whenP (sends D c j) (sndPay D c j)) ∗ bigSep Finset.univ fun j : Chunk => srcRest D c j) := by
    rw [← bigSep_sep']; exact bigSep_congr fun j _ => src_chunk D c j
  rw [src_leaves, e]
  have regroup (A B C E : sProp 𝕄) : iprop((A ∗ B) ∗ C ∗ E) ⊢ iprop(A ∗ C ∗ B ∗ E) := by
    iintro ⟨⟨H1, H2⟩, H3, H4⟩
    isplitl [H1]; · iexact H1
    isplitl [H3]; · iexact H3
    isplitl [H2] <;> iassumption
  have back (A B C E : sProp 𝕄) : iprop(A ∗ C ∗ B ∗ E) ⊢ iprop((A ∗ B) ∗ C ∗ E) := by
    iintro ⟨H1, H3, H2, H4⟩
    isplitl [H1 H2]; · isplitl [H1] <;> iassumption
    isplitl [H3] <;> iassumption
  exact (regroup _ _ _ _).antisymm (back _ _ _ _)

/-! ## The result -/

/-- The rows of chunk `j` in device `c`'s result, the device's own block apart. -/
def piece (j : Chunk) : Finset S8x384x8x128.Idx := if j.1 = c then ∅ else outSet j

theorem piece_ne {j : Chunk} (h : j.1 ≠ c) : piece c j = outSet j := if_neg h

theorem mem_piece (j : Chunk) (i : S8x384x8x128.Idx) :
    i ∈ piece c j ↔ j.1 ≠ c ∧ (i 0).val = j.1.val ∧ 128 * j.2.val ≤ (i 1).val ∧ (i 1).val < 128 * j.2.val + 128 := by
  unfold piece
  split
  · exact ⟨fun h => absurd h (Finset.notMem_empty _), fun h => absurd (by assumption) h.1⟩
  · exact ⟨fun h => ⟨by assumption, (Finset.mem_filter.mp h).2⟩, fun h => Finset.mem_filter.mpr ⟨Finset.mem_univ _, h.2⟩⟩

theorem mem_ownSet (i : S8x384x8x128.Idx) : i ∈ ownSet c ↔ (i 0).val = c.val :=
  ⟨fun h => (Finset.mem_filter.mp h).2, fun h => Finset.mem_filter.mpr ⟨Finset.mem_univ _, h⟩⟩

theorem piece_disjoint (j j' : Chunk) (h : j ≠ j') : Disjoint (piece c j) (piece c j') := by
  rw [Finset.disjoint_left]
  intro i hi hi'
  have h1 := (mem_piece c j i).mp hi
  have h2 := (mem_piece c j' i).mp hi'
  exact h (Prod.ext (Fin.ext (h1.2.1.symm.trans h2.2.1)) (Fin.ext (by omega)))

/-- The chunk a place of the result belongs to. -/
def chunkOf (i : S8x384x8x128.Idx) : Chunk :=
  ((⟨(i 0).val, (i 0).isLt⟩ : Fin 8), ⟨(i 1).val / 128, by have h : (i 1).val < 384 := (i 1).isLt; omega⟩)

theorem mem_piece_chunkOf (i : S8x384x8x128.Idx) (h : (i 0).val ≠ c.val) : i ∈ piece c (chunkOf i) := by
  rw [mem_piece]
  refine ⟨fun e => h (congrArg Fin.val e), rfl, ?_, ?_⟩
  · show 128 * ((i 1).val / 128) ≤ (i 1).val; omega
  · show (i 1).val < 128 * ((i 1).val / 128) + 128; omega

theorem piece_all : Finset.univ \ ownSet c = Finset.univ.biUnion (piece c) := by
  ext i
  rw [Finset.mem_sdiff, Finset.mem_biUnion, mem_ownSet]
  constructor
  · rintro ⟨-, h⟩
    exact ⟨chunkOf i, Finset.mem_univ _, mem_piece_chunkOf c i h⟩
  · rintro ⟨j, -, h⟩
    have h1 := (mem_piece c j i).mp h
    exact ⟨Finset.mem_univ _, fun e => h1.1 (Fin.ext (h1.2.1.symm.trans e))⟩

theorem out_apart (f : S8x384x8x128.Idx → Elt F .f32) :
    outPts c Finset.univ f = iprop(outPts c (ownSet c) f ∗ bigSep Finset.univ fun j : Chunk => outPts c (piece c j) f) := by
  rw [out_split c (ownSet c), piece_all]
  have e : outPts c (Finset.univ.biUnion (piece c)) f = bigSep Finset.univ fun j : Chunk => outPts c (piece c j) f :=
    pointsTo_biUnion (ℓ := (c : Thread nD τ).loc cc0_stg4_0) Finset.univ (piece c) fun j _ j' _ h => piece_disjoint c j j' h
  rw [e]

/-- What device `c` keeps of its result: where no chunk arrives. -/
def kept (j : Chunk) : sProp 𝕄 := if gets D c j then iprop(emp) else iprop(∃ f, outPts c (piece c j) f)

/-- The place of chunk `j`, given away if it is going to arrive. -/
theorem piece_give (j : Chunk) (f : S8x384x8x128.Idx → Elt F .f32) :
    outPts c (piece c j) f ⊢ iprop(whenP (gets D c j) iprop(∃ f, outPts c (outSet j) f) ∗ kept D c j) := by
  unfold kept
  by_cases h : gets D c j
  · rw [whenP_pos h, if_pos h, piece_ne c h.1]
    iintro H; isplitl [H]
    · iexists f; iexact H
    · iempintro
  · rw [whenP_neg h, if_neg h]
    iintro H; isplitr
    · iempintro
    · iexists f; iexact H

/-- What a device's result holds after the exchange: the rows of its own block, and of every chunk that arrived. -/
def Good (X : S8x384x8x128.Idx → Elt F .f32) : Prop :=
  ∀ i, (i 0).val = c.val ∨ gets D c (chunkOf i) → X i = result D c i

/-- The place of a chunk after the exchange. -/
theorem piece_back (j : Chunk) :
    iprop(whenP (gets D c j) (rcvPay D c j) ∗ kept D c j)
      ⊢ iprop(∃ f, ⌜gets D c j → f = result D c⌝ ∗ outPts c (piece c j) f) := by
  unfold kept rcvPay
  by_cases h : gets D c j
  · rw [whenP_pos h, if_pos h, piece_ne c h.1]
    iintro ⟨H, -⟩
    iexists (result D c); isplitr
    · ipureintro; exact fun _ => rfl
    · iexact H
  · rw [whenP_neg h, if_neg h]
    iintro ⟨-, ⟨%f, H⟩⟩
    iexists f; isplitr
    · ipureintro; exact fun h' => absurd h' h
    · iexact H

/-- The pieces after the exchange, each at contents that agree with the exchange's result where the piece's chunk arrived. -/
theorem pieces_back :
    iprop((bigSep Finset.univ fun j : Chunk => whenP (gets D c j) (rcvPay D c j)) ∗ bigSep Finset.univ fun j : Chunk => kept D c j)
      ⊢ iprop(∃ fs : Chunk → S8x384x8x128.Idx → Elt F .f32, ⌜∀ j ∈ (Finset.univ : Finset Chunk), gets D c j → fs j = result D c⌝
          ∗ bigSep Finset.univ fun j : Chunk => outPts c (piece c j) (fs j)) := by
  have h1 : (bigSep Finset.univ fun j : Chunk => iprop(whenP (gets D c j) (rcvPay D c j) ∗ kept D c j))
      ⊢ bigSep Finset.univ fun j : Chunk => iprop(∃ f : S8x384x8x128.Idx → Elt F .f32, ⌜gets D c j → f = result D c⌝ ∗ outPts c (piece c j) f) :=
    bigSep_mono fun j _ => piece_back D c j
  haveI : Nonempty (S8x384x8x128.Idx → Elt F .f32) := ⟨result D c⟩
  have h2 := bigSep_exists_pi (M := 𝕄) (Y := fun _ : Chunk => S8x384x8x128.Idx → Elt F .f32) Finset.univ
    fun j f => iprop(⌜gets D c j → f = result D c⌝ ∗ outPts c (piece c j) f)
  rw [← bigSep_sep']
  refine h1.trans (h2.trans ?_)
  iintro ⟨%fs, H⟩
  iexists fs
  iapply (bigSep_pure_sep (M := 𝕄) Finset.univ (fun j => gets D c j → fs j = result D c) fun j => outPts c (piece c j) (fs j))
  iexact H

/-- The result, put together. -/
theorem pieces_join (fs : Chunk → S8x384x8x128.Idx → Elt F .f32) :
    iprop(outPts c (ownSet c) (result D c) ∗ bigSep Finset.univ fun j : Chunk => outPts c (piece c j) (fs j))
      ⊢ iprop(∃ X : S8x384x8x128.Idx → Elt F .f32, ⌜(∀ i, (i 0).val = c.val → X i = result D c i) ∧ ∀ j, ∀ i ∈ piece c j, X i = fs j i⌝
          ∗ outPts c Finset.univ X) := by
  have h4 : (bigSep Finset.univ fun j : Chunk => outPts c (piece c j) (fs j))
      ⊢ iprop(∃ g : S8x384x8x128.Idx → Elt F .f32, ⌜∀ j ∈ (Finset.univ : Finset Chunk), ∀ i ∈ piece c j, g i = fs j i⌝
          ∗ outPts c (Finset.univ.biUnion (piece c)) g) :=
    pointsTo_biUnion_join (ℓ := (c : Thread nD τ).loc cc0_stg4_0) Finset.univ (piece c) fs (result D c) fun j _ j' _ h => piece_disjoint c j j' h
  have h5 (g X : S8x384x8x128.Idx → Elt F .f32) (hX : ∀ i, X i = if (i 0).val = c.val then result D c i else g i) :
      iprop(outPts c (ownSet c) (result D c) ∗ outPts c (Finset.univ.biUnion (piece c)) g) ⊢ outPts c Finset.univ X := by
    rw [out_split c (ownSet c) X, piece_all]
    have e1 : outPts c (ownSet c) X = outPts c (ownSet c) (result D c) :=
      pointsTo_congr fun i hi => (hX i).trans (if_pos ((mem_ownSet c i).mp hi))
    have e2 : outPts c (Finset.univ.biUnion (piece c)) X = outPts c (Finset.univ.biUnion (piece c)) g :=
      pointsTo_congr fun i hi => (hX i).trans (if_neg fun h => by
        rw [← piece_all, Finset.mem_sdiff] at hi
        exact hi.2 ((mem_ownSet c i).mpr h))
    rw [e1, e2]
  iintro ⟨HO, H⟩
  ihave H := h4 $$ H
  icases H with ⟨%g, %hg, H⟩
  iexists (fun i => if (i 0).val = c.val then result D c i else g i)
  isplitr
  · ipureintro
    refine ⟨fun i hi => if_pos hi, fun j i hi => ?_⟩
    have h1 := (mem_piece c j i).mp hi
    exact (if_neg fun h => h1.1 (Fin.ext (h1.2.1.symm.trans h))).trans (hg j (Finset.mem_univ _) i hi)
  · iapply (h5 g _ fun _ => rfl)
    isplitl [HO] <;> iassumption

theorem out_join :
    iprop(outPts c (ownSet c) (result D c) ∗ (bigSep Finset.univ fun j : Chunk => whenP (gets D c j) (rcvPay D c j))
        ∗ bigSep Finset.univ fun j : Chunk => kept D c j)
      ⊢ iprop(∃ X : S8x384x8x128.Idx → Elt F .f32, ⌜Good D c X⌝ ∗ outPts c Finset.univ X) := by
  iintro ⟨HO, H⟩
  ihave H := (pieces_back D c) $$ H
  icases H with ⟨%fs, %hfs, H⟩
  ihave H := (pieces_join D c fs) $$ [HO H]
  · isplitl [HO] <;> iassumption
  icases H with ⟨%X, %hX, H⟩
  iexists X
  isplitr
  · ipureintro
    intro i hi
    by_cases hne : (i 0).val = c.val
    · exact hX.1 i hne
    · rw [hX.2 (chunkOf i) i (mem_piece_chunkOf c i hne), hfs (chunkOf i) (Finset.mem_univ _) (hi.resolve_left hne)]
  · iexact H

end Cert.KernelIdeal.Exchange
end
-- ==== Proof.Ends.lean ====
/-
  Where the exchange's kernel begins and ends: from what a device holds when the kernel is entered to the state the first statement
  expects, and from the state the last statement leaves to what the device holds afterwards.
-/
module

public import proofs.«01_k».proof.Proof.Pieces

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (D : Data F) (κ : GSem nD τ sig → ℕ) (c : Dev nD)

/-- The semaphores that the kernel names for itself: one for each chunk's departure and one for each chunk's arrival. -/
def osem : Chunk ⊕ Chunk → SemLoc sig
  | .inl j => .dma (sndS j)
  | .inr j => .dma (rcvS j)

/-- The duties that device `c` pays. -/
def duties : sProp 𝕄 :=
  iprop((bigSep Finset.univ fun p : Dev nD => dutyTok ER (barCell p) 0 c)
    ∗ (bigSep Finset.univ fun j : Chunk => dutyTok ER (sndCell c j) 0 c)
    ∗ bigSep Finset.univ fun j : Chunk => dutyTok ER (rcvCell j.1 (c, j.2)) 0 c)

/-- The credits that device `c` waits with. -/
def credits : sProp 𝕄 :=
  iprop(cred (tallyAt (barCell c) ιB 7) ∗ bigSep Finset.univ fun j : Chunk => whenP (gets D c j) (cred (tallyAt (rcvCell c j) ιC N)))

/-- Device `c`'s part of the protocol when it enters the kernel, its cells opened. -/
def opened : sProp 𝕄 :=
  iprop(ctx D κ ∗ atPos ER (barCell c) 0 ∅ 0 ∗ duties c ∗ credits D c
    ∗ (bigSep Finset.univ fun j : Chunk => iprop(atPos ER (sndCell c j) 0 ∅ 0 ∗ reached ER (sndCell c j) 0))
    ∗ bigSep Finset.univ fun j : Chunk => iprop(atPos ER (rcvCell c j) 0 ∅ 0 ∗ reached ER (rcvCell c j) 0))

/-- What the kernel does not touch. -/
def aside : sProp 𝕄 :=
  iprop((bigSep Finset.univ fun j : Chunk => srcRest D c j) ∗ (bigSep spare fun n => srcPts c (leafOf n) Finset.univ (D.x c))
    ∗ bigSep Finset.univ fun j : Chunk => kept D c j)

/-! ## Entering -/

/-- The places of the result, sorted by the device that will write them. -/
theorem give_all :
    iprop((bigSep Finset.univ fun p : Dev nD => dutyTok ER (barCell p) 0 c)
        ∗ (bigSep Finset.univ fun j : Chunk => whenP (gets D c j) iprop(∃ f : S8x384x8x128.Idx → Elt F .f32, outPts c (outSet j) f))
        ∗ bigSep Finset.univ fun j : Chunk => reached ER (rcvCell c j) 0)
      ⊢ bigSep Finset.univ fun p : Dev nD => if p.val < 0 then iprop(emp) else whenP (c ≠ p) iprop(dutyTok ER (barCell p) 0 c ∗ barPay D p c) := by
  have e1 (j : Chunk) : iprop(whenP (gets D c j) iprop(∃ f : S8x384x8x128.Idx → Elt F .f32, outPts c (outSet j) f) ∗ reached ER (rcvCell c j) 0)
      ⊢ whenP (sends D j.1 (c, j.2)) iprop((∃ f : S8x384x8x128.Idx → Elt F .f32, outPts c (outSet (j.1, j.2)) f) ∗ reached ER (rcvCell c (j.1, j.2)) 0) := by
    by_cases h : gets D c j
    · rw [whenP_pos h, whenP_pos h]
    · rw [whenP_neg h, whenP_neg h]
      iintro -; iempintro
  have e2 : iprop((bigSep Finset.univ fun j : Chunk => whenP (gets D c j) iprop(∃ f : S8x384x8x128.Idx → Elt F .f32, outPts c (outSet j) f))
        ∗ bigSep Finset.univ fun j : Chunk => reached ER (rcvCell c j) 0)
      ⊢ bigSep Finset.univ fun p : Dev nD => barPay D p c := by
    rw [← bigSep_sep']
    refine (bigSep_mono fun j _ => e1 j).trans ?_
    rw [bigSep_univ_prod]
    exact BI.Entails.refl _
  refine (sep_mono .rfl e2).trans ?_
  rw [← bigSep_sep']
  refine bigSep_mono fun p _ => ?_
  rw [if_neg (Nat.not_lt_zero _)]
  by_cases h : c ≠ p
  · rw [whenP_pos h]; exact BI.Entails.refl _
  · rw [whenP_neg h]
    have t : iprop(dutyTok ER (barCell p) 0 c ∗ barPay D p c) ⊢ (iprop(emp) : sProp 𝕄) := by iintro -; iempintro
    exact t

theorem ready_all :
    iprop((bigSep Finset.univ fun j : Chunk => iprop(atPos ER (sndCell c j) 0 ∅ 0 ∗ reached ER (sndCell c j) 0))
        ∗ (bigSep Finset.univ fun j : Chunk => dutyTok ER (sndCell c j) 0 c)
        ∗ (bigSep Finset.univ fun j : Chunk => dutyTok ER (rcvCell j.1 (c, j.2)) 0 c)
        ∗ bigSep Finset.univ fun j : Chunk => whenP (sends D c j) (sndPay D c j))
      ⊢ bigSep Finset.univ fun j : Chunk => ready D c j := by
  rw [← bigSep_sep', ← bigSep_sep', ← bigSep_sep']
  refine bigSep_mono fun j _ => ?_
  have e : iprop((atPos ER (sndCell c j) 0 ∅ 0 ∗ reached ER (sndCell c j) 0) ∗ dutyTok ER (sndCell c j) 0 c
        ∗ dutyTok ER (rcvCell j.1 (c, j.2)) 0 c ∗ whenP (sends D c j) (sndPay D c j)) ⊢ ready D c j := by
    unfold ready sndPay
    by_cases h : sends D c j
    · rw [whenP_pos h, whenP_pos h]
      iintro ⟨⟨Ha, Hr⟩, H1, H2, Hs⟩
      isplitl [Ha]; · iexact Ha
      isplitl [H1]; · iexact H1
      isplitl [H2]; · iexact H2
      isplitl [Hr] <;> iassumption
    · rw [whenP_neg h, whenP_neg h]
      iintro ⟨⟨Ha, -⟩, -⟩
      isplitl [Ha]; · iexact Ha
      iempintro
  exact e

theorem coming_all :
    iprop((bigSep Finset.univ fun j : Chunk => atPos ER (rcvCell c j) 0 ∅ 0)
        ∗ bigSep Finset.univ fun j : Chunk => whenP (gets D c j) (cred (tallyAt (rcvCell c j) ιC N)))
      ⊢ bigSep Finset.univ fun j : Chunk => coming D c j := by
  rw [← bigSep_sep']
  exact BI.Entails.refl _

theorem places_all (f : S8x384x8x128.Idx → Elt F .f32) :
    (bigSep Finset.univ fun j : Chunk => outPts c (piece c j) f)
      ⊢ iprop((bigSep Finset.univ fun j : Chunk => whenP (gets D c j) iprop(∃ f : S8x384x8x128.Idx → Elt F .f32, outPts c (outSet j) f)) ∗ bigSep Finset.univ fun j : Chunk => kept D c j) := by
  rw [← bigSep_sep']
  exact bigSep_mono fun j _ => piece_give D c j f

/-- A device enters the kernel. -/
theorem enter (f : S8x384x8x128.Idx → Elt F .f32) :
    iprop(tables D c ∗ srcPts c fullShare Finset.univ (D.x c) ∗ outPts c Finset.univ f ∗ (∃ W, owes (c : Thread nD τ) (due D c) W) ∗ opened D κ c)
      ⊢ Enter D κ c 0 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ (bigSep Finset.univ fun j : Chunk => coming D c j) ∗ aside D c) := by
  have hr : (bigSep Finset.univ fun j : Chunk => iprop(atPos ER (rcvCell c j) 0 ∅ 0 ∗ reached ER (rcvCell c j) 0))
      ⊢ iprop((bigSep Finset.univ fun j : Chunk => atPos ER (rcvCell c j) 0 ∅ 0) ∗ bigSep Finset.univ fun j : Chunk => (reached ER (rcvCell c j) 0 : sProp 𝕄)) := by
    rw [bigSep_sep']
  unfold Enter opened duties credits aside due
  rw [src_apart, out_apart c f]
  iintro ⟨Ht, ⟨Hsnd, H31, Hrest, Hspare⟩, ⟨Hown, Hpieces⟩, HO, Hctx, Hat, ⟨HtB, HtS, HtR⟩, ⟨HcB, HcR⟩, HaS, HaR⟩
  ihave HaR := hr $$ HaR
  icases HaR with ⟨HaR, HrR⟩
  ihave Hpieces := (places_all D c f) $$ Hpieces
  icases Hpieces with ⟨Hgive, Hkept⟩
  isplitl [Ht]; · iexact Ht
  isplitl [Hctx]; · iexact Hctx
  isplitl [HO]; · iexact HO
  isplitl [HtB Hgive HrR]
  · iapply (give_all D c)
    isplitl [HtB]; · iexact HtB
    isplitl [Hgive] <;> iassumption
  isplitl [Hat]; · iexact Hat
  isplitl [HcB]; · iexact HcB
  isplitl [HaS HtS HtR Hsnd]
  · iapply (ready_all D c)
    isplitl [HaS]; · iexact HaS
    isplitl [HtS]; · iexact HtS
    isplitl [HtR] <;> iassumption
  isplitl [H31]; · iexact H31
  isplitl [Hown]; · iexists f; iexact Hown
  isplitl [HaR HcR]
  · iapply (coming_all D c)
    isplitl [HaR] <;> iassumption
  isplitl [Hrest]; · iexact Hrest
  isplitl [Hspare] <;> iassumption

/-! ## Leaving -/

theorem gone_eq (j : Chunk) : gone D c j ⊢ iprop(atPos ER (sndCell c j) (if sends D c j then 1 else 0) ∅ 0 ∗ whenP (sends D c j) (sndPay D c j)) := by
  unfold gone
  by_cases h : sends D c j
  · rw [if_pos h, if_pos h, whenP_pos h]
  · rw [if_neg h, if_neg h, whenP_neg h]; exact (sep_emp (PROP := sProp 𝕄)).2

theorem come_eq (j : Chunk) : come D c j ⊢ iprop(atPos ER (rcvCell c j) (if gets D c j then 1 else 0) ∅ 0 ∗ whenP (gets D c j) (rcvPay D c j)) := by
  unfold come
  by_cases h : gets D c j
  · rw [if_pos h, if_pos h, whenP_pos h]
  · rw [if_neg h, if_neg h, whenP_neg h]; exact (sep_emp (PROP := sProp 𝕄)).2

theorem gone_all :
    (bigSep Finset.univ fun j : Chunk => if rank j < 24 then gone D c j else sent D c j)
      ⊢ iprop((bigSep Finset.univ fun j : Chunk => atPos ER (sndCell c j) (if sends D c j then 1 else 0) ∅ 0)
        ∗ bigSep Finset.univ fun j : Chunk => whenP (sends D c j) (sndPay D c j)) := by
  rw [← bigSep_sep']
  exact bigSep_mono fun j _ => by rw [if_pos (rank_lt j)]; exact gone_eq D c j

theorem come_all :
    (bigSep Finset.univ fun j : Chunk => come D c j)
      ⊢ iprop((bigSep Finset.univ fun j : Chunk => atPos ER (rcvCell c j) (if gets D c j then 1 else 0) ∅ 0)
        ∗ bigSep Finset.univ fun j : Chunk => whenP (gets D c j) (rcvPay D c j)) := by
  rw [← bigSep_sep']
  exact bigSep_mono fun j _ => come_eq D c j

theorem close_snd :
    iprop(ctx D κ ∗ bigSep Finset.univ fun j : Chunk => atPos ER (sndCell c j) (if sends D c j then 1 else 0) ∅ 0)
      ⊢ |={Set.univ}=> bigSep Finset.univ fun j : Chunk => (semVal (sndCell c j) 0 : sProp 𝕄) := by
  have h := cells_close ER (sched D) (Finset.univ : Finset Chunk) (fun j => sndCell c j) (fun j => κ (sndCell c j)) (Es := Set.univ)
    (fun _ _ => Set.mem_univ _) (fun _ _ h => h) (fun j => if sends D c j then 1 else 0) (fun j _ r hr => by
      by_cases hs : sends D c j
      · rw [if_pos hs] at hr; exact duties_later D _ r hr
      · rcases Nat.eq_zero_or_pos r with rfl | h0
        · rw [duties_snd, if_neg hs]
        · exact duties_later D _ r h0)
  refine BIBase.Entails.trans ?_ h
  exact bigSep_with_persistent (R := ctx D κ) (Φ := fun j : Chunk => atPos ER (sndCell c j) (if sends D c j then 1 else 0) ∅ 0)
    fun j _ => sep_mono (ctx_snd D κ c j) .rfl

theorem close_rcv :
    iprop(ctx D κ ∗ bigSep Finset.univ fun j : Chunk => atPos ER (rcvCell c j) (if gets D c j then 1 else 0) ∅ 0)
      ⊢ |={Set.univ}=> bigSep Finset.univ fun j : Chunk => (semVal (rcvCell c j) 0 : sProp 𝕄) := by
  have h := cells_close ER (sched D) (Finset.univ : Finset Chunk) (fun j => rcvCell c j) (fun j => κ (rcvCell c j)) (Es := Set.univ)
    (fun _ _ => Set.mem_univ _) (fun _ _ h => h) (fun j => if gets D c j then 1 else 0) (fun j _ r hr => by
      by_cases hs : gets D c j
      · rw [if_pos hs] at hr; exact duties_later D _ r hr
      · rcases Nat.eq_zero_or_pos r with rfl | h0
        · rw [duties_rcv, if_neg hs]
        · exact duties_later D _ r h0)
  refine BIBase.Entails.trans ?_ h
  exact bigSep_with_persistent (R := ctx D κ) (Φ := fun j : Chunk => atPos ER (rcvCell c j) (if gets D c j then 1 else 0) ∅ 0)
    fun j _ => sep_mono (ctx_rcv D κ c j) .rfl

theorem close_bar : iprop(ctx D κ ∗ atPos ER (barCell c) 1 ∅ 0) ⊢ |={Set.univ}=> (semVal (barCell c) 0 : sProp 𝕄) := by
  have h := cell_close ER (sched D) (g := barCell c) (κ := κ (barCell c)) (Es := Set.univ) (Set.mem_univ _) (fun h => h) (R := 1)
    (fun r hr => duties_later D _ r hr)
  refine BIBase.Entails.trans ?_ h
  have hb : ctx D κ ⊢ cellInv ER (sched D) (κ (barCell c)) (barCell c) := (ctx_bar D κ c).trans sep_elim_left
  exact sep_mono hb .rfl

/-- What a device holds after the kernel. -/
def closed : sProp 𝕄 :=
  iprop(tables D c ∗ srcPts c fullShare Finset.univ (D.x c) ∗ (∃ X, ⌜Good D c X⌝ ∗ outPts c Finset.univ X)
    ∗ (∃ W, owes (c : Thread nD τ) (0 : CellTallies nD τ sig ℕ) W) ∗ semVal (barCell c) 0 ∗ Pipeline.ownSems0 osem c)

theorem ownSems_eq : (Pipeline.ownSems0 osem c : sProp 𝕄)
    = iprop((bigSep Finset.univ fun j : Chunk => semVal (sndCell c j) 0) ∗ bigSep Finset.univ fun j : Chunk => semVal (rcvCell c j) 0) := by
  unfold Pipeline.ownSems0
  rw [bigSep_univ_sum]
  rfl

/-- A device leaves the kernel. -/
theorem leave :
    Leave D κ c 24 iprop((bigSep Finset.univ fun j : Chunk => come D c j) ∗ ownBlk D c 8 ∗ atPos ER (barCell c) 1 ∅ 0 ∗ aside D c)
      ⊢ |={Set.univ}=> closed D c := by
  have hown : ownBlk D c 8 ⊢ iprop(srcPts c (leafOf 31) Finset.univ (D.x c) ∗ outPts c (ownSet c) (result D c)) := by
    unfold ownBlk; rw [if_pos (show c.val < 8 from c.isLt)]
  unfold Leave aside
  iintro ⟨Ht, #Hctx, HO, Hgone, Hcome, Hown, Hbar, Hrest, Hspare, Hkept⟩
  ihave Hgone := (gone_all D c) $$ Hgone
  icases Hgone with ⟨HaS, HpS⟩
  ihave Hcome := (come_all D c) $$ Hcome
  icases Hcome with ⟨HaR, HpR⟩
  ihave Hown := hown $$ Hown
  icases Hown with ⟨H31, Hown⟩
  imod (close_snd D κ c) $$ [HaS] with HvS
  · isplitr; · iexact Hctx
    iexact HaS
  imod (close_rcv D κ c) $$ [HaR] with HvR
  · isplitr; · iexact Hctx
    iexact HaR
  imod (close_bar D κ c) $$ [Hbar] with HvB
  · isplitr; · iexact Hctx
    iexact Hbar
  imodintro
  unfold closed
  isplitl [Ht]; · iexact Ht
  isplitl [HpS H31 Hrest Hspare]
  · rw [src_apart]
    isplitl [HpS]; · iexact HpS
    isplitl [H31]; · iexact H31
    isplitl [Hrest] <;> iassumption
  isplitl [Hown HpR Hkept]
  · iapply (out_join D c)
    isplitl [Hown]; · iexact Hown
    isplitl [HpR] <;> iassumption
  isplitl [HO]; · iexact HO
  isplitl [HvB]; · iexact HvB
  rw [ownSems_eq]
  isplitl [HvS] <;> iassumption

end Cert.KernelIdeal.Exchange
end
-- ==== Proof.Tables.lean ====
/-
  What the kernel's windows are on when it is called: the tables of offsets and counts, and the packed rows, of the launch's arguments.

  The program lays its arguments out for the kernel (reshapes), and exchanges the counts: the devices' counts are sent along, so that each
  device knows how many rows it gets from each.
-/
module

public import proofs.«01_k».proof.Proof.Pieces
public import proofs.«01_k».proof.Proof.Gen.KernelIdeal.Regions
public import proofs.«01_k».proof.Proof.Gen.KernelIdeal.Points
public import Idealize.ShloMosaic.Lib.ValueLayout
public import Idealize.ShloMosaic.Lib.ValueLayoutCasts

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt F) ℓ)

/-- The devices' offsets, counts and packed rows, as launched. -/
def dataOf : Data F where
  off c d := (m ((c : Thread nD τ).loc main_arg0) : S1x8.Idx → Elt F .i32) (ix2 0 d)
  cnt c d := (m ((c : Thread nD τ).loc main_arg1) : S1x8.Idx → Elt F .i32) (ix2 0 d)
  x c := m ((c : Thread nD τ).loc main_arg2)

/-- A device's buffers after the first reshapes, -/
abbrev W1 (c : Dev nD) : Valuation τ sig (Elt F) := Gen.V1 m c
/-- after the exchange of the counts, -/
abbrev W2 (c : Dev nD) : Valuation τ sig (Elt F) := aa0.after₀ (W1 m) c
/-- and when the kernel is called. -/
abbrev W3 (c : Dev nD) : Valuation τ sig (Elt F) := StableHlo.after hostOps1 (W2 m c)

theorem W3_of (c : Dev nD) (r : Ref sig .tc) (h : r ∉ hostOps1_W) : W3 m c r = W2 m c r :=
  StableHlo.after_of_writes_sub hostOps1 _ hostOps1_writes h
theorem W2_of (c : Dev nD) (r : Ref sig .tc) (h : r ≠ main_v3) : W2 m c r = W1 m c r :=
  aa0.after₀_of_ne (W1 m) c fun e => h (Proc.devRef_injective _ e)

theorem W3_args (c : Dev nD) : ∀ a ∈ argRefs, W3 m c a = m ((c : Thread nD τ).loc a) := fun a ha =>
  (W3_of m c a (args3 a ha)).trans ((W2_of m c a fun h => args2 a ha (by rw [h]; exact List.mem_singleton_self _)).trans (V1_args m c a ha))

theorem W3_src (c : Dev nD) : W3 m c main_arg2 = (dataOf m).x c := W3_args m c main_arg2 (by decide)

theorem W3_off (c : Dev nD) : W3 m c main_v5 = fun i : S8.Idx => (dataOf m).off c (i 0) := by
  have e : W3 m c main_v5 = fun i => shapeCast S8 (W2 m c main_arg0 : S1x8.Idx → Elt F .i32) shapeCasts_S1x8_S8 i := by
    show StableHlo.after hostOps1 (W2 m c) (Proc.devRef .tc main_v5) = _
    rw [StableHlo.after_cons, StableHlo.after_cons, StableHlo.after_nil, StableHlo.reshape_result, StableHlo.reshape_result_ne _ _ _ _ _ _ _ (by decide)]
    rfl
  have e2 : (W2 m c main_arg0 : S1x8.Idx → Elt F .i32) = m ((c : Thread nD τ).loc main_arg0) :=
    (W2_of m c main_arg0 (by decide)).trans (V1_args m c main_arg0 (by decide))
  rw [e, e2]
  funext i
  obtain ⟨a, rfl⟩ : ∃ a : Fin 8, i = ix1 a := ⟨i 0, eq_ix1 i⟩
  exact shapeCast_1a_a_apply _ _ a

theorem W1_cnt (c : Dev nD) : W1 m c main_v1 = fun i : S8.Idx => (dataOf m).cnt c (i 0) := by
  have e : W1 m c main_v1 = fun i => shapeCast S8 (m ((c : Thread nD τ).loc main_arg1) : S1x8.Idx → Elt F .i32) shapeCasts_S1x8_S8 i := by
    show StableHlo.after hostOps0 (V0 m c) (Proc.devRef .tc main_v1) = _
    rw [StableHlo.after_cons, StableHlo.after_cons, StableHlo.after_nil, StableHlo.reshape_result_ne _ _ _ _ _ _ _ (by decide), StableHlo.reshape_result]
    rfl
  rw [e]
  funext i
  obtain ⟨a, rfl⟩ : ∃ a : Fin 8, i = ix1 a := ⟨i 0, eq_ix1 i⟩
  exact shapeCast_1a_a_apply _ _ a

theorem W3_cnt (c : Dev nD) : W3 m c main_v1 = fun i : S8.Idx => (dataOf m).cnt c (i 0) := by
  rw [W3_of m c main_v1 (by decide), W2_of m c main_v1 (by decide), W1_cnt]

theorem W1_col (c : Dev nD) (a : Fin 8) (u : Fin 1) :
    (W1 m c main_v2 : S8x1.Idx → Elt F .i32) (ix2 a u) = (dataOf m).cnt c a := by
  have e : W1 m c main_v2 = fun i => shapeCast S8x1 (m ((c : Thread nD τ).loc main_arg1) : S1x8.Idx → Elt F .i32) shapeCasts_S1x8_S8x1 i := by
    show StableHlo.after hostOps0 (V0 m c) (Proc.devRef .tc main_v2) = _
    rw [StableHlo.after_cons, StableHlo.after_cons, StableHlo.after_nil, StableHlo.reshape_result, StableHlo.reshape_result_ne _ _ _ _ _ _ _ (by decide)]
    rfl
  rw [e]
  have hu : u.val = 0 := by omega
  exact shapeCast_apply _ _ _ (ix2 (0 : Fin 1) a) (by
    rw [Shape.rowMajor_val_two, Shape.rowMajor_val_two]
    show 0 * 8 + a.val = a.val * 1 + u.val
    rw [hu]; omega)

theorem aa0_peer : ∀ c a : Dev nD, aa0.peer c a = a := by decide
theorem aa0_pos_val : ∀ c : Dev nD, (aa0.pos c).val = c.val := by decide

/-- What device `c` receives of the counts: of each device, how many rows it has for `c`. -/
theorem W2_got (c : Dev nD) (a : Fin 8) : (W2 m c main_v3 : S8x1.Idx → Elt F .i32) (ix2 a 0) = (dataOf m).cnt a c := by
  have e : W2 m c main_v3 = aa0.receivedOf (W1 m) c := aa0.after₀_result (W1 m) c
  rw [e]
  have hz := aa0.receivedOf_apply (W1 m) c (ix2 a 0 : S8x1.Idx) a (ix2 (c : Fin 8) 0 : S8x1.Idx)
    (by show a.val = a.val / (8 / 8); omega)
    (fun b => by
      have hpos := aa0_pos_val c
      fin_cases b
      · show c.val + a.val * 1 = (aa0.pos c).val * 1 + a.val
        omega
      · rfl)
  refine hz.trans ?_
  rw [aa0_peer c a]
  exact W1_col m a c 0

theorem W3_got (c : Dev nD) : W3 m c main_v4 = fun i : S8.Idx => (dataOf m).cnt (i 0) c := by
  have e : W3 m c main_v4 = fun i => shapeCast S8 (W2 m c main_v3 : S8x1.Idx → Elt F .i32) shapeCasts_S8x1_S8 i := by
    show StableHlo.after hostOps1 (W2 m c) (Proc.devRef .tc main_v4) = _
    rw [StableHlo.after_cons, StableHlo.after_cons, StableHlo.after_nil, StableHlo.reshape_result_ne _ _ _ _ _ _ _ (by decide), StableHlo.reshape_result]
    rfl
  rw [e]
  funext i
  obtain ⟨a, rfl⟩ : ∃ a : Fin 8, i = ix1 a := ⟨i 0, eq_ix1 i⟩
  refine (shapeCast_apply _ _ _ (ix2 a (0 : Fin 1)) (by
    rw [Shape.rowMajor_val_two, Shape.rowMajor_val_one]
    show a.val * 1 + 0 = a.val; omega)).trans (W2_got m c a)

end Cert.KernelIdeal.Exchange
end
-- ==== Proof.Region.lean ====
/-
  The kernel's region: what its windows hold, what the body may leave in them, and that the body does.
-/
module

public import proofs.«01_k».proof.Proof.Ends
public import proofs.«01_k».proof.Proof.Tables

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ)

/-- What the body may leave in a window: in the result's, what the exchange says; the others are not written back. -/
def afterBody (c : Dev nD) : (w : Fin 5) → ((win0 w).block.Idx → Elt F (win0 w).elt) → Prop
  | 4 => fun X => Good (dataOf m) c X
  | 0 | 1 | 2 | 3 => fun _ => True
  | ⟨_ + 5, h⟩ => absurd h (Nat.not_lt.2 (Nat.le_add_left _ _))

/-- The region's state before the body, and after it. -/
def bodyState (c : Dev nD) (n : ℕ) : sProp 𝕄 :=
  if n = 0 then iprop(∃ κ, opened (dataOf m) κ c) else iprop(semVal (barCell c) 0 ∗ Pipeline.ownSems0 osem c)

/-- What a device owes before the body, and after it. -/
def bodyDue (c : Dev nD) (n : ℕ) : CellTallies nD τ sig ℕ := if n = 0 then due (dataOf m) c else 0

/-- The region's data. -/
def rdat (c : Dev nD) : Pipeline.RDat τ (Elt F) ℕ ℕ UU ℕ cfg0 c where
  A w := W3 m c (Pipeline.arrRef spec0 w)
  after w _ _ X := afterBody m c w X
  Φ t := bodyState m c t.val
  q _ := fullShare
  owed t := bodyDue m c t.val

/-- The same as the one pipeline's. -/
def rdats (p : Fin 1) (c : Dev nD) : Pipeline.RDat τ (Elt F) ℕ ℕ UU ℕ (Pipeline.pin (pcfgs (F := F)) adm p) c := rdat m c

/-! ## What the body finds -/

section Finds

variable (c : Dev nD)

theorem finds_off (X : S8.Idx → Elt F .i32) (h : (rdat m c).Finds 0 t0_0 X) : X = fun i : S8.Idx => (dataOf m).off c (i 0) := by
  obtain ⟨d, hd⟩ := ((rdat m c).finds_of_fetch (fetch0_0 t0_0) X).mp h
  have e : (rdat m c).fetched 0 t0_0 d = ((cfg0.win 0).blk t0_0).view.read (Elt F) (W3 m c main_v5) := rfl
  rw [hd, ← W3_off m c, e]
  funext i
  show W3 m c main_v5 (((cfg0.win 0).rect t0_0).emb i) = W3 m c main_v5 i
  congr 1; funext a; apply Fin.ext
  exact Pipeline.Window.rect_emb_val_of_index_zero (cfg0.win 0) t0_0 a rfl i

theorem finds_cnt (X : S8.Idx → Elt F .i32) (h : (rdat m c).Finds 1 t0_0 X) : X = fun i : S8.Idx => (dataOf m).cnt c (i 0) := by
  obtain ⟨d, hd⟩ := ((rdat m c).finds_of_fetch (fetch0_1 t0_0) X).mp h
  have e : (rdat m c).fetched 1 t0_0 d = ((cfg0.win 1).blk t0_0).view.read (Elt F) (W3 m c main_v1) := rfl
  rw [hd, ← W3_cnt m c, e]
  funext i
  show W3 m c main_v1 (((cfg0.win 1).rect t0_0).emb i) = W3 m c main_v1 i
  congr 1; funext a; apply Fin.ext
  exact Pipeline.Window.rect_emb_val_of_index_zero (cfg0.win 1) t0_0 a rfl i

theorem finds_got (X : S8.Idx → Elt F .i32) (h : (rdat m c).Finds 2 t0_0 X) : X = fun i : S8.Idx => (dataOf m).cnt (i 0) c := by
  obtain ⟨d, hd⟩ := ((rdat m c).finds_of_fetch (fetch0_2 t0_0) X).mp h
  have e : (rdat m c).fetched 2 t0_0 d = ((cfg0.win 2).blk t0_0).view.read (Elt F) (W3 m c main_v4) := rfl
  rw [hd, ← W3_got m c, e]
  funext i
  show W3 m c main_v4 (((cfg0.win 2).rect t0_0).emb i) = W3 m c main_v4 i
  congr 1; funext a; apply Fin.ext
  exact Pipeline.Window.rect_emb_val_of_index_zero (cfg0.win 2) t0_0 a rfl i

theorem finds_src (X : S2432x8x128.Idx → Elt F .f32) (h : (rdat m c).Finds 3 t0_0 X) : X = (dataOf m).x c := by
  obtain ⟨d, hd⟩ := ((rdat m c).finds_of_fetch (fetch0_3 t0_0) X).mp h
  have e : (rdat m c).fetched 3 t0_0 d = ((cfg0.win 3).blk t0_0).view.read (Elt F) (W3 m c main_arg2) := rfl
  rw [hd, ← W3_src m c, e]
  funext i
  show W3 m c main_arg2 (((cfg0.win 3).rect t0_0).emb i) = W3 m c main_arg2 i
  congr 1; funext a; apply Fin.ext
  exact Pipeline.Window.rect_emb_val_of_index_zero (cfg0.win 3) t0_0 a rfl i

end Finds

/-! ## The body -/

section Body

/-- The windows' staging buffers, handed to the body. -/
theorem stage_eq (c : Dev nD) (Y : (w : Fin 5) → (cfg0.win w).block.Idx → Elt F (cfg0.win w).elt) :
    (bigSep Finset.univ fun w : Fin 5 => (owns (c : Thread nD τ) ((cfg0.win w).stage (cfg0.slots t0_0 w)) fullShare (Y w) : sProp 𝕄))
      = iprop((((c : Thread nD τ).loc cc0_stg0_0) ↦{fullShare} Y 0) ∗ (((c : Thread nD τ).loc cc0_stg1_0) ↦{fullShare} Y 1)
        ∗ (((c : Thread nD τ).loc cc0_stg2_0) ↦{fullShare} Y 2) ∗ srcPts c fullShare Finset.univ (Y 3) ∗ outPts c Finset.univ (Y 4)) := by
  rw [bigSep_W0]
  have e0 : (owns (c : Thread nD τ) ((cfg0.win 0).stage (cfg0.slots t0_0 0)) fullShare (Y 0) : sProp 𝕄)
      = (((c : Thread nD τ).loc cc0_stg0_0) ↦{fullShare} Y 0) := owns_whole (c : Thread nD τ) cc0_stg0_0 fullShare (Y 0)
  have e1 : (owns (c : Thread nD τ) ((cfg0.win 1).stage (cfg0.slots t0_0 1)) fullShare (Y 1) : sProp 𝕄)
      = (((c : Thread nD τ).loc cc0_stg1_0) ↦{fullShare} Y 1) := owns_whole (c : Thread nD τ) cc0_stg1_0 fullShare (Y 1)
  have e2 : (owns (c : Thread nD τ) ((cfg0.win 2).stage (cfg0.slots t0_0 2)) fullShare (Y 2) : sProp 𝕄)
      = (((c : Thread nD τ).loc cc0_stg2_0) ↦{fullShare} Y 2) := owns_whole (c : Thread nD τ) cc0_stg2_0 fullShare (Y 2)
  have e3 : (owns (c : Thread nD τ) ((cfg0.win 3).stage (cfg0.slots t0_0 3)) fullShare (Y 3) : sProp 𝕄)
      = srcPts c fullShare Finset.univ (Y 3) := owns_whole (c : Thread nD τ) cc0_stg3_0 fullShare (Y 3)
  have e4 : (owns (c : Thread nD τ) ((cfg0.win 4).stage (cfg0.slots t0_0 4)) fullShare (Y 4) : sProp 𝕄)
      = outPts c Finset.univ (Y 4) := owns_whole (c : Thread nD τ) cc0_stg4_0 fullShare (Y 4)
  rw [e0, e1, e2, e3, e4]

/-- What the body is called with. -/
theorem body_enter (c : Dev nD) (Y : (w : Fin 5) → (cfg0.win w).block.Idx → Elt F (cfg0.win w).elt) (hY : ∀ w, w ≠ 4 → (rdat m c).Finds w t0_0 (Y w)) :
    (bigSep Finset.univ fun w : Fin 5 => (owns (c : Thread nD τ) ((cfg0.win w).stage (cfg0.slots t0_0 w)) fullShare (Y w) : sProp 𝕄))
      = iprop(tables (dataOf m) c ∗ srcPts c fullShare Finset.univ ((dataOf m).x c) ∗ outPts c Finset.univ (Y 4)) := by
  have e0 := finds_off m c (Y 0) (hY 0 (by decide))
  have e1 := finds_cnt m c (Y 1) (hY 1 (by decide))
  have e2 := finds_got m c (Y 2) (hY 2 (by decide))
  have e3 := finds_src m c (Y 3) (hY 3 (by decide))
  rw [stage_eq, e0, e1, e2, e3]; unfold tables
  have a : iprop((((c : Thread nD τ).loc cc0_stg0_0) ↦{fullShare} (fun i : S8.Idx => (dataOf m).off c (i 0)))
      ∗ (((c : Thread nD τ).loc cc0_stg1_0) ↦{fullShare} (fun i : S8.Idx => (dataOf m).cnt c (i 0)))
      ∗ (((c : Thread nD τ).loc cc0_stg2_0) ↦{fullShare} (fun i : S8.Idx => (dataOf m).cnt (i 0) c))
      ∗ srcPts c fullShare Finset.univ ((dataOf m).x c) ∗ outPts c Finset.univ (Y 4))
    ⊣⊢ iprop(((((c : Thread nD τ).loc cc0_stg0_0) ↦{fullShare} (fun i : S8.Idx => (dataOf m).off c (i 0)))
      ∗ (((c : Thread nD τ).loc cc0_stg1_0) ↦{fullShare} (fun i : S8.Idx => (dataOf m).cnt c (i 0)))
      ∗ (((c : Thread nD τ).loc cc0_stg2_0) ↦{fullShare} (fun i : S8.Idx => (dataOf m).cnt (i 0) c)))
      ∗ srcPts c fullShare Finset.univ ((dataOf m).x c) ∗ outPts c Finset.univ (Y 4)) := by
    constructor
    · iintro ⟨H0, H1, H2, H3⟩
      isplitl [H0 H1 H2]
      · isplitl [H0]; · iexact H0
        isplitl [H1] <;> iassumption
      iexact H3
    · iintro ⟨⟨H0, H1, H2⟩, H3⟩
      isplitl [H0]; · iexact H0
      isplitl [H1]; · iexact H1
      isplitl [H2] <;> iassumption
  exact a.1.antisymm a.2

/-- What the body leaves. -/
theorem body_leave (c : Dev nD) (Y : (w : Fin 5) → (cfg0.win w).block.Idx → Elt F (cfg0.win w).elt) (X : S8x384x8x128.Idx → Elt F .f32)
    (hX : Good (dataOf m) c X) (hY : ∀ w, (rdat m c).Finds w t0_0 (Y w)) :
    iprop(tables (dataOf m) c ∗ srcPts c fullShare Finset.univ ((dataOf m).x c) ∗ outPts c Finset.univ X)
      ⊢ bigSep Finset.univ fun w : Fin 5 => iprop(∃ Z, ⌜(rdat m c).after w t0_0 (Y w) Z⌝
        ∗ (owns (c : Thread nD τ) ((cfg0.win w).stage (cfg0.slots t0_0 w)) fullShare Z : sProp 𝕄)) := by
  have e := body_enter m c (Function.update Y 4 X) fun w hw => by rw [Function.update_of_ne hw]; exact hY w
  have e4 : (Function.update Y 4 X : (w : Fin 5) → (cfg0.win w).block.Idx → Elt F (cfg0.win w).elt) 4 = X := Function.update_self ..
  rw [e4] at e
  rw [← e]
  refine bigSep_mono fun w _ => ?_
  have hw : (rdat m c).after w t0_0 (Y w) (Function.update Y 4 X w) := by
    by_cases h : w = 4
    · subst h; rw [e4]; exact hX
    · match w, h with
      | 0, _ | 1, _ | 2, _ | 3, _ => exact trivial
      | 4, h => exact absurd rfl h
  have g : (owns (c : Thread nD τ) ((cfg0.win w).stage (cfg0.slots t0_0 w)) fullShare (Function.update Y 4 X w) : sProp 𝕄)
      ⊢ iprop(∃ Z, ⌜(rdat m c).after w t0_0 (Y w) Z⌝ ∗ (owns (c : Thread nD τ) ((cfg0.win w).stage (cfg0.slots t0_0 w)) fullShare Z : sProp 𝕄)) := by
    iintro H
    iexists _
    isplitr; · ipureintro; exact hw
    iexact H
  exact g

/-- A device runs the body. -/
theorem hbody (hok : (dataOf m).Ok) (c : Dev nD) : (rdat m c).BodyObligation (defs₀ (F := F)) 𝒱₀ 0 Set.univ := by
  intro t Y hY
  obtain rfl := fin_N0 t
  have ePhi0 : (rdat m c).Φ t0_0.castSucc = iprop(∃ κ, opened (dataOf m) κ c) := rfl
  have ePhi1 : (rdat m c).Φ t0_0.succ = iprop(semVal (barCell c) 0 ∗ Pipeline.ownSems0 osem c) := rfl
  have eO0 : (rdat m c).owesAt 0 t0_0.castSucc ⊢ iprop(∃ W, owes (c : Thread nD τ) (due (dataOf m) c) W) := by
    have : (rdat m c).owed t0_0.castSucc = due (dataOf m) c := rfl
    unfold Pipeline.RDat.owesAt Pipeline.owesWithin; rw [this]
    iintro ⟨%W, -, HO⟩; iexists W; iexact HO
  have eO1 : iprop(∃ W, owes (c : Thread nD τ) (0 : CellTallies nD τ sig ℕ) W) ⊢ (rdat m c).owesAt 0 t0_0.succ := by
    have : (rdat m c).owed t0_0.succ = 0 := rfl
    unfold Pipeline.RDat.owesAt Pipeline.owesWithin; rw [this]
    iintro ⟨%W, HO⟩; iexists W
    isplitr; · ipureintro; exact fun _ _ => Or.inl trivial
    iexact HO
  rw [ePhi0, ePhi1, body_enter m c Y fun w _ => hY w]
  have hleave (κ : GSem nD τ sig → ℕ) :
      Leave (dataOf m) κ c 24 iprop((bigSep Finset.univ fun j : Chunk => come (dataOf m) c j) ∗ ownBlk (dataOf m) c 8
          ∗ atPos ER (barCell c) 1 ∅ 0 ∗ aside (dataOf m) c)
        ⊢ |={Set.univ}=> iprop((semVal (barCell c) 0 ∗ Pipeline.ownSems0 osem c) ∗ (rdat m c).owesAt 0 t0_0.succ
            ∗ bigSep Finset.univ fun w : Fin 5 => iprop(∃ Z, ⌜(rdat m c).after w t0_0 (Y w) Z⌝
              ∗ (owns (c : Thread nD τ) ((cfg0.win w).stage (cfg0.slots t0_0 w)) fullShare Z : sProp 𝕄))) := by
    iintro H
    imod (leave (dataOf m) κ c) $$ H with H
    imodintro
    unfold closed
    icases H with ⟨Ht, Hs, ⟨%X, %hX, Ho⟩, HO, HB, HS⟩
    isplitl [HB HS]
    · isplitl [HB] <;> iassumption
    isplitl [HO]; · iapply eO1; iexact HO
    iapply (body_leave m c Y X hX hY)
    isplitl [Ht]; · iexact Ht
    isplitl [Hs] <;> iassumption
  have hrun (κ : GSem nD τ sig → ℕ) := body_step (dataOf m) κ (c := c) hok (R := aside (dataOf m) c)
    (Q := fun _ => iprop((semVal (barCell c) 0 ∗ Pipeline.ownSems0 osem c) ∗ (rdat m c).owesAt 0 t0_0.succ
            ∗ bigSep Finset.univ fun w : Fin 5 => iprop(∃ Z, ⌜(rdat m c).after w t0_0 (Y w) Z⌝
              ∗ (owns (c : Thread nD τ) ((cfg0.win w).stage (cfg0.slots t0_0 w)) fullShare Z : sProp 𝕄)))) (hleave κ) (hstage0_0 0) (hstage0_1 0) (hstage0_2 0) (hstage0_3 0) (hstage0_4 0)
  iintro ⟨⟨%κ, Hop⟩, HO, Ht, Hs, Ho⟩
  ihave HO := eO0 $$ HO
  iapply (hrun κ)
  iapply (enter (dataOf m) κ c (Y 4))
  isplitl [Ht]; · iexact Ht
  isplitl [Hs]; · iexact Hs
  isplitl [Ho]; · iexact Ho
  isplitl [HO] <;> iassumption

end Body

/-! ## The kernel's semaphores are opened -/

section Open

variable (D : Data F) (κ : GSem nD τ sig → ℕ)

/-- The invariants of the protocol. -/
def records : sProp 𝕄 :=
  iprop((bigSep Finset.univ fun p : Dev nD => iprop(cellInv ER (sched D) (κ (barCell p)) (barCell p) ∗ reached ER (barCell p) 0))
    ∗ (bigSep Finset.univ fun x : Dev nD × Chunk => cellInv ER (sched D) (κ (sndCell x.1 x.2)) (sndCell x.1 x.2))
    ∗ (bigSep Finset.univ fun x : Dev nD × Chunk => cellInv ER (sched D) (κ (rcvCell x.1 x.2)) (rcvCell x.1 x.2)))

instance records_persistent : BI.Persistent (records D κ) := by unfold records; infer_instance

/-- Device `c`'s part of the protocol before the kernel is entered. -/
def waiting (c : Dev nD) : sProp 𝕄 :=
  iprop(records D κ ∗ atPos ER (barCell c) 0 ∅ 0 ∗ duties c ∗ credits D c
    ∗ (bigSep Finset.univ fun j : Chunk => openTok ER (sndCell c j)) ∗ (bigSep Finset.univ fun j : Chunk => openTok ER (rcvCell c j)))

/-- The kernel's semaphores, at zero, are put under the protocol. -/
theorem open_all (c : Dev nD) : iprop(waiting D κ c ∗ Pipeline.ownSems0 osem c ∗ levAts L lv) ⊢ |={Set.univ}=> opened D κ c := by
  have hc : iprop(levAts L lv ∗ records D κ) ⊢ ctx D κ := BI.Entails.refl _
  rw [ownSems_eq]
  unfold waiting
  iintro ⟨⟨Hr, Hat, Hd, Hcr, HoS, HoR⟩, ⟨HvS, HvR⟩, HL⟩
  ihave #Hctx := hc $$ [HL Hr]
  · isplitl [HL] <;> iassumption
  imod (open_cells ER (sched D) (fun j : Chunk => sndCell c j) (fun j => κ (sndCell c j)) fun j => ctx_snd D κ c j) $$ [HoS HvS] with HS
  · isplitr; · iexact Hctx
    isplitl [HoS] <;> iassumption
  imod (open_cells ER (sched D) (fun j : Chunk => rcvCell c j) (fun j => κ (rcvCell c j)) fun j => ctx_rcv D κ c j) $$ [HoR HvR] with HR
  · isplitr; · iexact Hctx
    isplitl [HoR] <;> iassumption
  imodintro
  unfold opened
  isplitr; · iexact Hctx
  isplitl [Hat]; · iexact Hat
  isplitl [Hd]; · iexact Hd
  isplitl [Hcr]; · iexact Hcr
  isplitl [HS] <;> iassumption

end Open

/-! ## The region -/

/-- A device owes at the barriers' and the chunks' indices only. -/
theorem due_pos (D : Data F) (c : Dev nD) (g : GSem nD τ sig) (i : ℕ) (h : 0 < due D c g i) : (i = ιB ∨ i = ιC) ∧ g.1.2 = .tc := by
  unfold due at h
  rw [Pi.add_apply, Finsupp.add_apply] at h
  rcases Nat.eq_zero_or_pos (rowDue D c 0 g i) with h0 | h0
  · by_contra hne
    refine absurd h (Nat.not_lt.mpr (Nat.le_zero.mpr ?_))
    rw [h0, Nat.add_zero]
    unfold barDue
    rw [Finset.sum_apply, Finsupp.finset_sum_apply]
    refine Finset.sum_eq_zero fun p _ => ?_
    split
    · rfl
    split
    · rw [tallyAt_apply, if_neg]
      rintro ⟨rfl, rfl⟩
      exact hne ⟨.inl rfl, rfl⟩
    · rfl
  · exact ⟨.inr (rowDue_pos D 0 g i h0).1, (rowDue_pos D 0 g i h0).2⟩

theorem hwaits (c : Dev nD) : (levAts L lv : sProp 𝕄) ⊢ Pipeline.RDat.cellsWaits (Pipeline.pin (pcfgs (F := F)) adm) (rdats m) 0 0 c := by
  refine Pipeline.RDat.cellsWaits_intro (Pipeline.pin (pcfgs (F := F)) adm) (rdats m) 0 0 c fun w s t => ?_
  have e : (rdats m 0 c).owed t = bodyDue m c t.val := rfl
  rw [e]; unfold bodyDue
  have hp (g : GSem nD τ sig) (i : ℕ) (hg : 0 < (if t.val = 0 then due (dataOf m) c else 0) g i) : (i = ιB ∨ i = ιC) ∧ g.1.2 = .tc := by
    split at hg
    · exact due_pos _ _ _ _ hg
    · exact absurd hg (Nat.lt_irrefl 0)
  refine MayOwe.of_cut (L := L) (lev := lv) 0 (fun q hq => ?_) (fun g i hg => ?_) (fun q hq => ?_) fun g i hg => ?_
  · rw [Finset.mem_singleton.mp hq, L_tc]; exact Finset.mem_range.mpr (show (0 : ℕ) < 7 by decide)
  · unfold L; rw [if_pos (hp g i hg).2]
    rcases (hp g i hg).1 with h | h <;> rw [h] <;> decide
  · rw [Finset.mem_singleton.mp hq]; exact le_rfl
  · rcases (hp g i hg).1 with h | h
    · rw [h]; exact (show (0 : ℕ) < 5 by decide)
    · rw [h]; exact (show (0 : ℕ) < 6 by decide)

end Cert.KernelIdeal.Exchange
end
-- ==== Proof.Segments.lean ====
/-
  The program's four items as segments: the reshapes before the exchange of the counts, that exchange, the reshapes after it, and the
  kernel. Each is entered from what the one before it leaves.
-/
module

public import proofs.«01_k».proof.Proof.Region
public import Idealize.ShloMosaic.Lib.Pipeline.RegionArrays

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ)

/-! ## The kernel -/

/-- What a device holds when it enters the kernel, `R` of it untouched; -/
def kernelPre (R : Dev nD → sProp 𝕄) (c : Dev nD) : sProp 𝕄 :=
  iprop(StableHlo.held (c : Thread nD τ) S (W3 m c) ∗ (∃ κ, waiting (dataOf m) κ c) ∗ (∃ W, owes (c : Thread nD τ) (due (dataOf m) c) W) ∗ R c)

/-- and when it leaves it. -/
def kernelPost (R : Dev nD → sProp 𝕄) (c : Dev nD) : sProp 𝕄 :=
  iprop((rdats m 0 c).arraysAt (Pipeline.pin (pcfgs (F := F)) adm 0).N
    ∗ StableHlo.held (c : Thread nD τ) (S \ Pipeline.arrRefs spec0) (W3 m c) ∗ semVal (barCell c) 0
    ∗ (∃ W, owes (c : Thread nD τ) (0 : CellTallies nD τ sig ℕ) W) ∗ R c)

theorem arrs_sub : (Pipeline.arrRefs (τ := τ) spec0) ⊆ S := by
  decide +kernel

theorem share_full (c : Dev nD) (w : Fin 5) : (rdats m 0 c).share w = fullShare := by
  unfold Pipeline.RDat.share
  split <;> rfl

/-- The windows' arrays are among the buffers held. -/
theorem arrays_held (c : Dev nD) :
    (StableHlo.held (c : Thread nD τ) (Pipeline.arrRefs spec0) (W3 m c) : sProp 𝕄) ⊢ (rdats m 0 c).arrays (rdats m 0 c).A := by
  rw [Pipeline.RDat.arrays_eq (pcfgs (F := F)) adm (rdats m) 0 c arr_whole0 (share_full m c)]
  unfold StableHlo.held Pipeline.arrRefs
  rw [bigSep_map, show Finset.univ.image (Pipeline.arrRef spec0) = Finset.univ.map ⟨Pipeline.arrRef spec0, winFacts0.arr_inj⟩ from
    (Finset.map_eq_image ⟨Pipeline.arrRef spec0, winFacts0.arr_inj⟩ Finset.univ).symm, bigSep_map]
  exact BI.Entails.refl _

theorem owes_in (c : Dev nD) : iprop(∃ W, owes (c : Thread nD τ) (due (dataOf m) c) W) ⊢ (rdats m 0 c).owesAt 0 0 := by
  have : (rdats m 0 c).owed 0 = due (dataOf m) c := rfl
  unfold Pipeline.RDat.owesAt Pipeline.owesWithin; rw [this]
  iintro ⟨%W, HO⟩; iexists W
  isplitr; · ipureintro; exact fun _ _ => Or.inl trivial
  iexact HO

theorem owes_out (c : Dev nD) : (rdats m 0 c).owesAt 0 (Fin.last (Pipeline.pin (pcfgs (F := F)) adm 0).N)
    ⊢ iprop(∃ W, owes (c : Thread nD τ) (0 : CellTallies nD τ sig ℕ) W) := by
  have : (rdats m 0 c).owed (Fin.last (Pipeline.pin (pcfgs (F := F)) adm 0).N) = 0 := rfl
  unfold Pipeline.RDat.owesAt Pipeline.owesWithin; rw [this]
  iintro ⟨%W, -, HO⟩; iexists W; iexact HO

theorem osem_facts : Pipeline.OwnSemFacts spec0 osem := by decide

/-- The kernel's segment. -/
def kernelSeg (hok : (dataOf m).Ok) (R : Dev nD → sProp 𝕄) :
    Pipeline.RDat.RegionSeg (pcfgs (F := F)) adm (rdats m) 0 defs₀ 𝒱₀ L lv 0 where
  win := launch0.win.to₀
  block_pos := block_pos0
  stage_whole := stage_whole0
  K := Chunk ⊕ Chunk
  osem := osem
  ho := osem_facts
  hbody c := hbody m hok c
  hwaits c := hwaits m c
  pre := kernelPre m R
  post := kernelPost m R
  X c := iprop(∃ κ, opened (dataOf m) κ c)
  Y c := semVal (barCell c) 0
  Z c := iprop(StableHlo.held (c : Thread nD τ) (S \ Pipeline.arrRefs spec0) (W3 m c) ∗ R c)
  hentry c := by
    unfold kernelPre
    rw [Pipeline.prefHeld_of_none _ rfl]
    iintro ⟨⟨Hh, ⟨%κ, Hw⟩, HO, HR⟩, Hs, HL⟩
    ihave Hh := (Entails.of_eq (StableHlo.held_sub_split (c : Thread nD τ) arrs_sub (W3 m c))) $$ Hh
    icases Hh with ⟨Ha, Hh⟩
    imod (open_all (dataOf m) κ c) $$ [Hw Hs HL] with Ho
    · isplitl [Hw]; · iexact Hw
      isplitl [Hs] <;> iassumption
    imodintro
    isplitl [Ha]; · iapply (arrays_held m c); iexact Ha
    isplitr; · iempintro
    isplitl [HO]; · iapply (owes_in m c); iexact HO
    isplitl [Ho]; · iexists κ; iexact Ho
    isplitl [Hh] <;> iassumption
  hin c := by
    have e : (rdats m 0 c).Φ 0 = iprop(∃ κ, opened (dataOf m) κ c) := rfl
    rw [e]
    iintro ⟨H, -⟩; iexact H
  hout c := by
    have e : (rdats m 0 c).Φ (Fin.last (Pipeline.pin (pcfgs (F := F)) adm 0).N) = iprop(semVal (barCell c) 0 ∗ Pipeline.ownSems0 osem c) := rfl
    have e' : (Pipeline.scopedRest (Pipeline.pin (pcfgs (F := F)) adm 0).spec c : sProp 𝕄) = BI.emp := scopedRest0_eq c
    rw [e, e']
    iintro ⟨HB, HS⟩
    isplitl [HB]; · iexact HB
    isplitl [HS]; · iexact HS
    iempintro
  hexit c := by
    unfold kernelPost
    iintro ⟨Ha, HO, HB, Hh, HR⟩
    imodintro
    isplitl [Ha]; · iexact Ha
    isplitl [Hh]; · iexact Hh
    isplitl [HB]; · iexact HB
    isplitl [HO]; · iapply (owes_out m c); iexact HO
    iexact HR

/-! ## The exchange of the counts -/

/-- What the devices owe each other for the exchange of the counts. -/
abbrev cntDue (c : Dev nD) : CellTallies nD τ sig ℕ := aa0.startDue c 1 2 3

theorem mem_L (c : Dev nD) (sm : SemLoc sig) {i : ℕ} (hi : i < 7) : i ∈ L ((c : Thread nD τ), sm) := by
  rw [L_tc]; exact Finset.mem_range.mpr hi

/-- What a device owes at the kernel is owed at the kernel's indices, which lie above those of the exchange of the counts. -/
theorem due_at (D : Data F) (c : Dev nD) (g : GSem nD τ sig) (i : ℕ) (h : 0 < due D c g i) : i ∈ L g ∧ 4 < i := by
  obtain ⟨hi, hg⟩ := due_pos D c g i h
  unfold L; rw [if_pos hg]
  rcases hi with rfl | rfl
  · exact ⟨Finset.mem_range.mpr (by decide), by decide⟩
  · exact ⟨Finset.mem_range.mpr (by decide), by decide⟩

/-- What is still owed during that exchange is owed at an index above `k`, if both parts are. -/
theorem mayWait_cnt (D : Data F) (c : Dev nD) (sm : SemLoc sig) (k : ℕ) (hk : k ≤ 4) (O : CellTallies nD τ sig ℕ)
    (hO : ∀ g i, 0 < O g i → i ∈ L g ∧ k < i) :
    (levAts L lv : sProp 𝕄) ⊢ MayWait (c : Thread nD τ) sm k (due D c + O) :=
  MayOwe.of_cut (lev := lv) k
    (fun p hp => by rw [Finset.mem_singleton.mp hp]; exact mem_L c sm (by omega))
    (fun g i hg => by
      rcases Nat.eq_zero_or_pos (due D c g i) with h0 | h0
      · exact (hO g i (by have e : (due D c + O) g i = due D c g i + O g i := rfl
                          rw [e, h0, zero_add] at hg; exact hg)).1
      · exact (due_at D c g i h0).1)
    (fun p hp => by rw [Finset.mem_singleton.mp hp]; exact le_refl _)
    (fun g i hg => by
      rcases Nat.eq_zero_or_pos (due D c g i) with h0 | h0
      · exact (hO g i (by have e : (due D c + O) g i = due D c g i + O g i := rfl
                          rw [e, h0, zero_add] at hg; exact hg)).2
      · exact lt_of_le_of_lt hk (due_at D c g i h0).2)

theorem waitDue_at (c : Dev nD) (g : GSem nD τ sig) (i : ℕ) (h : 0 < aa0.waitDue c 2 3 g i) : i ∈ L g ∧ 1 < i := by
  rcases aa0.waitDue_pos h with ⟨-, d', -, rfl, rfl⟩ | ⟨d', -, rfl, rfl⟩
  · exact ⟨mem_L _ _ (by decide), by decide⟩
  · exact ⟨mem_L _ _ (by decide), by decide⟩

theorem wait_bar (D : Data F) (c : Dev nD) : (levAts L lv : sProp 𝕄)
    ⊢ MayWait (c : Thread nD τ) (.reg aa0.barrier) (aa0.waitIx 1 2 c) (due D c + aa0.waitDue c 2 3) :=
  mayWait_cnt D c _ _ (by unfold AllToAll.Cfg.waitIx; split <;> decide) _ fun g i hg =>
    ⟨(waitDue_at c g i hg).1, aa0.waitIx_lt_of_waitDue_pos (by decide) (by decide) hg⟩
theorem wait_copy (D : Data F) (c : Dev nD) : (levAts L lv : sProp 𝕄)
    ⊢ MayWait (c : Thread nD τ) (.dma aa0.csem) 1 (due D c + aa0.waitDue c 2 3) :=
  mayWait_cnt D c _ _ (by decide) _ fun g i hg => waitDue_at c g i hg
theorem wait_recv (D : Data F) (c : Dev nD) : (levAts L lv : sProp 𝕄) ⊢ MayWait (c : Thread nD τ) (.dma aa0.recv) 3 (due D c) := by
  have h := mayWait_cnt D c (.dma aa0.recv) 3 (by decide) 0 fun g i hg => absurd hg (Nat.lt_irrefl 0)
  rw [add_zero] at h; exact h
theorem wait_send (D : Data F) (c : Dev nD) : (levAts L lv : sProp 𝕄) ⊢ MayWait (c : Thread nD τ) (.dma aa0.send) 4 (due D c) := by
  have h := mayWait_cnt D c (.dma aa0.send) 4 (by decide) 0 fun g i hg => absurd hg (Nat.lt_irrefl 0)
  rw [add_zero] at h; exact h

theorem aa0_amount : 0 < aa0.amount := by decide +kernel

/-- What a device keeps for the kernel, its semaphores there not yet opened. -/
def keep (c : Dev nD) : sProp 𝕄 := iprop(∃ κ, waiting (dataOf m) κ c)

/-- That the semaphores of the exchange of the counts are under their invariants. -/
abbrev cntInvs : sProp 𝕄 := AllToAll.Once.invs aa0 EC (W1 m)

/-- What a device carries to the exchange of the counts, -/
abbrev cntRides (c : Dev nD) : sProp 𝕄 := AllToAll.Once.rides aa0 EC (W1 m) c

/-- and to it past the reshapes. -/
def rest0 (c : Dev nD) : sProp 𝕄 :=
  iprop(aa0.staged c ∗ cntRides m c ∗ (∃ W, owes (c : Thread nD τ) (due (dataOf m) c + cntDue c) W) ∗ keep m c)

/-- What it carries from it. -/
def after1 (c : Dev nD) : sProp 𝕄 := iprop(cntInvs m ∗ aa0.ghostAfter EC c 0)
def rest1 (c : Dev nD) : sProp 𝕄 :=
  iprop(after1 m c ∗ (∃ W, owes (c : Thread nD τ) (due (dataOf m) c) W) ∗ keep m c)

/-- The reshapes before the exchange of the counts, -/
def host0 : Pipeline.HostSeg (Ix := ℕ) (Name := ℕ) (U := UU) (Lvl := ℕ) (pcfgs (F := F)) defs₀ 𝒱₀ L lv :=
  Pipeline.HostSeg.ofOps (pcfgs (F := F)) defs₀ 𝒱₀ L lv S hostOps0
    (fun op h => Pipeline.sub_ucRefsBut scr op ((List.forall_iff_forall_mem.mp hostOps0_sub) op h) (hostOps0_noScr op h))
    (fun op h => (List.forall_iff_forall_mem.mp hostOps0_fresh) op h) (V0 m) (rest0 m)

/-- that exchange, -/
def cntSeg : Pipeline.HostSeg (Ix := ℕ) (Name := ℕ) (U := UU) (Lvl := ℕ) (pcfgs (F := F)) defs₀ 𝒱₀ L lv :=
  AllToAll.hostSegHeld₀ EC (pcfgs (F := F)) defs₀ 𝒱₀ L lv aa0_hw aa0_amount (W1 m) (due (dataOf m)) 1 2 1 3 4 3
    (wait_bar (dataOf m)) (wait_copy (dataOf m)) (wait_recv (dataOf m)) (wait_send (dataOf m))
    (fun c => iprop(StableHlo.held (c : Thread nD τ) (S \ aa0.siteRefs) (W1 m c) ∗ cntInvs m ∗ keep m c))

/-- and the reshapes after it. -/
def host1 : Pipeline.HostSeg (Ix := ℕ) (Name := ℕ) (U := UU) (Lvl := ℕ) (pcfgs (F := F)) defs₀ 𝒱₀ L lv :=
  Pipeline.HostSeg.ofOps (pcfgs (F := F)) defs₀ 𝒱₀ L lv S hostOps1
    (fun op h => Pipeline.sub_ucRefsBut scr op ((List.forall_iff_forall_mem.mp hostOps1_sub) op h) (hostOps1_noScr op h))
    (fun op h => (List.forall_iff_forall_mem.mp hostOps1_fresh) op h) (W2 m) (rest1 m)

/-! ## From one to the next -/

theorem site_sub : aa0.siteRefs ⊆ S := by decide +kernel

theorem to_cnt (c : Dev nD) : (host0 m).post c ⊢ (cntSeg m).pre c := by
  have e : (host0 m).post c = iprop(StableHlo.held (c : Thread nD τ) S (W1 m c) ∗ rest0 m c) := rfl
  rw [e, StableHlo.held_sub_split (c : Thread nD τ) site_sub (W1 m c)]
  unfold rest0 cntRides AllToAll.Once.rides
  dsimp only [cntSeg, AllToAll.hostSegHeld₀, AllToAll.Dat.rides]
  iintro ⟨⟨Hh, Hr⟩, Hs, ⟨#Hi, HR⟩, HO, HK⟩
  isplitl [Hh Hs]; · isplitl [Hh] <;> iassumption
  isplitl [HR]
  · isplitr; · iexact Hi
    iexact HR
  isplitl [HO]; · iexact HO
  isplitl [Hr]; · iexact Hr
  isplitr; · iexact Hi
  iexact HK

theorem from_cnt (c : Dev nD) : (cntSeg m).post c ⊢ (host1 m).pre c := by
  have e : (host1 m).pre c = iprop(StableHlo.held (c : Thread nD τ) S (W2 m c) ∗ rest1 m c) := rfl
  rw [e, StableHlo.held_sub_split (c : Thread nD τ) site_sub (W2 m c),
    StableHlo.held_congr (c : Thread nD τ) (S := S \ aa0.siteRefs) (V := W2 m c) (V' := W1 m c)
      fun b hb => aa0.after₀_off_siteRefs (W1 m) c (Finset.mem_sdiff.mp hb).2]
  unfold rest1 after1
  dsimp only [cntSeg, AllToAll.hostSegHeld₀]
  iintro ⟨⟨Hh, -⟩, Hg, HO, Hr, Hi, HK⟩
  isplitl [Hh Hr]; · isplitl [Hh] <;> iassumption
  isplitl [Hi Hg]; · isplitl [Hi] <;> iassumption
  isplitl [HO] <;> iassumption

theorem to_kernel (hok : (dataOf m).Ok) (c : Dev nD) : (host1 m).post c ⊢ (kernelSeg m hok (after1 m)).pre c := by
  have e : (host1 m).post c = iprop(StableHlo.held (c : Thread nD τ) S (W3 m c) ∗ rest1 m c) := rfl
  have e' : (kernelSeg m hok (after1 m)).pre c = kernelPre m (after1 m) c := rfl
  rw [e, e']
  unfold rest1 kernelPre keep
  iintro ⟨Hh, Ha, HO, HK⟩
  isplitl [Hh]; · iexact Hh
  isplitl [HK]; · iexact HK
  isplitl [HO] <;> iassumption

end Cert.KernelIdeal.Exchange
end
-- ==== Proof.Launch.lean ====
/-
  The launch: the kernel's semaphores are put under the protocol, what the devices pay and wait with is dealt out, and every device gets
  what it enters the program with.
-/
module

public import proofs.«01_k».proof.Proof.Segments

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (D : Data F)

/-! ## Cells and tokens -/

theorem kindOf_osem_inl (j : Chunk) : kindOf (osem (.inl j)) = .snd j := kindOf_snd j
theorem kindOf_osem_inr (j : Chunk) : kindOf (osem (.inr j)) = .rcv j := kindOf_rcv j

theorem osem_ne_bar (x : Chunk ⊕ Chunk) : osem x ≠ .reg barS := by
  intro h
  cases x <;> exact nomatch h

theorem osem_inj : Function.Injective osem := by
  intro x y h
  have hk := congrArg kindOf h
  cases x <;> cases y
  · rw [kindOf_osem_inl, kindOf_osem_inl] at hk; rw [Kind.snd.inj hk]
  · rw [kindOf_osem_inl, kindOf_osem_inr] at hk; exact nomatch hk
  · rw [kindOf_osem_inr, kindOf_osem_inl] at hk; exact nomatch hk
  · rw [kindOf_osem_inr, kindOf_osem_inr] at hk; rw [Kind.rcv.inj hk]

theorem dev_of_cell {c d : Dev nD} {s t : SemLoc sig} (h : (((c : Thread nD τ), s) : GSem nD τ sig) = ((d : Thread nD τ), t)) : c = d :=
  congrArg (fun g : GSem nD τ sig => g.1.1) h

/-- The barriers, -/
def barEmb : Dev nD ↪ GSem nD τ sig := ⟨fun c => barCell c, fun _ _ h => dev_of_cell h⟩
/-- and the chunks' semaphores. -/
def cellEmb : Dev nD × (Chunk ⊕ Chunk) ↪ GSem nD τ sig :=
  ⟨fun x => ((x.1 : Thread nD τ), osem x.2), fun _ _ h => Prod.ext (dev_of_cell h) (osem_inj (congrArg Prod.snd h))⟩

abbrev barCells : Finset (GSem nD τ sig) := Finset.univ.map barEmb
abbrev chunkCells : Finset (GSem nD τ sig) := Finset.univ.map cellEmb

theorem cells_disjoint : Disjoint barCells chunkCells := by
  rw [Finset.disjoint_left]
  intro g h h'
  obtain ⟨c, -, rfl⟩ := Finset.mem_map.mp h
  obtain ⟨x, -, e⟩ := Finset.mem_map.mp h'
  exact osem_ne_bar x.2 (congrArg Prod.snd e)

/-- The cell of the duty that device `c` has at a barrier, at a departure, or at an arrival. -/
def dutyCell (c : Dev nD) : Dev nD ⊕ (Chunk ⊕ Chunk) → GSem nD τ sig
  | .inl p => barCell p
  | .inr (.inl j) => sndCell c j
  | .inr (.inr j) => rcvCell j.1 (c, j.2)

theorem dutyCell_inj (c : Dev nD) : Function.Injective (dutyCell c) := by
  intro x y h
  have hk := congrArg (fun g : GSem nD τ sig => kindOf g.2) h
  have hd := congrArg (fun g : GSem nD τ sig => g.1.1) h
  rcases x with p | j | j <;> rcases y with p' | j' | j' <;> dsimp only [dutyCell] at hk hd <;>
    simp only [kindOf_bar, kindOf_snd, kindOf_rcv, Kind.snd.injEq, Kind.rcv.injEq, reduceCtorEq, Prod.mk.injEq, true_and] at hk
  · exact congrArg Sum.inl hd
  · rw [hk]
  · exact congrArg (fun j => Sum.inr (Sum.inr j)) (Prod.ext hd hk)

/-- Every duty's token. -/
def tokens : Finset (GSem nD τ sig × ℕ × Dev nD) :=
  Finset.univ.map ⟨fun x : Dev nD × (Dev nD ⊕ (Chunk ⊕ Chunk)) => (dutyCell x.1 x.2, 0, x.1), fun x y h => by
    have h1 : x.1 = y.1 := congrArg (fun t : GSem nD τ sig × ℕ × Dev nD => t.2.2) h
    have h2 : dutyCell x.1 x.2 = dutyCell y.1 y.2 := congrArg (fun t : GSem nD τ sig × ℕ × Dev nD => t.1) h
    rw [← h1] at h2
    exact Prod.ext h1 (dutyCell_inj x.1 h2)⟩

theorem tokens_eq : bigSep tokens (fun t => (dutyTok ER t.1 t.2.1 t.2.2 : sProp 𝕄)) = bigSep Finset.univ fun c : Dev nD => duties c := by
  unfold tokens; rw [bigSep_map, bigSep_univ_prod]
  refine bigSep_congr fun c _ => ?_
  rw [bigSep_univ_sum, bigSep_univ_sum]
  rfl

/-! ## The credits -/

theorem barDue_apply (d : Dev nD) (g : GSem nD τ sig) (i : ℕ) :
    barDue d 0 g i = ∑ p : Dev nD, if d ≠ p ∧ g = barCell p ∧ i = ιB then 1 else 0 := by
  unfold barDue
  rw [Finset.sum_apply, Finsupp.finset_sum_apply]
  refine Finset.sum_congr rfl fun p _ => ?_
  rw [if_neg (Nat.not_lt_zero _)]
  by_cases h : d ≠ p
  · rw [if_pos h, tallyAt_apply]; simp only [h, ne_eq, not_false_eq_true, true_and]
  · rw [if_neg h, if_neg fun h' => h h'.1]; rfl

theorem rowDue_apply (d : Dev nD) (g : GSem nD τ sig) (i : ℕ) :
    rowDue D d 0 g i = ∑ j : Chunk, if sends D d j ∧ g = rcvCell j.1 (d, j.2) ∧ i = ιC then N else 0 := by
  unfold rowDue
  rw [Finset.sum_apply, Finsupp.finset_sum_apply]
  refine Finset.sum_congr rfl fun j _ => ?_
  rw [if_neg (Nat.not_lt_zero _)]
  by_cases h : sends D d j
  · rw [if_pos h, tallyAt_apply]; simp only [h, true_and]
  · rw [if_neg h, if_neg fun h' => h h'.1]; rfl

theorem rcv_ne_bar (c d : Dev nD) (j : Chunk) : rcvCell c j ≠ barCell d := fun h => nomatch congrArg Prod.snd h

theorem rcv_cell_inj {c d : Dev nD} {j k : Chunk} (h : rcvCell c j = rcvCell d k) : c = d ∧ j = k := by
  have hk := congrArg (fun g : GSem nD τ sig => kindOf g.2) h
  dsimp only at hk
  rw [kindOf_rcv, kindOf_rcv] at hk
  exact ⟨dev_of_cell h, Kind.rcv.inj hk⟩

/-- What a device owes a barrier: one entry, if it is another's. -/
theorem due_bar (d c : Dev nD) (i : ℕ) : due D d (barCell c) i = if d ≠ c ∧ i = ιB then 1 else 0 := by
  have e : due D d (barCell c) i = barDue d 0 (barCell c) i + rowDue D d 0 (barCell c) i := rfl
  rw [e, barDue_apply, rowDue_apply, Finset.sum_eq_zero (s := (Finset.univ : Finset Chunk)) fun j _ => if_neg fun h => rcv_ne_bar _ _ _ h.2.1.symm,
    add_zero, Finset.sum_eq_single c (fun p _ hp => if_neg fun h => hp (dev_of_cell h.2.1).symm) (fun h => absurd (Finset.mem_univ c) h)]
  simp only [true_and]

/-- What a device owes an arrival cell: a chunk, if it is the one to send it. -/
theorem due_rcv (d c : Dev nD) (j : Chunk) (i : ℕ) : due D d (rcvCell c j) i = if d = j.1 ∧ gets D c j ∧ i = ιC then N else 0 := by
  have e : due D d (rcvCell c j) i = barDue d 0 (rcvCell c j) i + rowDue D d 0 (rcvCell c j) i := rfl
  rw [e, barDue_apply, rowDue_apply, Finset.sum_eq_zero (s := (Finset.univ : Finset (Dev nD))) fun p _ => if_neg fun h => rcv_ne_bar _ _ _ h.2.1,
    zero_add, Finset.sum_eq_single ((c, j.2) : Chunk)
      (fun k _ hk => if_neg fun h => by
        obtain ⟨h1, h2⟩ := rcv_cell_inj h.2.1
        exact hk (Prod.ext h1.symm (by rw [h2])))
      (fun h => absurd (Finset.mem_univ _) h)]
  by_cases hd : d = j.1
  · subst hd
    simp only [true_and]
  · rw [if_neg fun h => hd (congrArg Prod.fst (rcv_cell_inj h.2.1).2).symm, if_neg fun h => hd h.1]

theorem launch_bar (c : Dev nD) :
    tallyOn (barCell c) (launchCredit (Pipeline.owing (due D)) 0 (barCell c)) = (tallyAt (barCell c) ιB 7 : CellTallies nD τ sig ℕ) := by
  unfold tallyAt
  refine congrArg _ (Finsupp.ext fun i => ?_)
  rw [Pipeline.launchCredit_owing, Finset.sum_congr rfl fun d _ => due_bar D d c i, Finsupp.single_apply]
  by_cases h : i = ιB
  · subst h
    simp only [and_true, if_true]
    revert c; decide
  · rw [if_neg fun e => h e.symm]
    exact Finset.sum_eq_zero fun d _ => if_neg fun e => h e.2

theorem launch_rcv (c : Dev nD) (j : Chunk) (hg : gets D c j) :
    tallyOn (rcvCell c j) (launchCredit (Pipeline.owing (due D)) 0 (rcvCell c j)) = (tallyAt (rcvCell c j) ιC N : CellTallies nD τ sig ℕ) := by
  unfold tallyAt
  refine congrArg _ (Finsupp.ext fun i => ?_)
  rw [Pipeline.launchCredit_owing, Finset.sum_congr rfl fun d _ => due_rcv D d c j i, Finsupp.single_apply]
  by_cases h : i = ιC
  · subst h
    simp only [hg, and_true, if_true]
    exact Finset.sum_ite_eq' Finset.univ j.1 _ |>.trans (if_pos (Finset.mem_univ _))
  · rw [if_neg fun e => h e.symm]
    exact Finset.sum_eq_zero fun d _ => if_neg fun e => h e.2.2

/-- The arrival semaphores. -/
def rcvEmb : Chunk ↪ SemLoc sig := ⟨fun j => .dma (rcvS j), fun x y h => Sum.inr_injective (osem_inj (a₁ := .inr x) (a₂ := .inr y) h)⟩

theorem credits_dealt (c : Dev nD) : (Pipeline.launchCred (due D) c : sProp 𝕄) ⊢ credits D c := by
  unfold Pipeline.launchCred credits
  rw [bigSep_univ_at _ (SemLoc.reg barS), launch_bar]
  refine sep_mono_right ?_
  have hs : Finset.univ.map rcvEmb ⊆ (Finset.univ : Finset (SemLoc sig)).erase (SemLoc.reg barS) := fun s hs => by
    obtain ⟨j, -, rfl⟩ := Finset.mem_map.mp hs
    exact Finset.mem_erase.mpr ⟨(fun h => nomatch h), Finset.mem_univ _⟩
  refine (bigSep_subset hs).trans ?_
  rw [bigSep_map]
  refine bigSep_mono fun j _ => ?_
  show cred (tallyOn (rcvCell c j) (launchCredit (Pipeline.owing (due D)) 0 (rcvCell c j))) ⊢ _
  by_cases hg : gets D c j
  · rw [whenP_pos hg, launch_rcv D c j hg]
  · rw [whenP_neg hg]
    iintro -; iempintro

/-! ## The launch -/

/-- What the devices owe each other at launch. -/
def O₀ (c : Dev nD) : CellTallies nD τ sig ℕ := due (dataOf m) c + cntDue c

/-- A device's unscoped semaphores: four for the exchange of the counts, and the kernel's barrier. -/
theorem sems_eq (c : Dev nD) : (unscopedSems0 c : sProp 𝕄)
    = iprop((semVal (aa0.barrierCell c) 0 ∗ semVal (aa0.recvCell c) 0 ∗ semVal (aa0.sendCell c) 0 ∗ semVal (aa0.copyCell c) 0) ∗ semVal (barCell c) 0) := by
  unfold unscopedSems0
  have h1 : (iprop((semVal (aa0.barrierCell c) 0 ∗ semVal (aa0.recvCell c) 0 ∗ semVal (aa0.sendCell c) 0 ∗ semVal (aa0.copyCell c) 0) ∗ semVal (barCell c) 0) : sProp 𝕄)
      ⊣⊢ iprop(semVal (aa0.barrierCell c) 0 ∗ semVal (aa0.recvCell c) 0 ∗ semVal (aa0.sendCell c) 0 ∗ semVal (aa0.copyCell c) 0 ∗ semVal (barCell c) 0) := by
    constructor
    · iintro ⟨⟨H1, H2, H3, H4⟩, H5⟩
      isplitl [H1]; · iexact H1
      isplitl [H2]; · iexact H2
      isplitl [H3]; · iexact H3
      isplitl [H4] <;> iassumption
    · iintro ⟨H1, H2, H3, H4, H5⟩
      isplitr [H5]; swap; · iexact H5
      isplitl [H1]; · iexact H1
      isplitl [H2]; · iexact H2
      isplitl [H3] <;> iassumption
  rw [(h1.1).antisymm h1.2,
    bigSep_eq_bigSepL_of_eq [SemLoc.reg aa0.barrier, .dma aa0.recv, .dma aa0.send, .dma aa0.csem, .reg barS] (by decide) (by decide)]
  rfl

/-- What the launch provides of the two protocols' algebras. -/
def dealt : sProp 𝕄 :=
  iprop(BI.own (EC (AllToAll.Once.uC (U := UU) aa0 (W1 m))) ∗ BI.own (ER (launchOf barCells chunkCells tokens)))

/-- A device's own part of the kernel's protocol. -/
def share (c : Dev nD) : sProp 𝕄 :=
  iprop(atPos ER (barCell c) 0 ∅ 0 ∗ duties c
    ∗ (bigSep Finset.univ fun j : Chunk => openTok ER (sndCell c j)) ∗ (bigSep Finset.univ fun j : Chunk => openTok ER (rcvCell c j)))

/-- The kernel's protocol, put up. -/
theorem set_up {Es : Set ℕ} :
    iprop((bigSep Finset.univ fun c : Dev nD => semVal (barCell c) 0) ∗ BI.own (ER (launchOf barCells chunkCells tokens)))
      ⊢ (|={Es}=> ∃ κ, records D κ ∗ bigSep Finset.univ fun c : Dev nD => share c : sProp 𝕄) :=
  set_up_cells ER (sched D) barEmb cellEmb cells_disjoint (fun _ _ h => h) tokens duties tokens_eq

/-- A device's unscoped buffers: those the host operations work on, and the staging buffer of the exchange of the counts. -/
theorem bufs_split (c : Dev nD) : (unscopedBufs c (fun b => m ((c : Thread nD τ).loc b)) : sProp 𝕄)
    ⊢ iprop(StableHlo.held (c : Thread nD τ) S (V0 m c) ∗ aa0.staged c) := by
  have hS : (S : Finset (DevRef τ sig)) = (Pipeline.ucRefs τ sig).erase (Proc.devRef .tc main_v3_stage) := by decide +kernel
  have hmem : (Proc.devRef .tc main_v3_stage : DevRef τ sig) ∈ Pipeline.ucRefs τ sig := by decide +kernel
  have e : (StableHlo.held (c : Thread nD τ) (Pipeline.ucRefs τ sig) (V0 m c) : sProp 𝕄)
      = iprop((((c : Dev nD), (Proc.devRef .tc main_v3_stage : DevRef τ sig)) ↦{fullShare} V0 m c (Proc.devRef .tc main_v3_stage))
        ∗ StableHlo.held (c : Thread nD τ) S (V0 m c)) := by
    rw [hS]
    unfold StableHlo.held
    conv_lhs => rw [← Finset.insert_erase hmem]
    exact bigSep_insert (Finset.notMem_erase _ _)
  rw [show unscopedBufs c (fun b => m ((c : Thread nD τ).loc b)) = StableHlo.held (c : Thread nD τ) (Pipeline.ucRefs τ sig) (V0 m c)
    from Pipeline.unscopedBufs_held (Ix := ℕ) (Name := ℕ) (U := UU) (Lvl := ℕ) c (V0 m c), e]
  iintro ⟨Hs, Hh⟩
  isplitl [Hh]; · iexact Hh
  iapply (AllToAll.Once.staged_of_whole aa0 rfl c _); iexact Hs

variable (ρ : Dev nD → PrngReg)

/-- What the launch leaves with a device. -/
def bundle (c : Dev nD) : sProp 𝕄 :=
  iprop(StableHlo.held (c : Thread nD τ) S (V0 m c) ∗ aa0.staged c ∗ owes (c : Thread nD τ) (O₀ m c) ∅ ∗ credits (dataOf m) c)

/-- What a device enters the program with. -/
theorem enter_main (κ : GSem nD τ sig → ℕ) (c : Dev nD) :
    iprop(records (dataOf m) κ ∗ (share c ∗ cntRides m c ∗ bundle m c)) ⊢ (host0 m).pre c := by
  have e : (host0 m).pre c = iprop(StableHlo.held (c : Thread nD τ) S (V0 m c) ∗ rest0 m c) := rfl
  rw [e]
  unfold rest0 keep waiting share bundle O₀
  iintro ⟨#HR, ⟨Ha, Hd, Ho1, Ho2⟩, Hr, Hh, Hs, HO, Hc⟩
  isplitl [Hh]; · iexact Hh
  isplitl [Hs]; · iexact Hs
  isplitl [Hr]; · iexact Hr
  isplitl [HO]; · iexists ∅; iexact HO
  iexists κ
  isplitr; · iexact HR
  isplitl [Ha]; · iexact Ha
  isplitl [Hd]; · iexact Hd
  isplitl [Hc]; · iexact Hc
  isplitl [Ho1] <;> iassumption

theorem core_split (c : Dev nD) :
    iprop(unscopedBufs c (fun b => m ((c : Thread nD τ).loc b)) ∗ unscopedSems0 c
        ∗ owes (c : Thread nD τ) (O₀ m c) ∅ ∗ Pipeline.launchCred (O₀ m) c ∗ prngReg c (ρ c) ∗ parked (dealt m) c)
      ⊢ (iprop(((semVal (aa0.barrierCell c) 0 ∗ semVal (aa0.recvCell c) 0 ∗ semVal (aa0.sendCell c) 0 ∗ semVal (aa0.copyCell c) 0)
            ∗ Pipeline.launchCred cntDue c)
          ∗ semVal (barCell c) 0 ∗ parked (dealt m) c ∗ bundle m c) : sProp 𝕄) := by
  rw [sems_eq, show Pipeline.launchCred (O₀ m) c = _ from Pipeline.launchCred_add (due (dataOf m)) cntDue c]
  unfold bundle
  iintro ⟨Hb, ⟨Hs, HB⟩, HO, ⟨Hd, Hk⟩, -, HG⟩
  ihave Hb := (bufs_split m c) $$ Hb
  icases Hb with ⟨Hh, Hst⟩
  isplitl [Hs Hk]; · isplitl [Hs] <;> iassumption
  isplitl [HB]; · iexact HB
  isplitl [HG]; · iexact HG
  isplitl [Hh]; · iexact Hh
  isplitl [Hst]; · iexact Hst
  isplitl [HO]; · iexact HO
  iapply (credits_dealt (dataOf m) c); iexact Hd

/-- What the launch deals the devices becomes what they enter the program with. -/
theorem init :
    iprop((bigSep Finset.univ fun c : Dev nD => iprop(unscopedBufs c (fun b => m ((c : Thread nD τ).loc b)) ∗ unscopedSems0 c
          ∗ owes (c : Thread nD τ) (O₀ m c) ∅ ∗ Pipeline.launchCred (O₀ m) c ∗ prngReg c (ρ c) ∗ parked (dealt m) c)) ∗ levAts L lv)
      ⊢ (|={Set.univ}=> bigSep Finset.univ fun c => (host0 m).pre c : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ m c) ∅ ∗ Pipeline.launchCred (O₀ m) c ∗ prngReg c (ρ c) ∗ parked (dealt m) c))
      ⊢ (bigSep Finset.univ fun c : Dev nD => iprop(((semVal (aa0.barrierCell c) 0 ∗ semVal (aa0.recvCell c) 0 ∗ semVal (aa0.sendCell c) 0 ∗ semVal (aa0.copyCell c) 0)
            ∗ Pipeline.launchCred cntDue c)
          ∗ semVal (barCell c) 0 ∗ parked (dealt m) c ∗ bundle m c) : sProp 𝕄) from bigSep_mono fun c _ => core_split m ρ c) $$ H
  ihave H := pair_off $$ H; icases H with ⟨Hc, H⟩
  ihave H := pair_off $$ H; icases H with ⟨Hv, H⟩
  ihave H := pair_off $$ H; icases H with ⟨HG, HB⟩
  ihave HG := (Entails.of_eq (parked_eq (dealt m))) $$ HG
  unfold dealt
  icases HG with ⟨HC, HE⟩
  imod ((AllToAll.Dat.once aa0 (W1 m)).fund_rides EC 1 2 3 (Es := Set.univ)) $$ [Hc HC] with Hr
  · isplitl [Hc]; · iexact Hc
    iexact HC
  imod (set_up (dataOf m) (Es := Set.univ)) $$ [Hv HE] with ⟨%κ, #HR, Hsh⟩
  · isplitl [Hv] <;> iassumption
  imodintro
  iapply (bigSep_with_persistent (R := records (dataOf m) κ) (Φ := fun c => iprop(share c ∗ cntRides m c ∗ bundle m c)) fun c _ => enter_main m κ c)
  isplitr; · iexact HR
  iapply pair_up; isplitl [Hsh]; · iexact Hsh
  iapply pair_up; isplitl [Hr]; · iexact Hr
  iexact HB

end Cert.KernelIdeal.Exchange
end
-- ==== Proof.Run.lean ====
/-
  The run: from any memory whose offsets stay within the pack, the program terminates on every device, its arguments unchanged and every
  semaphore at zero, and a device's result holds its own rows and every run of rows that is sent to it.
-/
module

public import proofs.«01_k».proof.Proof.Launch
public import Idealize.ShloMosaic.Lib.Pipeline.ArrRel
public import Idealize.ShloMosaic.Lib.Quiescent

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-- The program's items, in order. -/
def items (hok : (dataOf m).Ok) : List (Pipeline.RDat.Seg (pcfgs (F := F)) adm (rdats m) 0 defs₀ 𝒱₀ L lv) :=
  [.host (host0 m), .host (cntSeg m), .host (host1 m), .region (kernelSeg m hok (after1 m))]

/-- What a device holds at the end. -/
def atEnd (c : Dev nD) : sProp 𝕄 :=
  iprop((rdats m 0 c).arraysAt (Pipeline.pin (pcfgs (F := F)) adm 0).N
    ∗ StableHlo.held (c : Thread nD τ) (S \ Pipeline.arrRefs spec0) (W3 m c) ∗ semVal (barCell c) 0 ∗ after1 m c)

/-- What a device's part of the memory is at the end. -/
def Ends (c : Dev nD) (s : MemSt nD τ sig (Elt F)) : Prop :=
  (∀ w, (rdats m 0 c).ArrAt w (Pipeline.pin (pcfgs (F := F)) adm 0).N (s.mem ((spec0 w).arr.view.loc (c : Thread nD τ))))
    ∧ (∀ b ∈ S \ Pipeline.arrRefs spec0, s.mem ((c : Dev nD), b) = W3 m c b)
    ∧ ∀ sm : SemLoc sig, sm.isScoped .tc = false → s.sem ((c : Thread nD τ), sm) = 0

/-- The unscoped semaphores are back at zero. -/
theorem sems_back (c : Dev nD) : iprop(semVal (barCell c) 0 ∗ after1 m c) ⊢ (|={Set.univ}=> unscopedSems0 c : sProp 𝕄) := by
  have h := (AllToAll.Dat.once aa0 (W1 m)).ghostAfter_close (EC (F := F)) c (k := 0) le_rfl
  rw [sems_eq]
  unfold after1
  iintro ⟨HB, Ha⟩
  imod h $$ Ha with Hs
  imodintro
  isplitl [Hs] <;> iassumption

theorem arrays_read (c : Dev nD) (s' : Phys nD τ sig (Elt F)) : iprop(atEnd m c ∗ SI s')
    ⊢ (⌜∀ w, (rdats m 0 c).ArrAt w (Pipeline.pin (pcfgs (F := F)) adm 0).N (s'.mem.mem ((spec0 w).arr.view.loc (c : Thread nD τ)))⌝ : sProp 𝕄) := by
  have h := Pipeline.RDat.arraysAt_read (pcfgs (F := F)) adm (rdats m) 0 c arr_whole0 (Pipeline.pin (pcfgs (F := F)) adm 0).N s'
  unfold atEnd
  iintro ⟨⟨Ha, -⟩, HSI⟩
  ihave H := h $$ [Ha HSI]
  · isplitl [Ha] <;> iassumption
  icases H with ⟨%hp, -⟩
  ipureintro; exact hp

theorem held_read (c : Dev nD) (s' : Phys nD τ sig (Elt F)) : iprop(atEnd m c ∗ SI s')
    ⊢ (⌜∀ b ∈ S \ Pipeline.arrRefs spec0, s'.mem.mem ((c : Dev nD), b) = W3 m c b⌝ : sProp 𝕄) := by
  have h : iprop(SI s' ∗ StableHlo.held (c : Thread nD τ) (S \ Pipeline.arrRefs spec0) (W3 m c))
      ⊢ (⌜∀ b ∈ S \ Pipeline.arrRefs spec0, s'.mem.mem ((c : Dev nD), b) = W3 m c b⌝ : sProp 𝕄) :=
    SI_pointsTo_bufs_agree (qs := fun _ => fullShare) (S \ Pipeline.arrRefs spec0)
  unfold atEnd
  iintro ⟨⟨-, Hh, -⟩, HSI⟩
  iapply h
  isplitl [HSI] <;> iassumption

theorem end_read (c : Dev nD) (s' : Phys nD τ sig (Elt F)) : iprop(atEnd m c ∗ SI s') ⊢ |={Set.univ}=> iprop(⌜Ends m c s'.mem⌝ ∗ SI s') := by
  refine Laws.pure_elim _ (arrays_read m c s') fun h1 => ?_
  refine Laws.pure_elim _ (held_read m c s') fun h2 => ?_
  have h := Pipeline.unscopedSems0_read (sems_back m c) s'
  unfold atEnd
  iintro ⟨⟨-, -, Hs⟩, HSI⟩
  imod h $$ [Hs HSI] with ⟨%h3, HSI⟩
  · isplitl [Hs] <;> iassumption
  imodintro
  isplitr; · ipureintro; exact ⟨h1, h2, h3⟩
  iexact HSI

theorem whole4 : (cfg0.win 4).WholeAt t0_0 := by decide +kernel

/-- The result's array. -/
theorem result_end (c : Dev nD) (s : MemSt nD τ sig (Elt F)) (h : Ends m c s) :
    Good (dataOf m) c (s.mem ((c : Thread nD τ).loc main_v6)) := by
  obtain ⟨X, ⟨Y, -, hX⟩, hG⟩ := Pipeline.RDat.ArrAt.emb_eq_of_wholeAt (h.1 4) (t₀ := t0_0) whole4
  have hX : Good (dataOf m) c X := hX
  have e : s.mem ((c : Thread nD τ).loc main_v6) = X := funext fun j => hG j
  rw [e]; exact hX

/-- The arguments are as launched. -/
theorem args_end (c : Dev nD) (s : MemSt nD τ sig (Elt F)) (h : Ends m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2) := by
  refine ⟨?_, ?_, ?_⟩
  · exact (h.2.1 (Proc.devRef .tc main_arg0) (by decide +kernel)).trans (W3_args m c main_arg0 (by decide))
  · exact (h.2.1 (Proc.devRef .tc main_arg1) (by decide +kernel)).trans (W3_args m c main_arg1 (by decide))
  · have h3 := h.1 3
    rw [Pipeline.RDat.ArrAt_in (rdats m 0 c) 3 rfl] at h3
    exact h3.trans (W3_args m c main_arg2 (by decide))

set_option backward.isDefEq.respectTransparency.types false in
theorem run_main (hok : (dataOf m).Ok) :
    θ_run (defs (F := F)) (onTc (τ := τ) (main (F := F))) ⟨m, fun _ => 0, ρ⟩ fun r =>
      (∀ c : Dev nD, Good (dataOf m) c (r.2.mem ((c : Thread nD τ).loc main_v6))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0 :=
  Pipeline.RDat.θ_run_regions_kit_sems (pcfgs (F := F)) adm (rdats m) 0 cellOf_inj EP defs₀ 𝒱₀ L lv m ρ main (items m hok)
    (fun c Q => by
      rewrite [main_chain c, Pipeline.RDat.Seg.run_eq_chain,
        show (items m hok).map Pipeline.RDat.Seg.prog = [
          StableHlo.seq hostOps0,
          StableHlo.allToAll aa0 aa0_hw,
          StableHlo.seq hostOps1,
          Prog.lift (.customCall (Pipeline.entry 0) ()) ] from rfl]
      exact .rfl)
    (by simp only [items, Pipeline.RDat.Seg.pipes_host, Pipeline.RDat.Seg.pipes_region, Pipeline.RDat.Seg.pipes_nil]; decide)
    (O₀ := O₀ m) (hL := L_of_ne) (G := parked (dealt m))
    (u₀ := (initOf (Pipeline.cells (Pipeline.pin (pcfgs (F := F)) adm) cellOf_inj) (Pipeline.launchToks (Pipeline.pin (pcfgs (F := F)) adm) cellOf_inj),
      (AllToAll.Once.uC (U := UU) aa0 (W1 m), launchOf barCells chunkCells tokens)))
    (hu₀ := by
      iintro Hu
      ihave H := (ownU_pair _ _) $$ Hu
      icases H with ⟨HP, HX⟩
      ihave H := (own_pair_emb embR _ _) $$ HX
      imodintro
      isplitl [HP]; · iexact HP
      rw [parked_eq]; unfold dealt EC ER
      iexact H)
    (T₀ := fun c => (host0 m).pre c) (Tₙ := atEnd m)
    (hch := ⟨fun c => .rfl, fun c => to_cnt m c, fun c => from_cnt m c, fun c => to_kernel m hok c, fun c => by
      have e : (kernelSeg m hok (after1 m)).post c = kernelPost m (after1 m) c := rfl
      show (kernelSeg m hok (after1 m)).post c ⊢ _
      rw [e]; unfold kernelPost atEnd
      iintro ⟨Ha, Hh, HB, HO, HR⟩
      isplitr [HO]; swap; · iexact HO
      isplitl [Ha]; · iexact Ha
      isplitl [Hh]; · iexact Hh
      isplitl [HB] <;> iassumption⟩)
    (hinit := init m ρ)
    (QY := Ends m)
    (hfin := fun c s' => end_read m c s')
    (hQ := fun s h hs => ⟨fun c => ⟨result_end m c s (h c), args_end m c s (h c)⟩, sem_eq_zero hs fun c => (h c).2.2⟩)

end Cert.KernelIdeal.Exchange
end
-- ==== Proof.Rows.lean ====
/-
  The reference read at an index. On one device it gathers, for receiver `d`, sender `s` and row `r`, row
  `offs[s, d] + r` of sender `s`'s rows. Its row words may wrap and its gather clamps; under the bound on the offsets
  neither happens, and the result's block `8 d + s`, row `r`, is that row (`whole_apply`).
-/
module

public import proofs.«01_k».proof.Proof.Gen.ReferenceIdeal
public import Idealize.ShloMosaic.Lib.Pipeline.Value
public import Idealize.ShloMosaic.Lib.ValueLayout
public import Idealize.ShloMosaic.Lib.ValueIdxCore

@[expose] public section

noncomputable section

namespace Cert.ReferenceIdeal.Rows

open Cert.ReferenceIdeal Cert.ReferenceIdeal.Gen Idealize.ShloMosaic Idealize.ShloMosaic.ValueIdx

/-- The row words: sender `s`'s offset for receiver `d`, plus the row's number. -/
def rowWords (o : IVec S8x8 32) : IVec S8x8x384 32 :=
  addi (broadcastInDim S8x8x384 ![0, 1, 2] bcast_S8x8x1_S8x8x384_0_1_2
      (broadcastInDim S8x8x1 ![0, 1] bcast_S8x8_S8x8x1_0_1 (transpose S8x8 [1, 0] o transposes_S8x8_S8x8_1_0)))
    (broadcastInDim S8x8x384 ![0, 1, 2] bcast_S1x1x384_S8x8x384_0_1_2
      (broadcastInDim S1x1x384 ![2] bcast_S384_S1x1x384_2 (iotaInDim S384 32 0)))

/-- The sender words: the second coordinate. -/
def senderWords : IVec S8x8x384 32 :=
  broadcastInDim S8x8x384 ![0, 1, 2] bcast_S1x8x1_S8x8x384_0_1_2
    (broadcastInDim S1x8x1 ![1] bcast_S8_S1x8x1_1 (iotaInDim S8 32 0))

/-- An index array with its negative entries counted from the end of an axis of length `n`. -/
def fromEnd (n : BitVec 32) (v : IVec S8x8x384 32) : IVec S8x8x384 32 :=
  select (cmpi .slt v (broadcastInDim S8x8x384 ![] bcast_S_S8x8x384 (constantI S_ 32 0#32)))
    (addi v (broadcastInDim S8x8x384 ![] bcast_S_S8x8x384 (constantI S_ 32 n))) v

/-- The start indices of the gather: sender and row, side by side. -/
def starts (o : IVec S8x8 32) : IVec S8x8x384x2 32 :=
  concatenate S8x8x384x2 3
    [⟨S8x8x384x1, broadcastInDim S8x8x384x1 ![0, 1, 2] bcast_S8x8x384_S8x8x384x1_0_1_2 (fromEnd 8#32 senderWords)⟩,
      ⟨S8x8x384x1, broadcastInDim S8x8x384x1 ![0, 1, 2] bcast_S8x8x384_S8x8x384x1_0_1_2 (fromEnd 2432#32 (rowWords o))⟩]
    concatenates_S8x8x384x1_S8x8x384x1_S8x8x384x2_d3

/-- The reference's result of the offsets `o` and the rows `x`. -/
def whole {α : Type} (o : IVec S8x8 32) (x : S19456x8x128.Idx → α) : S64x384x8x128.Idx → α :=
  shapeCast S64x384x8x128
    (Host.gather gather_S8x2432x8x128_S8x8x384x2_S8x8x384x8x128_34_01_n_n_01_3_118128
      (shapeCast S8x2432x8x128 x shapeCasts_S19456x8x128_S8x2432x8x128) (starts o))
    shapeCasts_S8x8x384x8x128_S64x384x8x128

theorem rowWords_apply (o : IVec S8x8 32) (d s : Fin 8) (r : Fin 384) :
    rowWords o (ix3 d s r) = o (ix2 s d) + BitVec.ofNat 32 r.val := by
  rw [← transpose_ix2_apply o transposes_S8x8_S8x8_1_0 d s]
  show transpose S8x8 [1, 0] o _ _ + BitVec.ofNat 32 _ = _
  congr 2
  funext a
  match a with
  | ⟨0, _⟩ => rfl
  | ⟨1, _⟩ => rfl

theorem senderWords_apply (d s : Fin 8) (r : Fin 384) : senderWords (ix3 d s r) = BitVec.ofNat 32 s.val := rfl

/-- An entry that is not negative is left. -/
theorem fromEnd_apply (n : BitVec 32) (v : IVec S8x8x384 32) (j : S8x8x384.Idx) (h : (v j).toNat < 2147483648) :
    fromEnd n v j = v j := by
  show Scalar.select (IntOp.cmpi .slt (v j) 0#32) _ (v j) = v j
  have : (v j).slt 0#32 = false := by
    rw [BitVec.slt_eq_decide, BitVec.toInt_eq_toNat_of_lt (by omega)]
    simp
  unfold Scalar.select IntOp.cmpi
  simp [this]

theorem starts_sender (o : IVec S8x8 32) (d s : Fin 8) (r : Fin 384) :
    starts o (ix4 d s r (0 : Fin 2)) = fromEnd 8#32 senderWords (ix3 d s r) := by
  unfold starts
  refine (concatenate_pair_apply_left (t := S8x8x384x2) (s₁ := S8x8x384x1) (s₂ := S8x8x384x1) 3 _ _ _ _ rfl (ix4 d s r (0 : Fin 1)) ?_).trans ?_
  · intro b
    match b with
    | ⟨0, _⟩ => rfl
    | ⟨1, _⟩ => rfl
    | ⟨2, _⟩ => rfl
    | ⟨3, _⟩ => rfl
  · refine congrArg (fromEnd 8#32 senderWords) (funext fun b => ?_)
    match b with
    | ⟨0, _⟩ => rfl
    | ⟨1, _⟩ => rfl
    | ⟨2, _⟩ => rfl

theorem starts_row (o : IVec S8x8 32) (d s : Fin 8) (r : Fin 384) :
    starts o (ix4 d s r (1 : Fin 2)) = fromEnd 2432#32 (rowWords o) (ix3 d s r) := by
  unfold starts
  refine (concatenate_pair_apply_right (t := S8x8x384x2) (s₁ := S8x8x384x1) (s₂ := S8x8x384x1) 3 _ _ _ _ rfl rfl (ix4 d s r (0 : Fin 1)) ?_ ?_).trans ?_
  · intro b hb
    match b, hb with
    | ⟨0, _⟩, _ => rfl
    | ⟨1, _⟩, _ => rfl
    | ⟨2, _⟩, _ => rfl
    | ⟨3, _⟩, hb => exact absurd rfl hb
  · rfl
  · refine congrArg (fromEnd 2432#32 (rowWords o)) (funext fun b => ?_)
    match b with
    | ⟨0, _⟩ => rfl
    | ⟨1, _⟩ => rfl
    | ⟨2, _⟩ => rfl

theorem gather_apply {α : Type} (x : S8x2432x8x128.Idx → α) (idx : IVec S8x8x384x2 32)
    (d s : Fin 8) (r : Fin 384) (a : Fin 8) (b : Fin 128) :
    Host.gather gather_S8x2432x8x128_S8x8x384x2_S8x8x384x8x128_34_01_n_n_01_3_118128 x idx (ix5 d s r a b)
      = x (ix4 ⟨min (idx (ix4 d s r (0 : Fin 2))).toInt.toNat 7, by omega⟩
          ⟨min (idx (ix4 d s r (1 : Fin 2))).toInt.toNat 2431, by omega⟩ a b) := by
  unfold Host.gather
  congr 1
  funext c
  refine Fin.ext ?_
  match c with
  | ⟨0, _⟩ =>
    show min (idx _).toInt.toNat 7 + 0 + 0 = min (idx (ix4 d s r (0 : Fin 2))).toInt.toNat 7
    simp only [Nat.add_zero]
    refine congrArg (fun k => min (idx k).toInt.toNat 7) (funext fun e => ?_)
    match e with
    | ⟨0, _⟩ => rfl
    | ⟨1, _⟩ => rfl
    | ⟨2, _⟩ => rfl
    | ⟨3, _⟩ => rfl
  | ⟨1, _⟩ =>
    show min (idx _).toInt.toNat 2431 + 0 + 0 = min (idx (ix4 d s r (1 : Fin 2))).toInt.toNat 2431
    simp only [Nat.add_zero]
    refine congrArg (fun k => min (idx k).toInt.toNat 2431) (funext fun e => ?_)
    match e with
    | ⟨0, _⟩ => rfl
    | ⟨1, _⟩ => rfl
    | ⟨2, _⟩ => rfl
    | ⟨3, _⟩ => rfl
  | ⟨2, _⟩ => show 0 + 0 + a.val = a.val; omega
  | ⟨3, _⟩ => show 0 + 0 + b.val = b.val; omega

/-- The row word as a natural number: no wrap under the bound. -/
theorem rowWords_toNat (o : IVec S8x8 32) (ho : ∀ i, (o i).toNat ≤ 2048) (d s : Fin 8) (r : Fin 384) :
    (rowWords o (ix3 d s r)).toNat = (o (ix2 s d)).toNat + r.val := by
  have h := ho (ix2 s d)
  have hr := r.isLt
  rw [rowWords_apply, BitVec.toNat_add, BitVec.toNat_ofNat]
  omega

/-- A small word read signed. -/
theorem word_toInt (v : BitVec 32) (n : Nat) (h : v.toNat = n) (hn : n < 2147483648) : v.toInt.toNat = n := by
  rw [BitVec.toInt_eq_toNat_of_lt (by omega)]
  omega

/-- THE REFERENCE AT AN INDEX: block `8 d + s`, row `r`, is row `o[s, d] + r` of sender `s`'s 2432 rows. -/
theorem whole_apply {α : Type} (o : IVec S8x8 32) (ho : ∀ i, (o i).toNat ≤ 2048) (x : S19456x8x128.Idx → α)
    (d s : Fin 8) (r : Fin 384) (a : Fin 8) (b : Fin 128) :
    whole o x (ix4 ⟨8 * d.val + s.val, by omega⟩ r a b)
      = x (ix3 ⟨2432 * s.val + ((o (ix2 s d)).toNat + r.val), by have := ho (ix2 s d); omega⟩ a b) := by
  have hw := rowWords_toNat o ho d s r
  have hb := ho (ix2 s d)
  have hs : (senderWords (ix3 d s r)).toNat = s.val := by
    rw [senderWords_apply, BitVec.toNat_ofNat]; omega
  unfold whole
  rw [shapeCast_apply _ _ _ (ix5 d s r a b) (by
      rw [Shape.rowMajor_val_five, Shape.rowMajor_val_four]
      show (((d.val * 8 + s.val) * 384 + r.val) * 8 + a.val) * 128 + b.val
        = (((8 * d.val + s.val) * 384 + r.val) * 8 + a.val) * 128 + b.val
      omega), gather_apply]
  refine shapeCast_apply x _ _ (ix3 ⟨2432 * s.val + ((o (ix2 s d)).toNat + r.val), by omega⟩ a b) ?_
  rw [Shape.rowMajor_val_four, Shape.rowMajor_val_three]
  show ((2432 * s.val + ((o (ix2 s d)).toNat + r.val)) * 8 + a.val) * 128 + b.val
    = ((min (starts o (ix4 d s r (0 : Fin 2))).toInt.toNat 7 * 2432
        + min (starts o (ix4 d s r (1 : Fin 2))).toInt.toNat 2431) * 8 + a.val) * 128 + b.val
  rw [starts_sender, starts_row, fromEnd_apply _ _ _ (by omega), fromEnd_apply _ _ _ (by omega),
    word_toInt _ _ hs (by omega), word_toInt _ _ hw (by omega)]
  omega

end Cert.ReferenceIdeal.Rows

end
-- ==== Proof.Mask.lean ====
/-
  The precondition and the mask read at an index: `in_pack` bounds every offset by 2048 (`in_pack_apply`); where
  `landed` holds at block `8 d + s`, row `r`, sender and receiver are the same device or `r` is below the count that
  sender `s` states for receiver `d` (`landed_apply`).
-/
module

public import proofs.«01_k».proof.Proof.Gen.Pre_in_pack_Kernel
public import proofs.«01_k».proof.Proof.Gen.On_landed
public import Idealize.ShloMosaic.Lib.Pipeline.Value
public import Idealize.ShloMosaic.Lib.ValueLayout
public import Idealize.ShloMosaic.Lib.ValueIdxCore

@[expose] public section

noncomputable section

namespace Cert.Exchange

open Idealize.ShloMosaic Idealize.ShloMosaic.ValueIdx

variable {F : FTy → Type} [FloatOps F]

section Pre
open Cert.Pre_in_pack_Kernel

/-- Two comparisons that both hold. -/
theorem both_of_andi (p q : Bool) (h : IntOp.andi (BitVec.ofBool p) (BitVec.ofBool q) = 1#1) : p = true ∧ q = true := by
  revert p q; decide

/-- A word between 0 and 2048, read signed, is at most 2048 read unsigned. -/
theorem le_of_between (v : BitVec 32) (h : IntOp.andi (IntOp.cmpi .sge v 0#32) (IntOp.cmpi .sle v 2048#32) = 1#1) :
    v.toNat ≤ 2048 := by
  obtain ⟨h1, h2⟩ := both_of_andi _ _ h
  replace h1 : (0#32 : BitVec 32).sle v = true := h1
  replace h2 : v.sle 2048#32 = true := h2
  rw [BitVec.sle_eq_decide, decide_eq_true_eq] at h1 h2
  have e1 : (0#32 : BitVec 32).toInt = 0 := rfl
  have e2 : (2048#32 : BitVec 32).toInt = 2048 := rfl
  rw [e1] at h1
  rw [e2] at h2
  have := v.isLt
  rw [BitVec.toInt_eq_toNat_cond] at h1 h2
  split at h1 <;> omega

/-- The precondition, of one device's offsets. -/
theorem in_pack_apply (o n : IVec S1x8 32) (x : FVec F S2432x8x128 .f32)
    (h : Cert.Pre_in_pack_Kernel.fn (F := F) o n x = fun _ => 1#1) (d : Fin 8) : (o (ix2 0 d)).toNat ≤ 2048 :=
  le_of_between _ (congrFun h (ix2 0 d))

end Pre

section On
open Cert.On_landed Cert.On_landed.Gen

theorem or_of_ori (p q : BitVec 1) (h : IntOp.ori p q = 1#1) : p = 1#1 ∨ q = 1#1 := by
  revert p q; decide

/-- Equal device numbers, as words. -/
theorem eq_of_words : ∀ d s : Fin 8, IntOp.cmpi .eq (BitVec.ofNat 32 d.val + 0#32) (BitVec.ofNat 32 s.val) = 1#1 → s = d := by
  decide

/-- The mask by receiver, sender and row: equal devices, or the row below the count. -/
def hits (n : IVec S8x8 32) : IVec S8x8x384 1 :=
  ori (broadcastInDim S8x8x384 ![0, 1, 2] bcast_S8x8x1_S8x8x384_0_1_2
      (broadcastInDim S8x8x1 ![0, 1] bcast_S8x8_S8x8x1_0_1
        (cmpi .eq (addi (iotaInDim S8x8 32 0) (broadcastInDim S8x8 ![] bcast_S_S8x8 (constantI S_ 32 0#32))) (iotaInDim S8x8 32 1))))
    (cmpi .slt
      (broadcastInDim S8x8x384 ![0, 1, 2] bcast_S1x1x384_S8x8x384_0_1_2
        (broadcastInDim S1x1x384 ![2] bcast_S384_S1x1x384_2 (iotaInDim S384 32 0)))
      (broadcastInDim S8x8x384 ![0, 1, 2] bcast_S8x8x1_S8x8x384_0_1_2
        (broadcastInDim S8x8x1 ![0, 1] bcast_S8x8_S8x8x1_0_1 (transpose S8x8 [1, 0] n transposes_S8x8_S8x8_1_0))))

theorem hits_apply (n : IVec S8x8 32) (d s : Fin 8) (r : Fin 384) :
    hits n (ix3 d s r) = IntOp.ori (IntOp.cmpi .eq (BitVec.ofNat 32 d.val + 0#32) (BitVec.ofNat 32 s.val))
      (IntOp.cmpi .slt (BitVec.ofNat 32 r.val) (n (ix2 s d))) := by
  rw [← transpose_ix2_apply n transposes_S8x8_S8x8_1_0 d s]
  refine congrArg₂ IntOp.ori rfl (congrArg₂ (IntOp.cmpi .slt) rfl
    (congrArg (transpose S8x8 [1, 0] n transposes_S8x8_S8x8_1_0) (funext fun c => ?_)))
  match c with
  | ⟨0, _⟩ => rfl
  | ⟨1, _⟩ => rfl

/-- The mask at block `8 d + s`, row `r`. -/
theorem landed_apply (o n : IVec S8x8 32) (x : FVec F S19456x8x128 .f32) (d s : Fin 8) (r : Fin 384) (a : Fin 8) (b : Fin 128)
    (h : Cert.On_landed.fn (F := F) o n x (ix4 ⟨8 * d.val + s.val, by omega⟩ r a b) = 1#1) :
    s = d ∨ IntOp.cmpi .slt (BitVec.ofNat 32 r.val) (n (ix2 s d)) = 1#1 := by
  have e : Cert.On_landed.fn (F := F) o n x (ix4 ⟨8 * d.val + s.val, by omega⟩ r a b) = hits n (ix3 d s r) := by
    refine (congrArg (shapeCast S64x384 (hits n) shapeCasts_S8x8x384_S64x384) (funext fun c => ?_ :
      _ = ix2 (⟨8 * d.val + s.val, by omega⟩ : Fin 64) r)).trans
      (shapeCast_apply _ shapeCasts_S8x8x384_S64x384 _ (ix3 d s r) ?_)
    · match c with
      | ⟨0, _⟩ => rfl
      | ⟨1, _⟩ => rfl
    · rw [Shape.rowMajor_val_three, Shape.rowMajor_val_two]
      show (d.val * 8 + s.val) * 384 + r.val = (8 * d.val + s.val) * 384 + r.val
      omega
  rw [e, hits_apply] at h
  exact (or_of_ori _ _ h).imp (eq_of_words d s) id

end On

end Cert.Exchange

end
-- ==== Proof.Places.lean ====
/-
  A device's block of an array that the mesh splits on its first axis, read at a place.
-/
module

public import Idealize.ShloMosaic.Lib.Layout
public import Idealize.ShloMosaic.Lib.ValueIdxCore

@[expose] public section

noncomputable section

namespace Cert.Exchange

open Idealize.ShloMosaic Idealize.ShloMosaic.ValueIdx

/-- Of an array of eight rows, -/
theorem block_two {α : Type} (c : Fin 8) (v : (⟨2, ![8, 8]⟩ : Shape).Idx → α) (d : Fin 8) :
    Layout.block ⟨2, ![1, 8]⟩ ⟨2, ![8, 8]⟩ 0 8 c v (by decide) (ix2 0 d) = v (ix2 c d) := by
  refine congrArg v (funext fun e => Fin.ext ?_)
  match e with
  | ⟨0, _⟩ => show c.val * 1 + 0 = c.val; omega
  | ⟨1, _⟩ => rfl

/-- of the packed rows, -/
theorem block_three {α : Type} (c : Fin 8) (v : (⟨3, ![19456, 8, 128]⟩ : Shape).Idx → α) (r : Fin 2432) (a : Fin 8) (b : Fin 128) :
    Layout.block ⟨3, ![2432, 8, 128]⟩ ⟨3, ![19456, 8, 128]⟩ 0 8 c v (by decide) (ix3 r a b)
      = v (ix3 ⟨2432 * c.val + r.val, by omega⟩ a b) := by
  refine congrArg v (funext fun e => Fin.ext ?_)
  match e with
  | ⟨0, _⟩ => show c.val * 2432 + r.val = 2432 * c.val + r.val; omega
  | ⟨1, _⟩ => rfl
  | ⟨2, _⟩ => rfl

/-- and of the received rows. -/
theorem block_four {α : Type} (c : Fin 8) (v : (⟨4, ![64, 384, 8, 128]⟩ : Shape).Idx → α)
    (s : Fin 8) (r : Fin 384) (a : Fin 8) (b : Fin 128) :
    Layout.block ⟨4, ![8, 384, 8, 128]⟩ ⟨4, ![64, 384, 8, 128]⟩ 0 8 c v (by decide) (ix4 s r a b)
      = v (ix4 ⟨8 * c.val + s.val, by omega⟩ r a b) := by
  refine congrArg v (funext fun e => Fin.ext ?_)
  match e with
  | ⟨0, _⟩ => show c.val * 8 + s.val = 8 * c.val + s.val; omega
  | ⟨1, _⟩ => rfl
  | ⟨2, _⟩ => rfl
  | ⟨3, _⟩ => rfl

end Cert.Exchange

end
-- ==== Proof.Value.lean ====
/-
  The value: with each device holding its block of the reference's arguments, a device's result agrees with its block of
  the reference's result wherever the mask is set (`good_block`). The offsets' bound is the precondition's.
-/
module

public import proofs.«01_k».proof.Defs
public import proofs.«01_k».proof.Proof.Run
public import proofs.«01_k».proof.Proof.Rows
public import proofs.«01_k».proof.Proof.Mask
public import proofs.«01_k».proof.Proof.Places

@[expose] public section

noncomputable section

namespace Cert.KernelIdeal.Exchange

open Cert.KernelIdeal Cert.KernelIdeal.Gen
open Idealize.ShloMosaic Idealize.ShloMosaic.TcCoe Idealize.ShloMosaic.ValueIdx Idealize.SL.Sem

variable {F : FTy → Type} [FloatOps F]

/-- Device `c`'s offsets, counts and rows are blocks `c` of `o`, `n` and `x`. -/
structure Blocks (D : Data F) (o n : IVec ⟨2, ![8, 8]⟩ 32) (x : FVec F ⟨3, ![19456, 8, 128]⟩ .f32) : Prop where
  off : ∀ c d : Fin 8, D.off c d = o (ix2 c d)
  cnt : ∀ c d : Fin 8, D.cnt c d = n (ix2 c d)
  row : ∀ (c : Fin 8) (r : Fin 2432) (a : Fin 8) (b : Fin 128),
    D.x c (ix3 r a b) = x (ix3 ⟨2432 * c.val + r.val, by omega⟩ a b)

/-- A row below a count lies in a run of rows that the count makes live. -/
theorem live_of_below (v : BitVec 32) (r : ℕ) (hr : r < 384) (k : Fin 3) (hk : 128 * k.val ≤ r)
    (h : IntOp.cmpi .slt (BitVec.ofNat 32 r) v = 1#1) : live v k := by
  have hs : (BitVec.ofNat 32 r).slt v = true := by
    by_contra hn
    rw [Bool.not_eq_true] at hn
    have : BitVec.ofBool ((BitVec.ofNat 32 r).slt v) = 1#1 := h
    rw [hn] at this
    exact absurd this (by decide)
  have hlt : (BitVec.ofNat 32 (128 * k.val)).slt v = true := by
    have := k.isLt
    rw [BitVec.slt_eq_decide, decide_eq_true_eq] at hs ⊢
    rw [BitVec.toInt_eq_toNat_of_lt (by rw [BitVec.toNat_ofNat]; omega), BitVec.toNat_ofNat] at hs ⊢
    omega
  show BitVec.ofBool ((BitVec.ofNat 32 (128 * k.val)).slt v) = 1#1
  rw [hlt]
  rfl

/-- A DEVICE'S RESULT AND ITS BLOCK OF THE REFERENCE'S, where the mask is set. -/
theorem good_block (D : Data F) (o n : IVec ⟨2, ![8, 8]⟩ 32) (x : FVec F ⟨3, ![19456, 8, 128]⟩ .f32) (hD : Blocks D o n x)
    (hok : D.Ok) (c : Fin 8) (X : S8x384x8x128.Idx → Elt F .f32) (hX : Good D c X) (i : S8x384x8x128.Idx)
    (hi : Layout.block ⟨4, ![8, 384, 8, 128]⟩ ⟨4, ![64, 384, 8, 128]⟩ 0 8 c (Cert.On_landed.fn (F := F) o n x) (by decide) i = 1#1) :
    X i = Layout.block ⟨4, ![8, 384, 8, 128]⟩ ⟨4, ![64, 384, 8, 128]⟩ 0 8 c (Cert.ReferenceIdeal.Rows.whole o x) (by decide) i := by
  obtain ⟨s, r, a, b, rfl⟩ : ∃ (s : Fin 8) (r : Fin 384) (a : Fin 8) (b : Fin 128), i = ix4 s r a b :=
    ⟨i 0, i 1, i 2, i 3, eq_ix4 i⟩
  have ho : ∀ j, (o j).toNat ≤ 2048 := fun j => by
    have h : (o (ix2 (j 0 : Fin 8) (j 1 : Fin 8))).toNat ≤ 2048 := hD.off (j 0) (j 1) ▸ hok (j 0) (j 1)
    exact (congrArg (fun k => (o k).toNat) (eq_ix2 j)).trans_le h
  rw [Cert.Exchange.block_four] at hi ⊢
  rw [Cert.ReferenceIdeal.Rows.whole_apply o ho]
  have hb := ho (ix2 s c)
  have hg : (s.val = c.val) ∨ gets D c (chunkOf (ix4 s r a b)) := by
    by_cases e : s = c
    · exact Or.inl (congrArg Fin.val e)
    · refine Or.inr ⟨e, ?_⟩
      have h := (Cert.Exchange.landed_apply o n x c s r a b hi).resolve_left e
      rw [← hD.cnt s c] at h
      exact live_of_below _ r.val r.isLt _ (Nat.mul_div_le _ _) h
  rw [hX _ hg]
  show D.x s (ix3 ⟨((D.off s c).toNat + r.val) % 2432, _⟩ a b) = _
  rw [hD.row]
  refine congrArg (fun k => x (ix3 k a b)) (Fin.ext ?_)
  show 2432 * s.val + ((D.off s c).toNat + r.val) % 2432 = 2432 * s.val + ((o (ix2 s c)).toNat + r.val)
  rw [hD.off s c, Nat.mod_eq_of_lt (by omega)]

variable (m : (ℓ : Loc nD τ sig) → Buf (Elt F) ℓ)

/-- The precondition bounds the offsets. -/
theorem ok_of_pre
    (h : ∀ c : Dev nD, Cert.Pre_in_pack_Kernel.fn (F := F) (m ((c.tc : Thread nD τ).loc main_arg0))
      (m ((c.tc : Thread nD τ).loc main_arg1)) (m ((c.tc : Thread nD τ).loc main_arg2)) = fun _ => 1#1) :
    (dataOf m).Ok := fun c d =>
  Cert.Exchange.in_pack_apply _ _ _ (h c) d

end Cert.KernelIdeal.Exchange

end
-- ==== Proof.Same.lean ====
/-
  The program and the ideal program are one text: no operation of it was replaced. So a run of one, at any floats, is a run
  of the other.
-/
module

public import proofs.«01_k».proof.Kernel
public import proofs.«01_k».proof.KernelIdeal

@[expose] public section

noncomputable section

namespace Cert.Kernel.Exchange

open Idealize.ShloMosaic Idealize.ShloMosaic.TcCoe Idealize.SL.Sem

variable {F : FTy → Type} [FloatOps F] [Cert.Kernel.Facts] [Cert.KernelIdeal.Facts]

set_option maxHeartbeats 4000000 in
/-- The kernel's function is the same, -/
theorem body_eq : Cert.Kernel.cc0_body (F := F) = Cert.KernelIdeal.cc0_body (F := F) := rfl

attribute [local irreducible] Cert.Kernel.cc0_body Cert.KernelIdeal.cc0_body in
/-- and the table that calls it at the staging buffers, -/
theorem defs₀_eq : Cert.Kernel.defs₀ (F := F) = Cert.KernelIdeal.defs₀ (F := F) := by
  refine congrArg Defs.onTc ?_
  funext l a
  match l with
  | 0 =>
    obtain ⟨t, s⟩ := a
    exact congrFun (congrFun (congrFun (congrFun (congrFun (congrFun (congrFun (congrFun (congrFun (congrFun (congrFun (congrFun
      (body_eq (F := F)) _) _) _) _) _) _) _) _) _) _) _) _

/-- and its pipeline's; -/
theorem defs_eq : Cert.Kernel.defs (F := F) = Cert.KernelIdeal.defs (F := F) :=
  congrArg (Pipeline.defs (Cert.Kernel.pcfgs (F := F))) (defs₀_eq (F := F))

/-- and so are the operations around the call. -/
theorem main_eq : Cert.Kernel.main (F := F) = Cert.KernelIdeal.main (F := F) := rfl

/-- A property of the ideal program's runs is one of the program's runs. -/
theorem θ_run_of (s : MemSt Cert.Kernel.nD Cert.Kernel.τ Cert.Kernel.sig (Elt F))
    (Q : (Unit × MemSt Cert.Kernel.nD Cert.Kernel.τ Cert.Kernel.sig (Elt F)) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq, main_eq]
  exact h

end Cert.Kernel.Exchange
-- ==== Proof.Back.Cells.lean ====
/-
  The token exchange's protocol: which semaphore counts what, which device pays it, and what the payment hands over.

  A device's rows for the eight devices travel as CHUNKS of 128 rows, three to a device: chunk `(d, k)` of a device goes to device `d`,
  and is sent when `d` is another device and the count of rows for `d` is above `128 k`. Its arrival is counted by cell `rcv (c, k)` of
  device `d`, its departure by cell `snd (d, k)` of the sender `c`. Before any chunk the devices meet at a barrier: each tells every other
  one that it has entered, and with that hands over the places of its own result that the other one will write.

  Written of abstract contents `Data` (every device's offsets, counts and packed rows), so that nothing here depends on a program's
  memory.
-/
module

public import proofs.«01_k».proof.Proof.Gen.CombineIdeal.Skeleton
public import proofs.«01_k».proof.Proof.Gen.CombineIdeal.Launch
public import proofs.«01_k».proof.Proof.Families
public import Idealize.ShloMosaic.Lib.Pipeline.Kit
public import Idealize.ShloMosaic.Lib.Rounds
public import Idealize.ShloMosaic.Lib.Rounds.Family
public import Idealize.ShloMosaic.Lib.ShareLeaves
public import Idealize.ShloMosaic.Lib.AllToAll.Once
public import Idealize.ShloMosaic.Lib.ValueIdxCore
public import Idealize.ShloMosaic.Lib.Tactic
public import Idealize.ShloMosaic.Harness.Basic

@[expose] public section

noncomputable section

namespace Cert.CombineIdeal.Exchange

export Cert.Exchange (whenP whenP_pos whenP_neg sum_step bigSep_step pair_up pair_off parked parked_eq open_cells set_up_cells)

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra -/

/-- One component for the staging copies, one for the exchange of the counts, one for the exchange of the rows. -/
abbrev UU : Type := UR sig nD τ × (AllToAll.Once.UC nD τ sig × Rounds.URounds (GSem nD τ sig) (Dev nD))

local notation "𝕄" => MT nD τ sig ℕ (Elt F) ℕ UU ℕ

/-- The staging copies' component, -/
abbrev EP : Emb (UR sig nD τ) (MT nD τ sig ℕ (Elt F) ℕ UU ℕ) := embL
/-- the counts', -/
def EC : Emb (AllToAll.Once.UC nD τ sig) (MT nD τ sig ℕ (Elt F) ℕ UU ℕ) := (Emb.inl : Emb _ (_ × _)).trans embR
/-- and the rows'. -/
def ER : Emb (Rounds.URounds (GSem nD τ sig) (Dev nD)) (MT nD τ sig ℕ (Elt F) ℕ UU ℕ) := (Emb.inr : Emb _ (_ × _)).trans embR

instance EC_landsIn : (EC (F := F)).LandsIn (upEmb : UEmb _ 𝕄) := by unfold EC; infer_instance
instance ER_landsIn : (ER (F := F)).LandsIn (upEmb : UEmb _ 𝕄) := by unfold ER; infer_instance

/-! ## Chunks and cells -/

/-- A chunk: the device at the other end, and which of its three runs of 128 rows. -/
abbrev Chunk : Type := Dev nD × Fin 3

/-- The chunks in the order in which the kernel handles them. -/
def rank (j : Chunk) : ℕ := 3 * j.1.val + j.2.val

theorem rank_lt (j : Chunk) : rank j < 24 := by
  have h1 : j.1.val < 8 := j.1.isLt
  have h2 := j.2.isLt
  unfold rank; omega

theorem rank_inj {i j : Chunk} (h : rank i = rank j) : i = j := by
  have h2 := i.2.isLt; have h3 := j.2.isLt
  unfold rank at h
  exact Prod.ext (Fin.ext (by omega)) (Fin.ext (by omega))

/-- The barrier semaphore of the exchange. -/
abbrev barS : Sem sig := sig.barrier 2 rfl
/-- The semaphore that counts chunk `j`'s departure, -/
def sndS (j : Chunk) : DmaSem sig := ⟨8 + rank j, by have := rank_lt j; show 8 + rank j < 56; omega⟩
/-- and the one that counts the arrival of the chunk that device `j.1` sends here. -/
def rcvS (j : Chunk) : DmaSem sig := ⟨32 + rank j, by have := rank_lt j; show 32 + rank j < 56; omega⟩

abbrev barCell (c : Dev nD) : GSem nD τ sig := ((c : Thread nD τ), .reg barS)
abbrev sndCell (c : Dev nD) (j : Chunk) : GSem nD τ sig := ((c : Thread nD τ), .dma (sndS j))
abbrev rcvCell (c : Dev nD) (j : Chunk) : GSem nD τ sig := ((c : Thread nD τ), .dma (rcvS j))

/-- What a semaphore is to the exchange. -/
inductive Kind where
  | bar | snd (j : Chunk) | rcv (j : Chunk) | other

/-- Chunk number `n`. -/
def chunkAt (n : ℕ) : Chunk := (⟨n / 3 % 8, Nat.mod_lt _ (by decide)⟩, ⟨n % 3, Nat.mod_lt _ (by decide)⟩)

theorem chunkAt_rank (j : Chunk) : chunkAt (rank j) = j := by
  have h1 : j.1.val < 8 := j.1.isLt
  have h2 := j.2.isLt
  unfold chunkAt rank
  exact Prod.ext (Fin.ext (by dsimp only; omega)) (Fin.ext (by dsimp only; omega))

def kindOf : SemLoc sig → Kind
  | .reg s => if s = barS then .bar else .other
  | .dma s => if s.val < 8 then .other else if s.val < 32 then .snd (chunkAt (s.val - 8)) else .rcv (chunkAt (s.val - 32))

theorem kindOf_bar : kindOf (.reg barS) = .bar := by
  show (if barS = barS then Kind.bar else Kind.other) = Kind.bar
  exact if_pos rfl
theorem kindOf_snd (j : Chunk) : kindOf (.dma (sndS j)) = .snd j := by
  have h := rank_lt j
  have e : (sndS j).val = 8 + rank j := rfl
  unfold kindOf
  dsimp only
  rw [e, if_neg (by omega), if_pos (by omega), Nat.add_sub_cancel_left, chunkAt_rank]
theorem kindOf_rcv (j : Chunk) : kindOf (.dma (rcvS j)) = .rcv j := by
  have h := rank_lt j
  have e : (rcvS j).val = 32 + rank j := rfl
  unfold kindOf
  dsimp only
  rw [e, if_neg (by omega), if_neg (by omega), Nat.add_sub_cancel_left, chunkAt_rank]

/-! ## The devices' contents -/

/-- What every device brings to the exchange: the row its rows for device `d` start at, how many there are, and the packed rows. -/
structure Data (F : FTy → Type) [FloatOps F] where
  off : Dev nD → Dev nD → BitVec 32
  cnt : Dev nD → Dev nD → BitVec 32
  x : Dev nD → S2432x8x128.Idx → Elt F .f32

/-- Every run of rows starts within the pack. -/
def Data.Ok (D : Data F) : Prop := ∀ c d, (D.off c d).toNat ≤ 2048

/-- Run `k` of a device's rows is among the counted ones: the count, read signed, is above `128 k`. -/
def live (v : BitVec 32) (k : Fin 3) : Prop := Scalar.cmpi .sgt v (BitVec.ofNat 32 (128 * k.val)) = 1#1
instance (v : BitVec 32) (k : Fin 3) : Decidable (live v k) := by unfold live; infer_instance

variable (D : Data F)

/-- Device `c` sends chunk `j`. -/
def sends (c : Dev nD) (j : Chunk) : Prop := c ≠ j.1 ∧ live (D.cnt c j.1) j.2
instance (c : Dev nD) (j : Chunk) : Decidable (sends D c j) := by unfold sends; infer_instance
/-- Device `c` receives the chunk `j.2` that device `j.1` sends it. -/
abbrev gets (c : Dev nD) (j : Chunk) : Prop := sends D j.1 (c, j.2)

/-- The first row of chunk `j` in device `c`'s pack. -/
def row (c : Dev nD) (j : Chunk) : ℕ := (D.off c j.1).toNat + 128 * j.2.val

/-- The packed element at row `r`. -/
def srcIx (r : ℕ) (a : Fin 8) (b : Fin 128) : S2432x8x128.Idx := ix3 (⟨r % 2432, Nat.mod_lt _ (by decide)⟩ : Fin 2432) a b

/-- What device `c`'s result holds where rows arrive: at `(s, r)`, row `r` of those that device `s` packed for `c`. -/
def result (c : Dev nD) : S8x384x8x128.Idx → Elt F .f32 :=
  fun i => D.x (i 0) (srcIx ((D.off (i 0) c).toNat + (i 1).val) (i 2) (i 3))

/-- The 128 rows of the pack from `r`. -/
def srcSet (r : ℕ) : Finset S2432x8x128.Idx := Finset.univ.filter fun i => r ≤ (i 0).val ∧ (i 0).val < r + 128
/-- Chunk `j` of the result. -/
def outSet (j : Chunk) : Finset S8x384x8x128.Idx :=
  Finset.univ.filter fun i => (i 0).val = j.1.val ∧ 128 * j.2.val ≤ (i 1).val ∧ (i 1).val < 128 * j.2.val + 128
/-- Device `d`'s block of the result. -/
def ownSet (d : Dev nD) : Finset S8x384x8x128.Idx := Finset.univ.filter fun i => (i 0).val = d.val

/-! ## The buffers the kernel works on -/

abbrev aOff : Memref sig .tc .smem S8 .i32 := Memref.whole cc0_stg0_0
abbrev aSnt : Memref sig .tc .smem S8 .i32 := Memref.whole cc0_stg1_0
abbrev aGot : Memref sig .tc .smem S8 .i32 := Memref.whole cc0_stg2_0
abbrev aSrc : Memref sig .tc .vmem S2432x8x128 .f32 := Memref.whole cc0_stg3_0
abbrev aOut : Memref sig .tc .vmem S8x384x8x128 .f32 := Memref.whole cc0_stg4_0

/-- Device `c`'s result, over the places `I`. -/
abbrev outPts (c : Dev nD) (I : Finset S8x384x8x128.Idx) (f : S8x384x8x128.Idx → Elt F .f32) : sProp 𝕄 :=
  ((c : Thread nD τ).loc cc0_stg4_0) ↦[I]{fullShare} f
/-- Device `c`'s packed rows over the places `I`, at share `q`. -/
abbrev srcPts (c : Dev nD) (q : PosShare TreeShare) (I : Finset S2432x8x128.Idx) (f : S2432x8x128.Idx → Elt F .f32) : sProp 𝕄 :=
  ((c : Thread nD τ).loc cc0_stg3_0) ↦[I]{q} f

/-- The shares of the packed rows: one for each chunk, and more. -/
def leafOf (n : Fin 32) : PosShare TreeShare := ShareLeaves.leaf 5 fullShare n
def chunkLeaf (j : Chunk) : Fin 32 := ⟨rank j, by have := rank_lt j; omega⟩

/-- The bytes a chunk's transfer counts. -/
def N : ℕ := ((aOut.slice (Rect.unit (s := S8x384x8x128) ![0, 0, 0, 0] S1x128x8x128.size inb_S8x384x8x128_S1x128x8x128_0_0_0_0) (fun _ => rfl)).squeeze
  S128x8x128 squeezes_S1x128x8x128_S128x8x128).view.dmaCredit
theorem N_pos : 0 < N := View.dmaCredit_pos _ (by decide)

/-! ## What a payment hands over -/

/-- With its entry, device `p` hands device `c` each place of its result that `c` will write, and that its arrival cell is new. -/
def barPay (c p : Dev nD) : sProp 𝕄 :=
  bigSep Finset.univ fun k : Fin 3 => whenP (sends D c (p, k)) iprop((∃ f, outPts p (outSet (c, k)) f) ∗ reached ER (rcvCell p (c, k)) 0)
/-- A departure hands the sender its rows back. -/
def sndPay (c : Dev nD) (j : Chunk) : sProp 𝕄 := srcPts c (leafOf (chunkLeaf j)) (srcSet (row D c j)) (D.x c)
/-- An arrival hands the receiver the chunk, written. -/
def rcvPay (c : Dev nD) (j : Chunk) : sProp 𝕄 := outPts c (outSet j) (result D c)

/-- Each cell is used once: the barrier by the seven other devices, a chunk's two cells by the chunk if it is sent. -/
def sched : Rounds.Schedule (GSem nD τ sig) (Dev nD) 𝕄 where
  duties g r := if r = 0 then match kindOf g.2 with
    | .bar => Finset.univ.erase g.1.1
    | .snd j => if sends D g.1.1 j then {g.1.1} else ∅
    | .rcv j => if gets D g.1.1 j then {j.1} else ∅
    | .other => ∅ else ∅
  unitless _ := False
  amount g _ _ := match kindOf g.2 with | .bar => 1 | _ => N
  payload g _ p := match kindOf g.2 with
    | .bar => barPay D g.1.1 p
    | .snd j => sndPay D g.1.1 j
    | .rcv j => rcvPay D g.1.1 j
    | .other => iprop(emp)
  amount_pos g _ _ _ := by
    cases kindOf g.2 <;> first | exact Nat.one_pos | exact N_pos

instance sched_payload_storable (g : GSem nD τ sig) (r : ℕ) (p : Dev nD) :
    BI.Storable (upEmb : UEmb _ 𝕄) ((sched (F := F) D).payload g r p) := by
  show BI.Storable upEmb (match kindOf g.2 with
    | .bar => barPay D g.1.1 p
    | .snd j => sndPay D g.1.1 j
    | .rcv j => rcvPay D g.1.1 j
    | .other => iprop(emp))
  unfold barPay sndPay rcvPay
  split <;> infer_instance

section Sched

variable (c : Dev nD) (j : Chunk)

theorem duties_bar : (sched D).duties (barCell c) 0 = Finset.univ.erase c := by dsimp only [sched]; rw [if_pos rfl, kindOf_bar]
theorem duties_snd : (sched D).duties (sndCell c j) 0 = if sends D c j then {c} else ∅ := by dsimp only [sched]; rw [if_pos rfl, kindOf_snd]
theorem duties_rcv : (sched D).duties (rcvCell c j) 0 = if gets D c j then {j.1} else ∅ := by dsimp only [sched]; rw [if_pos rfl, kindOf_rcv]
theorem duties_later (g : GSem nD τ sig) (r : ℕ) (h : 1 ≤ r) : (sched D).duties g r = ∅ := by dsimp only [sched]; rw [if_neg (by omega)]

theorem amount_bar (p : Dev nD) : (sched D).amount (barCell c) 0 p = 1 := by dsimp only [sched]; rw [kindOf_bar]
theorem amount_snd (p : Dev nD) : (sched D).amount (sndCell c j) 0 p = N := by dsimp only [sched]; rw [kindOf_snd]
theorem amount_rcv (p : Dev nD) : (sched D).amount (rcvCell c j) 0 p = N := by dsimp only [sched]; rw [kindOf_rcv]

theorem payload_bar (p : Dev nD) : (sched D).payload (barCell c) 0 p = barPay D c p := by dsimp only [sched]; rw [kindOf_bar]
theorem payload_snd (p : Dev nD) : (sched D).payload (sndCell c j) 0 p = sndPay D c j := by dsimp only [sched]; rw [kindOf_snd]
theorem payload_rcv (p : Dev nD) : (sched D).payload (rcvCell c j) 0 p = rcvPay D c j := by dsimp only [sched]; rw [kindOf_rcv]

theorem expect_bar : (sched D).expect (barCell c) 0 = 7 := by
  unfold Schedule.expect Schedule.amountOf
  rw [duties_bar, Finset.sum_congr rfl fun p _ => amount_bar D c p, Finset.sum_const, Finset.card_erase_of_mem (Finset.mem_univ c), Finset.card_univ]
  rfl
theorem expect_snd (h : sends D c j) : (sched D).expect (sndCell c j) 0 = N := by
  unfold Schedule.expect Schedule.amountOf; rw [duties_snd, if_pos h, Finset.sum_singleton, amount_snd]
theorem expect_rcv (h : gets D c j) : (sched D).expect (rcvCell c j) 0 = N := by
  unfold Schedule.expect Schedule.amountOf; rw [duties_rcv, if_pos h, Finset.sum_singleton, amount_rcv]

end Sched

/-! ## Indices and levels: a cell's level is the index it is waited for at -/

/-- The index at which the barrier is waited for, -/
abbrev ιB : ℕ := 5
/-- and the one at which a chunk is. -/
abbrev ιC : ℕ := 6

def L (g : GSem nD τ sig) : Finset ℕ := if g.1.2 = .tc then Finset.range 7 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 7 := if_pos rfl

/-- What device `c` still owes the barriers once it has told the devices before the `n`-th. -/
def barDue (c : Dev nD) (n : ℕ) : CellTallies nD τ sig ℕ :=
  ∑ p : Dev nD, if p.val < n then 0 else if c ≠ p then tallyAt (barCell p) ιB 1 else 0
/-- What it still owes the arrival cells once the chunks before the `n`-th are on their way. -/
def rowDue (c : Dev nD) (n : ℕ) : CellTallies nD τ sig ℕ :=
  ∑ j : Chunk, if rank j < n then 0 else if sends D c j then tallyAt (rcvCell j.1 (c, j.2)) ιC N else 0

/-- What the devices owe each other when they enter the exchange. -/
def due (c : Dev nD) : CellTallies nD τ sig ℕ := barDue c 0 + rowDue D c 0

theorem barDue_step (c p : Dev nD) : barDue c p.val = barDue c (p.val + 1) + if c ≠ p then tallyAt (barCell p) ιB 1 else 0 :=
  sum_step (fun p : Dev nD => p.val) (fun _ _ h => Fin.ext h) (fun p => if c ≠ p then tallyAt (barCell p) ιB 1 else 0) p p.val rfl
theorem rowDue_step (c : Dev nD) (j : Chunk) :
    rowDue D c (rank j) = rowDue D c (rank j + 1) + if sends D c j then tallyAt (rcvCell j.1 (c, j.2)) ιC N else 0 :=
  sum_step rank (fun _ _ h => rank_inj h) (fun j => if sends D c j then tallyAt (rcvCell j.1 (c, j.2)) ιC N else 0) j (rank j) rfl

theorem barDue_done (c : Dev nD) : barDue c 8 = 0 := Finset.sum_eq_zero fun p _ => if_pos p.isLt
theorem rowDue_done (c : Dev nD) : rowDue D c 24 = 0 := Finset.sum_eq_zero fun j _ => if_pos (rank_lt j)

end Cert.CombineIdeal.Exchange
end
-- ==== Proof.Back.Blocks.lean ====
/-
  The blocks that the kernel's accesses and transfers name: which places they are, and what a block holds once it is written.
-/
module

public import proofs.«01_k».proof.Proof.Back.Cells
public import proofs.«01_k».proof.Proof.Gen.CombineIdeal.Skeleton

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-- 128 of the packed rows, -/
abbrev srcAt (o : Fin 3 → ℕ) (hb : ∀ a, o a + S128x8x128.size a ≤ S2432x8x128.size a) : Memref sig .tc .vmem S128x8x128 .f32 :=
  aSrc.slice (Rect.unit (s := S2432x8x128) o S128x8x128.size hb) (fun _ => rfl)
/-- and the place of a chunk in the result. -/
abbrev outAt (o : Fin 4 → ℕ) (hb : ∀ a, o a + S1x128x8x128.size a ≤ S8x384x8x128.size a) : Memref sig .tc .vmem S128x8x128 .f32 :=
  (aOut.slice (Rect.unit (s := S8x384x8x128) o S1x128x8x128.size hb) (fun _ => rfl)).squeeze S128x8x128 squeezes_S1x128x8x128_S128x8x128

/-! ## The places of a block -/

theorem srcBlk_set (r : ℕ) (hb : ∀ a, (![r, 0, 0] : Fin 3 → ℕ) a + S128x8x128.size a ≤ S2432x8x128.size a) :
    (srcAt ![r, 0, 0] hb).view.set = srcSet r := by
  show ((View.whole cc0_stg3_0).slice (Rect.unit (s := S2432x8x128) ![r, 0, 0] S128x8x128.size hb)).set = srcSet r
  rw [View.set_slice_whole]
  ext i
  rw [Rect.mem_set_unit, srcSet, Finset.mem_filter]
  have h1 : (i 1).val < 8 := (i 1).isLt
  have h2 : (i 2).val < 128 := (i 2).isLt
  constructor
  · intro h; exact ⟨Finset.mem_univ _, h 0⟩
  · rintro ⟨-, h⟩ a
    match a with
    | 0 => exact h
    | 1 => exact ⟨Nat.zero_le _, by show (i 1).val < 0 + 8; omega⟩
    | 2 => exact ⟨Nat.zero_le _, by show (i 2).val < 0 + 128; omega⟩

theorem outBlk_set (d r : ℕ) (hb : ∀ a, (![d, r, 0, 0] : Fin 4 → ℕ) a + S1x128x8x128.size a ≤ S8x384x8x128.size a) (j : Chunk) (hd : d = j.1.val)
    (hr : r = 128 * j.2.val) :
    (outAt ![d, r, 0, 0] hb).view.set = outSet j := by
  show (((View.whole cc0_stg4_0).slice (Rect.unit (s := S8x384x8x128) ![d, r, 0, 0] S1x128x8x128.size hb)).reshape S128x8x128 squeezes_S1x128x8x128_S128x8x128.numel_eq).set = (outSet j : Finset S8x384x8x128.Idx)
  rw [View.set_reshape, View.set_slice_whole]
  ext i
  rw [Rect.mem_set_unit, outSet, Finset.mem_filter]
  have h2 : (i 2).val < 8 := (i 2).isLt
  have h3 : (i 3).val < 128 := (i 3).isLt
  constructor
  · intro h
    have h0 : d ≤ (i 0).val ∧ (i 0).val < d + 1 := h 0
    have h1 : r ≤ (i 1).val ∧ (i 1).val < r + 128 := h 1
    exact ⟨Finset.mem_univ _, by omega, by omega, by omega⟩
  · rintro ⟨-, h0, h1, h1'⟩ a
    match a with
    | 0 => show d ≤ (i 0).val ∧ (i 0).val < d + 1; omega
    | 1 => show r ≤ (i 1).val ∧ (i 1).val < r + 128; omega
    | 2 => exact ⟨Nat.zero_le _, by show (i 2).val < 0 + 8; omega⟩
    | 3 => exact ⟨Nat.zero_le _, by show (i 3).val < 0 + 128; omega⟩

theorem ownBlk_set (d : ℕ) (hb : ∀ a, (![d, 0, 0, 0] : Fin 4 → ℕ) a + S1x384x8x128.size a ≤ S8x384x8x128.size a) (p : Dev nD) (hd : d = p.val) :
    (aOut.access (Rect.unit (s := S8x384x8x128) ![d, 0, 0, 0] S1x384x8x128.size hb)).set = ownSet p := by
  show ((View.whole cc0_stg4_0).slice (Rect.unit (s := S8x384x8x128) ![d, 0, 0, 0] S1x384x8x128.size hb)).set = ownSet p
  rw [View.set_slice_whole]
  ext i
  rw [Rect.mem_set_unit, ownSet, Finset.mem_filter]
  have h1 : (i 1).val < 384 := (i 1).isLt
  have h2 : (i 2).val < 8 := (i 2).isLt
  have h3 : (i 3).val < 128 := (i 3).isLt
  constructor
  · intro h
    have h0 : d ≤ (i 0).val ∧ (i 0).val < d + 1 := h 0
    exact ⟨Finset.mem_univ _, by omega⟩
  · rintro ⟨-, h0⟩ a
    match a with
    | 0 => show d ≤ (i 0).val ∧ (i 0).val < d + 1; omega
    | 1 => exact ⟨Nat.zero_le _, by show (i 1).val < 0 + 384; omega⟩
    | 2 => exact ⟨Nat.zero_le _, by show (i 2).val < 0 + 8; omega⟩
    | 3 => exact ⟨Nat.zero_le _, by show (i 3).val < 0 + 128; omega⟩

/-! ## What a block holds -/

/-- A chunk that has landed: the place in the receiver's result holds the row that the sender packed for it. -/
theorem chunk_landed (D : Data F) (c p : Dev nD) (k : Fin 3) (d e r : ℕ) (hd : d = c.val) (he : e = 128 * k.val) (hr : r = (D.off c p).toNat + 128 * k.val)
    (hb : ∀ a, (![d, e, 0, 0] : Fin 4 → ℕ) a + S1x128x8x128.size a ≤ S8x384x8x128.size a)
    (hb' : ∀ a, (![r, 0, 0] : Fin 3 → ℕ) a + S128x8x128.size a ≤ S2432x8x128.size a) (fd : S8x384x8x128.Idx → Elt F .f32) (i : S8x384x8x128.Idx)
    (hi : i ∈ outSet (c, k)) :
    (outAt ![d, e, 0, 0] hb).view.write (Elt F) fd
      ((srcAt ![r, 0, 0] hb').view.read (Elt F) (D.x c)) Finset.univ i = result D p i := by
  rw [← outBlk_set d e hb (c, k) hd he] at hi
  obtain ⟨x, -, rfl⟩ := Finset.mem_map.mp hi
  rw [View.write_emb_of_mem _ _ (Finset.mem_univ x)]
  have hx : ((outAt ![d, e, 0, 0] hb).view.emb x : S8x384x8x128.Idx)
      = (Rect.unit (s := S8x384x8x128) ![d, e, 0, 0] S1x128x8x128.size hb).emb (Fin.cons ⟨0, Nat.one_pos⟩ x) :=
    congrArg (Rect.unit (s := S8x384x8x128) ![d, e, 0, 0] S1x128x8x128.size hb).emb (Shape.reshapeEquiv_cons_one squeezes_S1x128x8x128_S128x8x128.numel_eq x)
  have h0 : ((outAt ![d, e, 0, 0] hb).view.emb x : S8x384x8x128.Idx) 0 = c := by
    rw [hx]; exact Fin.ext (by show d + 1 * 0 = c.val; omega)
  have h1 : (((outAt ![d, e, 0, 0] hb).view.emb x : S8x384x8x128.Idx) 1).val = e + (x 0).val := by
    rw [hx]; show e + 1 * (x 0).val = _; omega
  have h2 : ((outAt ![d, e, 0, 0] hb).view.emb x : S8x384x8x128.Idx) 2 = x 1 := by
    rw [hx]; exact Fin.ext (by show 0 + 1 * (x 1).val = (x 1).val; omega)
  have h3 : ((outAt ![d, e, 0, 0] hb).view.emb x : S8x384x8x128.Idx) 3 = x 2 := by
    rw [hx]; exact Fin.ext (by show 0 + 1 * (x 2).val = (x 2).val; omega)
  have hlt : r + (x 0).val < 2432 := by
    have := hb' 0
    have h : r + 128 ≤ 2432 := this
    have hx0 : (x 0).val < 128 := (x 0).isLt
    omega
  generalize ((outAt ![d, e, 0, 0] hb).view.emb x : S8x384x8x128.Idx) = y at h0 h1 h2 h3 ⊢
  unfold result
  rw [h0, h1, h2, h3]
  show D.x c ((Rect.unit (s := S2432x8x128) ![r, 0, 0] S128x8x128.size hb').emb x) = _
  refine congrArg (D.x c) ?_
  refine funext fun a => ?_
  match a with
  | 0 => exact Fin.ext (by show r + 1 * (x 0).val = ((D.off c p).toNat + (e + (x 0).val)) % 2432; rw [Nat.mod_eq_of_lt (by omega)]; omega)
  | 1 => exact Fin.ext (by show 0 + 1 * (x 1).val = (x 1).val; omega)
  | 2 => exact Fin.ext (by show 0 + 1 * (x 2).val = (x 2).val; omega)

theorem pay_apply (v : S384x8x128.Idx → Elt F .f32) (x : S1x384x8x128.Idx) : k0_pay1 (F := F) v x = v (fun a => x a.succ) := by
  have hx0 : (x 0).val < 1 := (x 0).isLt
  have key : ∀ y : S384x8x128.Idx, (y = fun a : Fin 3 => x a.succ) → Shape.reshapeEquiv shapeCasts_S384x8x128_S1x384x8x128 x = y := by
    intro y hy
    have hx : Shape.reshapeEquiv shapeCasts_S384x8x128_S1x384x8x128.symm y = x := by
      refine (Shape.reshapeEquiv_cons_one (n := 3) (d := S384x8x128.size) shapeCasts_S384x8x128_S1x384x8x128.symm y).trans (funext fun a => ?_)
      match a with
      | 0 => exact Fin.ext (by show 0 = (x 0).val; omega)
      | 1 => exact congrFun hy 0
      | 2 => exact congrFun hy 1
      | 3 => exact congrFun hy 2
    rw [← hx, Shape.reshapeEquiv_reshapeEquiv, Shape.reshapeEquiv_self]
  unfold k0_pay1
  dsimp only [shapeCast]
  rw [Shape.reshapeEquiv_self, key _ rfl]

/-- The own block, copied. -/
theorem own_copied (D : Data F) (c : Dev nD) (d r : ℕ) (hd : d = c.val) (hr : r = (D.off c c).toNat)
    (hb : ∀ a, (![d, 0, 0, 0] : Fin 4 → ℕ) a + S1x384x8x128.size a ≤ S8x384x8x128.size a)
    (hb' : ∀ a, (![r, 0, 0] : Fin 3 → ℕ) a + S384x8x128.size a ≤ S2432x8x128.size a) (fd : S8x384x8x128.Idx → Elt F .f32) (i : S8x384x8x128.Idx)
    (hi : i ∈ ownSet c) :
    (aOut.access (Rect.unit (s := S8x384x8x128) ![d, 0, 0, 0] S1x384x8x128.size hb)).write (Elt F) fd
      (k0_pay1 ((aSrc.access (Rect.unit (s := S2432x8x128) ![r, 0, 0] S384x8x128.size hb')).read (Elt F) (D.x c))) Finset.univ i = result D c i := by
  rw [← ownBlk_set d hb c hd] at hi
  obtain ⟨x, -, rfl⟩ := Finset.mem_map.mp hi
  rw [View.write_emb_of_mem _ _ (Finset.mem_univ x), pay_apply]
  have hx0 : (x 0).val < 1 := (x 0).isLt
  have hx1 : (x 1).val < 384 := (x 1).isLt
  have hlt : r + (x 1).val < 2432 := by
    have := hb' 0
    have h : r + 384 ≤ 2432 := this
    omega
  have h0 : ((aOut.access (Rect.unit (s := S8x384x8x128) ![d, 0, 0, 0] S1x384x8x128.size hb)).emb x : S8x384x8x128.Idx) 0 = c :=
    Fin.ext (by show d + 1 * (x 0).val = c.val; omega)
  have h1 : (((aOut.access (Rect.unit (s := S8x384x8x128) ![d, 0, 0, 0] S1x384x8x128.size hb)).emb x : S8x384x8x128.Idx) 1).val = (x 1).val := by
    show 0 + 1 * (x 1).val = _; omega
  have h2 : ((aOut.access (Rect.unit (s := S8x384x8x128) ![d, 0, 0, 0] S1x384x8x128.size hb)).emb x : S8x384x8x128.Idx) 2 = x 2 :=
    Fin.ext (by show 0 + 1 * (x 2).val = (x 2).val; omega)
  have h3 : ((aOut.access (Rect.unit (s := S8x384x8x128) ![d, 0, 0, 0] S1x384x8x128.size hb)).emb x : S8x384x8x128.Idx) 3 = x 3 :=
    Fin.ext (by show 0 + 1 * (x 3).val = (x 3).val; omega)
  generalize ((aOut.access (Rect.unit (s := S8x384x8x128) ![d, 0, 0, 0] S1x384x8x128.size hb)).emb x : S8x384x8x128.Idx) = y at h0 h1 h2 h3 ⊢
  unfold result
  rw [h0, h1, h2, h3]
  show D.x c ((Rect.unit (s := S2432x8x128) ![r, 0, 0] S384x8x128.size hb').emb _) = _
  refine congrArg (D.x c) ?_
  refine funext fun a => ?_
  match a with
  | 0 => exact Fin.ext (by show r + 1 * (x 1).val = ((D.off c c).toNat + (x 1).val) % 2432; rw [Nat.mod_eq_of_lt (by omega)]; omega)
  | 1 => exact Fin.ext (by show 0 + 1 * (x 2).val = (x 2).val; omega)
  | 2 => exact Fin.ext (by show 0 + 1 * (x 3).val = (x 3).val; omega)

end Cert.CombineIdeal.Exchange
end
-- ==== Proof.Back.Steps.lean ====
/-
  One rule for each kind of statement of the exchange's kernel: from a state of the protocol to the next.

  A state names how many of the kernel's steps of a kind are done; a rule turns a proof about the state after a statement into one about
  the state before it. The kernel tests, for every device and chunk, whether it has anything to do; the rules cover both outcomes, so that
  the kernel's text is walked through once.
-/
module

public import proofs.«01_k».proof.Proof.Back.Blocks

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

abbrev 𝒱₀ : Variants := Variants.none

/-- That device `c` runs `p` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (D : Data F) (κ : GSem nD τ sig → ℕ)

/-! ## What every step may use -/

/-- The levels, and every cell's invariant, at the names `κ`; that every barrier cell is new. -/
def ctx : sProp 𝕄 :=
  iprop(levAts L lv
    ∗ (bigSep Finset.univ fun p : Dev nD => iprop(cellInv ER (sched D) (κ (barCell p)) (barCell p) ∗ reached ER (barCell p) 0))
    ∗ (bigSep Finset.univ fun x : Dev nD × Chunk => cellInv ER (sched D) (κ (sndCell x.1 x.2)) (sndCell x.1 x.2))
    ∗ (bigSep Finset.univ fun x : Dev nD × Chunk => cellInv ER (sched D) (κ (rcvCell x.1 x.2)) (rcvCell x.1 x.2)))

instance ctx_persistent : BI.Persistent (ctx D κ) := by unfold ctx; infer_instance

theorem ctx_lev : ctx D κ ⊢ levAts L lv := by unfold ctx; iintro ⟨H, -⟩; iexact H
theorem ctx_bar (p : Dev nD) : ctx D κ ⊢ iprop(cellInv ER (sched D) (κ (barCell p)) (barCell p) ∗ reached ER (barCell p) 0) := by
  have h : (bigSep Finset.univ fun p : Dev nD => iprop(cellInv ER (sched D) (κ (barCell p)) (barCell p) ∗ reached ER (barCell p) 0))
      ⊢ iprop(cellInv ER (sched D) (κ (barCell p)) (barCell p) ∗ reached ER (barCell p) 0) := bigSep_elim (Finset.mem_univ p)
  unfold ctx; iintro ⟨-, H, -⟩; iapply h; iexact H
theorem ctx_snd (c : Dev nD) (j : Chunk) : ctx D κ ⊢ cellInv ER (sched D) (κ (sndCell c j)) (sndCell c j) := by
  have h : (bigSep Finset.univ fun x : Dev nD × Chunk => cellInv ER (sched D) (κ (sndCell x.1 x.2)) (sndCell x.1 x.2))
      ⊢ cellInv ER (sched D) (κ (sndCell c j)) (sndCell c j) :=
    bigSep_elim (Φ := fun x : Dev nD × Chunk => cellInv ER (sched D) (κ (sndCell x.1 x.2)) (sndCell x.1 x.2)) (Finset.mem_univ (c, j))
  unfold ctx; iintro ⟨-, -, H, -⟩; iapply h; iexact H
theorem ctx_rcv (c : Dev nD) (j : Chunk) : ctx D κ ⊢ cellInv ER (sched D) (κ (rcvCell c j)) (rcvCell c j) := by
  have h : (bigSep Finset.univ fun x : Dev nD × Chunk => cellInv ER (sched D) (κ (rcvCell x.1 x.2)) (rcvCell x.1 x.2))
      ⊢ cellInv ER (sched D) (κ (rcvCell c j)) (rcvCell c j) :=
    bigSep_elim (Φ := fun x : Dev nD × Chunk => cellInv ER (sched D) (κ (rcvCell x.1 x.2)) (rcvCell x.1 x.2)) (Finset.mem_univ (c, j))
  unfold ctx; iintro ⟨-, -, -, H⟩; iapply h; iexact H

/-- The three tables a device reads: where its rows for each device start, how many each gets, and how many it gets from each. -/
def tables (c : Dev nD) : sProp 𝕄 :=
  iprop((((c : Thread nD τ).loc cc0_stg0_0) ↦{fullShare} (fun i : S8.Idx => D.off c (i 0)))
    ∗ (((c : Thread nD τ).loc cc0_stg1_0) ↦{fullShare} (fun i : S8.Idx => D.cnt c (i 0)))
    ∗ (((c : Thread nD τ).loc cc0_stg2_0) ↦{fullShare} (fun i : S8.Idx => D.cnt (i 0) c)))

/-! ## The states -/

/-- A device that has told the devices before the `n`-th that it has entered. -/
def Enter (c : Dev nD) (n : ℕ) (R : sProp 𝕄) : sProp 𝕄 :=
  iprop(tables D c ∗ ctx D κ ∗ (∃ W, owes (c : Thread nD τ) (barDue c n + rowDue D c 0) W)
    ∗ (bigSep Finset.univ fun p : Dev nD => if p.val < n then iprop(emp) else whenP (c ≠ p) iprop(dutyTok ER (barCell p) 0 c ∗ barPay D p c)) ∗ R)

/-- What chunk `j` needs to be sent, but for its place at the other device. -/
def ready (c : Dev nD) (j : Chunk) : sProp 𝕄 :=
  iprop(atPos ER (sndCell c j) 0 ∅ 0 ∗ whenP (sends D c j) iprop(dutyTok ER (sndCell c j) 0 c ∗ dutyTok ER (rcvCell j.1 (c, j.2)) 0 c
    ∗ reached ER (sndCell c j) 0 ∗ srcPts c (leafOf (chunkLeaf j)) (srcSet (row D c j)) (D.x c)))
/-- A chunk to be sent, -/
def todo (c : Dev nD) (j : Chunk) : sProp 𝕄 :=
  iprop(ready D c j ∗ whenP (sends D c j) iprop((∃ f, outPts j.1 (outSet (c, j.2)) f) ∗ reached ER (rcvCell j.1 (c, j.2)) 0))
/-- on its way, -/
def sent (c : Dev nD) (j : Chunk) : sProp 𝕄 :=
  iprop(atPos ER (sndCell c j) 0 ∅ 0 ∗ whenP (sends D c j) (cred (tallyAt (sndCell c j) ιC N)))
/-- and gone. -/
def gone (c : Dev nD) (j : Chunk) : sProp 𝕄 :=
  if sends D c j then iprop(atPos ER (sndCell c j) 1 ∅ 0 ∗ sndPay D c j) else atPos ER (sndCell c j) 0 ∅ 0

/-- A chunk to come, -/
def coming (c : Dev nD) (j : Chunk) : sProp 𝕄 :=
  iprop(atPos ER (rcvCell c j) 0 ∅ 0 ∗ whenP (gets D c j) (cred (tallyAt (rcvCell c j) ιC N)))
/-- and come. -/
def come (c : Dev nD) (j : Chunk) : sProp 𝕄 :=
  if gets D c j then iprop(atPos ER (rcvCell c j) 1 ∅ 0 ∗ rcvPay D c j) else atPos ER (rcvCell c j) 0 ∅ 0

/-- A device's own block, once the devices before the `n`-th are dealt with. -/
def ownBlk (c : Dev nD) (n : ℕ) : sProp 𝕄 :=
  iprop(srcPts c (leafOf 31) Finset.univ (D.x c) ∗ if c.val < n then outPts c (ownSet c) (result D c) else iprop(∃ f, outPts c (ownSet c) f))

/-- A device that has dealt with its own block among the first `n`, and put the first `m` chunks on their way. -/
def Send (c : Dev nD) (n m : ℕ) (R : sProp 𝕄) : sProp 𝕄 :=
  iprop(tables D c ∗ ctx D κ ∗ ownBlk D c n ∗ (∃ W, owes (c : Thread nD τ) (rowDue D c m) W)
    ∗ (bigSep Finset.univ fun j : Chunk => if rank j < m then sent D c j else todo D c j) ∗ R)

/-- A device that has received what comes of the first `n` chunks. -/
def Recv (c : Dev nD) (n : ℕ) (R : sProp 𝕄) : sProp 𝕄 :=
  iprop(tables D c ∗ ctx D κ ∗ (∃ W, owes (c : Thread nD τ) (0 : CellTallies nD τ sig ℕ) W)
    ∗ (bigSep Finset.univ fun j : Chunk => if rank j < n then come D c j else coming D c j) ∗ R)

/-- A device that has seen off what it sends of the first `n` chunks. -/
def Leave (c : Dev nD) (n : ℕ) (R : sProp 𝕄) : sProp 𝕄 :=
  iprop(tables D c ∗ ctx D κ ∗ (∃ W, owes (c : Thread nD τ) (0 : CellTallies nD τ sig ℕ) W)
    ∗ (bigSep Finset.univ fun j : Chunk => if rank j < n then gone D c j else sent D c j) ∗ R)

/-! ## Statements that touch no protocol -/

section Plain

variable {c : Dev nD} {α β : Type}

theorem pure_step {X : sProp 𝕄} {a : α} {Q : α → sProp 𝕄} (h : X ⊢ Q a) : X ⊢ run c (pure a) Q := by
  unfold run; rw [wp_pure]; exact h.trans (BI.fupd_intro (PROP := sProp 𝕄))

theorem bind_step {X : sProp 𝕄} {p : Prog (TpuEff nD τ sig (Elt F) Λ₀ .tc) α} {k : α → Prog (TpuEff nD τ sig (Elt F) Λ₀ .tc) β} {Q : β → sProp 𝕄}
    (h : X ⊢ run c p fun a => run c (k a) Q) : X ⊢ run c (p >>= k) Q := by
  unfold run at h ⊢; rw [wp_bind]; exact h

theorem device_step {X : sProp 𝕄} {K : Dev nD → Prog (TpuEff nD τ sig (Elt F) Λ₀ .tc) β} {Q : β → sProp 𝕄} (h : X ⊢ run c (K c) Q) :
    X ⊢ run c (Prog.lift .deviceId >>= K) Q := by
  show X ⊢ run c (.op .deviceId K) Q
  unfold run; rw [wp_deviceId]; exact h

theorem assume_step {X : sProp 𝕄} {P : Prop} {d : Decidable P} {K : PLift P → Prog (TpuEff nD τ sig (Elt F) Λ₀ .tc) β} {Q : β → sProp 𝕄} (hP : P)
    (h : X ⊢ run c (K ⟨hP⟩) Q) : X ⊢ run c (Prog.lift (.assume P d) >>= K) Q :=
  h.trans (wp_assume 𝒱₀ (c : Thread nD τ) none Set.univ hP)

/-- The element a one-word rectangle of a table names. -/
theorem word_at {A : Type} (p : Dev nD) (hb : ∀ a, (![p.val] : Fin 1 → ℕ) a + S1.size a ≤ S8.size a) (g : Dev nD → A)
    (x : (Rect.unit (s := S8) ![p.val] S1.size hb).shape.Idx) : g ((Rect.unit (s := S8) ![p.val] S1.size hb).emb x 0) = g p := by
  refine congrArg g (Fin.ext ?_)
  have h0 : (x 0).val < 1 := (x 0).isLt
  show p.val + 1 * (x 0).val = p.val
  omega

/-- A word read from a table held whole. -/
theorem word_load {m : Memref sig .tc .smem S8 .i32} {r : Rect S8} {h1 : r.shape.numel = 1} {hp : EltTy.packing .i32 = 1}
    {K : BitVec 32 → Prog (TpuEff nD τ sig (Elt F) Λ₀ .tc) β} {Q : β → sProp 𝕄} {f : Buf (Elt F) (m.view.loc (c : Thread nD τ))} {v : BitVec 32}
    (hv : (m.access r).read (Elt F) f (Shape.Idx.first (h1.symm ▸ Nat.one_pos)) = v) :
    (m.view.loc (c : Thread nD τ) ↦{fullShare} f)
      ⊢ iprop(((m.view.loc (c : Thread nD τ) ↦{fullShare} f) -∗ run c (K v) Q) -∗ run c (smemLoad m r h1 hp >>= K) Q) := by
  subst hv
  exact wp_smemLoadElt 𝒱₀ (c : Thread nD τ) none Set.univ (m := m) (r := r) (hw := View.loads_smem_one hp h1) (Finset.subset_univ _)

/-- A word read from the table of first rows, -/
theorem word_off {P X : sProp 𝕄} {d : ℕ} {hb : ∀ a, (![d] : Fin 1 → ℕ) a + S1.size a ≤ S8.size a} {h1 : (Rect.unit (s := S8) ![d] S1.size hb).shape.numel = 1}
    {hp : EltTy.packing .i32 = 1} {K : BitVec 32 → Prog (TpuEff nD τ sig (Elt F) Λ₀ .tc) β} {Q : β → sProp 𝕄} (p : Dev nD) (hd : d = p.val) (hP : P = iprop(tables D c ∗ X))
    (h : P ⊢ run c (K (D.off c p)) Q) :
    P ⊢ run c (smemLoad aOff (Rect.unit (s := S8) ![d] S1.size hb) h1 hp >>= K) Q := by
  subst hd hP
  have e : (aOff.access (Rect.unit (s := S8) ![p.val] S1.size hb)).read (Elt F) (fun i : S8.Idx => D.off c (i 0)) (Shape.Idx.first (h1.symm ▸ Nat.one_pos)) = D.off c p :=
    word_at p hb (fun q => D.off c q) _
  have hw : (((c : Thread nD τ).loc cc0_stg0_0) ↦{fullShare} (fun i : S8.Idx => D.off c (i 0)))
      ⊢ iprop(((((c : Thread nD τ).loc cc0_stg0_0) ↦{fullShare} (fun i : S8.Idx => D.off c (i 0))) -∗ run c (K (D.off c p)) Q)
        -∗ run c (smemLoad aOff (Rect.unit (s := S8) ![p.val] S1.size hb) h1 hp >>= K) Q) := by
    exact word_load (m := aOff) (r := Rect.unit (s := S8) ![p.val] S1.size hb) (f := (fun i : S8.Idx => D.off c (i 0))) e
  unfold tables
  iintro ⟨⟨H0, H1, H2⟩, HX⟩
  iapply hw $$ H0
  iintro H0
  iapply h
  unfold tables
  isplitl [H0 H1 H2]
  · isplitl [H0]; · iexact H0
    isplitl [H1] <;> iassumption
  iexact HX

/-- from the table of counts, -/
theorem word_cnt {P X : sProp 𝕄} {d : ℕ} {hb : ∀ a, (![d] : Fin 1 → ℕ) a + S1.size a ≤ S8.size a} {h1 : (Rect.unit (s := S8) ![d] S1.size hb).shape.numel = 1}
    {hp : EltTy.packing .i32 = 1} {K : BitVec 32 → Prog (TpuEff nD τ sig (Elt F) Λ₀ .tc) β} {Q : β → sProp 𝕄} (p : Dev nD) (hd : d = p.val) (hP : P = iprop(tables D c ∗ X))
    (h : P ⊢ run c (K (D.cnt c p)) Q) :
    P ⊢ run c (smemLoad aSnt (Rect.unit (s := S8) ![d] S1.size hb) h1 hp >>= K) Q := by
  subst hd hP
  have e : (aSnt.access (Rect.unit (s := S8) ![p.val] S1.size hb)).read (Elt F) (fun i : S8.Idx => D.cnt c (i 0)) (Shape.Idx.first (h1.symm ▸ Nat.one_pos)) = D.cnt c p :=
    word_at p hb (fun q => D.cnt c q) _
  have hw : (((c : Thread nD τ).loc cc0_stg1_0) ↦{fullShare} (fun i : S8.Idx => D.cnt c (i 0)))
      ⊢ iprop(((((c : Thread nD τ).loc cc0_stg1_0) ↦{fullShare} (fun i : S8.Idx => D.cnt c (i 0))) -∗ run c (K (D.cnt c p)) Q)
        -∗ run c (smemLoad aSnt (Rect.unit (s := S8) ![p.val] S1.size hb) h1 hp >>= K) Q) := by
    exact word_load (m := aSnt) (r := Rect.unit (s := S8) ![p.val] S1.size hb) (f := (fun i : S8.Idx => D.cnt c (i 0))) e
  unfold tables
  iintro ⟨⟨H0, H1, H2⟩, HX⟩
  iapply hw $$ H1
  iintro H1
  iapply h
  unfold tables
  isplitl [H0 H1 H2]
  · isplitl [H0]; · iexact H0
    isplitl [H1] <;> iassumption
  iexact HX

/-- and from the table of the counts that the others have for this device. -/
theorem word_got {P X : sProp 𝕄} {d : ℕ} {hb : ∀ a, (![d] : Fin 1 → ℕ) a + S1.size a ≤ S8.size a} {h1 : (Rect.unit (s := S8) ![d] S1.size hb).shape.numel = 1}
    {hp : EltTy.packing .i32 = 1} {K : BitVec 32 → Prog (TpuEff nD τ sig (Elt F) Λ₀ .tc) β} {Q : β → sProp 𝕄} (p : Dev nD) (hd : d = p.val) (hP : P = iprop(tables D c ∗ X))
    (h : P ⊢ run c (K (D.cnt p c)) Q) :
    P ⊢ run c (smemLoad aGot (Rect.unit (s := S8) ![d] S1.size hb) h1 hp >>= K) Q := by
  subst hd hP
  have e : (aGot.access (Rect.unit (s := S8) ![p.val] S1.size hb)).read (Elt F) (fun i : S8.Idx => D.cnt (i 0) c) (Shape.Idx.first (h1.symm ▸ Nat.one_pos)) = D.cnt p c :=
    word_at p hb (fun q => D.cnt q c) _
  have hw : (((c : Thread nD τ).loc cc0_stg2_0) ↦{fullShare} (fun i : S8.Idx => D.cnt (i 0) c))
      ⊢ iprop(((((c : Thread nD τ).loc cc0_stg2_0) ↦{fullShare} (fun i : S8.Idx => D.cnt (i 0) c)) -∗ run c (K (D.cnt p c)) Q)
        -∗ run c (smemLoad aGot (Rect.unit (s := S8) ![p.val] S1.size hb) h1 hp >>= K) Q) := by
    exact word_load (m := aGot) (r := Rect.unit (s := S8) ![p.val] S1.size hb) (f := (fun i : S8.Idx => D.cnt (i 0) c)) e
  unfold tables
  iintro ⟨⟨H0, H1, H2⟩, HX⟩
  iapply hw $$ H2
  iintro H2
  iapply h
  unfold tables
  isplitl [H0 H1 H2]
  · isplitl [H0]; · iexact H0
    isplitl [H1] <;> iassumption
  iexact HX

end Plain

/-! ## The kernel's tests -/

/-- A device's own number, as the kernel computes it. -/
abbrev me (c : Dev nD) : BitVec 32 := Scalar.remsi (Scalar.divsi (Dev.word c) 1#32) 8#32

theorem cond_other : ∀ c p : Dev nD, Scalar.cmpi .ne (Scalar.extui (Scalar.cmpi .ne (me c) (BitVec.ofNat 32 p.val)) : BitVec 32) 0#32 = 1#1 ↔ c ≠ p := by
  decide +kernel
theorem cond_own : ∀ c p : Dev nD, Scalar.cmpi .ne (Scalar.extui (Scalar.cmpi .eq (me c) (BitVec.ofNat 32 p.val)) : BitVec 32) 0#32 = 1#1 ↔ c = p := by
  decide +kernel
theorem cond_ne : ∀ c p : Dev nD, Scalar.cmpi .ne (me c) (BitVec.ofNat 32 p.val) = 1#1 ↔ c ≠ p := by decide +kernel
theorem cond_and : ∀ a b : BitVec 1, Scalar.cmpi .ne (Scalar.extui (Scalar.andi a b) : BitVec 32) 0#32 = 1#1 ↔ a = 1#1 ∧ b = 1#1 := by decide +kernel

/-- A chunk is sent, -/
theorem cond_send (c : Dev nD) (j : Chunk) {a b : BitVec 1} (ha : a = Scalar.cmpi .ne (me c) (BitVec.ofNat 32 j.1.val))
    (hb : b = Scalar.cmpi .sgt (D.cnt c j.1) (BitVec.ofNat 32 (128 * j.2.val))) :
    Scalar.cmpi .ne (Scalar.extui (Scalar.andi a b) : BitVec 32) 0#32 = 1#1 ↔ sends D c j := by
  subst ha hb
  rw [cond_and, cond_ne]
  exact Iff.rfl
/-- or received. -/
theorem cond_recv (c : Dev nD) (j : Chunk) {a b : BitVec 1} (ha : a = Scalar.cmpi .ne (me c) (BitVec.ofNat 32 j.1.val))
    (hb : b = Scalar.cmpi .sgt (D.cnt j.1 c) (BitVec.ofNat 32 (128 * j.2.val))) :
    Scalar.cmpi .ne (Scalar.extui (Scalar.andi a b) : BitVec 32) 0#32 = 1#1 ↔ gets D c j := by
  subst ha hb
  rw [cond_and, cond_ne]
  exact and_congr ne_comm Iff.rfl

/-! ## Entering -/

section Enter

variable {c : Dev nD} {β : Type}

theorem mayWait_bar (O : CellTallies nD τ sig ℕ) (hO : ∀ g i, 0 < O g i → i = ιC ∧ g.1.2 = .tc) :
    (levAts L lv : sProp 𝕄) ⊢ MayWait (c : Thread nD τ) (.reg barS) ιB O :=
  MayOwe.of_cut (L := L) (lev := lv) 5
    (fun p hp => by rw [Finset.mem_singleton.mp hp, L_tc]; decide)
    (fun g i hg => by unfold L; rw [if_pos (hO g i hg).2, (hO g i hg).1]; decide)
    (fun p hp => by rw [Finset.mem_singleton.mp hp]; exact le_rfl)
    (fun g i hg => by rw [(hO g i hg).1]; show 5 < 6; decide)

theorem rowDue_pos (n : ℕ) (g : GSem nD τ sig) (i : ℕ) (h : 0 < rowDue D c n g i) : i = ιC ∧ g.1.2 = .tc := by
  by_contra hne
  refine absurd h (Nat.not_lt.mpr (Nat.le_zero.mpr ?_))
  unfold rowDue
  rw [Finset.sum_apply, Finsupp.finset_sum_apply]
  refine Finset.sum_eq_zero fun j _ => ?_
  split
  · rfl
  split
  · rw [tallyAt_apply, if_neg]
    rintro ⟨rfl, rfl⟩
    exact hne ⟨rfl, rfl⟩
  · rfl

/-- Telling device `p`, if it is another one, that this one has entered. -/
theorem signal_step {R : sProp 𝕄} {K : Prog (TpuEff nD τ sig (Elt F) Λ₀ .tc) β} {Q : β → sProp 𝕄} {cond : BitVec 1}
    {dst : cond = 1#1 → Dev nD} {sem : Sem sig} (p : Dev nD) (n m : ℕ) (hn : p.val = n) (hm : m = n + 1) (hc : cond = 1#1 ↔ c ≠ p)
    (hd : ∀ h, dst h = p) (hs : sem = barS) (h : Enter D κ c m R ⊢ run c K Q) :
    Enter D κ c n R ⊢ run c (if h : cond = 1#1 then (semSignalWord (p := .tc) (dst h) sem 1#32 >>= fun _ => K) else K) Q := by
  subst hs hm hn
  have hstep := bigSep_step (fun p : Dev nD => p.val) (fun _ _ h => Fin.ext h) (fun p => whenP (c ≠ p) iprop(dutyTok ER (barCell p) 0 c ∗ barPay D p c))
    (fun _ => iprop(emp)) p p.val rfl
  have hdue := barDue_step c p
  by_cases hcp : c ≠ p
  · rw [dif_pos (hc.mpr hcp), hd]
    rw [if_pos hcp] at hdue
    rw [whenP_pos hcp] at hstep
    show _ ⊢ run c (.op (.semSignal (p : Thread nD τ) barS 1) fun _ => K) Q
    unfold Enter
    iintro ⟨Ht, #Hc, ⟨%W, HO⟩, Hs, HR⟩
    ihave Hs := hstep $$ Hs
    icases Hs with ⟨⟨Hd, Hp⟩, Hs⟩
    ihave Hb := (ctx_bar D κ p) $$ Hc
    icases Hb with ⟨#HI, #Hr⟩
    iapply (Rounds.wp_signal 𝒱₀ ER (sched D) (c : Thread nD τ) none (dst := (p : Thread nD τ)) (sem := barS) (r := 0) (d := c) (κ := κ (barCell p))
      (by rw [duties_bar]; exact Finset.mem_erase.mpr ⟨hcp, Finset.mem_univ _⟩) (amount_bar D p c) ιB (O₀ := barDue c p.val + rowDue D c 0)
      (barDue c (p.val + 1) + rowDue D c 0) (by rw [hdue, add_right_comm]) (W := W)) $$ [HO Hd Hp]
    · isplitr; · iexact HI
      isplitl [HO]; · iexact HO
      isplitl [Hd]; · iexact Hd
      isplitl [Hp]; · rw [payload_bar]; iexact Hp
      iexact Hr
    iintro HO
    iapply h
    unfold Enter
    isplitl [Ht]; · iexact Ht
    isplitr; · iexact Hc
    isplitl [HO]; · iexists W; iexact HO
    isplitl [Hs]
    · iapply Hs; iempintro
    iexact HR
  · rw [dif_neg (fun hh => hcp (hc.mp hh))]
    rw [if_neg hcp, add_zero] at hdue
    rw [whenP_neg hcp] at hstep
    refine BIBase.Entails.trans ?_ h
    unfold Enter
    iintro ⟨Ht, #Hc, HO, Hs, HR⟩
    ihave Hs := hstep $$ Hs
    icases Hs with ⟨-, Hs⟩
    isplitl [Ht]; · iexact Ht
    isplitr; · iexact Hc
    isplitl [HO]; · rw [hdue]; iexact HO
    isplitl [Hs]
    · iapply Hs; iempintro
    iexact HR

/-- The places that the others hand over are those that the chunks need. -/
theorem todo_of_ready :
    iprop((bigSep Finset.univ fun j : Chunk => ready D c j) ∗ bigSep (Finset.univ.erase c) fun p : Dev nD => barPay D c p)
      ⊢ bigSep Finset.univ fun j : Chunk => if rank j < 0 then sent D c j else todo D c j := by
  have e : (bigSep (Finset.univ.erase c) fun p : Dev nD => barPay D c p)
      ⊢ bigSep Finset.univ fun j : Chunk => whenP (sends D c j) iprop((∃ f, outPts j.1 (outSet (c, j.2)) f) ∗ reached ER (rcvCell j.1 (c, j.2)) 0) := by
    rw [bigSep_univ_prod, bigSep_erase (s := Finset.univ) (Finset.mem_univ c)]
    have e0 : (bigSep Finset.univ fun k : Fin 3 => whenP (sends D c (c, k)) iprop((∃ f, outPts c (outSet (c, k)) f) ∗ reached ER (rcvCell c (c, k)) 0)) = (iprop(emp) : sProp 𝕄) := by
      rw [bigSep_congr fun k _ => whenP_neg (fun h => h.1 rfl) _]
      exact bigSep_emp_const _
    show _ ⊢ iprop((bigSep Finset.univ fun k : Fin 3 => whenP (sends D c (c, k)) iprop((∃ f, outPts c (outSet (c, k)) f) ∗ reached ER (rcvCell c (c, k)) 0)) ∗ _)
    rw [e0]
    exact (emp_sep (PROP := sProp 𝕄)).2
  unfold todo
  refine (sep_mono .rfl e).trans ?_
  rw [← bigSep_sep']
  refine bigSep_mono fun j _ => ?_
  rw [if_neg (Nat.not_lt_zero _)]
  exact BI.Entails.refl _

theorem rest_bar : bigSep ((sched D).duties (barCell c) 0 \ ∅) (fun p => (sched D).payload (barCell c) 0 p) = bigSep (Finset.univ.erase c) fun p => barPay D c p := by
  rw [Finset.sdiff_empty, duties_bar, bigSep_congr fun p _ => payload_bar D c p]

/-- Waiting for the other seven. -/
theorem barrier_step {R : sProp 𝕄} {K : Prog (TpuEff nD τ sig (Elt F) Λ₀ .tc) β} {Q : β → sProp 𝕄}
    (h : Send D κ c 0 0 iprop(atPos ER (barCell c) 1 ∅ 0 ∗ R) ⊢ run c K Q) :
    Enter D κ c 8 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ R)
      ⊢ run c (semWaitWord (p := .tc) (SemArray.scalar barS : Sems sig S_).sem 7#32 >>= fun _ => K) Q := by
  show _ ⊢ run c (.op (.semWait barS 7) fun _ => K) Q
  unfold Enter
  iintro ⟨Ht, #Hc, ⟨%W, HO⟩, -, Hat, Hcr, Hrd, Hsrc, Hown, HR⟩
  ihave Hb := (ctx_bar D κ c) $$ Hc
  icases Hb with ⟨#HI, -⟩
  ihave Hlev := (ctx_lev D κ) $$ Hc
  iapply (Rounds.wp_wait_rest_token 𝒱₀ ER (sched D) (c : Thread nD τ) none (κ := κ (barCell c))
      (wpE_semWait_eq 𝒱₀ (c : Thread nD τ) none Set.univ) (Set.mem_univ _) ιB (O := rowDue D c 0) (W := W) (R := 0) (m := 0) (T := ∅)
      ((Nat.zero_add 7).trans (expect_bar D c).symm)) $$ [Hcr HO Hat Hlev]
  · isplitr; · iexact HI
    isplitl [Hcr]; · iexact Hcr
    isplitl [HO]; · rw [barDue_done, zero_add]; iexact HO
    isplitl [Hlev]; · iapply (mayWait_bar (c := c) (rowDue D c 0) (rowDue_pos D 0)); iexact Hlev
    iexact Hat
  iintro ⟨HO, Hat, -, Hpay⟩
  ihave Hpay := (Entails.of_eq (rest_bar D (c := c))) $$ Hpay
  iapply h
  unfold Send
  isplitl [Ht]; · iexact Ht
  isplitr; · iexact Hc
  isplitl [Hsrc Hown]
  · unfold ownBlk
    isplitl [Hsrc]; · iexact Hsrc
    rw [if_neg (Nat.not_lt_zero _)]; iexact Hown
  isplitl [HO]; · iexists _; iexact HO
  isplitl [Hrd Hpay]
  · iapply (todo_of_ready D (c := c))
    isplitl [Hrd]; · iexact Hrd
    iexact Hpay
  isplitl [Hat]; · iexact Hat
  iexact HR

end Enter

/-! ## Sending -/

section Send

variable {c : Dev nD} {β : Type}

theorem own_inb (hok : D.Ok) (p : Dev nD) : ∀ a, (![(D.off c p).toNat, 0, 0] : Fin 3 → ℕ) a + S384x8x128.size a ≤ S2432x8x128.size a := by
  intro a
  have h := hok c p
  match a with
  | 0 => show (D.off c p).toNat + 384 ≤ 2432; omega
  | 1 => exact le_rfl
  | 2 => exact le_rfl

theorem row_inb (hok : D.Ok) (j : Chunk) : ∀ a, (![row D c j, 0, 0] : Fin 3 → ℕ) a + S128x8x128.size a ≤ S2432x8x128.size a := by
  intro a
  have h := hok c j.1
  have h2 := j.2.isLt
  match a with
  | 0 => show (D.off c j.1).toNat + 128 * j.2.val + 128 ≤ 2432; omega
  | 1 => exact le_rfl
  | 2 => exact le_rfl

theorem row_eq (hok : D.Ok) (j : Chunk) : (Scalar.addi (D.off c j.1) (BitVec.ofNat 32 (128 * j.2.val))).toNat = row D c j := by
  have h := hok c j.1
  have h2 := j.2.isLt
  show (D.off c j.1 + BitVec.ofNat 32 (128 * j.2.val)).toNat = _
  rw [BitVec.toNat_add, BitVec.toNat_ofNat, Nat.mod_eq_of_lt (a := 128 * j.2.val) (by omega), Nat.mod_eq_of_lt (by omega)]
  rfl

/-- The row a chunk starts at, as the kernel computes it, -/
theorem src_off (hok : D.Ok) (j : Chunk) {o : Fin 3 → ℕ}
    (ho : o = ![(Scalar.addi (D.off c j.1) (BitVec.ofNat 32 (128 * j.2.val))).toNat, 0, 0]) : o = ![row D c j, 0, 0] := by
  rw [ho, row_eq D hok j]

/-- is within the pack. -/
theorem src_inb (hok : D.Ok) (j : Chunk) {o : Fin 3 → ℕ}
    (ho : o = ![(Scalar.addi (D.off c j.1) (BitVec.ofNat 32 (128 * j.2.val))).toNat, 0, 0]) : ∀ a, o a + S128x8x128.size a ≤ S2432x8x128.size a := by
  rw [src_off D hok j ho]; exact row_inb D hok j

theorem scratch_inb (j : Chunk) : ∀ a, (![j.1.val, j.2.val] : Fin 2 → ℕ) a + S1x1.size a ≤ S8x3.size a := by
  intro a
  have h1 : j.1.val < 8 := j.1.isLt
  have h2 := j.2.isLt
  match a with
  | 0 => show j.1.val + 1 ≤ 8; omega
  | 1 => show j.2.val + 1 ≤ 3; omega

/-- The semaphores as the kernel names them. -/
theorem snd_sem (j : Chunk) {o : Fin 2 → ℕ} (ho : o = ![j.1.val, j.2.val]) {hb : ∀ a, o a + S1x1.size a ≤ S8x3.size a} :
    ((cc0_scratch0.slice (Rect.unit (s := S8x3) o S1x1.size hb)).squeeze S_ squeezes_S1x1_S_).sem = sndS j := by
  subst ho
  revert j
  have h : ∀ j : Chunk, ((cc0_scratch0.slice (Rect.unit (s := S8x3) ![j.1.val, j.2.val] S1x1.size (scratch_inb j))).squeeze S_ squeezes_S1x1_S_).sem = sndS j := by
    decide +kernel
  exact fun j _ => h j
theorem rcv_sem (j : Chunk) {o : Fin 2 → ℕ} (ho : o = ![j.1.val, j.2.val]) {hb : ∀ a, o a + S1x1.size a ≤ S8x3.size a} :
    ((cc0_scratch1.slice (Rect.unit (s := S8x3) o S1x1.size hb)).squeeze S_ squeezes_S1x1_S_).sem = rcvS j := by
  subst ho
  revert j
  have h : ∀ j : Chunk, ((cc0_scratch1.slice (Rect.unit (s := S8x3) ![j.1.val, j.2.val] S1x1.size (scratch_inb j))).squeeze S_ squeezes_S1x1_S_).sem = rcvS j := by
    decide +kernel
  exact fun j _ => h j

/-- Copying the own block, when device `p` is this one. -/
theorem own_step {R : sProp 𝕄} {K : Prog (TpuEff nD τ sig (Elt F) Λ₀ .tc) β} {Q : β → sProp 𝕄} {cond : BitVec 1}
    (p : Dev nD) (n m q : ℕ) (hn : p.val = n) (hm : m = n + 1) (hc : cond = 1#1 ↔ c = p)
    {o : Fin 3 → ℕ} (ho : o = ![(D.off c p).toNat, 0, 0]) {hb : cond = 1#1 → ∀ a, o a + S384x8x128.size a ≤ S2432x8x128.size a}
    {o' : Fin 4 → ℕ} (ho' : o' = ![n, 0, 0, 0]) {hb' : ∀ a, o' a + S1x384x8x128.size a ≤ S8x384x8x128.size a}
    {hl : ∀ h : cond = 1#1, aSrc.view.LoadsAt (Rect.unit (s := S2432x8x128) o S384x8x128.size (hb h)).toLoadRect}
    {hl' : aOut.view.LoadsAt (Rect.unit (s := S8x384x8x128) o' S1x384x8x128.size hb').toLoadRect}
    {hs : (aOut.access (Rect.unit (s := S8x384x8x128) o' S1x384x8x128.size hb')).Stores Finset.univ} {hx}
    {pay : Vec F S384x8x128 .f32 → FVec F S1x384x8x128 .f32} (hpay : pay = k0_pay1)
    (h : Send D κ c m q R ⊢ run c K Q) :
    Send D κ c n q R ⊢ run c (if h : cond = 1#1 then
        (Prog.lift (.load aSrc (Rect.unit (s := S2432x8x128) o S384x8x128.size (hb h)).toLoadRect (hl h)) >>= fun v : Vec F S384x8x128 .f32 =>
          Prog.lift (.load aOut (Rect.unit (s := S8x384x8x128) o' S1x384x8x128.size hb').toLoadRect hl') >>= fun _ : Vec F S1x384x8x128 .f32 =>
            Prog.lift (.store aOut (Rect.unit (s := S8x384x8x128) o' S1x384x8x128.size hb') (pay v) Finset.univ hs hx) >>= fun _ => K)
      else K) Q := by
  subst ho ho' hpay hm hn
  by_cases hcp : c = p
  · subst hcp
    have hcc := hc.mpr rfl
    rw [dif_pos hcc]
    have hset := ownBlk_set c.val hb' c rfl
    have hw : ∀ f : S8x384x8x128.Idx → Elt F .f32, ∀ w : S384x8x128.Idx → Elt F .f32,
        w = (aSrc.access (Rect.unit (s := S2432x8x128) ![(D.off c c).toNat, 0, 0] S384x8x128.size (hb hcc))).read (Elt F) (D.x c) →
        outPts c (ownSet c) ((aOut.access (Rect.unit (s := S8x384x8x128) ![c.val, 0, 0, 0] S1x384x8x128.size hb')).write (Elt F) f (k0_pay1 w) Finset.univ)
          = outPts c (ownSet c) (result D c) := by
      rintro f w rfl
      exact pointsTo_congr fun i hi => own_copied D c c.val _ rfl rfl hb' (hb hcc) f i hi
    unfold Send ownBlk
    rw [if_neg (lt_irrefl _)]
    iintro ⟨Ht, #Hc, ⟨Hsrc, %f, Hown⟩, HO, Hs, HR⟩
    iapply (wp_load_rect 𝒱₀ (c : Thread nD τ) none Set.univ (m := aSrc) (r := Rect.unit (s := S2432x8x128) ![(D.off c c).toNat, 0, 0] S384x8x128.size (hb hcc)) (S := Finset.univ) (f := D.x c) (Finset.subset_univ _)) $$ [Hsrc]
    · iexact Hsrc
    iintro Hsrc
    iapply (wp_load_rect 𝒱₀ (c : Thread nD τ) none Set.univ (m := aOut) (r := Rect.unit (s := S8x384x8x128) ![c.val, 0, 0, 0] S1x384x8x128.size hb') (S := ownSet c) (f := f) (subset_of_eq hset)) $$ [Hown]
    · iexact Hown
    iintro Hown
    iapply (wp_store 𝒱₀ (c : Thread nD τ) none Set.univ (m := aOut) (r := Rect.unit (s := S8x384x8x128) ![c.val, 0, 0, 0] S1x384x8x128.size hb') (S := ownSet c) (f := f) (subset_of_eq hset)) $$ [Hown]
    · iexact Hown
    iintro Hown
    ihave Hown := (Entails.of_eq (hw f _ rfl)) $$ Hown
    iapply h
    unfold Send ownBlk
    rw [if_pos (Nat.lt_succ_self _)]
    isplitl [Ht]; · iexact Ht
    isplitr; · iexact Hc
    isplitl [Hsrc Hown]
    · isplitl [Hsrc]; · iexact Hsrc
      iexact Hown
    isplitl [HO]; · iexact HO
    isplitl [Hs]; · iexact Hs
    iexact HR
  · rw [dif_neg (fun hh => hcp (hc.mp hh))]
    have e : ownBlk D c p.val = ownBlk D c (p.val + 1) := by
      have hne : c.val ≠ p.val := fun e => hcp (Fin.ext e)
      unfold ownBlk
      by_cases hl : c.val < p.val
      · rw [if_pos hl, if_pos (by omega)]
      · rw [if_neg hl, if_neg (by omega)]
    refine BIBase.Entails.trans (Entails.of_eq ?_) h
    unfold Send
    rw [e]

theorem todo_pos {j : Chunk} (hs : sends D c j) : todo D c j = iprop((atPos ER (sndCell c j) 0 ∅ 0 ∗ dutyTok ER (sndCell c j) 0 c ∗ dutyTok ER (rcvCell j.1 (c, j.2)) 0 c
    ∗ reached ER (sndCell c j) 0 ∗ srcPts c (leafOf (chunkLeaf j)) (srcSet (row D c j)) (D.x c))
    ∗ (∃ f, outPts j.1 (outSet (c, j.2)) f) ∗ reached ER (rcvCell j.1 (c, j.2)) 0) := by
  unfold todo ready; rw [whenP_pos hs, whenP_pos hs]
theorem todo_neg {j : Chunk} (hs : ¬sends D c j) : todo D c j = iprop((atPos ER (sndCell c j) 0 ∅ 0 ∗ emp) ∗ emp) := by
  unfold todo ready; rw [whenP_neg hs, whenP_neg hs]
theorem sent_pos {j : Chunk} (hs : sends D c j) : sent D c j = iprop(atPos ER (sndCell c j) 0 ∅ 0 ∗ cred (tallyAt (sndCell c j) ιC N)) := by
  unfold sent; rw [whenP_pos hs]
theorem sent_neg {j : Chunk} (hs : ¬sends D c j) : sent D c j = iprop(atPos ER (sndCell c j) 0 ∅ 0 ∗ emp) := by
  unfold sent; rw [whenP_neg hs]

/-- Putting chunk `j` on its way, if it is sent. -/
theorem send_step {R : sProp 𝕄} {K : Prog (TpuEff nD τ sig (Elt F) Λ₀ .tc) β} {Q : β → sProp 𝕄} {cond : BitVec 1}
    (j : Chunk) (n m q : ℕ) (hn : rank j = n) (hm : m = n + 1) (hc : cond = 1#1 ↔ sends D c j)
    {dst : Dev nD} (hdst : dst = j.1) {sS sR : DmaSem sig} (hsS : sS = sndS j) (hsR : sR = rcvS (c, j.2))
    {o3 : Fin 4 → ℕ} (ho3 : o3 = ![c.val, 128 * j.2.val, 0, 0]) {hb3 : ∀ a, o3 a + S1x128x8x128.size a ≤ S8x384x8x128.size a}
    {o4 : Fin 3 → ℕ} (ho4 : o4 = ![row D c j, 0, 0]) {hb4 : cond = 1#1 → ∀ a, o4 a + S128x8x128.size a ≤ S2432x8x128.size a}
    {hw : ∀ h : cond = 1#1, (srcAt o4 (hb4 h)).view.WordExact}
    {hw' : (outAt o3 hb3).view.WordExact} {hsc : (outAt o3 hb3).view.ref.isScScratch = false}
    {hty : DmaTarget.Typed (nD := nD) (τ := τ) .vmem (.dma sR) (.remote (Dev.tc dst) (outAt o3 hb3) (.dma sS) hsc)}
    (h : Send D κ c q m R ⊢ run c K Q) :
    Send D κ c q n R ⊢ run c (if h : cond = 1#1 then
        (Prog.lift (.enqueueDma (srcAt o4 (hb4 h))
          (.remote (Dev.tc dst) (outAt o3 hb3) (.dma sS) hsc) (.dma sR) (hw h) hw' hty) >>= fun _ => K)
      else K) Q := by
  subst ho3 ho4 hdst hsS hsR hm hn
  have hstep := bigSep_step rank (fun _ _ h => rank_inj h) (fun j => todo D c j) (fun j => sent D c j) j (rank j) rfl
  have hdue := rowDue_step D c j
  by_cases hs : sends D c j
  · have hcc := hc.mpr hs
    rw [dif_pos hcc]
    rw [if_pos hs] at hdue
    have e1 := srcBlk_set (row D c j) (hb4 hcc)
    have e2 := outBlk_set c.val (128 * j.2.val) hb3 (c, j.2) rfl rfl
    rw [todo_pos D hs, sent_pos D hs] at hstep
    have hsrc : (srcPts c (leafOf (chunkLeaf j)) (srcAt ![row D c j, 0, 0] (hb4 hcc)).view.set (D.x c) : sProp 𝕄)
        = srcPts c (leafOf (chunkLeaf j)) (srcSet (row D c j)) (D.x c) := congrArg (fun I => srcPts c (leafOf (chunkLeaf j)) I (D.x c)) e1
    have hout : ∀ f, (outPts j.1 (outAt ![c.val, 128 * j.2.val, 0, 0] hb3).view.set f : sProp 𝕄) = outPts j.1 (outSet (c, j.2)) f :=
      fun f => congrArg (fun I => outPts j.1 I f) e2
    have hland : ∀ f, (outPts j.1 (outSet (c, j.2)) ((outAt ![c.val, 128 * j.2.val, 0, 0] hb3).view.write (Elt F) f
        ((srcAt ![row D c j, 0, 0] (hb4 hcc)).view.read (Elt F) (D.x c)) Finset.univ) : sProp 𝕄) = outPts j.1 (outSet (c, j.2)) (result D j.1) :=
      fun f => pointsTo_congr fun i hi => chunk_landed D c j.1 j.2 _ _ _ rfl rfl rfl hb3 (hb4 hcc) f i hi
    unfold Send
    iintro ⟨Ht, #Hc, Hown, ⟨%W, HO⟩, Hs, HR⟩
    ihave Hs := hstep $$ Hs
    icases Hs with ⟨⟨⟨Hat, Hd, Hd', Hr, Hsrc⟩, ⟨%f, Hout⟩, Hr'⟩, Hs⟩
    ihave HI := (ctx_snd D κ c j) $$ Hc
    ihave HI' := (ctx_rcv D κ j.1 (c, j.2)) $$ Hc
    ihave Hsrc := (Entails.of_eq hsrc.symm) $$ Hsrc
    ihave Hout := (Entails.of_eq (hout f).symm) $$ Hout
    iapply (Rounds.wp_send_pointsTo 𝒱₀ ER (sched D) (c : Thread nD τ) none (c' := (j.1 : Thread nD τ)) (src := srcAt ![row D c j, 0, 0] (hb4 hcc))
      (dst := outAt ![c.val, 128 * j.2.val, 0, 0] hb3) (sS := .dma (sndS j)) (sem := .dma (rcvS (c, j.2))) (q := leafOf (chunkLeaf j)) (fs := D.x c)
      (κ₁ := κ (sndCell c j)) (κ₂ := κ (rcvCell j.1 (c, j.2))) (r₁ := 0) (r₂ := 0) (d₁ := c) (d₂ := c) (fd := f)
      (by rw [duties_snd, if_pos hs]; exact Finset.mem_singleton_self _) (by rw [duties_rcv, if_pos hs]; exact Finset.mem_singleton_self _)
      ιC ιC N rfl (amount_snd D c j c) (amount_rcv D j.1 (c, j.2) c) (O₀ := rowDue D c (rank j)) (rowDue D c (rank j + 1)) hdue (W := W)
      (by rw [payload_snd]; exact Entails.of_eq hsrc)
      (by rw [payload_rcv]; exact Entails.of_eq ((hout _).trans (hland f)))) $$ [HI HI' Hsrc Hout HO Hd Hr Hd' Hr']
    · isplitl [HI]; · iexact HI
      isplitl [HI']; · iexact HI'
      isplitl [Hsrc]; · iexact Hsrc
      isplitl [Hout]; · iexact Hout
      isplitl [HO]; · iexact HO
      isplitl [Hd]; · iexact Hd
      isplitl [Hr]; · iexact Hr
      isplitl [Hd']; · iexact Hd'
      iexact Hr'
    iintro ⟨Hcr, HO⟩
    iapply h
    unfold Send
    isplitl [Ht]; · iexact Ht
    isplitr; · iexact Hc
    isplitl [Hown]; · iexact Hown
    isplitl [HO]; · iexists W; iexact HO
    isplitl [Hs Hat Hcr]
    · iapply Hs; isplitl [Hat]
      · iexact Hat
      iexact Hcr
    iexact HR
  · rw [dif_neg (fun hh => hs (hc.mp hh))]
    rw [if_neg hs, add_zero] at hdue
    refine BIBase.Entails.trans ?_ h
    rw [todo_neg D hs, sent_neg D hs] at hstep
    unfold Send
    iintro ⟨Ht, #Hc, Hown, HO, Hs, HR⟩
    ihave Hs := hstep $$ Hs
    icases Hs with ⟨⟨⟨Hat, -⟩, -⟩, Hs⟩
    isplitl [Ht]; · iexact Ht
    isplitr; · iexact Hc
    isplitl [Hown]; · iexact Hown
    isplitl [HO]; · rw [hdue]; iexact HO
    isplitl [Hs Hat]
    · iapply Hs; isplitl [Hat]
      · iexact Hat
      iempintro
    iexact HR

end Send

/-! ## Receiving, and seeing off -/

section Wait

variable {c : Dev nD} {β : Type}

theorem coming_pos {j : Chunk} (hs : gets D c j) : coming D c j = iprop(atPos ER (rcvCell c j) 0 ∅ 0 ∗ cred (tallyAt (rcvCell c j) ιC N)) := by
  unfold coming; rw [whenP_pos hs]
theorem coming_neg {j : Chunk} (hs : ¬gets D c j) : coming D c j = iprop(atPos ER (rcvCell c j) 0 ∅ 0 ∗ emp) := by
  unfold coming; rw [whenP_neg hs]
theorem come_pos {j : Chunk} (hs : gets D c j) : come D c j = iprop(atPos ER (rcvCell c j) 1 ∅ 0 ∗ rcvPay D c j) := if_pos hs
theorem come_neg {j : Chunk} (hs : ¬gets D c j) : come D c j = atPos ER (rcvCell c j) 0 ∅ 0 := if_neg hs
theorem rest_rcv {j : Chunk} (hs : gets D c j) :
    bigSep ((sched D).duties (rcvCell c j) 0 \ ∅) (fun p => (sched D).payload (rcvCell c j) 0 p) = rcvPay D c j := by
  rw [Finset.sdiff_empty, duties_rcv, if_pos hs, bigSep_singleton, payload_rcv]

/-- Waiting for the chunk that device `j.1` sends, if it does. -/
theorem recv_step {R : sProp 𝕄} {K : Prog (TpuEff nD τ sig (Elt F) Λ₀ .tc) β} {Q : β → sProp 𝕄} {cond : BitVec 1}
    (j : Chunk) (n m : ℕ) (hn : rank j = n) (hm : m = n + 1) (hc : cond = 1#1 ↔ gets D c j) {sem : DmaSem sig} (hsem : sem = rcvS j)
    {src dst : Memref sig .tc .vmem S128x8x128 .f32} {hw : src.view.WordExact} {hw' : dst.view.WordExact} (hN : dst.view.dmaCredit = N)
    (h : Recv D κ c m R ⊢ run c K Q) :
    Recv D κ c n R ⊢ run c (if cond = 1#1 then (Prog.lift (.waitDma2 sem src dst hw hw') >>= fun _ => K) else K) Q := by
  subst hsem hm hn
  have hstep := bigSep_step rank (fun _ _ h => rank_inj h) (fun j => coming D c j) (fun j => come D c j) j (rank j) rfl
  by_cases hs : gets D c j
  · rw [if_pos (hc.mpr hs)]
    rw [coming_pos D hs, come_pos D hs] at hstep
    unfold Recv
    iintro ⟨Ht, #Hc, ⟨%W, HO⟩, Hs, HR⟩
    ihave Hs := hstep $$ Hs
    icases Hs with ⟨⟨Hat, Hcr⟩, Hs⟩
    ihave HI := (ctx_rcv D κ c j) $$ Hc
    iapply (Rounds.wp_wait_rest_token 𝒱₀ ER (sched D) (c : Thread nD τ) none (κ := κ (rcvCell c j))
      (wpE_waitDma2_eq 𝒱₀ (c : Thread nD τ) none Set.univ) (Set.mem_univ _) ιC (O := 0) (W := W) (R := 0) (m := 0) (T := ∅)
      ((Nat.zero_add _).trans (hN.trans (expect_rcv D c j hs).symm))) $$ [HI Hcr HO Hat]
    · isplitl [HI]; · iexact HI
      isplitl [Hcr]; · rw [hN]; iexact Hcr
      isplitl [HO]; · iexact HO
      isplitr; · rw [MayWait_zero]; iempintro
      iexact Hat
    iintro ⟨HO, Hat, -, Hpay⟩
    ihave Hpay := (Entails.of_eq (rest_rcv D hs)) $$ Hpay
    iapply h
    unfold Recv
    isplitl [Ht]; · iexact Ht
    isplitr; · iexact Hc
    isplitl [HO]; · iexists _; iexact HO
    isplitl [Hs Hat Hpay]
    · iapply Hs; isplitl [Hat]
      · iexact Hat
      iexact Hpay
    iexact HR
  · rw [if_neg (fun hh => hs (hc.mp hh))]
    rw [coming_neg D hs, come_neg D hs] at hstep
    refine BIBase.Entails.trans ?_ h
    unfold Recv
    iintro ⟨Ht, #Hc, HO, Hs, HR⟩
    ihave Hs := hstep $$ Hs
    icases Hs with ⟨⟨Hat, -⟩, Hs⟩
    isplitl [Ht]; · iexact Ht
    isplitr; · iexact Hc
    isplitl [HO]; · iexact HO
    isplitl [Hs Hat]
    · iapply Hs; iexact Hat
    iexact HR

theorem gone_pos {j : Chunk} (hs : sends D c j) : gone D c j = iprop(atPos ER (sndCell c j) 1 ∅ 0 ∗ sndPay D c j) := if_pos hs
theorem gone_neg {j : Chunk} (hs : ¬sends D c j) : gone D c j = atPos ER (sndCell c j) 0 ∅ 0 := if_neg hs
theorem rest_snd {j : Chunk} (hs : sends D c j) :
    bigSep ((sched D).duties (sndCell c j) 0 \ ∅) (fun p => (sched D).payload (sndCell c j) 0 p) = sndPay D c j := by
  rw [Finset.sdiff_empty, duties_snd, if_pos hs, bigSep_singleton, payload_snd]

/-- Waiting for chunk `j`'s departure, if it is sent. -/
theorem leave_step {R : sProp 𝕄} {K : Prog (TpuEff nD τ sig (Elt F) Λ₀ .tc) β} {Q : β → sProp 𝕄} {cond : BitVec 1}
    (j : Chunk) (n m : ℕ) (hn : rank j = n) (hm : m = n + 1) (hc : cond = 1#1 ↔ sends D c j) {sem : DmaSem sig} (hsem : sem = sndS j)
    {src dst : Memref sig .tc .vmem S128x8x128 .f32} {hw : src.view.WordExact} {hw' : dst.view.WordExact} (hN : dst.view.dmaCredit = N)
    (h : Leave D κ c m R ⊢ run c K Q) :
    Leave D κ c n R ⊢ run c (if cond = 1#1 then (Prog.lift (.waitDma2 sem src dst hw hw') >>= fun _ => K) else K) Q := by
  subst hsem hm hn
  have hstep := bigSep_step rank (fun _ _ h => rank_inj h) (fun j => sent D c j) (fun j => gone D c j) j (rank j) rfl
  by_cases hs : sends D c j
  · rw [if_pos (hc.mpr hs)]
    rw [sent_pos D hs, gone_pos D hs] at hstep
    unfold Leave
    iintro ⟨Ht, #Hc, ⟨%W, HO⟩, Hs, HR⟩
    ihave Hs := hstep $$ Hs
    icases Hs with ⟨⟨Hat, Hcr⟩, Hs⟩
    ihave HI := (ctx_snd D κ c j) $$ Hc
    iapply (Rounds.wp_wait_rest_token 𝒱₀ ER (sched D) (c : Thread nD τ) none (κ := κ (sndCell c j))
      (wpE_waitDma2_eq 𝒱₀ (c : Thread nD τ) none Set.univ) (Set.mem_univ _) ιC (O := 0) (W := W) (R := 0) (m := 0) (T := ∅)
      ((Nat.zero_add _).trans (hN.trans (expect_snd D c j hs).symm))) $$ [HI Hcr HO Hat]
    · isplitl [HI]; · iexact HI
      isplitl [Hcr]; · rw [hN]; iexact Hcr
      isplitl [HO]; · iexact HO
      isplitr; · rw [MayWait_zero]; iempintro
      iexact Hat
    iintro ⟨HO, Hat, -, Hpay⟩
    ihave Hpay := (Entails.of_eq (rest_snd D hs)) $$ Hpay
    iapply h
    unfold Leave
    isplitl [Ht]; · iexact Ht
    isplitr; · iexact Hc
    isplitl [HO]; · iexists _; iexact HO
    isplitl [Hs Hat Hpay]
    · iapply Hs; isplitl [Hat]
      · iexact Hat
      iexact Hpay
    iexact HR
  · rw [if_neg (fun hh => hs (hc.mp hh))]
    rw [sent_neg D hs, gone_neg D hs] at hstep
    refine BIBase.Entails.trans ?_ h
    unfold Leave
    iintro ⟨Ht, #Hc, HO, Hs, HR⟩
    ihave Hs := hstep $$ Hs
    icases Hs with ⟨⟨Hat, -⟩, Hs⟩
    isplitl [Ht]; · iexact Ht
    isplitr; · iexact Hc
    isplitl [HO]; · iexact HO
    isplitl [Hs Hat]
    · iapply Hs; iexact Hat
    iexact HR

/-- All is sent: what remains is to receive, -/
theorem recv_start {R : sProp 𝕄} :
    Send D κ c 8 24 iprop((bigSep Finset.univ fun j : Chunk => coming D c j) ∗ R)
      ⊢ Recv D κ c 0 iprop(ownBlk D c 8 ∗ (bigSep Finset.univ fun j : Chunk => sent D c j) ∗ R) := by
  have e : (bigSep Finset.univ fun j : Chunk => if rank j < 24 then sent D c j else todo D c j) = bigSep Finset.univ fun j : Chunk => sent D c j :=
    bigSep_congr fun j _ => if_pos (rank_lt j)
  have e' : (bigSep Finset.univ fun j : Chunk => if rank j < 0 then come D c j else coming D c j) = bigSep Finset.univ fun j : Chunk => coming D c j :=
    bigSep_congr fun j _ => if_neg (Nat.not_lt_zero _)
  unfold Send Recv
  rw [e, e', rowDue_done]
  iintro ⟨Ht, #Hc, Hown, HO, Hs, Hcm, HR⟩
  isplitl [Ht]; · iexact Ht
  isplitr; · iexact Hc
  isplitl [HO]; · iexact HO
  isplitl [Hcm]; · iexact Hcm
  isplitl [Hown]; · iexact Hown
  isplitl [Hs]; · iexact Hs
  iexact HR

/-- and then to see off what was sent. -/
theorem leave_start {R : sProp 𝕄} :
    Recv D κ c 24 iprop((bigSep Finset.univ fun j : Chunk => sent D c j) ∗ R)
      ⊢ Leave D κ c 0 iprop((bigSep Finset.univ fun j : Chunk => come D c j) ∗ R) := by
  have e : (bigSep Finset.univ fun j : Chunk => if rank j < 24 then come D c j else coming D c j) = bigSep Finset.univ fun j : Chunk => come D c j :=
    bigSep_congr fun j _ => if_pos (rank_lt j)
  have e' : (bigSep Finset.univ fun j : Chunk => if rank j < 0 then gone D c j else sent D c j) = bigSep Finset.univ fun j : Chunk => sent D c j :=
    bigSep_congr fun j _ => if_neg (Nat.not_lt_zero _)
  unfold Recv Leave
  rw [e, e']
  iintro ⟨Ht, #Hc, HO, Hs, Hst, HR⟩
  isplitl [Ht]; · iexact Ht
  isplitr; · iexact Hc
  isplitl [HO]; · iexact HO
  isplitl [Hst]; · iexact Hst
  isplitl [Hs]; · iexact Hs
  iexact HR

end Wait

end Cert.CombineIdeal.Exchange
end
-- ==== Proof.Back.Body.lean ====
/-
  The kernel's own text, walked through: one lemma for each of the parts it is cut into, each naming the protocol's state before and
  after, and the words the part hands to the next.
-/
module

public import proofs.«01_k».proof.Proof.Back.Steps

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond34 k0_cond35 k0_cond36 k0_cond37 k0_cond38 k0_cond39 k0_cond40 Scalar.cmpi

variable (D : Data F) (κ : GSem nD τ sig → ℕ) {c : Dev nD} {β : Type}

/-- Part 1: the device enters, and waits until the others have. -/
theorem part1_step {R : sProp 𝕄} {Q : β → sProp 𝕄} {K : (Σ' (_ : Dev nD) (_ : BitVec 32), Elt F .i32) → Prog (TpuEff nD τ sig (Elt F) Λ₀ .tc) β}
    (h : Send D κ c 0 0 iprop(atPos ER (barCell c) 1 ∅ 0 ∗ R) ⊢ run c (K ⟨c, me c, D.off c 0⟩) Q) (h0 h1 h2 h3 h4) :
    Enter D κ c 0 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ R) ⊢ run c (k0_part1 (F := F) aOff h0 aSnt h1 aGot h2 aSrc h3 aOut h4 cc0_scratch0 cc0_scratch1 >>= K) Q := by
  refine bind_step ?_
  rw [k0_part1_eq_skeleton]; unfold k0_part1_skel
  refine device_step ?_
  refine signal_step D κ 0 0 1 rfl rfl (by unfold k0_cond1; exact cond_other c 0) (fun _ => Fin.ext k0_dev1_eq) rfl ?_
  refine signal_step D κ 1 1 2 rfl rfl (by unfold k0_cond2; exact cond_other c 1) (fun _ => Fin.ext k0_dev2_eq) rfl ?_
  refine signal_step D κ 2 2 3 rfl rfl (by unfold k0_cond3; exact cond_other c 2) (fun _ => Fin.ext k0_dev3_eq) rfl ?_
  refine signal_step D κ 3 3 4 rfl rfl (by unfold k0_cond4; exact cond_other c 3) (fun _ => Fin.ext k0_dev4_eq) rfl ?_
  refine signal_step D κ 4 4 5 rfl rfl (by unfold k0_cond5; exact cond_other c 4) (fun _ => Fin.ext k0_dev5_eq) rfl ?_
  refine signal_step D κ 5 5 6 rfl rfl (by unfold k0_cond6; exact cond_other c 5) (fun _ => Fin.ext k0_dev6_eq) rfl ?_
  refine signal_step D κ 6 6 7 rfl rfl (by unfold k0_cond7; exact cond_other c 6) (fun _ => Fin.ext k0_dev7_eq) rfl ?_
  refine signal_step D κ 7 7 8 rfl rfl (by unfold k0_cond8; exact cond_other c 7) (fun _ => Fin.ext k0_dev8_eq) rfl ?_
  refine barrier_step D κ ?_
  refine word_off D 0 rfl rfl ?_
  exact pure_step h

theorem part2_step (hok : D.Ok) {R : sProp 𝕄} {Q : β → sProp 𝕄} {K : (Σ' (v50 : Elt F .i32) (v55 : Elt F .i32) (k0_hw6 : k0_chk6 c v50 v55), BitVec 1) → Prog (TpuEff nD τ sig (Elt F) Λ₀ .tc) β}
    (h : ∀ hw, Send D κ c 2 3 R ⊢ run c (K ⟨D.off c 1, D.cnt c 1, hw, (Scalar.andi (Scalar.cmpi .ne (me c) 1#32) (Scalar.cmpi .sgt (D.cnt c 1) 0#32))⟩) Q) (h0 h1 h2 h3 h4) :
    Send D κ c 0 0 R ⊢ run c (k0_part2 (F := F) aOff h0 aSnt h1 aGot h2 aSrc h3 aOut h4 cc0_scratch0 cc0_scratch1 c (me c) (D.off c 0) >>= K) Q := by
  refine bind_step ?_
  rw [k0_part2_eq_skeleton]; unfold k0_part2_skel
  refine assume_step (by intro _; exact own_inb D hok 0) ?_
  refine own_step D κ 0 0 1 0 rfl rfl (by unfold k0_cond9; exact cond_own c 0) rfl rfl rfl ?_
  refine word_cnt D 0 rfl rfl ?_
  refine assume_step (by intro _; exact src_inb D hok (0, 0) rfl) ?_
  refine send_step D κ (0, 0) 0 1 1 rfl rfl (by unfold k0_cond10; exact cond_send D c (0, 0) rfl rfl) (Fin.ext k0_dev9_eq)
    (snd_sem (0, 0) rfl) (rcv_sem (c, 0) (k0_off2_eq c)) (k0_off3_eq c) (src_off D hok (0, 0) rfl) ?_
  refine word_cnt D 0 rfl rfl ?_
  refine assume_step (by intro _; exact src_inb D hok (0, 1) rfl) ?_
  refine send_step D κ (0, 1) 1 2 1 rfl rfl (by unfold k0_cond11; exact cond_send D c (0, 1) rfl rfl) (Fin.ext k0_dev10_eq)
    (snd_sem (0, 1) rfl) (rcv_sem (c, 1) (k0_off5_eq c)) (k0_off6_eq c) (src_off D hok (0, 1) rfl) ?_
  refine word_cnt D 0 rfl rfl ?_
  refine assume_step (by intro _; exact src_inb D hok (0, 2) rfl) ?_
  refine send_step D κ (0, 2) 2 3 1 rfl rfl (by unfold k0_cond12; exact cond_send D c (0, 2) rfl rfl) (Fin.ext k0_dev11_eq)
    (snd_sem (0, 2) rfl) (rcv_sem (c, 2) (k0_off8_eq c)) (k0_off9_eq c) (src_off D hok (0, 2) rfl) ?_
  refine word_off D 1 rfl rfl ?_
  refine assume_step (by intro _; exact own_inb D hok 1) ?_
  refine own_step D κ 1 1 2 3 rfl rfl (by unfold k0_cond13; exact cond_own c 1) rfl rfl rfl ?_
  refine word_cnt D 1 rfl rfl ?_
  refine assume_step (by intro _; exact src_inb D hok (1, 0) rfl) ?_
  exact pure_step (h _)

theorem part3_step (hok : D.Ok) {R : sProp 𝕄} {Q : β → sProp 𝕄} {K : (Σ' (v72 : Elt F .i32) (v83 : Elt F .i32), k0_chk11 c v72 v83) → Prog (TpuEff nD τ sig (Elt F) Λ₀ .tc) β} (hw0 : k0_chk6 c (D.off c 1) (D.cnt c 1))
    (h : ∀ hw, Send D κ c 3 7 R ⊢ run c (K ⟨D.off c 2, D.cnt c 2, hw⟩) Q) (h0 h1 h2 h3 h4) :
    Send D κ c 2 3 R ⊢ run c (k0_part3 (F := F) aOff h0 aSnt h1 aGot h2 aSrc h3 aOut h4 cc0_scratch0 cc0_scratch1 c (me c) (D.off c 1) (D.cnt c 1) hw0 (Scalar.andi (Scalar.cmpi .ne (me c) 1#32) (Scalar.cmpi .sgt (D.cnt c 1) 0#32)) >>= K) Q := by
  refine bind_step ?_
  rw [k0_part3_eq_skeleton]; unfold k0_part3_skel
  refine send_step D κ (1, 0) 3 4 2 rfl rfl (by unfold k0_cond14; exact cond_send D c (1, 0) rfl rfl) (Fin.ext k0_dev12_eq)
    (snd_sem (1, 0) rfl) (rcv_sem (c, 0) (k0_off12_eq c)) (k0_off13_eq c) (src_off D hok (1, 0) rfl) ?_
  refine word_cnt D 1 rfl rfl ?_
  refine assume_step (by intro _; exact src_inb D hok (1, 1) rfl) ?_
  refine send_step D κ (1, 1) 4 5 2 rfl rfl (by unfold k0_cond15; exact cond_send D c (1, 1) rfl rfl) (Fin.ext k0_dev13_eq)
    (snd_sem (1, 1) rfl) (rcv_sem (c, 1) (k0_off15_eq c)) (k0_off16_eq c) (src_off D hok (1, 1) rfl) ?_
  refine word_cnt D 1 rfl rfl ?_
  refine assume_step (by intro _; exact src_inb D hok (1, 2) rfl) ?_
  refine send_step D κ (1, 2) 5 6 2 rfl rfl (by unfold k0_cond16; exact cond_send D c (1, 2) rfl rfl) (Fin.ext k0_dev14_eq)
    (snd_sem (1, 2) rfl) (rcv_sem (c, 2) (k0_off18_eq c)) (k0_off19_eq c) (src_off D hok (1, 2) rfl) ?_
  refine word_off D 2 rfl rfl ?_
  refine assume_step (by intro _; exact own_inb D hok 2) ?_
  refine own_step D κ 2 2 3 6 rfl rfl (by unfold k0_cond17; exact cond_own c 2) rfl rfl rfl ?_
  refine word_cnt D 2 rfl rfl ?_
  refine assume_step (by intro _; exact src_inb D hok (2, 0) rfl) ?_
  refine send_step D κ (2, 0) 6 7 3 rfl rfl (by unfold k0_cond18; exact cond_send D c (2, 0) rfl rfl) (Fin.ext k0_dev15_eq)
    (snd_sem (2, 0) rfl) (rcv_sem (c, 0) (k0_off22_eq c)) (k0_off23_eq c) (src_off D hok (2, 0) rfl) ?_
  refine word_cnt D 2 rfl rfl ?_
  refine assume_step (by intro _; exact src_inb D hok (2, 1) rfl) ?_
  exact pure_step (h _)

theorem part4_step (hok : D.Ok) {R : sProp 𝕄} {Q : β → sProp 𝕄} {K : (Elt F .i32) → Prog (TpuEff nD τ sig (Elt F) Λ₀ .tc) β} (hw0 : k0_chk11 c (D.off c 2) (D.cnt c 2))
    (h : Send D κ c 4 12 R ⊢ run c (K (D.off c 4)) Q) (h0 h1 h2 h3 h4) :
    Send D κ c 3 7 R ⊢ run c (k0_part4 (F := F) aOff h0 aSnt h1 aGot h2 aSrc h3 aOut h4 cc0_scratch0 cc0_scratch1 c (me c) (D.off c 2) (D.cnt c 2) hw0 >>= K) Q := by
  refine bind_step ?_
  rw [k0_part4_eq_skeleton]; unfold k0_part4_skel
  refine send_step D κ (2, 1) 7 8 3 rfl rfl (by unfold k0_cond19; exact cond_send D c (2, 1) rfl rfl) (Fin.ext k0_dev16_eq)
    (snd_sem (2, 1) rfl) (rcv_sem (c, 1) (k0_off25_eq c)) (k0_off26_eq c) (src_off D hok (2, 1) rfl) ?_
  refine word_cnt D 2 rfl rfl ?_
  refine assume_step (by intro _; exact src_inb D hok (2, 2) rfl) ?_
  refine send_step D κ (2, 2) 8 9 3 rfl rfl (by unfold k0_cond20; exact cond_send D c (2, 2) rfl rfl) (Fin.ext k0_dev17_eq)
    (snd_sem (2, 2) rfl) (rcv_sem (c, 2) (k0_off28_eq c)) (k0_off29_eq c) (src_off D hok (2, 2) rfl) ?_
  refine word_off D 3 rfl rfl ?_
  refine assume_step (by intro _; exact own_inb D hok 3) ?_
  refine own_step D κ 3 3 4 9 rfl rfl (by unfold k0_cond21; exact cond_own c 3) rfl rfl rfl ?_
  refine word_cnt D 3 rfl rfl ?_
  refine assume_step (by intro _; exact src_inb D hok (3, 0) rfl) ?_
  refine send_step D κ (3, 0) 9 10 4 rfl rfl (by unfold k0_cond22; exact cond_send D c (3, 0) rfl rfl) (Fin.ext k0_dev18_eq)
    (snd_sem (3, 0) rfl) (rcv_sem (c, 0) (k0_off32_eq c)) (k0_off33_eq c) (src_off D hok (3, 0) rfl) ?_
  refine word_cnt D 3 rfl rfl ?_
  refine assume_step (by intro _; exact src_inb D hok (3, 1) rfl) ?_
  refine send_step D κ (3, 1) 10 11 4 rfl rfl (by unfold k0_cond23; exact cond_send D c (3, 1) rfl rfl) (Fin.ext k0_dev19_eq)
    (snd_sem (3, 1) rfl) (rcv_sem (c, 1) (k0_off35_eq c)) (k0_off36_eq c) (src_off D hok (3, 1) rfl) ?_
  refine word_cnt D 3 rfl rfl ?_
  refine assume_step (by intro _; exact src_inb D hok (3, 2) rfl) ?_
  refine send_step D κ (3, 2) 11 12 4 rfl rfl (by unfold k0_cond24; exact cond_send D c (3, 2) rfl rfl) (Fin.ext k0_dev20_eq)
    (snd_sem (3, 2) rfl) (rcv_sem (c, 2) (k0_off38_eq c)) (k0_off39_eq c) (src_off D hok (3, 2) rfl) ?_
  refine word_off (h1 := numel1_S1) (hp := rfl) D 4 rfl rfl ?_
  exact pure_step h

theorem part5_step (hok : D.Ok) {R : sProp 𝕄} {Q : β → sProp 𝕄} {K : (Σ' (v138 : Elt F .i32) (v143 : Elt F .i32) (k0_hw22 : k0_chk22 c v138 v143), BitVec 1) → Prog (TpuEff nD τ sig (Elt F) Λ₀ .tc) β}
    (h : ∀ hw, Send D κ c 6 15 R ⊢ run c (K ⟨D.off c 5, D.cnt c 5, hw, (Scalar.andi (Scalar.cmpi .ne (me c) 5#32) (Scalar.cmpi .sgt (D.cnt c 5) 0#32))⟩) Q) (h0 h1 h2 h3 h4) :
    Send D κ c 4 12 R ⊢ run c (k0_part5 (F := F) aOff h0 aSnt h1 aGot h2 aSrc h3 aOut h4 cc0_scratch0 cc0_scratch1 c (me c) (D.off c 4) >>= K) Q := by
  refine bind_step ?_
  rw [k0_part5_eq_skeleton]; unfold k0_part5_skel
  refine assume_step (by intro _; exact own_inb D hok 4) ?_
  refine own_step D κ 4 4 5 12 rfl rfl (by unfold k0_cond25; exact cond_own c 4) rfl rfl rfl ?_
  refine word_cnt D 4 rfl rfl ?_
  refine assume_step (by intro _; exact src_inb D hok (4, 0) rfl) ?_
  refine send_step D κ (4, 0) 12 13 5 rfl rfl (by unfold k0_cond26; exact cond_send D c (4, 0) rfl rfl) (Fin.ext k0_dev21_eq)
    (snd_sem (4, 0) rfl) (rcv_sem (c, 0) (k0_off42_eq c)) (k0_off43_eq c) (src_off D hok (4, 0) rfl) ?_
  refine word_cnt D 4 rfl rfl ?_
  refine assume_step (by intro _; exact src_inb D hok (4, 1) rfl) ?_
  refine send_step D κ (4, 1) 13 14 5 rfl rfl (by unfold k0_cond27; exact cond_send D c (4, 1) rfl rfl) (Fin.ext k0_dev22_eq)
    (snd_sem (4, 1) rfl) (rcv_sem (c, 1) (k0_off45_eq c)) (k0_off46_eq c) (src_off D hok (4, 1) rfl) ?_
  refine word_cnt D 4 rfl rfl ?_
  refine assume_step (by intro _; exact src_inb D hok (4, 2) rfl) ?_
  refine send_step D κ (4, 2) 14 15 5 rfl rfl (by unfold k0_cond28; exact cond_send D c (4, 2) rfl rfl) (Fin.ext k0_dev23_eq)
    (snd_sem (4, 2) rfl) (rcv_sem (c, 2) (k0_off48_eq c)) (k0_off49_eq c) (src_off D hok (4, 2) rfl) ?_
  refine word_off D 5 rfl rfl ?_
  refine assume_step (by intro _; exact own_inb D hok 5) ?_
  refine own_step D κ 5 5 6 15 rfl rfl (by unfold k0_cond29; exact cond_own c 5) rfl rfl rfl ?_
  refine word_cnt D 5 rfl rfl ?_
  refine assume_step (by intro _; exact src_inb D hok (5, 0) rfl) ?_
  exact pure_step (h _)

theorem part6_step (hok : D.Ok) {R : sProp 𝕄} {Q : β → sProp 𝕄} {K : (Σ' (v160 : Elt F .i32) (v171 : Elt F .i32), k0_chk27 c v160 v171) → Prog (TpuEff nD τ sig (Elt F) Λ₀ .tc) β} (hw0 : k0_chk22 c (D.off c 5) (D.cnt c 5))
    (h : ∀ hw, Send D κ c 7 19 R ⊢ run c (K ⟨D.off c 6, D.cnt c 6, hw⟩) Q) (h0 h1 h2 h3 h4) :
    Send D κ c 6 15 R ⊢ run c (k0_part6 (F := F) aOff h0 aSnt h1 aGot h2 aSrc h3 aOut h4 cc0_scratch0 cc0_scratch1 c (me c) (D.off c 5) (D.cnt c 5) hw0 (Scalar.andi (Scalar.cmpi .ne (me c) 5#32) (Scalar.cmpi .sgt (D.cnt c 5) 0#32)) >>= K) Q := by
  refine bind_step ?_
  rw [k0_part6_eq_skeleton]; unfold k0_part6_skel
  refine send_step D κ (5, 0) 15 16 6 rfl rfl (by unfold k0_cond30; exact cond_send D c (5, 0) rfl rfl) (Fin.ext k0_dev24_eq)
    (snd_sem (5, 0) rfl) (rcv_sem (c, 0) (k0_off52_eq c)) (k0_off53_eq c) (src_off D hok (5, 0) rfl) ?_
  refine word_cnt D 5 rfl rfl ?_
  refine assume_step (by intro _; exact src_inb D hok (5, 1) rfl) ?_
  refine send_step D κ (5, 1) 16 17 6 rfl rfl (by unfold k0_cond31; exact cond_send D c (5, 1) rfl rfl) (Fin.ext k0_dev25_eq)
    (snd_sem (5, 1) rfl) (rcv_sem (c, 1) (k0_off55_eq c)) (k0_off56_eq c) (src_off D hok (5, 1) rfl) ?_
  refine word_cnt D 5 rfl rfl ?_
  refine assume_step (by intro _; exact src_inb D hok (5, 2) rfl) ?_
  refine send_step D κ (5, 2) 17 18 6 rfl rfl (by unfold k0_cond32; exact cond_send D c (5, 2) rfl rfl) (Fin.ext k0_dev26_eq)
    (snd_sem (5, 2) rfl) (rcv_sem (c, 2) (k0_off58_eq c)) (k0_off59_eq c) (src_off D hok (5, 2) rfl) ?_
  refine word_off D 6 rfl rfl ?_
  refine assume_step (by intro _; exact own_inb D hok 6) ?_
  refine own_step D κ 6 6 7 18 rfl rfl (by unfold k0_cond33; exact cond_own c 6) rfl rfl rfl ?_
  refine word_cnt D 6 rfl rfl ?_
  refine assume_step (by intro _; exact src_inb D hok (6, 0) rfl) ?_
  refine send_step D κ (6, 0) 18 19 7 rfl rfl (by unfold k0_cond34; exact cond_send D c (6, 0) rfl rfl) (Fin.ext k0_dev27_eq)
    (snd_sem (6, 0) rfl) (rcv_sem (c, 0) (k0_off62_eq c)) (k0_off63_eq c) (src_off D hok (6, 0) rfl) ?_
  refine word_cnt D 6 rfl rfl ?_
  refine assume_step (by intro _; exact src_inb D hok (6, 1) rfl) ?_
  exact pure_step (h _)

theorem part7_step (hok : D.Ok) {R : sProp 𝕄} {Q : β → sProp 𝕄} {K : (BitVec 1) → Prog (TpuEff nD τ sig (Elt F) Λ₀ .tc) β} (hw0 : k0_chk27 c (D.off c 6) (D.cnt c 6))
    (h : Send D κ c 8 24 R ⊢ run c (K (Scalar.cmpi .ne (me c) 0#32)) Q) (h0 h1 h2 h3 h4) :
    Send D κ c 7 19 R ⊢ run c (k0_part7 (F := F) aOff h0 aSnt h1 aGot h2 aSrc h3 aOut h4 cc0_scratch0 cc0_scratch1 c (me c) (D.off c 6) (D.cnt c 6) hw0 >>= K) Q := by
  refine bind_step ?_
  rw [k0_part7_eq_skeleton]; unfold k0_part7_skel
  refine send_step D κ (6, 1) 19 20 7 rfl rfl (by unfold k0_cond35; exact cond_send D c (6, 1) rfl rfl) (Fin.ext k0_dev28_eq)
    (snd_sem (6, 1) rfl) (rcv_sem (c, 1) (k0_off65_eq c)) (k0_off66_eq c) (src_off D hok (6, 1) rfl) ?_
  refine word_cnt D 6 rfl rfl ?_
  refine assume_step (by intro _; exact src_inb D hok (6, 2) rfl) ?_
  refine send_step D κ (6, 2) 20 21 7 rfl rfl (by unfold k0_cond36; exact cond_send D c (6, 2) rfl rfl) (Fin.ext k0_dev29_eq)
    (snd_sem (6, 2) rfl) (rcv_sem (c, 2) (k0_off68_eq c)) (k0_off69_eq c) (src_off D hok (6, 2) rfl) ?_
  refine word_off D 7 rfl rfl ?_
  refine assume_step (by intro _; exact own_inb D hok 7) ?_
  refine own_step D κ 7 7 8 21 rfl rfl (by unfold k0_cond37; exact cond_own c 7) rfl rfl rfl ?_
  refine word_cnt D 7 rfl rfl ?_
  refine assume_step (by intro _; exact src_inb D hok (7, 0) rfl) ?_
  refine send_step D κ (7, 0) 21 22 8 rfl rfl (by unfold k0_cond38; exact cond_send D c (7, 0) rfl rfl) (Fin.ext k0_dev30_eq)
    (snd_sem (7, 0) rfl) (rcv_sem (c, 0) (k0_off72_eq c)) (k0_off73_eq c) (src_off D hok (7, 0) rfl) ?_
  refine word_cnt D 7 rfl rfl ?_
  refine assume_step (by intro _; exact src_inb D hok (7, 1) rfl) ?_
  refine send_step D κ (7, 1) 22 23 8 rfl rfl (by unfold k0_cond39; exact cond_send D c (7, 1) rfl rfl) (Fin.ext k0_dev31_eq)
    (snd_sem (7, 1) rfl) (rcv_sem (c, 1) (k0_off75_eq c)) (k0_off76_eq c) (src_off D hok (7, 1) rfl) ?_
  refine word_cnt D 7 rfl rfl ?_
  refine assume_step (by intro _; exact src_inb D hok (7, 2) rfl) ?_
  refine send_step D κ (7, 2) 23 24 8 rfl rfl (by unfold k0_cond40; exact cond_send D c (7, 2) rfl rfl) (Fin.ext k0_dev32_eq)
    (snd_sem (7, 2) rfl) (rcv_sem (c, 2) (k0_off78_eq c)) (k0_off79_eq c) (src_off D hok (7, 2) rfl) ?_
  exact pure_step h

theorem part8_step {R : sProp 𝕄} {Q : β → sProp 𝕄} {K : (BitVec 1) → Prog (TpuEff nD τ sig (Elt F) Λ₀ .tc) β}
    (h : Recv D κ c 5 R ⊢ run c (K (Scalar.andi (Scalar.cmpi .ne (me c) 1#32) (Scalar.cmpi .sgt (D.cnt 1 c) 256#32))) Q) (h0 h1 h2 h3 h4) :
    Recv D κ c 0 R ⊢ run c (k0_part8 (F := F) aOff h0 aSnt h1 aGot h2 aSrc h3 aOut h4 cc0_scratch0 cc0_scratch1 (me c) (Scalar.cmpi .ne (me c) 0#32) >>= K) Q := by
  refine bind_step ?_
  rw [k0_part8_eq_skeleton]; unfold k0_part8_skel
  refine word_got D 0 rfl rfl ?_
  refine recv_step D κ (0, 0) 0 1 rfl rfl (cond_recv D c (0, 0) rfl rfl) (rcv_sem (0, 0) rfl) rfl ?_
  refine word_got D 0 rfl rfl ?_
  refine recv_step D κ (0, 1) 1 2 rfl rfl (cond_recv D c (0, 1) rfl rfl) (rcv_sem (0, 1) rfl) rfl ?_
  refine word_got D 0 rfl rfl ?_
  refine recv_step D κ (0, 2) 2 3 rfl rfl (cond_recv D c (0, 2) rfl rfl) (rcv_sem (0, 2) rfl) rfl ?_
  refine word_got D 1 rfl rfl ?_
  refine recv_step D κ (1, 0) 3 4 rfl rfl (cond_recv D c (1, 0) rfl rfl) (rcv_sem (1, 0) rfl) rfl ?_
  refine word_got D 1 rfl rfl ?_
  refine recv_step D κ (1, 1) 4 5 rfl rfl (cond_recv D c (1, 1) rfl rfl) (rcv_sem (1, 1) rfl) rfl ?_
  refine word_got D 1 rfl rfl ?_
  exact pure_step h

theorem part9_step {R : sProp 𝕄} {Q : β → sProp 𝕄} {K : (BitVec 32) → Prog (TpuEff nD τ sig (Elt F) Λ₀ .tc) β}
    (h : Recv D κ c 11 R ⊢ run c (K (3#32)) Q) (h0 h1 h2 h3 h4) :
    Recv D κ c 5 R ⊢ run c (k0_part9 (F := F) aOff h0 aSnt h1 aGot h2 aSrc h3 aOut h4 cc0_scratch0 cc0_scratch1 (me c) (Scalar.andi (Scalar.cmpi .ne (me c) 1#32) (Scalar.cmpi .sgt (D.cnt 1 c) 256#32)) >>= K) Q := by
  refine bind_step ?_
  rw [k0_part9_eq_skeleton]; unfold k0_part9_skel
  refine recv_step D κ (1, 2) 5 6 rfl rfl (cond_recv D c (1, 2) rfl rfl) (rcv_sem (1, 2) rfl) rfl ?_
  refine word_got D 2 rfl rfl ?_
  refine recv_step D κ (2, 0) 6 7 rfl rfl (cond_recv D c (2, 0) rfl rfl) (rcv_sem (2, 0) rfl) rfl ?_
  refine word_got D 2 rfl rfl ?_
  refine recv_step D κ (2, 1) 7 8 rfl rfl (cond_recv D c (2, 1) rfl rfl) (rcv_sem (2, 1) rfl) rfl ?_
  refine word_got D 2 rfl rfl ?_
  refine recv_step D κ (2, 2) 8 9 rfl rfl (cond_recv D c (2, 2) rfl rfl) (rcv_sem (2, 2) rfl) rfl ?_
  refine word_got D 3 rfl rfl ?_
  refine recv_step D κ (3, 0) 9 10 rfl rfl (cond_recv D c (3, 0) rfl rfl) (rcv_sem (3, 0) rfl) rfl ?_
  refine word_got D 3 rfl rfl ?_
  refine recv_step D κ (3, 1) 10 11 rfl rfl (cond_recv D c (3, 1) rfl rfl) (rcv_sem (3, 1) rfl) rfl ?_
  exact pure_step h

theorem part10_step {R : sProp 𝕄} {Q : β → sProp 𝕄} {K : (Σ' (_ : BitVec 1), BitVec 1) → Prog (TpuEff nD τ sig (Elt F) Λ₀ .tc) β}
    (h : Recv D κ c 16 R ⊢ run c (K ⟨(Scalar.cmpi .ne (me c) 5#32), (Scalar.cmpi .sgt (D.cnt 5 c) 128#32)⟩) Q) (h0 h1 h2 h3 h4) :
    Recv D κ c 11 R ⊢ run c (k0_part10 (F := F) aOff h0 aSnt h1 aGot h2 aSrc h3 aOut h4 cc0_scratch0 cc0_scratch1 (me c) (3#32) >>= K) Q := by
  refine bind_step ?_
  rw [k0_part10_eq_skeleton]; unfold k0_part10_skel
  refine word_got D 3 rfl rfl ?_
  refine recv_step D κ (3, 2) 11 12 rfl rfl (cond_recv D c (3, 2) rfl rfl) (rcv_sem (3, 2) rfl) rfl ?_
  refine word_got D 4 rfl rfl ?_
  refine recv_step D κ (4, 0) 12 13 rfl rfl (cond_recv D c (4, 0) rfl rfl) (rcv_sem (4, 0) rfl) rfl ?_
  refine word_got D 4 rfl rfl ?_
  refine recv_step D κ (4, 1) 13 14 rfl rfl (cond_recv D c (4, 1) rfl rfl) (rcv_sem (4, 1) rfl) rfl ?_
  refine word_got D 4 rfl rfl ?_
  refine recv_step D κ (4, 2) 14 15 rfl rfl (cond_recv D c (4, 2) rfl rfl) (rcv_sem (4, 2) rfl) rfl ?_
  refine word_got D 5 rfl rfl ?_
  refine recv_step D κ (5, 0) 15 16 rfl rfl (cond_recv D c (5, 0) rfl rfl) (rcv_sem (5, 0) rfl) rfl ?_
  refine word_got D 5 rfl rfl ?_
  exact pure_step h

theorem part11_step {R : sProp 𝕄} {Q : β → sProp 𝕄} {K : (PUnit) → Prog (TpuEff nD τ sig (Elt F) Λ₀ .tc) β}
    (h : Recv D κ c 22 R ⊢ run c (K ⟨⟩) Q) (h0 h1 h2 h3 h4) :
    Recv D κ c 16 R ⊢ run c (k0_part11 (F := F) aOff h0 aSnt h1 aGot h2 aSrc h3 aOut h4 cc0_scratch0 cc0_scratch1 (me c) (Scalar.cmpi .ne (me c) 5#32) (Scalar.cmpi .sgt (D.cnt 5 c) 128#32) >>= K) Q := by
  refine bind_step ?_
  rw [k0_part11_eq_skeleton]; unfold k0_part11_skel
  refine recv_step D κ (5, 1) 16 17 rfl rfl (cond_recv D c (5, 1) rfl rfl) (rcv_sem (5, 1) rfl) rfl ?_
  refine word_got D 5 rfl rfl ?_
  refine recv_step D κ (5, 2) 17 18 rfl rfl (cond_recv D c (5, 2) rfl rfl) (rcv_sem (5, 2) rfl) rfl ?_
  refine word_got D 6 rfl rfl ?_
  refine recv_step D κ (6, 0) 18 19 rfl rfl (cond_recv D c (6, 0) rfl rfl) (rcv_sem (6, 0) rfl) rfl ?_
  refine word_got D 6 rfl rfl ?_
  refine recv_step D κ (6, 1) 19 20 rfl rfl (cond_recv D c (6, 1) rfl rfl) (rcv_sem (6, 1) rfl) rfl ?_
  refine word_got D 6 rfl rfl ?_
  refine recv_step D κ (6, 2) 20 21 rfl rfl (cond_recv D c (6, 2) rfl rfl) (rcv_sem (6, 2) rfl) rfl ?_
  refine word_got D 7 rfl rfl ?_
  refine recv_step D κ (7, 0) 21 22 rfl rfl (cond_recv D c (7, 0) rfl rfl) (rcv_sem (7, 0) rfl) rfl ?_
  exact pure_step h

theorem part12_step {R : sProp 𝕄} {Q : β → sProp 𝕄} {K : (Σ' (_ : BitVec 1) (_ : Elt F .i32), BitVec 32) → Prog (TpuEff nD τ sig (Elt F) Λ₀ .tc) β}
    (h : Leave D κ c 3 iprop((bigSep Finset.univ fun j : Chunk => come D c j) ∗ R) ⊢ run c (K ⟨(Scalar.cmpi .ne (me c) 1#32), D.cnt c 1, 0#32⟩) Q) (h0 h1 h2 h3 h4) :
    Recv D κ c 22 iprop((bigSep Finset.univ fun j : Chunk => sent D c j) ∗ R) ⊢ run c (k0_part12 (F := F) aOff h0 aSnt h1 aGot h2 aSrc h3 aOut h4 cc0_scratch0 cc0_scratch1 (me c) >>= K) Q := by
  refine bind_step ?_
  rw [k0_part12_eq_skeleton]; unfold k0_part12_skel
  refine word_got D 7 rfl rfl ?_
  refine recv_step D κ (7, 1) 22 23 rfl rfl (cond_recv D c (7, 1) rfl rfl) (rcv_sem (7, 1) rfl) rfl ?_
  refine word_got D 7 rfl rfl ?_
  refine recv_step D κ (7, 2) 23 24 rfl rfl (cond_recv D c (7, 2) rfl rfl) (rcv_sem (7, 2) rfl) rfl ?_
  refine (leave_start D κ).trans ?_
  refine word_cnt D 0 rfl rfl ?_
  refine leave_step D κ (0, 0) 0 1 rfl rfl (cond_send D c (0, 0) rfl rfl) (snd_sem (0, 0) rfl) rfl ?_
  refine word_cnt D 0 rfl rfl ?_
  refine leave_step D κ (0, 1) 1 2 rfl rfl (cond_send D c (0, 1) rfl rfl) (snd_sem (0, 1) rfl) rfl ?_
  refine word_cnt D 0 rfl rfl ?_
  refine leave_step D κ (0, 2) 2 3 rfl rfl (cond_send D c (0, 2) rfl rfl) (snd_sem (0, 2) rfl) rfl ?_
  refine word_cnt (h1 := numel1_S1) (hp := rfl) D 1 rfl rfl ?_
  exact pure_step h

theorem part13_step {R : sProp 𝕄} {Q : β → sProp 𝕄} {K : (BitVec 1) → Prog (TpuEff nD τ sig (Elt F) Λ₀ .tc) β}
    (h : Leave D κ c 8 R ⊢ run c (K (Scalar.cmpi .ne (Scalar.extui (Scalar.andi (Scalar.cmpi .ne (me c) 2#32) (Scalar.cmpi .sgt (D.cnt c 2) 256#32)) : BitVec 32) 0#32)) Q) (h0 h1 h2 h3 h4) :
    Leave D κ c 3 R ⊢ run c (k0_part13 (F := F) aOff h0 aSnt h1 aGot h2 aSrc h3 aOut h4 cc0_scratch0 cc0_scratch1 (me c) (Scalar.cmpi .ne (me c) 1#32) (D.cnt c 1) (0#32) >>= K) Q := by
  refine bind_step ?_
  rw [k0_part13_eq_skeleton]; unfold k0_part13_skel
  refine leave_step D κ (1, 0) 3 4 rfl rfl (cond_send D c (1, 0) rfl rfl) (snd_sem (1, 0) rfl) rfl ?_
  refine word_cnt D 1 rfl rfl ?_
  refine leave_step D κ (1, 1) 4 5 rfl rfl (cond_send D c (1, 1) rfl rfl) (snd_sem (1, 1) rfl) rfl ?_
  refine word_cnt D 1 rfl rfl ?_
  refine leave_step D κ (1, 2) 5 6 rfl rfl (cond_send D c (1, 2) rfl rfl) (snd_sem (1, 2) rfl) rfl ?_
  refine word_cnt D 2 rfl rfl ?_
  refine leave_step D κ (2, 0) 6 7 rfl rfl (cond_send D c (2, 0) rfl rfl) (snd_sem (2, 0) rfl) rfl ?_
  refine word_cnt D 2 rfl rfl ?_
  refine leave_step D κ (2, 1) 7 8 rfl rfl (cond_send D c (2, 1) rfl rfl) (snd_sem (2, 1) rfl) rfl ?_
  refine word_cnt (h1 := numel1_S1) (hp := rfl) D 2 rfl rfl ?_
  exact pure_step h

theorem part14_step {R : sProp 𝕄} {Q : β → sProp 𝕄} {K : (Σ' (_ : BitVec 1), Elt F .i32) → Prog (TpuEff nD τ sig (Elt F) Λ₀ .tc) β}
    (h : Leave D κ c 14 R ⊢ run c (K ⟨(Scalar.cmpi .ne (me c) 4#32), D.cnt c 4⟩) Q) (h0 h1 h2 h3 h4) :
    Leave D κ c 8 R ⊢ run c (k0_part14 (F := F) aOff h0 aSnt h1 aGot h2 aSrc h3 aOut h4 cc0_scratch0 cc0_scratch1 (me c) (Scalar.cmpi .ne (Scalar.extui (Scalar.andi (Scalar.cmpi .ne (me c) 2#32) (Scalar.cmpi .sgt (D.cnt c 2) 256#32)) : BitVec 32) 0#32) >>= K) Q := by
  refine bind_step ?_
  rw [k0_part14_eq_skeleton]; unfold k0_part14_skel
  refine leave_step D κ (2, 2) 8 9 rfl rfl (cond_send D c (2, 2) rfl rfl) (snd_sem (2, 2) rfl) rfl ?_
  refine word_cnt D 3 rfl rfl ?_
  refine leave_step D κ (3, 0) 9 10 rfl rfl (cond_send D c (3, 0) rfl rfl) (snd_sem (3, 0) rfl) rfl ?_
  refine word_cnt D 3 rfl rfl ?_
  refine leave_step D κ (3, 1) 10 11 rfl rfl (cond_send D c (3, 1) rfl rfl) (snd_sem (3, 1) rfl) rfl ?_
  refine word_cnt D 3 rfl rfl ?_
  refine leave_step D κ (3, 2) 11 12 rfl rfl (cond_send D c (3, 2) rfl rfl) (snd_sem (3, 2) rfl) rfl ?_
  refine word_cnt D 4 rfl rfl ?_
  refine leave_step D κ (4, 0) 12 13 rfl rfl (cond_send D c (4, 0) rfl rfl) (snd_sem (4, 0) rfl) rfl ?_
  refine word_cnt D 4 rfl rfl ?_
  refine leave_step D κ (4, 1) 13 14 rfl rfl (cond_send D c (4, 1) rfl rfl) (snd_sem (4, 1) rfl) rfl ?_
  refine word_cnt (h1 := numel1_S1) (hp := rfl) D 4 rfl rfl ?_
  exact pure_step h

theorem part15_step {R : sProp 𝕄} {Q : β → sProp 𝕄} {K : (Σ' (_ : BitVec 32), BitVec 32) → Prog (TpuEff nD τ sig (Elt F) Λ₀ .tc) β}
    (h : Leave D κ c 19 R ⊢ run c (K ⟨Scalar.extui (Scalar.andi (Scalar.cmpi .ne (me c) 6#32) (Scalar.cmpi .sgt (D.cnt c 6) 128#32)), 0#32⟩) Q) (h0 h1 h2 h3 h4) :
    Leave D κ c 14 R ⊢ run c (k0_part15 (F := F) aOff h0 aSnt h1 aGot h2 aSrc h3 aOut h4 cc0_scratch0 cc0_scratch1 (me c) (Scalar.cmpi .ne (me c) 4#32) (D.cnt c 4) >>= K) Q := by
  refine bind_step ?_
  rw [k0_part15_eq_skeleton]; unfold k0_part15_skel
  refine leave_step D κ (4, 2) 14 15 rfl rfl (cond_send D c (4, 2) rfl rfl) (snd_sem (4, 2) rfl) rfl ?_
  refine word_cnt D 5 rfl rfl ?_
  refine leave_step D κ (5, 0) 15 16 rfl rfl (cond_send D c (5, 0) rfl rfl) (snd_sem (5, 0) rfl) rfl ?_
  refine word_cnt D 5 rfl rfl ?_
  refine leave_step D κ (5, 1) 16 17 rfl rfl (cond_send D c (5, 1) rfl rfl) (snd_sem (5, 1) rfl) rfl ?_
  refine word_cnt D 5 rfl rfl ?_
  refine leave_step D κ (5, 2) 17 18 rfl rfl (cond_send D c (5, 2) rfl rfl) (snd_sem (5, 2) rfl) rfl ?_
  refine word_cnt D 6 rfl rfl ?_
  refine leave_step D κ (6, 0) 18 19 rfl rfl (cond_send D c (6, 0) rfl rfl) (snd_sem (6, 0) rfl) rfl ?_
  refine word_cnt (h1 := numel1_S1) (hp := rfl) D 6 rfl rfl ?_
  exact pure_step h

theorem send_mono {n q : ℕ} {R R' : sProp 𝕄} (h : R ⊢ R') : Send D κ c n q R ⊢ Send D κ c n q R' := by
  unfold Send
  iintro ⟨H1, H2, H3, H4, H5, HR⟩
  isplitl [H1]; · iexact H1
  isplitl [H2]; · iexact H2
  isplitl [H3]; · iexact H3
  isplitl [H4]; · iexact H4
  isplitl [H5]; · iexact H5
  iapply h; iexact HR

/-- The parts in order: from a device's entry to its last wait but one. -/
theorem part16_step (hok : D.Ok) {R : sProp 𝕄} {Q : β → sProp 𝕄} {K : BitVec 1 → Prog (TpuEff nD τ sig (Elt F) Λ₀ .tc) β}
    (h : Leave D κ c 23 iprop((bigSep Finset.univ fun j : Chunk => come D c j) ∗ ownBlk D c 8 ∗ atPos ER (barCell c) 1 ∅ 0 ∗ R)
      ⊢ run c (K (Scalar.cmpi .ne (Scalar.extui (Scalar.andi (Scalar.cmpi .ne (me c) 7#32) (Scalar.cmpi .sgt (D.cnt c 7) 256#32)) : BitVec 32) 0#32)) Q)
    (h0 h1 h2 h3 h4) :
    Enter D κ c 0 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ (bigSep Finset.univ fun j : Chunk => coming D c j) ∗ R)
      ⊢ run c (k0_part16 (F := F) aOff h0 aSnt h1 aGot h2 aSrc h3 aOut h4 cc0_scratch0 cc0_scratch1 >>= K) Q := by
  refine bind_step ?_
  rw [k0_part16_eq_skeleton]; unfold k0_part16_skel
  refine part1_step D κ ?_ h0 h1 h2 h3 h4
  refine part2_step D κ hok (fun hw => ?_) h0 h1 h2 h3 h4
  refine part3_step D κ hok hw (fun hw => ?_) h0 h1 h2 h3 h4
  refine part4_step D κ hok hw ?_ h0 h1 h2 h3 h4
  refine part5_step D κ hok (fun hw => ?_) h0 h1 h2 h3 h4
  refine part6_step D κ hok hw (fun hw => ?_) h0 h1 h2 h3 h4
  refine part7_step D κ hok hw ?_ h0 h1 h2 h3 h4
  have hsw : iprop(atPos ER (barCell c) 1 ∅ 0 ∗ (bigSep Finset.univ fun j : Chunk => coming D c j) ∗ R)
      ⊢ iprop((bigSep Finset.univ fun j : Chunk => coming D c j) ∗ atPos ER (barCell c) 1 ∅ 0 ∗ R) := by
    iintro ⟨H1, H2, H3⟩
    isplitl [H2]; · iexact H2
    isplitl [H1]; · iexact H1
    iexact H3
  refine (send_mono D κ hsw).trans ?_
  refine (recv_start D κ).trans ?_
  refine part8_step D κ ?_ h0 h1 h2 h3 h4
  refine part9_step D κ ?_ h0 h1 h2 h3 h4
  refine part10_step D κ ?_ h0 h1 h2 h3 h4
  refine part11_step D κ ?_ h0 h1 h2 h3 h4
  have hsw : Recv D κ c 22 iprop(ownBlk D c 8 ∗ (bigSep Finset.univ fun j : Chunk => sent D c j) ∗ atPos ER (barCell c) 1 ∅ 0 ∗ R)
      ⊢ Recv D κ c 22 iprop((bigSep Finset.univ fun j : Chunk => sent D c j) ∗ ownBlk D c 8 ∗ atPos ER (barCell c) 1 ∅ 0 ∗ R) := by
    unfold Recv
    iintro ⟨H1, H2, H3, H4, H5, H6, H7⟩
    isplitl [H1]; · iexact H1
    isplitl [H2]; · iexact H2
    isplitl [H3]; · iexact H3
    isplitl [H4]; · iexact H4
    isplitl [H6]; · iexact H6
    isplitl [H5]; · iexact H5
    iexact H7
  refine hsw.trans ?_
  refine part12_step D κ ?_ h0 h1 h2 h3 h4
  refine part13_step D κ ?_ h0 h1 h2 h3 h4
  refine part14_step D κ ?_ h0 h1 h2 h3 h4
  refine part15_step D κ ?_ h0 h1 h2 h3 h4
  refine leave_step D κ (6, 1) 19 20 rfl rfl (cond_send D c (6, 1) rfl rfl) (snd_sem (6, 1) rfl) rfl ?_
  refine word_cnt D 6 rfl rfl ?_
  refine leave_step D κ (6, 2) 20 21 rfl rfl (cond_send D c (6, 2) rfl rfl) (snd_sem (6, 2) rfl) rfl ?_
  refine word_cnt D 7 rfl rfl ?_
  refine leave_step D κ (7, 0) 21 22 rfl rfl (cond_send D c (7, 0) rfl rfl) (snd_sem (7, 0) rfl) rfl ?_
  refine word_cnt D 7 rfl rfl ?_
  refine leave_step D κ (7, 1) 22 23 rfl rfl (cond_send D c (7, 1) rfl rfl) (snd_sem (7, 1) rfl) rfl ?_
  refine word_cnt D 7 rfl rfl ?_
  exact pure_step h

/-- The kernel's body, from a device's entry to its end. -/
theorem body_step (hok : D.Ok) {R : sProp 𝕄} {Q : PUnit → sProp 𝕄}
    (h : Leave D κ c 24 iprop((bigSep Finset.univ fun j : Chunk => come D c j) ∗ ownBlk D c 8 ∗ atPos ER (barCell c) 1 ∅ 0 ∗ R)
      ⊢ |={Set.univ}=> Q ⟨⟩)
    (h0 h1 h2 h3 h4) :
    Enter D κ c 0 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ (bigSep Finset.univ fun j : Chunk => coming D c j) ∗ R)
      ⊢ run c (cc0_body (F := F) aOff h0 aSnt h1 aGot h2 aSrc h3 aOut h4 cc0_scratch0 cc0_scratch1) Q := by
  rw [cc0_body_eq_skeleton]; unfold cc0_body_skel
  refine part16_step D κ hok ?_ h0 h1 h2 h3 h4
  refine leave_step D κ (7, 2) 23 24 rfl rfl (cond_send D c (7, 2) rfl rfl) (snd_sem (7, 2) rfl) rfl ?_
  unfold run; rw [wp_pure]; exact h

end Cert.CombineIdeal.Exchange
end
-- ==== Proof.Back.Pieces.lean ====
/-
  How the kernel's two large buffers are taken apart for the exchange, and put together after it.

  The packed rows are held in 32 shares, one for each chunk that may be sent and one for the device's own block. The result is held in
  pieces: the device's own block, and the 128 rows of each chunk that may arrive.
-/
module

public import proofs.«01_k».proof.Proof.Back.Body

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (D : Data F) (c : Dev nD)

theorem src_split (q : PosShare TreeShare) (I : Finset S2432x8x128.Idx) (f : S2432x8x128.Idx → Elt F .f32) :
    srcPts c q Finset.univ f = iprop(srcPts c q I f ∗ srcPts c q (Finset.univ \ I) f) := by
  exact (pointsTo_split_subset (ℓ := (c : Thread nD τ).loc cc0_stg3_0) (q := q) (f := f) (Finset.subset_univ I)).1.antisymm
    (pointsTo_split_subset (ℓ := (c : Thread nD τ).loc cc0_stg3_0) (q := q) (f := f) (Finset.subset_univ I)).2

theorem out_split (I : Finset S8x384x8x128.Idx) (f : S8x384x8x128.Idx → Elt F .f32) :
    outPts c Finset.univ f = iprop(outPts c I f ∗ outPts c (Finset.univ \ I) f) := by
  exact (pointsTo_split_subset (ℓ := (c : Thread nD τ).loc cc0_stg4_0) (q := fullShare) (f := f) (Finset.subset_univ I)).1.antisymm
    (pointsTo_split_subset (ℓ := (c : Thread nD τ).loc cc0_stg4_0) (q := fullShare) (f := f) (Finset.subset_univ I)).2

/-! ## The packed rows -/

def chunkEmb : Chunk ↪ Fin 32 := ⟨chunkLeaf, fun i j h => rank_inj (congrArg Fin.val h)⟩

/-- The shares of the packed rows that neither a chunk nor the own block takes. -/
def spare : Finset (Fin 32) := (Finset.univ \ Finset.univ.map chunkEmb).erase 31

theorem src_leaves (f : S2432x8x128.Idx → Elt F .f32) :
    srcPts c fullShare Finset.univ f
      = iprop((bigSep Finset.univ fun j : Chunk => srcPts c (leafOf (chunkLeaf j)) Finset.univ f)
        ∗ srcPts c (leafOf 31) Finset.univ f ∗ bigSep spare fun n => srcPts c (leafOf n) Finset.univ f) := by
  have h31 : (31 : Fin 32) ∈ Finset.univ \ Finset.univ.map chunkEmb := by
    rw [Finset.mem_sdiff]
    refine ⟨Finset.mem_univ _, fun h => ?_⟩
    obtain ⟨j, -, hj⟩ := Finset.mem_map.mp h
    have h1 := rank_lt j
    have h2 : rank j = 31 := congrArg Fin.val hj
    omega
  have e : srcPts c fullShare Finset.univ f = bigSep Finset.univ fun n : Fin 32 => srcPts c (leafOf n) Finset.univ f :=
    ShareLeaves.pointsTo_leaves (ℓ := (c : Thread nD τ).loc cc0_stg3_0) Finset.univ f 5 fullShare
  rw [e, bigSep_sdiff_split (Finset.subset_univ (Finset.univ.map chunkEmb)), bigSep_erase h31, bigSep_map]
  rfl

/-- What is left of chunk `j`'s share of the packed rows while the chunk is away. -/
def srcRest (j : Chunk) : sProp 𝕄 :=
  if sends D c j then srcPts c (leafOf (chunkLeaf j)) (Finset.univ \ srcSet (row D c j)) (D.x c)
    else srcPts c (leafOf (chunkLeaf j)) Finset.univ (D.x c)

theorem src_chunk (j : Chunk) :
    srcPts c (leafOf (chunkLeaf j)) Finset.univ (D.x c) = iprop(whenP (sends D c j) (sndPay D c j) ∗ srcRest D c j) := by
  unfold srcRest sndPay
  by_cases h : sends D c j
  · rw [whenP_pos h, if_pos h]
    exact src_split c _ _ _
  · rw [whenP_neg h, if_neg h]
    exact (equiv_iff.mp emp_sep).symm

/-- The packed rows, taken apart. -/
theorem src_apart :
    srcPts c fullShare Finset.univ (D.x c)
      = iprop((bigSep Finset.univ fun j : Chunk => whenP (sends D c j) (sndPay D c j)) ∗ srcPts c (leafOf 31) Finset.univ (D.x c)
        ∗ (bigSep Finset.univ fun j : Chunk => srcRest D c j) ∗ bigSep spare fun n => srcPts c (leafOf n) Finset.univ (D.x c)) := by
  have e : (bigSep Finset.univ fun j : Chunk => srcPts c (leafOf (chunkLeaf j)) Finset.univ (D.x c))
      = iprop((bigSep Finset.univ fun j : Chunk => whenP (sends D c j) (sndPay D c j)) ∗ bigSep Finset.univ fun j : Chunk => srcRest D c j) := by
    rw [← bigSep_sep']; exact bigSep_congr fun j _ => src_chunk D c j
  rw [src_leaves, e]
  have regroup (A B C E : sProp 𝕄) : iprop((A ∗ B) ∗ C ∗ E) ⊢ iprop(A ∗ C ∗ B ∗ E) := by
    iintro ⟨⟨H1, H2⟩, H3, H4⟩
    isplitl [H1]; · iexact H1
    isplitl [H3]; · iexact H3
    isplitl [H2] <;> iassumption
  have back (A B C E : sProp 𝕄) : iprop(A ∗ C ∗ B ∗ E) ⊢ iprop((A ∗ B) ∗ C ∗ E) := by
    iintro ⟨H1, H3, H2, H4⟩
    isplitl [H1 H2]; · isplitl [H1] <;> iassumption
    isplitl [H3] <;> iassumption
  exact (regroup _ _ _ _).antisymm (back _ _ _ _)

/-! ## The result -/

/-- The rows of chunk `j` in device `c`'s result, the device's own block apart. -/
def piece (j : Chunk) : Finset S8x384x8x128.Idx := if j.1 = c then ∅ else outSet j

theorem piece_ne {j : Chunk} (h : j.1 ≠ c) : piece c j = outSet j := if_neg h

theorem mem_piece (j : Chunk) (i : S8x384x8x128.Idx) :
    i ∈ piece c j ↔ j.1 ≠ c ∧ (i 0).val = j.1.val ∧ 128 * j.2.val ≤ (i 1).val ∧ (i 1).val < 128 * j.2.val + 128 := by
  unfold piece
  split
  · exact ⟨fun h => absurd h (Finset.notMem_empty _), fun h => absurd (by assumption) h.1⟩
  · exact ⟨fun h => ⟨by assumption, (Finset.mem_filter.mp h).2⟩, fun h => Finset.mem_filter.mpr ⟨Finset.mem_univ _, h.2⟩⟩

theorem mem_ownSet (i : S8x384x8x128.Idx) : i ∈ ownSet c ↔ (i 0).val = c.val :=
  ⟨fun h => (Finset.mem_filter.mp h).2, fun h => Finset.mem_filter.mpr ⟨Finset.mem_univ _, h⟩⟩

theorem piece_disjoint (j j' : Chunk) (h : j ≠ j') : Disjoint (piece c j) (piece c j') := by
  rw [Finset.disjoint_left]
  intro i hi hi'
  have h1 := (mem_piece c j i).mp hi
  have h2 := (mem_piece c j' i).mp hi'
  exact h (Prod.ext (Fin.ext (h1.2.1.symm.trans h2.2.1)) (Fin.ext (by omega)))

/-- The chunk a place of the result belongs to. -/
def chunkOf (i : S8x384x8x128.Idx) : Chunk :=
  ((⟨(i 0).val, (i 0).isLt⟩ : Fin 8), ⟨(i 1).val / 128, by have h : (i 1).val < 384 := (i 1).isLt; omega⟩)

theorem mem_piece_chunkOf (i : S8x384x8x128.Idx) (h : (i 0).val ≠ c.val) : i ∈ piece c (chunkOf i) := by
  rw [mem_piece]
  refine ⟨fun e => h (congrArg Fin.val e), rfl, ?_, ?_⟩
  · show 128 * ((i 1).val / 128) ≤ (i 1).val; omega
  · show (i 1).val < 128 * ((i 1).val / 128) + 128; omega

theorem piece_all : Finset.univ \ ownSet c = Finset.univ.biUnion (piece c) := by
  ext i
  rw [Finset.mem_sdiff, Finset.mem_biUnion, mem_ownSet]
  constructor
  · rintro ⟨-, h⟩
    exact ⟨chunkOf i, Finset.mem_univ _, mem_piece_chunkOf c i h⟩
  · rintro ⟨j, -, h⟩
    have h1 := (mem_piece c j i).mp h
    exact ⟨Finset.mem_univ _, fun e => h1.1 (Fin.ext (h1.2.1.symm.trans e))⟩

theorem out_apart (f : S8x384x8x128.Idx → Elt F .f32) :
    outPts c Finset.univ f = iprop(outPts c (ownSet c) f ∗ bigSep Finset.univ fun j : Chunk => outPts c (piece c j) f) := by
  rw [out_split c (ownSet c), piece_all]
  have e : outPts c (Finset.univ.biUnion (piece c)) f = bigSep Finset.univ fun j : Chunk => outPts c (piece c j) f :=
    pointsTo_biUnion (ℓ := (c : Thread nD τ).loc cc0_stg4_0) Finset.univ (piece c) fun j _ j' _ h => piece_disjoint c j j' h
  rw [e]

/-- What device `c` keeps of its result: where no chunk arrives. -/
def kept (j : Chunk) : sProp 𝕄 := if gets D c j then iprop(emp) else iprop(∃ f, outPts c (piece c j) f)

/-- The place of chunk `j`, given away if it is going to arrive. -/
theorem piece_give (j : Chunk) (f : S8x384x8x128.Idx → Elt F .f32) :
    outPts c (piece c j) f ⊢ iprop(whenP (gets D c j) iprop(∃ f, outPts c (outSet j) f) ∗ kept D c j) := by
  unfold kept
  by_cases h : gets D c j
  · rw [whenP_pos h, if_pos h, piece_ne c h.1]
    iintro H; isplitl [H]
    · iexists f; iexact H
    · iempintro
  · rw [whenP_neg h, if_neg h]
    iintro H; isplitr
    · iempintro
    · iexists f; iexact H

/-- What a device's result holds after the exchange: the rows of its own block, and of every chunk that arrived. -/
def Good (X : S8x384x8x128.Idx → Elt F .f32) : Prop :=
  ∀ i, (i 0).val = c.val ∨ gets D c (chunkOf i) → X i = result D c i

/-- The place of a chunk after the exchange. -/
theorem piece_back (j : Chunk) :
    iprop(whenP (gets D c j) (rcvPay D c j) ∗ kept D c j)
      ⊢ iprop(∃ f, ⌜gets D c j → f = result D c⌝ ∗ outPts c (piece c j) f) := by
  unfold kept rcvPay
  by_cases h : gets D c j
  · rw [whenP_pos h, if_pos h, piece_ne c h.1]
    iintro ⟨H, -⟩
    iexists (result D c); isplitr
    · ipureintro; exact fun _ => rfl
    · iexact H
  · rw [whenP_neg h, if_neg h]
    iintro ⟨-, ⟨%f, H⟩⟩
    iexists f; isplitr
    · ipureintro; exact fun h' => absurd h' h
    · iexact H

/-- The pieces after the exchange, each at contents that agree with the exchange's result where the piece's chunk arrived. -/
theorem pieces_back :
    iprop((bigSep Finset.univ fun j : Chunk => whenP (gets D c j) (rcvPay D c j)) ∗ bigSep Finset.univ fun j : Chunk => kept D c j)
      ⊢ iprop(∃ fs : Chunk → S8x384x8x128.Idx → Elt F .f32, ⌜∀ j ∈ (Finset.univ : Finset Chunk), gets D c j → fs j = result D c⌝
          ∗ bigSep Finset.univ fun j : Chunk => outPts c (piece c j) (fs j)) := by
  have h1 : (bigSep Finset.univ fun j : Chunk => iprop(whenP (gets D c j) (rcvPay D c j) ∗ kept D c j))
      ⊢ bigSep Finset.univ fun j : Chunk => iprop(∃ f : S8x384x8x128.Idx → Elt F .f32, ⌜gets D c j → f = result D c⌝ ∗ outPts c (piece c j) f) :=
    bigSep_mono fun j _ => piece_back D c j
  haveI : Nonempty (S8x384x8x128.Idx → Elt F .f32) := ⟨result D c⟩
  have h2 := bigSep_exists_pi (M := 𝕄) (Y := fun _ : Chunk => S8x384x8x128.Idx → Elt F .f32) Finset.univ
    fun j f => iprop(⌜gets D c j → f = result D c⌝ ∗ outPts c (piece c j) f)
  rw [← bigSep_sep']
  refine h1.trans (h2.trans ?_)
  iintro ⟨%fs, H⟩
  iexists fs
  iapply (bigSep_pure_sep (M := 𝕄) Finset.univ (fun j => gets D c j → fs j = result D c) fun j => outPts c (piece c j) (fs j))
  iexact H

/-- The result, put together. -/
theorem pieces_join (fs : Chunk → S8x384x8x128.Idx → Elt F .f32) :
    iprop(outPts c (ownSet c) (result D c) ∗ bigSep Finset.univ fun j : Chunk => outPts c (piece c j) (fs j))
      ⊢ iprop(∃ X : S8x384x8x128.Idx → Elt F .f32, ⌜(∀ i, (i 0).val = c.val → X i = result D c i) ∧ ∀ j, ∀ i ∈ piece c j, X i = fs j i⌝
          ∗ outPts c Finset.univ X) := by
  have h4 : (bigSep Finset.univ fun j : Chunk => outPts c (piece c j) (fs j))
      ⊢ iprop(∃ g : S8x384x8x128.Idx → Elt F .f32, ⌜∀ j ∈ (Finset.univ : Finset Chunk), ∀ i ∈ piece c j, g i = fs j i⌝
          ∗ outPts c (Finset.univ.biUnion (piece c)) g) :=
    pointsTo_biUnion_join (ℓ := (c : Thread nD τ).loc cc0_stg4_0) Finset.univ (piece c) fs (result D c) fun j _ j' _ h => piece_disjoint c j j' h
  have h5 (g X : S8x384x8x128.Idx → Elt F .f32) (hX : ∀ i, X i = if (i 0).val = c.val then result D c i else g i) :
      iprop(outPts c (ownSet c) (result D c) ∗ outPts c (Finset.univ.biUnion (piece c)) g) ⊢ outPts c Finset.univ X := by
    rw [out_split c (ownSet c) X, piece_all]
    have e1 : outPts c (ownSet c) X = outPts c (ownSet c) (result D c) :=
      pointsTo_congr fun i hi => (hX i).trans (if_pos ((mem_ownSet c i).mp hi))
    have e2 : outPts c (Finset.univ.biUnion (piece c)) X = outPts c (Finset.univ.biUnion (piece c)) g :=
      pointsTo_congr fun i hi => (hX i).trans (if_neg fun h => by
        rw [← piece_all, Finset.mem_sdiff] at hi
        exact hi.2 ((mem_ownSet c i).mpr h))
    rw [e1, e2]
  iintro ⟨HO, H⟩
  ihave H := h4 $$ H
  icases H with ⟨%g, %hg, H⟩
  iexists (fun i => if (i 0).val = c.val then result D c i else g i)
  isplitr
  · ipureintro
    refine ⟨fun i hi => if_pos hi, fun j i hi => ?_⟩
    have h1 := (mem_piece c j i).mp hi
    exact (if_neg fun h => h1.1 (Fin.ext (h1.2.1.symm.trans h))).trans (hg j (Finset.mem_univ _) i hi)
  · iapply (h5 g _ fun _ => rfl)
    isplitl [HO] <;> iassumption

theorem out_join :
    iprop(outPts c (ownSet c) (result D c) ∗ (bigSep Finset.univ fun j : Chunk => whenP (gets D c j) (rcvPay D c j))
        ∗ bigSep Finset.univ fun j : Chunk => kept D c j)
      ⊢ iprop(∃ X : S8x384x8x128.Idx → Elt F .f32, ⌜Good D c X⌝ ∗ outPts c Finset.univ X) := by
  iintro ⟨HO, H⟩
  ihave H := (pieces_back D c) $$ H
  icases H with ⟨%fs, %hfs, H⟩
  ihave H := (pieces_join D c fs) $$ [HO H]
  · isplitl [HO] <;> iassumption
  icases H with ⟨%X, %hX, H⟩
  iexists X
  isplitr
  · ipureintro
    intro i hi
    by_cases hne : (i 0).val = c.val
    · exact hX.1 i hne
    · rw [hX.2 (chunkOf i) i (mem_piece_chunkOf c i hne), hfs (chunkOf i) (Finset.mem_univ _) (hi.resolve_left hne)]
  · iexact H

end Cert.CombineIdeal.Exchange
end
-- ==== Proof.Back.Ends.lean ====
/-
  Where the exchange's kernel begins and ends: from what a device holds when the kernel is entered to the state the first statement
  expects, and from the state the last statement leaves to what the device holds afterwards.
-/
module

public import proofs.«01_k».proof.Proof.Back.Pieces

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (D : Data F) (κ : GSem nD τ sig → ℕ) (c : Dev nD)

/-- The semaphores that the kernel names for itself: one for each chunk's departure and one for each chunk's arrival. -/
def osem : Chunk ⊕ Chunk → SemLoc sig
  | .inl j => .dma (sndS j)
  | .inr j => .dma (rcvS j)

/-- The duties that device `c` pays. -/
def duties : sProp 𝕄 :=
  iprop((bigSep Finset.univ fun p : Dev nD => dutyTok ER (barCell p) 0 c)
    ∗ (bigSep Finset.univ fun j : Chunk => dutyTok ER (sndCell c j) 0 c)
    ∗ bigSep Finset.univ fun j : Chunk => dutyTok ER (rcvCell j.1 (c, j.2)) 0 c)

/-- The credits that device `c` waits with. -/
def credits : sProp 𝕄 :=
  iprop(cred (tallyAt (barCell c) ιB 7) ∗ bigSep Finset.univ fun j : Chunk => whenP (gets D c j) (cred (tallyAt (rcvCell c j) ιC N)))

/-- Device `c`'s part of the protocol when it enters the kernel, its cells opened. -/
def opened : sProp 𝕄 :=
  iprop(ctx D κ ∗ atPos ER (barCell c) 0 ∅ 0 ∗ duties c ∗ credits D c
    ∗ (bigSep Finset.univ fun j : Chunk => iprop(atPos ER (sndCell c j) 0 ∅ 0 ∗ reached ER (sndCell c j) 0))
    ∗ bigSep Finset.univ fun j : Chunk => iprop(atPos ER (rcvCell c j) 0 ∅ 0 ∗ reached ER (rcvCell c j) 0))

/-- What the kernel does not touch. -/
def aside : sProp 𝕄 :=
  iprop((bigSep Finset.univ fun j : Chunk => srcRest D c j) ∗ (bigSep spare fun n => srcPts c (leafOf n) Finset.univ (D.x c))
    ∗ bigSep Finset.univ fun j : Chunk => kept D c j)

/-! ## Entering -/

/-- The places of the result, sorted by the device that will write them. -/
theorem give_all :
    iprop((bigSep Finset.univ fun p : Dev nD => dutyTok ER (barCell p) 0 c)
        ∗ (bigSep Finset.univ fun j : Chunk => whenP (gets D c j) iprop(∃ f : S8x384x8x128.Idx → Elt F .f32, outPts c (outSet j) f))
        ∗ bigSep Finset.univ fun j : Chunk => reached ER (rcvCell c j) 0)
      ⊢ bigSep Finset.univ fun p : Dev nD => if p.val < 0 then iprop(emp) else whenP (c ≠ p) iprop(dutyTok ER (barCell p) 0 c ∗ barPay D p c) := by
  have e1 (j : Chunk) : iprop(whenP (gets D c j) iprop(∃ f : S8x384x8x128.Idx → Elt F .f32, outPts c (outSet j) f) ∗ reached ER (rcvCell c j) 0)
      ⊢ whenP (sends D j.1 (c, j.2)) iprop((∃ f : S8x384x8x128.Idx → Elt F .f32, outPts c (outSet (j.1, j.2)) f) ∗ reached ER (rcvCell c (j.1, j.2)) 0) := by
    by_cases h : gets D c j
    · rw [whenP_pos h, whenP_pos h]
    · rw [whenP_neg h, whenP_neg h]
      iintro -; iempintro
  have e2 : iprop((bigSep Finset.univ fun j : Chunk => whenP (gets D c j) iprop(∃ f : S8x384x8x128.Idx → Elt F .f32, outPts c (outSet j) f))
        ∗ bigSep Finset.univ fun j : Chunk => reached ER (rcvCell c j) 0)
      ⊢ bigSep Finset.univ fun p : Dev nD => barPay D p c := by
    rw [← bigSep_sep']
    refine (bigSep_mono fun j _ => e1 j).trans ?_
    rw [bigSep_univ_prod]
    exact BI.Entails.refl _
  refine (sep_mono .rfl e2).trans ?_
  rw [← bigSep_sep']
  refine bigSep_mono fun p _ => ?_
  rw [if_neg (Nat.not_lt_zero _)]
  by_cases h : c ≠ p
  · rw [whenP_pos h]; exact BI.Entails.refl _
  · rw [whenP_neg h]
    have t : iprop(dutyTok ER (barCell p) 0 c ∗ barPay D p c) ⊢ (iprop(emp) : sProp 𝕄) := by iintro -; iempintro
    exact t

theorem ready_all :
    iprop((bigSep Finset.univ fun j : Chunk => iprop(atPos ER (sndCell c j) 0 ∅ 0 ∗ reached ER (sndCell c j) 0))
        ∗ (bigSep Finset.univ fun j : Chunk => dutyTok ER (sndCell c j) 0 c)
        ∗ (bigSep Finset.univ fun j : Chunk => dutyTok ER (rcvCell j.1 (c, j.2)) 0 c)
        ∗ bigSep Finset.univ fun j : Chunk => whenP (sends D c j) (sndPay D c j))
      ⊢ bigSep Finset.univ fun j : Chunk => ready D c j := by
  rw [← bigSep_sep', ← bigSep_sep', ← bigSep_sep']
  refine bigSep_mono fun j _ => ?_
  have e : iprop((atPos ER (sndCell c j) 0 ∅ 0 ∗ reached ER (sndCell c j) 0) ∗ dutyTok ER (sndCell c j) 0 c
        ∗ dutyTok ER (rcvCell j.1 (c, j.2)) 0 c ∗ whenP (sends D c j) (sndPay D c j)) ⊢ ready D c j := by
    unfold ready sndPay
    by_cases h : sends D c j
    · rw [whenP_pos h, whenP_pos h]
      iintro ⟨⟨Ha, Hr⟩, H1, H2, Hs⟩
      isplitl [Ha]; · iexact Ha
      isplitl [H1]; · iexact H1
      isplitl [H2]; · iexact H2
      isplitl [Hr] <;> iassumption
    · rw [whenP_neg h, whenP_neg h]
      iintro ⟨⟨Ha, -⟩, -⟩
      isplitl [Ha]; · iexact Ha
      iempintro
  exact e

theorem coming_all :
    iprop((bigSep Finset.univ fun j : Chunk => atPos ER (rcvCell c j) 0 ∅ 0)
        ∗ bigSep Finset.univ fun j : Chunk => whenP (gets D c j) (cred (tallyAt (rcvCell c j) ιC N)))
      ⊢ bigSep Finset.univ fun j : Chunk => coming D c j := by
  rw [← bigSep_sep']
  exact BI.Entails.refl _

theorem places_all (f : S8x384x8x128.Idx → Elt F .f32) :
    (bigSep Finset.univ fun j : Chunk => outPts c (piece c j) f)
      ⊢ iprop((bigSep Finset.univ fun j : Chunk => whenP (gets D c j) iprop(∃ f : S8x384x8x128.Idx → Elt F .f32, outPts c (outSet j) f)) ∗ bigSep Finset.univ fun j : Chunk => kept D c j) := by
  rw [← bigSep_sep']
  exact bigSep_mono fun j _ => piece_give D c j f

/-- A device enters the kernel. -/
theorem enter (f : S8x384x8x128.Idx → Elt F .f32) :
    iprop(tables D c ∗ srcPts c fullShare Finset.univ (D.x c) ∗ outPts c Finset.univ f ∗ (∃ W, owes (c : Thread nD τ) (due D c) W) ∗ opened D κ c)
      ⊢ Enter D κ c 0 iprop(atPos ER (barCell c) 0 ∅ 0 ∗ cred (tallyAt (barCell c) ιB 7) ∗ (bigSep Finset.univ fun j : Chunk => ready D c j)
        ∗ srcPts c (leafOf 31) Finset.univ (D.x c) ∗ (∃ f, outPts c (ownSet c) f) ∗ (bigSep Finset.univ fun j : Chunk => coming D c j) ∗ aside D c) := by
  have hr : (bigSep Finset.univ fun j : Chunk => iprop(atPos ER (rcvCell c j) 0 ∅ 0 ∗ reached ER (rcvCell c j) 0))
      ⊢ iprop((bigSep Finset.univ fun j : Chunk => atPos ER (rcvCell c j) 0 ∅ 0) ∗ bigSep Finset.univ fun j : Chunk => (reached ER (rcvCell c j) 0 : sProp 𝕄)) := by
    rw [bigSep_sep']
  unfold Enter opened duties credits aside due
  rw [src_apart, out_apart c f]
  iintro ⟨Ht, ⟨Hsnd, H31, Hrest, Hspare⟩, ⟨Hown, Hpieces⟩, HO, Hctx, Hat, ⟨HtB, HtS, HtR⟩, ⟨HcB, HcR⟩, HaS, HaR⟩
  ihave HaR := hr $$ HaR
  icases HaR with ⟨HaR, HrR⟩
  ihave Hpieces := (places_all D c f) $$ Hpieces
  icases Hpieces with ⟨Hgive, Hkept⟩
  isplitl [Ht]; · iexact Ht
  isplitl [Hctx]; · iexact Hctx
  isplitl [HO]; · iexact HO
  isplitl [HtB Hgive HrR]
  · iapply (give_all D c)
    isplitl [HtB]; · iexact HtB
    isplitl [Hgive] <;> iassumption
  isplitl [Hat]; · iexact Hat
  isplitl [HcB]; · iexact HcB
  isplitl [HaS HtS HtR Hsnd]
  · iapply (ready_all D c)
    isplitl [HaS]; · iexact HaS
    isplitl [HtS]; · iexact HtS
    isplitl [HtR] <;> iassumption
  isplitl [H31]; · iexact H31
  isplitl [Hown]; · iexists f; iexact Hown
  isplitl [HaR HcR]
  · iapply (coming_all D c)
    isplitl [HaR] <;> iassumption
  isplitl [Hrest]; · iexact Hrest
  isplitl [Hspare] <;> iassumption

/-! ## Leaving -/

theorem gone_eq (j : Chunk) : gone D c j ⊢ iprop(atPos ER (sndCell c j) (if sends D c j then 1 else 0) ∅ 0 ∗ whenP (sends D c j) (sndPay D c j)) := by
  unfold gone
  by_cases h : sends D c j
  · rw [if_pos h, if_pos h, whenP_pos h]
  · rw [if_neg h, if_neg h, whenP_neg h]; exact (sep_emp (PROP := sProp 𝕄)).2

theorem come_eq (j : Chunk) : come D c j ⊢ iprop(atPos ER (rcvCell c j) (if gets D c j then 1 else 0) ∅ 0 ∗ whenP (gets D c j) (rcvPay D c j)) := by
  unfold come
  by_cases h : gets D c j
  · rw [if_pos h, if_pos h, whenP_pos h]
  · rw [if_neg h, if_neg h, whenP_neg h]; exact (sep_emp (PROP := sProp 𝕄)).2

theorem gone_all :
    (bigSep Finset.univ fun j : Chunk => if rank j < 24 then gone D c j else sent D c j)
      ⊢ iprop((bigSep Finset.univ fun j : Chunk => atPos ER (sndCell c j) (if sends D c j then 1 else 0) ∅ 0)
        ∗ bigSep Finset.univ fun j : Chunk => whenP (sends D c j) (sndPay D c j)) := by
  rw [← bigSep_sep']
  exact bigSep_mono fun j _ => by rw [if_pos (rank_lt j)]; exact gone_eq D c j

theorem come_all :
    (bigSep Finset.univ fun j : Chunk => come D c j)
      ⊢ iprop((bigSep Finset.univ fun j : Chunk => atPos ER (rcvCell c j) (if gets D c j then 1 else 0) ∅ 0)
        ∗ bigSep Finset.univ fun j : Chunk => whenP (gets D c j) (rcvPay D c j)) := by
  rw [← bigSep_sep']
  exact bigSep_mono fun j _ => come_eq D c j

theorem close_snd :
    iprop(ctx D κ ∗ bigSep Finset.univ fun j : Chunk => atPos ER (sndCell c j) (if sends D c j then 1 else 0) ∅ 0)
      ⊢ |={Set.univ}=> bigSep Finset.univ fun j : Chunk => (semVal (sndCell c j) 0 : sProp 𝕄) := by
  have h := cells_close ER (sched D) (Finset.univ : Finset Chunk) (fun j => sndCell c j) (fun j => κ (sndCell c j)) (Es := Set.univ)
    (fun _ _ => Set.mem_univ _) (fun _ _ h => h) (fun j => if sends D c j then 1 else 0) (fun j _ r hr => by
      by_cases hs : sends D c j
      · rw [if_pos hs] at hr; exact duties_later D _ r hr
      · rcases Nat.eq_zero_or_pos r with rfl | h0
        · rw [duties_snd, if_neg hs]
        · exact duties_later D _ r h0)
  refine BIBase.Entails.trans ?_ h
  exact bigSep_with_persistent (R := ctx D κ) (Φ := fun j : Chunk => atPos ER (sndCell c j) (if sends D c j then 1 else 0) ∅ 0)
    fun j _ => sep_mono (ctx_snd D κ c j) .rfl

theorem close_rcv :
    iprop(ctx D κ ∗ bigSep Finset.univ fun j : Chunk => atPos ER (rcvCell c j) (if gets D c j then 1 else 0) ∅ 0)
      ⊢ |={Set.univ}=> bigSep Finset.univ fun j : Chunk => (semVal (rcvCell c j) 0 : sProp 𝕄) := by
  have h := cells_close ER (sched D) (Finset.univ : Finset Chunk) (fun j => rcvCell c j) (fun j => κ (rcvCell c j)) (Es := Set.univ)
    (fun _ _ => Set.mem_univ _) (fun _ _ h => h) (fun j => if gets D c j then 1 else 0) (fun j _ r hr => by
      by_cases hs : gets D c j
      · rw [if_pos hs] at hr; exact duties_later D _ r hr
      · rcases Nat.eq_zero_or_pos r with rfl | h0
        · rw [duties_rcv, if_neg hs]
        · exact duties_later D _ r h0)
  refine BIBase.Entails.trans ?_ h
  exact bigSep_with_persistent (R := ctx D κ) (Φ := fun j : Chunk => atPos ER (rcvCell c j) (if gets D c j then 1 else 0) ∅ 0)
    fun j _ => sep_mono (ctx_rcv D κ c j) .rfl

theorem close_bar : iprop(ctx D κ ∗ atPos ER (barCell c) 1 ∅ 0) ⊢ |={Set.univ}=> (semVal (barCell c) 0 : sProp 𝕄) := by
  have h := cell_close ER (sched D) (g := barCell c) (κ := κ (barCell c)) (Es := Set.univ) (Set.mem_univ _) (fun h => h) (R := 1)
    (fun r hr => duties_later D _ r hr)
  refine BIBase.Entails.trans ?_ h
  have hb : ctx D κ ⊢ cellInv ER (sched D) (κ (barCell c)) (barCell c) := (ctx_bar D κ c).trans sep_elim_left
  exact sep_mono hb .rfl

/-- What a device holds after the kernel. -/
def closed : sProp 𝕄 :=
  iprop(tables D c ∗ srcPts c fullShare Finset.univ (D.x c) ∗ (∃ X, ⌜Good D c X⌝ ∗ outPts c Finset.univ X)
    ∗ (∃ W, owes (c : Thread nD τ) (0 : CellTallies nD τ sig ℕ) W) ∗ semVal (barCell c) 0 ∗ Pipeline.ownSems0 osem c)

theorem ownSems_eq : (Pipeline.ownSems0 osem c : sProp 𝕄)
    = iprop((bigSep Finset.univ fun j : Chunk => semVal (sndCell c j) 0) ∗ bigSep Finset.univ fun j : Chunk => semVal (rcvCell c j) 0) := by
  unfold Pipeline.ownSems0
  rw [bigSep_univ_sum]
  rfl

/-- A device leaves the kernel. -/
theorem leave :
    Leave D κ c 24 iprop((bigSep Finset.univ fun j : Chunk => come D c j) ∗ ownBlk D c 8 ∗ atPos ER (barCell c) 1 ∅ 0 ∗ aside D c)
      ⊢ |={Set.univ}=> closed D c := by
  have hown : ownBlk D c 8 ⊢ iprop(srcPts c (leafOf 31) Finset.univ (D.x c) ∗ outPts c (ownSet c) (result D c)) := by
    unfold ownBlk; rw [if_pos (show c.val < 8 from c.isLt)]
  unfold Leave aside
  iintro ⟨Ht, #Hctx, HO, Hgone, Hcome, Hown, Hbar, Hrest, Hspare, Hkept⟩
  ihave Hgone := (gone_all D c) $$ Hgone
  icases Hgone with ⟨HaS, HpS⟩
  ihave Hcome := (come_all D c) $$ Hcome
  icases Hcome with ⟨HaR, HpR⟩
  ihave Hown := hown $$ Hown
  icases Hown with ⟨H31, Hown⟩
  imod (close_snd D κ c) $$ [HaS] with HvS
  · isplitr; · iexact Hctx
    iexact HaS
  imod (close_rcv D κ c) $$ [HaR] with HvR
  · isplitr; · iexact Hctx
    iexact HaR
  imod (close_bar D κ c) $$ [Hbar] with HvB
  · isplitr; · iexact Hctx
    iexact Hbar
  imodintro
  unfold closed
  isplitl [Ht]; · iexact Ht
  isplitl [HpS H31 Hrest Hspare]
  · rw [src_apart]
    isplitl [HpS]; · iexact HpS
    isplitl [H31]; · iexact H31
    isplitl [Hrest] <;> iassumption
  isplitl [Hown HpR Hkept]
  · iapply (out_join D c)
    isplitl [Hown]; · iexact Hown
    isplitl [HpR] <;> iassumption
  isplitl [HO]; · iexact HO
  isplitl [HvB]; · iexact HvB
  rw [ownSems_eq]
  isplitl [HvS] <;> iassumption

end Cert.CombineIdeal.Exchange
end
-- ==== Proof.Back.Tables.lean ====
/-
  What the kernel's windows are on when it is called: the tables of offsets and counts, and the packed rows, of the launch's arguments.

  The program lays its arguments out for the kernel (reshapes), and exchanges the counts: the devices' counts are sent along, so that each
  device knows how many rows it gets from each.
-/
module

public import proofs.«01_k».proof.Proof.Back.Pieces
public import proofs.«01_k».proof.Proof.Gen.CombineIdeal.Regions
public import proofs.«01_k».proof.Proof.Gen.CombineIdeal.Points
public import Idealize.ShloMosaic.Lib.ValueLayout
public import Idealize.ShloMosaic.Lib.ValueLayoutCasts

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt F) ℓ)

/-- The devices' offsets, counts and packed rows, as launched. -/
def dataOf : Data F where
  off c d := (m ((c : Thread nD τ).loc main_arg0) : S1x8.Idx → Elt F .i32) (ix2 0 d)
  cnt c d := (m ((c : Thread nD τ).loc main_arg1) : S1x8.Idx → Elt F .i32) (ix2 0 d)
  x c := m ((c : Thread nD τ).loc main_arg2)

/-- A device's buffers after the first reshapes, -/
abbrev W1 (c : Dev nD) : Valuation τ sig (Elt F) := Gen.V1 m c
/-- after the exchange of the counts, -/
abbrev W2 (c : Dev nD) : Valuation τ sig (Elt F) := aa0.after₀ (W1 m) c
/-- and when the kernel is called. -/
abbrev W3 (c : Dev nD) : Valuation τ sig (Elt F) := StableHlo.after hostOps1 (W2 m c)

theorem W3_of (c : Dev nD) (r : Ref sig .tc) (h : r ∉ hostOps1_W) : W3 m c r = W2 m c r :=
  StableHlo.after_of_writes_sub hostOps1 _ hostOps1_writes h
theorem W2_of (c : Dev nD) (r : Ref sig .tc) (h : r ≠ main_v3) : W2 m c r = W1 m c r :=
  aa0.after₀_of_ne (W1 m) c fun e => h (Proc.devRef_injective _ e)

theorem W3_args (c : Dev nD) : ∀ a ∈ argRefs, W3 m c a = m ((c : Thread nD τ).loc a) := fun a ha =>
  (W3_of m c a (args3 a ha)).trans ((W2_of m c a fun h => args2 a ha (by rw [h]; exact List.mem_singleton_self _)).trans (V1_args m c a ha))

theorem W3_src (c : Dev nD) : W3 m c main_arg2 = (dataOf m).x c := W3_args m c main_arg2 (by decide)

theorem W3_off (c : Dev nD) : W3 m c main_v5 = fun i : S8.Idx => (dataOf m).off c (i 0) := by
  have e : W3 m c main_v5 = fun i => shapeCast S8 (W2 m c main_arg0 : S1x8.Idx → Elt F .i32) shapeCasts_S1x8_S8 i := by
    show StableHlo.after hostOps1 (W2 m c) (Proc.devRef .tc main_v5) = _
    rw [StableHlo.after_cons, StableHlo.after_cons, StableHlo.after_nil, StableHlo.reshape_result, StableHlo.reshape_result_ne _ _ _ _ _ _ _ (by decide)]
    rfl
  have e2 : (W2 m c main_arg0 : S1x8.Idx → Elt F .i32) = m ((c : Thread nD τ).loc main_arg0) :=
    (W2_of m c main_arg0 (by decide)).trans (V1_args m c main_arg0 (by decide))
  rw [e, e2]
  funext i
  obtain ⟨a, rfl⟩ : ∃ a : Fin 8, i = ix1 a := ⟨i 0, eq_ix1 i⟩
  exact shapeCast_1a_a_apply _ _ a

theorem W1_cnt (c : Dev nD) : W1 m c main_v1 = fun i : S8.Idx => (dataOf m).cnt c (i 0) := by
  have e : W1 m c main_v1 = fun i => shapeCast S8 (m ((c : Thread nD τ).loc main_arg1) : S1x8.Idx → Elt F .i32) shapeCasts_S1x8_S8 i := by
    show StableHlo.after hostOps0 (V0 m c) (Proc.devRef .tc main_v1) = _
    rw [StableHlo.after_cons, StableHlo.after_cons, StableHlo.after_nil, StableHlo.reshape_result_ne _ _ _ _ _ _ _ (by decide), StableHlo.reshape_result]
    rfl
  rw [e]
  funext i
  obtain ⟨a, rfl⟩ : ∃ a : Fin 8, i = ix1 a := ⟨i 0, eq_ix1 i⟩
  exact shapeCast_1a_a_apply _ _ a

theorem W3_cnt (c : Dev nD) : W3 m c main_v1 = fun i : S8.Idx => (dataOf m).cnt c (i 0) := by
  rw [W3_of m c main_v1 (by decide), W2_of m c main_v1 (by decide), W1_cnt]

theorem W1_col (c : Dev nD) (a : Fin 8) (u : Fin 1) :
    (W1 m c main_v2 : S8x1.Idx → Elt F .i32) (ix2 a u) = (dataOf m).cnt c a := by
  have e : W1 m c main_v2 = fun i => shapeCast S8x1 (m ((c : Thread nD τ).loc main_arg1) : S1x8.Idx → Elt F .i32) shapeCasts_S1x8_S8x1 i := by
    show StableHlo.after hostOps0 (V0 m c) (Proc.devRef .tc main_v2) = _
    rw [StableHlo.after_cons, StableHlo.after_cons, StableHlo.after_nil, StableHlo.reshape_result, StableHlo.reshape_result_ne _ _ _ _ _ _ _ (by decide)]
    rfl
  rw [e]
  have hu : u.val = 0 := by omega
  exact shapeCast_apply _ _ _ (ix2 (0 : Fin 1) a) (by
    rw [Shape.rowMajor_val_two, Shape.rowMajor_val_two]
    show 0 * 8 + a.val = a.val * 1 + u.val
    rw [hu]; omega)

theorem aa0_peer : ∀ c a : Dev nD, aa0.peer c a = a := by decide
theorem aa0_pos_val : ∀ c : Dev nD, (aa0.pos c).val = c.val := by decide

/-- What device `c` receives of the counts: of each device, how many rows it has for `c`. -/
theorem W2_got (c : Dev nD) (a : Fin 8) : (W2 m c main_v3 : S8x1.Idx → Elt F .i32) (ix2 a 0) = (dataOf m).cnt a c := by
  have e : W2 m c main_v3 = aa0.receivedOf (W1 m) c := aa0.after₀_result (W1 m) c
  rw [e]
  have hz := aa0.receivedOf_apply (W1 m) c (ix2 a 0 : S8x1.Idx) a (ix2 (c : Fin 8) 0 : S8x1.Idx)
    (by show a.val = a.val / (8 / 8); omega)
    (fun b => by
      have hpos := aa0_pos_val c
      fin_cases b
      · show c.val + a.val * 1 = (aa0.pos c).val * 1 + a.val
        omega
      · rfl)
  refine hz.trans ?_
  rw [aa0_peer c a]
  exact W1_col m a c 0

theorem W3_got (c : Dev nD) : W3 m c main_v4 = fun i : S8.Idx => (dataOf m).cnt (i 0) c := by
  have e : W3 m c main_v4 = fun i => shapeCast S8 (W2 m c main_v3 : S8x1.Idx → Elt F .i32) shapeCasts_S8x1_S8 i := by
    show StableHlo.after hostOps1 (W2 m c) (Proc.devRef .tc main_v4) = _
    rw [StableHlo.after_cons, StableHlo.after_cons, StableHlo.after_nil, StableHlo.reshape_result_ne _ _ _ _ _ _ _ (by decide), StableHlo.reshape_result]
    rfl
  rw [e]
  funext i
  obtain ⟨a, rfl⟩ : ∃ a : Fin 8, i = ix1 a := ⟨i 0, eq_ix1 i⟩
  refine (shapeCast_apply _ _ _ (ix2 a (0 : Fin 1)) (by
    rw [Shape.rowMajor_val_two, Shape.rowMajor_val_one]
    show a.val * 1 + 0 = a.val; omega)).trans (W2_got m c a)

end Cert.CombineIdeal.Exchange
end
-- ==== Proof.Back.Region.lean ====
/-
  The kernel's region: what its windows hold, what the body may leave in them, and that the body does.
-/
module

public import proofs.«01_k».proof.Proof.Back.Ends
public import proofs.«01_k».proof.Proof.Back.Tables

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ)

/-- What the body may leave in a window: in the result's, what the exchange says; the others are not written back. -/
def afterBody (c : Dev nD) : (w : Fin 5) → ((win0 w).block.Idx → Elt F (win0 w).elt) → Prop
  | 4 => fun X => Good (dataOf m) c X
  | 0 | 1 | 2 | 3 => fun _ => True
  | ⟨_ + 5, h⟩ => absurd h (Nat.not_lt.2 (Nat.le_add_left _ _))

/-- The region's state before the body, and after it. -/
def bodyState (c : Dev nD) (n : ℕ) : sProp 𝕄 :=
  if n = 0 then iprop(∃ κ, opened (dataOf m) κ c) else iprop(semVal (barCell c) 0 ∗ Pipeline.ownSems0 osem c)

/-- What a device owes before the body, and after it. -/
def bodyDue (c : Dev nD) (n : ℕ) : CellTallies nD τ sig ℕ := if n = 0 then due (dataOf m) c else 0

/-- The region's data. -/
def rdat (c : Dev nD) : Pipeline.RDat τ (Elt F) ℕ ℕ UU ℕ cfg0 c where
  A w := W3 m c (Pipeline.arrRef spec0 w)
  after w _ _ X := afterBody m c w X
  Φ t := bodyState m c t.val
  q _ := fullShare
  owed t := bodyDue m c t.val

/-- The same as the one pipeline's. -/
def rdats (p : Fin 1) (c : Dev nD) : Pipeline.RDat τ (Elt F) ℕ ℕ UU ℕ (Pipeline.pin (pcfgs (F := F)) adm p) c := rdat m c

/-! ## What the body finds -/

section Finds

variable (c : Dev nD)

theorem finds_off (X : S8.Idx → Elt F .i32) (h : (rdat m c).Finds 0 t0_0 X) : X = fun i : S8.Idx => (dataOf m).off c (i 0) := by
  obtain ⟨d, hd⟩ := ((rdat m c).finds_of_fetch (fetch0_0 t0_0) X).mp h
  have e : (rdat m c).fetched 0 t0_0 d = ((cfg0.win 0).blk t0_0).view.read (Elt F) (W3 m c main_v5) := rfl
  rw [hd, ← W3_off m c, e]
  funext i
  show W3 m c main_v5 (((cfg0.win 0).rect t0_0).emb i) = W3 m c main_v5 i
  congr 1; funext a; apply Fin.ext
  exact Pipeline.Window.rect_emb_val_of_index_zero (cfg0.win 0) t0_0 a rfl i

theorem finds_cnt (X : S8.Idx → Elt F .i32) (h : (rdat m c).Finds 1 t0_0 X) : X = fun i : S8.Idx => (dataOf m).cnt c (i 0) := by
  obtain ⟨d, hd⟩ := ((rdat m c).finds_of_fetch (fetch0_1 t0_0) X).mp h
  have e : (rdat m c).fetched 1 t0_0 d = ((cfg0.win 1).blk t0_0).view.read (Elt F) (W3 m c main_v1) := rfl
  rw [hd, ← W3_cnt m c, e]
  funext i
  show W3 m c main_v1 (((cfg0.win 1).rect t0_0).emb i) = W3 m c main_v1 i
  congr 1; funext a; apply Fin.ext
  exact Pipeline.Window.rect_emb_val_of_index_zero (cfg0.win 1) t0_0 a rfl i

theorem finds_got (X : S8.Idx → Elt F .i32) (h : (rdat m c).Finds 2 t0_0 X) : X = fun i : S8.Idx => (dataOf m).cnt (i 0) c := by
  obtain ⟨d, hd⟩ := ((rdat m c).finds_of_fetch (fetch0_2 t0_0) X).mp h
  have e : (rdat m c).fetched 2 t0_0 d = ((cfg0.win 2).blk t0_0).view.read (Elt F) (W3 m c main_v4) := rfl
  rw [hd, ← W3_got m c, e]
  funext i
  show W3 m c main_v4 (((cfg0.win 2).rect t0_0).emb i) = W3 m c main_v4 i
  congr 1; funext a; apply Fin.ext
  exact Pipeline.Window.rect_emb_val_of_index_zero (cfg0.win 2) t0_0 a rfl i

theorem finds_src (X : S2432x8x128.Idx → Elt F .f32) (h : (rdat m c).Finds 3 t0_0 X) : X = (dataOf m).x c := by
  obtain ⟨d, hd⟩ := ((rdat m c).finds_of_fetch (fetch0_3 t0_0) X).mp h
  have e : (rdat m c).fetched 3 t0_0 d = ((cfg0.win 3).blk t0_0).view.read (Elt F) (W3 m c main_arg2) := rfl
  rw [hd, ← W3_src m c, e]
  funext i
  show W3 m c main_arg2 (((cfg0.win 3).rect t0_0).emb i) = W3 m c main_arg2 i
  congr 1; funext a; apply Fin.ext
  exact Pipeline.Window.rect_emb_val_of_index_zero (cfg0.win 3) t0_0 a rfl i

end Finds

/-! ## The body -/

section Body

/-- The windows' staging buffers, handed to the body. -/
theorem stage_eq (c : Dev nD) (Y : (w : Fin 5) → (cfg0.win w).block.Idx → Elt F (cfg0.win w).elt) :
    (bigSep Finset.univ fun w : Fin 5 => (owns (c : Thread nD τ) ((cfg0.win w).stage (cfg0.slots t0_0 w)) fullShare (Y w) : sProp 𝕄))
      = iprop((((c : Thread nD τ).loc cc0_stg0_0) ↦{fullShare} Y 0) ∗ (((c : Thread nD τ).loc cc0_stg1_0) ↦{fullShare} Y 1)
        ∗ (((c : Thread nD τ).loc cc0_stg2_0) ↦{fullShare} Y 2) ∗ srcPts c fullShare Finset.univ (Y 3) ∗ outPts c Finset.univ (Y 4)) := by
  rw [bigSep_W0]
  have e0 : (owns (c : Thread nD τ) ((cfg0.win 0).stage (cfg0.slots t0_0 0)) fullShare (Y 0) : sProp 𝕄)
      = (((c : Thread nD τ).loc cc0_stg0_0) ↦{fullShare} Y 0) := owns_whole (c : Thread nD τ) cc0_stg0_0 fullShare (Y 0)
  have e1 : (owns (c : Thread nD τ) ((cfg0.win 1).stage (cfg0.slots t0_0 1)) fullShare (Y 1) : sProp 𝕄)
      = (((c : Thread nD τ).loc cc0_stg1_0) ↦{fullShare} Y 1) := owns_whole (c : Thread nD τ) cc0_stg1_0 fullShare (Y 1)
  have e2 : (owns (c : Thread nD τ) ((cfg0.win 2).stage (cfg0.slots t0_0 2)) fullShare (Y 2) : sProp 𝕄)
      = (((c : Thread nD τ).loc cc0_stg2_0) ↦{fullShare} Y 2) := owns_whole (c : Thread nD τ) cc0_stg2_0 fullShare (Y 2)
  have e3 : (owns (c : Thread nD τ) ((cfg0.win 3).stage (cfg0.slots t0_0 3)) fullShare (Y 3) : sProp 𝕄)
      = srcPts c fullShare Finset.univ (Y 3) := owns_whole (c : Thread nD τ) cc0_stg3_0 fullShare (Y 3)
  have e4 : (owns (c : Thread nD τ) ((cfg0.win 4).stage (cfg0.slots t0_0 4)) fullShare (Y 4) : sProp 𝕄)
      = outPts c Finset.univ (Y 4) := owns_whole (c : Thread nD τ) cc0_stg4_0 fullShare (Y 4)
  rw [e0, e1, e2, e3, e4]

/-- What the body is called with. -/
theorem body_enter (c : Dev nD) (Y : (w : Fin 5) → (cfg0.win w).block.Idx → Elt F (cfg0.win w).elt) (hY : ∀ w, w ≠ 4 → (rdat m c).Finds w t0_0 (Y w)) :
    (bigSep Finset.univ fun w : Fin 5 => (owns (c : Thread nD τ) ((cfg0.win w).stage (cfg0.slots t0_0 w)) fullShare (Y w) : sProp 𝕄))
      = iprop(tables (dataOf m) c ∗ srcPts c fullShare Finset.univ ((dataOf m).x c) ∗ outPts c Finset.univ (Y 4)) := by
  have e0 := finds_off m c (Y 0) (hY 0 (by decide))
  have e1 := finds_cnt m c (Y 1) (hY 1 (by decide))
  have e2 := finds_got m c (Y 2) (hY 2 (by decide))
  have e3 := finds_src m c (Y 3) (hY 3 (by decide))
  rw [stage_eq, e0, e1, e2, e3]; unfold tables
  have a : iprop((((c : Thread nD τ).loc cc0_stg0_0) ↦{fullShare} (fun i : S8.Idx => (dataOf m).off c (i 0)))
      ∗ (((c : Thread nD τ).loc cc0_stg1_0) ↦{fullShare} (fun i : S8.Idx => (dataOf m).cnt c (i 0)))
      ∗ (((c : Thread nD τ).loc cc0_stg2_0) ↦{fullShare} (fun i : S8.Idx => (dataOf m).cnt (i 0) c))
      ∗ srcPts c fullShare Finset.univ ((dataOf m).x c) ∗ outPts c Finset.univ (Y 4))
    ⊣⊢ iprop(((((c : Thread nD τ).loc cc0_stg0_0) ↦{fullShare} (fun i : S8.Idx => (dataOf m).off c (i 0)))
      ∗ (((c : Thread nD τ).loc cc0_stg1_0) ↦{fullShare} (fun i : S8.Idx => (dataOf m).cnt c (i 0)))
      ∗ (((c : Thread nD τ).loc cc0_stg2_0) ↦{fullShare} (fun i : S8.Idx => (dataOf m).cnt (i 0) c)))
      ∗ srcPts c fullShare Finset.univ ((dataOf m).x c) ∗ outPts c Finset.univ (Y 4)) := by
    constructor
    · iintro ⟨H0, H1, H2, H3⟩
      isplitl [H0 H1 H2]
      · isplitl [H0]; · iexact H0
        isplitl [H1] <;> iassumption
      iexact H3
    · iintro ⟨⟨H0, H1, H2⟩, H3⟩
      isplitl [H0]; · iexact H0
      isplitl [H1]; · iexact H1
      isplitl [H2] <;> iassumption
  exact a.1.antisymm a.2

/-- What the body leaves. -/
theorem body_leave (c : Dev nD) (Y : (w : Fin 5) → (cfg0.win w).block.Idx → Elt F (cfg0.win w).elt) (X : S8x384x8x128.Idx → Elt F .f32)
    (hX : Good (dataOf m) c X) (hY : ∀ w, (rdat m c).Finds w t0_0 (Y w)) :
    iprop(tables (dataOf m) c ∗ srcPts c fullShare Finset.univ ((dataOf m).x c) ∗ outPts c Finset.univ X)
      ⊢ bigSep Finset.univ fun w : Fin 5 => iprop(∃ Z, ⌜(rdat m c).after w t0_0 (Y w) Z⌝
        ∗ (owns (c : Thread nD τ) ((cfg0.win w).stage (cfg0.slots t0_0 w)) fullShare Z : sProp 𝕄)) := by
  have e := body_enter m c (Function.update Y 4 X) fun w hw => by rw [Function.update_of_ne hw]; exact hY w
  have e4 : (Function.update Y 4 X : (w : Fin 5) → (cfg0.win w).block.Idx → Elt F (cfg0.win w).elt) 4 = X := Function.update_self ..
  rw [e4] at e
  rw [← e]
  refine bigSep_mono fun w _ => ?_
  have hw : (rdat m c).after w t0_0 (Y w) (Function.update Y 4 X w) := by
    by_cases h : w = 4
    · subst h; rw [e4]; exact hX
    · match w, h with
      | 0, _ | 1, _ | 2, _ | 3, _ => exact trivial
      | 4, h => exact absurd rfl h
  have g : (owns (c : Thread nD τ) ((cfg0.win w).stage (cfg0.slots t0_0 w)) fullShare (Function.update Y 4 X w) : sProp 𝕄)
      ⊢ iprop(∃ Z, ⌜(rdat m c).after w t0_0 (Y w) Z⌝ ∗ (owns (c : Thread nD τ) ((cfg0.win w).stage (cfg0.slots t0_0 w)) fullShare Z : sProp 𝕄)) := by
    iintro H
    iexists _
    isplitr; · ipureintro; exact hw
    iexact H
  exact g

/-- A device runs the body. -/
theorem hbody (hok : (dataOf m).Ok) (c : Dev nD) : (rdat m c).BodyObligation (defs₀ (F := F)) 𝒱₀ 0 Set.univ := by
  intro t Y hY
  obtain rfl := fin_N0 t
  have ePhi0 : (rdat m c).Φ t0_0.castSucc = iprop(∃ κ, opened (dataOf m) κ c) := rfl
  have ePhi1 : (rdat m c).Φ t0_0.succ = iprop(semVal (barCell c) 0 ∗ Pipeline.ownSems0 osem c) := rfl
  have eO0 : (rdat m c).owesAt 0 t0_0.castSucc ⊢ iprop(∃ W, owes (c : Thread nD τ) (due (dataOf m) c) W) := by
    have : (rdat m c).owed t0_0.castSucc = due (dataOf m) c := rfl
    unfold Pipeline.RDat.owesAt Pipeline.owesWithin; rw [this]
    iintro ⟨%W, -, HO⟩; iexists W; iexact HO
  have eO1 : iprop(∃ W, owes (c : Thread nD τ) (0 : CellTallies nD τ sig ℕ) W) ⊢ (rdat m c).owesAt 0 t0_0.succ := by
    have : (rdat m c).owed t0_0.succ = 0 := rfl
    unfold Pipeline.RDat.owesAt Pipeline.owesWithin; rw [this]
    iintro ⟨%W, HO⟩; iexists W
    isplitr; · ipureintro; exact fun _ _ => Or.inl trivial
    iexact HO
  rw [ePhi0, ePhi1, body_enter m c Y fun w _ => hY w]
  have hleave (κ : GSem nD τ sig → ℕ) :
      Leave (dataOf m) κ c 24 iprop((bigSep Finset.univ fun j : Chunk => come (dataOf m) c j) ∗ ownBlk (dataOf m) c 8
          ∗ atPos ER (barCell c) 1 ∅ 0 ∗ aside (dataOf m) c)
        ⊢ |={Set.univ}=> iprop((semVal (barCell c) 0 ∗ Pipeline.ownSems0 osem c) ∗ (rdat m c).owesAt 0 t0_0.succ
            ∗ bigSep Finset.univ fun w : Fin 5 => iprop(∃ Z, ⌜(rdat m c).after w t0_0 (Y w) Z⌝
              ∗ (owns (c : Thread nD τ) ((cfg0.win w).stage (cfg0.slots t0_0 w)) fullShare Z : sProp 𝕄))) := by
    iintro H
    imod (leave (dataOf m) κ c) $$ H with H
    imodintro
    unfold closed
    icases H with ⟨Ht, Hs, ⟨%X, %hX, Ho⟩, HO, HB, HS⟩
    isplitl [HB HS]
    · isplitl [HB] <;> iassumption
    isplitl [HO]; · iapply eO1; iexact HO
    iapply (body_leave m c Y X hX hY)
    isplitl [Ht]; · iexact Ht
    isplitl [Hs] <;> iassumption
  have hrun (κ : GSem nD τ sig → ℕ) := body_step (dataOf m) κ (c := c) hok (R := aside (dataOf m) c)
    (Q := fun _ => iprop((semVal (barCell c) 0 ∗ Pipeline.ownSems0 osem c) ∗ (rdat m c).owesAt 0 t0_0.succ
            ∗ bigSep Finset.univ fun w : Fin 5 => iprop(∃ Z, ⌜(rdat m c).after w t0_0 (Y w) Z⌝
              ∗ (owns (c : Thread nD τ) ((cfg0.win w).stage (cfg0.slots t0_0 w)) fullShare Z : sProp 𝕄)))) (hleave κ) (hstage0_0 0) (hstage0_1 0) (hstage0_2 0) (hstage0_3 0) (hstage0_4 0)
  iintro ⟨⟨%κ, Hop⟩, HO, Ht, Hs, Ho⟩
  ihave HO := eO0 $$ HO
  iapply (hrun κ)
  iapply (enter (dataOf m) κ c (Y 4))
  isplitl [Ht]; · iexact Ht
  isplitl [Hs]; · iexact Hs
  isplitl [Ho]; · iexact Ho
  isplitl [HO] <;> iassumption

end Body

/-! ## The kernel's semaphores are opened -/

section Open

variable (D : Data F) (κ : GSem nD τ sig → ℕ)

/-- The invariants of the protocol. -/
def records : sProp 𝕄 :=
  iprop((bigSep Finset.univ fun p : Dev nD => iprop(cellInv ER (sched D) (κ (barCell p)) (barCell p) ∗ reached ER (barCell p) 0))
    ∗ (bigSep Finset.univ fun x : Dev nD × Chunk => cellInv ER (sched D) (κ (sndCell x.1 x.2)) (sndCell x.1 x.2))
    ∗ (bigSep Finset.univ fun x : Dev nD × Chunk => cellInv ER (sched D) (κ (rcvCell x.1 x.2)) (rcvCell x.1 x.2)))

instance records_persistent : BI.Persistent (records D κ) := by unfold records; infer_instance

/-- Device `c`'s part of the protocol before the kernel is entered. -/
def waiting (c : Dev nD) : sProp 𝕄 :=
  iprop(records D κ ∗ atPos ER (barCell c) 0 ∅ 0 ∗ duties c ∗ credits D c
    ∗ (bigSep Finset.univ fun j : Chunk => openTok ER (sndCell c j)) ∗ (bigSep Finset.univ fun j : Chunk => openTok ER (rcvCell c j)))

/-- The kernel's semaphores, at zero, are put under the protocol. -/
theorem open_all (c : Dev nD) : iprop(waiting D κ c ∗ Pipeline.ownSems0 osem c ∗ levAts L lv) ⊢ |={Set.univ}=> opened D κ c := by
  have hc : iprop(levAts L lv ∗ records D κ) ⊢ ctx D κ := BI.Entails.refl _
  rw [ownSems_eq]
  unfold waiting
  iintro ⟨⟨Hr, Hat, Hd, Hcr, HoS, HoR⟩, ⟨HvS, HvR⟩, HL⟩
  ihave #Hctx := hc $$ [HL Hr]
  · isplitl [HL] <;> iassumption
  imod (open_cells ER (sched D) (fun j : Chunk => sndCell c j) (fun j => κ (sndCell c j)) fun j => ctx_snd D κ c j) $$ [HoS HvS] with HS
  · isplitr; · iexact Hctx
    isplitl [HoS] <;> iassumption
  imod (open_cells ER (sched D) (fun j : Chunk => rcvCell c j) (fun j => κ (rcvCell c j)) fun j => ctx_rcv D κ c j) $$ [HoR HvR] with HR
  · isplitr; · iexact Hctx
    isplitl [HoR] <;> iassumption
  imodintro
  unfold opened
  isplitr; · iexact Hctx
  isplitl [Hat]; · iexact Hat
  isplitl [Hd]; · iexact Hd
  isplitl [Hcr]; · iexact Hcr
  isplitl [HS] <;> iassumption

end Open

/-! ## The region -/

/-- A device owes at the barriers' and the chunks' indices only. -/
theorem due_pos (D : Data F) (c : Dev nD) (g : GSem nD τ sig) (i : ℕ) (h : 0 < due D c g i) : (i = ιB ∨ i = ιC) ∧ g.1.2 = .tc := by
  unfold due at h
  rw [Pi.add_apply, Finsupp.add_apply] at h
  rcases Nat.eq_zero_or_pos (rowDue D c 0 g i) with h0 | h0
  · by_contra hne
    refine absurd h (Nat.not_lt.mpr (Nat.le_zero.mpr ?_))
    rw [h0, Nat.add_zero]
    unfold barDue
    rw [Finset.sum_apply, Finsupp.finset_sum_apply]
    refine Finset.sum_eq_zero fun p _ => ?_
    split
    · rfl
    split
    · rw [tallyAt_apply, if_neg]
      rintro ⟨rfl, rfl⟩
      exact hne ⟨.inl rfl, rfl⟩
    · rfl
  · exact ⟨.inr (rowDue_pos D 0 g i h0).1, (rowDue_pos D 0 g i h0).2⟩

theorem hwaits (c : Dev nD) : (levAts L lv : sProp 𝕄) ⊢ Pipeline.RDat.cellsWaits (Pipeline.pin (pcfgs (F := F)) adm) (rdats m) 0 0 c := by
  refine Pipeline.RDat.cellsWaits_intro (Pipeline.pin (pcfgs (F := F)) adm) (rdats m) 0 0 c fun w s t => ?_
  have e : (rdats m 0 c).owed t = bodyDue m c t.val := rfl
  rw [e]; unfold bodyDue
  have hp (g : GSem nD τ sig) (i : ℕ) (hg : 0 < (if t.val = 0 then due (dataOf m) c else 0) g i) : (i = ιB ∨ i = ιC) ∧ g.1.2 = .tc := by
    split at hg
    · exact due_pos _ _ _ _ hg
    · exact absurd hg (Nat.lt_irrefl 0)
  refine MayOwe.of_cut (L := L) (lev := lv) 0 (fun q hq => ?_) (fun g i hg => ?_) (fun q hq => ?_) fun g i hg => ?_
  · rw [Finset.mem_singleton.mp hq, L_tc]; exact Finset.mem_range.mpr (show (0 : ℕ) < 7 by decide)
  · unfold L; rw [if_pos (hp g i hg).2]
    rcases (hp g i hg).1 with h | h <;> rw [h] <;> decide
  · rw [Finset.mem_singleton.mp hq]; exact le_rfl
  · rcases (hp g i hg).1 with h | h
    · rw [h]; exact (show (0 : ℕ) < 5 by decide)
    · rw [h]; exact (show (0 : ℕ) < 6 by decide)

end Cert.CombineIdeal.Exchange
end
-- ==== Proof.Back.Segments.lean ====
/-
  The program's four items as segments: the reshapes before the exchange of the counts, that exchange, the reshapes after it, and the
  kernel. Each is entered from what the one before it leaves.
-/
module

public import proofs.«01_k».proof.Proof.Back.Region
public import Idealize.ShloMosaic.Lib.Pipeline.RegionArrays

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ)

/-! ## The kernel -/

/-- What a device holds when it enters the kernel, `R` of it untouched; -/
def kernelPre (R : Dev nD → sProp 𝕄) (c : Dev nD) : sProp 𝕄 :=
  iprop(StableHlo.held (c : Thread nD τ) S (W3 m c) ∗ (∃ κ, waiting (dataOf m) κ c) ∗ (∃ W, owes (c : Thread nD τ) (due (dataOf m) c) W) ∗ R c)

/-- and when it leaves it. -/
def kernelPost (R : Dev nD → sProp 𝕄) (c : Dev nD) : sProp 𝕄 :=
  iprop((rdats m 0 c).arraysAt (Pipeline.pin (pcfgs (F := F)) adm 0).N
    ∗ StableHlo.held (c : Thread nD τ) (S \ Pipeline.arrRefs spec0) (W3 m c) ∗ semVal (barCell c) 0
    ∗ (∃ W, owes (c : Thread nD τ) (0 : CellTallies nD τ sig ℕ) W) ∗ R c)

theorem arrs_sub : (Pipeline.arrRefs (τ := τ) spec0) ⊆ S := by
  decide +kernel

theorem share_full (c : Dev nD) (w : Fin 5) : (rdats m 0 c).share w = fullShare := by
  unfold Pipeline.RDat.share
  split <;> rfl

/-- The windows' arrays are among the buffers held. -/
theorem arrays_held (c : Dev nD) :
    (StableHlo.held (c : Thread nD τ) (Pipeline.arrRefs spec0) (W3 m c) : sProp 𝕄) ⊢ (rdats m 0 c).arrays (rdats m 0 c).A := by
  rw [Pipeline.RDat.arrays_eq (pcfgs (F := F)) adm (rdats m) 0 c arr_whole0 (share_full m c)]
  unfold StableHlo.held Pipeline.arrRefs
  rw [bigSep_map, show Finset.univ.image (Pipeline.arrRef spec0) = Finset.univ.map ⟨Pipeline.arrRef spec0, winFacts0.arr_inj⟩ from
    (Finset.map_eq_image ⟨Pipeline.arrRef spec0, winFacts0.arr_inj⟩ Finset.univ).symm, bigSep_map]
  exact BI.Entails.refl _

theorem owes_in (c : Dev nD) : iprop(∃ W, owes (c : Thread nD τ) (due (dataOf m) c) W) ⊢ (rdats m 0 c).owesAt 0 0 := by
  have : (rdats m 0 c).owed 0 = due (dataOf m) c := rfl
  unfold Pipeline.RDat.owesAt Pipeline.owesWithin; rw [this]
  iintro ⟨%W, HO⟩; iexists W
  isplitr; · ipureintro; exact fun _ _ => Or.inl trivial
  iexact HO

theorem owes_out (c : Dev nD) : (rdats m 0 c).owesAt 0 (Fin.last (Pipeline.pin (pcfgs (F := F)) adm 0).N)
    ⊢ iprop(∃ W, owes (c : Thread nD τ) (0 : CellTallies nD τ sig ℕ) W) := by
  have : (rdats m 0 c).owed (Fin.last (Pipeline.pin (pcfgs (F := F)) adm 0).N) = 0 := rfl
  unfold Pipeline.RDat.owesAt Pipeline.owesWithin; rw [this]
  iintro ⟨%W, -, HO⟩; iexists W; iexact HO

theorem osem_facts : Pipeline.OwnSemFacts spec0 osem := by decide

/-- The kernel's segment. -/
def kernelSeg (hok : (dataOf m).Ok) (R : Dev nD → sProp 𝕄) :
    Pipeline.RDat.RegionSeg (pcfgs (F := F)) adm (rdats m) 0 defs₀ 𝒱₀ L lv 0 where
  win := launch0.win.to₀
  block_pos := block_pos0
  stage_whole := stage_whole0
  K := Chunk ⊕ Chunk
  osem := osem
  ho := osem_facts
  hbody c := hbody m hok c
  hwaits c := hwaits m c
  pre := kernelPre m R
  post := kernelPost m R
  X c := iprop(∃ κ, opened (dataOf m) κ c)
  Y c := semVal (barCell c) 0
  Z c := iprop(StableHlo.held (c : Thread nD τ) (S \ Pipeline.arrRefs spec0) (W3 m c) ∗ R c)
  hentry c := by
    unfold kernelPre
    rw [Pipeline.prefHeld_of_none _ rfl]
    iintro ⟨⟨Hh, ⟨%κ, Hw⟩, HO, HR⟩, Hs, HL⟩
    ihave Hh := (Entails.of_eq (StableHlo.held_sub_split (c : Thread nD τ) arrs_sub (W3 m c))) $$ Hh
    icases Hh with ⟨Ha, Hh⟩
    imod (open_all (dataOf m) κ c) $$ [Hw Hs HL] with Ho
    · isplitl [Hw]; · iexact Hw
      isplitl [Hs] <;> iassumption
    imodintro
    isplitl [Ha]; · iapply (arrays_held m c); iexact Ha
    isplitr; · iempintro
    isplitl [HO]; · iapply (owes_in m c); iexact HO
    isplitl [Ho]; · iexists κ; iexact Ho
    isplitl [Hh] <;> iassumption
  hin c := by
    have e : (rdats m 0 c).Φ 0 = iprop(∃ κ, opened (dataOf m) κ c) := rfl
    rw [e]
    iintro ⟨H, -⟩; iexact H
  hout c := by
    have e : (rdats m 0 c).Φ (Fin.last (Pipeline.pin (pcfgs (F := F)) adm 0).N) = iprop(semVal (barCell c) 0 ∗ Pipeline.ownSems0 osem c) := rfl
    have e' : (Pipeline.scopedRest (Pipeline.pin (pcfgs (F := F)) adm 0).spec c : sProp 𝕄) = BI.emp := scopedRest0_eq c
    rw [e, e']
    iintro ⟨HB, HS⟩
    isplitl [HB]; · iexact HB
    isplitl [HS]; · iexact HS
    iempintro
  hexit c := by
    unfold kernelPost
    iintro ⟨Ha, HO, HB, Hh, HR⟩
    imodintro
    isplitl [Ha]; · iexact Ha
    isplitl [Hh]; · iexact Hh
    isplitl [HB]; · iexact HB
    isplitl [HO]; · iapply (owes_out m c); iexact HO
    iexact HR

/-! ## The exchange of the counts -/

/-- What the devices owe each other for the exchange of the counts. -/
abbrev cntDue (c : Dev nD) : CellTallies nD τ sig ℕ := aa0.startDue c 1 2 3

theorem mem_L (c : Dev nD) (sm : SemLoc sig) {i : ℕ} (hi : i < 7) : i ∈ L ((c : Thread nD τ), sm) := by
  rw [L_tc]; exact Finset.mem_range.mpr hi

/-- What a device owes at the kernel is owed at the kernel's indices, which lie above those of the exchange of the counts. -/
theorem due_at (D : Data F) (c : Dev nD) (g : GSem nD τ sig) (i : ℕ) (h : 0 < due D c g i) : i ∈ L g ∧ 4 < i := by
  obtain ⟨hi, hg⟩ := due_pos D c g i h
  unfold L; rw [if_pos hg]
  rcases hi with rfl | rfl
  · exact ⟨Finset.mem_range.mpr (by decide), by decide⟩
  · exact ⟨Finset.mem_range.mpr (by decide), by decide⟩

/-- What is still owed during that exchange is owed at an index above `k`, if both parts are. -/
theorem mayWait_cnt (D : Data F) (c : Dev nD) (sm : SemLoc sig) (k : ℕ) (hk : k ≤ 4) (O : CellTallies nD τ sig ℕ)
    (hO : ∀ g i, 0 < O g i → i ∈ L g ∧ k < i) :
    (levAts L lv : sProp 𝕄) ⊢ MayWait (c : Thread nD τ) sm k (due D c + O) :=
  MayOwe.of_cut (lev := lv) k
    (fun p hp => by rw [Finset.mem_singleton.mp hp]; exact mem_L c sm (by omega))
    (fun g i hg => by
      rcases Nat.eq_zero_or_pos (due D c g i) with h0 | h0
      · exact (hO g i (by have e : (due D c + O) g i = due D c g i + O g i := rfl
                          rw [e, h0, zero_add] at hg; exact hg)).1
      · exact (due_at D c g i h0).1)
    (fun p hp => by rw [Finset.mem_singleton.mp hp]; exact le_refl _)
    (fun g i hg => by
      rcases Nat.eq_zero_or_pos (due D c g i) with h0 | h0
      · exact (hO g i (by have e : (due D c + O) g i = due D c g i + O g i := rfl
                          rw [e, h0, zero_add] at hg; exact hg)).2
      · exact lt_of_le_of_lt hk (due_at D c g i h0).2)

theorem waitDue_at (c : Dev nD) (g : GSem nD τ sig) (i : ℕ) (h : 0 < aa0.waitDue c 2 3 g i) : i ∈ L g ∧ 1 < i := by
  rcases aa0.waitDue_pos h with ⟨-, d', -, rfl, rfl⟩ | ⟨d', -, rfl, rfl⟩
  · exact ⟨mem_L _ _ (by decide), by decide⟩
  · exact ⟨mem_L _ _ (by decide), by decide⟩

theorem wait_bar (D : Data F) (c : Dev nD) : (levAts L lv : sProp 𝕄)
    ⊢ MayWait (c : Thread nD τ) (.reg aa0.barrier) (aa0.waitIx 1 2 c) (due D c + aa0.waitDue c 2 3) :=
  mayWait_cnt D c _ _ (by unfold AllToAll.Cfg.waitIx; split <;> decide) _ fun g i hg =>
    ⟨(waitDue_at c g i hg).1, aa0.waitIx_lt_of_waitDue_pos (by decide) (by decide) hg⟩
theorem wait_copy (D : Data F) (c : Dev nD) : (levAts L lv : sProp 𝕄)
    ⊢ MayWait (c : Thread nD τ) (.dma aa0.csem) 1 (due D c + aa0.waitDue c 2 3) :=
  mayWait_cnt D c _ _ (by decide) _ fun g i hg => waitDue_at c g i hg
theorem wait_recv (D : Data F) (c : Dev nD) : (levAts L lv : sProp 𝕄) ⊢ MayWait (c : Thread nD τ) (.dma aa0.recv) 3 (due D c) := by
  have h := mayWait_cnt D c (.dma aa0.recv) 3 (by decide) 0 fun g i hg => absurd hg (Nat.lt_irrefl 0)
  rw [add_zero] at h; exact h
theorem wait_send (D : Data F) (c : Dev nD) : (levAts L lv : sProp 𝕄) ⊢ MayWait (c : Thread nD τ) (.dma aa0.send) 4 (due D c) := by
  have h := mayWait_cnt D c (.dma aa0.send) 4 (by decide) 0 fun g i hg => absurd hg (Nat.lt_irrefl 0)
  rw [add_zero] at h; exact h

theorem aa0_amount : 0 < aa0.amount := by decide +kernel

/-- What a device keeps for the kernel, its semaphores there not yet opened. -/
def keep (c : Dev nD) : sProp 𝕄 := iprop(∃ κ, waiting (dataOf m) κ c)

/-- That the semaphores of the exchange of the counts are under their invariants. -/
abbrev cntInvs : sProp 𝕄 := AllToAll.Once.invs aa0 EC (W1 m)

/-- What a device carries to the exchange of the counts, -/
abbrev cntRides (c : Dev nD) : sProp 𝕄 := AllToAll.Once.rides aa0 EC (W1 m) c

/-- and to it past the reshapes. -/
def rest0 (c : Dev nD) : sProp 𝕄 :=
  iprop(aa0.staged c ∗ cntRides m c ∗ (∃ W, owes (c : Thread nD τ) (due (dataOf m) c + cntDue c) W) ∗ keep m c)

/-- What it carries from it. -/
def after1 (c : Dev nD) : sProp 𝕄 := iprop(cntInvs m ∗ aa0.ghostAfter EC c 0)
def rest1 (c : Dev nD) : sProp 𝕄 :=
  iprop(after1 m c ∗ (∃ W, owes (c : Thread nD τ) (due (dataOf m) c) W) ∗ keep m c)

/-- The reshapes before the exchange of the counts, -/
def host0 : Pipeline.HostSeg (Ix := ℕ) (Name := ℕ) (U := UU) (Lvl := ℕ) (pcfgs (F := F)) defs₀ 𝒱₀ L lv :=
  Pipeline.HostSeg.ofOps (pcfgs (F := F)) defs₀ 𝒱₀ L lv S hostOps0
    (fun op h => Pipeline.sub_ucRefsBut scr op ((List.forall_iff_forall_mem.mp hostOps0_sub) op h) (hostOps0_noScr op h))
    (fun op h => (List.forall_iff_forall_mem.mp hostOps0_fresh) op h) (V0 m) (rest0 m)

/-- that exchange, -/
def cntSeg : Pipeline.HostSeg (Ix := ℕ) (Name := ℕ) (U := UU) (Lvl := ℕ) (pcfgs (F := F)) defs₀ 𝒱₀ L lv :=
  AllToAll.hostSegHeld₀ EC (pcfgs (F := F)) defs₀ 𝒱₀ L lv aa0_hw aa0_amount (W1 m) (due (dataOf m)) 1 2 1 3 4 3
    (wait_bar (dataOf m)) (wait_copy (dataOf m)) (wait_recv (dataOf m)) (wait_send (dataOf m))
    (fun c => iprop(StableHlo.held (c : Thread nD τ) (S \ aa0.siteRefs) (W1 m c) ∗ cntInvs m ∗ keep m c))

/-- and the reshapes after it. -/
def host1 : Pipeline.HostSeg (Ix := ℕ) (Name := ℕ) (U := UU) (Lvl := ℕ) (pcfgs (F := F)) defs₀ 𝒱₀ L lv :=
  Pipeline.HostSeg.ofOps (pcfgs (F := F)) defs₀ 𝒱₀ L lv S hostOps1
    (fun op h => Pipeline.sub_ucRefsBut scr op ((List.forall_iff_forall_mem.mp hostOps1_sub) op h) (hostOps1_noScr op h))
    (fun op h => (List.forall_iff_forall_mem.mp hostOps1_fresh) op h) (W2 m) (rest1 m)

/-! ## From one to the next -/

theorem site_sub : aa0.siteRefs ⊆ S := by decide +kernel

theorem to_cnt (c : Dev nD) : (host0 m).post c ⊢ (cntSeg m).pre c := by
  have e : (host0 m).post c = iprop(StableHlo.held (c : Thread nD τ) S (W1 m c) ∗ rest0 m c) := rfl
  rw [e, StableHlo.held_sub_split (c : Thread nD τ) site_sub (W1 m c)]
  unfold rest0 cntRides AllToAll.Once.rides
  dsimp only [cntSeg, AllToAll.hostSegHeld₀, AllToAll.Dat.rides]
  iintro ⟨⟨Hh, Hr⟩, Hs, ⟨#Hi, HR⟩, HO, HK⟩
  isplitl [Hh Hs]; · isplitl [Hh] <;> iassumption
  isplitl [HR]
  · isplitr; · iexact Hi
    iexact HR
  isplitl [HO]; · iexact HO
  isplitl [Hr]; · iexact Hr
  isplitr; · iexact Hi
  iexact HK

theorem from_cnt (c : Dev nD) : (cntSeg m).post c ⊢ (host1 m).pre c := by
  have e : (host1 m).pre c = iprop(StableHlo.held (c : Thread nD τ) S (W2 m c) ∗ rest1 m c) := rfl
  rw [e, StableHlo.held_sub_split (c : Thread nD τ) site_sub (W2 m c),
    StableHlo.held_congr (c : Thread nD τ) (S := S \ aa0.siteRefs) (V := W2 m c) (V' := W1 m c)
      fun b hb => aa0.after₀_off_siteRefs (W1 m) c (Finset.mem_sdiff.mp hb).2]
  unfold rest1 after1
  dsimp only [cntSeg, AllToAll.hostSegHeld₀]
  iintro ⟨⟨Hh, -⟩, Hg, HO, Hr, Hi, HK⟩
  isplitl [Hh Hr]; · isplitl [Hh] <;> iassumption
  isplitl [Hi Hg]; · isplitl [Hi] <;> iassumption
  isplitl [HO] <;> iassumption

theorem to_kernel (hok : (dataOf m).Ok) (c : Dev nD) : (host1 m).post c ⊢ (kernelSeg m hok (after1 m)).pre c := by
  have e : (host1 m).post c = iprop(StableHlo.held (c : Thread nD τ) S (W3 m c) ∗ rest1 m c) := rfl
  have e' : (kernelSeg m hok (after1 m)).pre c = kernelPre m (after1 m) c := rfl
  rw [e, e']
  unfold rest1 kernelPre keep
  iintro ⟨Hh, Ha, HO, HK⟩
  isplitl [Hh]; · iexact Hh
  isplitl [HK]; · iexact HK
  isplitl [HO] <;> iassumption

end Cert.CombineIdeal.Exchange
end
-- ==== Proof.Back.Launch.lean ====
/-
  The launch: the kernel's semaphores are put under the protocol, what the devices pay and wait with is dealt out, and every device gets
  what it enters the program with.
-/
module

public import proofs.«01_k».proof.Proof.Back.Segments

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (D : Data F)

/-! ## Cells and tokens -/

theorem kindOf_osem_inl (j : Chunk) : kindOf (osem (.inl j)) = .snd j := kindOf_snd j
theorem kindOf_osem_inr (j : Chunk) : kindOf (osem (.inr j)) = .rcv j := kindOf_rcv j

theorem osem_ne_bar (x : Chunk ⊕ Chunk) : osem x ≠ .reg barS := by
  intro h
  cases x <;> exact nomatch h

theorem osem_inj : Function.Injective osem := by
  intro x y h
  have hk := congrArg kindOf h
  cases x <;> cases y
  · rw [kindOf_osem_inl, kindOf_osem_inl] at hk; rw [Kind.snd.inj hk]
  · rw [kindOf_osem_inl, kindOf_osem_inr] at hk; exact nomatch hk
  · rw [kindOf_osem_inr, kindOf_osem_inl] at hk; exact nomatch hk
  · rw [kindOf_osem_inr, kindOf_osem_inr] at hk; rw [Kind.rcv.inj hk]

theorem dev_of_cell {c d : Dev nD} {s t : SemLoc sig} (h : (((c : Thread nD τ), s) : GSem nD τ sig) = ((d : Thread nD τ), t)) : c = d :=
  congrArg (fun g : GSem nD τ sig => g.1.1) h

/-- The barriers, -/
def barEmb : Dev nD ↪ GSem nD τ sig := ⟨fun c => barCell c, fun _ _ h => dev_of_cell h⟩
/-- and the chunks' semaphores. -/
def cellEmb : Dev nD × (Chunk ⊕ Chunk) ↪ GSem nD τ sig :=
  ⟨fun x => ((x.1 : Thread nD τ), osem x.2), fun _ _ h => Prod.ext (dev_of_cell h) (osem_inj (congrArg Prod.snd h))⟩

abbrev barCells : Finset (GSem nD τ sig) := Finset.univ.map barEmb
abbrev chunkCells : Finset (GSem nD τ sig) := Finset.univ.map cellEmb

theorem cells_disjoint : Disjoint barCells chunkCells := by
  rw [Finset.disjoint_left]
  intro g h h'
  obtain ⟨c, -, rfl⟩ := Finset.mem_map.mp h
  obtain ⟨x, -, e⟩ := Finset.mem_map.mp h'
  exact osem_ne_bar x.2 (congrArg Prod.snd e)

/-- The cell of the duty that device `c` has at a barrier, at a departure, or at an arrival. -/
def dutyCell (c : Dev nD) : Dev nD ⊕ (Chunk ⊕ Chunk) → GSem nD τ sig
  | .inl p => barCell p
  | .inr (.inl j) => sndCell c j
  | .inr (.inr j) => rcvCell j.1 (c, j.2)

theorem dutyCell_inj (c : Dev nD) : Function.Injective (dutyCell c) := by
  intro x y h
  have hk := congrArg (fun g : GSem nD τ sig => kindOf g.2) h
  have hd := congrArg (fun g : GSem nD τ sig => g.1.1) h
  rcases x with p | j | j <;> rcases y with p' | j' | j' <;> dsimp only [dutyCell] at hk hd <;>
    simp only [kindOf_bar, kindOf_snd, kindOf_rcv, Kind.snd.injEq, Kind.rcv.injEq, reduceCtorEq, Prod.mk.injEq, true_and] at hk
  · exact congrArg Sum.inl hd
  · rw [hk]
  · exact congrArg (fun j => Sum.inr (Sum.inr j)) (Prod.ext hd hk)

/-- Every duty's token. -/
def tokens : Finset (GSem nD τ sig × ℕ × Dev nD) :=
  Finset.univ.map ⟨fun x : Dev nD × (Dev nD ⊕ (Chunk ⊕ Chunk)) => (dutyCell x.1 x.2, 0, x.1), fun x y h => by
    have h1 : x.1 = y.1 := congrArg (fun t : GSem nD τ sig × ℕ × Dev nD => t.2.2) h
    have h2 : dutyCell x.1 x.2 = dutyCell y.1 y.2 := congrArg (fun t : GSem nD τ sig × ℕ × Dev nD => t.1) h
    rw [← h1] at h2
    exact Prod.ext h1 (dutyCell_inj x.1 h2)⟩

theorem tokens_eq : bigSep tokens (fun t => (dutyTok ER t.1 t.2.1 t.2.2 : sProp 𝕄)) = bigSep Finset.univ fun c : Dev nD => duties c := by
  unfold tokens; rw [bigSep_map, bigSep_univ_prod]
  refine bigSep_congr fun c _ => ?_
  rw [bigSep_univ_sum, bigSep_univ_sum]
  rfl

/-! ## The credits -/

theorem barDue_apply (d : Dev nD) (g : GSem nD τ sig) (i : ℕ) :
    barDue d 0 g i = ∑ p : Dev nD, if d ≠ p ∧ g = barCell p ∧ i = ιB then 1 else 0 := by
  unfold barDue
  rw [Finset.sum_apply, Finsupp.finset_sum_apply]
  refine Finset.sum_congr rfl fun p _ => ?_
  rw [if_neg (Nat.not_lt_zero _)]
  by_cases h : d ≠ p
  · rw [if_pos h, tallyAt_apply]; simp only [h, ne_eq, not_false_eq_true, true_and]
  · rw [if_neg h, if_neg fun h' => h h'.1]; rfl

theorem rowDue_apply (d : Dev nD) (g : GSem nD τ sig) (i : ℕ) :
    rowDue D d 0 g i = ∑ j : Chunk, if sends D d j ∧ g = rcvCell j.1 (d, j.2) ∧ i = ιC then N else 0 := by
  unfold rowDue
  rw [Finset.sum_apply, Finsupp.finset_sum_apply]
  refine Finset.sum_congr rfl fun j _ => ?_
  rw [if_neg (Nat.not_lt_zero _)]
  by_cases h : sends D d j
  · rw [if_pos h, tallyAt_apply]; simp only [h, true_and]
  · rw [if_neg h, if_neg fun h' => h h'.1]; rfl

theorem rcv_ne_bar (c d : Dev nD) (j : Chunk) : rcvCell c j ≠ barCell d := fun h => nomatch congrArg Prod.snd h

theorem rcv_cell_inj {c d : Dev nD} {j k : Chunk} (h : rcvCell c j = rcvCell d k) : c = d ∧ j = k := by
  have hk := congrArg (fun g : GSem nD τ sig => kindOf g.2) h
  dsimp only at hk
  rw [kindOf_rcv, kindOf_rcv] at hk
  exact ⟨dev_of_cell h, Kind.rcv.inj hk⟩

/-- What a device owes a barrier: one entry, if it is another's. -/
theorem due_bar (d c : Dev nD) (i : ℕ) : due D d (barCell c) i = if d ≠ c ∧ i = ιB then 1 else 0 := by
  have e : due D d (barCell c) i = barDue d 0 (barCell c) i + rowDue D d 0 (barCell c) i := rfl
  rw [e, barDue_apply, rowDue_apply, Finset.sum_eq_zero (s := (Finset.univ : Finset Chunk)) fun j _ => if_neg fun h => rcv_ne_bar _ _ _ h.2.1.symm,
    add_zero, Finset.sum_eq_single c (fun p _ hp => if_neg fun h => hp (dev_of_cell h.2.1).symm) (fun h => absurd (Finset.mem_univ c) h)]
  simp only [true_and]

/-- What a device owes an arrival cell: a chunk, if it is the one to send it. -/
theorem due_rcv (d c : Dev nD) (j : Chunk) (i : ℕ) : due D d (rcvCell c j) i = if d = j.1 ∧ gets D c j ∧ i = ιC then N else 0 := by
  have e : due D d (rcvCell c j) i = barDue d 0 (rcvCell c j) i + rowDue D d 0 (rcvCell c j) i := rfl
  rw [e, barDue_apply, rowDue_apply, Finset.sum_eq_zero (s := (Finset.univ : Finset (Dev nD))) fun p _ => if_neg fun h => rcv_ne_bar _ _ _ h.2.1,
    zero_add, Finset.sum_eq_single ((c, j.2) : Chunk)
      (fun k _ hk => if_neg fun h => by
        obtain ⟨h1, h2⟩ := rcv_cell_inj h.2.1
        exact hk (Prod.ext h1.symm (by rw [h2])))
      (fun h => absurd (Finset.mem_univ _) h)]
  by_cases hd : d = j.1
  · subst hd
    simp only [true_and]
  · rw [if_neg fun h => hd (congrArg Prod.fst (rcv_cell_inj h.2.1).2).symm, if_neg fun h => hd h.1]

theorem launch_bar (c : Dev nD) :
    tallyOn (barCell c) (launchCredit (Pipeline.owing (due D)) 0 (barCell c)) = (tallyAt (barCell c) ιB 7 : CellTallies nD τ sig ℕ) := by
  unfold tallyAt
  refine congrArg _ (Finsupp.ext fun i => ?_)
  rw [Pipeline.launchCredit_owing, Finset.sum_congr rfl fun d _ => due_bar D d c i, Finsupp.single_apply]
  by_cases h : i = ιB
  · subst h
    simp only [and_true, if_true]
    revert c; decide
  · rw [if_neg fun e => h e.symm]
    exact Finset.sum_eq_zero fun d _ => if_neg fun e => h e.2

theorem launch_rcv (c : Dev nD) (j : Chunk) (hg : gets D c j) :
    tallyOn (rcvCell c j) (launchCredit (Pipeline.owing (due D)) 0 (rcvCell c j)) = (tallyAt (rcvCell c j) ιC N : CellTallies nD τ sig ℕ) := by
  unfold tallyAt
  refine congrArg _ (Finsupp.ext fun i => ?_)
  rw [Pipeline.launchCredit_owing, Finset.sum_congr rfl fun d _ => due_rcv D d c j i, Finsupp.single_apply]
  by_cases h : i = ιC
  · subst h
    simp only [hg, and_true, if_true]
    exact Finset.sum_ite_eq' Finset.univ j.1 _ |>.trans (if_pos (Finset.mem_univ _))
  · rw [if_neg fun e => h e.symm]
    exact Finset.sum_eq_zero fun d _ => if_neg fun e => h e.2.2

/-- The arrival semaphores. -/
def rcvEmb : Chunk ↪ SemLoc sig := ⟨fun j => .dma (rcvS j), fun x y h => Sum.inr_injective (osem_inj (a₁ := .inr x) (a₂ := .inr y) h)⟩

theorem credits_dealt (c : Dev nD) : (Pipeline.launchCred (due D) c : sProp 𝕄) ⊢ credits D c := by
  unfold Pipeline.launchCred credits
  rw [bigSep_univ_at _ (SemLoc.reg barS), launch_bar]
  refine sep_mono_right ?_
  have hs : Finset.univ.map rcvEmb ⊆ (Finset.univ : Finset (SemLoc sig)).erase (SemLoc.reg barS) := fun s hs => by
    obtain ⟨j, -, rfl⟩ := Finset.mem_map.mp hs
    exact Finset.mem_erase.mpr ⟨(fun h => nomatch h), Finset.mem_univ _⟩
  refine (bigSep_subset hs).trans ?_
  rw [bigSep_map]
  refine bigSep_mono fun j _ => ?_
  show cred (tallyOn (rcvCell c j) (launchCredit (Pipeline.owing (due D)) 0 (rcvCell c j))) ⊢ _
  by_cases hg : gets D c j
  · rw [whenP_pos hg, launch_rcv D c j hg]
  · rw [whenP_neg hg]
    iintro -; iempintro

/-! ## The launch -/

/-- What the devices owe each other at launch. -/
def O₀ (c : Dev nD) : CellTallies nD τ sig ℕ := due (dataOf m) c + cntDue c

/-- A device's unscoped semaphores: four for the exchange of the counts, and the kernel's barrier. -/
theorem sems_eq (c : Dev nD) : (unscopedSems0 c : sProp 𝕄)
    = iprop((semVal (aa0.barrierCell c) 0 ∗ semVal (aa0.recvCell c) 0 ∗ semVal (aa0.sendCell c) 0 ∗ semVal (aa0.copyCell c) 0) ∗ semVal (barCell c) 0) := by
  unfold unscopedSems0
  have h1 : (iprop((semVal (aa0.barrierCell c) 0 ∗ semVal (aa0.recvCell c) 0 ∗ semVal (aa0.sendCell c) 0 ∗ semVal (aa0.copyCell c) 0) ∗ semVal (barCell c) 0) : sProp 𝕄)
      ⊣⊢ iprop(semVal (aa0.barrierCell c) 0 ∗ semVal (aa0.recvCell c) 0 ∗ semVal (aa0.sendCell c) 0 ∗ semVal (aa0.copyCell c) 0 ∗ semVal (barCell c) 0) := by
    constructor
    · iintro ⟨⟨H1, H2, H3, H4⟩, H5⟩
      isplitl [H1]; · iexact H1
      isplitl [H2]; · iexact H2
      isplitl [H3]; · iexact H3
      isplitl [H4] <;> iassumption
    · iintro ⟨H1, H2, H3, H4, H5⟩
      isplitr [H5]; swap; · iexact H5
      isplitl [H1]; · iexact H1
      isplitl [H2]; · iexact H2
      isplitl [H3] <;> iassumption
  rw [(h1.1).antisymm h1.2,
    bigSep_eq_bigSepL_of_eq [SemLoc.reg aa0.barrier, .dma aa0.recv, .dma aa0.send, .dma aa0.csem, .reg barS] (by decide) (by decide)]
  rfl

/-- What the launch provides of the two protocols' algebras. -/
def dealt : sProp 𝕄 :=
  iprop(BI.own (EC (AllToAll.Once.uC (U := UU) aa0 (W1 m))) ∗ BI.own (ER (launchOf barCells chunkCells tokens)))

/-- A device's own part of the kernel's protocol. -/
def share (c : Dev nD) : sProp 𝕄 :=
  iprop(atPos ER (barCell c) 0 ∅ 0 ∗ duties c
    ∗ (bigSep Finset.univ fun j : Chunk => openTok ER (sndCell c j)) ∗ (bigSep Finset.univ fun j : Chunk => openTok ER (rcvCell c j)))

/-- The kernel's protocol, put up. -/
theorem set_up {Es : Set ℕ} :
    iprop((bigSep Finset.univ fun c : Dev nD => semVal (barCell c) 0) ∗ BI.own (ER (launchOf barCells chunkCells tokens)))
      ⊢ (|={Es}=> ∃ κ, records D κ ∗ bigSep Finset.univ fun c : Dev nD => share c : sProp 𝕄) :=
  set_up_cells ER (sched D) barEmb cellEmb cells_disjoint (fun _ _ h => h) tokens duties tokens_eq

/-- A device's unscoped buffers: those the host operations work on, and the staging buffer of the exchange of the counts. -/
theorem bufs_split (c : Dev nD) : (unscopedBufs c (fun b => m ((c : Thread nD τ).loc b)) : sProp 𝕄)
    ⊢ iprop(StableHlo.held (c : Thread nD τ) S (V0 m c) ∗ aa0.staged c) := by
  have hS : (S : Finset (DevRef τ sig)) = (Pipeline.ucRefs τ sig).erase (Proc.devRef .tc main_v3_stage) := by decide +kernel
  have hmem : (Proc.devRef .tc main_v3_stage : DevRef τ sig) ∈ Pipeline.ucRefs τ sig := by decide +kernel
  have e : (StableHlo.held (c : Thread nD τ) (Pipeline.ucRefs τ sig) (V0 m c) : sProp 𝕄)
      = iprop((((c : Dev nD), (Proc.devRef .tc main_v3_stage : DevRef τ sig)) ↦{fullShare} V0 m c (Proc.devRef .tc main_v3_stage))
        ∗ StableHlo.held (c : Thread nD τ) S (V0 m c)) := by
    rw [hS]
    unfold StableHlo.held
    conv_lhs => rw [← Finset.insert_erase hmem]
    exact bigSep_insert (Finset.notMem_erase _ _)
  rw [show unscopedBufs c (fun b => m ((c : Thread nD τ).loc b)) = StableHlo.held (c : Thread nD τ) (Pipeline.ucRefs τ sig) (V0 m c)
    from Pipeline.unscopedBufs_held (Ix := ℕ) (Name := ℕ) (U := UU) (Lvl := ℕ) c (V0 m c), e]
  iintro ⟨Hs, Hh⟩
  isplitl [Hh]; · iexact Hh
  iapply (AllToAll.Once.staged_of_whole aa0 rfl c _); iexact Hs

variable (ρ : Dev nD → PrngReg)

/-- What the launch leaves with a device. -/
def bundle (c : Dev nD) : sProp 𝕄 :=
  iprop(StableHlo.held (c : Thread nD τ) S (V0 m c) ∗ aa0.staged c ∗ owes (c : Thread nD τ) (O₀ m c) ∅ ∗ credits (dataOf m) c)

/-- What a device enters the program with. -/
theorem enter_main (κ : GSem nD τ sig → ℕ) (c : Dev nD) :
    iprop(records (dataOf m) κ ∗ (share c ∗ cntRides m c ∗ bundle m c)) ⊢ (host0 m).pre c := by
  have e : (host0 m).pre c = iprop(StableHlo.held (c : Thread nD τ) S (V0 m c) ∗ rest0 m c) := rfl
  rw [e]
  unfold rest0 keep waiting share bundle O₀
  iintro ⟨#HR, ⟨Ha, Hd, Ho1, Ho2⟩, Hr, Hh, Hs, HO, Hc⟩
  isplitl [Hh]; · iexact Hh
  isplitl [Hs]; · iexact Hs
  isplitl [Hr]; · iexact Hr
  isplitl [HO]; · iexists ∅; iexact HO
  iexists κ
  isplitr; · iexact HR
  isplitl [Ha]; · iexact Ha
  isplitl [Hd]; · iexact Hd
  isplitl [Hc]; · iexact Hc
  isplitl [Ho1] <;> iassumption

theorem core_split (c : Dev nD) :
    iprop(unscopedBufs c (fun b => m ((c : Thread nD τ).loc b)) ∗ unscopedSems0 c
        ∗ owes (c : Thread nD τ) (O₀ m c) ∅ ∗ Pipeline.launchCred (O₀ m) c ∗ prngReg c (ρ c) ∗ parked (dealt m) c)
      ⊢ (iprop(((semVal (aa0.barrierCell c) 0 ∗ semVal (aa0.recvCell c) 0 ∗ semVal (aa0.sendCell c) 0 ∗ semVal (aa0.copyCell c) 0)
            ∗ Pipeline.launchCred cntDue c)
          ∗ semVal (barCell c) 0 ∗ parked (dealt m) c ∗ bundle m c) : sProp 𝕄) := by
  rw [sems_eq, show Pipeline.launchCred (O₀ m) c = _ from Pipeline.launchCred_add (due (dataOf m)) cntDue c]
  unfold bundle
  iintro ⟨Hb, ⟨Hs, HB⟩, HO, ⟨Hd, Hk⟩, -, HG⟩
  ihave Hb := (bufs_split m c) $$ Hb
  icases Hb with ⟨Hh, Hst⟩
  isplitl [Hs Hk]; · isplitl [Hs] <;> iassumption
  isplitl [HB]; · iexact HB
  isplitl [HG]; · iexact HG
  isplitl [Hh]; · iexact Hh
  isplitl [Hst]; · iexact Hst
  isplitl [HO]; · iexact HO
  iapply (credits_dealt (dataOf m) c); iexact Hd

/-- What the launch deals the devices becomes what they enter the program with. -/
theorem init :
    iprop((bigSep Finset.univ fun c : Dev nD => iprop(unscopedBufs c (fun b => m ((c : Thread nD τ).loc b)) ∗ unscopedSems0 c
          ∗ owes (c : Thread nD τ) (O₀ m c) ∅ ∗ Pipeline.launchCred (O₀ m) c ∗ prngReg c (ρ c) ∗ parked (dealt m) c)) ∗ levAts L lv)
      ⊢ (|={Set.univ}=> bigSep Finset.univ fun c => (host0 m).pre c : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ m c) ∅ ∗ Pipeline.launchCred (O₀ m) c ∗ prngReg c (ρ c) ∗ parked (dealt m) c))
      ⊢ (bigSep Finset.univ fun c : Dev nD => iprop(((semVal (aa0.barrierCell c) 0 ∗ semVal (aa0.recvCell c) 0 ∗ semVal (aa0.sendCell c) 0 ∗ semVal (aa0.copyCell c) 0)
            ∗ Pipeline.launchCred cntDue c)
          ∗ semVal (barCell c) 0 ∗ parked (dealt m) c ∗ bundle m c) : sProp 𝕄) from bigSep_mono fun c _ => core_split m ρ c) $$ H
  ihave H := pair_off $$ H; icases H with ⟨Hc, H⟩
  ihave H := pair_off $$ H; icases H with ⟨Hv, H⟩
  ihave H := pair_off $$ H; icases H with ⟨HG, HB⟩
  ihave HG := (Entails.of_eq (parked_eq (dealt m))) $$ HG
  unfold dealt
  icases HG with ⟨HC, HE⟩
  imod ((AllToAll.Dat.once aa0 (W1 m)).fund_rides EC 1 2 3 (Es := Set.univ)) $$ [Hc HC] with Hr
  · isplitl [Hc]; · iexact Hc
    iexact HC
  imod (set_up (dataOf m) (Es := Set.univ)) $$ [Hv HE] with ⟨%κ, #HR, Hsh⟩
  · isplitl [Hv] <;> iassumption
  imodintro
  iapply (bigSep_with_persistent (R := records (dataOf m) κ) (Φ := fun c => iprop(share c ∗ cntRides m c ∗ bundle m c)) fun c _ => enter_main m κ c)
  isplitr; · iexact HR
  iapply pair_up; isplitl [Hsh]; · iexact Hsh
  iapply pair_up; isplitl [Hr]; · iexact Hr
  iexact HB

end Cert.CombineIdeal.Exchange
end
-- ==== Proof.Back.Run.lean ====
/-
  The run: from any memory whose offsets stay within the pack, the program terminates on every device, its arguments unchanged and every
  semaphore at zero, and a device's result holds its own rows and every run of rows that is sent to it.
-/
module

public import proofs.«01_k».proof.Proof.Back.Launch
public import Idealize.ShloMosaic.Lib.Pipeline.ArrRel
public import Idealize.ShloMosaic.Lib.Quiescent

@[expose] public section

noncomputable section

namespace Cert.CombineIdeal.Exchange

open Cert.CombineIdeal Cert.CombineIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-- The program's items, in order. -/
def items (hok : (dataOf m).Ok) : List (Pipeline.RDat.Seg (pcfgs (F := F)) adm (rdats m) 0 defs₀ 𝒱₀ L lv) :=
  [.host (host0 m), .host (cntSeg m), .host (host1 m), .region (kernelSeg m hok (after1 m))]

/-- What a device holds at the end. -/
def atEnd (c : Dev nD) : sProp 𝕄 :=
  iprop((rdats m 0 c).arraysAt (Pipeline.pin (pcfgs (F := F)) adm 0).N
    ∗ StableHlo.held (c : Thread nD τ) (S \ Pipeline.arrRefs spec0) (W3 m c) ∗ semVal (barCell c) 0 ∗ after1 m c)

/-- What a device's part of the memory is at the end. -/
def Ends (c : Dev nD) (s : MemSt nD τ sig (Elt F)) : Prop :=
  (∀ w, (rdats m 0 c).ArrAt w (Pipeline.pin (pcfgs (F := F)) adm 0).N (s.mem ((spec0 w).arr.view.loc (c : Thread nD τ))))
    ∧ (∀ b ∈ S \ Pipeline.arrRefs spec0, s.mem ((c : Dev nD), b) = W3 m c b)
    ∧ ∀ sm : SemLoc sig, sm.isScoped .tc = false → s.sem ((c : Thread nD τ), sm) = 0

/-- The unscoped semaphores are back at zero. -/
theorem sems_back (c : Dev nD) : iprop(semVal (barCell c) 0 ∗ after1 m c) ⊢ (|={Set.univ}=> unscopedSems0 c : sProp 𝕄) := by
  have h := (AllToAll.Dat.once aa0 (W1 m)).ghostAfter_close (EC (F := F)) c (k := 0) le_rfl
  rw [sems_eq]
  unfold after1
  iintro ⟨HB, Ha⟩
  imod h $$ Ha with Hs
  imodintro
  isplitl [Hs] <;> iassumption

theorem arrays_read (c : Dev nD) (s' : Phys nD τ sig (Elt F)) : iprop(atEnd m c ∗ SI s')
    ⊢ (⌜∀ w, (rdats m 0 c).ArrAt w (Pipeline.pin (pcfgs (F := F)) adm 0).N (s'.mem.mem ((spec0 w).arr.view.loc (c : Thread nD τ)))⌝ : sProp 𝕄) := by
  have h := Pipeline.RDat.arraysAt_read (pcfgs (F := F)) adm (rdats m) 0 c arr_whole0 (Pipeline.pin (pcfgs (F := F)) adm 0).N s'
  unfold atEnd
  iintro ⟨⟨Ha, -⟩, HSI⟩
  ihave H := h $$ [Ha HSI]
  · isplitl [Ha] <;> iassumption
  icases H with ⟨%hp, -⟩
  ipureintro; exact hp

theorem held_read (c : Dev nD) (s' : Phys nD τ sig (Elt F)) : iprop(atEnd m c ∗ SI s')
    ⊢ (⌜∀ b ∈ S \ Pipeline.arrRefs spec0, s'.mem.mem ((c : Dev nD), b) = W3 m c b⌝ : sProp 𝕄) := by
  have h : iprop(SI s' ∗ StableHlo.held (c : Thread nD τ) (S \ Pipeline.arrRefs spec0) (W3 m c))
      ⊢ (⌜∀ b ∈ S \ Pipeline.arrRefs spec0, s'.mem.mem ((c : Dev nD), b) = W3 m c b⌝ : sProp 𝕄) :=
    SI_pointsTo_bufs_agree (qs := fun _ => fullShare) (S \ Pipeline.arrRefs spec0)
  unfold atEnd
  iintro ⟨⟨-, Hh, -⟩, HSI⟩
  iapply h
  isplitl [HSI] <;> iassumption

theorem end_read (c : Dev nD) (s' : Phys nD τ sig (Elt F)) : iprop(atEnd m c ∗ SI s') ⊢ |={Set.univ}=> iprop(⌜Ends m c s'.mem⌝ ∗ SI s') := by
  refine Laws.pure_elim _ (arrays_read m c s') fun h1 => ?_
  refine Laws.pure_elim _ (held_read m c s') fun h2 => ?_
  have h := Pipeline.unscopedSems0_read (sems_back m c) s'
  unfold atEnd
  iintro ⟨⟨-, -, Hs⟩, HSI⟩
  imod h $$ [Hs HSI] with ⟨%h3, HSI⟩
  · isplitl [Hs] <;> iassumption
  imodintro
  isplitr; · ipureintro; exact ⟨h1, h2, h3⟩
  iexact HSI

theorem whole4 : (cfg0.win 4).WholeAt t0_0 := by decide +kernel

/-- The result's array. -/
theorem result_end (c : Dev nD) (s : MemSt nD τ sig (Elt F)) (h : Ends m c s) :
    Good (dataOf m) c (s.mem ((c : Thread nD τ).loc main_v6)) := by
  obtain ⟨X, ⟨Y, -, hX⟩, hG⟩ := Pipeline.RDat.ArrAt.emb_eq_of_wholeAt (h.1 4) (t₀ := t0_0) whole4
  have hX : Good (dataOf m) c X := hX
  have e : s.mem ((c : Thread nD τ).loc main_v6) = X := funext fun j => hG j
  rw [e]; exact hX

/-- The arguments are as launched. -/
theorem args_end (c : Dev nD) (s : MemSt nD τ sig (Elt F)) (h : Ends m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2) := by
  refine ⟨?_, ?_, ?_⟩
  · exact (h.2.1 (Proc.devRef .tc main_arg0) (by decide +kernel)).trans (W3_args m c main_arg0 (by decide))
  · exact (h.2.1 (Proc.devRef .tc main_arg1) (by decide +kernel)).trans (W3_args m c main_arg1 (by decide))
  · have h3 := h.1 3
    rw [Pipeline.RDat.ArrAt_in (rdats m 0 c) 3 rfl] at h3
    exact h3.trans (W3_args m c main_arg2 (by decide))

set_option backward.isDefEq.respectTransparency.types false in
theorem run_main (hok : (dataOf m).Ok) :
    θ_run (defs (F := F)) (onTc (τ := τ) (main (F := F))) ⟨m, fun _ => 0, ρ⟩ fun r =>
      (∀ c : Dev nD, Good (dataOf m) c (r.2.mem ((c : Thread nD τ).loc main_v6))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0 :=
  Pipeline.RDat.θ_run_regions_kit_sems (pcfgs (F := F)) adm (rdats m) 0 cellOf_inj EP defs₀ 𝒱₀ L lv m ρ main (items m hok)
    (fun c Q => by
      rewrite [main_chain c, Pipeline.RDat.Seg.run_eq_chain,
        show (items m hok).map Pipeline.RDat.Seg.prog = [
          StableHlo.seq hostOps0,
          StableHlo.allToAll aa0 aa0_hw,
          StableHlo.seq hostOps1,
          Prog.lift (.customCall (Pipeline.entry 0) ()) ] from rfl]
      exact .rfl)
    (by simp only [items, Pipeline.RDat.Seg.pipes_host, Pipeline.RDat.Seg.pipes_region, Pipeline.RDat.Seg.pipes_nil]; decide)
    (O₀ := O₀ m) (hL := L_of_ne) (G := parked (dealt m))
    (u₀ := (initOf (Pipeline.cells (Pipeline.pin (pcfgs (F := F)) adm) cellOf_inj) (Pipeline.launchToks (Pipeline.pin (pcfgs (F := F)) adm) cellOf_inj),
      (AllToAll.Once.uC (U := UU) aa0 (W1 m), launchOf barCells chunkCells tokens)))
    (hu₀ := by
      iintro Hu
      ihave H := (ownU_pair _ _) $$ Hu
      icases H with ⟨HP, HX⟩
      ihave H := (own_pair_emb embR _ _) $$ HX
      imodintro
      isplitl [HP]; · iexact HP
      rw [parked_eq]; unfold dealt EC ER
      iexact H)
    (T₀ := fun c => (host0 m).pre c) (Tₙ := atEnd m)
    (hch := ⟨fun c => .rfl, fun c => to_cnt m c, fun c => from_cnt m c, fun c => to_kernel m hok c, fun c => by
      have e : (kernelSeg m hok (after1 m)).post c = kernelPost m (after1 m) c := rfl
      show (kernelSeg m hok (after1 m)).post c ⊢ _
      rw [e]; unfold kernelPost atEnd
      iintro ⟨Ha, Hh, HB, HO, HR⟩
      isplitr [HO]; swap; · iexact HO
      isplitl [Ha]; · iexact Ha
      isplitl [Hh]; · iexact Hh
      isplitl [HB] <;> iassumption⟩)
    (hinit := init m ρ)
    (QY := Ends m)
    (hfin := fun c s' => end_read m c s')
    (hQ := fun s h hs => ⟨fun c => ⟨result_end m c s (h c), args_end m c s (h c)⟩, sem_eq_zero hs fun c => (h c).2.2⟩)

end Cert.CombineIdeal.Exchange
end
-- ==== Proof.Back.Value.lean ====
/-
  The value of the second exchange: with each device holding its block of the reference's arguments, a device's result agrees with its block of
  the reference's result wherever the mask is set (`good_block`). The offsets' bound is the precondition's.
-/
module

public import proofs.«01_k».proof.Defs
public import proofs.«01_k».proof.Proof.Back.Run
public import proofs.«01_k».proof.Proof.Rows
public import proofs.«01_k».proof.Proof.Mask
public import proofs.«01_k».proof.Proof.Places

@[expose] public section

noncomputable section

namespace Cert.CombineIdeal.Exchange

open Cert.CombineIdeal Cert.CombineIdeal.Gen
open Idealize.ShloMosaic Idealize.ShloMosaic.TcCoe Idealize.ShloMosaic.ValueIdx Idealize.SL.Sem

variable {F : FTy → Type} [FloatOps F]

/-- Device `c`'s offsets, counts and rows are blocks `c` of `o`, `n` and `x`. -/
structure Blocks (D : Data F) (o n : IVec ⟨2, ![8, 8]⟩ 32) (x : FVec F ⟨3, ![19456, 8, 128]⟩ .f32) : Prop where
  off : ∀ c d : Fin 8, D.off c d = o (ix2 c d)
  cnt : ∀ c d : Fin 8, D.cnt c d = n (ix2 c d)
  row : ∀ (c : Fin 8) (r : Fin 2432) (a : Fin 8) (b : Fin 128),
    D.x c (ix3 r a b) = x (ix3 ⟨2432 * c.val + r.val, by omega⟩ a b)

/-- A row below a count lies in a run of rows that the count makes live. -/
theorem live_of_below (v : BitVec 32) (r : ℕ) (hr : r < 384) (k : Fin 3) (hk : 128 * k.val ≤ r)
    (h : IntOp.cmpi .slt (BitVec.ofNat 32 r) v = 1#1) : live v k := by
  have hs : (BitVec.ofNat 32 r).slt v = true := by
    by_contra hn
    rw [Bool.not_eq_true] at hn
    have : BitVec.ofBool ((BitVec.ofNat 32 r).slt v) = 1#1 := h
    rw [hn] at this
    exact absurd this (by decide)
  have hlt : (BitVec.ofNat 32 (128 * k.val)).slt v = true := by
    have := k.isLt
    rw [BitVec.slt_eq_decide, decide_eq_true_eq] at hs ⊢
    rw [BitVec.toInt_eq_toNat_of_lt (by rw [BitVec.toNat_ofNat]; omega), BitVec.toNat_ofNat] at hs ⊢
    omega
  show BitVec.ofBool ((BitVec.ofNat 32 (128 * k.val)).slt v) = 1#1
  rw [hlt]
  rfl

/-- A DEVICE'S RESULT AND ITS BLOCK OF THE REFERENCE'S, where the mask is set. -/
theorem good_block (D : Data F) (o n : IVec ⟨2, ![8, 8]⟩ 32) (x : FVec F ⟨3, ![19456, 8, 128]⟩ .f32) (hD : Blocks D o n x)
    (hok : D.Ok) (c : Fin 8) (X : S8x384x8x128.Idx → Elt F .f32) (hX : Good D c X) (i : S8x384x8x128.Idx)
    (hi : Layout.block ⟨4, ![8, 384, 8, 128]⟩ ⟨4, ![64, 384, 8, 128]⟩ 0 8 c (Cert.On_landed.fn (F := F) o n x) (by decide) i = 1#1) :
    X i = Layout.block ⟨4, ![8, 384, 8, 128]⟩ ⟨4, ![64, 384, 8, 128]⟩ 0 8 c (Cert.ReferenceIdeal.Rows.whole o x) (by decide) i := by
  obtain ⟨s, r, a, b, rfl⟩ : ∃ (s : Fin 8) (r : Fin 384) (a : Fin 8) (b : Fin 128), i = ix4 s r a b :=
    ⟨i 0, i 1, i 2, i 3, eq_ix4 i⟩
  have ho : ∀ j, (o j).toNat ≤ 2048 := fun j => by
    have h : (o (ix2 (j 0 : Fin 8) (j 1 : Fin 8))).toNat ≤ 2048 := hD.off (j 0) (j 1) ▸ hok (j 0) (j 1)
    exact (congrArg (fun k => (o k).toNat) (eq_ix2 j)).trans_le h
  rw [Cert.Exchange.block_four] at hi ⊢
  rw [Cert.ReferenceIdeal.Rows.whole_apply o ho]
  have hb := ho (ix2 s c)
  have hg : (s.val = c.val) ∨ gets D c (chunkOf (ix4 s r a b)) := by
    by_cases e : s = c
    · exact Or.inl (congrArg Fin.val e)
    · refine Or.inr ⟨e, ?_⟩
      have h := (Cert.Exchange.landed_apply o n x c s r a b hi).resolve_left e
      rw [← hD.cnt s c] at h
      exact live_of_below _ r.val r.isLt _ (Nat.mul_div_le _ _) h
  rw [hX _ hg]
  show D.x s (ix3 ⟨((D.off s c).toNat + r.val) % 2432, _⟩ a b) = _
  rw [hD.row]
  refine congrArg (fun k => x (ix3 k a b)) (Fin.ext ?_)
  show 2432 * s.val + ((D.off s c).toNat + r.val) % 2432 = 2432 * s.val + ((o (ix2 s c)).toNat + r.val)
  rw [hD.off s c, Nat.mod_eq_of_lt (by omega)]

variable (m : (ℓ : Loc nD τ sig) → Buf (Elt F) ℓ)

/-- The precondition bounds the offsets. -/
theorem ok_of_pre
    (h : ∀ c : Dev nD, Cert.Pre_in_pack_Kernel.fn (F := F) (m ((c.tc : Thread nD τ).loc main_arg0))
      (m ((c.tc : Thread nD τ).loc main_arg1)) (m ((c.tc : Thread nD τ).loc main_arg2)) = fun _ => 1#1) :
    (dataOf m).Ok := fun c d =>
  Cert.Exchange.in_pack_apply _ _ _ (h c) d

end Cert.CombineIdeal.Exchange

end
-- ==== Proof.SameBack.lean ====
/-
  The second exchange and its ideal program are one text: no operation of it was replaced. So a run of one, at any floats, is a run
  of the other.
-/
module

public import proofs.«01_k».proof.Combine
public import proofs.«01_k».proof.CombineIdeal

@[expose] public section

noncomputable section

namespace Cert.Combine.Exchange

open Idealize.ShloMosaic Idealize.ShloMosaic.TcCoe Idealize.SL.Sem

variable {F : FTy → Type} [FloatOps F] [Cert.Combine.Facts] [Cert.CombineIdeal.Facts]

set_option maxHeartbeats 4000000 in
/-- The kernel's function is the same, -/
theorem body_eq : Cert.Combine.cc0_body (F := F) = Cert.CombineIdeal.cc0_body (F := F) := rfl

attribute [local irreducible] Cert.Combine.cc0_body Cert.CombineIdeal.cc0_body in
/-- and the table that calls it at the staging buffers, -/
theorem defs₀_eq : Cert.Combine.defs₀ (F := F) = Cert.CombineIdeal.defs₀ (F := F) := by
  refine congrArg Defs.onTc ?_
  funext l a
  match l with
  | 0 =>
    obtain ⟨t, s⟩ := a
    exact congrFun (congrFun (congrFun (congrFun (congrFun (congrFun (congrFun (congrFun (congrFun (congrFun (congrFun (congrFun
      (body_eq (F := F)) _) _) _) _) _) _) _) _) _) _) _) _

/-- and its pipeline's; -/
theorem defs_eq : Cert.Combine.defs (F := F) = Cert.CombineIdeal.defs (F := F) :=
  congrArg (Pipeline.defs (Cert.Combine.pcfgs (F := F))) (defs₀_eq (F := F))

/-- and so are the operations around the call. -/
theorem main_eq : Cert.Combine.main (F := F) = Cert.CombineIdeal.main (F := F) := rfl

/-- A property of the ideal program's runs is one of the program's runs. -/
theorem θ_run_of (s : MemSt Cert.Combine.nD Cert.Combine.τ Cert.Combine.sig (Elt F))
    (Q : (Unit × MemSt Cert.Combine.nD Cert.Combine.τ Cert.Combine.sig (Elt F)) → Prop)
    (h : θ_run (Cert.CombineIdeal.defs (F := F)) (onTc (τ := Cert.CombineIdeal.τ) (Cert.CombineIdeal.main (F := F))) s Q) :
    θ_run (Cert.Combine.defs (F := F)) (onTc (τ := Cert.Combine.τ) (Cert.Combine.main (F := F))) s Q := by
  rw [defs_eq, main_eq]
  exact h

end Cert.Combine.Exchange
-- ==== Proof.Routes.Cells.lean ====
/-
  The protocol of the exchange of the routes: which semaphore counts what, which device pays it, and what the payment hands over.

  Every device brings the routes of its own two rows of tokens and sends them whole to each of the seven others; it keeps a copy in its own
  block of the result. The transfer to device `d` is counted at its departure by cell `snd d` of the sender and at its arrival by cell
  `rcv c` of device `d`, where `c` is the sender. Before any transfer the devices meet at a barrier: each tells every other one that it
  has entered, and with that hands over the block of its own result that the other one will write.

  Written of abstract contents `Data` (every device's routes), so that nothing here depends on a program's memory.
-/
module

public import proofs.«01_k».proof.Proof.Gen.RoutesIdeal.Skeleton
public import proofs.«01_k».proof.Proof.Gen.RoutesIdeal.Launch
public import proofs.«01_k».proof.Proof.Families
public import Idealize.ShloMosaic.Lib.Pipeline.Kit
public import Idealize.ShloMosaic.Lib.Rounds
public import Idealize.ShloMosaic.Lib.Rounds.Family
public import Idealize.ShloMosaic.Lib.ShareLeaves
public import Idealize.ShloMosaic.Lib.ValueIdxCore
public import Idealize.ShloMosaic.Lib.Tactic
public import Idealize.ShloMosaic.Harness.Basic

@[expose] public section

noncomputable section

namespace Cert.RoutesIdeal.Exchange

export Cert.Exchange (whenP whenP_pos whenP_neg sum_step bigSep_step pair_up pair_off parked parked_eq open_cells set_up_cells)

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra -/

/-- One component for the staging copies and one for the exchange of the routes. -/
abbrev UU : Type := UR sig nD τ × Rounds.URounds (GSem nD τ sig) (Dev nD)

local notation "𝕄" => MT nD τ sig ℕ (Elt F) ℕ UU ℕ

/-- The staging copies' component, -/
abbrev EP : Emb (UR sig nD τ) (MT nD τ sig ℕ (Elt F) ℕ UU ℕ) := embL
/-- and the exchange's. -/
def ER : Emb (Rounds.URounds (GSem nD τ sig) (Dev nD)) (MT nD τ sig ℕ (Elt F) ℕ UU ℕ) := embR

instance ER_landsIn : (ER (F := F)).LandsIn (upEmb : UEmb _ 𝕄) := by unfold ER; infer_instance

/-! ## Transfers and cells -/

/-- The transfers a device takes part in are named by the device at the other end. -/
abbrev Chunk : Type := Dev nD

/-- The transfers in the order in which the kernel handles them. -/
def rank (j : Chunk) : ℕ := j.val

theorem rank_lt (j : Chunk) : rank j < 8 := j.isLt

theorem rank_inj {i j : Chunk} (h : rank i = rank j) : i = j := Fin.ext h

/-- The barrier semaphore of the exchange. -/
abbrev barS : Sem sig := sig.barrier 0 rfl
/-- The semaphore that counts the departure of the transfer to device `j`, -/
def sndS (j : Chunk) : DmaSem sig := ⟨5 + rank j, by have := rank_lt j; show 5 + rank j < 21; omega⟩
/-- and the one that counts the arrival of the one that device `j` sends here. -/
def rcvS (j : Chunk) : DmaSem sig := ⟨13 + rank j, by have := rank_lt j; show 13 + rank j < 21; omega⟩

abbrev barCell (c : Dev nD) : GSem nD τ sig := ((c : Thread nD τ), .reg barS)
abbrev sndCell (c : Dev nD) (j : Chunk) : GSem nD τ sig := ((c : Thread nD τ), .dma (sndS j))
abbrev rcvCell (c : Dev nD) (j : Chunk) : GSem nD τ sig := ((c : Thread nD τ), .dma (rcvS j))

/-- What a semaphore is to the exchange. -/
inductive Kind where
  | bar | snd (j : Chunk) | rcv (j : Chunk) | other

/-- Transfer number `n`. -/
def chunkAt (n : ℕ) : Chunk := ⟨n % 8, Nat.mod_lt _ (by decide)⟩

theorem chunkAt_rank (j : Chunk) : chunkAt (rank j) = j := Fin.ext (Nat.mod_eq_of_lt j.isLt)

def kindOf : SemLoc sig → Kind
  | .reg s => if s = barS then .bar else .other
  | .dma s => if s.val < 5 then .other else if s.val < 13 then .snd (chunkAt (s.val - 5)) else .rcv (chunkAt (s.val - 13))

theorem kindOf_bar : kindOf (.reg barS) = .bar := by
  show (if barS = barS then Kind.bar else Kind.other) = Kind.bar
  exact if_pos rfl
theorem kindOf_snd (j : Chunk) : kindOf (.dma (sndS j)) = .snd j := by
  have h := rank_lt j
  have e : (sndS j).val = 5 + rank j := rfl
  unfold kindOf
  dsimp only
  rw [e, if_neg (by omega), if_pos (by omega), Nat.add_sub_cancel_left, chunkAt_rank]
theorem kindOf_rcv (j : Chunk) : kindOf (.dma (rcvS j)) = .rcv j := by
  have h := rank_lt j
  have e : (rcvS j).val = 13 + rank j := rfl
  unfold kindOf
  dsimp only
  rw [e, if_neg (by omega), if_neg (by omega), Nat.add_sub_cancel_left, chunkAt_rank]

/-! ## The devices' contents -/

/-- What every device brings to the exchange: the routes of its rows. -/
abbrev Data (F : FTy → Type) [FloatOps F] : Type := Dev nD → S2x8x128.Idx → Elt F .i32

variable (D : Data F)

/-- Device `c` sends to device `j`: to every device but itself. -/
def sends (c : Dev nD) (j : Chunk) : Prop := c ≠ j
instance (c : Dev nD) (j : Chunk) : Decidable (sends c j) := by unfold sends; infer_instance
/-- Device `c` receives from device `j`. -/
abbrev gets (c : Dev nD) (j : Chunk) : Prop := sends j c

/-- What every device's result holds at the end: at `(s, r)`, row `r` of device `s`. -/
def result : S8x2x8x128.Idx → Elt F .i32 := fun i => D (i 0) (ix3 (i 1) (i 2) (i 3))

/-- Device `j`'s block of the result. -/
def outSet (j : Chunk) : Finset S8x2x8x128.Idx := Finset.univ.filter fun i => (i 0).val = j.val

/-- The word that tells a transfer's first row: every transfer starts at row zero. -/
def offW : BitVec 32 := 0#32
/-- The word that tells how many rows a transfer has: two. -/
def cntW : BitVec 32 := 2#32

/-! ## The buffers the kernel works on -/

abbrev aOff : Memref sig .tc .smem S8 .i32 := Memref.whole cc0_stg0_0
abbrev aSnt : Memref sig .tc .smem S8 .i32 := Memref.whole cc0_stg1_0
abbrev aGot : Memref sig .tc .smem S8 .i32 := Memref.whole cc0_stg2_0
abbrev aSrc : Memref sig .tc .vmem S2x8x128 .i32 := Memref.whole cc0_stg3_0
abbrev aOut : Memref sig .tc .vmem S8x2x8x128 .i32 := Memref.whole cc0_stg4_0

/-- Device `c`'s result, over the places `I`. -/
abbrev outPts (c : Dev nD) (I : Finset S8x2x8x128.Idx) (f : S8x2x8x128.Idx → Elt F .i32) : sProp 𝕄 :=
  ((c : Thread nD τ).loc cc0_stg4_0) ↦[I]{fullShare} f
/-- Device `c`'s routes at share `q`. -/
abbrev srcPts (c : Dev nD) (q : PosShare TreeShare) (f : S2x8x128.Idx → Elt F .i32) : sProp 𝕄 :=
  ((c : Thread nD τ).loc cc0_stg3_0) ↦{q} f

/-- The shares of the routes: one for each transfer; the share of the device's own number is the one its own copy reads. -/
def leafOf (n : Fin 8) : PosShare TreeShare := ShareLeaves.leaf 3 fullShare n
def chunkLeaf (j : Chunk) : Fin 8 := j

/-- The bytes a transfer counts. -/
def N : ℕ := ((aOut.slice (Rect.unit (s := S8x2x8x128) ![0, 0, 0, 0] S1x2x8x128.size inb_S8x2x8x128_S1x2x8x128_0_0_0_0) (fun _ => rfl)).squeeze
  S2x8x128 squeezes_S1x2x8x128_S2x8x128).view.dmaCredit
theorem N_pos : 0 < N := View.dmaCredit_pos _ (by decide)

/-! ## What a payment hands over -/

/-- With its entry, device `p` hands device `c` the block of its result that `c` will write, and that its arrival cell is new. -/
def barPay (c p : Dev nD) : sProp 𝕄 := whenP (sends c p) iprop((∃ f, outPts p (outSet c) f) ∗ reached ER (rcvCell p c) 0)
/-- A departure hands the sender its share of the rows back. -/
def sndPay (c : Dev nD) (j : Chunk) : sProp 𝕄 := srcPts c (leafOf (chunkLeaf j)) (D c)
/-- An arrival hands the receiver the block, written. -/
def rcvPay (c : Dev nD) (j : Chunk) : sProp 𝕄 := outPts c (outSet j) (result D)

/-- Each cell is used once: the barrier by the seven other devices, a transfer's two cells by the transfer if there is one. -/
def sched : Rounds.Schedule (GSem nD τ sig) (Dev nD) 𝕄 where
  duties g r := if r = 0 then match kindOf g.2 with
    | .bar => Finset.univ.erase g.1.1
    | .snd j => if sends g.1.1 j then {g.1.1} else ∅
    | .rcv j => if gets g.1.1 j then {j} else ∅
    | .other => ∅ else ∅
  unitless _ := False
  amount g _ _ := match kindOf g.2 with | .bar => 1 | _ => N
  payload g _ p := match kindOf g.2 with
    | .bar => barPay g.1.1 p
    | .snd j => sndPay D g.1.1 j
    | .rcv j => rcvPay D g.1.1 j
    | .other => iprop(emp)
  amount_pos g _ _ _ := by
    cases kindOf g.2 <;> first | exact Nat.one_pos | exact N_pos

instance sched_payload_storable (g : GSem nD τ sig) (r : ℕ) (p : Dev nD) :
    BI.Storable (upEmb : UEmb _ 𝕄) ((sched (F := F) D).payload g r p) := by
  show BI.Storable upEmb (match kindOf g.2 with
    | .bar => barPay g.1.1 p
    | .snd j => sndPay D g.1.1 j
    | .rcv j => rcvPay D g.1.1 j
    | .other => iprop(emp))
  unfold barPay sndPay rcvPay
  split <;> infer_instance

section Sched

variable (c : Dev nD) (j : Chunk)

theorem duties_bar : (sched D).duties (barCell c) 0 = Finset.univ.erase c := by dsimp only [sched]; rw [if_pos rfl, kindOf_bar]
theorem duties_snd : (sched D).duties (sndCell c j) 0 = if sends c j then {c} else ∅ := by dsimp only [sched]; rw [if_pos rfl, kindOf_snd]
theorem duties_rcv : (sched D).duties (rcvCell c j) 0 = if gets c j then {j} else ∅ := by dsimp only [sched]; rw [if_pos rfl, kindOf_rcv]
theorem duties_later (g : GSem nD τ sig) (r : ℕ) (h : 1 ≤ r) : (sched D).duties g r = ∅ := by dsimp only [sched]; rw [if_neg (by omega)]

theorem amount_bar (p : Dev nD) : (sched D).amount (barCell c) 0 p = 1 := by dsimp only [sched]; rw [kindOf_bar]
theorem amount_snd (p : Dev nD) : (sched D).amount (sndCell c j) 0 p = N := by dsimp only [sched]; rw [kindOf_snd]
theorem amount_rcv (p : Dev nD) : (sched D).amount (rcvCell c j) 0 p = N := by dsimp only [sched]; rw [kindOf_rcv]

theorem payload_bar (p : Dev nD) : (sched D).payload (barCell c) 0 p = barPay c p := by dsimp only [sched]; rw [kindOf_bar]
theorem payload_snd (p : Dev nD) : (sched D).payload (sndCell c j) 0 p = sndPay D c j := by dsimp only [sched]; rw [kindOf_snd]
theorem payload_rcv (p : Dev nD) : (sched D).payload (rcvCell c j) 0 p = rcvPay D c j := by dsimp only [sched]; rw [kindOf_rcv]

theorem expect_bar : (sched D).expect (barCell c) 0 = 7 := by
  unfold Schedule.expect Schedule.amountOf
  rw [duties_bar, Finset.sum_congr rfl fun p _ => amount_bar D c p, Finset.sum_const, Finset.card_erase_of_mem (Finset.mem_univ c), Finset.card_univ]
  rfl
theorem expect_snd (h : sends c j) : (sched D).expect (sndCell c j) 0 = N := by
  unfold Schedule.expect Schedule.amountOf; rw [duties_snd, if_pos h, Finset.sum_singleton, amount_snd]
theorem expect_rcv (h : gets c j) : (sched D).expect (rcvCell c j) 0 = N := by
  unfold Schedule.expect Schedule.amountOf; rw [duties_rcv, if_pos h, Finset.sum_singleton, amount_rcv]

end Sched

/-! ## Indices and levels: a cell's level is the index it is waited for at -/

/-- The index at which the barrier is waited for, -/
abbrev ιB : ℕ := 1
/-- and the one at which a transfer is. -/
abbrev ιC : ℕ := 2

def L (g : GSem nD τ sig) : Finset ℕ := if g.1.2 = .tc then Finset.range 3 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 3 := if_pos rfl

/-- What device `c` still owes the barriers once it has told the devices before the `n`-th. -/
def barDue (c : Dev nD) (n : ℕ) : CellTallies nD τ sig ℕ :=
  ∑ p : Dev nD, if p.val < n then 0 else if c ≠ p then tallyAt (barCell p) ιB 1 else 0
/-- What it still owes the arrival cells once the transfers before the `n`-th are on their way. -/
def rowDue (c : Dev nD) (n : ℕ) : CellTallies nD τ sig ℕ :=
  ∑ j : Chunk, if rank j < n then 0 else if sends c j then tallyAt (rcvCell j c) ιC N else 0

/-- What the devices owe each other when they enter the exchange. -/
def due (c : Dev nD) : CellTallies nD τ sig ℕ := barDue c 0 + rowDue c 0

theorem barDue_step (c p : Dev nD) : barDue c p.val = barDue c (p.val + 1) + if c ≠ p then tallyAt (barCell p) ιB 1 else 0 :=
  sum_step (fun p : Dev nD => p.val) (fun _ _ h => Fin.ext h) (fun p => if c ≠ p then tallyAt (barCell p) ιB 1 else 0) p p.val rfl
theorem rowDue_step (c : Dev nD) (j : Chunk) :
    rowDue c (rank j) = rowDue c (rank j + 1) + if sends c j then tallyAt (rcvCell j c) ιC N else 0 :=
  sum_step rank (fun _ _ h => rank_inj h) (fun j => if sends c j then tallyAt (rcvCell j c) ιC N else 0) j (rank j) rfl

theorem barDue_done (c : Dev nD) : barDue c 8 = 0 := Finset.sum_eq_zero fun p _ => if_pos p.isLt
theorem rowDue_done (c : Dev nD) : rowDue c 8 = 0 := Finset.sum_eq_zero fun j _ => if_pos (rank_lt j)

end Cert.RoutesIdeal.Exchange
end
-- ==== Proof.Routes.Blocks.lean ====
/-
  The blocks that the kernel's accesses and transfers name: which places they are, and what a block holds once it is written.
-/
module

public import proofs.«01_k».proof.Proof.Routes.Cells
public import proofs.«01_k».proof.Proof.Gen.RoutesIdeal.Skeleton

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-- The routes of a device, -/
abbrev srcAt (o : Fin 3 → ℕ) (hb : ∀ a, o a + S2x8x128.size a ≤ S2x8x128.size a) : Memref sig .tc .vmem S2x8x128 .i32 :=
  aSrc.slice (Rect.unit (s := S2x8x128) o S2x8x128.size hb) (fun _ => rfl)
/-- and the block of a transfer in the result. -/
abbrev outAt (o : Fin 4 → ℕ) (hb : ∀ a, o a + S1x2x8x128.size a ≤ S8x2x8x128.size a) : Memref sig .tc .vmem S2x8x128 .i32 :=
  (aOut.slice (Rect.unit (s := S8x2x8x128) o S1x2x8x128.size hb) (fun _ => rfl)).squeeze S2x8x128 squeezes_S1x2x8x128_S2x8x128

/-! ## The places of a block -/

theorem srcBlk_set (r : ℕ) (hb : ∀ a, (![r, 0, 0] : Fin 3 → ℕ) a + S2x8x128.size a ≤ S2x8x128.size a) :
    (srcAt ![r, 0, 0] hb).view.set = Finset.univ := by
  show ((View.whole cc0_stg3_0).slice (Rect.unit (s := S2x8x128) ![r, 0, 0] S2x8x128.size hb)).set = Finset.univ
  rw [View.set_slice_whole]
  ext i
  rw [Rect.mem_set_unit]
  have h0 : r + 2 ≤ 2 := hb 0
  have h1 : (i 1).val < 8 := (i 1).isLt
  have h2 : (i 2).val < 128 := (i 2).isLt
  have h3 : (i 0).val < 2 := (i 0).isLt
  refine ⟨fun _ => Finset.mem_univ _, fun _ a => ?_⟩
  match a with
  | 0 => exact ⟨by show r ≤ (i 0).val; omega, by show (i 0).val < r + 2; omega⟩
  | 1 => exact ⟨Nat.zero_le _, by show (i 1).val < 0 + 8; omega⟩
  | 2 => exact ⟨Nat.zero_le _, by show (i 2).val < 0 + 128; omega⟩

/-- A block of the result that starts at device `d`'s. -/
theorem mem_block (d : ℕ) (hb : ∀ a, (![d, 0, 0, 0] : Fin 4 → ℕ) a + S1x2x8x128.size a ≤ S8x2x8x128.size a) (p : Dev nD) (hd : d = p.val)
    (i : S8x2x8x128.Idx) : i ∈ (Rect.unit (s := S8x2x8x128) ![d, 0, 0, 0] S1x2x8x128.size hb).set ↔ i ∈ outSet p := by
  rw [Rect.mem_set_unit, outSet, Finset.mem_filter]
  have h1 : (i 1).val < 2 := (i 1).isLt
  have h2 : (i 2).val < 8 := (i 2).isLt
  have h3 : (i 3).val < 128 := (i 3).isLt
  constructor
  · intro h
    have h0 : d ≤ (i 0).val ∧ (i 0).val < d + 1 := h 0
    exact ⟨Finset.mem_univ _, by omega⟩
  · rintro ⟨-, h0⟩ a
    match a with
    | 0 => show d ≤ (i 0).val ∧ (i 0).val < d + 1; omega
    | 1 => exact ⟨Nat.zero_le _, by show (i 1).val < 0 + 2; omega⟩
    | 2 => exact ⟨Nat.zero_le _, by show (i 2).val < 0 + 8; omega⟩
    | 3 => exact ⟨Nat.zero_le _, by show (i 3).val < 0 + 128; omega⟩

theorem outBlk_set (d : ℕ) (hb : ∀ a, (![d, 0, 0, 0] : Fin 4 → ℕ) a + S1x2x8x128.size a ≤ S8x2x8x128.size a) (j : Chunk) (hd : d = j.val) :
    (outAt ![d, 0, 0, 0] hb).view.set = outSet j := by
  show (((View.whole cc0_stg4_0).slice (Rect.unit (s := S8x2x8x128) ![d, 0, 0, 0] S1x2x8x128.size hb)).reshape S2x8x128 squeezes_S1x2x8x128_S2x8x128.numel_eq).set = (outSet j : Finset S8x2x8x128.Idx)
  rw [View.set_reshape, View.set_slice_whole]
  exact Finset.ext (mem_block d hb j hd)

theorem ownBlk_set (d : ℕ) (hb : ∀ a, (![d, 0, 0, 0] : Fin 4 → ℕ) a + S1x2x8x128.size a ≤ S8x2x8x128.size a) (p : Dev nD) (hd : d = p.val) :
    (aOut.access (Rect.unit (s := S8x2x8x128) ![d, 0, 0, 0] S1x2x8x128.size hb)).set = outSet p := by
  show ((View.whole cc0_stg4_0).slice (Rect.unit (s := S8x2x8x128) ![d, 0, 0, 0] S1x2x8x128.size hb)).set = outSet p
  rw [View.set_slice_whole]
  exact Finset.ext (mem_block d hb p hd)

/-! ## What a block holds -/

/-- Row `x` of the block that starts at `d` in the result, read off the routes of the device `c` with that number. -/
theorem result_at (D : Data F) (c : Dev nD) (r : ℕ) (hb' : ∀ a, (![r, 0, 0] : Fin 3 → ℕ) a + S2x8x128.size a ≤ S2x8x128.size a)
    (y : S8x2x8x128.Idx) (x : S2x8x128.Idx) (h0 : y 0 = c) (h1 : y 1 = x 0) (h2 : y 2 = x 1) (h3 : y 3 = x 2) :
    D c ((Rect.unit (s := S2x8x128) ![r, 0, 0] S2x8x128.size hb').emb x) = result D y := by
  have hr : r + 2 ≤ 2 := hb' 0
  unfold result
  rw [h0, h1, h2, h3]
  refine congrArg (D c) (funext fun a => ?_)
  match a with
  | 0 => exact Fin.ext (by show r + 1 * (x 0).val = (x 0).val; omega)
  | 1 => exact Fin.ext (by show 0 + 1 * (x 1).val = (x 1).val; omega)
  | 2 => exact Fin.ext (by show 0 + 1 * (x 2).val = (x 2).val; omega)

/-- A transfer that has landed: the receiver's block for the sender holds the sender's routes. -/
theorem chunk_landed (D : Data F) (c : Dev nD) (d r : ℕ) (hd : d = c.val)
    (hb : ∀ a, (![d, 0, 0, 0] : Fin 4 → ℕ) a + S1x2x8x128.size a ≤ S8x2x8x128.size a)
    (hb' : ∀ a, (![r, 0, 0] : Fin 3 → ℕ) a + S2x8x128.size a ≤ S2x8x128.size a) (fd : S8x2x8x128.Idx → Elt F .i32) (i : S8x2x8x128.Idx)
    (hi : i ∈ outSet c) :
    (outAt ![d, 0, 0, 0] hb).view.write (Elt F) fd
      ((srcAt ![r, 0, 0] hb').view.read (Elt F) (D c)) Finset.univ i = result D i := by
  rw [← outBlk_set d hb c hd] at hi
  obtain ⟨x, -, rfl⟩ := Finset.mem_map.mp hi
  rw [View.write_emb_of_mem _ _ (Finset.mem_univ x)]
  have hx : ((outAt ![d, 0, 0, 0] hb).view.emb x : S8x2x8x128.Idx)
      = (Rect.unit (s := S8x2x8x128) ![d, 0, 0, 0] S1x2x8x128.size hb).emb (Fin.cons ⟨0, Nat.one_pos⟩ x) :=
    congrArg (Rect.unit (s := S8x2x8x128) ![d, 0, 0, 0] S1x2x8x128.size hb).emb (Shape.reshapeEquiv_cons_one squeezes_S1x2x8x128_S2x8x128.numel_eq x)
  refine result_at D c r hb' _ x ?_ ?_ ?_ ?_
  · rw [hx]; exact Fin.ext (by show d + 1 * 0 = c.val; omega)
  · rw [hx]; exact Fin.ext (by show 0 + 1 * (x 0).val = (x 0).val; omega)
  · rw [hx]; exact Fin.ext (by show 0 + 1 * (x 1).val = (x 1).val; omega)
  · rw [hx]; exact Fin.ext (by show 0 + 1 * (x 2).val = (x 2).val; omega)

theorem pay_apply (v : S2x8x128.Idx → Elt F .i32) (x : S1x2x8x128.Idx) : k0_pay1 (F := F) v x = v (fun a => x a.succ) := by
  have hx0 : (x 0).val < 1 := (x 0).isLt
  have key : ∀ y : S2x8x128.Idx, (y = fun a : Fin 3 => x a.succ) → Shape.reshapeEquiv shapeCasts_S2x8x128_S1x2x8x128 x = y := by
    intro y hy
    have hx : Shape.reshapeEquiv shapeCasts_S2x8x128_S1x2x8x128.symm y = x := by
      refine (Shape.reshapeEquiv_cons_one (n := 3) (d := S2x8x128.size) shapeCasts_S2x8x128_S1x2x8x128.symm y).trans (funext fun a => ?_)
      match a with
      | 0 => exact Fin.ext (by show 0 = (x 0).val; omega)
      | 1 => exact congrFun hy 0
      | 2 => exact congrFun hy 1
      | 3 => exact congrFun hy 2
    rw [← hx, Shape.reshapeEquiv_reshapeEquiv, Shape.reshapeEquiv_self]
  unfold k0_pay1
  dsimp only [shapeCast]
  rw [Shape.reshapeEquiv_self, key _ rfl]

/-- The own block, copied. -/
theorem own_copied (D : Data F) (c : Dev nD) (d r : ℕ) (hd : d = c.val)
    (hb : ∀ a, (![d, 0, 0, 0] : Fin 4 → ℕ) a + S1x2x8x128.size a ≤ S8x2x8x128.size a)
    (hb' : ∀ a, (![r, 0, 0] : Fin 3 → ℕ) a + S2x8x128.size a ≤ S2x8x128.size a) (fd : S8x2x8x128.Idx → Elt F .i32) (i : S8x2x8x128.Idx)
    (hi : i ∈ outSet c) :
    (aOut.access (Rect.unit (s := S8x2x8x128) ![d, 0, 0, 0] S1x2x8x128.size hb)).write (Elt F) fd
      (k0_pay1 ((aSrc.access (Rect.unit (s := S2x8x128) ![r, 0, 0] S2x8x128.size hb')).read (Elt F) (D c))) Finset.univ i = result D i := by
  rw [← ownBlk_set d hb c hd] at hi
  obtain ⟨x, -, rfl⟩ := Finset.mem_map.mp hi
  rw [View.write_emb_of_mem _ _ (Finset.mem_univ x), pay_apply]
  have hx0 : (x 0).val < 1 := (x 0).isLt
  refine result_at D c r hb' _ (fun a : Fin 3 => x a.succ) ?_ ?_ ?_ ?_
  · exact Fin.ext (by show d + 1 * (x 0).val = c.val; omega)
  · exact Fin.ext (by show 0 + 1 * (x 1).val = (x 1).val; omega)
  · exact Fin.ext (by show 0 + 1 * (x 2).val = (x 2).val; omega)
  · exact Fin.ext (by show 0 + 1 * (x 3).val = (x 3).val; omega)

end Cert.RoutesIdeal.Exchange
end
-- ==== Proof.Routes.Steps.lean ====
/-
  One rule for each kind of statement of the exchange's kernel: from a state of the protocol to the next.

  A state names how many of the kernel's steps of a kind are done; a rule turns a proof about the state after a statement into one about
  the state before it. The kernel tests, for every device, whether it has anything to do with it; the rules cover both outcomes, so that
  the kernel's text is walked through once.
-/
module

public import proofs.«01_k».proof.Proof.Routes.Blocks

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

abbrev 𝒱₀ : Variants := Variants.none

/-- That device `c` runs `p` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (D : Data F) (κ : GSem nD τ sig → ℕ)

/-! ## What every step may use -/

/-- The levels, and every cell's invariant, at the names `κ`; that every barrier cell is new. -/
def ctx : sProp 𝕄 :=
  iprop(levAts L lv
    ∗ (bigSep Finset.univ fun p : Dev nD => iprop(cellInv ER (sched D) (κ (barCell p)) (barCell p) ∗ reached ER (barCell p) 0))
    ∗ (bigSep Finset.univ fun x : Dev nD × Chunk => cellInv ER (sched D) (κ (sndCell x.1 x.2)) (sndCell x.1 x.2))
    ∗ (bigSep Finset.univ fun x : Dev nD × Chunk => cellInv ER (sched D) (κ (rcvCell x.1 x.2)) (rcvCell x.1 x.2)))

instance ctx_persistent : BI.Persistent (ctx D κ) := by unfold ctx; infer_instance

theorem ctx_lev : ctx D κ ⊢ levAts L lv := by unfold ctx; iintro ⟨H, -⟩; iexact H
theorem ctx_bar (p : Dev nD) : ctx D κ ⊢ iprop(cellInv ER (sched D) (κ (barCell p)) (barCell p) ∗ reached ER (barCell p) 0) := by
  have h : (bigSep Finset.univ fun p : Dev nD => iprop(cellInv ER (sched D) (κ (barCell p)) (barCell p) ∗ reached ER (barCell p) 0))
      ⊢ iprop(cellInv ER (sched D) (κ (barCell p)) (barCell p) ∗ reached ER (barCell p) 0) := bigSep_elim (Finset.mem_univ p)
  unfold ctx; iintro ⟨-, H, -⟩; iapply h; iexact H
theorem ctx_snd (c : Dev nD) (j : Chunk) : ctx D κ ⊢ cellInv ER (sched D) (κ (sndCell c j)) (sndCell c j) := by
  have h : (bigSep Finset.univ fun x : Dev nD × Chunk => cellInv ER (sched D) (κ (sndCell x.1 x.2)) (sndCell x.1 x.2))
      ⊢ cellInv ER (sched D) (κ (sndCell c j)) (sndCell c j) :=
    bigSep_elim (Φ := fun x : Dev nD × Chunk => cellInv ER (sched D) (κ (sndCell x.1 x.2)) (sndCell x.1 x.2)) (Finset.mem_univ (c, j))
  unfold ctx; iintro ⟨-, -, H, -⟩; iapply h; iexact H
theorem ctx_rcv (c : Dev nD) (j : Chunk) : ctx D κ ⊢ cellInv ER (sched D) (κ (rcvCell c j)) (rcvCell c j) := by
  have h : (bigSep Finset.univ fun x : Dev nD × Chunk => cellInv ER (sched D) (κ (rcvCell x.1 x.2)) (rcvCell x.1 x.2))
      ⊢ cellInv ER (sched D) (κ (rcvCell c j)) (rcvCell c j) :=
    bigSep_elim (Φ := fun x : Dev nD × Chunk => cellInv ER (sched D) (κ (rcvCell x.1 x.2)) (rcvCell x.1 x.2)) (Finset.mem_univ (c, j))
  unfold ctx; iintro ⟨-, -, -, H⟩; iapply h; iexact H

/-- The three tables a device reads: where its transfers start, how many rows each has, and how many it gets from each device. -/
def tables (c : Dev nD) : sProp 𝕄 :=
  iprop((((c : Thread nD τ).loc cc0_stg0_0) ↦{fullShare} (fun _ : S8.Idx => offW))
    ∗ (((c : Thread nD τ).loc cc0_stg1_0) ↦{fullShare} (fun _ : S8.Idx => cntW))
    ∗ (((c : Thread nD τ).loc cc0_stg2_0) ↦{fullShare} (fun _ : S8.Idx => cntW)))

/-! ## The states -/

/-- A device that has told the devices before the `n`-th that it has entered. -/
def Enter (c : Dev nD) (n : ℕ) (R : sProp 𝕄) : sProp 𝕄 :=
  iprop(tables c ∗ ctx D κ ∗ (∃ W, owes (c : Thread nD τ) (barDue c n + rowDue c 0) W)
    ∗ (bigSep Finset.univ fun p : Dev nD => if p.val < n then iprop(emp) else whenP (c ≠ p) iprop(dutyTok ER (barCell p) 0 c ∗ barPay p c)) ∗ R)

/-- What the transfer to device `j` needs, but for its place there. -/
def ready (c : Dev nD) (j : Chunk) : sProp 𝕄 :=
  iprop(atPos ER (sndCell c j) 0 ∅ 0 ∗ whenP (sends c j) iprop(dutyTok ER (sndCell c j) 0 c ∗ dutyTok ER (rcvCell j c) 0 c
    ∗ reached ER (sndCell c j) 0 ∗ srcPts c (leafOf (chunkLeaf j)) (D c)))
/-- A transfer to be made, -/
def todo (c : Dev nD) (j : Chunk) : sProp 𝕄 :=
  iprop(ready D c j ∗ whenP (sends c j) iprop((∃ f, outPts j (outSet c) f) ∗ reached ER (rcvCell j c) 0))
/-- on its way, -/
def sent (c : Dev nD) (j : Chunk) : sProp 𝕄 :=
  iprop(atPos ER (sndCell c j) 0 ∅ 0 ∗ whenP (sends c j) (cred (tallyAt (sndCell c j) ιC N)))
/-- and gone. -/
def gone (c : Dev nD) (j : Chunk) : sProp 𝕄 :=
  if sends c j then iprop(atPos ER (sndCell c j) 1 ∅ 0 ∗ sndPay D c j) else atPos ER (sndCell c j) 0 ∅ 0

/-- A transfer to come, -/
def coming (c : Dev nD) (j : Chunk) : sProp 𝕄 :=
  iprop(atPos ER (rcvCell c j) 0 ∅ 0 ∗ whenP (gets c j) (cred (tallyAt (rcvCell c j) ιC N)))
/-- and come. -/
def come (c : Dev nD) (j : Chunk) : sProp 𝕄 :=
  if gets c j then iprop(atPos ER (rcvCell c j) 1 ∅ 0 ∗ rcvPay D c j) else atPos ER (rcvCell c j) 0 ∅ 0

/-- A device's own block, once the devices before the `n`-th are dealt with. -/
def ownBlk (c : Dev nD) (n : ℕ) : sProp 𝕄 :=
  iprop(srcPts c (leafOf (chunkLeaf c)) (D c) ∗ if c.val < n then outPts c (outSet c) (result D) else iprop(∃ f, outPts c (outSet c) f))

/-- A device that has dealt with its own block among the first `n`, and put the first `m` transfers on their way. -/
def Send (c : Dev nD) (n m : ℕ) (R : sProp 𝕄) : sProp 𝕄 :=
  iprop(tables c ∗ ctx D κ ∗ ownBlk D c n ∗ (∃ W, owes (c : Thread nD τ) (rowDue c m) W)
    ∗ (bigSep Finset.univ fun j : Chunk => if rank j < m then sent c j else todo D c j) ∗ R)

/-- A device that has received what comes of the first `n` transfers. -/
def Recv (c : Dev nD) (n : ℕ) (R : sProp 𝕄) : sProp 𝕄 :=
  iprop(tables c ∗ ctx D κ ∗ (∃ W, owes (c : Thread nD τ) (0 : CellTallies nD τ sig ℕ) W)
    ∗ (bigSep Finset.univ fun j : Chunk => if rank j < n then come D c j else coming c j) ∗ R)

/-- A device that has seen off what it sends of the first `n` transfers. -/
def Leave (c : Dev nD) (n : ℕ) (R : sProp 𝕄) : sProp 𝕄 :=
  iprop(tables c ∗ ctx D κ ∗ (∃ W, owes (c : Thread nD τ) (0 : CellTallies nD τ sig ℕ) W)
    ∗ (bigSep Finset.univ fun j : Chunk => if rank j < n then gone D c j else sent c j) ∗ R)

/-! ## Statements that touch no protocol -/

section Plain

variable {c : Dev nD} {α β : Type}

theorem pure_step {X : sProp 𝕄} {a : α} {Q : α → sProp 𝕄} (h : X ⊢ Q a) : X ⊢ run c (pure a) Q := by
  unfold run; rw [wp_pure]; exact h.trans (BI.fupd_intro (PROP := sProp 𝕄))

theorem bind_step {X : sProp 𝕄} {p : Prog (TpuEff nD τ sig (Elt F) Λ₀ .tc) α} {k : α → Prog (TpuEff nD τ sig (Elt F) Λ₀ .tc) β} {Q : β → sProp 𝕄}
    (h : X ⊢ run c p fun a => run c (k a) Q) : X ⊢ run c (p >>= k) Q := by
  unfold run at h ⊢; rw [wp_bind]; exact h

theorem device_step {X : sProp 𝕄} {K : Dev nD → Prog (TpuEff nD τ sig (Elt F) Λ₀ .tc) β} {Q : β → sProp 𝕄} (h : X ⊢ run c (K c) Q) :
    X ⊢ run c (Prog.lift .deviceId >>= K) Q := by
  show X ⊢ run c (.op .deviceId K) Q
  unfold run; rw [wp_deviceId]; exact h

theorem assume_step {X : sProp 𝕄} {P : Prop} {d : Decidable P} {K : PLift P → Prog (TpuEff nD τ sig (Elt F) Λ₀ .tc) β} {Q : β → sProp 𝕄} (hP : P)
    (h : X ⊢ run c (K ⟨hP⟩) Q) : X ⊢ run c (Prog.lift (.assume P d) >>= K) Q :=
  h.trans (wp_assume 𝒱₀ (c : Thread nD τ) none Set.univ hP)

/-- A word read from a table held whole. -/
theorem word_load {m : Memref sig .tc .smem S8 .i32} {r : Rect S8} {h1 : r.shape.numel = 1} {hp : EltTy.packing .i32 = 1}
    {K : BitVec 32 → Prog (TpuEff nD τ sig (Elt F) Λ₀ .tc) β} {Q : β → sProp 𝕄} {f : Buf (Elt F) (m.view.loc (c : Thread nD τ))} {v : BitVec 32}
    (hv : (m.access r).read (Elt F) f (Shape.Idx.first (h1.symm ▸ Nat.one_pos)) = v) :
    (m.view.loc (c : Thread nD τ) ↦{fullShare} f)
      ⊢ iprop(((m.view.loc (c : Thread nD τ) ↦{fullShare} f) -∗ run c (K v) Q) -∗ run c (smemLoad m r h1 hp >>= K) Q) := by
  subst hv
  exact wp_smemLoadElt 𝒱₀ (c : Thread nD τ) none Set.univ (m := m) (r := r) (hw := View.loads_smem_one hp h1) (Finset.subset_univ _)

/-- A word read from the table of first rows, -/
theorem word_off {P X : sProp 𝕄} {d : ℕ} {hb : ∀ a, (![d] : Fin 1 → ℕ) a + S1.size a ≤ S8.size a} {h1 : (Rect.unit (s := S8) ![d] S1.size hb).shape.numel = 1}
    {hp : EltTy.packing .i32 = 1} {K : BitVec 32 → Prog (TpuEff nD τ sig (Elt F) Λ₀ .tc) β} {Q : β → sProp 𝕄} (hP : P = iprop(tables c ∗ X))
    (h : P ⊢ run c (K offW) Q) : P ⊢ run c (smemLoad aOff (Rect.unit (s := S8) ![d] S1.size hb) h1 hp >>= K) Q := by
  subst hP
  have hw : (((c : Thread nD τ).loc cc0_stg0_0) ↦{fullShare} (fun _ : S8.Idx => offW))
      ⊢ iprop(((((c : Thread nD τ).loc cc0_stg0_0) ↦{fullShare} (fun _ : S8.Idx => offW)) -∗ run c (K offW) Q)
        -∗ run c (smemLoad aOff (Rect.unit (s := S8) ![d] S1.size hb) h1 hp >>= K) Q) :=
    word_load (m := aOff) (r := Rect.unit (s := S8) ![d] S1.size hb) (f := (fun _ : S8.Idx => offW)) rfl
  unfold tables
  iintro ⟨⟨H0, H1, H2⟩, HX⟩
  iapply hw $$ H0
  iintro H0
  iapply h
  unfold tables
  isplitl [H0 H1 H2]
  · isplitl [H0]; · iexact H0
    isplitl [H1] <;> iassumption
  iexact HX

/-- from the table of counts, -/
theorem word_cnt {P X : sProp 𝕄} {d : ℕ} {hb : ∀ a, (![d] : Fin 1 → ℕ) a + S1.size a ≤ S8.size a} {h1 : (Rect.unit (s := S8) ![d] S1.size hb).shape.numel = 1}
    {hp : EltTy.packing .i32 = 1} {K : BitVec 32 → Prog (TpuEff nD τ sig (Elt F) Λ₀ .tc) β} {Q : β → sProp 𝕄} (hP : P = iprop(tables c ∗ X))
    (h : P ⊢ run c (K cntW) Q) : P ⊢ run c (smemLoad aSnt (Rect.unit (s := S8) ![d] S1.size hb) h1 hp >>= K) Q := by
  subst hP
  have hw : (((c : Thread nD τ).loc cc0_stg1_0) ↦{fullShare} (fun _ : S8.Idx => cntW))
      ⊢ iprop(((((c : Thread nD τ).loc cc0_stg1_0) ↦{fullShare} (fun _ : S8.Idx => cntW)) -∗ run c (K cntW) Q)
        -∗ run c (smemLoad aSnt (Rect.unit (s := S8) ![d] S1.size hb) h1 hp >>= K) Q) :=
    word_load (m := aSnt) (r := Rect.unit (s := S8) ![d] S1.size hb) (f := (fun _ : S8.Idx => cntW)) rfl
  unfold tables
  iintro ⟨⟨H0, H1, H2⟩, HX⟩
  iapply hw $$ H1
  iintro H1
  iapply h
  unfold tables
  isplitl [H0 H1 H2]
  · isplitl [H0]; · iexact H0
    isplitl [H1] <;> iassumption
  iexact HX

/-- and from the table of the counts that the others have for this device. -/
theorem word_got {P X : sProp 𝕄} {d : ℕ} {hb : ∀ a, (![d] : Fin 1 → ℕ) a + S1.size a ≤ S8.size a} {h1 : (Rect.unit (s := S8) ![d] S1.size hb).shape.numel = 1}
    {hp : EltTy.packing .i32 = 1} {K : BitVec 32 → Prog (TpuEff nD τ sig (Elt F) Λ₀ .tc) β} {Q : β → sProp 𝕄} (hP : P = iprop(tables c ∗ X))
    (h : P ⊢ run c (K cntW) Q) : P ⊢ run c (smemLoad aGot (Rect.unit (s := S8) ![d] S1.size hb) h1 hp >>= K) Q := by
  subst hP
  have hw : (((c : Thread nD τ).loc cc0_stg2_0) ↦{fullShare} (fun _ : S8.Idx => cntW))
      ⊢ iprop(((((c : Thread nD τ).loc cc0_stg2_0) ↦{fullShare} (fun _ : S8.Idx => cntW)) -∗ run c (K cntW) Q)
        -∗ run c (smemLoad aGot (Rect.unit (s := S8) ![d] S1.size hb) h1 hp >>= K) Q) :=
    word_load (m := aGot) (r := Rect.unit (s := S8) ![d] S1.size hb) (f := (fun _ : S8.Idx => cntW)) rfl
  unfold tables
  iintro ⟨⟨H0, H1, H2⟩, HX⟩
  iapply hw $$ H2
  iintro H2
  iapply h
  unfold tables
  isplitl [H0 H1 H2]
  · isplitl [H0]; · iexact H0
    isplitl [H1] <;> iassumption
  iexact HX

end Plain

/-! ## The kernel's tests -/

/-- A device's own number, as the kernel computes it. -/
abbrev me (c : Dev nD) : BitVec 32 := Scalar.remsi (Scalar.divsi (Dev.word c) 1#32) 8#32

theorem cond_other : ∀ c p : Dev nD, Scalar.cmpi .ne (Scalar.extui (Scalar.cmpi .ne (me c) (BitVec.ofNat 32 p.val)) : BitVec 32) 0#32 = 1#1 ↔ c ≠ p := by
  decide +kernel
theorem cond_own : ∀ c p : Dev nD, Scalar.cmpi .ne (Scalar.extui (Scalar.cmpi .eq (me c) (BitVec.ofNat 32 p.val)) : BitVec 32) 0#32 = 1#1 ↔ c = p := by
  decide +kernel
theorem cond_ne : ∀ c p : Dev nD, Scalar.cmpi .ne (me c) (BitVec.ofNat 32 p.val) = 1#1 ↔ c ≠ p := by decide +kernel
theorem cond_and : ∀ a b : BitVec 1, Scalar.cmpi .ne (Scalar.extui (Scalar.andi a b) : BitVec 32) 0#32 = 1#1 ↔ a = 1#1 ∧ b = 1#1 := by decide +kernel

theorem cnt_pos : Scalar.cmpi .sgt cntW 0#32 = 1#1 := by decide

/-- A device sends to device `j`, -/
theorem cond_send (c : Dev nD) (j : Chunk) {a b : BitVec 1} (ha : a = Scalar.cmpi .ne (me c) (BitVec.ofNat 32 j.val)) (hb : b = Scalar.cmpi .sgt cntW 0#32) :
    Scalar.cmpi .ne (Scalar.extui (Scalar.andi a b) : BitVec 32) 0#32 = 1#1 ↔ sends c j := by
  subst ha hb
  rw [cond_and, cond_ne]
  exact and_iff_left cnt_pos
/-- or receives from it. -/
theorem cond_recv (c : Dev nD) (j : Chunk) {a b : BitVec 1} (ha : a = Scalar.cmpi .ne (me c) (BitVec.ofNat 32 j.val)) (hb : b = Scalar.cmpi .sgt cntW 0#32) :
    Scalar.cmpi .ne (Scalar.extui (Scalar.andi a b) : BitVec 32) 0#32 = 1#1 ↔ gets c j := by
  subst ha hb
  rw [cond_and, cond_ne]
  exact (and_iff_left cnt_pos).trans ne_comm

/-! ## Entering -/

section Enter

variable {c : Dev nD} {β : Type}

theorem mayWait_bar (O : CellTallies nD τ sig ℕ) (hO : ∀ g i, 0 < O g i → i = ιC ∧ g.1.2 = .tc) :
    (levAts L lv : sProp 𝕄) ⊢ MayWait (c : Thread nD τ) (.reg barS) ιB O :=
  MayOwe.of_cut (L := L) (lev := lv) 1
    (fun p hp => by rw [Finset.mem_singleton.mp hp, L_tc]; decide)
    (fun g i hg => by unfold L; rw [if_pos (hO g i hg).2, (hO g i hg).1]; decide)
    (fun p hp => by rw [Finset.mem_singleton.mp hp]; exact le_rfl)
    (fun g i hg => by rw [(hO g i hg).1]; show 1 < 2; decide)

theorem rowDue_pos (n : ℕ) (g : GSem nD τ sig) (i : ℕ) (h : 0 < rowDue c n g i) : i = ιC ∧ g.1.2 = .tc := by
  by_contra hne
  refine absurd h (Nat.not_lt.mpr (Nat.le_zero.mpr ?_))
  unfold rowDue
  rw [Finset.sum_apply, Finsupp.finset_sum_apply]
  refine Finset.sum_eq_zero fun j _ => ?_
  split
  · rfl
  split
  · rw [tallyAt_apply, if_neg]
    rintro ⟨rfl, rfl⟩
    exact hne ⟨rfl, rfl⟩
  · rfl

/-- Telling device `p`, if it is another one, that this one has entered. -/
theorem signal_step {R : sProp 𝕄} {K : Prog (TpuEff nD τ sig (Elt F) Λ₀ .tc) β} {Q : β → sProp 𝕄} {cond : BitVec 1}
    {dst : cond = 1#1 → Dev nD} {sem : Sem sig} (p : Dev nD) (n m : ℕ) (hn : p.val = n) (hm : m = n + 1) (hc : cond = 1#1 ↔ c ≠ p)
    (hd : ∀ h, dst h = p) (hs : sem = barS) (h : Enter D κ c m R ⊢ run c K Q) :
    Enter D κ c n R ⊢ run c (if h : cond = 1#1 then (semSignalWord (p := .tc) (dst h) sem 1#32 >>= fun _ => K) else K) Q := by
  subst hs hm hn
  have hstep := bigSep_step (fun p : Dev nD => p.val) (fun _ _ h => Fin.ext h) (fun p => whenP (c ≠ p) iprop(dutyTok ER (barCell p) 0 c ∗ barPay (F := F) p c))
    (fun _ => iprop(emp)) p p.val rfl
  have hdue := barDue_step c p
  by_cases hcp : c ≠ p
  · rw [dif_pos (hc.mpr hcp), hd]
    rw [if_pos hcp] at hdue
    rw [whenP_pos hcp] at hstep
    show _ ⊢ run c (.op (.semSignal (p : Thread nD τ) barS 1) fun _ => K) Q
    unfold Enter
    iintro ⟨Ht, #Hc, ⟨%W, HO⟩, Hs, HR⟩
    ihave Hs := hstep $$ Hs
    icases Hs with ⟨⟨Hd, Hp⟩, Hs⟩
    ihave Hb := (ctx_bar D κ p) $$ Hc
    icases Hb with ⟨#HI, #Hr⟩
    iapply (Rounds.wp_signal 𝒱₀ ER (sched D) (c : Thread nD τ) none (dst := (p : Thread nD τ)) (sem := barS) (r := 0) (d := c) (κ := κ (barCell p))
      (by rw [duties_bar]; exact Finset.mem_erase.mpr ⟨hcp, Finset.mem_univ _⟩) (amount_bar D p c) ιB (O₀ := barDue c p.val + rowDue c 0)
      (barDue c (p.val + 1) + rowDue c 0) (by rw [hdue, add_right_comm]) (W := W)) $$ [HO Hd Hp]
    · isplitr; · iexact HI
      isplitl [HO]; · iexact HO
      isplitl [Hd]; · iexact Hd
      isplitl [Hp]; · rw [payload_bar]; iexact Hp
      iexact Hr
    iintro HO
    iapply h
    unfold Enter
    isplitl [Ht]; · iexact Ht
    isplitr; · iexact Hc
    isplitl [HO]; · iexists W; iexact HO
    isplitl [Hs]
    · iapply Hs; iempintro
    iexact HR
  · rw [dif_neg (fun hh => hcp (hc.mp hh))]
    rw [if_neg hcp, add_zero] at hdue
    rw [whenP_neg hcp] at hstep
    refine BIBase.Entails.trans ?_ h
    unfold Enter
    iintro ⟨Ht, #Hc, HO, Hs, HR⟩
    ihave Hs := hstep $$ Hs
    icases Hs with ⟨-, Hs⟩
    isplitl [Ht]; · iexact Ht
    isplitr; · iexact Hc
    isplitl [HO]; · rw [hdue]; iexact HO
    isplitl [Hs]
    · iapply Hs; iempintro
    iexact HR

/-- The places that the others hand over are those that the transfers need. -/
theorem todo_of_ready :
    iprop((bigSep Finset.univ fun j : Chunk => ready D c j) ∗ bigSep (Finset.univ.erase c) fun p : Dev nD => barPay c p)
      ⊢ bigSep Finset.univ fun j : Chunk => if rank j < 0 then sent c j else todo D c j := by
  have e : (bigSep (Finset.univ.erase c) fun p : Dev nD => barPay c p)
      ⊢ bigSep Finset.univ fun j : Chunk => whenP (sends c j) iprop((∃ f, outPts (F := F) j (outSet c) f) ∗ reached ER (rcvCell j c) 0) := by
    rw [bigSep_erase (s := Finset.univ) (Finset.mem_univ c), whenP_neg (fun h : sends c c => h rfl)]
    exact (emp_sep (PROP := sProp 𝕄)).2
  unfold todo
  refine (sep_mono .rfl e).trans ?_
  rw [← bigSep_sep']
  refine bigSep_mono fun j _ => ?_
  rw [if_neg (Nat.not_lt_zero _)]
  exact BI.Entails.refl _

theorem rest_bar : bigSep ((sched D).duties (barCell c) 0 \ ∅) (fun p => (sched D).payload (barCell c) 0 p) = bigSep (Finset.univ.erase c) fun p => barPay c p := by
  rw [Finset.sdiff_empty, duties_bar, bigSep_congr fun p _ => payload_bar D c p]

/-- Waiting for the other seven. -/
theorem barrier_step {R : sProp 𝕄} {K : Prog (TpuEff nD τ sig (Elt F) Λ₀ .tc) β} {Q : β → sProp 𝕄}
    (h : Send D κ c 0 0 iprop(atPos ER (barCell c) 1 ∅ 0 ∗ R) ⊢ run c K Q) :
    Enter D κ c 8 iprop(atPos ER (barCell c) 0 ∅ 0 ∗ cred (tallyAt (barCell c) ιB 7) ∗ (bigSep Finset.univ fun j : Chunk => ready D c j)
        ∗ srcPts c (leafOf (chunkLeaf c)) (D c) ∗ (∃ f, outPts c (outSet c) f) ∗ R)
      ⊢ run c (semWaitWord (p := .tc) (SemArray.scalar barS : Sems sig S_).sem 7#32 >>= fun _ => K) Q := by
  show _ ⊢ run c (.op (.semWait barS 7) fun _ => K) Q
  unfold Enter
  iintro ⟨Ht, #Hc, ⟨%W, HO⟩, -, Hat, Hcr, Hrd, Hsrc, Hown, HR⟩
  ihave Hb := (ctx_bar D κ c) $$ Hc
  icases Hb with ⟨#HI, -⟩
  ihave Hlev := (ctx_lev D κ) $$ Hc
  iapply (Rounds.wp_wait_rest_token 𝒱₀ ER (sched D) (c : Thread nD τ) none (κ := κ (barCell c))
      (wpE_semWait_eq 𝒱₀ (c : Thread nD τ) none Set.univ) (Set.mem_univ _) ιB (O := rowDue c 0) (W := W) (R := 0) (m := 0) (T := ∅)
      ((Nat.zero_add 7).trans (expect_bar D c).symm)) $$ [Hcr HO Hat Hlev]
  · isplitr; · iexact HI
    isplitl [Hcr]; · iexact Hcr
    isplitl [HO]; · rw [barDue_done, zero_add]; iexact HO
    isplitl [Hlev]; · iapply (mayWait_bar (c := c) (rowDue c 0) (rowDue_pos 0)); iexact Hlev
    iexact Hat
  iintro ⟨HO, Hat, -, Hpay⟩
  ihave Hpay := (Entails.of_eq (rest_bar D (c := c))) $$ Hpay
  iapply h
  unfold Send
  isplitl [Ht]; · iexact Ht
  isplitr; · iexact Hc
  isplitl [Hsrc Hown]
  · unfold ownBlk
    isplitl [Hsrc]; · iexact Hsrc
    rw [if_neg (Nat.not_lt_zero _)]; iexact Hown
  isplitl [HO]; · iexists _; iexact HO
  isplitl [Hrd Hpay]
  · iapply (todo_of_ready D (c := c))
    isplitl [Hrd]; · iexact Hrd
    iexact Hpay
  isplitl [Hat]; · iexact Hat
  iexact HR

end Enter

/-! ## Sending -/

section Send

variable {c : Dev nD} {β : Type}

/-- The row a transfer starts at, as the kernel computes it, is the first. -/
theorem row_eq : (Scalar.addi offW 0#32).toNat = 0 := by decide

theorem row_inb : ∀ a, (![0, 0, 0] : Fin 3 → ℕ) a + S2x8x128.size a ≤ S2x8x128.size a := by decide

theorem src_off {o : Fin 3 → ℕ} (ho : o = ![(Scalar.addi offW 0#32).toNat, 0, 0]) : o = ![0, 0, 0] := by rw [ho, row_eq]
theorem src_inb {o : Fin 3 → ℕ} (ho : o = ![(Scalar.addi offW 0#32).toNat, 0, 0]) : ∀ a, o a + S2x8x128.size a ≤ S2x8x128.size a := by
  rw [src_off ho]; exact row_inb
theorem own_off {o : Fin 3 → ℕ} (ho : o = ![offW.toNat, 0, 0]) : o = ![0, 0, 0] := ho
theorem own_inb {o : Fin 3 → ℕ} (ho : o = ![offW.toNat, 0, 0]) : ∀ a, o a + S2x8x128.size a ≤ S2x8x128.size a := by
  rw [own_off ho]; exact row_inb

theorem scratch_inb (j : Chunk) : ∀ a, (![j.val, 0] : Fin 2 → ℕ) a + S1x1.size a ≤ S8x1.size a := by
  intro a
  have h1 : j.val < 8 := j.isLt
  match a with
  | 0 => show j.val + 1 ≤ 8; omega
  | 1 => exact le_rfl

/-- The semaphores as the kernel names them. -/
theorem snd_sem (j : Chunk) {o : Fin 2 → ℕ} (ho : o = ![j.val, 0]) {hb : ∀ a, o a + S1x1.size a ≤ S8x1.size a} :
    ((cc0_scratch0.slice (Rect.unit (s := S8x1) o S1x1.size hb)).squeeze S_ squeezes_S1x1_S_).sem = sndS j := by
  subst ho
  revert j
  have h : ∀ j : Chunk, ((cc0_scratch0.slice (Rect.unit (s := S8x1) ![j.val, 0] S1x1.size (scratch_inb j))).squeeze S_ squeezes_S1x1_S_).sem = sndS j := by
    decide +kernel
  exact fun j _ => h j
theorem rcv_sem (j : Chunk) {o : Fin 2 → ℕ} (ho : o = ![j.val, 0]) {hb : ∀ a, o a + S1x1.size a ≤ S8x1.size a} :
    ((cc0_scratch1.slice (Rect.unit (s := S8x1) o S1x1.size hb)).squeeze S_ squeezes_S1x1_S_).sem = rcvS j := by
  subst ho
  revert j
  have h : ∀ j : Chunk, ((cc0_scratch1.slice (Rect.unit (s := S8x1) ![j.val, 0] S1x1.size (scratch_inb j))).squeeze S_ squeezes_S1x1_S_).sem = rcvS j := by
    decide +kernel
  exact fun j _ => h j

/-- Copying the own block, when device `p` is this one. -/
theorem own_step {R : sProp 𝕄} {K : Prog (TpuEff nD τ sig (Elt F) Λ₀ .tc) β} {Q : β → sProp 𝕄} {cond : BitVec 1}
    (p : Dev nD) (n m q : ℕ) (hn : p.val = n) (hm : m = n + 1) (hc : cond = 1#1 ↔ c = p)
    {o : Fin 3 → ℕ} (ho : o = ![0, 0, 0]) {hb : cond = 1#1 → ∀ a, o a + S2x8x128.size a ≤ S2x8x128.size a}
    {o' : Fin 4 → ℕ} (ho' : o' = ![n, 0, 0, 0]) {hb' : ∀ a, o' a + S1x2x8x128.size a ≤ S8x2x8x128.size a}
    {hl : ∀ h : cond = 1#1, aSrc.view.LoadsAt (Rect.unit (s := S2x8x128) o S2x8x128.size (hb h)).toLoadRect}
    {hl' : aOut.view.LoadsAt (Rect.unit (s := S8x2x8x128) o' S1x2x8x128.size hb').toLoadRect}
    {hs : (aOut.access (Rect.unit (s := S8x2x8x128) o' S1x2x8x128.size hb')).Stores Finset.univ} {hx}
    {pay : Vec F S2x8x128 .i32 → IVec S1x2x8x128 32} (hpay : pay = k0_pay1)
    (h : Send D κ c m q R ⊢ run c K Q) :
    Send D κ c n q R ⊢ run c (if h : cond = 1#1 then
        (Prog.lift (.load aSrc (Rect.unit (s := S2x8x128) o S2x8x128.size (hb h)).toLoadRect (hl h)) >>= fun v : Vec F S2x8x128 .i32 =>
          Prog.lift (.load aOut (Rect.unit (s := S8x2x8x128) o' S1x2x8x128.size hb').toLoadRect hl') >>= fun _ : Vec F S1x2x8x128 .i32 =>
            Prog.lift (.store aOut (Rect.unit (s := S8x2x8x128) o' S1x2x8x128.size hb') (pay v) Finset.univ hs hx) >>= fun _ => K)
      else K) Q := by
  subst ho ho' hpay hm hn
  by_cases hcp : c = p
  · subst hcp
    have hcc := hc.mpr rfl
    rw [dif_pos hcc]
    have hset := ownBlk_set c.val hb' c rfl
    have hw : ∀ f : S8x2x8x128.Idx → Elt F .i32, ∀ w : S2x8x128.Idx → Elt F .i32,
        w = (aSrc.access (Rect.unit (s := S2x8x128) ![0, 0, 0] S2x8x128.size (hb hcc))).read (Elt F) (D c) →
        outPts c (outSet c) ((aOut.access (Rect.unit (s := S8x2x8x128) ![c.val, 0, 0, 0] S1x2x8x128.size hb')).write (Elt F) f (k0_pay1 w) Finset.univ)
          = outPts c (outSet c) (result D) := by
      rintro f w rfl
      exact pointsTo_congr fun i hi => own_copied D c c.val _ rfl hb' (hb hcc) f i hi
    unfold Send ownBlk
    rw [if_neg (lt_irrefl _)]
    iintro ⟨Ht, #Hc, ⟨Hsrc, %f, Hown⟩, HO, Hs, HR⟩
    iapply (wp_load_rect 𝒱₀ (c : Thread nD τ) none Set.univ (m := aSrc) (r := Rect.unit (s := S2x8x128) ![0, 0, 0] S2x8x128.size (hb hcc)) (S := Finset.univ) (f := D c) (Finset.subset_univ _)) $$ [Hsrc]
    · iexact Hsrc
    iintro Hsrc
    iapply (wp_load_rect 𝒱₀ (c : Thread nD τ) none Set.univ (m := aOut) (r := Rect.unit (s := S8x2x8x128) ![c.val, 0, 0, 0] S1x2x8x128.size hb') (S := outSet c) (f := f) (subset_of_eq hset)) $$ [Hown]
    · iexact Hown
    iintro Hown
    iapply (wp_store 𝒱₀ (c : Thread nD τ) none Set.univ (m := aOut) (r := Rect.unit (s := S8x2x8x128) ![c.val, 0, 0, 0] S1x2x8x128.size hb') (S := outSet c) (f := f) (subset_of_eq hset)) $$ [Hown]
    · iexact Hown
    iintro Hown
    ihave Hown := (Entails.of_eq (hw f _ rfl)) $$ Hown
    iapply h
    unfold Send ownBlk
    rw [if_pos (Nat.lt_succ_self _)]
    isplitl [Ht]; · iexact Ht
    isplitr; · iexact Hc
    isplitl [Hsrc Hown]
    · isplitl [Hsrc]; · iexact Hsrc
      iexact Hown
    isplitl [HO]; · iexact HO
    isplitl [Hs]; · iexact Hs
    iexact HR
  · rw [dif_neg (fun hh => hcp (hc.mp hh))]
    have e : ownBlk D c p.val = ownBlk D c (p.val + 1) := by
      have hne : c.val ≠ p.val := fun e => hcp (Fin.ext e)
      unfold ownBlk
      by_cases hl : c.val < p.val
      · rw [if_pos hl, if_pos (by omega)]
      · rw [if_neg hl, if_neg (by omega)]
    refine BIBase.Entails.trans (Entails.of_eq ?_) h
    unfold Send
    rw [e]

theorem todo_pos {j : Chunk} (hs : sends c j) : todo D c j = iprop((atPos ER (sndCell c j) 0 ∅ 0 ∗ dutyTok ER (sndCell c j) 0 c ∗ dutyTok ER (rcvCell j c) 0 c
    ∗ reached ER (sndCell c j) 0 ∗ srcPts c (leafOf (chunkLeaf j)) (D c))
    ∗ (∃ f, outPts j (outSet c) f) ∗ reached ER (rcvCell j c) 0) := by
  unfold todo ready; rw [whenP_pos hs, whenP_pos hs]
theorem todo_neg {j : Chunk} (hs : ¬sends c j) : todo D c j = iprop((atPos ER (sndCell c j) 0 ∅ 0 ∗ emp) ∗ emp) := by
  unfold todo ready; rw [whenP_neg hs, whenP_neg hs]
theorem sent_pos {j : Chunk} (hs : sends c j) : sent (F := F) c j = iprop(atPos ER (sndCell c j) 0 ∅ 0 ∗ cred (tallyAt (sndCell c j) ιC N)) := by
  unfold sent; rw [whenP_pos hs]
theorem sent_neg {j : Chunk} (hs : ¬sends c j) : sent (F := F) c j = iprop(atPos ER (sndCell c j) 0 ∅ 0 ∗ emp) := by
  unfold sent; rw [whenP_neg hs]

/-- Putting the transfer to device `j` on its way, if it is another one. -/
theorem send_step {R : sProp 𝕄} {K : Prog (TpuEff nD τ sig (Elt F) Λ₀ .tc) β} {Q : β → sProp 𝕄} {cond : BitVec 1}
    (j : Chunk) (n m q : ℕ) (hn : rank j = n) (hm : m = n + 1) (hc : cond = 1#1 ↔ sends c j)
    {dst : Dev nD} (hdst : dst = j) {sS sR : DmaSem sig} (hsS : sS = sndS j) (hsR : sR = rcvS c)
    {o3 : Fin 4 → ℕ} (ho3 : o3 = ![c.val, 0, 0, 0]) {hb3 : ∀ a, o3 a + S1x2x8x128.size a ≤ S8x2x8x128.size a}
    {o4 : Fin 3 → ℕ} (ho4 : o4 = ![0, 0, 0]) {hb4 : cond = 1#1 → ∀ a, o4 a + S2x8x128.size a ≤ S2x8x128.size a}
    {hw : ∀ h : cond = 1#1, (srcAt o4 (hb4 h)).view.WordExact}
    {hw' : (outAt o3 hb3).view.WordExact} {hsc : (outAt o3 hb3).view.ref.isScScratch = false}
    {hty : DmaTarget.Typed (nD := nD) (τ := τ) .vmem (.dma sR) (.remote (Dev.tc dst) (outAt o3 hb3) (.dma sS) hsc)}
    (h : Send D κ c q m R ⊢ run c K Q) :
    Send D κ c q n R ⊢ run c (if h : cond = 1#1 then
        (Prog.lift (.enqueueDma (srcAt o4 (hb4 h))
          (.remote (Dev.tc dst) (outAt o3 hb3) (.dma sS) hsc) (.dma sR) (hw h) hw' hty) >>= fun _ => K)
      else K) Q := by
  replace hdst := hdst.symm
  subst ho3 ho4 hdst hsS hsR hm hn
  have hstep := bigSep_step rank (fun _ _ h => rank_inj h) (fun j => todo D c j) (fun j => sent c j) j (rank j) rfl
  have hdue := rowDue_step c j
  by_cases hs : sends c j
  · have hcc := hc.mpr hs
    rw [dif_pos hcc]
    rw [if_pos hs] at hdue
    have e1 := srcBlk_set 0 (hb4 hcc)
    have e2 := outBlk_set c.val hb3 c rfl
    rw [todo_pos D hs, sent_pos hs] at hstep
    have hsrc : ((((c : Thread nD τ).loc cc0_stg3_0) ↦[(srcAt ![0, 0, 0] (hb4 hcc)).view.set]{leafOf (chunkLeaf j)} (D c)) : sProp 𝕄)
        = srcPts c (leafOf (chunkLeaf j)) (D c) := congrArg (fun I => (((c : Thread nD τ).loc cc0_stg3_0) ↦[I]{leafOf (chunkLeaf j)} (D c) : sProp 𝕄)) e1
    have hout : ∀ f, (outPts j (outAt ![c.val, 0, 0, 0] hb3).view.set f : sProp 𝕄) = outPts j (outSet c) f :=
      fun f => congrArg (fun I => outPts j I f) e2
    have hland : ∀ f, (outPts j (outSet c) ((outAt ![c.val, 0, 0, 0] hb3).view.write (Elt F) f
        ((srcAt ![0, 0, 0] (hb4 hcc)).view.read (Elt F) (D c)) Finset.univ) : sProp 𝕄) = outPts j (outSet c) (result D) :=
      fun f => pointsTo_congr fun i hi => chunk_landed D c _ _ rfl hb3 (hb4 hcc) f i hi
    unfold Send
    iintro ⟨Ht, #Hc, Hown, ⟨%W, HO⟩, Hs, HR⟩
    ihave Hs := hstep $$ Hs
    icases Hs with ⟨⟨⟨Hat, Hd, Hd', Hr, Hsrc⟩, ⟨%f, Hout⟩, Hr'⟩, Hs⟩
    ihave HI := (ctx_snd D κ c j) $$ Hc
    ihave HI' := (ctx_rcv D κ j c) $$ Hc
    ihave Hsrc := (Entails.of_eq hsrc.symm) $$ Hsrc
    ihave Hout := (Entails.of_eq (hout f).symm) $$ Hout
    iapply (Rounds.wp_send_pointsTo 𝒱₀ ER (sched D) (c : Thread nD τ) none (c' := (j : Thread nD τ)) (src := srcAt ![0, 0, 0] (hb4 hcc))
      (dst := outAt ![c.val, 0, 0, 0] hb3) (sS := .dma (sndS j)) (sem := .dma (rcvS c)) (q := leafOf (chunkLeaf j)) (fs := D c)
      (κ₁ := κ (sndCell c j)) (κ₂ := κ (rcvCell j c)) (r₁ := 0) (r₂ := 0) (d₁ := c) (d₂ := c) (fd := f)
      (by rw [duties_snd, if_pos hs]; exact Finset.mem_singleton_self _) (by rw [duties_rcv, if_pos hs]; exact Finset.mem_singleton_self _)
      ιC ιC N rfl (amount_snd D c j c) (amount_rcv D j c c) (O₀ := rowDue c (rank j)) (rowDue c (rank j + 1)) hdue (W := W)
      (by rw [payload_snd]; exact Entails.of_eq hsrc)
      (by rw [payload_rcv]; exact Entails.of_eq ((hout _).trans (hland f)))) $$ [HI HI' Hsrc Hout HO Hd Hr Hd' Hr']
    · isplitl [HI]; · iexact HI
      isplitl [HI']; · iexact HI'
      isplitl [Hsrc]; · iexact Hsrc
      isplitl [Hout]; · iexact Hout
      isplitl [HO]; · iexact HO
      isplitl [Hd]; · iexact Hd
      isplitl [Hr]; · iexact Hr
      isplitl [Hd']; · iexact Hd'
      iexact Hr'
    iintro ⟨Hcr, HO⟩
    iapply h
    unfold Send
    isplitl [Ht]; · iexact Ht
    isplitr; · iexact Hc
    isplitl [Hown]; · iexact Hown
    isplitl [HO]; · iexists W; iexact HO
    isplitl [Hs Hat Hcr]
    · iapply Hs; isplitl [Hat]
      · iexact Hat
      iexact Hcr
    iexact HR
  · rw [dif_neg (fun hh => hs (hc.mp hh))]
    rw [if_neg hs, add_zero] at hdue
    refine BIBase.Entails.trans ?_ h
    rw [todo_neg D hs, sent_neg hs] at hstep
    unfold Send
    iintro ⟨Ht, #Hc, Hown, HO, Hs, HR⟩
    ihave Hs := hstep $$ Hs
    icases Hs with ⟨⟨⟨Hat, -⟩, -⟩, Hs⟩
    isplitl [Ht]; · iexact Ht
    isplitr; · iexact Hc
    isplitl [Hown]; · iexact Hown
    isplitl [HO]; · rw [hdue]; iexact HO
    isplitl [Hs Hat]
    · iapply Hs; isplitl [Hat]
      · iexact Hat
      iempintro
    iexact HR

end Send

/-! ## Receiving, and seeing off -/

section Wait

variable {c : Dev nD} {β : Type}

theorem coming_pos {j : Chunk} (hs : gets c j) : coming (F := F) c j = iprop(atPos ER (rcvCell c j) 0 ∅ 0 ∗ cred (tallyAt (rcvCell c j) ιC N)) := by
  unfold coming; rw [whenP_pos hs]
theorem coming_neg {j : Chunk} (hs : ¬gets c j) : coming (F := F) c j = iprop(atPos ER (rcvCell c j) 0 ∅ 0 ∗ emp) := by
  unfold coming; rw [whenP_neg hs]
theorem come_pos {j : Chunk} (hs : gets c j) : come D c j = iprop(atPos ER (rcvCell c j) 1 ∅ 0 ∗ rcvPay D c j) := if_pos hs
theorem come_neg {j : Chunk} (hs : ¬gets c j) : come D c j = atPos ER (rcvCell c j) 0 ∅ 0 := if_neg hs
theorem rest_rcv {j : Chunk} (hs : gets c j) :
    bigSep ((sched D).duties (rcvCell c j) 0 \ ∅) (fun p => (sched D).payload (rcvCell c j) 0 p) = rcvPay D c j := by
  rw [Finset.sdiff_empty, duties_rcv, if_pos hs, bigSep_singleton, payload_rcv]

/-- Waiting for what device `j` sends, if it is another one. -/
theorem recv_step {R : sProp 𝕄} {K : Prog (TpuEff nD τ sig (Elt F) Λ₀ .tc) β} {Q : β → sProp 𝕄} {cond : BitVec 1}
    (j : Chunk) (n m : ℕ) (hn : rank j = n) (hm : m = n + 1) (hc : cond = 1#1 ↔ gets c j) {sem : DmaSem sig} (hsem : sem = rcvS j)
    {src dst : Memref sig .tc .vmem S2x8x128 .i32} {hw : src.view.WordExact} {hw' : dst.view.WordExact} (hN : dst.view.dmaCredit = N)
    (h : Recv D κ c m R ⊢ run c K Q) :
    Recv D κ c n R ⊢ run c (if cond = 1#1 then (Prog.lift (.waitDma2 sem src dst hw hw') >>= fun _ => K) else K) Q := by
  subst hsem hm hn
  have hstep := bigSep_step rank (fun _ _ h => rank_inj h) (fun j => coming c j) (fun j => come D c j) j (rank j) rfl
  by_cases hs : gets c j
  · rw [if_pos (hc.mpr hs)]
    rw [coming_pos hs, come_pos D hs] at hstep
    unfold Recv
    iintro ⟨Ht, #Hc, ⟨%W, HO⟩, Hs, HR⟩
    ihave Hs := hstep $$ Hs
    icases Hs with ⟨⟨Hat, Hcr⟩, Hs⟩
    ihave HI := (ctx_rcv D κ c j) $$ Hc
    iapply (Rounds.wp_wait_rest_token 𝒱₀ ER (sched D) (c : Thread nD τ) none (κ := κ (rcvCell c j))
      (wpE_waitDma2_eq 𝒱₀ (c : Thread nD τ) none Set.univ) (Set.mem_univ _) ιC (O := 0) (W := W) (R := 0) (m := 0) (T := ∅)
      ((Nat.zero_add _).trans (hN.trans (expect_rcv D c j hs).symm))) $$ [HI Hcr HO Hat]
    · isplitl [HI]; · iexact HI
      isplitl [Hcr]; · rw [hN]; iexact Hcr
      isplitl [HO]; · iexact HO
      isplitr; · rw [MayWait_zero]; iempintro
      iexact Hat
    iintro ⟨HO, Hat, -, Hpay⟩
    ihave Hpay := (Entails.of_eq (rest_rcv D hs)) $$ Hpay
    iapply h
    unfold Recv
    isplitl [Ht]; · iexact Ht
    isplitr; · iexact Hc
    isplitl [HO]; · iexists _; iexact HO
    isplitl [Hs Hat Hpay]
    · iapply Hs; isplitl [Hat]
      · iexact Hat
      iexact Hpay
    iexact HR
  · rw [if_neg (fun hh => hs (hc.mp hh))]
    rw [coming_neg hs, come_neg D hs] at hstep
    refine BIBase.Entails.trans ?_ h
    unfold Recv
    iintro ⟨Ht, #Hc, HO, Hs, HR⟩
    ihave Hs := hstep $$ Hs
    icases Hs with ⟨⟨Hat, -⟩, Hs⟩
    isplitl [Ht]; · iexact Ht
    isplitr; · iexact Hc
    isplitl [HO]; · iexact HO
    isplitl [Hs Hat]
    · iapply Hs; iexact Hat
    iexact HR

theorem gone_pos {j : Chunk} (hs : sends c j) : gone D c j = iprop(atPos ER (sndCell c j) 1 ∅ 0 ∗ sndPay D c j) := if_pos hs
theorem gone_neg {j : Chunk} (hs : ¬sends c j) : gone D c j = atPos ER (sndCell c j) 0 ∅ 0 := if_neg hs
theorem rest_snd {j : Chunk} (hs : sends c j) :
    bigSep ((sched D).duties (sndCell c j) 0 \ ∅) (fun p => (sched D).payload (sndCell c j) 0 p) = sndPay D c j := by
  rw [Finset.sdiff_empty, duties_snd, if_pos hs, bigSep_singleton, payload_snd]

/-- Waiting for the departure of the transfer to device `j`, if it is another one. -/
theorem leave_step {R : sProp 𝕄} {K : Prog (TpuEff nD τ sig (Elt F) Λ₀ .tc) β} {Q : β → sProp 𝕄} {cond : BitVec 1}
    (j : Chunk) (n m : ℕ) (hn : rank j = n) (hm : m = n + 1) (hc : cond = 1#1 ↔ sends c j) {sem : DmaSem sig} (hsem : sem = sndS j)
    {src dst : Memref sig .tc .vmem S2x8x128 .i32} {hw : src.view.WordExact} {hw' : dst.view.WordExact} (hN : dst.view.dmaCredit = N)
    (h : Leave D κ c m R ⊢ run c K Q) :
    Leave D κ c n R ⊢ run c (if cond = 1#1 then (Prog.lift (.waitDma2 sem src dst hw hw') >>= fun _ => K) else K) Q := by
  subst hsem hm hn
  have hstep := bigSep_step rank (fun _ _ h => rank_inj h) (fun j => sent c j) (fun j => gone D c j) j (rank j) rfl
  by_cases hs : sends c j
  · rw [if_pos (hc.mpr hs)]
    rw [sent_pos hs, gone_pos D hs] at hstep
    unfold Leave
    iintro ⟨Ht, #Hc, ⟨%W, HO⟩, Hs, HR⟩
    ihave Hs := hstep $$ Hs
    icases Hs with ⟨⟨Hat, Hcr⟩, Hs⟩
    ihave HI := (ctx_snd D κ c j) $$ Hc
    iapply (Rounds.wp_wait_rest_token 𝒱₀ ER (sched D) (c : Thread nD τ) none (κ := κ (sndCell c j))
      (wpE_waitDma2_eq 𝒱₀ (c : Thread nD τ) none Set.univ) (Set.mem_univ _) ιC (O := 0) (W := W) (R := 0) (m := 0) (T := ∅)
      ((Nat.zero_add _).trans (hN.trans (expect_snd D c j hs).symm))) $$ [HI Hcr HO Hat]
    · isplitl [HI]; · iexact HI
      isplitl [Hcr]; · rw [hN]; iexact Hcr
      isplitl [HO]; · iexact HO
      isplitr; · rw [MayWait_zero]; iempintro
      iexact Hat
    iintro ⟨HO, Hat, -, Hpay⟩
    ihave Hpay := (Entails.of_eq (rest_snd D hs)) $$ Hpay
    iapply h
    unfold Leave
    isplitl [Ht]; · iexact Ht
    isplitr; · iexact Hc
    isplitl [HO]; · iexists _; iexact HO
    isplitl [Hs Hat Hpay]
    · iapply Hs; isplitl [Hat]
      · iexact Hat
      iexact Hpay
    iexact HR
  · rw [if_neg (fun hh => hs (hc.mp hh))]
    rw [sent_neg hs, gone_neg D hs] at hstep
    refine BIBase.Entails.trans ?_ h
    unfold Leave
    iintro ⟨Ht, #Hc, HO, Hs, HR⟩
    ihave Hs := hstep $$ Hs
    icases Hs with ⟨⟨Hat, -⟩, Hs⟩
    isplitl [Ht]; · iexact Ht
    isplitr; · iexact Hc
    isplitl [HO]; · iexact HO
    isplitl [Hs Hat]
    · iapply Hs; iexact Hat
    iexact HR

/-- All is sent: what remains is to receive, -/
theorem recv_start {R : sProp 𝕄} :
    Send D κ c 8 8 iprop((bigSep Finset.univ fun j : Chunk => coming c j) ∗ R)
      ⊢ Recv D κ c 0 iprop(ownBlk D c 8 ∗ (bigSep Finset.univ fun j : Chunk => sent c j) ∗ R) := by
  have e : (bigSep Finset.univ fun j : Chunk => if rank j < 8 then sent c j else todo D c j) = bigSep Finset.univ fun j : Chunk => sent c j :=
    bigSep_congr fun j _ => if_pos (rank_lt j)
  have e' : (bigSep Finset.univ fun j : Chunk => if rank j < 0 then come D c j else coming c j) = bigSep Finset.univ fun j : Chunk => coming c j :=
    bigSep_congr fun j _ => if_neg (Nat.not_lt_zero _)
  unfold Send Recv
  rw [e, e', rowDue_done]
  iintro ⟨Ht, #Hc, Hown, HO, Hs, Hcm, HR⟩
  isplitl [Ht]; · iexact Ht
  isplitr; · iexact Hc
  isplitl [HO]; · iexact HO
  isplitl [Hcm]; · iexact Hcm
  isplitl [Hown]; · iexact Hown
  isplitl [Hs]; · iexact Hs
  iexact HR

/-- and then to see off what was sent. -/
theorem leave_start {R : sProp 𝕄} :
    Recv D κ c 8 iprop((bigSep Finset.univ fun j : Chunk => sent c j) ∗ R)
      ⊢ Leave D κ c 0 iprop((bigSep Finset.univ fun j : Chunk => come D c j) ∗ R) := by
  have e : (bigSep Finset.univ fun j : Chunk => if rank j < 8 then come D c j else coming c j) = bigSep Finset.univ fun j : Chunk => come D c j :=
    bigSep_congr fun j _ => if_pos (rank_lt j)
  have e' : (bigSep Finset.univ fun j : Chunk => if rank j < 0 then gone D c j else sent c j) = bigSep Finset.univ fun j : Chunk => sent c j :=
    bigSep_congr fun j _ => if_neg (Nat.not_lt_zero _)
  unfold Recv Leave
  rw [e, e']
  iintro ⟨Ht, #Hc, HO, Hs, Hst, HR⟩
  isplitl [Ht]; · iexact Ht
  isplitr; · iexact Hc
  isplitl [HO]; · iexact HO
  isplitl [Hst]; · iexact Hst
  isplitl [Hs]; · iexact Hs
  iexact HR

end Wait

end Cert.RoutesIdeal.Exchange
end
-- ==== Proof.Routes.Body.lean ====
/-
  The kernel's own text, walked through: one lemma for each of the parts it is cut into, each naming the protocol's state before and
  after, and the words the part hands to the next.
-/
module

public import proofs.«01_k».proof.Proof.Routes.Steps

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 Scalar.cmpi

variable (D : Data F) (κ : GSem nD τ sig → ℕ) {c : Dev nD} {β : Type}

/-- Part 1: the device enters, and waits until the others have. -/
theorem part1_step {R : sProp 𝕄} {Q : β → sProp 𝕄} {K : (Σ' (_ : Dev nD) (_ : BitVec 32), Elt F .i32) → Prog (TpuEff nD τ sig (Elt F) Λ₀ .tc) β}
    (h : Send D κ c 0 0 iprop(atPos ER (barCell c) 1 ∅ 0 ∗ R) ⊢ run c (K ⟨c, me c, offW⟩) Q) (h0 h1 h2 h3 h4) :
    Enter D κ c 0 iprop(atPos ER (barCell c) 0 ∅ 0 ∗ cred (tallyAt (barCell c) ιB 7) ∗ (bigSep Finset.univ fun j : Chunk => ready D c j)
        ∗ srcPts c (leafOf (chunkLeaf c)) (D c) ∗ (∃ f, outPts c (outSet c) f) ∗ R) ⊢ run c (k0_part1 (F := F) aOff h0 aSnt h1 aGot h2 aSrc h3 aOut h4 cc0_scratch0 cc0_scratch1 >>= K) Q := by
  refine bind_step ?_
  rw [k0_part1_eq_skeleton]; unfold k0_part1_skel
  refine device_step ?_
  refine signal_step D κ 0 0 1 rfl rfl (by unfold k0_cond1; exact cond_other c 0) (fun _ => Fin.ext k0_dev1_eq) rfl ?_
  refine signal_step D κ 1 1 2 rfl rfl (by unfold k0_cond2; exact cond_other c 1) (fun _ => Fin.ext k0_dev2_eq) rfl ?_
  refine signal_step D κ 2 2 3 rfl rfl (by unfold k0_cond3; exact cond_other c 2) (fun _ => Fin.ext k0_dev3_eq) rfl ?_
  refine signal_step D κ 3 3 4 rfl rfl (by unfold k0_cond4; exact cond_other c 3) (fun _ => Fin.ext k0_dev4_eq) rfl ?_
  refine signal_step D κ 4 4 5 rfl rfl (by unfold k0_cond5; exact cond_other c 4) (fun _ => Fin.ext k0_dev5_eq) rfl ?_
  refine signal_step D κ 5 5 6 rfl rfl (by unfold k0_cond6; exact cond_other c 5) (fun _ => Fin.ext k0_dev6_eq) rfl ?_
  refine signal_step D κ 6 6 7 rfl rfl (by unfold k0_cond7; exact cond_other c 6) (fun _ => Fin.ext k0_dev7_eq) rfl ?_
  refine signal_step D κ 7 7 8 rfl rfl (by unfold k0_cond8; exact cond_other c 7) (fun _ => Fin.ext k0_dev8_eq) rfl ?_
  refine barrier_step D κ ?_
  refine word_off rfl ?_
  exact pure_step h

/-- Parts 2 to 4: it copies its own block and sends the others theirs, device by device. -/
theorem part2_step {R : sProp 𝕄} {Q : β → sProp 𝕄} {K : (Σ' (v48 : Elt F .i32) (v53 : Elt F .i32), k0_chk6 c v48 v53) → Prog (TpuEff nD τ sig (Elt F) Λ₀ .tc) β}
    (h : ∀ hw, Send D κ c 3 2 R ⊢ run c (K ⟨offW, cntW, hw⟩) Q) (h0 h1 h2 h3 h4) :
    Send D κ c 0 0 R ⊢ run c (k0_part2 (F := F) aOff h0 aSnt h1 aGot h2 aSrc h3 aOut h4 cc0_scratch0 cc0_scratch1 c (me c) offW >>= K) Q := by
  refine bind_step ?_
  rw [k0_part2_eq_skeleton]; unfold k0_part2_skel
  refine assume_step (by intro _; exact own_inb rfl) ?_
  refine own_step D κ 0 0 1 0 rfl rfl (by unfold k0_cond9; exact cond_own c 0) (own_off rfl) rfl rfl ?_
  refine word_cnt rfl ?_
  refine assume_step (by intro _; exact src_inb rfl) ?_
  refine send_step D κ 0 0 1 1 rfl rfl (by unfold k0_cond10; exact cond_send c 0 rfl rfl) (Fin.ext k0_dev9_eq)
    (snd_sem 0 rfl) (rcv_sem c (k0_off2_eq c)) (k0_off3_eq c) (src_off rfl) ?_
  refine word_off rfl ?_
  refine assume_step (by intro _; exact own_inb rfl) ?_
  refine own_step D κ 1 1 2 1 rfl rfl (by unfold k0_cond11; exact cond_own c 1) (own_off rfl) rfl rfl ?_
  refine word_cnt rfl ?_
  refine assume_step (by intro _; exact src_inb rfl) ?_
  refine send_step D κ 1 1 2 2 rfl rfl (by unfold k0_cond12; exact cond_send c 1 rfl rfl) (Fin.ext k0_dev10_eq)
    (snd_sem 1 rfl) (rcv_sem c (k0_off6_eq c)) (k0_off7_eq c) (src_off rfl) ?_
  refine word_off rfl ?_
  refine assume_step (by intro _; exact own_inb rfl) ?_
  refine own_step D κ 2 2 3 2 rfl rfl (by unfold k0_cond13; exact cond_own c 2) (own_off rfl) rfl rfl ?_
  refine word_cnt rfl ?_
  refine assume_step (by intro _; exact src_inb rfl) ?_
  exact pure_step (h _)

theorem part3_step {R : sProp 𝕄} {Q : β → sProp 𝕄}
    {K : (Σ' (v78 : Elt F .i32) (v83 : Elt F .i32) (k0_hw12 : k0_chk12 c v78 v83), BitVec 1) → Prog (TpuEff nD τ sig (Elt F) Λ₀ .tc) β} (hw0 : k0_chk6 c offW cntW)
    (h : ∀ hw, Send D κ c 6 5 R ⊢ run c (K ⟨offW, cntW, hw, Scalar.andi (Scalar.cmpi .ne (me c) 5#32) (Scalar.cmpi .sgt cntW 0#32)⟩) Q) (h0 h1 h2 h3 h4) :
    Send D κ c 3 2 R ⊢ run c (k0_part3 (F := F) aOff h0 aSnt h1 aGot h2 aSrc h3 aOut h4 cc0_scratch0 cc0_scratch1 c (me c) offW cntW hw0 >>= K) Q := by
  refine bind_step ?_
  rw [k0_part3_eq_skeleton]; unfold k0_part3_skel
  refine send_step D κ 2 2 3 3 rfl rfl (by unfold k0_cond14; exact cond_send c 2 rfl rfl) (Fin.ext k0_dev11_eq)
    (snd_sem 2 rfl) (rcv_sem c (k0_off10_eq c)) (k0_off11_eq c) (src_off rfl) ?_
  refine word_off rfl ?_
  refine assume_step (by intro _; exact own_inb rfl) ?_
  refine own_step D κ 3 3 4 3 rfl rfl (by unfold k0_cond15; exact cond_own c 3) (own_off rfl) rfl rfl ?_
  refine word_cnt rfl ?_
  refine assume_step (by intro _; exact src_inb rfl) ?_
  refine send_step D κ 3 3 4 4 rfl rfl (by unfold k0_cond16; exact cond_send c 3 rfl rfl) (Fin.ext k0_dev12_eq)
    (snd_sem 3 rfl) (rcv_sem c (k0_off14_eq c)) (k0_off15_eq c) (src_off rfl) ?_
  refine word_off rfl ?_
  refine assume_step (by intro _; exact own_inb rfl) ?_
  refine own_step D κ 4 4 5 4 rfl rfl (by unfold k0_cond17; exact cond_own c 4) (own_off rfl) rfl rfl ?_
  refine word_cnt rfl ?_
  refine assume_step (by intro _; exact src_inb rfl) ?_
  refine send_step D κ 4 4 5 5 rfl rfl (by unfold k0_cond18; exact cond_send c 4 rfl rfl) (Fin.ext k0_dev13_eq)
    (snd_sem 4 rfl) (rcv_sem c (k0_off18_eq c)) (k0_off19_eq c) (src_off rfl) ?_
  refine word_off rfl ?_
  refine assume_step (by intro _; exact own_inb rfl) ?_
  refine own_step D κ 5 5 6 5 rfl rfl (by unfold k0_cond19; exact cond_own c 5) (own_off rfl) rfl rfl ?_
  refine word_cnt rfl ?_
  refine assume_step (by intro _; exact src_inb rfl) ?_
  exact pure_step (h _)

/-- The end of part 4 begins to wait for what the others send. -/
theorem part4_step {R : sProp 𝕄} {Q : β → sProp 𝕄} {K : BitVec 1 → Prog (TpuEff nD τ sig (Elt F) Λ₀ .tc) β} (hw0 : k0_chk12 c offW cntW)
    (h : Recv D κ c 1 iprop(ownBlk D c 8 ∗ (bigSep Finset.univ fun j : Chunk => sent c j) ∗ R) ⊢ run c (K (Scalar.cmpi .ne (me c) 1#32)) Q) (h0 h1 h2 h3 h4) :
    Send D κ c 6 5 iprop((bigSep Finset.univ fun j : Chunk => coming c j) ∗ R) ⊢ run c (k0_part4 (F := F) aOff h0 aSnt h1 aGot h2 aSrc h3 aOut h4 cc0_scratch0 cc0_scratch1 c (me c) offW cntW hw0
      (Scalar.andi (Scalar.cmpi .ne (me c) 5#32) (Scalar.cmpi .sgt cntW 0#32)) >>= K) Q := by
  refine bind_step ?_
  rw [k0_part4_eq_skeleton]; unfold k0_part4_skel
  refine send_step D κ 5 5 6 6 rfl rfl (by unfold k0_cond20; exact cond_send c 5 rfl rfl) (Fin.ext k0_dev14_eq)
    (snd_sem 5 rfl) (rcv_sem c (k0_off22_eq c)) (k0_off23_eq c) (src_off rfl) ?_
  refine word_off rfl ?_
  refine assume_step (by intro _; exact own_inb rfl) ?_
  refine own_step D κ 6 6 7 6 rfl rfl (by unfold k0_cond21; exact cond_own c 6) (own_off rfl) rfl rfl ?_
  refine word_cnt rfl ?_
  refine assume_step (by intro _; exact src_inb rfl) ?_
  refine send_step D κ 6 6 7 7 rfl rfl (by unfold k0_cond22; exact cond_send c 6 rfl rfl) (Fin.ext k0_dev15_eq)
    (snd_sem 6 rfl) (rcv_sem c (k0_off26_eq c)) (k0_off27_eq c) (src_off rfl) ?_
  refine word_off rfl ?_
  refine assume_step (by intro _; exact own_inb rfl) ?_
  refine own_step D κ 7 7 8 7 rfl rfl (by unfold k0_cond23; exact cond_own c 7) (own_off rfl) rfl rfl ?_
  refine word_cnt rfl ?_
  refine assume_step (by intro _; exact src_inb rfl) ?_
  refine send_step D κ 7 7 8 8 rfl rfl (by unfold k0_cond24; exact cond_send c 7 rfl rfl) (Fin.ext k0_dev16_eq)
    (snd_sem 7 rfl) (rcv_sem c (k0_off30_eq c)) (k0_off31_eq c) (src_off rfl) ?_
  refine (recv_start D κ).trans ?_
  refine word_got rfl ?_
  refine recv_step D κ 0 0 1 rfl rfl (cond_recv c 0 rfl rfl) (rcv_sem 0 rfl) rfl ?_
  exact pure_step h

theorem part5_step {R : sProp 𝕄} {Q : β → sProp 𝕄} {K : BitVec 32 → Prog (TpuEff nD τ sig (Elt F) Λ₀ .tc) β}
    (h : Recv D κ c 6 R ⊢ run c (K (Scalar.extui (Scalar.andi (Scalar.cmpi .ne (me c) 6#32) (Scalar.cmpi .sgt cntW 0#32)))) Q) (h0 h1 h2 h3 h4) :
    Recv D κ c 1 R ⊢ run c (k0_part5 (F := F) aOff h0 aSnt h1 aGot h2 aSrc h3 aOut h4 cc0_scratch0 cc0_scratch1 (me c) (Scalar.cmpi .ne (me c) 1#32) >>= K) Q := by
  refine bind_step ?_
  rw [k0_part5_eq_skeleton]; unfold k0_part5_skel
  refine word_got rfl ?_
  refine recv_step D κ 1 1 2 rfl rfl (cond_recv c 1 rfl rfl) (rcv_sem 1 rfl) rfl ?_
  refine word_got rfl ?_
  refine recv_step D κ 2 2 3 rfl rfl (cond_recv c 2 rfl rfl) (rcv_sem 2 rfl) rfl ?_
  refine word_got rfl ?_
  refine recv_step D κ 3 3 4 rfl rfl (cond_recv c 3 rfl rfl) (rcv_sem 3 rfl) rfl ?_
  refine word_got rfl ?_
  refine recv_step D κ 4 4 5 rfl rfl (cond_recv c 4 rfl rfl) (rcv_sem 4 rfl) rfl ?_
  refine word_got rfl ?_
  refine recv_step D κ 5 5 6 rfl rfl (cond_recv c 5 rfl rfl) (rcv_sem 5 rfl) rfl ?_
  refine word_got rfl ?_
  exact pure_step h

/-- Part 6 begins to see off what the device sends. -/
theorem part6_step {R : sProp 𝕄} {Q : β → sProp 𝕄} {K : BitVec 1 → Prog (TpuEff nD τ sig (Elt F) Λ₀ .tc) β}
    (h : Leave D κ c 4 iprop((bigSep Finset.univ fun j : Chunk => come D c j) ∗ R) ⊢ run c (K (Scalar.cmpi .ne (me c) 4#32)) Q) (h0 h1 h2 h3 h4) :
    Recv D κ c 6 iprop((bigSep Finset.univ fun j : Chunk => sent c j) ∗ R) ⊢ run c (k0_part6 (F := F) aOff h0 aSnt h1 aGot h2 aSrc h3 aOut h4 cc0_scratch0 cc0_scratch1 (me c)
      (Scalar.extui (Scalar.andi (Scalar.cmpi .ne (me c) 6#32) (Scalar.cmpi .sgt cntW 0#32))) >>= K) Q := by
  refine bind_step ?_
  rw [k0_part6_eq_skeleton]; unfold k0_part6_skel
  refine recv_step D κ 6 6 7 rfl rfl (cond_recv c 6 rfl rfl) (rcv_sem 6 rfl) rfl ?_
  refine word_got rfl ?_
  refine recv_step D κ 7 7 8 rfl rfl (cond_recv c 7 rfl rfl) (rcv_sem 7 rfl) rfl ?_
  refine (leave_start D κ).trans ?_
  refine word_cnt rfl ?_
  refine leave_step D κ 0 0 1 rfl rfl (cond_send c 0 rfl rfl) (snd_sem 0 rfl) rfl ?_
  refine word_cnt rfl ?_
  refine leave_step D κ 1 1 2 rfl rfl (cond_send c 1 rfl rfl) (snd_sem 1 rfl) rfl ?_
  refine word_cnt rfl ?_
  refine leave_step D κ 2 2 3 rfl rfl (cond_send c 2 rfl rfl) (snd_sem 2 rfl) rfl ?_
  refine word_cnt rfl ?_
  refine leave_step D κ 3 3 4 rfl rfl (cond_send c 3 rfl rfl) (snd_sem 3 rfl) rfl ?_
  exact pure_step h

theorem send_mono {n q : ℕ} {R R' : sProp 𝕄} (h : R ⊢ R') : Send D κ c n q R ⊢ Send D κ c n q R' := by
  unfold Send
  iintro ⟨H1, H2, H3, H4, H5, HR⟩
  isplitl [H1]; · iexact H1
  isplitl [H2]; · iexact H2
  isplitl [H3]; · iexact H3
  isplitl [H4]; · iexact H4
  isplitl [H5]; · iexact H5
  iapply h; iexact HR

/-- The kernel's body, from a device's entry to its end. -/
theorem body_step {R : sProp 𝕄} {Q : PUnit → sProp 𝕄}
    (h : Leave D κ c 8 iprop((bigSep Finset.univ fun j : Chunk => come D c j) ∗ ownBlk D c 8 ∗ atPos ER (barCell c) 1 ∅ 0 ∗ R)
      ⊢ |={Set.univ}=> Q ⟨⟩)
    (h0 h1 h2 h3 h4) :
    Enter D κ c 0 iprop(atPos ER (barCell c) 0 ∅ 0 ∗ cred (tallyAt (barCell c) ιB 7) ∗ (bigSep Finset.univ fun j : Chunk => ready D c j)
        ∗ srcPts c (leafOf (chunkLeaf c)) (D c) ∗ (∃ f, outPts c (outSet c) f) ∗ (bigSep Finset.univ fun j : Chunk => coming c j) ∗ R)
      ⊢ run c (cc0_body (F := F) aOff h0 aSnt h1 aGot h2 aSrc h3 aOut h4 cc0_scratch0 cc0_scratch1) Q := by
  rw [cc0_body_eq_skeleton]; unfold cc0_body_skel
  refine part1_step D κ ?_ h0 h1 h2 h3 h4
  refine part2_step D κ (fun hw => ?_) h0 h1 h2 h3 h4
  refine part3_step D κ hw (fun hw => ?_) h0 h1 h2 h3 h4
  have hsw : iprop(atPos ER (barCell c) 1 ∅ 0 ∗ (bigSep Finset.univ fun j : Chunk => coming (F := F) c j) ∗ R)
      ⊢ iprop((bigSep Finset.univ fun j : Chunk => coming c j) ∗ atPos ER (barCell c) 1 ∅ 0 ∗ R) := by
    iintro ⟨H1, H2, H3⟩
    isplitl [H2]; · iexact H2
    isplitl [H1]; · iexact H1
    iexact H3
  refine (send_mono D κ hsw).trans ?_
  refine part4_step D κ hw ?_ h0 h1 h2 h3 h4
  refine part5_step D κ ?_ h0 h1 h2 h3 h4
  have hsw : Recv D κ c 6 iprop(ownBlk D c 8 ∗ (bigSep Finset.univ fun j : Chunk => sent c j) ∗ atPos ER (barCell c) 1 ∅ 0 ∗ R)
      ⊢ Recv D κ c 6 iprop((bigSep Finset.univ fun j : Chunk => sent c j) ∗ ownBlk D c 8 ∗ atPos ER (barCell c) 1 ∅ 0 ∗ R) := by
    unfold Recv
    iintro ⟨H1, H2, H3, H4, H5, H6, H7⟩
    isplitl [H1]; · iexact H1
    isplitl [H2]; · iexact H2
    isplitl [H3]; · iexact H3
    isplitl [H4]; · iexact H4
    isplitl [H6]; · iexact H6
    isplitl [H5]; · iexact H5
    iexact H7
  refine hsw.trans ?_
  refine part6_step D κ ?_ h0 h1 h2 h3 h4
  refine word_cnt rfl ?_
  refine leave_step D κ 4 4 5 rfl rfl (cond_send c 4 rfl rfl) (snd_sem 4 rfl) rfl ?_
  refine word_cnt rfl ?_
  refine leave_step D κ 5 5 6 rfl rfl (cond_send c 5 rfl rfl) (snd_sem 5 rfl) rfl ?_
  refine word_cnt rfl ?_
  refine leave_step D κ 6 6 7 rfl rfl (cond_send c 6 rfl rfl) (snd_sem 6 rfl) rfl ?_
  refine word_cnt rfl ?_
  refine leave_step D κ 7 7 8 rfl rfl (cond_send c 7 rfl rfl) (snd_sem 7 rfl) rfl ?_
  unfold run; rw [wp_pure]; exact h

end Cert.RoutesIdeal.Exchange
end
-- ==== Proof.Routes.Pieces.lean ====
/-
  A device's routes and its result, taken apart for the exchange and put together after it.
-/
module

public import proofs.«01_k».proof.Proof.Routes.Body

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (D : Data F) (c : Dev nD)

/-! ## The routes -/

omit [FloatOps F] in
theorem emp_left (P : sProp 𝕄) : BI.sep (iprop(emp) : sProp 𝕄) P = P := equiv_iff.mp emp_sep

/-- A device's routes, held in eight shares: one for each transfer, and one for its own copy. -/
theorem src_apart :
    srcPts c fullShare (D c)
      = iprop(srcPts c (leafOf (chunkLeaf c)) (D c) ∗ bigSep Finset.univ fun j : Chunk => whenP (sends c j) (sndPay D c j)) := by
  have e : srcPts c fullShare (D c) = bigSep Finset.univ fun n : Fin 8 => srcPts c (leafOf n) (D c) :=
    ShareLeaves.pointsTo_leaves (ℓ := (c : Thread nD τ).loc cc0_stg3_0) Finset.univ (D c) 3 fullShare
  have e' : (bigSep (Finset.univ.erase c) fun j : Dev nD => whenP (sends c j) (sndPay D c j))
      = bigSep (Finset.univ.erase c) fun j : Dev nD => srcPts c (leafOf j) (D c) :=
    bigSep_congr fun j hj => whenP_pos (Finset.ne_of_mem_erase hj).symm _
  rw [e, bigSep_erase (Φ := fun j : Dev nD => whenP (sends c j) (sndPay D c j)) (Finset.mem_univ c), whenP_neg (fun h : sends c c => h rfl), e',
    emp_left]
  exact bigSep_erase (s := (Finset.univ : Finset (Dev nD))) (Φ := fun n : Dev nD => srcPts c (leafOf n) (D c)) (Finset.mem_univ c)

/-! ## The result -/

theorem outSet_disjoint (j j' : Chunk) (h : j ≠ j') : Disjoint (outSet j) (outSet j') := by
  rw [Finset.disjoint_left]
  intro i hi hi'
  exact h (Fin.ext ((Finset.mem_filter.mp hi).2.symm.trans (Finset.mem_filter.mp hi').2))

theorem outSet_all : (Finset.univ : Finset S8x2x8x128.Idx) = Finset.univ.biUnion outSet := by
  ext i
  rw [Finset.mem_biUnion]
  exact ⟨fun _ => ⟨(i 0 : Fin 8), Finset.mem_univ _, Finset.mem_filter.mpr ⟨Finset.mem_univ _, rfl⟩⟩, fun _ => Finset.mem_univ _⟩

/-- The result: the device's own block, and the block of each device it receives from. -/
theorem out_apart (f : S8x2x8x128.Idx → Elt F .i32) :
    outPts c Finset.univ f = iprop(outPts c (outSet c) f ∗ bigSep Finset.univ fun j : Chunk => whenP (gets c j) (outPts c (outSet j) f)) := by
  have e : outPts c (Finset.univ.biUnion outSet) f = bigSep Finset.univ fun j : Chunk => outPts c (outSet j) f :=
    pointsTo_biUnion (ℓ := (c : Thread nD τ).loc cc0_stg4_0) Finset.univ outSet fun j _ j' _ h => outSet_disjoint j j' h
  have e' : (bigSep (Finset.univ.erase c) fun j : Dev nD => whenP (gets c j) (outPts c (outSet j) f))
      = bigSep (Finset.univ.erase c) fun j : Dev nD => outPts c (outSet j) f :=
    bigSep_congr fun j hj => whenP_pos (Finset.ne_of_mem_erase hj) _
  rw [outSet_all, e, bigSep_erase (Φ := fun j : Dev nD => whenP (gets c j) (outPts c (outSet j) f)) (Finset.mem_univ c),
    whenP_neg (fun h : gets c c => h rfl), e', emp_left]
  exact bigSep_erase (s := (Finset.univ : Finset (Dev nD))) (Φ := fun n : Dev nD => outPts c (outSet n) f) (Finset.mem_univ c)

/-- A block of the result whose contents do not matter. -/
theorem out_some (j : Chunk) (f : S8x2x8x128.Idx → Elt F .i32) :
    whenP (gets c j) (outPts c (outSet j) f) ⊢ whenP (gets c j) iprop(∃ f, outPts c (outSet j) f) := by
  by_cases h : gets c j
  · rw [whenP_pos h, whenP_pos h]
    iintro H; iexists f; iexact H
  · rw [whenP_neg h, whenP_neg h]

end Cert.RoutesIdeal.Exchange
end
-- ==== Proof.Routes.Ends.lean ====
/-
  Where the exchange's kernel begins and ends: from what a device holds when the kernel is entered to the state the first statement
  expects, and from the state the last statement leaves to what the device holds afterwards.
-/
module

public import proofs.«01_k».proof.Proof.Routes.Pieces

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (D : Data F) (κ : GSem nD τ sig → ℕ) (c : Dev nD)

/-- The semaphores that the kernel names for itself: one for each transfer's departure and one for each transfer's arrival. -/
def osem : Chunk ⊕ Chunk → SemLoc sig
  | .inl j => .dma (sndS j)
  | .inr j => .dma (rcvS j)

/-- The duties that device `c` pays. -/
def duties : sProp 𝕄 :=
  iprop((bigSep Finset.univ fun p : Dev nD => dutyTok ER (barCell p) 0 c)
    ∗ (bigSep Finset.univ fun j : Chunk => dutyTok ER (sndCell c j) 0 c)
    ∗ bigSep Finset.univ fun j : Chunk => dutyTok ER (rcvCell j c) 0 c)

/-- The credits that device `c` waits with. -/
def credits : sProp 𝕄 :=
  iprop(cred (tallyAt (barCell c) ιB 7) ∗ bigSep Finset.univ fun j : Chunk => whenP (gets c j) (cred (tallyAt (rcvCell c j) ιC N)))

/-- Device `c`'s part of the protocol when it enters the kernel, its cells opened. -/
def opened : sProp 𝕄 :=
  iprop(ctx D κ ∗ atPos ER (barCell c) 0 ∅ 0 ∗ duties c ∗ credits c
    ∗ (bigSep Finset.univ fun j : Chunk => iprop(atPos ER (sndCell c j) 0 ∅ 0 ∗ reached ER (sndCell c j) 0))
    ∗ bigSep Finset.univ fun j : Chunk => iprop(atPos ER (rcvCell c j) 0 ∅ 0 ∗ reached ER (rcvCell c j) 0))

/-! ## Entering -/

/-- The places of the result, sorted by the device that will write them. -/
theorem give_all :
    iprop((bigSep Finset.univ fun p : Dev nD => dutyTok ER (barCell p) 0 c)
        ∗ (bigSep Finset.univ fun j : Chunk => whenP (gets c j) iprop(∃ f : S8x2x8x128.Idx → Elt F .i32, outPts c (outSet j) f))
        ∗ bigSep Finset.univ fun j : Chunk => reached ER (rcvCell c j) 0)
      ⊢ bigSep Finset.univ fun p : Dev nD => if p.val < 0 then iprop(emp) else whenP (c ≠ p) iprop(dutyTok ER (barCell p) 0 c ∗ barPay p c) := by
  have e1 (j : Chunk) : iprop(whenP (gets c j) iprop(∃ f : S8x2x8x128.Idx → Elt F .i32, outPts c (outSet j) f) ∗ reached ER (rcvCell c j) 0)
      ⊢ barPay j c := by
    unfold barPay
    by_cases h : gets c j
    · rw [whenP_pos h, whenP_pos h]
    · rw [whenP_neg h, whenP_neg h]
      iintro -; iempintro
  have e2 : iprop((bigSep Finset.univ fun j : Chunk => whenP (gets c j) iprop(∃ f : S8x2x8x128.Idx → Elt F .i32, outPts c (outSet j) f))
        ∗ bigSep Finset.univ fun j : Chunk => reached ER (rcvCell c j) 0)
      ⊢ bigSep Finset.univ fun p : Dev nD => barPay p c := by
    rw [← bigSep_sep']
    exact bigSep_mono fun j _ => e1 j
  refine (sep_mono .rfl e2).trans ?_
  rw [← bigSep_sep']
  refine bigSep_mono fun p _ => ?_
  rw [if_neg (Nat.not_lt_zero _)]
  by_cases h : c ≠ p
  · rw [whenP_pos h]; exact BI.Entails.refl _
  · rw [whenP_neg h]
    have t : iprop(dutyTok ER (barCell p) 0 c ∗ barPay p c) ⊢ (iprop(emp) : sProp 𝕄) := by iintro -; iempintro
    exact t

theorem ready_all :
    iprop((bigSep Finset.univ fun j : Chunk => iprop(atPos ER (sndCell c j) 0 ∅ 0 ∗ reached ER (sndCell c j) 0))
        ∗ (bigSep Finset.univ fun j : Chunk => dutyTok ER (sndCell c j) 0 c)
        ∗ (bigSep Finset.univ fun j : Chunk => dutyTok ER (rcvCell j c) 0 c)
        ∗ bigSep Finset.univ fun j : Chunk => whenP (sends c j) (sndPay D c j))
      ⊢ bigSep Finset.univ fun j : Chunk => ready D c j := by
  rw [← bigSep_sep', ← bigSep_sep', ← bigSep_sep']
  refine bigSep_mono fun j _ => ?_
  have e : iprop((atPos ER (sndCell c j) 0 ∅ 0 ∗ reached ER (sndCell c j) 0) ∗ dutyTok ER (sndCell c j) 0 c
        ∗ dutyTok ER (rcvCell j c) 0 c ∗ whenP (sends c j) (sndPay D c j)) ⊢ ready D c j := by
    unfold ready sndPay
    by_cases h : sends c j
    · rw [whenP_pos h, whenP_pos h]
      iintro ⟨⟨Ha, Hr⟩, H1, H2, Hs⟩
      isplitl [Ha]; · iexact Ha
      isplitl [H1]; · iexact H1
      isplitl [H2]; · iexact H2
      isplitl [Hr] <;> iassumption
    · rw [whenP_neg h, whenP_neg h]
      iintro ⟨⟨Ha, -⟩, -⟩
      isplitl [Ha]; · iexact Ha
      iempintro
  exact e

theorem coming_all :
    iprop((bigSep Finset.univ fun j : Chunk => atPos ER (rcvCell c j) 0 ∅ 0)
        ∗ bigSep Finset.univ fun j : Chunk => whenP (gets c j) (cred (tallyAt (rcvCell c j) ιC N)))
      ⊢ bigSep Finset.univ fun j : Chunk => coming (F := F) c j := by
  rw [← bigSep_sep']
  exact BI.Entails.refl _

theorem places_all (f : S8x2x8x128.Idx → Elt F .i32) :
    (bigSep Finset.univ fun j : Chunk => whenP (gets c j) (outPts c (outSet j) f))
      ⊢ bigSep Finset.univ fun j : Chunk => whenP (gets c j) iprop(∃ f : S8x2x8x128.Idx → Elt F .i32, outPts c (outSet j) f) :=
  bigSep_mono fun j _ => out_some c j f

/-- A device enters the kernel. -/
theorem enter (f : S8x2x8x128.Idx → Elt F .i32) :
    iprop(tables c ∗ srcPts c fullShare (D c) ∗ outPts c Finset.univ f ∗ (∃ W, owes (c : Thread nD τ) (due c) W) ∗ opened D κ c)
      ⊢ Enter D κ c 0 iprop(atPos ER (barCell c) 0 ∅ 0 ∗ cred (tallyAt (barCell c) ιB 7) ∗ (bigSep Finset.univ fun j : Chunk => ready D c j)
        ∗ srcPts c (leafOf (chunkLeaf c)) (D c) ∗ (∃ f, outPts c (outSet c) f) ∗ (bigSep Finset.univ fun j : Chunk => coming c j) ∗ emp) := by
  have hr : (bigSep Finset.univ fun j : Chunk => iprop(atPos ER (rcvCell c j) 0 ∅ 0 ∗ reached ER (rcvCell c j) 0))
      ⊢ iprop((bigSep Finset.univ fun j : Chunk => atPos ER (rcvCell c j) 0 ∅ 0) ∗ bigSep Finset.univ fun j : Chunk => (reached ER (rcvCell c j) 0 : sProp 𝕄)) := by
    rw [bigSep_sep']
  unfold Enter opened duties credits due
  rw [src_apart, out_apart c f]
  iintro ⟨Ht, ⟨H31, Hsnd⟩, ⟨Hown, Hpieces⟩, HO, Hctx, Hat, ⟨HtB, HtS, HtR⟩, ⟨HcB, HcR⟩, HaS, HaR⟩
  ihave HaR := hr $$ HaR
  icases HaR with ⟨HaR, HrR⟩
  ihave Hpieces := (places_all c f) $$ Hpieces
  isplitl [Ht]; · iexact Ht
  isplitl [Hctx]; · iexact Hctx
  isplitl [HO]; · iexact HO
  isplitl [HtB Hpieces HrR]
  · iapply (give_all c)
    isplitl [HtB]; · iexact HtB
    isplitl [Hpieces] <;> iassumption
  isplitl [Hat]; · iexact Hat
  isplitl [HcB]; · iexact HcB
  isplitl [HaS HtS HtR Hsnd]
  · iapply (ready_all D c)
    isplitl [HaS]; · iexact HaS
    isplitl [HtS]; · iexact HtS
    isplitl [HtR] <;> iassumption
  isplitl [H31]; · iexact H31
  isplitl [Hown]; · iexists f; iexact Hown
  isplitl [HaR HcR]
  · iapply (coming_all c)
    isplitl [HaR] <;> iassumption
  iempintro

/-! ## Leaving -/

theorem gone_eq (j : Chunk) : gone D c j ⊢ iprop(atPos ER (sndCell c j) (if sends c j then 1 else 0) ∅ 0 ∗ whenP (sends c j) (sndPay D c j)) := by
  unfold gone
  by_cases h : sends c j
  · rw [if_pos h, if_pos h, whenP_pos h]
  · rw [if_neg h, if_neg h, whenP_neg h]; exact (sep_emp (PROP := sProp 𝕄)).2

theorem come_eq (j : Chunk) : come D c j ⊢ iprop(atPos ER (rcvCell c j) (if gets c j then 1 else 0) ∅ 0 ∗ whenP (gets c j) (rcvPay D c j)) := by
  unfold come
  by_cases h : gets c j
  · rw [if_pos h, if_pos h, whenP_pos h]
  · rw [if_neg h, if_neg h, whenP_neg h]; exact (sep_emp (PROP := sProp 𝕄)).2

theorem gone_all :
    (bigSep Finset.univ fun j : Chunk => if rank j < 8 then gone D c j else sent c j)
      ⊢ iprop((bigSep Finset.univ fun j : Chunk => atPos ER (sndCell c j) (if sends c j then 1 else 0) ∅ 0)
        ∗ bigSep Finset.univ fun j : Chunk => whenP (sends c j) (sndPay D c j)) := by
  rw [← bigSep_sep']
  exact bigSep_mono fun j _ => by rw [if_pos (rank_lt j)]; exact gone_eq D c j

theorem come_all :
    (bigSep Finset.univ fun j : Chunk => come D c j)
      ⊢ iprop((bigSep Finset.univ fun j : Chunk => atPos ER (rcvCell c j) (if gets c j then 1 else 0) ∅ 0)
        ∗ bigSep Finset.univ fun j : Chunk => whenP (gets c j) (rcvPay D c j)) := by
  rw [← bigSep_sep']
  exact bigSep_mono fun j _ => come_eq D c j

theorem close_snd :
    iprop(ctx D κ ∗ bigSep Finset.univ fun j : Chunk => atPos ER (sndCell c j) (if sends c j then 1 else 0) ∅ 0)
      ⊢ |={Set.univ}=> bigSep Finset.univ fun j : Chunk => (semVal (sndCell c j) 0 : sProp 𝕄) := by
  have h := cells_close ER (sched D) (Finset.univ : Finset Chunk) (fun j => sndCell c j) (fun j => κ (sndCell c j)) (Es := Set.univ)
    (fun _ _ => Set.mem_univ _) (fun _ _ h => h) (fun j => if sends c j then 1 else 0) (fun j _ r hr => by
      by_cases hs : sends c j
      · rw [if_pos hs] at hr; exact duties_later D _ r hr
      · rcases Nat.eq_zero_or_pos r with rfl | h0
        · rw [duties_snd, if_neg hs]
        · exact duties_later D _ r h0)
  refine BIBase.Entails.trans ?_ h
  exact bigSep_with_persistent (R := ctx D κ) (Φ := fun j : Chunk => atPos ER (sndCell c j) (if sends c j then 1 else 0) ∅ 0)
    fun j _ => sep_mono (ctx_snd D κ c j) .rfl

theorem close_rcv :
    iprop(ctx D κ ∗ bigSep Finset.univ fun j : Chunk => atPos ER (rcvCell c j) (if gets c j then 1 else 0) ∅ 0)
      ⊢ |={Set.univ}=> bigSep Finset.univ fun j : Chunk => (semVal (rcvCell c j) 0 : sProp 𝕄) := by
  have h := cells_close ER (sched D) (Finset.univ : Finset Chunk) (fun j => rcvCell c j) (fun j => κ (rcvCell c j)) (Es := Set.univ)
    (fun _ _ => Set.mem_univ _) (fun _ _ h => h) (fun j => if gets c j then 1 else 0) (fun j _ r hr => by
      by_cases hs : gets c j
      · rw [if_pos hs] at hr; exact duties_later D _ r hr
      · rcases Nat.eq_zero_or_pos r with rfl | h0
        · rw [duties_rcv, if_neg hs]
        · exact duties_later D _ r h0)
  refine BIBase.Entails.trans ?_ h
  exact bigSep_with_persistent (R := ctx D κ) (Φ := fun j : Chunk => atPos ER (rcvCell c j) (if gets c j then 1 else 0) ∅ 0)
    fun j _ => sep_mono (ctx_rcv D κ c j) .rfl

theorem close_bar : iprop(ctx D κ ∗ atPos ER (barCell c) 1 ∅ 0) ⊢ |={Set.univ}=> (semVal (barCell c) 0 : sProp 𝕄) := by
  have h := cell_close ER (sched D) (g := barCell c) (κ := κ (barCell c)) (Es := Set.univ) (Set.mem_univ _) (fun h => h) (R := 1)
    (fun r hr => duties_later D _ r hr)
  refine BIBase.Entails.trans ?_ h
  have hb : ctx D κ ⊢ cellInv ER (sched D) (κ (barCell c)) (barCell c) := (ctx_bar D κ c).trans sep_elim_left
  exact sep_mono hb .rfl

/-- What a device holds after the kernel. -/
def closed : sProp 𝕄 :=
  iprop(tables c ∗ srcPts c fullShare (D c) ∗ outPts c Finset.univ (result D)
    ∗ (∃ W, owes (c : Thread nD τ) (0 : CellTallies nD τ sig ℕ) W) ∗ semVal (barCell c) 0 ∗ Pipeline.ownSems0 osem c)

theorem ownSems_eq : (Pipeline.ownSems0 osem c : sProp 𝕄)
    = iprop((bigSep Finset.univ fun j : Chunk => semVal (sndCell c j) 0) ∗ bigSep Finset.univ fun j : Chunk => semVal (rcvCell c j) 0) := by
  unfold Pipeline.ownSems0
  rw [bigSep_univ_sum]
  rfl

/-- A device leaves the kernel. -/
theorem leave :
    Leave D κ c 8 iprop((bigSep Finset.univ fun j : Chunk => come D c j) ∗ ownBlk D c 8 ∗ atPos ER (barCell c) 1 ∅ 0 ∗ emp)
      ⊢ |={Set.univ}=> closed D c := by
  have hown : ownBlk D c 8 ⊢ iprop(srcPts c (leafOf (chunkLeaf c)) (D c) ∗ outPts c (outSet c) (result D)) := by
    unfold ownBlk; rw [if_pos (show c.val < 8 from c.isLt)]
  unfold Leave
  iintro ⟨Ht, #Hctx, HO, Hgone, Hcome, Hown, Hbar, -⟩
  ihave Hgone := (gone_all D c) $$ Hgone
  icases Hgone with ⟨HaS, HpS⟩
  ihave Hcome := (come_all D c) $$ Hcome
  icases Hcome with ⟨HaR, HpR⟩
  ihave Hown := hown $$ Hown
  icases Hown with ⟨H31, Hown⟩
  imod (close_snd D κ c) $$ [HaS] with HvS
  · isplitr; · iexact Hctx
    iexact HaS
  imod (close_rcv D κ c) $$ [HaR] with HvR
  · isplitr; · iexact Hctx
    iexact HaR
  imod (close_bar D κ c) $$ [Hbar] with HvB
  · isplitr; · iexact Hctx
    iexact Hbar
  imodintro
  unfold closed
  isplitl [Ht]; · iexact Ht
  isplitl [HpS H31]
  · rw [src_apart]
    isplitl [H31] <;> iassumption
  isplitl [Hown HpR]
  · rw [out_apart]
    isplitl [Hown]; · iexact Hown
    unfold rcvPay
    iexact HpR
  isplitl [HO]; · iexact HO
  isplitl [HvB]; · iexact HvB
  rw [ownSems_eq]
  isplitl [HvS] <;> iassumption

end Cert.RoutesIdeal.Exchange
end
-- ==== Proof.Routes.Tables.lean ====
/-
  What the kernel's windows are on when it is called: two constants, which tell that every transfer starts at row zero and has two rows, and
  the device's routes, as launched.
-/
module

public import proofs.«01_k».proof.Proof.Routes.Pieces
public import proofs.«01_k».proof.Proof.Gen.RoutesIdeal.Frame
public import proofs.«01_k».proof.Proof.Gen.RoutesIdeal.Points
public import Idealize.ShloMosaic.Lib.ValueLayout
public import Idealize.ShloMosaic.Lib.ValueLayoutCasts

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable (m : (ℓ : Loc nD τ sig) → Buf (Elt F) ℓ)

/-- The devices' routes, as launched. -/
def dataOf : Data F := fun c => m ((c : Thread nD τ).loc main_arg0)

theorem V_src (c : Dev nD) : Gen.V m c main_arg0 = dataOf m c := V_main_arg0 m c

/-- The offsets the kernel is given are all zero, -/
theorem V_off (c : Dev nD) : Gen.V m c main_v2 = fun _ : S8.Idx => offW := by
  show StableHlo.after hostOps0 _ (Proc.devRef .tc main_v2) = _
  rw [StableHlo.after_cons, StableHlo.after_cons, StableHlo.after_cons, StableHlo.after_cons, StableHlo.after_nil, StableHlo.unary_result]
  rfl

/-- and the counts all two. -/
theorem V_cnt (c : Dev nD) : Gen.V m c main_v1 = fun _ : S8.Idx => cntW := by
  show StableHlo.after hostOps0 _ (Proc.devRef .tc main_v1) = _
  rw [StableHlo.after_cons, StableHlo.after_cons, StableHlo.after_cons, StableHlo.after_cons, StableHlo.after_nil, StableHlo.unary_result_ne _ _ _ _ _ _ (by decide),
    StableHlo.nullary_result_ne _ _ _ _ (by decide), StableHlo.unary_result]
  rfl

end Cert.RoutesIdeal.Exchange
end
-- ==== Proof.Routes.Region.lean ====
/-
  The kernel's region: what its windows hold, what the body may leave in them, and that the body does.
-/
module

public import proofs.«01_k».proof.Proof.Routes.Ends
public import proofs.«01_k».proof.Proof.Routes.Tables

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ)

/-- What the body may leave in a window: in the result's, every device's routes; the others are not written back. -/
def afterBody (c : Dev nD) : (w : Fin 5) → ((win0 w).block.Idx → Elt F (win0 w).elt) → Prop
  | 4 => fun X => X = result (dataOf m)
  | 0 | 1 | 2 | 3 => fun _ => True
  | ⟨_ + 5, h⟩ => absurd h (Nat.not_lt.2 (Nat.le_add_left _ _))

/-- The region's state before the body, and after it. -/
def bodyState (c : Dev nD) (n : ℕ) : sProp 𝕄 :=
  if n = 0 then iprop(∃ κ, opened (dataOf m) κ c) else iprop(semVal (barCell c) 0 ∗ Pipeline.ownSems0 osem c)

/-- What a device owes before the body, and after it. -/
def bodyDue (c : Dev nD) (n : ℕ) : CellTallies nD τ sig ℕ := if n = 0 then due c else 0

/-- The region's parameters are admissible. -/
abbrev adm : (p : Fin 1) → (pcfgs (F := F) p).Adm := fun p => (cfgs p).toPCfg_adm

/-- The region's data. -/
def rdat (c : Dev nD) : Pipeline.RDat τ (Elt F) ℕ ℕ UU ℕ cfg0 c where
  A w := Gen.V m c (Pipeline.arrRef spec0 w)
  after w _ _ X := afterBody m c w X
  Φ t := bodyState m c t.val
  q w := Pipeline.shareOf spec0 w
  owed t := bodyDue c t.val

/-- The same as the one pipeline's. -/
def rdats (p : Fin 1) (c : Dev nD) : Pipeline.RDat τ (Elt F) ℕ ℕ UU ℕ (Pipeline.pin (pcfgs (F := F)) adm p) c := rdat m c

/-! ## What the body finds -/

section Finds

variable (c : Dev nD)

theorem finds_off (X : S8.Idx → Elt F .i32) (h : (rdat m c).Finds 0 t0_0 X) : X = fun _ : S8.Idx => offW := by
  obtain ⟨d, hd⟩ := ((rdat m c).finds_of_fetch (fetch0_0 t0_0) X).mp h
  have e : (rdat m c).fetched 0 t0_0 d = ((cfg0.win 0).blk t0_0).view.read (Elt F) (Gen.V m c main_v2) := rfl
  rw [hd, ← V_off m c, e]
  funext i
  show Gen.V m c main_v2 (((cfg0.win 0).rect t0_0).emb i) = Gen.V m c main_v2 i
  congr 1; funext a; apply Fin.ext
  exact Pipeline.Window.rect_emb_val_of_index_zero (cfg0.win 0) t0_0 a rfl i

theorem finds_cnt (X : S8.Idx → Elt F .i32) (h : (rdat m c).Finds 1 t0_0 X) : X = fun _ : S8.Idx => cntW := by
  obtain ⟨d, hd⟩ := ((rdat m c).finds_of_fetch (fetch0_1 t0_0) X).mp h
  have e : (rdat m c).fetched 1 t0_0 d = ((cfg0.win 1).blk t0_0).view.read (Elt F) (Gen.V m c main_v1) := rfl
  rw [hd, ← V_cnt m c, e]
  funext i
  show Gen.V m c main_v1 (((cfg0.win 1).rect t0_0).emb i) = Gen.V m c main_v1 i
  congr 1; funext a; apply Fin.ext
  exact Pipeline.Window.rect_emb_val_of_index_zero (cfg0.win 1) t0_0 a rfl i

theorem finds_got (X : S8.Idx → Elt F .i32) (h : (rdat m c).Finds 2 t0_0 X) : X = fun _ : S8.Idx => cntW := by
  obtain ⟨d, hd⟩ := ((rdat m c).finds_of_fetch (fetch0_2 t0_0) X).mp h
  have e : (rdat m c).fetched 2 t0_0 d = ((cfg0.win 2).blk t0_0).view.read (Elt F) (Gen.V m c main_v1) := rfl
  rw [hd, ← V_cnt m c, e]
  funext i
  show Gen.V m c main_v1 (((cfg0.win 2).rect t0_0).emb i) = Gen.V m c main_v1 i
  congr 1; funext a; apply Fin.ext
  exact Pipeline.Window.rect_emb_val_of_index_zero (cfg0.win 2) t0_0 a rfl i

theorem finds_src (X : S2x8x128.Idx → Elt F .i32) (h : (rdat m c).Finds 3 t0_0 X) : X = dataOf m c := by
  obtain ⟨d, hd⟩ := ((rdat m c).finds_of_fetch (fetch0_3 t0_0) X).mp h
  have e : (rdat m c).fetched 3 t0_0 d = ((cfg0.win 3).blk t0_0).view.read (Elt F) (Gen.V m c main_arg0) := rfl
  rw [hd, ← V_src m c, e]
  funext i
  show Gen.V m c main_arg0 (((cfg0.win 3).rect t0_0).emb i) = Gen.V m c main_arg0 i
  congr 1; funext a; apply Fin.ext
  exact Pipeline.Window.rect_emb_val_of_index_zero (cfg0.win 3) t0_0 a rfl i

end Finds

/-! ## The body -/

section Body

/-- The windows' staging buffers, handed to the body. -/
theorem stage_eq (c : Dev nD) (Y : (w : Fin 5) → (cfg0.win w).block.Idx → Elt F (cfg0.win w).elt) :
    (bigSep Finset.univ fun w : Fin 5 => (owns (c : Thread nD τ) ((cfg0.win w).stage (cfg0.slots t0_0 w)) fullShare (Y w) : sProp 𝕄))
      = iprop((((c : Thread nD τ).loc cc0_stg0_0) ↦{fullShare} Y 0) ∗ (((c : Thread nD τ).loc cc0_stg1_0) ↦{fullShare} Y 1)
        ∗ (((c : Thread nD τ).loc cc0_stg2_0) ↦{fullShare} Y 2) ∗ srcPts c fullShare (Y 3) ∗ outPts c Finset.univ (Y 4)) := by
  rw [bigSep_W0]
  have e0 : (owns (c : Thread nD τ) ((cfg0.win 0).stage (cfg0.slots t0_0 0)) fullShare (Y 0) : sProp 𝕄)
      = (((c : Thread nD τ).loc cc0_stg0_0) ↦{fullShare} Y 0) := owns_whole (c : Thread nD τ) cc0_stg0_0 fullShare (Y 0)
  have e1 : (owns (c : Thread nD τ) ((cfg0.win 1).stage (cfg0.slots t0_0 1)) fullShare (Y 1) : sProp 𝕄)
      = (((c : Thread nD τ).loc cc0_stg1_0) ↦{fullShare} Y 1) := owns_whole (c : Thread nD τ) cc0_stg1_0 fullShare (Y 1)
  have e2 : (owns (c : Thread nD τ) ((cfg0.win 2).stage (cfg0.slots t0_0 2)) fullShare (Y 2) : sProp 𝕄)
      = (((c : Thread nD τ).loc cc0_stg2_0) ↦{fullShare} Y 2) := owns_whole (c : Thread nD τ) cc0_stg2_0 fullShare (Y 2)
  have e3 : (owns (c : Thread nD τ) ((cfg0.win 3).stage (cfg0.slots t0_0 3)) fullShare (Y 3) : sProp 𝕄)
      = srcPts c fullShare (Y 3) := owns_whole (c : Thread nD τ) cc0_stg3_0 fullShare (Y 3)
  have e4 : (owns (c : Thread nD τ) ((cfg0.win 4).stage (cfg0.slots t0_0 4)) fullShare (Y 4) : sProp 𝕄)
      = outPts c Finset.univ (Y 4) := owns_whole (c : Thread nD τ) cc0_stg4_0 fullShare (Y 4)
  rw [e0, e1, e2, e3, e4]

/-- What the body is called with. -/
theorem body_enter (c : Dev nD) (Y : (w : Fin 5) → (cfg0.win w).block.Idx → Elt F (cfg0.win w).elt) (hY : ∀ w, w ≠ 4 → (rdat m c).Finds w t0_0 (Y w)) :
    (bigSep Finset.univ fun w : Fin 5 => (owns (c : Thread nD τ) ((cfg0.win w).stage (cfg0.slots t0_0 w)) fullShare (Y w) : sProp 𝕄))
      = iprop(tables c ∗ srcPts c fullShare (dataOf m c) ∗ outPts c Finset.univ (Y 4)) := by
  have e0 := finds_off m c (Y 0) (hY 0 (by decide))
  have e1 := finds_cnt m c (Y 1) (hY 1 (by decide))
  have e2 := finds_got m c (Y 2) (hY 2 (by decide))
  have e3 := finds_src m c (Y 3) (hY 3 (by decide))
  rw [stage_eq, e0, e1, e2, e3]; unfold tables
  have a : iprop((((c : Thread nD τ).loc cc0_stg0_0) ↦{fullShare} (fun _ : S8.Idx => offW))
      ∗ (((c : Thread nD τ).loc cc0_stg1_0) ↦{fullShare} (fun _ : S8.Idx => cntW))
      ∗ (((c : Thread nD τ).loc cc0_stg2_0) ↦{fullShare} (fun _ : S8.Idx => cntW))
      ∗ srcPts c fullShare (dataOf m c) ∗ outPts c Finset.univ (Y 4))
    ⊣⊢ iprop(((((c : Thread nD τ).loc cc0_stg0_0) ↦{fullShare} (fun _ : S8.Idx => offW))
      ∗ (((c : Thread nD τ).loc cc0_stg1_0) ↦{fullShare} (fun _ : S8.Idx => cntW))
      ∗ (((c : Thread nD τ).loc cc0_stg2_0) ↦{fullShare} (fun _ : S8.Idx => cntW)))
      ∗ srcPts c fullShare (dataOf m c) ∗ outPts c Finset.univ (Y 4)) := by
    constructor
    · iintro ⟨H0, H1, H2, H3⟩
      isplitl [H0 H1 H2]
      · isplitl [H0]; · iexact H0
        isplitl [H1] <;> iassumption
      iexact H3
    · iintro ⟨⟨H0, H1, H2⟩, H3⟩
      isplitl [H0]; · iexact H0
      isplitl [H1]; · iexact H1
      isplitl [H2] <;> iassumption
  exact a.1.antisymm a.2

/-- What the body leaves. -/
theorem body_leave (c : Dev nD) (Y : (w : Fin 5) → (cfg0.win w).block.Idx → Elt F (cfg0.win w).elt) (X : S8x2x8x128.Idx → Elt F .i32)
    (hX : X = result (dataOf m)) (hY : ∀ w, (rdat m c).Finds w t0_0 (Y w)) :
    iprop(tables c ∗ srcPts c fullShare (dataOf m c) ∗ outPts c Finset.univ X)
      ⊢ bigSep Finset.univ fun w : Fin 5 => iprop(∃ Z, ⌜(rdat m c).after w t0_0 (Y w) Z⌝
        ∗ (owns (c : Thread nD τ) ((cfg0.win w).stage (cfg0.slots t0_0 w)) fullShare Z : sProp 𝕄)) := by
  have e := body_enter m c (Function.update Y 4 X) fun w hw => by rw [Function.update_of_ne hw]; exact hY w
  have e4 : (Function.update Y 4 X : (w : Fin 5) → (cfg0.win w).block.Idx → Elt F (cfg0.win w).elt) 4 = X := Function.update_self ..
  rw [e4] at e
  rw [← e]
  refine bigSep_mono fun w _ => ?_
  have hw : (rdat m c).after w t0_0 (Y w) (Function.update Y 4 X w) := by
    by_cases h : w = 4
    · subst h; rw [e4]; exact hX
    · match w, h with
      | 0, _ | 1, _ | 2, _ | 3, _ => exact trivial
      | 4, h => exact absurd rfl h
  have g : (owns (c : Thread nD τ) ((cfg0.win w).stage (cfg0.slots t0_0 w)) fullShare (Function.update Y 4 X w) : sProp 𝕄)
      ⊢ iprop(∃ Z, ⌜(rdat m c).after w t0_0 (Y w) Z⌝ ∗ (owns (c : Thread nD τ) ((cfg0.win w).stage (cfg0.slots t0_0 w)) fullShare Z : sProp 𝕄)) := by
    iintro H
    iexists _
    isplitr; · ipureintro; exact hw
    iexact H
  exact g

/-- A device runs the body. -/
theorem hbody (c : Dev nD) : (rdat m c).BodyObligation (defs₀ (F := F)) 𝒱₀ 0 Set.univ := by
  intro t Y hY
  obtain rfl := fin_N0 t
  have ePhi0 : (rdat m c).Φ t0_0.castSucc = iprop(∃ κ, opened (dataOf m) κ c) := rfl
  have ePhi1 : (rdat m c).Φ t0_0.succ = iprop(semVal (barCell c) 0 ∗ Pipeline.ownSems0 osem c) := rfl
  have eO0 : (rdat m c).owesAt 0 t0_0.castSucc ⊢ iprop(∃ W, owes (c : Thread nD τ) (due c) W) := by
    have : (rdat m c).owed t0_0.castSucc = due c := rfl
    unfold Pipeline.RDat.owesAt Pipeline.owesWithin; rw [this]
    iintro ⟨%W, -, HO⟩; iexists W; iexact HO
  have eO1 : iprop(∃ W, owes (c : Thread nD τ) (0 : CellTallies nD τ sig ℕ) W) ⊢ (rdat m c).owesAt 0 t0_0.succ := by
    have : (rdat m c).owed t0_0.succ = 0 := rfl
    unfold Pipeline.RDat.owesAt Pipeline.owesWithin; rw [this]
    iintro ⟨%W, HO⟩; iexists W
    isplitr; · ipureintro; exact fun _ _ => Or.inl trivial
    iexact HO
  rw [ePhi0, ePhi1, body_enter m c Y fun w _ => hY w]
  have hleave (κ : GSem nD τ sig → ℕ) :
      Leave (dataOf m) κ c 8 iprop((bigSep Finset.univ fun j : Chunk => come (dataOf m) c j) ∗ ownBlk (dataOf m) c 8
          ∗ atPos ER (barCell c) 1 ∅ 0 ∗ emp)
        ⊢ |={Set.univ}=> iprop((semVal (barCell c) 0 ∗ Pipeline.ownSems0 osem c) ∗ (rdat m c).owesAt 0 t0_0.succ
            ∗ bigSep Finset.univ fun w : Fin 5 => iprop(∃ Z, ⌜(rdat m c).after w t0_0 (Y w) Z⌝
              ∗ (owns (c : Thread nD τ) ((cfg0.win w).stage (cfg0.slots t0_0 w)) fullShare Z : sProp 𝕄))) := by
    iintro H
    imod (leave (dataOf m) κ c) $$ H with H
    imodintro
    unfold closed
    icases H with ⟨Ht, Hs, Ho, HO, HB, HS⟩
    isplitl [HB HS]
    · isplitl [HB] <;> iassumption
    isplitl [HO]; · iapply eO1; iexact HO
    iapply (body_leave m c Y _ rfl hY)
    isplitl [Ht]; · iexact Ht
    isplitl [Hs] <;> iassumption
  have hrun (κ : GSem nD τ sig → ℕ) := body_step (dataOf m) κ (c := c) (R := iprop(emp))
    (Q := fun _ => iprop((semVal (barCell c) 0 ∗ Pipeline.ownSems0 osem c) ∗ (rdat m c).owesAt 0 t0_0.succ
            ∗ bigSep Finset.univ fun w : Fin 5 => iprop(∃ Z, ⌜(rdat m c).after w t0_0 (Y w) Z⌝
              ∗ (owns (c : Thread nD τ) ((cfg0.win w).stage (cfg0.slots t0_0 w)) fullShare Z : sProp 𝕄)))) (hleave κ) (hstage0_0 0) (hstage0_1 0) (hstage0_2 0) (hstage0_3 0) (hstage0_4 0)
  iintro ⟨⟨%κ, Hop⟩, HO, Ht, Hs, Ho⟩
  ihave HO := eO0 $$ HO
  iapply (hrun κ)
  iapply (enter (dataOf m) κ c (Y 4))
  isplitl [Ht]; · iexact Ht
  isplitl [Hs]; · iexact Hs
  isplitl [Ho]; · iexact Ho
  isplitl [HO] <;> iassumption

end Body

/-! ## The kernel's semaphores are opened -/

section Open

variable (D : Data F) (κ : GSem nD τ sig → ℕ)

/-- The invariants of the protocol. -/
def records : sProp 𝕄 :=
  iprop((bigSep Finset.univ fun p : Dev nD => iprop(cellInv ER (sched D) (κ (barCell p)) (barCell p) ∗ reached ER (barCell p) 0))
    ∗ (bigSep Finset.univ fun x : Dev nD × Chunk => cellInv ER (sched D) (κ (sndCell x.1 x.2)) (sndCell x.1 x.2))
    ∗ (bigSep Finset.univ fun x : Dev nD × Chunk => cellInv ER (sched D) (κ (rcvCell x.1 x.2)) (rcvCell x.1 x.2)))

instance records_persistent : BI.Persistent (records D κ) := by unfold records; infer_instance

/-- Device `c`'s part of the protocol before the kernel is entered. -/
def waiting (c : Dev nD) : sProp 𝕄 :=
  iprop(records D κ ∗ atPos ER (barCell c) 0 ∅ 0 ∗ duties c ∗ credits c
    ∗ (bigSep Finset.univ fun j : Chunk => openTok ER (sndCell c j)) ∗ (bigSep Finset.univ fun j : Chunk => openTok ER (rcvCell c j)))

/-- The kernel's semaphores, at zero, are put under the protocol. -/
theorem open_all (c : Dev nD) : iprop(waiting D κ c ∗ Pipeline.ownSems0 osem c ∗ levAts L lv) ⊢ |={Set.univ}=> opened D κ c := by
  have hc : iprop(levAts L lv ∗ records D κ) ⊢ ctx D κ := BI.Entails.refl _
  rw [ownSems_eq]
  unfold waiting
  iintro ⟨⟨Hr, Hat, Hd, Hcr, HoS, HoR⟩, ⟨HvS, HvR⟩, HL⟩
  ihave #Hctx := hc $$ [HL Hr]
  · isplitl [HL] <;> iassumption
  imod (open_cells ER (sched D) (fun j : Chunk => sndCell c j) (fun j => κ (sndCell c j)) fun j => ctx_snd D κ c j) $$ [HoS HvS] with HS
  · isplitr; · iexact Hctx
    isplitl [HoS] <;> iassumption
  imod (open_cells ER (sched D) (fun j : Chunk => rcvCell c j) (fun j => κ (rcvCell c j)) fun j => ctx_rcv D κ c j) $$ [HoR HvR] with HR
  · isplitr; · iexact Hctx
    isplitl [HoR] <;> iassumption
  imodintro
  unfold opened
  isplitr; · iexact Hctx
  isplitl [Hat]; · iexact Hat
  isplitl [Hd]; · iexact Hd
  isplitl [Hcr]; · iexact Hcr
  isplitl [HS] <;> iassumption

end Open

/-! ## The region -/

/-- A device owes at the barriers' and the transfers' indices only. -/
theorem due_pos (c : Dev nD) (g : GSem nD τ sig) (i : ℕ) (h : 0 < due c g i) : (i = ιB ∨ i = ιC) ∧ g.1.2 = .tc := by
  unfold due at h
  rw [Pi.add_apply, Finsupp.add_apply] at h
  rcases Nat.eq_zero_or_pos (rowDue c 0 g i) with h0 | h0
  · by_contra hne
    refine absurd h (Nat.not_lt.mpr (Nat.le_zero.mpr ?_))
    rw [h0, Nat.add_zero]
    unfold barDue
    rw [Finset.sum_apply, Finsupp.finset_sum_apply]
    refine Finset.sum_eq_zero fun p _ => ?_
    split
    · rfl
    split
    · rw [tallyAt_apply, if_neg]
      rintro ⟨rfl, rfl⟩
      exact hne ⟨.inl rfl, rfl⟩
    · rfl
  · exact ⟨.inr (rowDue_pos 0 g i h0).1, (rowDue_pos 0 g i h0).2⟩

theorem hwaits (c : Dev nD) : (levAts L lv : sProp 𝕄) ⊢ Pipeline.RDat.cellsWaits (Pipeline.pin (pcfgs (F := F)) adm) (rdats m) 0 0 c := by
  refine Pipeline.RDat.cellsWaits_intro (Pipeline.pin (pcfgs (F := F)) adm) (rdats m) 0 0 c fun w s t => ?_
  have e : (rdats m 0 c).owed t = bodyDue c t.val := rfl
  rw [e]; unfold bodyDue
  have hp (g : GSem nD τ sig) (i : ℕ) (hg : 0 < (if t.val = 0 then due c else 0) g i) : (i = ιB ∨ i = ιC) ∧ g.1.2 = .tc := by
    split at hg
    · exact due_pos _ _ _ hg
    · exact absurd hg (Nat.lt_irrefl 0)
  refine MayOwe.of_cut (L := L) (lev := lv) 0 (fun q hq => ?_) (fun g i hg => ?_) (fun q hq => ?_) fun g i hg => ?_
  · rw [Finset.mem_singleton.mp hq, L_tc]; exact Finset.mem_range.mpr (show (0 : ℕ) < 3 by decide)
  · unfold L; rw [if_pos (hp g i hg).2]
    rcases (hp g i hg).1 with h | h <;> rw [h] <;> decide
  · rw [Finset.mem_singleton.mp hq]; exact le_rfl
  · rcases (hp g i hg).1 with h | h
    · rw [h]; exact (show (0 : ℕ) < ιB by decide)
    · rw [h]; exact (show (0 : ℕ) < ιC by decide)

end Cert.RoutesIdeal.Exchange
end
-- ==== Proof.Routes.Segments.lean ====
/-
  The program's two items as segments: the constants, and the kernel, which is entered from what the first leaves.

  Two of the kernel's windows are on one array, the counts it sends and the counts it gets, so each of them holds a half of it.
-/
module

public import proofs.«01_k».proof.Proof.Routes.Region
public import Idealize.ShloMosaic.Lib.Pipeline.RegionArrays

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ)

/-- The buffers that a device holds outside the kernel, -/
abbrev S : Finset (DevRef τ sig) := Pipeline.ucRefs τ sig
/-- their contents as launched, -/
abbrev V0 (c : Dev nD) : Valuation τ sig (Elt F) := fun b => m (c, b)
/-- and when the kernel is called. -/
abbrev W1 (c : Dev nD) : Valuation τ sig (Elt F) := StableHlo.after hostOps0 (V0 m c)

/-! ## The kernel -/

/-- What a device holds when it enters the kernel; -/
def kernelPre (c : Dev nD) : sProp 𝕄 :=
  iprop(StableHlo.held (c : Thread nD τ) S (W1 m c) ∗ (∃ κ, waiting (dataOf m) κ c) ∗ ∃ W, owes (c : Thread nD τ) (due c) W)

/-- and when it leaves it. -/
def kernelPost (c : Dev nD) : sProp 𝕄 :=
  iprop((rdats m 0 c).arraysAt (Pipeline.pin (pcfgs (F := F)) adm 0).N
    ∗ StableHlo.held (c : Thread nD τ) (S \ Pipeline.arrRefs spec0) (W1 m c) ∗ semVal (barCell c) 0
    ∗ ∃ W, owes (c : Thread nD τ) (0 : CellTallies nD τ sig ℕ) W)

theorem arrs_sub : (Pipeline.arrRefs (τ := τ) spec0) ⊆ S := by
  decide +kernel

/-- The windows' arrays are among the buffers held. -/
theorem arrays_held (c : Dev nD) :
    (StableHlo.held (c : Thread nD τ) (Pipeline.arrRefs spec0) (W1 m c) : sProp 𝕄) ⊢ (rdats m 0 c).arrays (rdats m 0 c).A := by
  have e : (StableHlo.held (c : Thread nD τ) (Pipeline.arrRefs spec0) (W1 m c) : sProp 𝕄)
      = Pipeline.arrBufs spec0 c fun b => W1 m c (Proc.devRef .tc b) := by
    unfold StableHlo.held Pipeline.arrRefs Pipeline.arrBufs
    rw [bigSep_map]
    rfl
  rw [e]
  exact Pipeline.RDat.arrays_split_shared (rdats m 0 c) sharedIn0 arr_whole0 (fun _ _ => rfl) _ _ fun _ => rfl

theorem owes_in (c : Dev nD) : iprop(∃ W, owes (c : Thread nD τ) (due c) W) ⊢ (rdats m 0 c).owesAt 0 0 := by
  have : (rdats m 0 c).owed 0 = due c := rfl
  unfold Pipeline.RDat.owesAt Pipeline.owesWithin; rw [this]
  iintro ⟨%W, HO⟩; iexists W
  isplitr; · ipureintro; exact fun _ _ => Or.inl trivial
  iexact HO

theorem owes_out (c : Dev nD) : (rdats m 0 c).owesAt 0 (Fin.last (Pipeline.pin (pcfgs (F := F)) adm 0).N)
    ⊢ iprop(∃ W, owes (c : Thread nD τ) (0 : CellTallies nD τ sig ℕ) W) := by
  have : (rdats m 0 c).owed (Fin.last (Pipeline.pin (pcfgs (F := F)) adm 0).N) = 0 := rfl
  unfold Pipeline.RDat.owesAt Pipeline.owesWithin; rw [this]
  iintro ⟨%W, -, HO⟩; iexists W; iexact HO

theorem osem_facts : Pipeline.OwnSemFacts spec0 osem := by decide

/-- The kernel's segment. -/
def kernelSeg :
    Pipeline.RDat.RegionSeg (pcfgs (F := F)) adm (rdats m) 0 defs₀ 𝒱₀ L lv 0 where
  win := winFacts₀0
  block_pos := block_pos0
  stage_whole := stage_whole0
  K := Chunk ⊕ Chunk
  osem := osem
  ho := osem_facts
  hbody c := hbody m c
  hwaits c := hwaits m c
  pre := kernelPre m
  post := kernelPost m
  X c := iprop(∃ κ, opened (dataOf m) κ c)
  Y c := semVal (barCell c) 0
  Z c := StableHlo.held (c : Thread nD τ) (S \ Pipeline.arrRefs spec0) (W1 m c)
  hentry c := by
    unfold kernelPre
    rw [Pipeline.prefHeld_of_none _ rfl]
    iintro ⟨⟨Hh, ⟨%κ, Hw⟩, HO⟩, Hs, HL⟩
    ihave Hh := (Entails.of_eq (StableHlo.held_sub_split (c : Thread nD τ) arrs_sub (W1 m c))) $$ Hh
    icases Hh with ⟨Ha, Hh⟩
    imod (open_all (dataOf m) κ c) $$ [Hw Hs HL] with Ho
    · isplitl [Hw]; · iexact Hw
      isplitl [Hs] <;> iassumption
    imodintro
    isplitl [Ha]; · iapply (arrays_held m c); iexact Ha
    isplitr; · iempintro
    isplitl [HO]; · iapply (owes_in m c); iexact HO
    isplitl [Ho]; · iexists κ; iexact Ho
    iexact Hh
  hin c := by
    have e : (rdats m 0 c).Φ 0 = iprop(∃ κ, opened (dataOf m) κ c) := rfl
    rw [e]
    iintro ⟨H, -⟩; iexact H
  hout c := by
    have e : (rdats m 0 c).Φ (Fin.last (Pipeline.pin (pcfgs (F := F)) adm 0).N) = iprop(semVal (barCell c) 0 ∗ Pipeline.ownSems0 osem c) := rfl
    have e' : (Pipeline.scopedRest (Pipeline.pin (pcfgs (F := F)) adm 0).spec c : sProp 𝕄) = BI.emp := scopedRest0_eq c
    rw [e, e']
    iintro ⟨HB, HS⟩
    isplitl [HB]; · iexact HB
    isplitl [HS]; · iexact HS
    iempintro
  hexit c := by
    unfold kernelPost
    iintro ⟨Ha, HO, HB, Hh⟩
    imodintro
    isplitl [Ha]; · iexact Ha
    isplitl [Hh]; · iexact Hh
    isplitl [HB]; · iexact HB
    iapply (owes_out m c); iexact HO

/-! ## Before it -/

/-- What a device keeps for the kernel, its semaphores there not yet opened. -/
def keep (c : Dev nD) : sProp 𝕄 :=
  iprop((∃ κ, waiting (dataOf m) κ c) ∗ ∃ W, owes (c : Thread nD τ) (due c) W)

/-- The constants written before the kernel. -/
def host0 : Pipeline.HostSeg (Ix := ℕ) (Name := ℕ) (U := UU) (Lvl := ℕ) (pcfgs (F := F)) defs₀ 𝒱₀ L lv :=
  Pipeline.HostSeg.ofOps (pcfgs (F := F)) defs₀ 𝒱₀ L lv S hostOps0
    (fun op h => Pipeline.sub_ucRefs op ((List.forall_iff_forall_mem.mp hostOps0_sub) op h))
    (fun op h => (List.forall_iff_forall_mem.mp hostOps0_fresh) op h) (V0 m) (keep m)

theorem to_kernel (c : Dev nD) : (host0 m).post c ⊢ (kernelSeg m).pre c := by
  have e : (host0 m).post c = iprop(StableHlo.held (c : Thread nD τ) S (W1 m c) ∗ keep m c) := rfl
  have e' : (kernelSeg m).pre c = kernelPre m c := rfl
  rw [e, e']
  unfold kernelPre keep
  exact BI.Entails.refl _

end Cert.RoutesIdeal.Exchange
end
-- ==== Proof.Routes.Launch.lean ====
/-
  The launch: the kernel's semaphores are put under the protocol, what the devices pay and wait with is dealt out, and every device gets
  what it enters the program with.
-/
module

public import proofs.«01_k».proof.Proof.Routes.Segments

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (D : Data F)

/-! ## Cells and tokens -/

theorem kindOf_osem_inl (j : Chunk) : kindOf (osem (.inl j)) = .snd j := kindOf_snd j
theorem kindOf_osem_inr (j : Chunk) : kindOf (osem (.inr j)) = .rcv j := kindOf_rcv j

theorem osem_ne_bar (x : Chunk ⊕ Chunk) : osem x ≠ .reg barS := by
  intro h
  cases x <;> exact nomatch h

theorem osem_inj : Function.Injective osem := by
  intro x y h
  have hk := congrArg kindOf h
  cases x <;> cases y
  · rw [kindOf_osem_inl, kindOf_osem_inl] at hk; rw [Kind.snd.inj hk]
  · rw [kindOf_osem_inl, kindOf_osem_inr] at hk; exact nomatch hk
  · rw [kindOf_osem_inr, kindOf_osem_inl] at hk; exact nomatch hk
  · rw [kindOf_osem_inr, kindOf_osem_inr] at hk; rw [Kind.rcv.inj hk]

theorem dev_of_cell {c d : Dev nD} {s t : SemLoc sig} (h : (((c : Thread nD τ), s) : GSem nD τ sig) = ((d : Thread nD τ), t)) : c = d :=
  congrArg (fun g : GSem nD τ sig => g.1.1) h

/-- The barriers, -/
def barEmb : Dev nD ↪ GSem nD τ sig := ⟨fun c => barCell c, fun _ _ h => dev_of_cell h⟩
/-- and the transfers' semaphores. -/
def cellEmb : Dev nD × (Chunk ⊕ Chunk) ↪ GSem nD τ sig :=
  ⟨fun x => ((x.1 : Thread nD τ), osem x.2), fun _ _ h => Prod.ext (dev_of_cell h) (osem_inj (congrArg Prod.snd h))⟩

abbrev barCells : Finset (GSem nD τ sig) := Finset.univ.map barEmb
abbrev chunkCells : Finset (GSem nD τ sig) := Finset.univ.map cellEmb

theorem cells_disjoint : Disjoint barCells chunkCells := by
  rw [Finset.disjoint_left]
  intro g h h'
  obtain ⟨c, -, rfl⟩ := Finset.mem_map.mp h
  obtain ⟨x, -, e⟩ := Finset.mem_map.mp h'
  exact osem_ne_bar x.2 (congrArg Prod.snd e)

/-- The cell of the duty that device `c` has at a barrier, at a departure, or at an arrival. -/
def dutyCell (c : Dev nD) : Dev nD ⊕ (Chunk ⊕ Chunk) → GSem nD τ sig
  | .inl p => barCell p
  | .inr (.inl j) => sndCell c j
  | .inr (.inr j) => rcvCell j c

theorem dutyCell_inj (c : Dev nD) : Function.Injective (dutyCell c) := by
  intro x y h
  have hk := congrArg (fun g : GSem nD τ sig => kindOf g.2) h
  have hd := congrArg (fun g : GSem nD τ sig => g.1.1) h
  rcases x with p | j | j <;> rcases y with p' | j' | j' <;> dsimp only [dutyCell] at hk hd <;>
    simp only [kindOf_bar, kindOf_snd, kindOf_rcv, Kind.snd.injEq, Kind.rcv.injEq, reduceCtorEq, Prod.mk.injEq, true_and] at hk
  · exact congrArg Sum.inl hd
  · rw [hk]
  · exact congrArg (fun j => Sum.inr (Sum.inr j)) hd

/-- Every duty's token. -/
def tokens : Finset (GSem nD τ sig × ℕ × Dev nD) :=
  Finset.univ.map ⟨fun x : Dev nD × (Dev nD ⊕ (Chunk ⊕ Chunk)) => (dutyCell x.1 x.2, 0, x.1), fun x y h => by
    have h1 : x.1 = y.1 := congrArg (fun t : GSem nD τ sig × ℕ × Dev nD => t.2.2) h
    have h2 : dutyCell x.1 x.2 = dutyCell y.1 y.2 := congrArg (fun t : GSem nD τ sig × ℕ × Dev nD => t.1) h
    rw [← h1] at h2
    exact Prod.ext h1 (dutyCell_inj x.1 h2)⟩

theorem tokens_eq : bigSep tokens (fun t => (dutyTok ER t.1 t.2.1 t.2.2 : sProp 𝕄)) = bigSep Finset.univ fun c : Dev nD => duties c := by
  unfold tokens; rw [bigSep_map, bigSep_univ_prod]
  refine bigSep_congr fun c _ => ?_
  rw [bigSep_univ_sum, bigSep_univ_sum]
  rfl

/-! ## The credits -/

theorem barDue_apply (d : Dev nD) (g : GSem nD τ sig) (i : ℕ) :
    barDue d 0 g i = ∑ p : Dev nD, if d ≠ p ∧ g = barCell p ∧ i = ιB then 1 else 0 := by
  unfold barDue
  rw [Finset.sum_apply, Finsupp.finset_sum_apply]
  refine Finset.sum_congr rfl fun p _ => ?_
  rw [if_neg (Nat.not_lt_zero _)]
  by_cases h : d ≠ p
  · rw [if_pos h, tallyAt_apply]; simp only [h, ne_eq, not_false_eq_true, true_and]
  · rw [if_neg h, if_neg fun h' => h h'.1]; rfl

theorem rowDue_apply (d : Dev nD) (g : GSem nD τ sig) (i : ℕ) :
    rowDue d 0 g i = ∑ j : Chunk, if sends d j ∧ g = rcvCell j d ∧ i = ιC then N else 0 := by
  unfold rowDue
  rw [Finset.sum_apply, Finsupp.finset_sum_apply]
  refine Finset.sum_congr rfl fun j _ => ?_
  rw [if_neg (Nat.not_lt_zero _)]
  by_cases h : sends d j
  · rw [if_pos h, tallyAt_apply]; simp only [h, true_and]
  · rw [if_neg h, if_neg fun h' => h h'.1]; rfl

theorem rcv_ne_bar (c d : Dev nD) (j : Chunk) : rcvCell c j ≠ barCell d := fun h => nomatch congrArg Prod.snd h

theorem rcv_cell_inj {c d : Dev nD} {j k : Chunk} (h : rcvCell c j = rcvCell d k) : c = d ∧ j = k := by
  have hk := congrArg (fun g : GSem nD τ sig => kindOf g.2) h
  dsimp only at hk
  rw [kindOf_rcv, kindOf_rcv] at hk
  exact ⟨dev_of_cell h, Kind.rcv.inj hk⟩

/-- What a device owes a barrier: one entry, if it is another's. -/
theorem due_bar (d c : Dev nD) (i : ℕ) : due d (barCell c) i = if d ≠ c ∧ i = ιB then 1 else 0 := by
  have e : due d (barCell c) i = barDue d 0 (barCell c) i + rowDue d 0 (barCell c) i := rfl
  rw [e, barDue_apply, rowDue_apply, Finset.sum_eq_zero (s := (Finset.univ : Finset Chunk)) (f := fun j => if sends d j ∧ barCell c = rcvCell j d ∧ i = ιC then N else 0) fun j _ => if_neg fun h => rcv_ne_bar _ _ _ h.2.1.symm,
    add_zero, Finset.sum_eq_single c (fun p _ hp => if_neg fun h => hp (dev_of_cell h.2.1).symm) (fun h => absurd (Finset.mem_univ c) h)]
  simp only [true_and]

/-- What a device owes an arrival cell: a transfer, if it is the one to make it. -/
theorem due_rcv (d c : Dev nD) (j : Chunk) (i : ℕ) : due d (rcvCell c j) i = if d = j ∧ gets c j ∧ i = ιC then N else 0 := by
  have e : due d (rcvCell c j) i = barDue d 0 (rcvCell c j) i + rowDue d 0 (rcvCell c j) i := rfl
  rw [e, barDue_apply, rowDue_apply, Finset.sum_eq_zero (s := (Finset.univ : Finset (Dev nD))) fun p _ => if_neg fun h => rcv_ne_bar _ _ _ h.2.1,
    zero_add, Finset.sum_eq_single (c : Chunk)
      (fun k _ hk => if_neg fun h => by
        obtain ⟨h1, -⟩ := rcv_cell_inj h.2.1
        exact hk h1.symm)
      (fun h => absurd (Finset.mem_univ _) h)]
  by_cases hd : d = j
  · subst hd
    simp only [true_and]
  · rw [if_neg fun h => hd (rcv_cell_inj h.2.1).2.symm, if_neg fun h => hd h.1]

theorem launch_bar (c : Dev nD) :
    tallyOn (barCell c) (launchCredit (Pipeline.owing (due)) 0 (barCell c)) = (tallyAt (barCell c) ιB 7 : CellTallies nD τ sig ℕ) := by
  unfold tallyAt
  refine congrArg _ (Finsupp.ext fun i => ?_)
  rw [Pipeline.launchCredit_owing, Finset.sum_congr rfl fun d _ => due_bar d c i, Finsupp.single_apply]
  by_cases h : i = ιB
  · subst h
    simp only [and_true, if_true]
    revert c; decide
  · rw [if_neg fun e => h e.symm]
    exact Finset.sum_eq_zero fun d _ => if_neg fun e => h e.2

theorem launch_rcv (c : Dev nD) (j : Chunk) (hg : gets c j) :
    tallyOn (rcvCell c j) (launchCredit (Pipeline.owing (due)) 0 (rcvCell c j)) = (tallyAt (rcvCell c j) ιC N : CellTallies nD τ sig ℕ) := by
  unfold tallyAt
  refine congrArg _ (Finsupp.ext fun i => ?_)
  rw [Pipeline.launchCredit_owing, Finset.sum_congr rfl fun d _ => due_rcv d c j i, Finsupp.single_apply]
  by_cases h : i = ιC
  · subst h
    simp only [hg, and_true, if_true]
    exact Finset.sum_ite_eq' Finset.univ j _ |>.trans (if_pos (Finset.mem_univ _))
  · rw [if_neg fun e => h e.symm]
    exact Finset.sum_eq_zero fun d _ => if_neg fun e => h e.2.2

/-- The arrival semaphores. -/
def rcvEmb : Chunk ↪ SemLoc sig := ⟨fun j => .dma (rcvS j), fun x y h => Sum.inr_injective (osem_inj (a₁ := .inr x) (a₂ := .inr y) h)⟩

theorem credits_dealt (c : Dev nD) : (Pipeline.launchCred (due) c : sProp 𝕄) ⊢ credits c := by
  unfold Pipeline.launchCred credits
  rw [bigSep_univ_at _ (SemLoc.reg barS), launch_bar]
  refine sep_mono_right ?_
  have hs : Finset.univ.map rcvEmb ⊆ (Finset.univ : Finset (SemLoc sig)).erase (SemLoc.reg barS) := fun s hs => by
    obtain ⟨j, -, rfl⟩ := Finset.mem_map.mp hs
    exact Finset.mem_erase.mpr ⟨(fun h => nomatch h), Finset.mem_univ _⟩
  refine (bigSep_subset hs).trans ?_
  rw [bigSep_map]
  refine bigSep_mono fun j _ => ?_
  show cred (tallyOn (rcvCell c j) (launchCredit (Pipeline.owing (due)) 0 (rcvCell c j))) ⊢ _
  by_cases hg : gets c j
  · rw [whenP_pos hg, launch_rcv c j hg]
  · rw [whenP_neg hg]
    iintro -; iempintro

/-! ## The launch -/

/-- A device's unscoped semaphore: the kernel's barrier. -/
theorem sems_eq (c : Dev nD) : (unscopedSems0 c : sProp 𝕄) = semVal (barCell c) 0 := by
  unfold unscopedSems0
  rw [bigSep_eq_bigSepL_of_eq [SemLoc.reg barS] (by decide) (by decide)]
  rfl

/-- What the launch provides of the protocol's algebra. -/
def dealt : sProp 𝕄 := BI.own (ER (launchOf barCells chunkCells tokens))

/-- A device's own part of the kernel's protocol. -/
def share (c : Dev nD) : sProp 𝕄 :=
  iprop(atPos ER (barCell c) 0 ∅ 0 ∗ duties c
    ∗ (bigSep Finset.univ fun j : Chunk => openTok ER (sndCell c j)) ∗ (bigSep Finset.univ fun j : Chunk => openTok ER (rcvCell c j)))

/-- The kernel's protocol, put up. -/
theorem set_up {Es : Set ℕ} :
    iprop((bigSep Finset.univ fun c : Dev nD => semVal (barCell c) 0) ∗ BI.own (ER (launchOf barCells chunkCells tokens)))
      ⊢ (|={Es}=> ∃ κ, records D κ ∗ bigSep Finset.univ fun c : Dev nD => share c : sProp 𝕄) :=
  set_up_cells ER (sched D) barEmb cellEmb cells_disjoint (fun _ _ h => h) tokens duties tokens_eq

/-- A device's unscoped buffers. -/
theorem bufs_eq (c : Dev nD) : (unscopedBufs c (fun b => m ((c : Thread nD τ).loc b)) : sProp 𝕄) = StableHlo.held (c : Thread nD τ) S (V0 m c) :=
  Pipeline.unscopedBufs_held (Ix := ℕ) (Name := ℕ) (U := UU) (Lvl := ℕ) c (V0 m c)

variable (ρ : Dev nD → PrngReg)

/-- What the launch leaves with a device. -/
def bundle (c : Dev nD) : sProp 𝕄 :=
  iprop(StableHlo.held (c : Thread nD τ) S (V0 m c) ∗ owes (c : Thread nD τ) (due c) ∅ ∗ credits c)

/-- What a device enters the program with. -/
theorem enter_main (κ : GSem nD τ sig → ℕ) (c : Dev nD) :
    iprop(records (dataOf m) κ ∗ (share c ∗ bundle m c)) ⊢ (host0 m).pre c := by
  have e : (host0 m).pre c = iprop(StableHlo.held (c : Thread nD τ) S (V0 m c) ∗ keep m c) := rfl
  rw [e]
  unfold keep waiting share bundle
  iintro ⟨#HR, ⟨Ha, Hd, Ho1, Ho2⟩, Hh, HO, Hc⟩
  isplitl [Hh]; · iexact Hh
  isplitr [HO]; swap; · iexists ∅; iexact HO
  iexists κ
  isplitr; · iexact HR
  isplitl [Ha]; · iexact Ha
  isplitl [Hd]; · iexact Hd
  isplitl [Hc]; · iexact Hc
  isplitl [Ho1] <;> iassumption

theorem core_split (c : Dev nD) :
    iprop(unscopedBufs c (fun b => m ((c : Thread nD τ).loc b)) ∗ unscopedSems0 c
        ∗ owes (c : Thread nD τ) (due c) ∅ ∗ Pipeline.launchCred due c ∗ prngReg c (ρ c) ∗ parked dealt c)
      ⊢ (iprop(semVal (barCell c) 0 ∗ parked dealt c ∗ bundle m c) : sProp 𝕄) := by
  rw [sems_eq, bufs_eq]
  unfold bundle
  iintro ⟨Hh, HB, HO, Hd, -, HG⟩
  isplitl [HB]; · iexact HB
  isplitl [HG]; · iexact HG
  isplitl [Hh]; · iexact Hh
  isplitl [HO]; · iexact HO
  iapply (credits_dealt c); iexact Hd

/-- What the launch deals the devices becomes what they enter the program with. -/
theorem init :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ parked dealt c)) ∗ levAts L lv)
      ⊢ (|={Set.univ}=> bigSep Finset.univ fun c => (host0 m).pre c : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ parked dealt c))
      ⊢ (bigSep Finset.univ fun c : Dev nD => iprop(semVal (barCell c) 0 ∗ parked dealt c ∗ bundle m c) : sProp 𝕄)
    from bigSep_mono fun c _ => core_split m ρ c) $$ H
  ihave H := pair_off $$ H; icases H with ⟨Hv, H⟩
  ihave H := pair_off $$ H; icases H with ⟨HG, HB⟩
  ihave HG := (Entails.of_eq (parked_eq dealt)) $$ HG
  unfold dealt
  imod (set_up (dataOf m) (Es := Set.univ)) $$ [Hv HG] with ⟨%κ, #HR, Hsh⟩
  · isplitl [Hv] <;> iassumption
  imodintro
  iapply (bigSep_with_persistent (R := records (dataOf m) κ) (Φ := fun c => iprop(share c ∗ bundle m c)) fun c _ => enter_main m κ c)
  isplitr; · iexact HR
  iapply pair_up
  isplitl [Hsh] <;> iassumption

end Cert.RoutesIdeal.Exchange
end
-- ==== Proof.Routes.Run.lean ====
/-
  The run: from any memory, the program terminates on every device, its argument unchanged and every semaphore at zero, and every device's
  result holds the routes of all devices.
-/
module

public import proofs.«01_k».proof.Proof.Routes.Launch
public import Idealize.ShloMosaic.Lib.Pipeline.CollectiveSegs
public import Idealize.ShloMosaic.Lib.Pipeline.ArrRel
public import Idealize.ShloMosaic.Lib.Quiescent

@[expose] public section

noncomputable section

namespace Cert.RoutesIdeal.Exchange

open Cert.RoutesIdeal Cert.RoutesIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-- The program's items, in order. -/
def items : List (Pipeline.RDat.Seg (pcfgs (F := F)) adm (rdats m) 0 defs₀ 𝒱₀ L lv) :=
  [.host (host0 m), .region (kernelSeg m)]

/-- What a device holds at the end. -/
def atEnd (c : Dev nD) : sProp 𝕄 :=
  iprop((rdats m 0 c).arraysAt (Pipeline.pin (pcfgs (F := F)) adm 0).N
    ∗ StableHlo.held (c : Thread nD τ) (S \ Pipeline.arrRefs spec0) (W1 m c) ∗ semVal (barCell c) 0)

/-- What a device's part of the memory is at the end. -/
def Ends (c : Dev nD) (s : MemSt nD τ sig (Elt F)) : Prop :=
  (∀ w, (rdats m 0 c).ArrAt w (Pipeline.pin (pcfgs (F := F)) adm 0).N (s.mem ((spec0 w).arr.view.loc (c : Thread nD τ))))
    ∧ (∀ b ∈ S \ Pipeline.arrRefs spec0, s.mem ((c : Dev nD), b) = W1 m c b)
    ∧ ∀ sm : SemLoc sig, sm.isScoped .tc = false → s.sem ((c : Thread nD τ), sm) = 0

/-- The unscoped semaphore is back at zero. -/
theorem sems_back (c : Dev nD) : semVal (barCell c) 0 ⊢ (|={Set.univ}=> unscopedSems0 c : sProp 𝕄) := by
  rw [sems_eq]
  exact fupd_intro

theorem arrays_read (c : Dev nD) (s' : Phys nD τ sig (Elt F)) : iprop(atEnd m c ∗ SI s')
    ⊢ (⌜∀ w, (rdats m 0 c).ArrAt w (Pipeline.pin (pcfgs (F := F)) adm 0).N (s'.mem.mem ((spec0 w).arr.view.loc (c : Thread nD τ)))⌝ : sProp 𝕄) := by
  have h := Pipeline.RDat.arraysAt_read (pcfgs (F := F)) adm (rdats m) 0 c arr_whole0 (Pipeline.pin (pcfgs (F := F)) adm 0).N s'
  unfold atEnd
  iintro ⟨⟨Ha, -⟩, HSI⟩
  ihave H := h $$ [Ha HSI]
  · isplitl [Ha] <;> iassumption
  icases H with ⟨%hp, -⟩
  ipureintro; exact hp

theorem held_read (c : Dev nD) (s' : Phys nD τ sig (Elt F)) : iprop(atEnd m c ∗ SI s')
    ⊢ (⌜∀ b ∈ S \ Pipeline.arrRefs spec0, s'.mem.mem ((c : Dev nD), b) = W1 m c b⌝ : sProp 𝕄) := by
  have h : iprop(SI s' ∗ StableHlo.held (c : Thread nD τ) (S \ Pipeline.arrRefs spec0) (W1 m c))
      ⊢ (⌜∀ b ∈ S \ Pipeline.arrRefs spec0, s'.mem.mem ((c : Dev nD), b) = W1 m c b⌝ : sProp 𝕄) :=
    SI_pointsTo_bufs_agree (qs := fun _ => fullShare) (S \ Pipeline.arrRefs spec0)
  unfold atEnd
  iintro ⟨⟨-, Hh, -⟩, HSI⟩
  iapply h
  isplitl [HSI] <;> iassumption

theorem end_read (c : Dev nD) (s' : Phys nD τ sig (Elt F)) : iprop(atEnd m c ∗ SI s') ⊢ |={Set.univ}=> iprop(⌜Ends m c s'.mem⌝ ∗ SI s') := by
  refine Laws.pure_elim _ (arrays_read m c s') fun h1 => ?_
  refine Laws.pure_elim _ (held_read m c s') fun h2 => ?_
  have h := Pipeline.unscopedSems0_read (sems_back c) s'
  unfold atEnd
  iintro ⟨⟨-, -, Hs⟩, HSI⟩
  imod h $$ [Hs HSI] with ⟨%h3, HSI⟩
  · isplitl [Hs] <;> iassumption
  imodintro
  isplitr; · ipureintro; exact ⟨h1, h2, h3⟩
  iexact HSI

theorem whole4 : (cfg0.win 4).WholeAt t0_0 := by decide +kernel

/-- The result's array. -/
theorem result_end (c : Dev nD) (s : MemSt nD τ sig (Elt F)) (h : Ends m c s) :
    s.mem ((c : Thread nD τ).loc main_v3) = result (dataOf m) := by
  obtain ⟨X, ⟨Y, -, hX⟩, hG⟩ := Pipeline.RDat.ArrAt.emb_eq_of_wholeAt (h.1 4) (t₀ := t0_0) whole4
  have hX : X = result (dataOf m) := hX
  have e : s.mem ((c : Thread nD τ).loc main_v3) = X := funext fun j => hG j
  rw [e]; exact hX

/-- The argument is as launched. -/
theorem args_end (c : Dev nD) (s : MemSt nD τ sig (Elt F)) (h : Ends m c s) :
    s.mem ((c : Thread nD τ).loc main_arg0) = m ((c : Thread nD τ).loc main_arg0) := by
  have h3 := h.1 3
  rw [Pipeline.RDat.ArrAt_in (rdats m 0 c) 3 rfl] at h3
  exact h3.trans (V_main_arg0 m c)

set_option backward.isDefEq.respectTransparency.types false in
theorem run_main :
    θ_run (defs (F := F)) (onTc (τ := τ) (main (F := F))) ⟨m, fun _ => 0, ρ⟩ fun r =>
      (∀ c : Dev nD, r.2.mem ((c : Thread nD τ).loc main_v3) = result (dataOf m)
        ∧ r.2.mem ((c : Thread nD τ).loc main_arg0) = m ((c : Thread nD τ).loc main_arg0))
      ∧ r.2.sem = fun _ => 0 :=
  Pipeline.RDat.θ_run_regions_kit_sems (pcfgs (F := F)) adm (rdats m) 0 cellOf_inj EP defs₀ 𝒱₀ L lv m ρ main (items m)
    (fun c Q => by
      rewrite [main_chain c, Pipeline.RDat.Seg.run_eq_chain,
        show (items m).map Pipeline.RDat.Seg.prog = [
          StableHlo.seq hostOps0,
          Prog.lift (.customCall (Pipeline.entry 0) ()) ] from rfl]
      exact .rfl)
    (by simp only [items, Pipeline.RDat.Seg.pipes_host, Pipeline.RDat.Seg.pipes_region, Pipeline.RDat.Seg.pipes_nil]; decide)
    (O₀ := due) (hL := L_of_ne) (G := parked dealt)
    (u₀ := (initOf (Pipeline.cells (Pipeline.pin (pcfgs (F := F)) adm) cellOf_inj) (Pipeline.launchToks (Pipeline.pin (pcfgs (F := F)) adm) cellOf_inj),
      launchOf barCells chunkCells tokens))
    (hu₀ := by
      iintro Hu
      ihave H := (ownU_pair _ _) $$ Hu
      icases H with ⟨HP, HX⟩
      imodintro
      isplitl [HP]; · iexact HP
      rw [parked_eq]; unfold dealt ER
      iexact HX)
    (T₀ := fun c => (host0 m).pre c) (Tₙ := atEnd m)
    (hch := ⟨fun c => .rfl, fun c => to_kernel m c, fun c => by
      have e : (kernelSeg m).post c = kernelPost m c := rfl
      show (kernelSeg m).post c ⊢ _
      rw [e]; unfold kernelPost atEnd
      iintro ⟨Ha, Hh, HB, HO⟩
      isplitr [HO]; swap; · iexact HO
      isplitl [Ha]; · iexact Ha
      isplitl [Hh] <;> iassumption⟩)
    (hinit := init m ρ)
    (QY := Ends m)
    (hfin := fun c s' => end_read m c s')
    (hQ := fun s h hs => ⟨fun c => ⟨result_end m c s (h c), args_end m c s (h c)⟩, sem_eq_zero hs fun c => (h c).2.2⟩)

end Cert.RoutesIdeal.Exchange
end
-- ==== Proof.Routes.Value.lean ====
/-
  What the exchange of the routes leaves with every device, as an array of the mesh: the routes of all devices, a block of two rows from each.
-/
module

public import proofs.«01_k».proof.Proof.Routes.Run
public import Idealize.ShloMosaic.Lib.Layout
public import Idealize.ShloMosaic.Lib.ValueLayout

@[expose] public section

noncomputable section

namespace Cert.RoutesIdeal.Exchange

open Cert.RoutesIdeal Cert.RoutesIdeal.Gen
open Idealize.ShloMosaic Idealize.ShloMosaic.TcCoe Idealize.ShloMosaic.ValueIdx

variable {F : FTy → Type} [FloatOps F]

/-- A device's two rows are rows `2 * c` and `2 * c + 1` of the mesh's sixteen. -/
theorem block_rows {α : Type} (c : Fin 8) (v : (⟨3, ![16, 8, 128]⟩ : Shape).Idx → α) (r : Fin 2) (a : Fin 8) (b : Fin 128) :
    Layout.block ⟨3, ![2, 8, 128]⟩ ⟨3, ![16, 8, 128]⟩ 0 8 c v (by decide) (ix3 r a b) = v (ix3 ⟨2 * c.val + r.val, by omega⟩ a b) := by
  refine congrArg v (funext fun e => Fin.ext ?_)
  match e with
  | ⟨0, _⟩ => show c.val * 2 + r.val = 2 * c.val + r.val; omega
  | ⟨1, _⟩ => rfl
  | ⟨2, _⟩ => rfl

/-- EVERY DEVICE'S RESULT is the mesh's array, read as eight blocks of two rows. -/
theorem result_whole (D : Data F) (x : IVec ⟨3, ![16, 8, 128]⟩ 32)
    (hD : ∀ c : Fin 8, D c = Layout.block ⟨3, ![2, 8, 128]⟩ ⟨3, ![16, 8, 128]⟩ 0 8 c x (by decide))
    (h : (⟨3, ![16, 8, 128]⟩ : Shape).ShapeCasts S8x2x8x128) : result D = shapeCast S8x2x8x128 x h := by
  funext i
  obtain ⟨s, r, a, b, rfl⟩ : ∃ (s : Fin 8) (r : Fin 2) (a : Fin 8) (b : Fin 128), i = ix4 s r a b :=
    ⟨i 0, i 1, i 2, i 3, eq_ix4 i⟩
  have e : result D (ix4 s r a b) = x (ix3 ⟨2 * s.val + r.val, by omega⟩ a b) := (congrFun (hD s) (ix3 r a b)).trans (block_rows s x r a b)
  rw [e]
  refine (shapeCast_apply x h _ (ix3 ⟨2 * s.val + r.val, by omega⟩ a b) ?_).symm
  rw [Shape.rowMajor_val_three, Shape.rowMajor_val_four]
  show ((2 * s.val + r.val) * 8 + a.val) * 128 + b.val = ((s.val * 2 + r.val) * 8 + a.val) * 128 + b.val
  omega

end Cert.RoutesIdeal.Exchange

end
-- ==== Proof.SameRoutes.lean ====
/-
  The program and the ideal program are one text: no operation of it was replaced. So a run of one, at any floats, is a run
  of the other.
-/
module

public import proofs.«01_k».proof.Routes
public import proofs.«01_k».proof.RoutesIdeal

@[expose] public section

noncomputable section

namespace Cert.Routes.Exchange

open Idealize.ShloMosaic Idealize.ShloMosaic.TcCoe Idealize.SL.Sem

variable {F : FTy → Type} [FloatOps F] [Cert.Routes.Facts] [Cert.RoutesIdeal.Facts]

set_option maxHeartbeats 4000000 in
/-- The kernel's function is the same, -/
theorem body_eq : Cert.Routes.cc0_body (F := F) = Cert.RoutesIdeal.cc0_body (F := F) := rfl

attribute [local irreducible] Cert.Routes.cc0_body Cert.RoutesIdeal.cc0_body in
/-- and the table that calls it at the staging buffers, -/
theorem defs₀_eq : Cert.Routes.defs₀ (F := F) = Cert.RoutesIdeal.defs₀ (F := F) := by
  refine congrArg Defs.onTc ?_
  funext l a
  match l with
  | 0 =>
    obtain ⟨t, s⟩ := a
    exact congrFun (congrFun (congrFun (congrFun (congrFun (congrFun (congrFun (congrFun (congrFun (congrFun (congrFun (congrFun
      (body_eq (F := F)) _) _) _) _) _) _) _) _) _) _) _) _

/-- and its pipeline's; -/
theorem defs_eq : Cert.Routes.defs (F := F) = Cert.RoutesIdeal.defs (F := F) :=
  congrArg (Pipeline.defs (Cert.Routes.pcfgs (F := F))) (defs₀_eq (F := F))

/-- and so are the operations around the call. -/
theorem main_eq : Cert.Routes.main (F := F) = Cert.RoutesIdeal.main (F := F) := rfl

/-- A property of the ideal program's runs is one of the program's runs. -/
theorem θ_run_of (s : MemSt Cert.Routes.nD Cert.Routes.τ Cert.Routes.sig (Elt F))
    (Q : (Unit × MemSt Cert.Routes.nD Cert.Routes.τ Cert.Routes.sig (Elt F)) → Prop)
    (h : θ_run (Cert.RoutesIdeal.defs (F := F)) (onTc (τ := Cert.RoutesIdeal.τ) (Cert.RoutesIdeal.main (F := F))) s Q) :
    θ_run (Cert.Routes.defs (F := F)) (onTc (τ := Cert.Routes.τ) (Cert.Routes.main (F := F))) s Q := by
  rw [defs_eq, main_eq]
  exact h

end Cert.Routes.Exchange
-- ==== Proof.Product.lean ====
/-
  The expert product: point `e` of the grid writes rows 256 e … 256 e + 255 of the result, the product of those rows of the
  input by matrix `e`. The reference multiplies the stack of the eight blocks of rows by the stack of the matrices.
-/
module

public import proofs.«01_k».proof.Proof.Gen.ExpertsIdeal.Value
public import proofs.«01_k».proof.Proof.Gen.ProductIdeal.Run
public import Idealize.ShloMosaic.Lib.Pipeline.ValueKit
public import Idealize.ShloMosaic.Lib.StackMember
public import Idealize.ShloMosaic.Lib.MatmulPlain
public import Idealize.ShloMosaic.Lib.ValueIdxCore

@[expose] public section

noncomputable section

namespace Cert.Product

open Idealize.ShloMosaic hiding ix1 ix2 ix3 eq_ix2 eq_ix3
open Idealize.ShloMosaic.TcCoe Idealize.ShloMosaic.ValueIdx Idealize.SL.Sem
open Cert.ExpertsIdeal Cert.ExpertsIdeal.Gen

/-- Row `i` of the input times the matrix of the row's block of 256. -/
def rows (x : (⟨2, ![2048, 1024]⟩ : Shape).Idx → EReal) (w : (⟨3, ![8, 1024, 1024]⟩ : Shape).Idx → EReal) :
    (⟨2, ![2048, 1024]⟩ : Shape).Idx → EReal :=
  fun i => ∑ k : Fin 1024, x (ix2 (i 0) k) * w (ix3 (⟨(i 0).val / 256, Nat.div_lt_of_lt_mul (i 0).isLt⟩ : Fin 8) k (i 1))

/-- What a point stores, at an index of its block. -/
theorem pay_apply (x : Vec Ideal S256x1024 .f32) (w : Vec Ideal S1x1024x1024 .f32) (a : Fin 256) (b : Fin 1024) :
    k0_pay1 x w (ix2 a b) = ∑ k : Fin 1024, x (ix2 a k) * w (ix3 (0 : Fin 1) k b) := by
  unfold k0_pay1
  refine (Ideal.matmul_plain_apply (M := 256) (K := 1024) (N := 1024) none x _ _ a b).trans ?_
  have h0 : (constant S256x1024 .f32 0x00000000#32 : FVec Ideal S256x1024 .f32) (ix2 a b) = 0 := Ideal.ofBits_zero_f32
  rw [h0, zero_add]
  refine Finset.sum_congr rfl fun k _ => congrArg (x (ix2 a k) * ·) ?_
  refine shapeCast_apply w _ (ix2 k b) (ix3 (0 : Fin 1) k b) ?_
  rw [Shape.rowMajor_val_three, Shape.rowMajor_val_two]
  show (0 * 1024 + k.val) * 1024 + b.val = k.val * 1024 + b.val
  omega

variable (m : (ℓ : Loc nD τ sig) → Buf (Elt Ideal) ℓ)

/-- Point `t` reads block `t` of each array and writes block `t` of the result. -/
theorem index0 : ∀ t : Fin cfg0.N, win0_0.index t = ![t.val, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0] := (by decide +kernel : ∀ t : Fin grid0.N, _)

theorem final (c : Dev nD) : (dats (F := Ideal) m 0 c).arrAt 2 cfg0.N
    = rows (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 256) (b : Fin 1024), y = ix2 a b := ⟨y 0, y 1, eq_ix2 y⟩
  have ht : t.val < 8 := t.isLt
  have e0 : (((win0_2.blk t).view.emb (ix2 a b) 0 : Fin _) : Nat) = t.val * 256 + a.val := by
    blk_simp [index2]; rfl
  have e1 : (((win0_2.blk t).view.emb (ix2 a b) 1 : Fin _) : Nat) = b.val := by
    blk_simp [index2]; rfl
  refine (pay_apply _ _ a b).trans (Eq.symm (Finset.sum_congr rfl fun k _ => ?_))
  refine congrArg₂ (· * ·) ?_ ?_
  · blk_simp [iblk]
    show m ((c : Thread nD τ).loc main_arg0) _ = m ((c : Thread nD τ).loc main_arg0) _
    refine congrArg _ (funext fun d => Fin.ext ?_)
    match d with
    | ⟨0, _⟩ => refine e0.trans ?_; blk_simp [index0]
    | ⟨1, _⟩ => blk_simp [index0]
  · blk_simp [iblk]
    show m ((c : Thread nD τ).loc main_arg1) _ = m ((c : Thread nD τ).loc main_arg1) _
    refine congrArg _ (funext fun d => Fin.ext ?_)
    match d with
    | ⟨0, _⟩ =>
      have e2 : (((win0_1.blk t).view.emb (ix3 (0 : Fin 1) k b) 0 : Fin _) : Nat) = t.val := by
        blk_simp [index1]
      refine Eq.trans ?_ e2.symm
      show (win0_2.index t 0 * 256 + a.val) / 256 = t.val
      rw [index2]
      have ha := a.isLt
      show (t.val * 256 + a.val) / 256 = t.val
      omega
    | ⟨1, _⟩ => blk_simp [index1]
    | ⟨2, _⟩ => refine e1.trans ?_; blk_simp [index1]

/-- The reference's term is the same function. -/
theorem reference_eq (x : FVec Ideal S2048x1024 .f32) (w : FVec Ideal S8x1024x1024 .f32) :
    shapeCast (α := Ideal .f32) ⟨2, ![2048, 1024]⟩ (Host.dotGeneral (F := Ideal) (φ₁ := .f32) (φ₂ := .f32) Cert.ProductIdeal.dot_S8x256x1024_S8x1024x1024_S8x256x1024_2_1_1_2_0_0 none
      (shapeCast (α := Ideal .f32) _ x Cert.ProductIdeal.Facts₀.shapeCasts_S2048x1024_S8x256x1024) w) Cert.ProductIdeal.Facts₀.shapeCasts_S8x256x1024_S2048x1024 = rows x w := by
  funext i
  obtain ⟨a, b, rfl⟩ : ∃ (a : Fin 2048) (b : Fin 1024), i = ix2 a b := ⟨i 0, i 1, eq_ix2 i⟩
  have ha := a.isLt
  set g : Fin 8 := ⟨a.val / 256, Nat.div_lt_of_lt_mul a.isLt⟩ with hg
  refine (shapeCast_apply _ _ (ix2 a b) (ix3 g (⟨a.val % 256, Nat.mod_lt _ (by decide)⟩ : Fin 256) b) ?_).trans ?_
  · rw [Shape.rowMajor_val_three, Shape.rowMajor_val_two]
    show (a.val / 256 * 256 + a.val % 256) * 1024 + b.val = a.val * 1024 + b.val
    omega
  refine (StackMember.dotGeneral_stack_apply _ none _ w g _ b).trans ?_
  refine Finset.sum_congr rfl fun k _ => congrArg (· * w (ix3 g k b)) ?_
  refine shapeCast_apply x _ (ix3 g _ k) (ix2 a k) ?_
  rw [Shape.rowMajor_val_three, Shape.rowMajor_val_two]
  show a.val * 1024 + k.val = (a.val / 256 * 256 + a.val % 256) * 1024 + k.val
  omega

end Cert.Product

end
-- ==== Proof.Picked.lean ====
/-
  The row gather: trip `i` of its loop copies to row `i` of the result the row of the input that index `i` names. Under the
  precondition every index names one of the 3072 rows. The reference is the indexing of the array by the array of indices.
-/
module

public import proofs.«01_k».proof.Proof.Gen.Gather.Frame
public import proofs.«01_k».proof.Proof.Gen.GatherIdeal.Value
public import proofs.«01_k».proof.Proof.Gen.PickedIdeal.Run
public import proofs.«01_k».proof.Proof.Gen.Pre_in_rows
public import proofs.«01_k».proof.Proof.Mask
public import Idealize.ShloMosaic.Lib.Pipeline.ValueKit
public import Idealize.ShloMosaic.Lib.WholeRead
public import Idealize.ShloMosaic.Lib.ValueIdxCore

@[expose] public section

noncomputable section

namespace Cert.Picked

open Idealize.ShloMosaic hiding ix1 ix2 ix3 eq_ix2 eq_ix3
open Idealize.ShloMosaic.TcCoe Idealize.ShloMosaic.ValueIdx Idealize.SL.Sem

variable {F : FTy → Type} [FloatOps F]

/-- Row `i` of the result: the row of `x` that index `i` names. -/
def rows {α : Type} (x : (⟨3, ![3072, 8, 128]⟩ : Shape).Idx → α) (idx : IVec ⟨1, ![2048]⟩ 32) :
    (⟨3, ![2048, 8, 128]⟩ : Shape).Idx → α :=
  fun y => x (ix3 ⟨min (idx (ix1 (y 0))).toInt.toNat 3071, by omega⟩ (y 1) (y 2))

/-- A word between 0 and 3072, read signed, is below 3072 read unsigned. -/
theorem lt_of_between (v : BitVec 32) (h : IntOp.andi (IntOp.cmpi .sge v 0#32) (IntOp.cmpi .slt v 3072#32) = 1#1) :
    v.toNat < 3072 := by
  obtain ⟨h1, h2⟩ := Cert.Exchange.both_of_andi _ _ h
  replace h1 : (0#32 : BitVec 32).sle v = true := h1
  replace h2 : v.slt 3072#32 = true := h2
  rw [BitVec.sle_eq_decide, decide_eq_true_eq] at h1
  rw [BitVec.slt_eq_decide, decide_eq_true_eq] at h2
  have e1 : (0#32 : BitVec 32).toInt = 0 := rfl
  have e2 : (3072#32 : BitVec 32).toInt = 3072 := rfl
  rw [e1] at h1
  rw [e2] at h2
  have := v.isLt
  rw [BitVec.toInt_eq_toNat_cond] at h1 h2
  split at h1 <;> omega

/-- The precondition, of one index. -/
theorem in_rows_apply (x : FVec F ⟨3, ![3072, 8, 128]⟩ .f32) (idx : IVec ⟨1, ![2048]⟩ 32)
    (h : Cert.Pre_in_rows.fn (F := F) x idx = fun _ => 1#1) (i : (⟨1, ![2048]⟩ : Shape).Idx) : (idx i).toNat < 3072 :=
  lt_of_between _ (congrFun h i)

/-- The loop's check of an index: the row it names lies within the input. -/
theorem check_of_lt (v : BitVec 32) (h : v.toNat < 3072) : Cert.GatherIdeal.k0_chk1 v := by
  intro a
  match a with
  | ⟨0, _⟩ => show v.toNat + 1 ≤ 3072; omega
  | ⟨1, _⟩ => show 0 + 8 ≤ 8; omega
  | ⟨2, _⟩ => show 0 + 128 ≤ 128; omega

theorem hyps (m : (ℓ : Loc Cert.Gather.nD Cert.Gather.τ Cert.Gather.sig) → Buf (Elt F) ℓ)
    (h : ∀ (c : Dev Cert.Gather.nD) i, (m ((c.tc : Thread Cert.Gather.nD Cert.Gather.τ).loc Cert.Gather.main_arg1) i).toNat < 3072) :
    Cert.Gather.Gen.Hyps m := fun c t kq hkq => by
  rw [Memref.IsWhole.readAt_unread]
  exact check_of_lt _ (h c _)

section Ideal
open Cert.GatherIdeal Cert.GatherIdeal.Gen

variable (m : (ℓ : Loc nD τ sig) → Buf (Elt F) ℓ)

theorem hyps_ideal (h : ∀ (c : Dev nD) i, (m ((c.tc : Thread nD τ).loc main_arg1) i).toNat < 3072) : Hyps m := fun c t kq hkq => by
  rw [Memref.IsWhole.readAt_unread]
  exact check_of_lt _ (h c _)

variable (c : Dev nD) (arg0 : Memref sig .tc .smem S2048 .i32) (harg0 : arg0.IsWhole) (arg1 : Memref sig .tc .vmem S3072x8x128 .f32)
  (harg1 : arg1.IsWhole) (arg2 : Memref sig .tc .vmem S2048x8x128 .f32) (harg2 : arg2.IsWhole)

/-- The word that trip `k` reads is index `k`. -/
theorem word_eq (x0 : Vec F S2048 .i32) (k : Fin k0_t1_loop.trips) (i : Fin 2048) (hi : i.val = k.val) (j : S1.Idx) :
    arg0.view.readAt (Elt F) (Rect.unit (s := S2048) (k0_off1 k) S1.size (k0_off1_inb k)).toLoadRect (harg0.unread x0) j = x0 (ix1 i) := by
  rw [Memref.IsWhole.readAt_unread]
  refine congrArg x0 (funext fun a => Fin.ext ?_)
  match a with
  | ⟨0, _⟩ =>
    show k0_off1 k 0 + 1 * (j 0).val = i.val
    have hj : (j 0).val < 1 := (j 0).isLt
    rw [k0_off1_eq, hi]
    show k.val + 1 * (j 0).val = k.val
    omega

/-- What trip `k` writes is row `k` of the result. -/
theorem trip_rows (x0 : Vec F S2048 .i32) (x1 : Vec F S3072x8x128 .f32) (h : ∀ i, (x0 i : BitVec 32).toNat < 3072) (k : Fin k0_t1_loop.trips) (hw) :
    ∀ p ∈ tripL_k0_t1 (F := F) Variants.none c none arg0 harg0 arg1 harg1 arg2 harg2 (harg0.unread x0) (harg1.unread x1) k hw,
      ∀ x : p.1.shape.Idx, p.2 x = rows x1 x0 (p.1.emb x) := by
  unfold tripL_k0_t1 trip_k0_t1
  intro p hp x
  obtain rfl := List.mem_singleton.mp hp
  have hk : k.val < 2048 := Nat.lt_of_lt_of_le k.isLt k0_t1_abs.2.1
  set i : Fin 2048 := ⟨k.val, hk⟩ with hi
  obtain ⟨z, a, b, rfl⟩ : ∃ (z : Fin 1) (a : Fin 8) (b : Fin 128), x = ix3 z a b := ⟨x 0, x 1, x 2, eq_ix3 x⟩
  have hz := z.isLt
  have hn := h (ix1 i)
  have e : (Rect.unit (s := S2048x8x128) (k0_off3 k) S1x8x128.size (k0_off3_inb k)).emb (ix3 z a b) = ix3 i a b := by
    funext d
    refine Fin.ext ?_
    match d with
    | ⟨0, _⟩ => show k0_off3 k 0 + 1 * z.val = k.val; rw [k0_off3_eq]; show k.val + 1 * z.val = k.val; omega
    | ⟨1, _⟩ => show k0_off3 k 1 + 1 * a.val = a.val; rw [k0_off3_eq]; show 0 + 1 * a.val = a.val; omega
    | ⟨2, _⟩ => show k0_off3 k 2 + 1 * b.val = b.val; rw [k0_off3_eq]; show 0 + 1 * b.val = b.val; omega
  refine Eq.trans ?_ (congrArg (rows x1 x0) e.symm)
  dsimp only
  unfold k0_pay1
  refine (shapeCast_apply _ _ (ix3 z a b) (ix2 a b) ?_).trans ((shapeCast_apply _ _ (ix2 a b) (ix3 (0 : Fin 1) a b) ?_).trans ?_)
  · rw [Shape.rowMajor_val_three, Shape.rowMajor_val_two]
    show a.val * 128 + b.val = (z.val * 8 + a.val) * 128 + b.val
    omega
  · rw [Shape.rowMajor_val_three, Shape.rowMajor_val_two]
    show (0 * 8 + a.val) * 128 + b.val = a.val * 128 + b.val
    omega
  rw [Memref.IsWhole.readAt_unread]
  refine congrArg x1 (funext fun d => Fin.ext ?_)
  match d with
  | ⟨0, _⟩ =>
    show BitVec.toNat (arg0.view.readAt (Elt F) (Rect.unit (s := S2048) (k0_off1 k) S1.size (k0_off1_inb k)).toLoadRect (harg0.unread x0) _) + 1 * 0
      = min (x0 (ix1 i) : BitVec 32).toInt.toNat 3071
    rw [word_eq arg0 harg0 x0 k i rfl, BitVec.toInt_eq_toNat_of_lt (by omega)]
    omega
  | ⟨1, _⟩ => show 0 + 1 * a.val = a.val; omega
  | ⟨2, _⟩ => show 0 + 1 * b.val = b.val; omega

/-- So what the trips before `n` write are rows of the result. -/
theorem trips_rows (x0 : Vec F S2048 .i32) (x1 : Vec F S3072x8x128 .f32) (h : ∀ i, (x0 i : BitVec 32).toNat < 3072) (hw) :
    ∀ n, n ≤ k0_t1_loop.trips →
      ∀ p ∈ pb_k0_t1 (F := F) Variants.none c none arg0 harg0 arg1 harg1 arg2 harg2 (harg0.unread x0) (harg1.unread x1) hw n,
        ∀ x : p.1.shape.Idx, p.2 x = rows x1 x0 (p.1.emb x)
  | 0, _ => fun p hp => absurd hp List.not_mem_nil
  | n + 1, hn => fun p hp => by
    rw [pb_k0_t1_succ Variants.none c none arg0 harg0 arg1 harg1 arg2 harg2 _ _ hw ⟨n, hn⟩] at hp
    rcases List.mem_append.mp hp with hp | hp
    · exact trip_rows c arg0 harg0 arg1 harg1 arg2 harg2 x0 x1 h ⟨n, hn⟩ _ p hp
    · exact trips_rows x0 x1 h hw n (Nat.le_of_succ_le hn) p hp

/-- What the run leaves in the result. -/
theorem out_eq (x0 : Vec F S2048 .i32) (x1 : Vec F S3072x8x128 .f32) (h : ∀ i, (x0 i : BitVec 32).toNat < 3072) (hw) :
    out0_A_2 (F := F) c arg0 harg0 arg1 harg1 arg2 harg2 x0 x1 hw = rows x1 x0 := by
  funext y
  refine View.read_writes_apply_of_pieces _ _ _ _ ?_ y (cover0_A_2 c arg0 harg0 arg1 harg1 arg2 harg2 x0 x1 hw y)
  unfold kernelRun0_A
  exact trips_rows c arg0 harg0 arg1 harg1 arg2 harg2 x0 x1 h hw _ le_rfl

/-- The one point's block of each array is the whole array. -/
theorem index0 : ∀ t : Fin cfg0.N, win0_0.index t = ![0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)

/-- The array after the run. -/
theorem final (hH : Hyps m) (h : ∀ (c : Dev nD) i, (m ((c.tc : Thread nD τ).loc main_arg1) i).toNat < 3072) (c : Dev nD) :
    (dats m hH 0 c).arrAt 2 cfg0.N = rows (m ((c.tc : Thread nD τ).loc main_arg0)) (m ((c.tc : Thread nD τ).loc main_arg1)) := by
  refine (dats m hH 0 c).arrAt_eq_of_covers 2 _ (by decide +kernel) fun t hf y => ?_
  blk_simp
  rw [after0_2]
  unfold outsAt0
  rw [out_eq c _ _ _ _ _ _ (iblk m c 0 t) (iblk m c 1 t) (fun i => h c _)]
  have e0 : iblk m c 0 t = m ((c.tc : Thread nD τ).loc main_arg1) := by
    funext i
    refine congrArg (m ((c.tc : Thread nD τ).loc main_arg1)) (funext fun d => Fin.ext ?_)
    match d with
    | ⟨0, _⟩ => blk_simp [index0]
  have e1 : iblk m c 1 t = m ((c.tc : Thread nD τ).loc main_arg0) := by
    funext i
    refine congrArg (m ((c.tc : Thread nD τ).loc main_arg0)) (funext fun d => Fin.ext ?_)
    match d with
    | ⟨0, _⟩ => blk_simp [index1]
    | ⟨1, _⟩ => blk_simp [index1]
    | ⟨2, _⟩ => blk_simp [index1]
  have e2 : (win0_2.blk t).view.emb y = y := by
    refine funext fun d => Fin.ext ?_
    match d with
    | ⟨0, _⟩ => blk_simp [index2]
    | ⟨1, _⟩ => blk_simp [index2]
    | ⟨2, _⟩ => blk_simp [index2]
  rw [e0, e1, e2]

end Ideal

section Ref
open Cert.PickedIdeal

/-- The indices with the negative ones counted from the end. -/
def fromEnd (idx : IVec S2048 32) : IVec S2048 32 :=
  select (cmpi .slt idx (broadcastInDim S2048 ![] Facts₀.bcast_S_S2048 (constantI S_ 32 0#32)))
    (addi idx (broadcastInDim S2048 ![] Facts₀.bcast_S_S2048 (constantI S_ 32 3072#32))) idx

/-- An index that is not negative is left. -/
theorem fromEnd_apply (idx : IVec S2048 32) (i : S2048.Idx) (h : (idx i).toNat < 3072) : fromEnd idx i = idx i := by
  show Scalar.select (IntOp.cmpi .slt (idx i) 0#32) _ (idx i) = idx i
  have : (idx i).slt 0#32 = false := by
    rw [BitVec.slt_eq_decide, BitVec.toInt_eq_toNat_of_lt (by omega)]
    simp
  unfold Scalar.select IntOp.cmpi
  simp [this]

theorem gather_apply {α : Type} (x : S3072x8x128.Idx → α) (idx : IVec S2048x1 32) (i : Fin 2048) (a : Fin 8) (b : Fin 128) :
    Host.gather gather_S3072x8x128_S2048x1_S2048x8x128_12_0_n_n_0_1_18128 x idx (ix3 i a b)
      = x (ix3 ⟨min (idx (ix2 i (0 : Fin 1))).toInt.toNat 3071, by omega⟩ a b) := by
  unfold Host.gather
  congr 1
  funext c
  refine Fin.ext ?_
  match c with
  | ⟨0, _⟩ =>
    show min (idx _).toInt.toNat 3071 + 0 + 0 = min (idx (ix2 i (0 : Fin 1))).toInt.toNat 3071
    simp only [Nat.add_zero]
    refine congrArg (fun k => min (idx k).toInt.toNat 3071) (funext fun e => ?_)
    match e with
    | ⟨0, _⟩ => rfl
    | ⟨1, _⟩ => rfl
  | ⟨1, _⟩ => show 0 + 0 + a.val = a.val; omega
  | ⟨2, _⟩ => show 0 + 0 + b.val = b.val; omega

/-- The reference's term is the same function. -/
theorem reference_eq {α : Type} (x : S3072x8x128.Idx → α) (idx : IVec S2048 32) (h : ∀ i, (idx i).toNat < 3072) :
    Host.gather gather_S3072x8x128_S2048x1_S2048x8x128_12_0_n_n_0_1_18128 x
      (broadcastInDim S2048x1 ![0] Facts₀.bcast_S2048_S2048x1_0 (fromEnd idx)) = rows x idx := by
  funext y
  obtain ⟨i, a, b, rfl⟩ : ∃ (i : Fin 2048) (a : Fin 8) (b : Fin 128), y = ix3 i a b := ⟨y 0, y 1, y 2, eq_ix3 y⟩
  rw [gather_apply]
  have e : broadcastInDim S2048x1 ![0] Facts₀.bcast_S2048_S2048x1_0 (fromEnd idx) (ix2 i (0 : Fin 1)) = idx (ix1 i) := by
    refine Eq.trans (congrArg (fromEnd idx) (funext fun c => ?_)) (fromEnd_apply idx (ix1 i) (h _))
    match c with
    | ⟨0, _⟩ => rfl
  refine congrArg x (funext fun c => Fin.ext ?_)
  match c with
  | ⟨0, _⟩ => exact congrArg (fun v : BitVec 32 => min v.toInt.toNat 3071) e
  | ⟨1, _⟩ => rfl
  | ⟨2, _⟩ => rfl

end Ref

end Cert.Picked

end
-- ==== Proof.Placed.lean ====
/-
  The row scatter: trip `i` of its loop copies row `i` of the input to the row of the result that position `i` names. Under the
  precondition every position names one of the 2432 rows. A row that several positions name holds the row of the last of them, and a
  row that no position names holds what the buffer held before, of which nothing is claimed.
-/
module

public import proofs.«01_k».proof.Proof.Gen.ScatterIdeal.Frame
public import proofs.«01_k».proof.Proof.Gen.ScatterIdeal.Loops
public import proofs.«01_k».proof.Proof.Gen.Pre_in_packed
public import proofs.«01_k».proof.Proof.Mask
public import Idealize.ShloMosaic.Lib.Pipeline.DatRel
public import Idealize.ShloMosaic.Lib.Pipeline.ArrRel
public import Idealize.ShloMosaic.Lib.Pipeline.Frame
public import Idealize.ShloMosaic.Lib.Pipeline.ValueKit
public import Idealize.ShloMosaic.Lib.WholeRead
public import Idealize.ShloMosaic.Lib.ValueIdxCore
public import Idealize.ShloMosaic.Lib.Claim

@[expose] public section

noncomputable section

namespace Cert.Placed

open Idealize.ShloMosaic hiding ix1 ix2 ix3 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Cert.ScatterIdeal Cert.ScatterIdeal.Gen

variable {F : FTy → Type} [FloatOps F]

/-- Position `i` is the last to name its row. -/
def Last (pos : IVec ⟨1, ![2048]⟩ 32) (i : Fin 2048) : Prop :=
  ∀ j : Fin 2048, i.val < j.val → pos (ix1 j) ≠ pos (ix1 i)

/-- Each row that a position names holds the row of the last position that names it. -/
def Landed {α : Type} (src : (⟨3, ![2048, 8, 128]⟩ : Shape).Idx → α) (pos : IVec ⟨1, ![2048]⟩ 32)
    (y : (⟨3, ![2432, 8, 128]⟩ : Shape).Idx → α) : Prop :=
  ∀ i : Fin 2048, Last pos i → ∀ r : Fin 2432, r.val = (pos (ix1 i)).toNat → ∀ (a : Fin 8) (b : Fin 128), y (ix3 r a b) = src (ix3 i a b)

/-- A word between 0 and 2432, read signed, is below 2432 read unsigned. -/
theorem lt_of_between (v : BitVec 32) (h : IntOp.andi (IntOp.cmpi .sge v 0#32) (IntOp.cmpi .slt v 2432#32) = 1#1) :
    v.toNat < 2432 := by
  obtain ⟨h1, h2⟩ := Cert.Exchange.both_of_andi _ _ h
  replace h1 : (0#32 : BitVec 32).sle v = true := h1
  replace h2 : v.slt 2432#32 = true := h2
  rw [BitVec.sle_eq_decide, decide_eq_true_eq] at h1
  rw [BitVec.slt_eq_decide, decide_eq_true_eq] at h2
  have e1 : (0#32 : BitVec 32).toInt = 0 := rfl
  have e2 : (2432#32 : BitVec 32).toInt = 2432 := rfl
  rw [e1] at h1
  rw [e2] at h2
  have := v.isLt
  rw [BitVec.toInt_eq_toNat_cond] at h1 h2
  split at h1 <;> omega

/-- The precondition, of one position. -/
theorem in_packed_apply (src : FVec F ⟨3, ![2048, 8, 128]⟩ .f32) (pos : IVec ⟨1, ![2048]⟩ 32)
    (h : Cert.Pre_in_packed.fn (F := F) src pos = fun _ => 1#1) (i : (⟨1, ![2048]⟩ : Shape).Idx) : (pos i).toNat < 2432 :=
  lt_of_between _ (congrFun h i)

/-- The loop's check of a position: the row it names lies within the result. -/
theorem check_of_lt (v : BitVec 32) (h : v.toNat < 2432) : k0_chk1 v := by
  intro a
  match a with
  | ⟨0, _⟩ => show v.toNat + 1 ≤ 2432; omega
  | ⟨1, _⟩ => show 0 + 8 ≤ 8; omega
  | ⟨2, _⟩ => show 0 + 128 ≤ 128; omega

section Body

variable (c : Dev nD) (arg0 : Memref sig .tc .smem S2048 .i32) (harg0 : arg0.IsWhole) (arg1 : Memref sig .tc .vmem S2048x8x128 .f32)
  (harg1 : arg1.IsWhole) (arg2 : Memref sig .tc .vmem S2432x8x128 .f32) (harg2 : arg2.IsWhole)

/-- The word that trip `k` reads is position `k`. -/
theorem word_eq (x0 : Vec F S2048 .i32) (k : Fin k0_t1_loop.trips) (i : Fin 2048) (hi : i.val = k.val) (j : S1.Idx) :
    arg0.view.readAt (Elt F) (Rect.unit (s := S2048) (k0_off2 k) S1.size (k0_off2_inb k)).toLoadRect (harg0.unread x0) j = x0 (ix1 i) := by
  rw [Memref.IsWhole.readAt_unread]
  refine congrArg x0 (funext fun a => Fin.ext ?_)
  match a with
  | ⟨0, _⟩ =>
    show k0_off2 k 0 + 1 * (j 0).val = i.val
    have hj : (j 0).val < 1 := (j 0).isLt
    rw [k0_off2_eq, hi]
    show k.val + 1 * (j 0).val = k.val
    omega

/-- Trip `k` stores one piece: its row of the input, at the row that its position names. -/
theorem trip_eq (x0 : Vec F S2048 .i32) (x1 : Vec F S2048x8x128 .f32) (k : Fin k0_t1_loop.trips) (hw) :
    tripL_k0_t1 (F := F) Variants.none c none arg0 harg0 arg1 harg1 arg2 harg2 (harg0.unread x0) (harg1.unread x1) k hw
      = [⟨Rect.unit (s := S2432x8x128) (k0_off3 (arg0.view.readAt (Elt F) (Rect.unit (s := S2048) (k0_off2 k) S1.size (k0_off2_inb k)).toLoadRect
            (harg0.unread x0) (Shape.Idx.first (numel1_S1.symm ▸ Nat.one_pos)))) S1x8x128.size (k0_off3_inb _ hw),
          k0_pay1 (arg1.view.readAt (Elt F) (Rect.unit (s := S2048x8x128) (k0_off1 k) S1x8x128.size (k0_off1_inb k)).toLoadRect (harg1.unread x1))⟩] := by
  unfold tripL_k0_t1 trip_k0_t1
  rfl

/-- The row that trip `k` stores. -/
theorem pay_eq (x1 : Vec F S2048x8x128 .f32) (k : Fin k0_t1_loop.trips) (i : Fin 2048) (hi : i.val = k.val) (z : Fin 1) (a : Fin 8) (b : Fin 128) :
    k0_pay1 (arg1.view.readAt (Elt F) (Rect.unit (s := S2048x8x128) (k0_off1 k) S1x8x128.size (k0_off1_inb k)).toLoadRect (harg1.unread x1)) (ix3 z a b)
      = x1 (ix3 i a b) := by
  have hz := z.isLt
  dsimp only
  unfold k0_pay1
  refine (shapeCast_apply _ _ (ix3 z a b) (ix2 a b) ?_).trans ((shapeCast_apply _ _ (ix2 a b) (ix3 (0 : Fin 1) a b) ?_).trans ?_)
  · rw [Shape.rowMajor_val_three, Shape.rowMajor_val_two]
    show a.val * 128 + b.val = (z.val * 8 + a.val) * 128 + b.val
    omega
  · rw [Shape.rowMajor_val_three, Shape.rowMajor_val_two]
    show (0 * 8 + a.val) * 128 + b.val = a.val * 128 + b.val
    omega
  rw [Memref.IsWhole.readAt_unread]
  refine congrArg x1 (funext fun d => Fin.ext ?_)
  match d with
  | ⟨0, _⟩ => show k0_off1 k 0 + 1 * 0 = i.val; rw [k0_off1_eq, hi]; show k.val + 1 * 0 = k.val; omega
  | ⟨1, _⟩ => show k0_off1 k 1 + 1 * a.val = a.val; rw [k0_off1_eq]; show 0 + 1 * a.val = a.val; omega
  | ⟨2, _⟩ => show k0_off1 k 2 + 1 * b.val = b.val; rw [k0_off1_eq]; show 0 + 1 * b.val = b.val; omega

/-- A row just stored reads as it was stored, -/
theorem read_hit (f : arg2.view.ty.Contents (Elt F)) (L : List (View.Piece (Elt F) S2432x8x128 .f32)) (v : BitVec 32) (hv : k0_chk1 v)
    (w : Vec F S1x8x128 .f32) (r : Fin 2432) (hr : r.val = v.toNat) (a : Fin 8) (b : Fin 128) :
    arg2.view.read (Elt F) (arg2.view.writes (Elt F) f (⟨Rect.unit (s := S2432x8x128) (k0_off3 v) S1x8x128.size (k0_off3_inb v hv), w⟩ :: L)) (ix3 r a b)
      = w (ix3 (0 : Fin 1) a b) := by
  refine View.read_writes_cons_hit_of_coords arg2.view f (Rect.unit (s := S2432x8x128) (k0_off3 v) S1x8x128.size (k0_off3_inb v hv)) w L
    (ix3 (0 : Fin 1) a b) (ix3 r a b) fun d => ?_
  match d with
  | ⟨0, _⟩ => show r.val = v.toNat + 1 * 0; omega
  | ⟨1, _⟩ => show a.val = 0 + 1 * a.val; omega
  | ⟨2, _⟩ => show b.val = 0 + 1 * b.val; omega

/-- and leaves the others. -/
theorem read_miss (f : arg2.view.ty.Contents (Elt F)) (L : List (View.Piece (Elt F) S2432x8x128 .f32)) (v : BitVec 32) (hv : k0_chk1 v)
    (w : Vec F S1x8x128 .f32) (r : Fin 2432) (hr : r.val ≠ v.toNat) (a : Fin 8) (b : Fin 128) :
    arg2.view.read (Elt F) (arg2.view.writes (Elt F) f (⟨Rect.unit (s := S2432x8x128) (k0_off3 v) S1x8x128.size (k0_off3_inb v hv), w⟩ :: L)) (ix3 r a b)
      = arg2.view.read (Elt F) (arg2.view.writes (Elt F) f L) (ix3 r a b) := by
  refine View.read_writes_cons_miss_of_axis _ _ _ _ (ix3 r a b) 0 v.toNat 1 rfl rfl rfl ?_
  show r.val < v.toNat ∨ v.toNat + 1 ≤ r.val
  omega

/-- After the trips before `n`, whatever the buffer held: the row that position `i` names, `i` the last before `n` to name it, holds row `i`. -/
theorem trips_landed (x0 : Vec F S2048 .i32) (x1 : Vec F S2048x8x128 .f32) (hw) (f : arg2.view.ty.Contents (Elt F)) (i : Fin 2048) (r : Fin 2432)
    (hr : r.val = (x0 (ix1 i) : BitVec 32).toNat) (a : Fin 8) (b : Fin 128) :
    ∀ n, n ≤ k0_t1_loop.trips → i.val < n → (∀ j : Fin 2048, i.val < j.val → j.val < n → (x0 (ix1 j) : BitVec 32) ≠ x0 (ix1 i)) →
      arg2.view.read (Elt F) (arg2.view.writes (Elt F) f
        (pb_k0_t1 (F := F) Variants.none c none arg0 harg0 arg1 harg1 arg2 harg2 (harg0.unread x0) (harg1.unread x1) hw n)) (ix3 r a b)
        = x1 (ix3 i a b)
  | 0, _, hi, _ => absurd hi (Nat.not_lt_zero _)
  | n + 1, hn, hi, hl => by
    have hk : n < 2048 := Nat.lt_of_lt_of_le hn k0_t1_abs.2.1
    rw [pb_k0_t1_succ Variants.none c none arg0 harg0 arg1 harg1 arg2 harg2 _ _ hw ⟨n, hn⟩, trip_eq, List.singleton_append]
    have hword := congrArg BitVec.toNat (word_eq (F := F) arg0 harg0 x0 ⟨n, hn⟩ ⟨n, hk⟩ rfl (Shape.Idx.first (numel1_S1.symm ▸ Nat.one_pos)))
    by_cases h : i.val = n
    · obtain rfl : i = ⟨n, hk⟩ := Fin.ext h
      exact Eq.trans (read_hit arg2 f _ _ (hw n hn) _ r (hr.trans hword.symm) a b) (pay_eq arg1 harg1 x1 ⟨n, hn⟩ _ rfl 0 a b)
    · have hne : (x0 (ix1 ⟨n, hk⟩) : BitVec 32).toNat ≠ (x0 (ix1 i) : BitVec 32).toNat := fun e =>
        hl ⟨n, hk⟩ (show i.val < n by omega) (Nat.lt_succ_self n) (BitVec.eq_of_toNat_eq e)
      exact Eq.trans (read_miss arg2 f _ _ (hw n hn) _ r (fun e => hne (hword.symm.trans (e.symm.trans hr))) a b)
        (trips_landed x0 x1 hw f i r hr a b n (Nat.le_of_succ_le hn) (by omega) fun j h1 h2 => hl j h1 (Nat.lt_succ_of_lt h2))

local notation "𝕄" => MT nD τ sig Unit (Elt F) ℕ (UR sig nD τ) ℕ

/-- The body from positions `x0` that name rows and an input `x1`, the result's buffer at anything: it ends with the rows landed. -/
theorem kernelRun (x0 : Vec F S2048 .i32) (x1 : Vec F S2048x8x128 .f32) (h : ∀ i, (x0 i : BitVec 32).toNat < 2432) (E : Set ℕ) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ (∃ X, ⌜Landed x1 x0 X⌝ ∗ owns (c : Thread nD τ) arg2 fullShare X)) -∗ K ⟨⟩))
      ⊢ wp frame (wpE (defs₀ (F := F)) Variants.none c none) E (cc0_body arg0 harg0 arg1 harg1 arg2 harg2) K := by
  have k0_hw1L : ∀ (kq : ℕ) (hkq : kq < k0_t1_loop.trips), k0_chk1 (arg0.view.readAt (Elt F) (Rect.unit (s := S2048) (k0_off2 ⟨kq, hkq⟩) S1.size
      (k0_off2_inb ⟨kq, hkq⟩)).toLoadRect (harg0.unread x0) (Shape.Idx.first (numel1_S1.symm ▸ Nat.one_pos))) := fun kq hkq => by
    rw [Memref.IsWhole.readAt_unread]
    exact check_of_lt _ (h _)
  simp only [cc0_body_eq_skeleton]; unfold cc0_body_skel
  unfold owns
  iintro ⟨⟨%f0, %hf0, H0⟩, ⟨%f1, %hf1, H1⟩, ⟨%d2, %f2, -, H2⟩, Hk⟩
  obtain rfl := harg0.eq_unread hf0; obtain rfl := harg1.eq_unread hf1
  sl_exec
  sl_step
  iapply Hk
  isplitl [H0]
  · iexists _; isplitr; · ipureintro; exact harg0.read_unread _
    iexact H0
  isplitl [H1]
  · iexists _; isplitr; · ipureintro; exact harg1.read_unread _
    iexact H1
  iexists _; isplitr
  swap
  · iexists _; isplitr
    swap; · iexact H2
    ipureintro; rfl
  ipureintro
  exact fun i hi r hr a b => trips_landed c arg0 harg0 arg1 harg1 arg2 harg2 x0 x1 k0_hw1L f2 i r hr a b _ le_rfl
    (i.isLt.trans_eq (show 2048 = k0_t1_loop.trips by decide +kernel)) fun j h1 _ => hi j h1

end Body

section Run

local notation "𝕄" => MT nD τ sig Unit (Elt F) ℕ (UR sig nD τ) ℕ

variable (m : (ℓ : Loc nD τ sig) → Buf (Elt F) ℓ) (ρ : Dev nD → PrngReg)

/-- Each window's staging buffer at point `t`, whole. -/
abbrev ms0 (t : Fin cfg0.N) : Memref sig .tc .smem S2048 .i32 := win0_0.stage (cfg0.slots t 0)
abbrev hs0 (t : Fin cfg0.N) : (ms0 t).IsWhole := hstage0_0 0
abbrev ms1 (t : Fin cfg0.N) : Memref sig .tc .vmem S2048x8x128 .f32 := win0_1.stage (cfg0.slots t 1)
abbrev hs1 (t : Fin cfg0.N) : (ms1 t).IsWhole := hstage0_1 0
abbrev ms2 (t : Fin cfg0.N) : Memref sig .tc .vmem S2432x8x128 .f32 := win0_2.stage (cfg0.slots t 2)
abbrev hs2 (t : Fin cfg0.N) : (ms2 t).IsWhole := hstage0_2 0

/-- The result's buffer is held to a predicate; -/
def held : Fin cfg0.W → Bool := ![false, false, true]

/-- the predicate: the rows of the input have landed in it. -/
def Holds (c : Dev nD) : (w : Fin cfg0.W) → Fin cfg0.N → ((cfg0.win w).block.Idx → Elt F (cfg0.win w).elt) → Prop
  | ⟨0, _⟩, _, _ => True
  | ⟨1, _⟩, _, _ => True
  | ⟨2, _⟩, t, X => Landed (iblk m c 1 t) (iblk m c 0 t) X

/-- The proof data on core `c`: the arrays as launched, the inputs' buffers left at their blocks, nothing owed. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Pipeline.Dat.unnamed (cfg := cfg0) 2 t
  Φ _ := Pipeline.ΦA spec0 c
  q _ := fullShare
  owed _ := 0

theorem A_eq (c : Dev nD) (w : Fin cfg0.W) : (dats m c).A w = V m c (Pipeline.arrRef spec0 w) := by dsimp only [dats]
theorem after_zero (c : Dev nD) (t : Fin cfg0.N) : (dats m c).after 0 t = iblk m c 0 t := by dsimp only [dats]
theorem after_one (c : Dev nD) (t : Fin cfg0.N) : (dats m c).after 1 t = iblk m c 1 t := by dsimp only [dats]
theorem before_zero (c : Dev nD) (t : Fin cfg0.N) (d) : (dats m c).before 0 t d = iblk m c 0 t :=
  before0_0_of m (dats m c) (A_eq m c 0) (after_zero m c) t d
theorem before_one (c : Dev nD) (t : Fin cfg0.N) (d) : (dats m c).before 1 t d = iblk m c 1 t :=
  before0_1_of m (dats m c) (A_eq m c 1) (after_one m c) t d

/-- The relational data of it. -/
abbrev rdats (c : Dev nD) : RDat τ (Elt F) Unit ℕ (UR sig nD τ) ℕ cfg0 c := (dats m c).toRRel held (Holds m c)

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ Y, ⌜(rdats m c).Finds 2 t Y⌝ ∗ owns (c : Thread nD τ) (ms2 t) fullShare Y))

/-- and what it returns. -/
def bodyPost (c : Dev nD) (t : Fin cfg0.N) : sProp 𝕄 :=
  iprop((dats m c).Φ t.succ ∗ (dats m c).owesAt () t.succ
    ∗ owns (c : Thread nD τ) (ms0 t) fullShare ((dats m c).after 0 t)
    ∗ owns (c : Thread nD τ) (ms1 t) fullShare ((dats m c).after 1 t)
    ∗ (∃ X, ⌜Holds m c 2 t X⌝ ∗ owns (c : Thread nD τ) (ms2 t) fullShare X))

variable (h : ∀ (c : Dev nD) i, (m ((c.tc : Thread nD τ).loc main_arg1) i).toNat < 2432)

include h in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_zero, before_one]
  rw [show (dats m c).Φ t.succ = (dats m c).Φ t.castSucc from rfl,
    show (dats m c).owesAt () t.succ = (dats m c).owesAt () t.castSucc from rfl, after_zero, after_one]
  iintro ⟨HΦ, Ho, ⟨%d0, H0⟩, ⟨%d1, H1⟩, ⟨%Y, -, H2⟩⟩
  iapply (kernelRun c _ (hs0 t) _ (hs1 t) _ (hs2 t) (iblk m c 0 t) (iblk m c 1 t) (fun i => h c _) Set.univ _)
  isplitl [H0]; · iexact H0
  isplitl [H1]; · iexact H1
  isplitl [H2]; · iexists _; iexact H2
  iintro ⟨H0, H1, ⟨%X, %hX, H2⟩⟩
  isplitl [HΦ]; · iexact HΦ
  isplitl [Ho]; · iexact Ho
  isplitl [H0]; · iexact H0
  isplitl [H1]; · iexact H1
  iexists X; isplitr
  · ipureintro; exact hX
  · iexact H2

/-- The table's row for the body at point `t`. -/
theorem defs₀_row (t : Fin cfg0.N) : defs₀ (F := F) .tc cfg0.body (cfg0.bodyArgs t (cfg0.slots t)) = bodyAt0 t := by
  unfold defs₀; rw [Defs.onTc_tc]

include h in
theorem body_obligation (c : Dev nD) :
    BodyObligationRel (dats (F := F) m c) (defs₀ (F := F)) Variants.none () Set.univ held (Holds m c) := fun t => by
  rw [bigSep_W0, bigSep_W0, defs₀_row]
  exact triple_restated (sound_body m h c t) rfl .rfl fun _ => .rfl

set_option backward.isDefEq.respectTransparency.types false in
include h in
/-- The run. -/
theorem run_main : θ_run defs (onTc (τ := τ) (main (F := F))) (s₀ m ρ)
    (fun r => (RDat.FramePost (cfgs 0) (fun c => rdats m c) (V m)) r ∧ r.2.sem = fun _ => 0) :=
  RDat.θ_run_frame (Q' := _) cfgs (0 : Fin 1) launch0 defs₀ Variants.none (fun c => rdats m c) m ρ main
    (hbody := fun c => (body_obligation m h c).toRRel) (hshare := fun c => (dats m c).share_full fun _ => rfl)
    (howed := fun _ _ => rfl) (V := V m) (hmain := hmain m Variants.none) (hA := A_eq m) (hΦ := fun _ _ => rfl)

/-- The one point's block of each input is the whole array. -/
theorem index0 : ∀ t : Fin cfg0.N, win0_0.index t = ![0] := (by decide +kernel : ∀ t : Fin grid0.N, _)
theorem index1 : ∀ t : Fin cfg0.N, win0_1.index t = ![0, 0, 0] := (by decide +kernel : ∀ t : Fin grid0.N, _)

theorem iblk_zero (c : Dev nD) (t : Fin cfg0.N) : iblk m c 0 t = m ((c.tc : Thread nD τ).loc main_arg1) := by
  funext i
  refine congrArg (m ((c.tc : Thread nD τ).loc main_arg1)) (funext fun d => Fin.ext ?_)
  match d with
  | ⟨0, _⟩ => blk_simp [index0]

theorem iblk_one (c : Dev nD) (t : Fin cfg0.N) : iblk m c 1 t = m ((c.tc : Thread nD τ).loc main_arg0) := by
  funext i
  refine congrArg (m ((c.tc : Thread nD τ).loc main_arg0)) (funext fun d => Fin.ext ?_)
  match d with
  | ⟨0, _⟩ => blk_simp [index1]
  | ⟨1, _⟩ => blk_simp [index1]
  | ⟨2, _⟩ => blk_simp [index1]

variable [∀ e, Nonempty (Elt F e)]

/-- The array after the run. -/
theorem final {r : PUnit × MemSt nD τ sig (Elt F)} (hr : RDat.FramePost (cfgs 0) (fun c => rdats m c) (V m) r) (c : Dev nD) :
    Landed (m ((c.tc : Thread nD τ).loc main_arg0)) (m ((c.tc : Thread nD τ).loc main_arg1)) (r.2.mem ((c.tc : Thread nD τ).loc main_v0)) := by
  obtain ⟨X, hX, hG⟩ := RDat.ArrAt.emb_eq_of_wholeAt ((hr c).1 2) (t₀ := t0_0) (by decide +kernel)
  have hL : Landed (iblk m c 1 t0_0) (iblk m c 0 t0_0) X := (dats m c).toRRel_leaves (w := 2) rfl hX
  rw [iblk_zero, iblk_one] at hL
  exact fun i hi q hq a b => (hG (ix3 q a b)).trans (hL i hi q hq a b)

include h in
/-- THE RUN: the rows landed, the arguments kept, every semaphore at zero. -/
theorem run : θ_run defs (onTc (τ := τ) (main (F := F))) ⟨m, fun _ => 0, ρ⟩ (fun r => (∀ c : Dev nD,
      Landed (m ((c.tc : Thread nD τ).loc main_arg0)) (m ((c.tc : Thread nD τ).loc main_arg1)) (r.2.mem ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ r => ⟨fun c => ⟨final m r.1 c, RDat.FramePost.arr_in r.1 c 1 rfl, RDat.FramePost.arr_in r.1 c 0 rfl⟩, r.2⟩)
    (run_main m ρ h)

end Run

end Cert.Placed

end
-- ==== Proof.LastRow.lean ====
/-
  The reference of the row scatter names, for each row of the result, the last position that names it, as the largest of the
  positions' numbers with -1 for those that name another row. So a row that some position names holds the row of the last of them.
-/
module

public import proofs.«01_k».proof.Proof.Placed
public import proofs.«01_k».proof.Proof.Gen.PlacedIdeal.Run
public import proofs.«01_k».proof.Proof.Gen.On_written
public import Idealize.ShloMosaic.Lib.Pointwise.Reduce

@[expose] public section

noncomputable section

namespace Cert.Placed

open Idealize.ShloMosaic hiding ix1 ix2 ix3 eq_ix2 eq_ix3
open Idealize.ShloMosaic.TcCoe Idealize.ShloMosaic.ValueIdx
open Cert.PlacedIdeal

/-- A fold of the signed maximum is where it began or at one of its elements, and is no less than any of them. -/
theorem foldl_maxsi {ι : Type} (g : ι → BitVec 32) : ∀ (l : List ι) (a : BitVec 32),
    (l.foldl (fun r n => IntOp.maxsi r (g n)) a = a ∨ ∃ n ∈ l, l.foldl (fun r n => IntOp.maxsi r (g n)) a = g n)
      ∧ a.toInt ≤ (l.foldl (fun r n => IntOp.maxsi r (g n)) a).toInt
      ∧ ∀ n ∈ l, (g n).toInt ≤ (l.foldl (fun r n => IntOp.maxsi r (g n)) a).toInt
  | [], _ => ⟨.inl rfl, le_rfl, fun _ h => absurd h List.not_mem_nil⟩
  | n :: l, a => by
    have hm : (IntOp.maxsi a (g n) = a ∨ IntOp.maxsi a (g n) = g n) ∧ a.toInt ≤ (IntOp.maxsi a (g n)).toInt ∧ (g n).toInt ≤ (IntOp.maxsi a (g n)).toInt := by
      unfold IntOp.maxsi
      rw [BitVec.slt_eq_decide]
      by_cases h : (g n).toInt < a.toInt
      · rw [if_pos (by simpa using h)]
        exact ⟨.inl rfl, le_rfl, h.le⟩
      · rw [if_neg (by simpa using h)]
        exact ⟨.inr rfl, not_lt.mp h, le_rfl⟩
    obtain ⟨h1, h2, h3⟩ := foldl_maxsi g l (IntOp.maxsi a (g n))
    rw [List.foldl_cons]
    refine ⟨?_, hm.2.1.trans h2, fun k hk => ?_⟩
    · rcases h1 with h1 | ⟨k, hk, h1⟩
      · rcases hm.1 with e | e
        · exact .inl (h1.trans e)
        · exact .inr ⟨n, List.mem_cons_self, h1.trans e⟩
      · exact .inr ⟨k, List.mem_cons_of_mem _ hk, h1⟩
    · rcases List.mem_cons.mp hk with rfl | hk
      · exact hm.2.2.trans h2
      · exact h3 k hk

/-- The positions' numbers, per row: -1 for a position that names another row. -/
def numbers (pos : IVec S2048 32) : IVec S2432x2048 32 :=
  select (cmpi .eq (broadcastInDim S2432x2048 ![0, 1] Facts₀.bcast_S1x2048_S2432x2048_0_1 (broadcastInDim S1x2048 ![1] Facts₀.bcast_S2048_S1x2048_1 pos))
      (broadcastInDim S2432x2048 ![0, 1] Facts₀.bcast_S2432x1_S2432x2048_0_1 (broadcastInDim S2432x1 ![0] Facts₀.bcast_S2432_S2432x1_0 (iotaInDim S2432 32 0))))
    (broadcastInDim S2432x2048 ![0, 1] Facts₀.bcast_S1x2048_S2432x2048_0_1 (broadcastInDim S1x2048 ![1] Facts₀.bcast_S2048_S1x2048_1 (iotaInDim S2048 32 0)))
    (broadcastInDim S2432x2048 ![] Facts₀.bcast_S_S2432x2048 (id (constantI S_ 32 4294967295#32)))

/-- The largest of them. -/
def largest (pos : IVec S2048 32) : IVec S2432 32 :=
  Host.reduce IntOp.maxsi (numbers pos) (constantI S_ 32 2147483648#32) Facts₀.reducesTo_S2432x2048_S2432_d1 Facts₀.h_S_

/-- One number. -/
theorem numbers_apply (pos : IVec S2048 32) (r : Fin 2432) (i : Fin 2048) :
    numbers pos (ix2 r i) = if pos (ix1 i) = BitVec.ofNat 32 r.val then BitVec.ofNat 32 i.val else 4294967295#32 := by
  show Scalar.select (IntOp.cmpi .eq (pos _) (BitVec.ofNat 32 r.val)) (BitVec.ofNat 32 i.val) 4294967295#32 = _
  rw [show pos _ = pos (ix1 i) from congrArg pos (funext fun c => by match c with | ⟨0, _⟩ => rfl)]
  unfold Scalar.select IntOp.cmpi
  by_cases h : pos (ix1 i) = BitVec.ofNat 32 r.val
  · simp [h]
  · have : (pos (ix1 i) == BitVec.ofNat 32 r.val) = false := beq_false_of_ne h
    simp [this, h]

/-- Where the largest number is not negative, it is that of the last position that names the row. -/
theorem largest_spec (pos : IVec S2048 32) (r : Fin 2432) (h : 0 ≤ (largest pos (ix1 r)).toInt) :
    ∃ i : Fin 2048, largest pos (ix1 r) = BitVec.ofNat 32 i.val ∧ pos (ix1 i) = BitVec.ofNat 32 r.val ∧ Last pos i := by
  have hd : ∀ i : Fin 2048, (Facts₀.reducesTo_S2432x2048_S2432_d1 : S2432x2048.ReducesTo [1] S2432).drop (ix2 r i) = ix1 r := fun i =>
    (Shape.ReducesTo.fiber_r2_a1 _ _ _).mpr ⟨i, rfl⟩
  obtain ⟨h1, _, h3⟩ := foldl_maxsi (fun n => numbers pos (S2432x2048.rowMajor.symm n))
    ((List.finRange S2432x2048.numel).filter fun n =>
      (Facts₀.reducesTo_S2432x2048_S2432_d1 : S2432x2048.ReducesTo [1] S2432).drop (S2432x2048.rowMajor.symm n) = ix1 r)
    (constantI S_ 32 2147483648#32 (Shape.Idx.first Facts₀.h_S_))
  rw [show List.foldl _ _ _ = largest pos (ix1 r) from rfl] at h1
  rw [show List.foldl _ _ _ = largest pos (ix1 r) from rfl] at h3
  rcases h1 with h1 | ⟨n, hn, h1⟩
  · rw [h1] at h
    exact absurd h (by decide)
  obtain ⟨i, hi⟩ := (Shape.ReducesTo.fiber_r2_a1 _ _ _).mp (of_decide_eq_true (List.mem_filter.mp hn).2)
  replace h1 : largest pos (ix1 r) = numbers pos (ix2 r i) := h1.trans (congrArg (numbers pos) hi.symm)
  rw [numbers_apply] at h1
  by_cases hp : pos (ix1 i) = BitVec.ofNat 32 r.val
  · rw [if_pos hp] at h1
    refine ⟨i, h1, hp, fun j hj hpj => ?_⟩
    have := h3 (S2432x2048.rowMajor (ix2 r j)) (List.mem_filter.mpr ⟨List.mem_finRange _, by
      rw [Equiv.symm_apply_apply]; exact decide_eq_true (hd j)⟩)
    rw [Equiv.symm_apply_apply, numbers_apply, if_pos (hpj.trans hp), h1, BitVec.toInt_eq_toNat_of_lt, BitVec.toInt_eq_toNat_of_lt,
      BitVec.toNat_ofNat, BitVec.toNat_ofNat] at this
    · have := i.isLt; have := j.isLt; omega
    · rw [BitVec.toNat_ofNat]; have := i.isLt; omega
    · rw [BitVec.toNat_ofNat]; have := j.isLt; omega
  · rw [if_neg hp] at h1
    rw [h1] at h
    exact absurd h (by decide)

/-- The numbers with the negative ones counted from the end. -/
def fromEnd (n : IVec S2432 32) : IVec S2432 32 :=
  select (cmpi .slt n (broadcastInDim S2432 ![] Facts₀.bcast_S_S2432 (constantI S_ 32 0#32)))
    (addi n (broadcastInDim S2432 ![] Facts₀.bcast_S_S2432 (constantI S_ 32 2048#32))) n

/-- Where a number is not negative. -/
def named (n : IVec S2432 32) : IVec S2432x1x1 1 :=
  broadcastInDim S2432x1x1 ![0] Facts₀.bcast_S2432_S2432x1x1_0
    (cmpi .sge n (broadcastInDim S2432 ![] Facts₀.bcast_S_S2432 (constantI S_ 32 0#32)))

theorem named_apply (n : IVec S2432 32) (r : Fin 2432) (a : Fin 8) (b : Fin 128) :
    broadcastInDim S2432x8x128 ![0, 1, 2] Facts₀.bcast_S2432x1x1_S2432x8x128_0_1_2 (named n) (ix3 r a b) = IntOp.cmpi .sge (n (ix1 r)) 0#32 := by
  show IntOp.cmpi .sge (n _) 0#32 = _
  rw [show n _ = n (ix1 r) from congrArg n (funext fun c => by match c with | ⟨0, _⟩ => rfl)]

/-- The reference's term, of the numbers. -/
def placedOf {F : FTy → Type} [FloatOps F] (src : FVec F S2048x8x128 .f32) (n : IVec S2432 32) : FVec F S2432x8x128 .f32 :=
  select (broadcastInDim S2432x8x128 ![0, 1, 2] Facts₀.bcast_S2432x1x1_S2432x8x128_0_1_2 (named n))
    (Host.gather gather_S2048x8x128_S2432x1_S2432x8x128_12_0_n_n_0_1_18128 src
      (broadcastInDim S2432x1 ![0] Facts₀.bcast_S2432_S2432x1_0 (fromEnd n)))
    (broadcastInDim S2432x8x128 ![] Facts₀.bcast_S_S2432x8x128 (id (constant S_ .f32 0x00000000#32)))

theorem gather_apply {α : Type} (x : S2048x8x128.Idx → α) (n : IVec S2432x1 32) (r : Fin 2432) (a : Fin 8) (b : Fin 128) :
    Host.gather gather_S2048x8x128_S2432x1_S2432x8x128_12_0_n_n_0_1_18128 x n (ix3 r a b)
      = x (ix3 ⟨min (n (ix2 r (0 : Fin 1))).toInt.toNat 2047, by omega⟩ a b) := by
  unfold Host.gather
  congr 1
  funext c
  refine Fin.ext ?_
  match c with
  | ⟨0, _⟩ =>
    show min (n _).toInt.toNat 2047 + 0 + 0 = min (n (ix2 r (0 : Fin 1))).toInt.toNat 2047
    simp only [Nat.add_zero]
    refine congrArg (fun k => min (n k).toInt.toNat 2047) (funext fun e => ?_)
    match e with
    | ⟨0, _⟩ => rfl
    | ⟨1, _⟩ => rfl
  | ⟨1, _⟩ => show 0 + 0 + a.val = a.val; omega
  | ⟨2, _⟩ => show 0 + 0 + b.val = b.val; omega

/-- A row whose number is `i`, of the reference: row `i` of the input. -/
theorem placedOf_apply {F : FTy → Type} [FloatOps F] (src : FVec F S2048x8x128 .f32) (n : IVec S2432 32) (r : Fin 2432) (i : Fin 2048)
    (hi : n (ix1 r) = BitVec.ofNat 32 i.val) (a : Fin 8) (b : Fin 128) : placedOf src n (ix3 r a b) = src (ix3 i a b) := by
  have hlt := i.isLt
  have hn : (BitVec.ofNat 32 i.val).toInt = i.val := by
    rw [BitVec.toInt_eq_toNat_of_lt (by rw [BitVec.toNat_ofNat]; omega), BitVec.toNat_ofNat]
    omega
  have hge : IntOp.cmpi .sge (BitVec.ofNat 32 i.val) 0#32 = 1#1 := by
    have : (0#32 : BitVec 32).sle (BitVec.ofNat 32 i.val) = true := by
      rw [BitVec.sle_eq_decide, hn, decide_eq_true_eq]; exact Int.natCast_nonneg _
    unfold IntOp.cmpi
    simp [this]
  have hend : fromEnd n (ix1 r) = BitVec.ofNat 32 i.val := by
    show Scalar.select (IntOp.cmpi .slt (n (ix1 r)) 0#32) _ (n (ix1 r)) = _
    rw [hi]
    have : (BitVec.ofNat 32 i.val).slt 0#32 = false := by
      rw [BitVec.slt_eq_decide, hn]; simp
    unfold Scalar.select IntOp.cmpi
    simp [this]
  have e : broadcastInDim S2432x1 ![0] Facts₀.bcast_S2432_S2432x1_0 (fromEnd n) (ix2 r (0 : Fin 1)) = BitVec.ofNat 32 i.val :=
    Eq.trans (congrArg (fromEnd n) (funext fun c => by match c with | ⟨0, _⟩ => rfl)) hend
  show Scalar.select (broadcastInDim S2432x8x128 ![0, 1, 2] Facts₀.bcast_S2432x1x1_S2432x8x128_0_1_2 (named n) (ix3 r a b))
    (Host.gather gather_S2048x8x128_S2432x1_S2432x8x128_12_0_n_n_0_1_18128 src
      (broadcastInDim S2432x1 ![0] Facts₀.bcast_S2432_S2432x1_0 (fromEnd n)) (ix3 r a b)) _ = _
  rw [named_apply, hi, hge, gather_apply]
  show src _ = _
  refine congrArg src (funext fun c => Fin.ext ?_)
  match c with
  | ⟨0, _⟩ =>
    show min (broadcastInDim S2432x1 ![0] Facts₀.bcast_S2432_S2432x1_0 (fromEnd n) (ix2 r (0 : Fin 1))).toInt.toNat 2047 = i.val
    rw [e, hn]
    omega
  | ⟨1, _⟩ => rfl
  | ⟨2, _⟩ => rfl

/-- The reference's term. -/
def placed {F : FTy → Type} [FloatOps F] (src : FVec F S2048x8x128 .f32) (pos : IVec S2048 32) : FVec F S2432x8x128 .f32 :=
  placedOf src (largest pos)

/-- The mask. -/
theorem written_eq {F : FTy → Type} [FloatOps F] (src : FVec F S2048x8x128 .f32) (pos : IVec S2048 32) :
    Cert.On_written.fn (F := F) src pos
      = broadcastInDim S2432x8x128 ![0, 1, 2] Facts₀.bcast_S2432x1x1_S2432x8x128_0_1_2 (named (largest pos)) := rfl

/-- Rows that have landed are the reference's, wherever the mask is set. -/
theorem landed_eq {F : FTy → Type} [FloatOps F] (src : FVec F S2048x8x128 .f32) (pos : IVec S2048 32) (y : FVec F S2432x8x128 .f32)
    (hy : Landed src pos y) (j : S2432x8x128.Idx) (hj : Cert.On_written.fn (F := F) src pos j = 1#1) : y j = placed src pos j := by
  obtain ⟨r, a, b, rfl⟩ : ∃ (r : Fin 2432) (a : Fin 8) (b : Fin 128), j = ix3 r a b := ⟨j 0, j 1, j 2, eq_ix3 j⟩
  rw [written_eq, named_apply] at hj
  have hge : 0 ≤ (largest pos (ix1 r)).toInt := by
    by_contra hn
    have : (0#32 : BitVec 32).sle (largest pos (ix1 r)) = false := by
      rw [BitVec.sle_eq_decide, decide_eq_false_iff_not]; exact hn
    unfold IntOp.cmpi at hj
    simp [this] at hj
  obtain ⟨i, hi, hp, hl⟩ := largest_spec pos r hge
  refine (hy i hl r ?_ a b).trans (placedOf_apply src (largest pos) r i hi a b).symm
  rw [hp, BitVec.toNat_ofNat]
  have := r.isLt
  omega

end Cert.Placed

end
-- ==== Proof.SameScatter.lean ====
/-
  The row scatter and its ideal program are one text: no operation of it was replaced. So a run of one, at any floats, is a run of
  the other.
-/
module

public import proofs.«01_k».proof.Scatter
public import proofs.«01_k».proof.ScatterIdeal

@[expose] public section

noncomputable section

namespace Cert.Placed

open Idealize.ShloMosaic Idealize.ShloMosaic.TcCoe Idealize.SL.Sem

variable {F : FTy → Type} [FloatOps F] [Cert.Scatter.Facts] [Cert.ScatterIdeal.Facts]

set_option maxHeartbeats 4000000 in
/-- The kernel's function is the same, -/
theorem body_eq : Cert.Scatter.cc0_body (F := F) = Cert.ScatterIdeal.cc0_body (F := F) := rfl

attribute [local irreducible] Cert.Scatter.cc0_body Cert.ScatterIdeal.cc0_body in
/-- and the table that calls it at the staging buffers, -/
theorem defs₀_eq : Cert.Scatter.defs₀ (F := F) = Cert.ScatterIdeal.defs₀ (F := F) := by
  refine congrArg Defs.onTc ?_
  funext l a
  match l with
  | 0 =>
    obtain ⟨t, s⟩ := a
    exact congrFun (congrFun (congrFun (congrFun (congrFun (congrFun (body_eq (F := F)) _) _) _) _) _) _

/-- and its pipeline's; -/
theorem defs_eq : Cert.Scatter.defs (F := F) = Cert.ScatterIdeal.defs (F := F) :=
  congrArg (Pipeline.defs (Cert.Scatter.pcfgs (F := F))) (defs₀_eq (F := F))

/-- and so is the call. -/
theorem main_eq : Cert.Scatter.main (F := F) = Cert.ScatterIdeal.main (F := F) := rfl

/-- A property of the ideal program's runs is one of the program's runs. -/
theorem θ_run_of (s : MemSt Cert.Scatter.nD Cert.Scatter.τ Cert.Scatter.sig (Elt F))
    (Q : (Unit × MemSt Cert.Scatter.nD Cert.Scatter.τ Cert.Scatter.sig (Elt F)) → Prop)
    (h : θ_run (Cert.ScatterIdeal.defs (F := F)) (onTc (τ := Cert.ScatterIdeal.τ) (Cert.ScatterIdeal.main (F := F))) s Q) :
    θ_run (Cert.Scatter.defs (F := F)) (onTc (τ := Cert.Scatter.τ) (Cert.Scatter.main (F := F))) s Q := by
  rw [defs_eq, main_eq]
  exact h

end Cert.Placed

end
-- ==== Proof.lean ====
/-
  The claims. An exchange's run is `Exchange.run_main` (Proof/Run.lean for the first; Proof/Back/Run.lean is the same text for
  the exchange back, whose barrier is another; Proof/Routes/Run.lean for the exchange of the routes, where whole blocks travel); the row
  scatter's is `Placed.run` (Proof/Placed.lean). Proof/Same.lean, Proof/SameBack.lean, Proof/SameRoutes.lean and Proof/SameScatter.lean
  carry a run of an ideal program to the program itself. The references' runs are generated; Proof/Value.lean, Proof/Back/Value.lean,
  Proof/Routes/Value.lean, Proof/Product.lean, Proof/Picked.lean and Proof/LastRow.lean compare the results.
-/
module

public import proofs.«01_k».proof.Defs
public import proofs.«01_k».proof.Proof.Value
public import proofs.«01_k».proof.Proof.Same
public import proofs.«01_k».proof.Proof.Back.Value
public import proofs.«01_k».proof.Proof.SameBack
public import proofs.«01_k».proof.Proof.Routes.Value
public import proofs.«01_k».proof.Proof.SameRoutes
public import proofs.«01_k».proof.Proof.Product
public import proofs.«01_k».proof.Proof.Picked
public import proofs.«01_k».proof.Proof.Placed
public import proofs.«01_k».proof.Proof.LastRow
public import proofs.«01_k».proof.Proof.SameScatter
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.Combine
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Regions
public import proofs.«01_k».proof.Proof.Gen.CombineIdeal.Points
public import proofs.«01_k».proof.Proof.Gen.Routes
public import proofs.«01_k».proof.Proof.Gen.RoutesIdeal
public import proofs.«01_k».proof.Proof.Gen.RoutesIdeal.Skeleton
public import proofs.«01_k».proof.Proof.Gen.RoutesIdeal.Launch
public import proofs.«01_k».proof.Proof.Gen.RoutesIdeal.Frame
public import proofs.«01_k».proof.Proof.Gen.RoutesIdeal.Points
public import proofs.«01_k».proof.Proof.Gen.EveryoneIdeal
public import proofs.«01_k».proof.Proof.Gen.EveryoneIdeal.Run
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsIdeal.Value
public import proofs.«01_k».proof.Proof.Gen.ProductIdeal
public import proofs.«01_k».proof.Proof.Gen.ProductIdeal.Run
public import proofs.«01_k».proof.Proof.Gen.Gather
public import proofs.«01_k».proof.Proof.Gen.Gather.Frame
public import proofs.«01_k».proof.Proof.Gen.GatherIdeal
public import proofs.«01_k».proof.Proof.Gen.GatherIdeal.Frame
public import proofs.«01_k».proof.Proof.Gen.GatherIdeal.Value
public import proofs.«01_k».proof.Proof.Gen.PickedIdeal
public import proofs.«01_k».proof.Proof.Gen.PickedIdeal.Run
public import proofs.«01_k».proof.Proof.Gen.Scatter
public import proofs.«01_k».proof.Proof.Gen.ScatterIdeal
public import proofs.«01_k».proof.Proof.Gen.ScatterIdeal.Skeleton
public import proofs.«01_k».proof.Proof.Gen.ScatterIdeal.Loops
public import proofs.«01_k».proof.Proof.Gen.ScatterIdeal.Frame
public import proofs.«01_k».proof.Proof.Gen.ScatterIdeal.Launch
public import proofs.«01_k».proof.Proof.Gen.ScatterIdeal.Points
public import proofs.«01_k».proof.Proof.Gen.PlacedIdeal
public import proofs.«01_k».proof.Proof.Gen.PlacedIdeal.Run
public import proofs.«01_k».proof.Proof.Gen.ReferenceIdeal
public import proofs.«01_k».proof.Proof.Gen.ReferenceIdeal.Run
public import proofs.«01_k».proof.Proof.Gen.Pre_in_pack_Kernel
public import proofs.«01_k».proof.Proof.Gen.Pre_in_packed
public import proofs.«01_k».proof.Proof.Gen.On_written
public import proofs.«01_k».proof.Proof.Gen.Pre_in_rows
public import proofs.«01_k».proof.Proof.Gen.Pre_in_pack_ReferenceIdeal
public import proofs.«01_k».proof.Proof.Gen.On_landed
public import Idealize.ShloMosaic.Lib.Quiescent

@[expose] public section

noncomputable section

namespace Cert.Proof

open Idealize.ShloMosaic hiding ix2 ix3
open Idealize.ShloMosaic.TcCoe Idealize.ShloMosaic.ValueIdx Idealize.SL.Sem

/-- The exchange runs, keeps its arguments and leaves every semaphore at zero. -/
theorem frame_kernel : Cert.quiescent_Kernel := fun m g h =>
  Cert.Kernel.Exchange.θ_run_of _ _ ((θ_run Cert.KernelIdeal.defs _ _).mono (fun _ r => ⟨fun c => (r.1 c).2, r.2⟩)
    (Cert.KernelIdeal.Exchange.run_main (F := Bits) m g fun c d => Cert.Exchange.in_pack_apply _ _ _ (h c) d))

/-- So does its ideal program, -/
theorem frame_ideal : Cert.quiescent_KernelIdeal := fun m g h =>
  (θ_run Cert.KernelIdeal.defs _ _).mono (fun _ r => ⟨fun c => (r.1 c).2, r.2⟩)
    (Cert.KernelIdeal.Exchange.run_main (F := Ideal) m g (Cert.KernelIdeal.Exchange.ok_of_pre m h))

/-- the exchange back, -/
theorem frame_combine : Cert.quiescent_Combine := fun m g h =>
  Cert.Combine.Exchange.θ_run_of _ _ ((θ_run Cert.CombineIdeal.defs _ _).mono (fun _ r => ⟨fun c => (r.1 c).2, r.2⟩)
    (Cert.CombineIdeal.Exchange.run_main (F := Bits) m g fun c d => Cert.Exchange.in_pack_apply _ _ _ (h c) d))

/-- and its ideal program. -/
theorem frame_combine_ideal : Cert.quiescent_CombineIdeal := fun m g h =>
  (θ_run Cert.CombineIdeal.defs _ _).mono (fun _ r => ⟨fun c => (r.1 c).2, r.2⟩)
    (Cert.CombineIdeal.Exchange.run_main (F := Ideal) m g (Cert.CombineIdeal.Exchange.ok_of_pre m h))

/-- The exchange of the routes runs, for any routes, -/
theorem frame_routes : Cert.quiescent_Routes := fun m g _ =>
  Cert.Routes.Exchange.θ_run_of _ _ ((θ_run Cert.RoutesIdeal.defs _ _).mono (fun _ r => ⟨fun c => (r.1 c).2, r.2⟩)
    (Cert.RoutesIdeal.Exchange.run_main (F := Bits) m g))

/-- its ideal program, -/
theorem frame_routes_ideal : Cert.quiescent_RoutesIdeal := fun m g _ =>
  (θ_run Cert.RoutesIdeal.defs _ _).mono (fun _ r => ⟨fun c => (r.1 c).2, r.2⟩)
    (Cert.RoutesIdeal.Exchange.run_main (F := Ideal) m g)

/-- and its reference. -/
theorem frame_everyone : Cert.quiescent_EveryoneIdeal := fun m g _ =>
  (θ_run Cert.EveryoneIdeal.defs _ _).mono
    (fun r h => ⟨fun c => (h c).2, sem_eq_zero_of_no_sems (by decide) r.2⟩)
    (Cert.EveryoneIdeal.Value.run (F := Ideal) m g)

/-- The reference runs and keeps its arguments; it has no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- So does the reference of the expert product. -/
theorem frame_product : Cert.quiescent_ProductIdeal := fun m g _ =>
  (θ_run Cert.ProductIdeal.defs _ _).mono
    (fun r h => ⟨fun c => (h c).2, sem_eq_zero_of_no_sems (by decide) r.2⟩)
    (Cert.ProductIdeal.Value.run (F := Ideal) m g)

/-- The row gather's indices name rows, by the precondition, -/
theorem gather_lt (m : (ℓ : Loc Cert.Gather.nD Cert.Gather.τ Cert.Gather.sig) → Buf (Elt Bits) ℓ) (h : Cert.Pre_Gather m) (c : Dev Cert.Gather.nD) (i) :
    (m ((c.tc : Thread Cert.Gather.nD Cert.Gather.τ).loc Cert.Gather.main_arg1) i).toNat < 3072 :=
  Cert.Picked.in_rows_apply (F := Bits) _ _ (h c) i

/-- and its ideal program's. -/
theorem gather_ideal_lt (m : (ℓ : Loc Cert.GatherIdeal.nD Cert.GatherIdeal.τ Cert.GatherIdeal.sig) → Buf (Elt Ideal) ℓ)
    (h : Cert.Pre_GatherIdeal m) (c : Dev Cert.GatherIdeal.nD) (i) :
    (m ((c.tc : Thread Cert.GatherIdeal.nD Cert.GatherIdeal.τ).loc Cert.GatherIdeal.main_arg1) i).toNat < 3072 :=
  Cert.Picked.in_rows_apply (F := Ideal) _ _ (h c) i

/-- The row gather runs, -/
theorem frame_gather : Cert.quiescent_Gather := fun m g h =>
  Cert.Gather.Gen.frame m g (Cert.Picked.hyps m (gather_lt m h))

/-- so does its ideal program, -/
theorem frame_gather_ideal : Cert.quiescent_GatherIdeal := fun m g h =>
  Cert.GatherIdeal.Gen.frame m g (Cert.Picked.hyps_ideal m (gather_ideal_lt m h))

/-- and its reference. -/
theorem frame_picked : Cert.quiescent_PickedIdeal := fun m g _ =>
  (θ_run Cert.PickedIdeal.defs _ _).mono
    (fun r h => ⟨fun c => (h c).2, sem_eq_zero_of_no_sems (by decide) r.2⟩)
    (Cert.PickedIdeal.Value.run (F := Ideal) m g)

/-- The row scatter's positions name rows, by the precondition, so it runs, -/
theorem frame_scatter : Cert.quiescent_Scatter := fun m g h =>
  Cert.Placed.θ_run_of _ _ ((θ_run Cert.ScatterIdeal.defs _ _).mono (fun _ r => ⟨fun c => (r.1 c).2, r.2⟩)
    (Cert.Placed.run (F := Bits) m g fun c i => Cert.Placed.in_packed_apply (F := Bits) _ _ (h c) i))

/-- so does its ideal program, -/
theorem frame_scatter_ideal : Cert.quiescent_ScatterIdeal := fun m g h =>
  (θ_run Cert.ScatterIdeal.defs _ _).mono (fun _ r => ⟨fun c => (r.1 c).2, r.2⟩)
    (Cert.Placed.run (F := Ideal) m g fun c i => Cert.Placed.in_packed_apply (F := Ideal) _ _ (h c) i)

/-- and its reference. -/
theorem frame_placed : Cert.quiescent_PlacedIdeal := fun m g _ =>
  (θ_run Cert.PlacedIdeal.defs _ _).mono
    (fun r h => ⟨fun c => (h c).2, sem_eq_zero_of_no_sems (by decide) r.2⟩)
    (Cert.PlacedIdeal.Value.run (F := Ideal) m g)

/-- Each device's result is its block of the reference's, wherever the mask is set. -/
theorem value : Cert.algebraic_KernelIdeal_ReferenceIdeal_on_landed := by
  intro m g m' g' hpre hag
  have hok := Cert.KernelIdeal.Exchange.ok_of_pre m hpre
  have hD : Cert.KernelIdeal.Exchange.Blocks (Cert.KernelIdeal.Exchange.dataOf m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c d => (congrFun (hag c).1 (ix2 0 d)).trans (Cert.Exchange.block_two c _ d),
      fun c d => (congrFun (hag c).2.1 (ix2 0 d)).trans (Cert.Exchange.block_two c _ d),
      fun c r a b => (congrFun (hag c).2.2 (ix3 r a b)).trans (Cert.Exchange.block_three c _ r a b)⟩
  refine ⟨Cert.ReferenceIdeal.Rows.whole
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2)),
    ?_, ?_⟩
  · exact (θ_run Cert.KernelIdeal.defs _ _).mono
      (fun _ r c => ⟨fun i hi => Cert.KernelIdeal.Exchange.good_block _ _ _ _ hD hok c _ (r.1 c).1 i hi, (r.1 c).2⟩)
      (Cert.KernelIdeal.Exchange.run_main (F := Ideal) m g hok)
  · exact (θ_run Cert.ReferenceIdeal.defs _ _).mono
      (fun _ h => ⟨fun i _ => congrFun (h 0).1 i, (h 0).2⟩)
      (Cert.ReferenceIdeal.Value.run (F := Ideal) m' g')

/-- The same of the exchange back. -/
theorem value_back : Cert.algebraic_CombineIdeal_ReferenceIdeal_on_landed := by
  intro m g m' g' hpre hag
  have hok := Cert.CombineIdeal.Exchange.ok_of_pre m hpre
  have hD : Cert.CombineIdeal.Exchange.Blocks (Cert.CombineIdeal.Exchange.dataOf m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c d => (congrFun (hag c).1 (ix2 0 d)).trans (Cert.Exchange.block_two c _ d),
      fun c d => (congrFun (hag c).2.1 (ix2 0 d)).trans (Cert.Exchange.block_two c _ d),
      fun c r a b => (congrFun (hag c).2.2 (ix3 r a b)).trans (Cert.Exchange.block_three c _ r a b)⟩
  refine ⟨Cert.ReferenceIdeal.Rows.whole
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2)),
    ?_, ?_⟩
  · exact (θ_run Cert.CombineIdeal.defs _ _).mono
      (fun _ r c => ⟨fun i hi => Cert.CombineIdeal.Exchange.good_block _ _ _ _ hD hok c _ (r.1 c).1 i hi, (r.1 c).2⟩)
      (Cert.CombineIdeal.Exchange.run_main (F := Ideal) m g hok)
  · exact (θ_run Cert.ReferenceIdeal.defs _ _).mono
      (fun _ h => ⟨fun i _ => congrFun (h 0).1 i, (h 0).2⟩)
      (Cert.ReferenceIdeal.Value.run (F := Ideal) m' g')

/-- EVERY DEVICE ENDS WITH THE ROUTES OF ALL DEVICES, each device's in its own block. -/
theorem value_routes : Cert.algebraic_RoutesIdeal_EveryoneIdeal := by
  intro m g m' g' _ hagree
  refine ⟨shapeCast _ (m' (((0 : Dev Cert.EveryoneIdeal.nD).tc : Thread Cert.EveryoneIdeal.nD Cert.EveryoneIdeal.τ).loc Cert.EveryoneIdeal.main_arg0))
    Cert.EveryoneIdeal.Gen.shapeCasts_S16x8x128_S8x2x8x128, ?_, ?_⟩
  · refine (θ_run Cert.RoutesIdeal.defs _ _).mono (fun _ r c => ⟨(r.1 c).1.trans ?_, (r.1 c).2⟩)
      (Cert.RoutesIdeal.Exchange.run_main (F := Ideal) m g)
    exact Cert.RoutesIdeal.Exchange.result_whole _ _ (fun d => hagree d) _
  · exact (θ_run Cert.EveryoneIdeal.defs _ _).mono (fun _ h => h 0) (Cert.EveryoneIdeal.Value.run (F := Ideal) m' g')

/-- The expert product is the reference's. -/
theorem value_product : Cert.algebraic_ExpertsIdeal_ProductIdeal := by
  intro m g m' g' _ hag
  refine ⟨fun c => Cert.Product.rows (m ((c.tc : Thread Cert.ExpertsIdeal.nD Cert.ExpertsIdeal.τ).loc Cert.ExpertsIdeal.main_arg0))
    (m ((c.tc : Thread Cert.ExpertsIdeal.nD Cert.ExpertsIdeal.τ).loc Cert.ExpertsIdeal.main_arg1)), ?_, ?_⟩
  · exact (θ_run Cert.ExpertsIdeal.defs _ _).mono
      (fun _ h c => ⟨(h c).1.trans (Cert.Product.final m c), (h c).2⟩)
      (Cert.ExpertsIdeal.Value.run_blocks (F := Ideal) m g)
  · exact (θ_run Cert.ProductIdeal.defs _ _).mono
      (fun _ h c => ⟨(h c).1.trans ((Cert.Product.reference_eq _ _).trans
        (congrArg₂ Cert.Product.rows (hag c).1 (hag c).2)), (h c).2⟩)
      (Cert.ProductIdeal.Value.run (F := Ideal) m' g')

/-- The row gather is the reference's indexing. -/
theorem value_gather : Cert.algebraic_GatherIdeal_PickedIdeal := by
  intro m g m' g' hpre hag
  have hlt := gather_ideal_lt m hpre
  refine ⟨fun c => Cert.Picked.rows (m ((c.tc : Thread Cert.GatherIdeal.nD Cert.GatherIdeal.τ).loc Cert.GatherIdeal.main_arg0))
    (m ((c.tc : Thread Cert.GatherIdeal.nD Cert.GatherIdeal.τ).loc Cert.GatherIdeal.main_arg1)), ?_, ?_⟩
  · exact (θ_run Cert.GatherIdeal.defs _ _).mono
      (fun _ h c => ⟨(h c).1.trans (Cert.Picked.final m (Cert.Picked.hyps_ideal m hlt) hlt c), (h c).2⟩)
      (Cert.GatherIdeal.Value.run_blocks (F := Ideal) m g (Cert.Picked.hyps_ideal m hlt))
  · exact (θ_run Cert.PickedIdeal.defs _ _).mono
      (fun _ h c => ⟨(h c).1.trans ((Cert.Picked.reference_eq _ _ fun i =>
          ((congrArg BitVec.toNat (congrFun (hag c).2 i)).trans_lt (hlt c i))).trans
        (congrArg₂ Cert.Picked.rows (hag c).1 (hag c).2)), (h c).2⟩)
      (Cert.PickedIdeal.Value.run (F := Ideal) m' g')

/-- The row scatter is the reference's, wherever the mask is set. -/
theorem value_scatter : Cert.algebraic_ScatterIdeal_PlacedIdeal_on_written := by
  intro m g m' g' hpre hag
  refine ⟨fun c => Cert.Placed.placed (F := Ideal) (m ((c.tc : Thread Cert.ScatterIdeal.nD Cert.ScatterIdeal.τ).loc Cert.ScatterIdeal.main_arg0))
    (m ((c.tc : Thread Cert.ScatterIdeal.nD Cert.ScatterIdeal.τ).loc Cert.ScatterIdeal.main_arg1)), ?_, ?_⟩
  · exact (θ_run Cert.ScatterIdeal.defs _ _).mono
      (fun _ r c => ⟨fun i hi => Cert.Placed.landed_eq (F := Ideal) _ _ _ (r.1 c).1 i hi, (r.1 c).2⟩)
      (Cert.Placed.run (F := Ideal) m g fun c i => Cert.Placed.in_packed_apply (F := Ideal) _ _ (hpre c) i)
  · exact (θ_run Cert.PlacedIdeal.defs _ _).mono
      (fun _ h c => ⟨fun i _ => congrFun (((h c).1 : _ = Cert.Placed.placed (F := Ideal) _ _).trans
        (congrArg₂ (Cert.Placed.placed (F := Ideal)) (hag c).1 (hag c).2)) i, (h c).2⟩)
      (Cert.PlacedIdeal.Value.run (F := Ideal) m' g')

theorem claim : Cert.Claim :=
  ⟨Cert.Kernel.Gen.facts, Cert.KernelIdeal.Gen.facts, Cert.ReferenceIdeal.Gen.facts, Cert.Combine.Gen.facts, Cert.CombineIdeal.Gen.facts,
    Cert.Routes.Gen.facts, Cert.RoutesIdeal.Gen.facts, Cert.EveryoneIdeal.Gen.facts,
    Cert.Experts.Gen.facts, Cert.ExpertsIdeal.Gen.facts, Cert.ProductIdeal.Gen.facts, Cert.Gather.Gen.facts, Cert.GatherIdeal.Gen.facts,
    Cert.PickedIdeal.Gen.facts, Cert.Scatter.Gen.facts, Cert.ScatterIdeal.Gen.facts, Cert.PlacedIdeal.Gen.facts,
    Cert.Pre_in_pack_Kernel.Gen.facts, Cert.Pre_in_pack_ReferenceIdeal.Gen.facts, Cert.Pre_in_rows.Gen.facts, Cert.Pre_in_packed.Gen.facts,
    Cert.On_landed.Gen.facts, Cert.On_written.Gen.facts,
    frame_kernel, frame_ideal, frame_reference, fun m g _ => frame_reference m g trivial, frame_combine, frame_combine_ideal,
    frame_routes, frame_routes_ideal, frame_everyone,
    fun m g _ => Cert.Experts.Gen.frame m g, fun m g _ => Cert.ExpertsIdeal.Gen.frame m g, frame_product,
    frame_gather, frame_gather_ideal, frame_picked, fun m g _ => frame_picked m g trivial,
    frame_scatter, frame_scatter_ideal, frame_placed, fun m g _ => frame_placed m g trivial,
    trivial, value, trivial, value_back, trivial, value_routes, trivial, value_product, trivial, value_gather,
    trivial, value_scatter⟩

end Cert.Proof

end
